-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))) = (fun _ => 1#1)

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_ffn_fwd_finite [hPre_ffn_fwd_finite : Cert.Pre_ffn_fwd_finite.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_ffn_fwd_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6))) = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_ffn_fwd_finite [hPre_ffn_fwd_finite : Cert.Pre_ffn_fwd_finite.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_ffn_fwd_finite.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6))) = (fun _ => 1#1)

def Pre_DwConvOut (m : (ℓ : Loc Cert.DwConvOut.nD Cert.DwConvOut.τ Cert.DwConvOut.sig) → Buf (Elt Bits) ℓ) : Prop :=
  True

def Pre_DwConvOutIdeal (m : (ℓ : Loc Cert.DwConvOutIdeal.nD Cert.DwConvOutIdeal.τ Cert.DwConvOutIdeal.sig) → Buf (Elt Ideal) ℓ) : Prop :=
  True

def Pre_DwConvOutRefIdeal (m : (ℓ : Loc Cert.DwConvOutRefIdeal.nD Cert.DwConvOutRefIdeal.τ Cert.DwConvOutRefIdeal.sig) → Buf (Elt Ideal) ℓ) : Prop :=
  True

def Pre_DwConvIn (m : (ℓ : Loc Cert.DwConvIn.nD Cert.DwConvIn.τ Cert.DwConvIn.sig) → Buf (Elt Bits) ℓ) : Prop :=
  True

def Pre_DwConvInIdeal (m : (ℓ : Loc Cert.DwConvInIdeal.nD Cert.DwConvInIdeal.τ Cert.DwConvInIdeal.sig) → Buf (Elt Ideal) ℓ) : Prop :=
  True

def Pre_DwConvInRefIdeal (m : (ℓ : Loc Cert.DwConvInRefIdeal.nD Cert.DwConvInRefIdeal.τ Cert.DwConvInRefIdeal.sig) → Buf (Elt Ideal) ℓ) : Prop :=
  True

def Pre_DwAttnO (m : (ℓ : Loc Cert.DwAttnO.nD Cert.DwAttnO.τ Cert.DwAttnO.sig) → Buf (Elt Bits) ℓ) : Prop :=
  True

def Pre_DwAttnOIdeal (m : (ℓ : Loc Cert.DwAttnOIdeal.nD Cert.DwAttnOIdeal.τ Cert.DwAttnOIdeal.sig) → Buf (Elt Ideal) ℓ) : Prop :=
  True

def Pre_DwAttnORefIdeal (m : (ℓ : Loc Cert.DwAttnORefIdeal.nD Cert.DwAttnORefIdeal.τ Cert.DwAttnORefIdeal.sig) → Buf (Elt Ideal) ℓ) : Prop :=
  True

def Pre_DwAttnQ (m : (ℓ : Loc Cert.DwAttnQ.nD Cert.DwAttnQ.τ Cert.DwAttnQ.sig) → Buf (Elt Bits) ℓ) : Prop :=
  True

def Pre_DwAttnQIdeal (m : (ℓ : Loc Cert.DwAttnQIdeal.nD Cert.DwAttnQIdeal.τ Cert.DwAttnQIdeal.sig) → Buf (Elt Ideal) ℓ) : Prop :=
  True

def Pre_DwAttnQRefIdeal (m : (ℓ : Loc Cert.DwAttnQRefIdeal.nD Cert.DwAttnQRefIdeal.τ Cert.DwAttnQRefIdeal.sig) → Buf (Elt Ideal) ℓ) : Prop :=
  True

def Pre_DwKv (m : (ℓ : Loc Cert.DwKv.nD Cert.DwKv.τ Cert.DwKv.sig) → Buf (Elt Bits) ℓ) : Prop :=
  True

def Pre_DwKvIdeal (m : (ℓ : Loc Cert.DwKvIdeal.nD Cert.DwKvIdeal.τ Cert.DwKvIdeal.sig) → Buf (Elt Ideal) ℓ) : Prop :=
  True

def Pre_DwKvRefIdeal (m : (ℓ : Loc Cert.DwKvRefIdeal.nD Cert.DwKvRefIdeal.τ Cert.DwKvRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_AdamNormG (m : (ℓ : Loc Cert.AdamNormG.nD Cert.AdamNormG.τ Cert.AdamNormG.sig) → Buf (Elt Bits) ℓ) : Prop :=
  True

def Pre_AdamNormGIdeal (m : (ℓ : Loc Cert.AdamNormGIdeal.nD Cert.AdamNormGIdeal.τ Cert.AdamNormGIdeal.sig) → Buf (Elt Ideal) ℓ) : Prop :=
  True

def Pre_AdamNormGRefIdeal (m : (ℓ : Loc Cert.AdamNormGRefIdeal.nD Cert.AdamNormGRefIdeal.τ Cert.AdamNormGRefIdeal.sig) → Buf (Elt Ideal) ℓ) : Prop :=
  True

def Pre_AdamConvW (m : (ℓ : Loc Cert.AdamConvW.nD Cert.AdamConvW.τ Cert.AdamConvW.sig) → Buf (Elt Bits) ℓ) : Prop :=
  True

def Pre_AdamConvWIdeal (m : (ℓ : Loc Cert.AdamConvWIdeal.nD Cert.AdamConvWIdeal.τ Cert.AdamConvWIdeal.sig) → Buf (Elt Ideal) ℓ) : Prop :=
  True

def Pre_AdamConvWRefIdeal (m : (ℓ : Loc Cert.AdamConvWRefIdeal.nD Cert.AdamConvWRefIdeal.τ Cert.AdamConvWRefIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainRefIdeal (m : (ℓ : Loc Cert.AdamGainRefIdeal.nD Cert.AdamGainRefIdeal.τ Cert.AdamGainRefIdeal.sig) → Buf (Elt Ideal) ℓ) : Prop :=
  True

def Pre_AdamAdaB (m : (ℓ : Loc Cert.AdamAdaB.nD Cert.AdamAdaB.τ Cert.AdamAdaB.sig) → Buf (Elt Bits) ℓ) : Prop :=
  True

def Pre_AdamAdaBIdeal (m : (ℓ : Loc Cert.AdamAdaBIdeal.nD Cert.AdamAdaBIdeal.τ Cert.AdamAdaBIdeal.sig) → Buf (Elt Ideal) ℓ) : Prop :=
  True

def Pre_AdamAdaBRefIdeal (m : (ℓ : Loc Cert.AdamAdaBRefIdeal.nD Cert.AdamAdaBRefIdeal.τ Cert.AdamAdaBRefIdeal.sig) → Buf (Elt Ideal) ℓ) : Prop :=
  True

def Pre_AdamKvAdaB (m : (ℓ : Loc Cert.AdamKvAdaB.nD Cert.AdamKvAdaB.τ Cert.AdamKvAdaB.sig) → Buf (Elt Bits) ℓ) : Prop :=
  True

def Pre_AdamKvAdaBIdeal (m : (ℓ : Loc Cert.AdamKvAdaBIdeal.nD Cert.AdamKvAdaBIdeal.τ Cert.AdamKvAdaBIdeal.sig) → Buf (Elt Ideal) ℓ) : Prop :=
  True

def Pre_AdamKvAdaBRefIdeal (m : (ℓ : Loc Cert.AdamKvAdaBRefIdeal.nD Cert.AdamKvAdaBRefIdeal.τ Cert.AdamKvAdaBRefIdeal.sig) → Buf (Elt Ideal) ℓ) : Prop :=
  True

def Pre_AdamAdaW (m : (ℓ : Loc Cert.AdamAdaW.nD Cert.AdamAdaW.τ Cert.AdamAdaW.sig) → Buf (Elt Bits) ℓ) : Prop :=
  True

def Pre_AdamAdaWIdeal (m : (ℓ : Loc Cert.AdamAdaWIdeal.nD Cert.AdamAdaWIdeal.τ Cert.AdamAdaWIdeal.sig) → Buf (Elt Ideal) ℓ) : Prop :=
  True

def Pre_AdamAdaWRefIdeal (m : (ℓ : Loc Cert.AdamAdaWRefIdeal.nD Cert.AdamAdaWRefIdeal.τ Cert.AdamAdaWRefIdeal.sig) → Buf (Elt Ideal) ℓ) : Prop :=
  True

def Pre_AdamKvAdaW (m : (ℓ : Loc Cert.AdamKvAdaW.nD Cert.AdamKvAdaW.τ Cert.AdamKvAdaW.sig) → Buf (Elt Bits) ℓ) : Prop :=
  True

def Pre_AdamKvAdaWIdeal (m : (ℓ : Loc Cert.AdamKvAdaWIdeal.nD Cert.AdamKvAdaWIdeal.τ Cert.AdamKvAdaWIdeal.sig) → Buf (Elt Ideal) ℓ) : Prop :=
  True

def Pre_AdamKvAdaWRefIdeal (m : (ℓ : Loc Cert.AdamKvAdaWRefIdeal.nD Cert.AdamKvAdaWRefIdeal.τ Cert.AdamKvAdaWRefIdeal.sig) → Buf (Elt Ideal) ℓ) : Prop :=
  True

def Pre_AdamWKv (m : (ℓ : Loc Cert.AdamWKv.nD Cert.AdamWKv.τ Cert.AdamWKv.sig) → Buf (Elt Bits) ℓ) : Prop :=
  True

def Pre_AdamWKvIdeal (m : (ℓ : Loc Cert.AdamWKvIdeal.nD Cert.AdamWKvIdeal.τ Cert.AdamWKvIdeal.sig) → Buf (Elt Ideal) ℓ) : Prop :=
  True

def Pre_AdamWKvRefIdeal (m : (ℓ : Loc Cert.AdamWKvRefIdeal.nD Cert.AdamWKvRefIdeal.τ Cert.AdamWKvRefIdeal.sig) → Buf (Elt Ideal) ℓ) : Prop :=
  True

def Pre_ModsDw (m : (ℓ : Loc Cert.ModsDw.nD Cert.ModsDw.τ Cert.ModsDw.sig) → Buf (Elt Bits) ℓ) : Prop :=
  True

def Pre_ModsDwIdeal (m : (ℓ : Loc Cert.ModsDwIdeal.nD Cert.ModsDwIdeal.τ Cert.ModsDwIdeal.sig) → Buf (Elt Ideal) ℓ) : Prop :=
  True

def Pre_ModsDwRefIdeal (m : (ℓ : Loc Cert.ModsDwRefIdeal.nD Cert.ModsDwRefIdeal.τ Cert.ModsDwRefIdeal.sig) → Buf (Elt Ideal) ℓ) : Prop :=
  True

def Pre_KvModsDw (m : (ℓ : Loc Cert.KvModsDw.nD Cert.KvModsDw.τ Cert.KvModsDw.sig) → Buf (Elt Bits) ℓ) : Prop :=
  True

def Pre_KvModsDwIdeal (m : (ℓ : Loc Cert.KvModsDwIdeal.nD Cert.KvModsDwIdeal.τ Cert.KvModsDwIdeal.sig) → Buf (Elt Ideal) ℓ) : Prop :=
  True

def Pre_KvModsDwRefIdeal (m : (ℓ : Loc Cert.KvModsDwRefIdeal.nD Cert.KvModsDwRefIdeal.τ Cert.KvModsDwRefIdeal.sig) → Buf (Elt Ideal) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsRefIdeal (m : (ℓ : Loc Cert.ModsRefIdeal.nD Cert.ModsRefIdeal.τ Cert.ModsRefIdeal.sig) → Buf (Elt Ideal) ℓ) : Prop :=
  True

def Pre_KvMods (m : (ℓ : Loc Cert.KvMods.nD Cert.KvMods.τ Cert.KvMods.sig) → Buf (Elt Bits) ℓ) : Prop :=
  True

def Pre_KvModsIdeal (m : (ℓ : Loc Cert.KvModsIdeal.nD Cert.KvModsIdeal.τ Cert.KvModsIdeal.sig) → Buf (Elt Ideal) ℓ) : Prop :=
  True

def Pre_KvModsRefIdeal (m : (ℓ : Loc Cert.KvModsRefIdeal.nD Cert.KvModsRefIdeal.τ Cert.KvModsRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5)
      ∧ r.2.mem ((c.tc : Thread Cert.ConvBwd.nD Cert.ConvBwd.τ).loc Cert.ConvBwd.main_arg6) = m ((c.tc : Thread Cert.ConvBwd.nD Cert.ConvBwd.τ).loc Cert.ConvBwd.main_arg6)
      ∧ r.2.mem ((c.tc : Thread Cert.ConvBwd.nD Cert.ConvBwd.τ).loc Cert.ConvBwd.main_arg7) = m ((c.tc : Thread Cert.ConvBwd.nD Cert.ConvBwd.τ).loc Cert.ConvBwd.main_arg7)
      ∧ r.2.mem ((c.tc : Thread Cert.ConvBwd.nD Cert.ConvBwd.τ).loc Cert.ConvBwd.main_arg8) = m ((c.tc : Thread Cert.ConvBwd.nD Cert.ConvBwd.τ).loc Cert.ConvBwd.main_arg8))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5)
      ∧ r.2.mem ((c.tc : Thread Cert.ConvBwdIdeal.nD Cert.ConvBwdIdeal.τ).loc Cert.ConvBwdIdeal.main_arg6) = m ((c.tc : Thread Cert.ConvBwdIdeal.nD Cert.ConvBwdIdeal.τ).loc Cert.ConvBwdIdeal.main_arg6)
      ∧ r.2.mem ((c.tc : Thread Cert.ConvBwdIdeal.nD Cert.ConvBwdIdeal.τ).loc Cert.ConvBwdIdeal.main_arg7) = m ((c.tc : Thread Cert.ConvBwdIdeal.nD Cert.ConvBwdIdeal.τ).loc Cert.ConvBwdIdeal.main_arg7)
      ∧ r.2.mem ((c.tc : Thread Cert.ConvBwdIdeal.nD Cert.ConvBwdIdeal.τ).loc Cert.ConvBwdIdeal.main_arg8) = m ((c.tc : Thread Cert.ConvBwdIdeal.nD Cert.ConvBwdIdeal.τ).loc Cert.ConvBwdIdeal.main_arg8))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdIdeal_pre_ffn_fwd_finite [hFfnFwdIdeal : Cert.FfnFwdIdeal.Facts] [hPre_ffn_fwd_finite : Cert.Pre_ffn_fwd_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_ffn_fwd_finite m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_FfnFwdRefIdeal_pre_ffn_fwd_finite [hFfnFwdRefIdeal : Cert.FfnFwdRefIdeal.Facts] [hPre_ffn_fwd_finite : Cert.Pre_ffn_fwd_finite.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_ffn_fwd_finite m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_DwConvOut [hDwConvOut : Cert.DwConvOut.Facts] : Prop :=
  ∀ (m : (ℓ : Loc Cert.DwConvOut.nD Cert.DwConvOut.τ Cert.DwConvOut.sig) → Buf (Elt Bits) ℓ) (g : Dev Cert.DwConvOut.nD → PrngReg), Pre_DwConvOut m →
    θ_run (Cert.DwConvOut.defs (F := Bits)) (onTc (τ := Cert.DwConvOut.τ) (Cert.DwConvOut.main (F := Bits))) ⟨m, fun _ => 0, g⟩ (fun r => (∀ c : Dev Cert.DwConvOut.nD,
      r.2.mem ((c.tc : Thread Cert.DwConvOut.nD Cert.DwConvOut.τ).loc Cert.DwConvOut.main_arg0) = m ((c.tc : Thread Cert.DwConvOut.nD Cert.DwConvOut.τ).loc Cert.DwConvOut.main_arg0)
      ∧ r.2.mem ((c.tc : Thread Cert.DwConvOut.nD Cert.DwConvOut.τ).loc Cert.DwConvOut.main_arg1) = m ((c.tc : Thread Cert.DwConvOut.nD Cert.DwConvOut.τ).loc Cert.DwConvOut.main_arg1))
      ∧ r.2.sem = fun _ => 0)

def quiescent_DwConvOutIdeal [hDwConvOutIdeal : Cert.DwConvOutIdeal.Facts] : Prop :=
  ∀ (m : (ℓ : Loc Cert.DwConvOutIdeal.nD Cert.DwConvOutIdeal.τ Cert.DwConvOutIdeal.sig) → Buf (Elt Ideal) ℓ) (g : Dev Cert.DwConvOutIdeal.nD → PrngReg), Pre_DwConvOutIdeal m →
    θ_run (Cert.DwConvOutIdeal.defs (F := Ideal)) (onTc (τ := Cert.DwConvOutIdeal.τ) (Cert.DwConvOutIdeal.main (F := Ideal))) ⟨m, fun _ => 0, g⟩ (fun r => (∀ c : Dev Cert.DwConvOutIdeal.nD,
      r.2.mem ((c.tc : Thread Cert.DwConvOutIdeal.nD Cert.DwConvOutIdeal.τ).loc Cert.DwConvOutIdeal.main_arg0) = m ((c.tc : Thread Cert.DwConvOutIdeal.nD Cert.DwConvOutIdeal.τ).loc Cert.DwConvOutIdeal.main_arg0)
      ∧ r.2.mem ((c.tc : Thread Cert.DwConvOutIdeal.nD Cert.DwConvOutIdeal.τ).loc Cert.DwConvOutIdeal.main_arg1) = m ((c.tc : Thread Cert.DwConvOutIdeal.nD Cert.DwConvOutIdeal.τ).loc Cert.DwConvOutIdeal.main_arg1))
      ∧ r.2.sem = fun _ => 0)

def quiescent_DwConvOutRefIdeal [hDwConvOutRefIdeal : Cert.DwConvOutRefIdeal.Facts] : Prop :=
  ∀ (m : (ℓ : Loc Cert.DwConvOutRefIdeal.nD Cert.DwConvOutRefIdeal.τ Cert.DwConvOutRefIdeal.sig) → Buf (Elt Ideal) ℓ) (g : Dev Cert.DwConvOutRefIdeal.nD → PrngReg), Pre_DwConvOutRefIdeal m →
    θ_run (Cert.DwConvOutRefIdeal.defs (F := Ideal)) (onTc (τ := Cert.DwConvOutRefIdeal.τ) (Cert.DwConvOutRefIdeal.main (F := Ideal))) ⟨m, fun _ => 0, g⟩ (fun r => (∀ c : Dev Cert.DwConvOutRefIdeal.nD,
      r.2.mem ((c.tc : Thread Cert.DwConvOutRefIdeal.nD Cert.DwConvOutRefIdeal.τ).loc Cert.DwConvOutRefIdeal.main_arg0) = m ((c.tc : Thread Cert.DwConvOutRefIdeal.nD Cert.DwConvOutRefIdeal.τ).loc Cert.DwConvOutRefIdeal.main_arg0)
      ∧ r.2.mem ((c.tc : Thread Cert.DwConvOutRefIdeal.nD Cert.DwConvOutRefIdeal.τ).loc Cert.DwConvOutRefIdeal.main_arg1) = m ((c.tc : Thread Cert.DwConvOutRefIdeal.nD Cert.DwConvOutRefIdeal.τ).loc Cert.DwConvOutRefIdeal.main_arg1))
      ∧ r.2.sem = fun _ => 0)

def quiescent_DwConvIn [hDwConvIn : Cert.DwConvIn.Facts] : Prop :=
  ∀ (m : (ℓ : Loc Cert.DwConvIn.nD Cert.DwConvIn.τ Cert.DwConvIn.sig) → Buf (Elt Bits) ℓ) (g : Dev Cert.DwConvIn.nD → PrngReg), Pre_DwConvIn m →
    θ_run (Cert.DwConvIn.defs (F := Bits)) (onTc (τ := Cert.DwConvIn.τ) (Cert.DwConvIn.main (F := Bits))) ⟨m, fun _ => 0, g⟩ (fun r => (∀ c : Dev Cert.DwConvIn.nD,
      r.2.mem ((c.tc : Thread Cert.DwConvIn.nD Cert.DwConvIn.τ).loc Cert.DwConvIn.main_arg0) = m ((c.tc : Thread Cert.DwConvIn.nD Cert.DwConvIn.τ).loc Cert.DwConvIn.main_arg0)
      ∧ r.2.mem ((c.tc : Thread Cert.DwConvIn.nD Cert.DwConvIn.τ).loc Cert.DwConvIn.main_arg1) = m ((c.tc : Thread Cert.DwConvIn.nD Cert.DwConvIn.τ).loc Cert.DwConvIn.main_arg1))
      ∧ r.2.sem = fun _ => 0)

def quiescent_DwConvInIdeal [hDwConvInIdeal : Cert.DwConvInIdeal.Facts] : Prop :=
  ∀ (m : (ℓ : Loc Cert.DwConvInIdeal.nD Cert.DwConvInIdeal.τ Cert.DwConvInIdeal.sig) → Buf (Elt Ideal) ℓ) (g : Dev Cert.DwConvInIdeal.nD → PrngReg), Pre_DwConvInIdeal m →
    θ_run (Cert.DwConvInIdeal.defs (F := Ideal)) (onTc (τ := Cert.DwConvInIdeal.τ) (Cert.DwConvInIdeal.main (F := Ideal))) ⟨m, fun _ => 0, g⟩ (fun r => (∀ c : Dev Cert.DwConvInIdeal.nD,
      r.2.mem ((c.tc : Thread Cert.DwConvInIdeal.nD Cert.DwConvInIdeal.τ).loc Cert.DwConvInIdeal.main_arg0) = m ((c.tc : Thread Cert.DwConvInIdeal.nD Cert.DwConvInIdeal.τ).loc Cert.DwConvInIdeal.main_arg0)
      ∧ r.2.mem ((c.tc : Thread Cert.DwConvInIdeal.nD Cert.DwConvInIdeal.τ).loc Cert.DwConvInIdeal.main_arg1) = m ((c.tc : Thread Cert.DwConvInIdeal.nD Cert.DwConvInIdeal.τ).loc Cert.DwConvInIdeal.main_arg1))
      ∧ r.2.sem = fun _ => 0)

def quiescent_DwConvInRefIdeal [hDwConvInRefIdeal : Cert.DwConvInRefIdeal.Facts] : Prop :=
  ∀ (m : (ℓ : Loc Cert.DwConvInRefIdeal.nD Cert.DwConvInRefIdeal.τ Cert.DwConvInRefIdeal.sig) → Buf (Elt Ideal) ℓ) (g : Dev Cert.DwConvInRefIdeal.nD → PrngReg), Pre_DwConvInRefIdeal m →
    θ_run (Cert.DwConvInRefIdeal.defs (F := Ideal)) (onTc (τ := Cert.DwConvInRefIdeal.τ) (Cert.DwConvInRefIdeal.main (F := Ideal))) ⟨m, fun _ => 0, g⟩ (fun r => (∀ c : Dev Cert.DwConvInRefIdeal.nD,
      r.2.mem ((c.tc : Thread Cert.DwConvInRefIdeal.nD Cert.DwConvInRefIdeal.τ).loc Cert.DwConvInRefIdeal.main_arg0) = m ((c.tc : Thread Cert.DwConvInRefIdeal.nD Cert.DwConvInRefIdeal.τ).loc Cert.DwConvInRefIdeal.main_arg0)
      ∧ r.2.mem ((c.tc : Thread Cert.DwConvInRefIdeal.nD Cert.DwConvInRefIdeal.τ).loc Cert.DwConvInRefIdeal.main_arg1) = m ((c.tc : Thread Cert.DwConvInRefIdeal.nD Cert.DwConvInRefIdeal.τ).loc Cert.DwConvInRefIdeal.main_arg1))
      ∧ r.2.sem = fun _ => 0)

def quiescent_DwAttnO [hDwAttnO : Cert.DwAttnO.Facts] : Prop :=
  ∀ (m : (ℓ : Loc Cert.DwAttnO.nD Cert.DwAttnO.τ Cert.DwAttnO.sig) → Buf (Elt Bits) ℓ) (g : Dev Cert.DwAttnO.nD → PrngReg), Pre_DwAttnO m →
    θ_run (Cert.DwAttnO.defs (F := Bits)) (onTc (τ := Cert.DwAttnO.τ) (Cert.DwAttnO.main (F := Bits))) ⟨m, fun _ => 0, g⟩ (fun r => (∀ c : Dev Cert.DwAttnO.nD,
      r.2.mem ((c.tc : Thread Cert.DwAttnO.nD Cert.DwAttnO.τ).loc Cert.DwAttnO.main_arg0) = m ((c.tc : Thread Cert.DwAttnO.nD Cert.DwAttnO.τ).loc Cert.DwAttnO.main_arg0)
      ∧ r.2.mem ((c.tc : Thread Cert.DwAttnO.nD Cert.DwAttnO.τ).loc Cert.DwAttnO.main_arg1) = m ((c.tc : Thread Cert.DwAttnO.nD Cert.DwAttnO.τ).loc Cert.DwAttnO.main_arg1))
      ∧ r.2.sem = fun _ => 0)

def quiescent_DwAttnOIdeal [hDwAttnOIdeal : Cert.DwAttnOIdeal.Facts] : Prop :=
  ∀ (m : (ℓ : Loc Cert.DwAttnOIdeal.nD Cert.DwAttnOIdeal.τ Cert.DwAttnOIdeal.sig) → Buf (Elt Ideal) ℓ) (g : Dev Cert.DwAttnOIdeal.nD → PrngReg), Pre_DwAttnOIdeal m →
    θ_run (Cert.DwAttnOIdeal.defs (F := Ideal)) (onTc (τ := Cert.DwAttnOIdeal.τ) (Cert.DwAttnOIdeal.main (F := Ideal))) ⟨m, fun _ => 0, g⟩ (fun r => (∀ c : Dev Cert.DwAttnOIdeal.nD,
      r.2.mem ((c.tc : Thread Cert.DwAttnOIdeal.nD Cert.DwAttnOIdeal.τ).loc Cert.DwAttnOIdeal.main_arg0) = m ((c.tc : Thread Cert.DwAttnOIdeal.nD Cert.DwAttnOIdeal.τ).loc Cert.DwAttnOIdeal.main_arg0)
      ∧ r.2.mem ((c.tc : Thread Cert.DwAttnOIdeal.nD Cert.DwAttnOIdeal.τ).loc Cert.DwAttnOIdeal.main_arg1) = m ((c.tc : Thread Cert.DwAttnOIdeal.nD Cert.DwAttnOIdeal.τ).loc Cert.DwAttnOIdeal.main_arg1))
      ∧ r.2.sem = fun _ => 0)

def quiescent_DwAttnORefIdeal [hDwAttnORefIdeal : Cert.DwAttnORefIdeal.Facts] : Prop :=
  ∀ (m : (ℓ : Loc Cert.DwAttnORefIdeal.nD Cert.DwAttnORefIdeal.τ Cert.DwAttnORefIdeal.sig) → Buf (Elt Ideal) ℓ) (g : Dev Cert.DwAttnORefIdeal.nD → PrngReg), Pre_DwAttnORefIdeal m →
    θ_run (Cert.DwAttnORefIdeal.defs (F := Ideal)) (onTc (τ := Cert.DwAttnORefIdeal.τ) (Cert.DwAttnORefIdeal.main (F := Ideal))) ⟨m, fun _ => 0, g⟩ (fun r => (∀ c : Dev Cert.DwAttnORefIdeal.nD,
      r.2.mem ((c.tc : Thread Cert.DwAttnORefIdeal.nD Cert.DwAttnORefIdeal.τ).loc Cert.DwAttnORefIdeal.main_arg0) = m ((c.tc : Thread Cert.DwAttnORefIdeal.nD Cert.DwAttnORefIdeal.τ).loc Cert.DwAttnORefIdeal.main_arg0)
      ∧ r.2.mem ((c.tc : Thread Cert.DwAttnORefIdeal.nD Cert.DwAttnORefIdeal.τ).loc Cert.DwAttnORefIdeal.main_arg1) = m ((c.tc : Thread Cert.DwAttnORefIdeal.nD Cert.DwAttnORefIdeal.τ).loc Cert.DwAttnORefIdeal.main_arg1))
      ∧ r.2.sem = fun _ => 0)

def quiescent_DwAttnQ [hDwAttnQ : Cert.DwAttnQ.Facts] : Prop :=
  ∀ (m : (ℓ : Loc Cert.DwAttnQ.nD Cert.DwAttnQ.τ Cert.DwAttnQ.sig) → Buf (Elt Bits) ℓ) (g : Dev Cert.DwAttnQ.nD → PrngReg), Pre_DwAttnQ m →
    θ_run (Cert.DwAttnQ.defs (F := Bits)) (onTc (τ := Cert.DwAttnQ.τ) (Cert.DwAttnQ.main (F := Bits))) ⟨m, fun _ => 0, g⟩ (fun r => (∀ c : Dev Cert.DwAttnQ.nD,
      r.2.mem ((c.tc : Thread Cert.DwAttnQ.nD Cert.DwAttnQ.τ).loc Cert.DwAttnQ.main_arg0) = m ((c.tc : Thread Cert.DwAttnQ.nD Cert.DwAttnQ.τ).loc Cert.DwAttnQ.main_arg0)
      ∧ r.2.mem ((c.tc : Thread Cert.DwAttnQ.nD Cert.DwAttnQ.τ).loc Cert.DwAttnQ.main_arg1) = m ((c.tc : Thread Cert.DwAttnQ.nD Cert.DwAttnQ.τ).loc Cert.DwAttnQ.main_arg1))
      ∧ r.2.sem = fun _ => 0)

def quiescent_DwAttnQIdeal [hDwAttnQIdeal : Cert.DwAttnQIdeal.Facts] : Prop :=
  ∀ (m : (ℓ : Loc Cert.DwAttnQIdeal.nD Cert.DwAttnQIdeal.τ Cert.DwAttnQIdeal.sig) → Buf (Elt Ideal) ℓ) (g : Dev Cert.DwAttnQIdeal.nD → PrngReg), Pre_DwAttnQIdeal m →
    θ_run (Cert.DwAttnQIdeal.defs (F := Ideal)) (onTc (τ := Cert.DwAttnQIdeal.τ) (Cert.DwAttnQIdeal.main (F := Ideal))) ⟨m, fun _ => 0, g⟩ (fun r => (∀ c : Dev Cert.DwAttnQIdeal.nD,
      r.2.mem ((c.tc : Thread Cert.DwAttnQIdeal.nD Cert.DwAttnQIdeal.τ).loc Cert.DwAttnQIdeal.main_arg0) = m ((c.tc : Thread Cert.DwAttnQIdeal.nD Cert.DwAttnQIdeal.τ).loc Cert.DwAttnQIdeal.main_arg0)
      ∧ r.2.mem ((c.tc : Thread Cert.DwAttnQIdeal.nD Cert.DwAttnQIdeal.τ).loc Cert.DwAttnQIdeal.main_arg1) = m ((c.tc : Thread Cert.DwAttnQIdeal.nD Cert.DwAttnQIdeal.τ).loc Cert.DwAttnQIdeal.main_arg1))
      ∧ r.2.sem = fun _ => 0)

def quiescent_DwAttnQRefIdeal [hDwAttnQRefIdeal : Cert.DwAttnQRefIdeal.Facts] : Prop :=
  ∀ (m : (ℓ : Loc Cert.DwAttnQRefIdeal.nD Cert.DwAttnQRefIdeal.τ Cert.DwAttnQRefIdeal.sig) → Buf (Elt Ideal) ℓ) (g : Dev Cert.DwAttnQRefIdeal.nD → PrngReg), Pre_DwAttnQRefIdeal m →
    θ_run (Cert.DwAttnQRefIdeal.defs (F := Ideal)) (onTc (τ := Cert.DwAttnQRefIdeal.τ) (Cert.DwAttnQRefIdeal.main (F := Ideal))) ⟨m, fun _ => 0, g⟩ (fun r => (∀ c : Dev Cert.DwAttnQRefIdeal.nD,
      r.2.mem ((c.tc : Thread Cert.DwAttnQRefIdeal.nD Cert.DwAttnQRefIdeal.τ).loc Cert.DwAttnQRefIdeal.main_arg0) = m ((c.tc : Thread Cert.DwAttnQRefIdeal.nD Cert.DwAttnQRefIdeal.τ).loc Cert.DwAttnQRefIdeal.main_arg0)
      ∧ r.2.mem ((c.tc : Thread Cert.DwAttnQRefIdeal.nD Cert.DwAttnQRefIdeal.τ).loc Cert.DwAttnQRefIdeal.main_arg1) = m ((c.tc : Thread Cert.DwAttnQRefIdeal.nD Cert.DwAttnQRefIdeal.τ).loc Cert.DwAttnQRefIdeal.main_arg1))
      ∧ r.2.sem = fun _ => 0)

def quiescent_DwKv [hDwKv : Cert.DwKv.Facts] : Prop :=
  ∀ (m : (ℓ : Loc Cert.DwKv.nD Cert.DwKv.τ Cert.DwKv.sig) → Buf (Elt Bits) ℓ) (g : Dev Cert.DwKv.nD → PrngReg), Pre_DwKv m →
    θ_run (Cert.DwKv.defs (F := Bits)) (onTc (τ := Cert.DwKv.τ) (Cert.DwKv.main (F := Bits))) ⟨m, fun _ => 0, g⟩ (fun r => (∀ c : Dev Cert.DwKv.nD,
      r.2.mem ((c.tc : Thread Cert.DwKv.nD Cert.DwKv.τ).loc Cert.DwKv.main_arg0) = m ((c.tc : Thread Cert.DwKv.nD Cert.DwKv.τ).loc Cert.DwKv.main_arg0)
      ∧ r.2.mem ((c.tc : Thread Cert.DwKv.nD Cert.DwKv.τ).loc Cert.DwKv.main_arg1) = m ((c.tc : Thread Cert.DwKv.nD Cert.DwKv.τ).loc Cert.DwKv.main_arg1))
      ∧ r.2.sem = fun _ => 0)

def quiescent_DwKvIdeal [hDwKvIdeal : Cert.DwKvIdeal.Facts] : Prop :=
  ∀ (m : (ℓ : Loc Cert.DwKvIdeal.nD Cert.DwKvIdeal.τ Cert.DwKvIdeal.sig) → Buf (Elt Ideal) ℓ) (g : Dev Cert.DwKvIdeal.nD → PrngReg), Pre_DwKvIdeal m →
    θ_run (Cert.DwKvIdeal.defs (F := Ideal)) (onTc (τ := Cert.DwKvIdeal.τ) (Cert.DwKvIdeal.main (F := Ideal))) ⟨m, fun _ => 0, g⟩ (fun r => (∀ c : Dev Cert.DwKvIdeal.nD,
      r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
      ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ r.2.sem = fun _ => 0)

def quiescent_DwKvRefIdeal [hDwKvRefIdeal : Cert.DwKvRefIdeal.Facts] : Prop :=
  ∀ (m : (ℓ : Loc Cert.DwKvRefIdeal.nD Cert.DwKvRefIdeal.τ Cert.DwKvRefIdeal.sig) → Buf (Elt Ideal) ℓ) (g : Dev Cert.DwKvRefIdeal.nD → PrngReg), Pre_DwKvRefIdeal m →
    θ_run (Cert.DwKvRefIdeal.defs (F := Ideal)) (onTc (τ := Cert.DwKvRefIdeal.τ) (Cert.DwKvRefIdeal.main (F := Ideal))) ⟨m, fun _ => 0, g⟩ (fun r => (∀ c : Dev Cert.DwKvRefIdeal.nD,
      r.2.mem ((c.tc : Thread Cert.DwKvRefIdeal.nD Cert.DwKvRefIdeal.τ).loc Cert.DwKvRefIdeal.main_arg0) = m ((c.tc : Thread Cert.DwKvRefIdeal.nD Cert.DwKvRefIdeal.τ).loc Cert.DwKvRefIdeal.main_arg0)
      ∧ r.2.mem ((c.tc : Thread Cert.DwKvRefIdeal.nD Cert.DwKvRefIdeal.τ).loc Cert.DwKvRefIdeal.main_arg1) = m ((c.tc : Thread Cert.DwKvRefIdeal.nD Cert.DwKvRefIdeal.τ).loc Cert.DwKvRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4)
      ∧ r.2.mem ((c.tc : Thread Cert.ConvFwd.nD Cert.ConvFwd.τ).loc Cert.ConvFwd.main_arg5) = m ((c.tc : Thread Cert.ConvFwd.nD Cert.ConvFwd.τ).loc Cert.ConvFwd.main_arg5)
      ∧ r.2.mem ((c.tc : Thread Cert.ConvFwd.nD Cert.ConvFwd.τ).loc Cert.ConvFwd.main_arg6) = m ((c.tc : Thread Cert.ConvFwd.nD Cert.ConvFwd.τ).loc Cert.ConvFwd.main_arg6)
      ∧ r.2.mem ((c.tc : Thread Cert.ConvFwd.nD Cert.ConvFwd.τ).loc Cert.ConvFwd.main_arg7) = m ((c.tc : Thread Cert.ConvFwd.nD Cert.ConvFwd.τ).loc Cert.ConvFwd.main_arg7))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
      ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5)
      ∧ r.2.mem ((c.tc : Thread Cert.ConvFwdIdeal.nD Cert.ConvFwdIdeal.τ).loc Cert.ConvFwdIdeal.main_arg6) = m ((c.tc : Thread Cert.ConvFwdIdeal.nD Cert.ConvFwdIdeal.τ).loc Cert.ConvFwdIdeal.main_arg6)
      ∧ r.2.mem ((c.tc : Thread Cert.ConvFwdIdeal.nD Cert.ConvFwdIdeal.τ).loc Cert.ConvFwdIdeal.main_arg7) = m ((c.tc : Thread Cert.ConvFwdIdeal.nD Cert.ConvFwdIdeal.τ).loc Cert.ConvFwdIdeal.main_arg7))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4)
      ∧ r.2.mem ((c.tc : Thread Cert.ConvFwdRefIdeal.nD Cert.ConvFwdRefIdeal.τ).loc Cert.ConvFwdRefIdeal.main_arg5) = m ((c.tc : Thread Cert.ConvFwdRefIdeal.nD Cert.ConvFwdRefIdeal.τ).loc Cert.ConvFwdRefIdeal.main_arg5)
      ∧ r.2.mem ((c.tc : Thread Cert.ConvFwdRefIdeal.nD Cert.ConvFwdRefIdeal.τ).loc Cert.ConvFwdRefIdeal.main_arg6) = m ((c.tc : Thread Cert.ConvFwdRefIdeal.nD Cert.ConvFwdRefIdeal.τ).loc Cert.ConvFwdRefIdeal.main_arg6)
      ∧ r.2.mem ((c.tc : Thread Cert.ConvFwdRefIdeal.nD Cert.ConvFwdRefIdeal.τ).loc Cert.ConvFwdRefIdeal.main_arg7) = m ((c.tc : Thread Cert.ConvFwdRefIdeal.nD Cert.ConvFwdRefIdeal.τ).loc Cert.ConvFwdRefIdeal.main_arg7))
      ∧ r.2.sem = fun _ => 0)

def quiescent_AdamNormG [hAdamNormG : Cert.AdamNormG.Facts] : Prop :=
  ∀ (m : (ℓ : Loc Cert.AdamNormG.nD Cert.AdamNormG.τ Cert.AdamNormG.sig) → Buf (Elt Bits) ℓ) (g : Dev Cert.AdamNormG.nD → PrngReg), Pre_AdamNormG m →
    θ_run (Cert.AdamNormG.defs (F := Bits)) (onTc (τ := Cert.AdamNormG.τ) (Cert.AdamNormG.main (F := Bits))) ⟨m, fun _ => 0, g⟩ (fun r => (∀ c : Dev Cert.AdamNormG.nD,
      r.2.mem ((c.tc : Thread Cert.AdamNormG.nD Cert.AdamNormG.τ).loc Cert.AdamNormG.main_arg0) = m ((c.tc : Thread Cert.AdamNormG.nD Cert.AdamNormG.τ).loc Cert.AdamNormG.main_arg0)
      ∧ r.2.mem ((c.tc : Thread Cert.AdamNormG.nD Cert.AdamNormG.τ).loc Cert.AdamNormG.main_arg1) = m ((c.tc : Thread Cert.AdamNormG.nD Cert.AdamNormG.τ).loc Cert.AdamNormG.main_arg1)
      ∧ r.2.mem ((c.tc : Thread Cert.AdamNormG.nD Cert.AdamNormG.τ).loc Cert.AdamNormG.main_arg2) = m ((c.tc : Thread Cert.AdamNormG.nD Cert.AdamNormG.τ).loc Cert.AdamNormG.main_arg2)
      ∧ r.2.mem ((c.tc : Thread Cert.AdamNormG.nD Cert.AdamNormG.τ).loc Cert.AdamNormG.main_arg3) = m ((c.tc : Thread Cert.AdamNormG.nD Cert.AdamNormG.τ).loc Cert.AdamNormG.main_arg3))
      ∧ r.2.sem = fun _ => 0)

def quiescent_AdamNormGIdeal [hAdamNormGIdeal : Cert.AdamNormGIdeal.Facts] : Prop :=
  ∀ (m : (ℓ : Loc Cert.AdamNormGIdeal.nD Cert.AdamNormGIdeal.τ Cert.AdamNormGIdeal.sig) → Buf (Elt Ideal) ℓ) (g : Dev Cert.AdamNormGIdeal.nD → PrngReg), Pre_AdamNormGIdeal m →
    θ_run (Cert.AdamNormGIdeal.defs (F := Ideal)) (onTc (τ := Cert.AdamNormGIdeal.τ) (Cert.AdamNormGIdeal.main (F := Ideal))) ⟨m, fun _ => 0, g⟩ (fun r => (∀ c : Dev Cert.AdamNormGIdeal.nD,
      r.2.mem ((c.tc : Thread Cert.AdamNormGIdeal.nD Cert.AdamNormGIdeal.τ).loc Cert.AdamNormGIdeal.main_arg0) = m ((c.tc : Thread Cert.AdamNormGIdeal.nD Cert.AdamNormGIdeal.τ).loc Cert.AdamNormGIdeal.main_arg0)
      ∧ r.2.mem ((c.tc : Thread Cert.AdamNormGIdeal.nD Cert.AdamNormGIdeal.τ).loc Cert.AdamNormGIdeal.main_arg1) = m ((c.tc : Thread Cert.AdamNormGIdeal.nD Cert.AdamNormGIdeal.τ).loc Cert.AdamNormGIdeal.main_arg1)
      ∧ r.2.mem ((c.tc : Thread Cert.AdamNormGIdeal.nD Cert.AdamNormGIdeal.τ).loc Cert.AdamNormGIdeal.main_arg2) = m ((c.tc : Thread Cert.AdamNormGIdeal.nD Cert.AdamNormGIdeal.τ).loc Cert.AdamNormGIdeal.main_arg2)
      ∧ r.2.mem ((c.tc : Thread Cert.AdamNormGIdeal.nD Cert.AdamNormGIdeal.τ).loc Cert.AdamNormGIdeal.main_arg3) = m ((c.tc : Thread Cert.AdamNormGIdeal.nD Cert.AdamNormGIdeal.τ).loc Cert.AdamNormGIdeal.main_arg3))
      ∧ r.2.sem = fun _ => 0)

def quiescent_AdamNormGRefIdeal [hAdamNormGRefIdeal : Cert.AdamNormGRefIdeal.Facts] : Prop :=
  ∀ (m : (ℓ : Loc Cert.AdamNormGRefIdeal.nD Cert.AdamNormGRefIdeal.τ Cert.AdamNormGRefIdeal.sig) → Buf (Elt Ideal) ℓ) (g : Dev Cert.AdamNormGRefIdeal.nD → PrngReg), Pre_AdamNormGRefIdeal m →
    θ_run (Cert.AdamNormGRefIdeal.defs (F := Ideal)) (onTc (τ := Cert.AdamNormGRefIdeal.τ) (Cert.AdamNormGRefIdeal.main (F := Ideal))) ⟨m, fun _ => 0, g⟩ (fun r => (∀ c : Dev Cert.AdamNormGRefIdeal.nD,
      r.2.mem ((c.tc : Thread Cert.AdamNormGRefIdeal.nD Cert.AdamNormGRefIdeal.τ).loc Cert.AdamNormGRefIdeal.main_arg0) = m ((c.tc : Thread Cert.AdamNormGRefIdeal.nD Cert.AdamNormGRefIdeal.τ).loc Cert.AdamNormGRefIdeal.main_arg0)
      ∧ r.2.mem ((c.tc : Thread Cert.AdamNormGRefIdeal.nD Cert.AdamNormGRefIdeal.τ).loc Cert.AdamNormGRefIdeal.main_arg1) = m ((c.tc : Thread Cert.AdamNormGRefIdeal.nD Cert.AdamNormGRefIdeal.τ).loc Cert.AdamNormGRefIdeal.main_arg1)
      ∧ r.2.mem ((c.tc : Thread Cert.AdamNormGRefIdeal.nD Cert.AdamNormGRefIdeal.τ).loc Cert.AdamNormGRefIdeal.main_arg2) = m ((c.tc : Thread Cert.AdamNormGRefIdeal.nD Cert.AdamNormGRefIdeal.τ).loc Cert.AdamNormGRefIdeal.main_arg2)
      ∧ r.2.mem ((c.tc : Thread Cert.AdamNormGRefIdeal.nD Cert.AdamNormGRefIdeal.τ).loc Cert.AdamNormGRefIdeal.main_arg3) = m ((c.tc : Thread Cert.AdamNormGRefIdeal.nD Cert.AdamNormGRefIdeal.τ).loc Cert.AdamNormGRefIdeal.main_arg3))
      ∧ r.2.sem = fun _ => 0)

def quiescent_AdamConvW [hAdamConvW : Cert.AdamConvW.Facts] : Prop :=
  ∀ (m : (ℓ : Loc Cert.AdamConvW.nD Cert.AdamConvW.τ Cert.AdamConvW.sig) → Buf (Elt Bits) ℓ) (g : Dev Cert.AdamConvW.nD → PrngReg), Pre_AdamConvW m →
    θ_run (Cert.AdamConvW.defs (F := Bits)) (onTc (τ := Cert.AdamConvW.τ) (Cert.AdamConvW.main (F := Bits))) ⟨m, fun _ => 0, g⟩ (fun r => (∀ c : Dev Cert.AdamConvW.nD,
      r.2.mem ((c.tc : Thread Cert.AdamConvW.nD Cert.AdamConvW.τ).loc Cert.AdamConvW.main_arg0) = m ((c.tc : Thread Cert.AdamConvW.nD Cert.AdamConvW.τ).loc Cert.AdamConvW.main_arg0)
      ∧ r.2.mem ((c.tc : Thread Cert.AdamConvW.nD Cert.AdamConvW.τ).loc Cert.AdamConvW.main_arg1) = m ((c.tc : Thread Cert.AdamConvW.nD Cert.AdamConvW.τ).loc Cert.AdamConvW.main_arg1)
      ∧ r.2.mem ((c.tc : Thread Cert.AdamConvW.nD Cert.AdamConvW.τ).loc Cert.AdamConvW.main_arg2) = m ((c.tc : Thread Cert.AdamConvW.nD Cert.AdamConvW.τ).loc Cert.AdamConvW.main_arg2)
      ∧ r.2.mem ((c.tc : Thread Cert.AdamConvW.nD Cert.AdamConvW.τ).loc Cert.AdamConvW.main_arg3) = m ((c.tc : Thread Cert.AdamConvW.nD Cert.AdamConvW.τ).loc Cert.AdamConvW.main_arg3))
      ∧ r.2.sem = fun _ => 0)

def quiescent_AdamConvWIdeal [hAdamConvWIdeal : Cert.AdamConvWIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg), Pre_AdamConvWIdeal m →
    θ_run (Cert.AdamConvWIdeal.defs (F := Ideal)) (onTc (τ := Cert.AdamConvWIdeal.τ) (Cert.AdamConvWIdeal.main (F := Ideal))) ⟨m, fun _ => 0, g⟩ (fun r => (∀ c : Dev Cert.AdamConvWIdeal.nD,
      r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
      ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
      ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
      ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ r.2.sem = fun _ => 0)

def quiescent_AdamConvWRefIdeal [hAdamConvWRefIdeal : Cert.AdamConvWRefIdeal.Facts] : Prop :=
  ∀ (m : (ℓ : Loc Cert.AdamConvWRefIdeal.nD Cert.AdamConvWRefIdeal.τ Cert.AdamConvWRefIdeal.sig) → Buf (Elt Ideal) ℓ) (g : Dev Cert.AdamConvWRefIdeal.nD → PrngReg), Pre_AdamConvWRefIdeal m →
    θ_run (Cert.AdamConvWRefIdeal.defs (F := Ideal)) (onTc (τ := Cert.AdamConvWRefIdeal.τ) (Cert.AdamConvWRefIdeal.main (F := Ideal))) ⟨m, fun _ => 0, g⟩ (fun r => (∀ c : Dev Cert.AdamConvWRefIdeal.nD,
      r.2.mem ((c.tc : Thread Cert.AdamConvWRefIdeal.nD Cert.AdamConvWRefIdeal.τ).loc Cert.AdamConvWRefIdeal.main_arg0) = m ((c.tc : Thread Cert.AdamConvWRefIdeal.nD Cert.AdamConvWRefIdeal.τ).loc Cert.AdamConvWRefIdeal.main_arg0)
      ∧ r.2.mem ((c.tc : Thread Cert.AdamConvWRefIdeal.nD Cert.AdamConvWRefIdeal.τ).loc Cert.AdamConvWRefIdeal.main_arg1) = m ((c.tc : Thread Cert.AdamConvWRefIdeal.nD Cert.AdamConvWRefIdeal.τ).loc Cert.AdamConvWRefIdeal.main_arg1)
      ∧ r.2.mem ((c.tc : Thread Cert.AdamConvWRefIdeal.nD Cert.AdamConvWRefIdeal.τ).loc Cert.AdamConvWRefIdeal.main_arg2) = m ((c.tc : Thread Cert.AdamConvWRefIdeal.nD Cert.AdamConvWRefIdeal.τ).loc Cert.AdamConvWRefIdeal.main_arg2)
      ∧ r.2.mem ((c.tc : Thread Cert.AdamConvWRefIdeal.nD Cert.AdamConvWRefIdeal.τ).loc Cert.AdamConvWRefIdeal.main_arg3) = m ((c.tc : Thread Cert.AdamConvWRefIdeal.nD Cert.AdamConvWRefIdeal.τ).loc Cert.AdamConvWRefIdeal.main_arg3))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainRefIdeal [hAdamGainRefIdeal : Cert.AdamGainRefIdeal.Facts] : Prop :=
  ∀ (m : (ℓ : Loc Cert.AdamGainRefIdeal.nD Cert.AdamGainRefIdeal.τ Cert.AdamGainRefIdeal.sig) → Buf (Elt Ideal) ℓ) (g : Dev Cert.AdamGainRefIdeal.nD → PrngReg), Pre_AdamGainRefIdeal m →
    θ_run (Cert.AdamGainRefIdeal.defs (F := Ideal)) (onTc (τ := Cert.AdamGainRefIdeal.τ) (Cert.AdamGainRefIdeal.main (F := Ideal))) ⟨m, fun _ => 0, g⟩ (fun r => (∀ c : Dev Cert.AdamGainRefIdeal.nD,
      r.2.mem ((c.tc : Thread Cert.AdamGainRefIdeal.nD Cert.AdamGainRefIdeal.τ).loc Cert.AdamGainRefIdeal.main_arg0) = m ((c.tc : Thread Cert.AdamGainRefIdeal.nD Cert.AdamGainRefIdeal.τ).loc Cert.AdamGainRefIdeal.main_arg0)
      ∧ r.2.mem ((c.tc : Thread Cert.AdamGainRefIdeal.nD Cert.AdamGainRefIdeal.τ).loc Cert.AdamGainRefIdeal.main_arg1) = m ((c.tc : Thread Cert.AdamGainRefIdeal.nD Cert.AdamGainRefIdeal.τ).loc Cert.AdamGainRefIdeal.main_arg1)
      ∧ r.2.mem ((c.tc : Thread Cert.AdamGainRefIdeal.nD Cert.AdamGainRefIdeal.τ).loc Cert.AdamGainRefIdeal.main_arg2) = m ((c.tc : Thread Cert.AdamGainRefIdeal.nD Cert.AdamGainRefIdeal.τ).loc Cert.AdamGainRefIdeal.main_arg2)
      ∧ r.2.mem ((c.tc : Thread Cert.AdamGainRefIdeal.nD Cert.AdamGainRefIdeal.τ).loc Cert.AdamGainRefIdeal.main_arg3) = m ((c.tc : Thread Cert.AdamGainRefIdeal.nD Cert.AdamGainRefIdeal.τ).loc Cert.AdamGainRefIdeal.main_arg3))
      ∧ r.2.sem = fun _ => 0)

def quiescent_AdamAdaB [hAdamAdaB : Cert.AdamAdaB.Facts] : Prop :=
  ∀ (m : (ℓ : Loc Cert.AdamAdaB.nD Cert.AdamAdaB.τ Cert.AdamAdaB.sig) → Buf (Elt Bits) ℓ) (g : Dev Cert.AdamAdaB.nD → PrngReg), Pre_AdamAdaB m →
    θ_run (Cert.AdamAdaB.defs (F := Bits)) (onTc (τ := Cert.AdamAdaB.τ) (Cert.AdamAdaB.main (F := Bits))) ⟨m, fun _ => 0, g⟩ (fun r => (∀ c : Dev Cert.AdamAdaB.nD,
      r.2.mem ((c.tc : Thread Cert.AdamAdaB.nD Cert.AdamAdaB.τ).loc Cert.AdamAdaB.main_arg0) = m ((c.tc : Thread Cert.AdamAdaB.nD Cert.AdamAdaB.τ).loc Cert.AdamAdaB.main_arg0)
      ∧ r.2.mem ((c.tc : Thread Cert.AdamAdaB.nD Cert.AdamAdaB.τ).loc Cert.AdamAdaB.main_arg1) = m ((c.tc : Thread Cert.AdamAdaB.nD Cert.AdamAdaB.τ).loc Cert.AdamAdaB.main_arg1)
      ∧ r.2.mem ((c.tc : Thread Cert.AdamAdaB.nD Cert.AdamAdaB.τ).loc Cert.AdamAdaB.main_arg2) = m ((c.tc : Thread Cert.AdamAdaB.nD Cert.AdamAdaB.τ).loc Cert.AdamAdaB.main_arg2)
      ∧ r.2.mem ((c.tc : Thread Cert.AdamAdaB.nD Cert.AdamAdaB.τ).loc Cert.AdamAdaB.main_arg3) = m ((c.tc : Thread Cert.AdamAdaB.nD Cert.AdamAdaB.τ).loc Cert.AdamAdaB.main_arg3))
      ∧ r.2.sem = fun _ => 0)

def quiescent_AdamAdaBIdeal [hAdamAdaBIdeal : Cert.AdamAdaBIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg), Pre_AdamAdaBIdeal m →
    θ_run (Cert.AdamAdaBIdeal.defs (F := Ideal)) (onTc (τ := Cert.AdamAdaBIdeal.τ) (Cert.AdamAdaBIdeal.main (F := Ideal))) ⟨m, fun _ => 0, g⟩ (fun r => (∀ c : Dev Cert.AdamAdaBIdeal.nD,
      r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
      ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
      ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
      ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ r.2.sem = fun _ => 0)

def quiescent_AdamAdaBRefIdeal [hAdamAdaBRefIdeal : Cert.AdamAdaBRefIdeal.Facts] : Prop :=
  ∀ (m : (ℓ : Loc Cert.AdamAdaBRefIdeal.nD Cert.AdamAdaBRefIdeal.τ Cert.AdamAdaBRefIdeal.sig) → Buf (Elt Ideal) ℓ) (g : Dev Cert.AdamAdaBRefIdeal.nD → PrngReg), Pre_AdamAdaBRefIdeal m →
    θ_run (Cert.AdamAdaBRefIdeal.defs (F := Ideal)) (onTc (τ := Cert.AdamAdaBRefIdeal.τ) (Cert.AdamAdaBRefIdeal.main (F := Ideal))) ⟨m, fun _ => 0, g⟩ (fun r => (∀ c : Dev Cert.AdamAdaBRefIdeal.nD,
      r.2.mem ((c.tc : Thread Cert.AdamAdaBRefIdeal.nD Cert.AdamAdaBRefIdeal.τ).loc Cert.AdamAdaBRefIdeal.main_arg0) = m ((c.tc : Thread Cert.AdamAdaBRefIdeal.nD Cert.AdamAdaBRefIdeal.τ).loc Cert.AdamAdaBRefIdeal.main_arg0)
      ∧ r.2.mem ((c.tc : Thread Cert.AdamAdaBRefIdeal.nD Cert.AdamAdaBRefIdeal.τ).loc Cert.AdamAdaBRefIdeal.main_arg1) = m ((c.tc : Thread Cert.AdamAdaBRefIdeal.nD Cert.AdamAdaBRefIdeal.τ).loc Cert.AdamAdaBRefIdeal.main_arg1)
      ∧ r.2.mem ((c.tc : Thread Cert.AdamAdaBRefIdeal.nD Cert.AdamAdaBRefIdeal.τ).loc Cert.AdamAdaBRefIdeal.main_arg2) = m ((c.tc : Thread Cert.AdamAdaBRefIdeal.nD Cert.AdamAdaBRefIdeal.τ).loc Cert.AdamAdaBRefIdeal.main_arg2)
      ∧ r.2.mem ((c.tc : Thread Cert.AdamAdaBRefIdeal.nD Cert.AdamAdaBRefIdeal.τ).loc Cert.AdamAdaBRefIdeal.main_arg3) = m ((c.tc : Thread Cert.AdamAdaBRefIdeal.nD Cert.AdamAdaBRefIdeal.τ).loc Cert.AdamAdaBRefIdeal.main_arg3))
      ∧ r.2.sem = fun _ => 0)

def quiescent_AdamKvAdaB [hAdamKvAdaB : Cert.AdamKvAdaB.Facts] : Prop :=
  ∀ (m : (ℓ : Loc Cert.AdamKvAdaB.nD Cert.AdamKvAdaB.τ Cert.AdamKvAdaB.sig) → Buf (Elt Bits) ℓ) (g : Dev Cert.AdamKvAdaB.nD → PrngReg), Pre_AdamKvAdaB m →
    θ_run (Cert.AdamKvAdaB.defs (F := Bits)) (onTc (τ := Cert.AdamKvAdaB.τ) (Cert.AdamKvAdaB.main (F := Bits))) ⟨m, fun _ => 0, g⟩ (fun r => (∀ c : Dev Cert.AdamKvAdaB.nD,
      r.2.mem ((c.tc : Thread Cert.AdamKvAdaB.nD Cert.AdamKvAdaB.τ).loc Cert.AdamKvAdaB.main_arg0) = m ((c.tc : Thread Cert.AdamKvAdaB.nD Cert.AdamKvAdaB.τ).loc Cert.AdamKvAdaB.main_arg0)
      ∧ r.2.mem ((c.tc : Thread Cert.AdamKvAdaB.nD Cert.AdamKvAdaB.τ).loc Cert.AdamKvAdaB.main_arg1) = m ((c.tc : Thread Cert.AdamKvAdaB.nD Cert.AdamKvAdaB.τ).loc Cert.AdamKvAdaB.main_arg1)
      ∧ r.2.mem ((c.tc : Thread Cert.AdamKvAdaB.nD Cert.AdamKvAdaB.τ).loc Cert.AdamKvAdaB.main_arg2) = m ((c.tc : Thread Cert.AdamKvAdaB.nD Cert.AdamKvAdaB.τ).loc Cert.AdamKvAdaB.main_arg2)
      ∧ r.2.mem ((c.tc : Thread Cert.AdamKvAdaB.nD Cert.AdamKvAdaB.τ).loc Cert.AdamKvAdaB.main_arg3) = m ((c.tc : Thread Cert.AdamKvAdaB.nD Cert.AdamKvAdaB.τ).loc Cert.AdamKvAdaB.main_arg3))
      ∧ r.2.sem = fun _ => 0)

def quiescent_AdamKvAdaBIdeal [hAdamKvAdaBIdeal : Cert.AdamKvAdaBIdeal.Facts] : Prop :=
  ∀ (m : (ℓ : Loc Cert.AdamKvAdaBIdeal.nD Cert.AdamKvAdaBIdeal.τ Cert.AdamKvAdaBIdeal.sig) → Buf (Elt Ideal) ℓ) (g : Dev Cert.AdamKvAdaBIdeal.nD → PrngReg), Pre_AdamKvAdaBIdeal m →
    θ_run (Cert.AdamKvAdaBIdeal.defs (F := Ideal)) (onTc (τ := Cert.AdamKvAdaBIdeal.τ) (Cert.AdamKvAdaBIdeal.main (F := Ideal))) ⟨m, fun _ => 0, g⟩ (fun r => (∀ c : Dev Cert.AdamKvAdaBIdeal.nD,
      r.2.mem ((c.tc : Thread Cert.AdamKvAdaBIdeal.nD Cert.AdamKvAdaBIdeal.τ).loc Cert.AdamKvAdaBIdeal.main_arg0) = m ((c.tc : Thread Cert.AdamKvAdaBIdeal.nD Cert.AdamKvAdaBIdeal.τ).loc Cert.AdamKvAdaBIdeal.main_arg0)
      ∧ r.2.mem ((c.tc : Thread Cert.AdamKvAdaBIdeal.nD Cert.AdamKvAdaBIdeal.τ).loc Cert.AdamKvAdaBIdeal.main_arg1) = m ((c.tc : Thread Cert.AdamKvAdaBIdeal.nD Cert.AdamKvAdaBIdeal.τ).loc Cert.AdamKvAdaBIdeal.main_arg1)
      ∧ r.2.mem ((c.tc : Thread Cert.AdamKvAdaBIdeal.nD Cert.AdamKvAdaBIdeal.τ).loc Cert.AdamKvAdaBIdeal.main_arg2) = m ((c.tc : Thread Cert.AdamKvAdaBIdeal.nD Cert.AdamKvAdaBIdeal.τ).loc Cert.AdamKvAdaBIdeal.main_arg2)
      ∧ r.2.mem ((c.tc : Thread Cert.AdamKvAdaBIdeal.nD Cert.AdamKvAdaBIdeal.τ).loc Cert.AdamKvAdaBIdeal.main_arg3) = m ((c.tc : Thread Cert.AdamKvAdaBIdeal.nD Cert.AdamKvAdaBIdeal.τ).loc Cert.AdamKvAdaBIdeal.main_arg3))
      ∧ r.2.sem = fun _ => 0)

def quiescent_AdamKvAdaBRefIdeal [hAdamKvAdaBRefIdeal : Cert.AdamKvAdaBRefIdeal.Facts] : Prop :=
  ∀ (m : (ℓ : Loc Cert.AdamKvAdaBRefIdeal.nD Cert.AdamKvAdaBRefIdeal.τ Cert.AdamKvAdaBRefIdeal.sig) → Buf (Elt Ideal) ℓ) (g : Dev Cert.AdamKvAdaBRefIdeal.nD → PrngReg), Pre_AdamKvAdaBRefIdeal m →
    θ_run (Cert.AdamKvAdaBRefIdeal.defs (F := Ideal)) (onTc (τ := Cert.AdamKvAdaBRefIdeal.τ) (Cert.AdamKvAdaBRefIdeal.main (F := Ideal))) ⟨m, fun _ => 0, g⟩ (fun r => (∀ c : Dev Cert.AdamKvAdaBRefIdeal.nD,
      r.2.mem ((c.tc : Thread Cert.AdamKvAdaBRefIdeal.nD Cert.AdamKvAdaBRefIdeal.τ).loc Cert.AdamKvAdaBRefIdeal.main_arg0) = m ((c.tc : Thread Cert.AdamKvAdaBRefIdeal.nD Cert.AdamKvAdaBRefIdeal.τ).loc Cert.AdamKvAdaBRefIdeal.main_arg0)
      ∧ r.2.mem ((c.tc : Thread Cert.AdamKvAdaBRefIdeal.nD Cert.AdamKvAdaBRefIdeal.τ).loc Cert.AdamKvAdaBRefIdeal.main_arg1) = m ((c.tc : Thread Cert.AdamKvAdaBRefIdeal.nD Cert.AdamKvAdaBRefIdeal.τ).loc Cert.AdamKvAdaBRefIdeal.main_arg1)
      ∧ r.2.mem ((c.tc : Thread Cert.AdamKvAdaBRefIdeal.nD Cert.AdamKvAdaBRefIdeal.τ).loc Cert.AdamKvAdaBRefIdeal.main_arg2) = m ((c.tc : Thread Cert.AdamKvAdaBRefIdeal.nD Cert.AdamKvAdaBRefIdeal.τ).loc Cert.AdamKvAdaBRefIdeal.main_arg2)
      ∧ r.2.mem ((c.tc : Thread Cert.AdamKvAdaBRefIdeal.nD Cert.AdamKvAdaBRefIdeal.τ).loc Cert.AdamKvAdaBRefIdeal.main_arg3) = m ((c.tc : Thread Cert.AdamKvAdaBRefIdeal.nD Cert.AdamKvAdaBRefIdeal.τ).loc Cert.AdamKvAdaBRefIdeal.main_arg3))
      ∧ r.2.sem = fun _ => 0)

def quiescent_AdamAdaW [hAdamAdaW : Cert.AdamAdaW.Facts] : Prop :=
  ∀ (m : (ℓ : Loc Cert.AdamAdaW.nD Cert.AdamAdaW.τ Cert.AdamAdaW.sig) → Buf (Elt Bits) ℓ) (g : Dev Cert.AdamAdaW.nD → PrngReg), Pre_AdamAdaW m →
    θ_run (Cert.AdamAdaW.defs (F := Bits)) (onTc (τ := Cert.AdamAdaW.τ) (Cert.AdamAdaW.main (F := Bits))) ⟨m, fun _ => 0, g⟩ (fun r => (∀ c : Dev Cert.AdamAdaW.nD,
      r.2.mem ((c.tc : Thread Cert.AdamAdaW.nD Cert.AdamAdaW.τ).loc Cert.AdamAdaW.main_arg0) = m ((c.tc : Thread Cert.AdamAdaW.nD Cert.AdamAdaW.τ).loc Cert.AdamAdaW.main_arg0)
      ∧ r.2.mem ((c.tc : Thread Cert.AdamAdaW.nD Cert.AdamAdaW.τ).loc Cert.AdamAdaW.main_arg1) = m ((c.tc : Thread Cert.AdamAdaW.nD Cert.AdamAdaW.τ).loc Cert.AdamAdaW.main_arg1)
      ∧ r.2.mem ((c.tc : Thread Cert.AdamAdaW.nD Cert.AdamAdaW.τ).loc Cert.AdamAdaW.main_arg2) = m ((c.tc : Thread Cert.AdamAdaW.nD Cert.AdamAdaW.τ).loc Cert.AdamAdaW.main_arg2)
      ∧ r.2.mem ((c.tc : Thread Cert.AdamAdaW.nD Cert.AdamAdaW.τ).loc Cert.AdamAdaW.main_arg3) = m ((c.tc : Thread Cert.AdamAdaW.nD Cert.AdamAdaW.τ).loc Cert.AdamAdaW.main_arg3))
      ∧ r.2.sem = fun _ => 0)

def quiescent_AdamAdaWIdeal [hAdamAdaWIdeal : Cert.AdamAdaWIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg), Pre_AdamAdaWIdeal m →
    θ_run (Cert.AdamAdaWIdeal.defs (F := Ideal)) (onTc (τ := Cert.AdamAdaWIdeal.τ) (Cert.AdamAdaWIdeal.main (F := Ideal))) ⟨m, fun _ => 0, g⟩ (fun r => (∀ c : Dev Cert.AdamAdaWIdeal.nD,
      r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
      ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
      ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
      ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ r.2.sem = fun _ => 0)

def quiescent_AdamAdaWRefIdeal [hAdamAdaWRefIdeal : Cert.AdamAdaWRefIdeal.Facts] : Prop :=
  ∀ (m : (ℓ : Loc Cert.AdamAdaWRefIdeal.nD Cert.AdamAdaWRefIdeal.τ Cert.AdamAdaWRefIdeal.sig) → Buf (Elt Ideal) ℓ) (g : Dev Cert.AdamAdaWRefIdeal.nD → PrngReg), Pre_AdamAdaWRefIdeal m →
    θ_run (Cert.AdamAdaWRefIdeal.defs (F := Ideal)) (onTc (τ := Cert.AdamAdaWRefIdeal.τ) (Cert.AdamAdaWRefIdeal.main (F := Ideal))) ⟨m, fun _ => 0, g⟩ (fun r => (∀ c : Dev Cert.AdamAdaWRefIdeal.nD,
      r.2.mem ((c.tc : Thread Cert.AdamAdaWRefIdeal.nD Cert.AdamAdaWRefIdeal.τ).loc Cert.AdamAdaWRefIdeal.main_arg0) = m ((c.tc : Thread Cert.AdamAdaWRefIdeal.nD Cert.AdamAdaWRefIdeal.τ).loc Cert.AdamAdaWRefIdeal.main_arg0)
      ∧ r.2.mem ((c.tc : Thread Cert.AdamAdaWRefIdeal.nD Cert.AdamAdaWRefIdeal.τ).loc Cert.AdamAdaWRefIdeal.main_arg1) = m ((c.tc : Thread Cert.AdamAdaWRefIdeal.nD Cert.AdamAdaWRefIdeal.τ).loc Cert.AdamAdaWRefIdeal.main_arg1)
      ∧ r.2.mem ((c.tc : Thread Cert.AdamAdaWRefIdeal.nD Cert.AdamAdaWRefIdeal.τ).loc Cert.AdamAdaWRefIdeal.main_arg2) = m ((c.tc : Thread Cert.AdamAdaWRefIdeal.nD Cert.AdamAdaWRefIdeal.τ).loc Cert.AdamAdaWRefIdeal.main_arg2)
      ∧ r.2.mem ((c.tc : Thread Cert.AdamAdaWRefIdeal.nD Cert.AdamAdaWRefIdeal.τ).loc Cert.AdamAdaWRefIdeal.main_arg3) = m ((c.tc : Thread Cert.AdamAdaWRefIdeal.nD Cert.AdamAdaWRefIdeal.τ).loc Cert.AdamAdaWRefIdeal.main_arg3))
      ∧ r.2.sem = fun _ => 0)

def quiescent_AdamKvAdaW [hAdamKvAdaW : Cert.AdamKvAdaW.Facts] : Prop :=
  ∀ (m : (ℓ : Loc Cert.AdamKvAdaW.nD Cert.AdamKvAdaW.τ Cert.AdamKvAdaW.sig) → Buf (Elt Bits) ℓ) (g : Dev Cert.AdamKvAdaW.nD → PrngReg), Pre_AdamKvAdaW m →
    θ_run (Cert.AdamKvAdaW.defs (F := Bits)) (onTc (τ := Cert.AdamKvAdaW.τ) (Cert.AdamKvAdaW.main (F := Bits))) ⟨m, fun _ => 0, g⟩ (fun r => (∀ c : Dev Cert.AdamKvAdaW.nD,
      r.2.mem ((c.tc : Thread Cert.AdamKvAdaW.nD Cert.AdamKvAdaW.τ).loc Cert.AdamKvAdaW.main_arg0) = m ((c.tc : Thread Cert.AdamKvAdaW.nD Cert.AdamKvAdaW.τ).loc Cert.AdamKvAdaW.main_arg0)
      ∧ r.2.mem ((c.tc : Thread Cert.AdamKvAdaW.nD Cert.AdamKvAdaW.τ).loc Cert.AdamKvAdaW.main_arg1) = m ((c.tc : Thread Cert.AdamKvAdaW.nD Cert.AdamKvAdaW.τ).loc Cert.AdamKvAdaW.main_arg1)
      ∧ r.2.mem ((c.tc : Thread Cert.AdamKvAdaW.nD Cert.AdamKvAdaW.τ).loc Cert.AdamKvAdaW.main_arg2) = m ((c.tc : Thread Cert.AdamKvAdaW.nD Cert.AdamKvAdaW.τ).loc Cert.AdamKvAdaW.main_arg2)
      ∧ r.2.mem ((c.tc : Thread Cert.AdamKvAdaW.nD Cert.AdamKvAdaW.τ).loc Cert.AdamKvAdaW.main_arg3) = m ((c.tc : Thread Cert.AdamKvAdaW.nD Cert.AdamKvAdaW.τ).loc Cert.AdamKvAdaW.main_arg3))
      ∧ r.2.sem = fun _ => 0)

def quiescent_AdamKvAdaWIdeal [hAdamKvAdaWIdeal : Cert.AdamKvAdaWIdeal.Facts] : Prop :=
  ∀ (m : (ℓ : Loc Cert.AdamKvAdaWIdeal.nD Cert.AdamKvAdaWIdeal.τ Cert.AdamKvAdaWIdeal.sig) → Buf (Elt Ideal) ℓ) (g : Dev Cert.AdamKvAdaWIdeal.nD → PrngReg), Pre_AdamKvAdaWIdeal m →
    θ_run (Cert.AdamKvAdaWIdeal.defs (F := Ideal)) (onTc (τ := Cert.AdamKvAdaWIdeal.τ) (Cert.AdamKvAdaWIdeal.main (F := Ideal))) ⟨m, fun _ => 0, g⟩ (fun r => (∀ c : Dev Cert.AdamKvAdaWIdeal.nD,
      r.2.mem ((c.tc : Thread Cert.AdamKvAdaWIdeal.nD Cert.AdamKvAdaWIdeal.τ).loc Cert.AdamKvAdaWIdeal.main_arg0) = m ((c.tc : Thread Cert.AdamKvAdaWIdeal.nD Cert.AdamKvAdaWIdeal.τ).loc Cert.AdamKvAdaWIdeal.main_arg0)
      ∧ r.2.mem ((c.tc : Thread Cert.AdamKvAdaWIdeal.nD Cert.AdamKvAdaWIdeal.τ).loc Cert.AdamKvAdaWIdeal.main_arg1) = m ((c.tc : Thread Cert.AdamKvAdaWIdeal.nD Cert.AdamKvAdaWIdeal.τ).loc Cert.AdamKvAdaWIdeal.main_arg1)
      ∧ r.2.mem ((c.tc : Thread Cert.AdamKvAdaWIdeal.nD Cert.AdamKvAdaWIdeal.τ).loc Cert.AdamKvAdaWIdeal.main_arg2) = m ((c.tc : Thread Cert.AdamKvAdaWIdeal.nD Cert.AdamKvAdaWIdeal.τ).loc Cert.AdamKvAdaWIdeal.main_arg2)
      ∧ r.2.mem ((c.tc : Thread Cert.AdamKvAdaWIdeal.nD Cert.AdamKvAdaWIdeal.τ).loc Cert.AdamKvAdaWIdeal.main_arg3) = m ((c.tc : Thread Cert.AdamKvAdaWIdeal.nD Cert.AdamKvAdaWIdeal.τ).loc Cert.AdamKvAdaWIdeal.main_arg3))
      ∧ r.2.sem = fun _ => 0)

def quiescent_AdamKvAdaWRefIdeal [hAdamKvAdaWRefIdeal : Cert.AdamKvAdaWRefIdeal.Facts] : Prop :=
  ∀ (m : (ℓ : Loc Cert.AdamKvAdaWRefIdeal.nD Cert.AdamKvAdaWRefIdeal.τ Cert.AdamKvAdaWRefIdeal.sig) → Buf (Elt Ideal) ℓ) (g : Dev Cert.AdamKvAdaWRefIdeal.nD → PrngReg), Pre_AdamKvAdaWRefIdeal m →
    θ_run (Cert.AdamKvAdaWRefIdeal.defs (F := Ideal)) (onTc (τ := Cert.AdamKvAdaWRefIdeal.τ) (Cert.AdamKvAdaWRefIdeal.main (F := Ideal))) ⟨m, fun _ => 0, g⟩ (fun r => (∀ c : Dev Cert.AdamKvAdaWRefIdeal.nD,
      r.2.mem ((c.tc : Thread Cert.AdamKvAdaWRefIdeal.nD Cert.AdamKvAdaWRefIdeal.τ).loc Cert.AdamKvAdaWRefIdeal.main_arg0) = m ((c.tc : Thread Cert.AdamKvAdaWRefIdeal.nD Cert.AdamKvAdaWRefIdeal.τ).loc Cert.AdamKvAdaWRefIdeal.main_arg0)
      ∧ r.2.mem ((c.tc : Thread Cert.AdamKvAdaWRefIdeal.nD Cert.AdamKvAdaWRefIdeal.τ).loc Cert.AdamKvAdaWRefIdeal.main_arg1) = m ((c.tc : Thread Cert.AdamKvAdaWRefIdeal.nD Cert.AdamKvAdaWRefIdeal.τ).loc Cert.AdamKvAdaWRefIdeal.main_arg1)
      ∧ r.2.mem ((c.tc : Thread Cert.AdamKvAdaWRefIdeal.nD Cert.AdamKvAdaWRefIdeal.τ).loc Cert.AdamKvAdaWRefIdeal.main_arg2) = m ((c.tc : Thread Cert.AdamKvAdaWRefIdeal.nD Cert.AdamKvAdaWRefIdeal.τ).loc Cert.AdamKvAdaWRefIdeal.main_arg2)
      ∧ r.2.mem ((c.tc : Thread Cert.AdamKvAdaWRefIdeal.nD Cert.AdamKvAdaWRefIdeal.τ).loc Cert.AdamKvAdaWRefIdeal.main_arg3) = m ((c.tc : Thread Cert.AdamKvAdaWRefIdeal.nD Cert.AdamKvAdaWRefIdeal.τ).loc Cert.AdamKvAdaWRefIdeal.main_arg3))
      ∧ r.2.sem = fun _ => 0)

def quiescent_AdamWKv [hAdamWKv : Cert.AdamWKv.Facts] : Prop :=
  ∀ (m : (ℓ : Loc Cert.AdamWKv.nD Cert.AdamWKv.τ Cert.AdamWKv.sig) → Buf (Elt Bits) ℓ) (g : Dev Cert.AdamWKv.nD → PrngReg), Pre_AdamWKv m →
    θ_run (Cert.AdamWKv.defs (F := Bits)) (onTc (τ := Cert.AdamWKv.τ) (Cert.AdamWKv.main (F := Bits))) ⟨m, fun _ => 0, g⟩ (fun r => (∀ c : Dev Cert.AdamWKv.nD,
      r.2.mem ((c.tc : Thread Cert.AdamWKv.nD Cert.AdamWKv.τ).loc Cert.AdamWKv.main_arg0) = m ((c.tc : Thread Cert.AdamWKv.nD Cert.AdamWKv.τ).loc Cert.AdamWKv.main_arg0)
      ∧ r.2.mem ((c.tc : Thread Cert.AdamWKv.nD Cert.AdamWKv.τ).loc Cert.AdamWKv.main_arg1) = m ((c.tc : Thread Cert.AdamWKv.nD Cert.AdamWKv.τ).loc Cert.AdamWKv.main_arg1)
      ∧ r.2.mem ((c.tc : Thread Cert.AdamWKv.nD Cert.AdamWKv.τ).loc Cert.AdamWKv.main_arg2) = m ((c.tc : Thread Cert.AdamWKv.nD Cert.AdamWKv.τ).loc Cert.AdamWKv.main_arg2)
      ∧ r.2.mem ((c.tc : Thread Cert.AdamWKv.nD Cert.AdamWKv.τ).loc Cert.AdamWKv.main_arg3) = m ((c.tc : Thread Cert.AdamWKv.nD Cert.AdamWKv.τ).loc Cert.AdamWKv.main_arg3)
      ∧ r.2.mem ((c.tc : Thread Cert.AdamWKv.nD Cert.AdamWKv.τ).loc Cert.AdamWKv.main_arg4) = m ((c.tc : Thread Cert.AdamWKv.nD Cert.AdamWKv.τ).loc Cert.AdamWKv.main_arg4))
      ∧ r.2.sem = fun _ => 0)

def quiescent_AdamWKvIdeal [hAdamWKvIdeal : Cert.AdamWKvIdeal.Facts] : Prop :=
  ∀ (m : (ℓ : Loc Cert.AdamWKvIdeal.nD Cert.AdamWKvIdeal.τ Cert.AdamWKvIdeal.sig) → Buf (Elt Ideal) ℓ) (g : Dev Cert.AdamWKvIdeal.nD → PrngReg), Pre_AdamWKvIdeal m →
    θ_run (Cert.AdamWKvIdeal.defs (F := Ideal)) (onTc (τ := Cert.AdamWKvIdeal.τ) (Cert.AdamWKvIdeal.main (F := Ideal))) ⟨m, fun _ => 0, g⟩ (fun r => (∀ c : Dev Cert.AdamWKvIdeal.nD,
      r.2.mem ((c.tc : Thread Cert.AdamWKvIdeal.nD Cert.AdamWKvIdeal.τ).loc Cert.AdamWKvIdeal.main_arg0) = m ((c.tc : Thread Cert.AdamWKvIdeal.nD Cert.AdamWKvIdeal.τ).loc Cert.AdamWKvIdeal.main_arg0)
      ∧ r.2.mem ((c.tc : Thread Cert.AdamWKvIdeal.nD Cert.AdamWKvIdeal.τ).loc Cert.AdamWKvIdeal.main_arg1) = m ((c.tc : Thread Cert.AdamWKvIdeal.nD Cert.AdamWKvIdeal.τ).loc Cert.AdamWKvIdeal.main_arg1)
      ∧ r.2.mem ((c.tc : Thread Cert.AdamWKvIdeal.nD Cert.AdamWKvIdeal.τ).loc Cert.AdamWKvIdeal.main_arg2) = m ((c.tc : Thread Cert.AdamWKvIdeal.nD Cert.AdamWKvIdeal.τ).loc Cert.AdamWKvIdeal.main_arg2)
      ∧ r.2.mem ((c.tc : Thread Cert.AdamWKvIdeal.nD Cert.AdamWKvIdeal.τ).loc Cert.AdamWKvIdeal.main_arg3) = m ((c.tc : Thread Cert.AdamWKvIdeal.nD Cert.AdamWKvIdeal.τ).loc Cert.AdamWKvIdeal.main_arg3)
      ∧ r.2.mem ((c.tc : Thread Cert.AdamWKvIdeal.nD Cert.AdamWKvIdeal.τ).loc Cert.AdamWKvIdeal.main_arg4) = m ((c.tc : Thread Cert.AdamWKvIdeal.nD Cert.AdamWKvIdeal.τ).loc Cert.AdamWKvIdeal.main_arg4))
      ∧ r.2.sem = fun _ => 0)

def quiescent_AdamWKvRefIdeal [hAdamWKvRefIdeal : Cert.AdamWKvRefIdeal.Facts] : Prop :=
  ∀ (m : (ℓ : Loc Cert.AdamWKvRefIdeal.nD Cert.AdamWKvRefIdeal.τ Cert.AdamWKvRefIdeal.sig) → Buf (Elt Ideal) ℓ) (g : Dev Cert.AdamWKvRefIdeal.nD → PrngReg), Pre_AdamWKvRefIdeal m →
    θ_run (Cert.AdamWKvRefIdeal.defs (F := Ideal)) (onTc (τ := Cert.AdamWKvRefIdeal.τ) (Cert.AdamWKvRefIdeal.main (F := Ideal))) ⟨m, fun _ => 0, g⟩ (fun r => (∀ c : Dev Cert.AdamWKvRefIdeal.nD,
      r.2.mem ((c.tc : Thread Cert.AdamWKvRefIdeal.nD Cert.AdamWKvRefIdeal.τ).loc Cert.AdamWKvRefIdeal.main_arg0) = m ((c.tc : Thread Cert.AdamWKvRefIdeal.nD Cert.AdamWKvRefIdeal.τ).loc Cert.AdamWKvRefIdeal.main_arg0)
      ∧ r.2.mem ((c.tc : Thread Cert.AdamWKvRefIdeal.nD Cert.AdamWKvRefIdeal.τ).loc Cert.AdamWKvRefIdeal.main_arg1) = m ((c.tc : Thread Cert.AdamWKvRefIdeal.nD Cert.AdamWKvRefIdeal.τ).loc Cert.AdamWKvRefIdeal.main_arg1)
      ∧ r.2.mem ((c.tc : Thread Cert.AdamWKvRefIdeal.nD Cert.AdamWKvRefIdeal.τ).loc Cert.AdamWKvRefIdeal.main_arg2) = m ((c.tc : Thread Cert.AdamWKvRefIdeal.nD Cert.AdamWKvRefIdeal.τ).loc Cert.AdamWKvRefIdeal.main_arg2)
      ∧ r.2.mem ((c.tc : Thread Cert.AdamWKvRefIdeal.nD Cert.AdamWKvRefIdeal.τ).loc Cert.AdamWKvRefIdeal.main_arg3) = m ((c.tc : Thread Cert.AdamWKvRefIdeal.nD Cert.AdamWKvRefIdeal.τ).loc Cert.AdamWKvRefIdeal.main_arg3)
      ∧ r.2.mem ((c.tc : Thread Cert.AdamWKvRefIdeal.nD Cert.AdamWKvRefIdeal.τ).loc Cert.AdamWKvRefIdeal.main_arg4) = m ((c.tc : Thread Cert.AdamWKvRefIdeal.nD Cert.AdamWKvRefIdeal.τ).loc Cert.AdamWKvRefIdeal.main_arg4))
      ∧ r.2.sem = fun _ => 0)

def quiescent_ModsDw [hModsDw : Cert.ModsDw.Facts] : Prop :=
  ∀ (m : (ℓ : Loc Cert.ModsDw.nD Cert.ModsDw.τ Cert.ModsDw.sig) → Buf (Elt Bits) ℓ) (g : Dev Cert.ModsDw.nD → PrngReg), Pre_ModsDw m →
    θ_run (Cert.ModsDw.defs (F := Bits)) (onTc (τ := Cert.ModsDw.τ) (Cert.ModsDw.main (F := Bits))) ⟨m, fun _ => 0, g⟩ (fun r => (∀ c : Dev Cert.ModsDw.nD,
      r.2.mem ((c.tc : Thread Cert.ModsDw.nD Cert.ModsDw.τ).loc Cert.ModsDw.main_arg0) = m ((c.tc : Thread Cert.ModsDw.nD Cert.ModsDw.τ).loc Cert.ModsDw.main_arg0)
      ∧ r.2.mem ((c.tc : Thread Cert.ModsDw.nD Cert.ModsDw.τ).loc Cert.ModsDw.main_arg1) = m ((c.tc : Thread Cert.ModsDw.nD Cert.ModsDw.τ).loc Cert.ModsDw.main_arg1))
      ∧ r.2.sem = fun _ => 0)

def quiescent_ModsDwIdeal [hModsDwIdeal : Cert.ModsDwIdeal.Facts] : Prop :=
  ∀ (m : (ℓ : Loc Cert.ModsDwIdeal.nD Cert.ModsDwIdeal.τ Cert.ModsDwIdeal.sig) → Buf (Elt Ideal) ℓ) (g : Dev Cert.ModsDwIdeal.nD → PrngReg), Pre_ModsDwIdeal m →
    θ_run (Cert.ModsDwIdeal.defs (F := Ideal)) (onTc (τ := Cert.ModsDwIdeal.τ) (Cert.ModsDwIdeal.main (F := Ideal))) ⟨m, fun _ => 0, g⟩ (fun r => (∀ c : Dev Cert.ModsDwIdeal.nD,
      r.2.mem ((c.tc : Thread Cert.ModsDwIdeal.nD Cert.ModsDwIdeal.τ).loc Cert.ModsDwIdeal.main_arg0) = m ((c.tc : Thread Cert.ModsDwIdeal.nD Cert.ModsDwIdeal.τ).loc Cert.ModsDwIdeal.main_arg0)
      ∧ r.2.mem ((c.tc : Thread Cert.ModsDwIdeal.nD Cert.ModsDwIdeal.τ).loc Cert.ModsDwIdeal.main_arg1) = m ((c.tc : Thread Cert.ModsDwIdeal.nD Cert.ModsDwIdeal.τ).loc Cert.ModsDwIdeal.main_arg1))
      ∧ r.2.sem = fun _ => 0)

def quiescent_ModsDwRefIdeal [hModsDwRefIdeal : Cert.ModsDwRefIdeal.Facts] : Prop :=
  ∀ (m : (ℓ : Loc Cert.ModsDwRefIdeal.nD Cert.ModsDwRefIdeal.τ Cert.ModsDwRefIdeal.sig) → Buf (Elt Ideal) ℓ) (g : Dev Cert.ModsDwRefIdeal.nD → PrngReg), Pre_ModsDwRefIdeal m →
    θ_run (Cert.ModsDwRefIdeal.defs (F := Ideal)) (onTc (τ := Cert.ModsDwRefIdeal.τ) (Cert.ModsDwRefIdeal.main (F := Ideal))) ⟨m, fun _ => 0, g⟩ (fun r => (∀ c : Dev Cert.ModsDwRefIdeal.nD,
      r.2.mem ((c.tc : Thread Cert.ModsDwRefIdeal.nD Cert.ModsDwRefIdeal.τ).loc Cert.ModsDwRefIdeal.main_arg0) = m ((c.tc : Thread Cert.ModsDwRefIdeal.nD Cert.ModsDwRefIdeal.τ).loc Cert.ModsDwRefIdeal.main_arg0)
      ∧ r.2.mem ((c.tc : Thread Cert.ModsDwRefIdeal.nD Cert.ModsDwRefIdeal.τ).loc Cert.ModsDwRefIdeal.main_arg1) = m ((c.tc : Thread Cert.ModsDwRefIdeal.nD Cert.ModsDwRefIdeal.τ).loc Cert.ModsDwRefIdeal.main_arg1))
      ∧ r.2.sem = fun _ => 0)

def quiescent_KvModsDw [hKvModsDw : Cert.KvModsDw.Facts] : Prop :=
  ∀ (m : (ℓ : Loc Cert.KvModsDw.nD Cert.KvModsDw.τ Cert.KvModsDw.sig) → Buf (Elt Bits) ℓ) (g : Dev Cert.KvModsDw.nD → PrngReg), Pre_KvModsDw m →
    θ_run (Cert.KvModsDw.defs (F := Bits)) (onTc (τ := Cert.KvModsDw.τ) (Cert.KvModsDw.main (F := Bits))) ⟨m, fun _ => 0, g⟩ (fun r => (∀ c : Dev Cert.KvModsDw.nD,
      r.2.mem ((c.tc : Thread Cert.KvModsDw.nD Cert.KvModsDw.τ).loc Cert.KvModsDw.main_arg0) = m ((c.tc : Thread Cert.KvModsDw.nD Cert.KvModsDw.τ).loc Cert.KvModsDw.main_arg0)
      ∧ r.2.mem ((c.tc : Thread Cert.KvModsDw.nD Cert.KvModsDw.τ).loc Cert.KvModsDw.main_arg1) = m ((c.tc : Thread Cert.KvModsDw.nD Cert.KvModsDw.τ).loc Cert.KvModsDw.main_arg1))
      ∧ r.2.sem = fun _ => 0)

def quiescent_KvModsDwIdeal [hKvModsDwIdeal : Cert.KvModsDwIdeal.Facts] : Prop :=
  ∀ (m : (ℓ : Loc Cert.KvModsDwIdeal.nD Cert.KvModsDwIdeal.τ Cert.KvModsDwIdeal.sig) → Buf (Elt Ideal) ℓ) (g : Dev Cert.KvModsDwIdeal.nD → PrngReg), Pre_KvModsDwIdeal m →
    θ_run (Cert.KvModsDwIdeal.defs (F := Ideal)) (onTc (τ := Cert.KvModsDwIdeal.τ) (Cert.KvModsDwIdeal.main (F := Ideal))) ⟨m, fun _ => 0, g⟩ (fun r => (∀ c : Dev Cert.KvModsDwIdeal.nD,
      r.2.mem ((c.tc : Thread Cert.KvModsDwIdeal.nD Cert.KvModsDwIdeal.τ).loc Cert.KvModsDwIdeal.main_arg0) = m ((c.tc : Thread Cert.KvModsDwIdeal.nD Cert.KvModsDwIdeal.τ).loc Cert.KvModsDwIdeal.main_arg0)
      ∧ r.2.mem ((c.tc : Thread Cert.KvModsDwIdeal.nD Cert.KvModsDwIdeal.τ).loc Cert.KvModsDwIdeal.main_arg1) = m ((c.tc : Thread Cert.KvModsDwIdeal.nD Cert.KvModsDwIdeal.τ).loc Cert.KvModsDwIdeal.main_arg1))
      ∧ r.2.sem = fun _ => 0)

def quiescent_KvModsDwRefIdeal [hKvModsDwRefIdeal : Cert.KvModsDwRefIdeal.Facts] : Prop :=
  ∀ (m : (ℓ : Loc Cert.KvModsDwRefIdeal.nD Cert.KvModsDwRefIdeal.τ Cert.KvModsDwRefIdeal.sig) → Buf (Elt Ideal) ℓ) (g : Dev Cert.KvModsDwRefIdeal.nD → PrngReg), Pre_KvModsDwRefIdeal m →
    θ_run (Cert.KvModsDwRefIdeal.defs (F := Ideal)) (onTc (τ := Cert.KvModsDwRefIdeal.τ) (Cert.KvModsDwRefIdeal.main (F := Ideal))) ⟨m, fun _ => 0, g⟩ (fun r => (∀ c : Dev Cert.KvModsDwRefIdeal.nD,
      r.2.mem ((c.tc : Thread Cert.KvModsDwRefIdeal.nD Cert.KvModsDwRefIdeal.τ).loc Cert.KvModsDwRefIdeal.main_arg0) = m ((c.tc : Thread Cert.KvModsDwRefIdeal.nD Cert.KvModsDwRefIdeal.τ).loc Cert.KvModsDwRefIdeal.main_arg0)
      ∧ r.2.mem ((c.tc : Thread Cert.KvModsDwRefIdeal.nD Cert.KvModsDwRefIdeal.τ).loc Cert.KvModsDwRefIdeal.main_arg1) = m ((c.tc : Thread Cert.KvModsDwRefIdeal.nD Cert.KvModsDwRefIdeal.τ).loc Cert.KvModsDwRefIdeal.main_arg1))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ r.2.sem = fun _ => 0)

def quiescent_ModsRefIdeal [hModsRefIdeal : Cert.ModsRefIdeal.Facts] : Prop :=
  ∀ (m : (ℓ : Loc Cert.ModsRefIdeal.nD Cert.ModsRefIdeal.τ Cert.ModsRefIdeal.sig) → Buf (Elt Ideal) ℓ) (g : Dev Cert.ModsRefIdeal.nD → PrngReg), Pre_ModsRefIdeal m →
    θ_run (Cert.ModsRefIdeal.defs (F := Ideal)) (onTc (τ := Cert.ModsRefIdeal.τ) (Cert.ModsRefIdeal.main (F := Ideal))) ⟨m, fun _ => 0, g⟩ (fun r => (∀ c : Dev Cert.ModsRefIdeal.nD,
      r.2.mem ((c.tc : Thread Cert.ModsRefIdeal.nD Cert.ModsRefIdeal.τ).loc Cert.ModsRefIdeal.main_arg0) = m ((c.tc : Thread Cert.ModsRefIdeal.nD Cert.ModsRefIdeal.τ).loc Cert.ModsRefIdeal.main_arg0)
      ∧ r.2.mem ((c.tc : Thread Cert.ModsRefIdeal.nD Cert.ModsRefIdeal.τ).loc Cert.ModsRefIdeal.main_arg1) = m ((c.tc : Thread Cert.ModsRefIdeal.nD Cert.ModsRefIdeal.τ).loc Cert.ModsRefIdeal.main_arg1)
      ∧ r.2.mem ((c.tc : Thread Cert.ModsRefIdeal.nD Cert.ModsRefIdeal.τ).loc Cert.ModsRefIdeal.main_arg2) = m ((c.tc : Thread Cert.ModsRefIdeal.nD Cert.ModsRefIdeal.τ).loc Cert.ModsRefIdeal.main_arg2))
      ∧ r.2.sem = fun _ => 0)

def quiescent_KvMods [hKvMods : Cert.KvMods.Facts] : Prop :=
  ∀ (m : (ℓ : Loc Cert.KvMods.nD Cert.KvMods.τ Cert.KvMods.sig) → Buf (Elt Bits) ℓ) (g : Dev Cert.KvMods.nD → PrngReg), Pre_KvMods m →
    θ_run (Cert.KvMods.defs (F := Bits)) (onTc (τ := Cert.KvMods.τ) (Cert.KvMods.main (F := Bits))) ⟨m, fun _ => 0, g⟩ (fun r => (∀ c : Dev Cert.KvMods.nD,
      r.2.mem ((c.tc : Thread Cert.KvMods.nD Cert.KvMods.τ).loc Cert.KvMods.main_arg0) = m ((c.tc : Thread Cert.KvMods.nD Cert.KvMods.τ).loc Cert.KvMods.main_arg0)
      ∧ r.2.mem ((c.tc : Thread Cert.KvMods.nD Cert.KvMods.τ).loc Cert.KvMods.main_arg1) = m ((c.tc : Thread Cert.KvMods.nD Cert.KvMods.τ).loc Cert.KvMods.main_arg1)
      ∧ r.2.mem ((c.tc : Thread Cert.KvMods.nD Cert.KvMods.τ).loc Cert.KvMods.main_arg2) = m ((c.tc : Thread Cert.KvMods.nD Cert.KvMods.τ).loc Cert.KvMods.main_arg2))
      ∧ r.2.sem = fun _ => 0)

def quiescent_KvModsIdeal [hKvModsIdeal : Cert.KvModsIdeal.Facts] : Prop :=
  ∀ (m : (ℓ : Loc Cert.KvModsIdeal.nD Cert.KvModsIdeal.τ Cert.KvModsIdeal.sig) → Buf (Elt Ideal) ℓ) (g : Dev Cert.KvModsIdeal.nD → PrngReg), Pre_KvModsIdeal m →
    θ_run (Cert.KvModsIdeal.defs (F := Ideal)) (onTc (τ := Cert.KvModsIdeal.τ) (Cert.KvModsIdeal.main (F := Ideal))) ⟨m, fun _ => 0, g⟩ (fun r => (∀ c : Dev Cert.KvModsIdeal.nD,
      r.2.mem ((c.tc : Thread Cert.KvModsIdeal.nD Cert.KvModsIdeal.τ).loc Cert.KvModsIdeal.main_arg0) = m ((c.tc : Thread Cert.KvModsIdeal.nD Cert.KvModsIdeal.τ).loc Cert.KvModsIdeal.main_arg0)
      ∧ r.2.mem ((c.tc : Thread Cert.KvModsIdeal.nD Cert.KvModsIdeal.τ).loc Cert.KvModsIdeal.main_arg1) = m ((c.tc : Thread Cert.KvModsIdeal.nD Cert.KvModsIdeal.τ).loc Cert.KvModsIdeal.main_arg1)
      ∧ r.2.mem ((c.tc : Thread Cert.KvModsIdeal.nD Cert.KvModsIdeal.τ).loc Cert.KvModsIdeal.main_arg2) = m ((c.tc : Thread Cert.KvModsIdeal.nD Cert.KvModsIdeal.τ).loc Cert.KvModsIdeal.main_arg2))
      ∧ r.2.sem = fun _ => 0)

def quiescent_KvModsRefIdeal [hKvModsRefIdeal : Cert.KvModsRefIdeal.Facts] : Prop :=
  ∀ (m : (ℓ : Loc Cert.KvModsRefIdeal.nD Cert.KvModsRefIdeal.τ Cert.KvModsRefIdeal.sig) → Buf (Elt Ideal) ℓ) (g : Dev Cert.KvModsRefIdeal.nD → PrngReg), Pre_KvModsRefIdeal m →
    θ_run (Cert.KvModsRefIdeal.defs (F := Ideal)) (onTc (τ := Cert.KvModsRefIdeal.τ) (Cert.KvModsRefIdeal.main (F := Ideal))) ⟨m, fun _ => 0, g⟩ (fun r => (∀ c : Dev Cert.KvModsRefIdeal.nD,
      r.2.mem ((c.tc : Thread Cert.KvModsRefIdeal.nD Cert.KvModsRefIdeal.τ).loc Cert.KvModsRefIdeal.main_arg0) = m ((c.tc : Thread Cert.KvModsRefIdeal.nD Cert.KvModsRefIdeal.τ).loc Cert.KvModsRefIdeal.main_arg0)
      ∧ r.2.mem ((c.tc : Thread Cert.KvModsRefIdeal.nD Cert.KvModsRefIdeal.τ).loc Cert.KvModsRefIdeal.main_arg1) = m ((c.tc : Thread Cert.KvModsRefIdeal.nD Cert.KvModsRefIdeal.τ).loc Cert.KvModsRefIdeal.main_arg1)
      ∧ r.2.mem ((c.tc : Thread Cert.KvModsRefIdeal.nD Cert.KvModsRefIdeal.τ).loc Cert.KvModsRefIdeal.main_arg2) = m ((c.tc : Thread Cert.KvModsRefIdeal.nD Cert.KvModsRefIdeal.τ).loc Cert.KvModsRefIdeal.main_arg2))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2))
      ∧ r.2.sem = fun _ => 0)

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)
      ∧ m' ((c.tc : Thread Cert.ConvRefIdeal.nD Cert.ConvRefIdeal.τ).loc Cert.ConvRefIdeal.main_arg4) = m ((c.tc : Thread Cert.ConvBwdIdeal.nD Cert.ConvBwdIdeal.τ).loc Cert.ConvBwdIdeal.main_arg4)
      ∧ m' ((c.tc : Thread Cert.ConvRefIdeal.nD Cert.ConvRefIdeal.τ).loc Cert.ConvRefIdeal.main_arg5) = m ((c.tc : Thread Cert.ConvBwdIdeal.nD Cert.ConvBwdIdeal.τ).loc Cert.ConvBwdIdeal.main_arg5)
      ∧ m' ((c.tc : Thread Cert.ConvRefIdeal.nD Cert.ConvRefIdeal.τ).loc Cert.ConvRefIdeal.main_arg6) = m ((c.tc : Thread Cert.ConvBwdIdeal.nD Cert.ConvBwdIdeal.τ).loc Cert.ConvBwdIdeal.main_arg6)
      ∧ m' ((c.tc : Thread Cert.ConvRefIdeal.nD Cert.ConvRefIdeal.τ).loc Cert.ConvRefIdeal.main_arg7) = m ((c.tc : Thread Cert.ConvBwdIdeal.nD Cert.ConvBwdIdeal.τ).loc Cert.ConvBwdIdeal.main_arg7)
      ∧ m' ((c.tc : Thread Cert.ConvRefIdeal.nD Cert.ConvRefIdeal.τ).loc Cert.ConvRefIdeal.main_arg8) = m ((c.tc : Thread Cert.ConvBwdIdeal.nD Cert.ConvBwdIdeal.τ).loc Cert.ConvBwdIdeal.main_arg8)) →
    ∃ (v0 : (c : Dev Cert.ConvBwdIdeal.nD) → Buf (Elt Ideal) ((c.tc : Thread Cert.ConvBwdIdeal.nD Cert.ConvBwdIdeal.τ).loc Cert.ConvBwdIdeal.main_v72_0)) (v1 : (c : Dev Cert.ConvBwdIdeal.nD) → Buf (Elt Ideal) ((c.tc : Thread Cert.ConvBwdIdeal.nD Cert.ConvBwdIdeal.τ).loc Cert.ConvBwdIdeal.main_v72_1)) (v2 : (c : Dev Cert.ConvBwdIdeal.nD) → Buf (Elt Ideal) ((c.tc : Thread Cert.ConvBwdIdeal.nD Cert.ConvBwdIdeal.τ).loc Cert.ConvBwdIdeal.main_v72_2)) (v3 : (c : Dev Cert.ConvBwdIdeal.nD) → Buf (Elt Ideal) ((c.tc : Thread Cert.ConvBwdIdeal.nD Cert.ConvBwdIdeal.τ).loc Cert.ConvBwdIdeal.main_v72_3)) (v4 : (c : Dev Cert.ConvBwdIdeal.nD) → Buf (Elt Ideal) ((c.tc : Thread Cert.ConvBwdIdeal.nD Cert.ConvBwdIdeal.τ).loc Cert.ConvBwdIdeal.main_v72_4)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v72_0) = v0 c
          ∧ r.2.mem ((c.tc : Thread Cert.ConvBwdIdeal.nD Cert.ConvBwdIdeal.τ).loc Cert.ConvBwdIdeal.main_v72_1) = v1 c
          ∧ r.2.mem ((c.tc : Thread Cert.ConvBwdIdeal.nD Cert.ConvBwdIdeal.τ).loc Cert.ConvBwdIdeal.main_v72_2) = v2 c
          ∧ r.2.mem ((c.tc : Thread Cert.ConvBwdIdeal.nD Cert.ConvBwdIdeal.τ).loc Cert.ConvBwdIdeal.main_v72_3) = v3 c
          ∧ r.2.mem ((c.tc : Thread Cert.ConvBwdIdeal.nD Cert.ConvBwdIdeal.τ).loc Cert.ConvBwdIdeal.main_v72_4) = v4 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
          ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5)
          ∧ r.2.mem ((c.tc : Thread Cert.ConvBwdIdeal.nD Cert.ConvBwdIdeal.τ).loc Cert.ConvBwdIdeal.main_arg6) = m ((c.tc : Thread Cert.ConvBwdIdeal.nD Cert.ConvBwdIdeal.τ).loc Cert.ConvBwdIdeal.main_arg6)
          ∧ r.2.mem ((c.tc : Thread Cert.ConvBwdIdeal.nD Cert.ConvBwdIdeal.τ).loc Cert.ConvBwdIdeal.main_arg7) = m ((c.tc : Thread Cert.ConvBwdIdeal.nD Cert.ConvBwdIdeal.τ).loc Cert.ConvBwdIdeal.main_arg7)
          ∧ r.2.mem ((c.tc : Thread Cert.ConvBwdIdeal.nD Cert.ConvBwdIdeal.τ).loc Cert.ConvBwdIdeal.main_arg8) = m ((c.tc : Thread Cert.ConvBwdIdeal.nD Cert.ConvBwdIdeal.τ).loc Cert.ConvBwdIdeal.main_arg8))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v144) = v0 c
          ∧ r.2.mem ((c.tc : Thread Cert.ConvRefIdeal.nD Cert.ConvRefIdeal.τ).loc Cert.ConvRefIdeal.main_v153) = v1 c
          ∧ r.2.mem ((c.tc : Thread Cert.ConvRefIdeal.nD Cert.ConvRefIdeal.τ).loc Cert.ConvRefIdeal.main_v154) = v2 c
          ∧ r.2.mem ((c.tc : Thread Cert.ConvRefIdeal.nD Cert.ConvRefIdeal.τ).loc Cert.ConvRefIdeal.main_v150) = v3 c
          ∧ r.2.mem ((c.tc : Thread Cert.ConvRefIdeal.nD Cert.ConvRefIdeal.τ).loc Cert.ConvRefIdeal.main_v152) = v4 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8))

def preserves_FfnBwd_FfnBwdIdeal : Prop :=
  True

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)
      ∧ m' ((c.tc : Thread Cert.FfnRefIdeal.nD Cert.FfnRefIdeal.τ).loc Cert.FfnRefIdeal.main_arg6) = m ((c.tc : Thread Cert.FfnBwdIdeal.nD Cert.FfnBwdIdeal.τ).loc Cert.FfnBwdIdeal.main_arg6)
      ∧ m' ((c.tc : Thread Cert.FfnRefIdeal.nD Cert.FfnRefIdeal.τ).loc Cert.FfnRefIdeal.main_arg7) = m ((c.tc : Thread Cert.FfnBwdIdeal.nD Cert.FfnBwdIdeal.τ).loc Cert.FfnBwdIdeal.main_arg7)) →
    ∃ (v0 : (c : Dev Cert.FfnBwdIdeal.nD) → Buf (Elt Ideal) ((c.tc : Thread Cert.FfnBwdIdeal.nD Cert.FfnBwdIdeal.τ).loc Cert.FfnBwdIdeal.main_v57_0)) (v1 : (c : Dev Cert.FfnBwdIdeal.nD) → Buf (Elt Ideal) ((c.tc : Thread Cert.FfnBwdIdeal.nD Cert.FfnBwdIdeal.τ).loc Cert.FfnBwdIdeal.main_v57_1)) (v2 : (c : Dev Cert.FfnBwdIdeal.nD) → Buf (Elt Ideal) ((c.tc : Thread Cert.FfnBwdIdeal.nD Cert.FfnBwdIdeal.τ).loc Cert.FfnBwdIdeal.main_v57_2)) (v3 : (c : Dev Cert.FfnBwdIdeal.nD) → Buf (Elt Ideal) ((c.tc : Thread Cert.FfnBwdIdeal.nD Cert.FfnBwdIdeal.τ).loc Cert.FfnBwdIdeal.main_v57_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v57_0) = v0 c
          ∧ r.2.mem ((c.tc : Thread Cert.FfnBwdIdeal.nD Cert.FfnBwdIdeal.τ).loc Cert.FfnBwdIdeal.main_v57_1) = v1 c
          ∧ r.2.mem ((c.tc : Thread Cert.FfnBwdIdeal.nD Cert.FfnBwdIdeal.τ).loc Cert.FfnBwdIdeal.main_v57_2) = v2 c
          ∧ r.2.mem ((c.tc : Thread Cert.FfnBwdIdeal.nD Cert.FfnBwdIdeal.τ).loc Cert.FfnBwdIdeal.main_v57_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v109) = v0 c
          ∧ r.2.mem ((c.tc : Thread Cert.FfnRefIdeal.nD Cert.FfnRefIdeal.τ).loc Cert.FfnRefIdeal.main_v110) = v1 c
          ∧ r.2.mem ((c.tc : Thread Cert.FfnRefIdeal.nD Cert.FfnRefIdeal.τ).loc Cert.FfnRefIdeal.main_v102) = v2 c
          ∧ r.2.mem ((c.tc : Thread Cert.FfnRefIdeal.nD Cert.FfnRefIdeal.τ).loc Cert.FfnRefIdeal.main_v108) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v7) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_FfnFwd_FfnFwdIdeal : Prop :=
  True

def algebraic_FfnFwdIdeal_FfnFwdRefIdeal_pre_ffn_fwd_finite [hFfnFwdIdeal : Cert.FfnFwdIdeal.Facts] [hFfnFwdRefIdeal : Cert.FfnFwdRefIdeal.Facts] [hPre_ffn_fwd_finite : Cert.Pre_ffn_fwd_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_ffn_fwd_finite m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)) →
    ∃ (v0 : (c : Dev Cert.FfnFwdIdeal.nD) → Buf (Elt Ideal) ((c.tc : Thread Cert.FfnFwdIdeal.nD Cert.FfnFwdIdeal.τ).loc Cert.FfnFwdIdeal.main_v9_0)) (v1 : (c : Dev Cert.FfnFwdIdeal.nD) → Buf (Elt Ideal) ((c.tc : Thread Cert.FfnFwdIdeal.nD Cert.FfnFwdIdeal.τ).loc Cert.FfnFwdIdeal.main_v9_1)) (v2 : (c : Dev Cert.FfnFwdIdeal.nD) → Buf (Elt Ideal) ((c.tc : Thread Cert.FfnFwdIdeal.nD Cert.FfnFwdIdeal.τ).loc Cert.FfnFwdIdeal.main_v9_2)) (v3 : (c : Dev Cert.FfnFwdIdeal.nD) → Buf (Elt Ideal) ((c.tc : Thread Cert.FfnFwdIdeal.nD Cert.FfnFwdIdeal.τ).loc Cert.FfnFwdIdeal.main_v9_3)) (v4 : (c : Dev Cert.FfnFwdIdeal.nD) → Buf (Elt Ideal) ((c.tc : Thread Cert.FfnFwdIdeal.nD Cert.FfnFwdIdeal.τ).loc Cert.FfnFwdIdeal.main_v9_4)) (v5 : (c : Dev Cert.FfnFwdIdeal.nD) → Buf (Elt Ideal) ((c.tc : Thread Cert.FfnFwdIdeal.nD Cert.FfnFwdIdeal.τ).loc Cert.FfnFwdIdeal.main_v9_5)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v9_0) = v0 c
          ∧ r.2.mem ((c.tc : Thread Cert.FfnFwdIdeal.nD Cert.FfnFwdIdeal.τ).loc Cert.FfnFwdIdeal.main_v9_1) = v1 c
          ∧ r.2.mem ((c.tc : Thread Cert.FfnFwdIdeal.nD Cert.FfnFwdIdeal.τ).loc Cert.FfnFwdIdeal.main_v9_2) = v2 c
          ∧ r.2.mem ((c.tc : Thread Cert.FfnFwdIdeal.nD Cert.FfnFwdIdeal.τ).loc Cert.FfnFwdIdeal.main_v9_3) = v3 c
          ∧ r.2.mem ((c.tc : Thread Cert.FfnFwdIdeal.nD Cert.FfnFwdIdeal.τ).loc Cert.FfnFwdIdeal.main_v9_4) = v4 c
          ∧ r.2.mem ((c.tc : Thread Cert.FfnFwdIdeal.nD Cert.FfnFwdIdeal.τ).loc Cert.FfnFwdIdeal.main_v9_5) = v5 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v50) = v0 c
          ∧ r.2.mem ((c.tc : Thread Cert.FfnFwdRefIdeal.nD Cert.FfnFwdRefIdeal.τ).loc Cert.FfnFwdRefIdeal.main_v51) = v1 c
          ∧ r.2.mem ((c.tc : Thread Cert.FfnFwdRefIdeal.nD Cert.FfnFwdRefIdeal.τ).loc Cert.FfnFwdRefIdeal.main_v52) = v2 c
          ∧ r.2.mem ((c.tc : Thread Cert.FfnFwdRefIdeal.nD Cert.FfnFwdRefIdeal.τ).loc Cert.FfnFwdRefIdeal.main_v53) = v3 c
          ∧ r.2.mem ((c.tc : Thread Cert.FfnFwdRefIdeal.nD Cert.FfnFwdRefIdeal.τ).loc Cert.FfnFwdRefIdeal.main_v54) = v4 c
          ∧ r.2.mem ((c.tc : Thread Cert.FfnFwdRefIdeal.nD Cert.FfnFwdRefIdeal.τ).loc Cert.FfnFwdRefIdeal.main_v55) = v5 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6))

def preserves_DwConvOut_DwConvOutIdeal : Prop :=
  True

def algebraic_DwConvOutIdeal_DwConvOutRefIdeal [hDwConvOutIdeal : Cert.DwConvOutIdeal.Facts] [hDwConvOutRefIdeal : Cert.DwConvOutRefIdeal.Facts] : Prop :=
  ∀ (m : (ℓ : Loc Cert.DwConvOutIdeal.nD Cert.DwConvOutIdeal.τ Cert.DwConvOutIdeal.sig) → Buf (Elt Ideal) ℓ) (g : Dev Cert.DwConvOutIdeal.nD → PrngReg)
    (m' : (ℓ : Loc Cert.DwConvOutRefIdeal.nD Cert.DwConvOutRefIdeal.τ Cert.DwConvOutRefIdeal.sig) → Buf (Elt Ideal) ℓ) (g' : Dev Cert.DwConvOutRefIdeal.nD → PrngReg), Pre_DwConvOutIdeal m →
    (∀ c : Dev Cert.DwConvOutIdeal.nD,
      m' ((c.tc : Thread Cert.DwConvOutRefIdeal.nD Cert.DwConvOutRefIdeal.τ).loc Cert.DwConvOutRefIdeal.main_arg0) = m ((c.tc : Thread Cert.DwConvOutIdeal.nD Cert.DwConvOutIdeal.τ).loc Cert.DwConvOutIdeal.main_arg0)
      ∧ m' ((c.tc : Thread Cert.DwConvOutRefIdeal.nD Cert.DwConvOutRefIdeal.τ).loc Cert.DwConvOutRefIdeal.main_arg1) = m ((c.tc : Thread Cert.DwConvOutIdeal.nD Cert.DwConvOutIdeal.τ).loc Cert.DwConvOutIdeal.main_arg1)) →
    ∃ (v0 : (c : Dev Cert.DwConvOutIdeal.nD) → Buf (Elt Ideal) ((c.tc : Thread Cert.DwConvOutIdeal.nD Cert.DwConvOutIdeal.τ).loc Cert.DwConvOutIdeal.main_v0)),
      θ_run (Cert.DwConvOutIdeal.defs (F := Ideal)) (onTc (τ := Cert.DwConvOutIdeal.τ) (Cert.DwConvOutIdeal.main (F := Ideal))) ⟨m, fun _ => 0, g⟩ (fun r => ∀ c : Dev Cert.DwConvOutIdeal.nD,
          r.2.mem ((c.tc : Thread Cert.DwConvOutIdeal.nD Cert.DwConvOutIdeal.τ).loc Cert.DwConvOutIdeal.main_v0) = v0 c
          ∧ r.2.mem ((c.tc : Thread Cert.DwConvOutIdeal.nD Cert.DwConvOutIdeal.τ).loc Cert.DwConvOutIdeal.main_arg0) = m ((c.tc : Thread Cert.DwConvOutIdeal.nD Cert.DwConvOutIdeal.τ).loc Cert.DwConvOutIdeal.main_arg0)
          ∧ r.2.mem ((c.tc : Thread Cert.DwConvOutIdeal.nD Cert.DwConvOutIdeal.τ).loc Cert.DwConvOutIdeal.main_arg1) = m ((c.tc : Thread Cert.DwConvOutIdeal.nD Cert.DwConvOutIdeal.τ).loc Cert.DwConvOutIdeal.main_arg1))
      ∧ θ_run (Cert.DwConvOutRefIdeal.defs (F := Ideal)) (onTc (τ := Cert.DwConvOutRefIdeal.τ) (Cert.DwConvOutRefIdeal.main (F := Ideal))) ⟨m', fun _ => 0, g'⟩ (fun r => ∀ c : Dev Cert.DwConvOutRefIdeal.nD,
          r.2.mem ((c.tc : Thread Cert.DwConvOutRefIdeal.nD Cert.DwConvOutRefIdeal.τ).loc Cert.DwConvOutRefIdeal.main_v6) = v0 c
          ∧ r.2.mem ((c.tc : Thread Cert.DwConvOutRefIdeal.nD Cert.DwConvOutRefIdeal.τ).loc Cert.DwConvOutRefIdeal.main_arg0) = m' ((c.tc : Thread Cert.DwConvOutRefIdeal.nD Cert.DwConvOutRefIdeal.τ).loc Cert.DwConvOutRefIdeal.main_arg0)
          ∧ r.2.mem ((c.tc : Thread Cert.DwConvOutRefIdeal.nD Cert.DwConvOutRefIdeal.τ).loc Cert.DwConvOutRefIdeal.main_arg1) = m' ((c.tc : Thread Cert.DwConvOutRefIdeal.nD Cert.DwConvOutRefIdeal.τ).loc Cert.DwConvOutRefIdeal.main_arg1))

def preserves_DwConvIn_DwConvInIdeal : Prop :=
  True

def algebraic_DwConvInIdeal_DwConvInRefIdeal [hDwConvInIdeal : Cert.DwConvInIdeal.Facts] [hDwConvInRefIdeal : Cert.DwConvInRefIdeal.Facts] : Prop :=
  ∀ (m : (ℓ : Loc Cert.DwConvInIdeal.nD Cert.DwConvInIdeal.τ Cert.DwConvInIdeal.sig) → Buf (Elt Ideal) ℓ) (g : Dev Cert.DwConvInIdeal.nD → PrngReg)
    (m' : (ℓ : Loc Cert.DwConvInRefIdeal.nD Cert.DwConvInRefIdeal.τ Cert.DwConvInRefIdeal.sig) → Buf (Elt Ideal) ℓ) (g' : Dev Cert.DwConvInRefIdeal.nD → PrngReg), Pre_DwConvInIdeal m →
    (∀ c : Dev Cert.DwConvInIdeal.nD,
      m' ((c.tc : Thread Cert.DwConvInRefIdeal.nD Cert.DwConvInRefIdeal.τ).loc Cert.DwConvInRefIdeal.main_arg0) = m ((c.tc : Thread Cert.DwConvInIdeal.nD Cert.DwConvInIdeal.τ).loc Cert.DwConvInIdeal.main_arg0)
      ∧ m' ((c.tc : Thread Cert.DwConvInRefIdeal.nD Cert.DwConvInRefIdeal.τ).loc Cert.DwConvInRefIdeal.main_arg1) = m ((c.tc : Thread Cert.DwConvInIdeal.nD Cert.DwConvInIdeal.τ).loc Cert.DwConvInIdeal.main_arg1)) →
    ∃ (v0 : (c : Dev Cert.DwConvInIdeal.nD) → Buf (Elt Ideal) ((c.tc : Thread Cert.DwConvInIdeal.nD Cert.DwConvInIdeal.τ).loc Cert.DwConvInIdeal.main_v0)),
      θ_run (Cert.DwConvInIdeal.defs (F := Ideal)) (onTc (τ := Cert.DwConvInIdeal.τ) (Cert.DwConvInIdeal.main (F := Ideal))) ⟨m, fun _ => 0, g⟩ (fun r => ∀ c : Dev Cert.DwConvInIdeal.nD,
          r.2.mem ((c.tc : Thread Cert.DwConvInIdeal.nD Cert.DwConvInIdeal.τ).loc Cert.DwConvInIdeal.main_v0) = v0 c
          ∧ r.2.mem ((c.tc : Thread Cert.DwConvInIdeal.nD Cert.DwConvInIdeal.τ).loc Cert.DwConvInIdeal.main_arg0) = m ((c.tc : Thread Cert.DwConvInIdeal.nD Cert.DwConvInIdeal.τ).loc Cert.DwConvInIdeal.main_arg0)
          ∧ r.2.mem ((c.tc : Thread Cert.DwConvInIdeal.nD Cert.DwConvInIdeal.τ).loc Cert.DwConvInIdeal.main_arg1) = m ((c.tc : Thread Cert.DwConvInIdeal.nD Cert.DwConvInIdeal.τ).loc Cert.DwConvInIdeal.main_arg1))
      ∧ θ_run (Cert.DwConvInRefIdeal.defs (F := Ideal)) (onTc (τ := Cert.DwConvInRefIdeal.τ) (Cert.DwConvInRefIdeal.main (F := Ideal))) ⟨m', fun _ => 0, g'⟩ (fun r => ∀ c : Dev Cert.DwConvInRefIdeal.nD,
          r.2.mem ((c.tc : Thread Cert.DwConvInRefIdeal.nD Cert.DwConvInRefIdeal.τ).loc Cert.DwConvInRefIdeal.main_v8) = v0 c
          ∧ r.2.mem ((c.tc : Thread Cert.DwConvInRefIdeal.nD Cert.DwConvInRefIdeal.τ).loc Cert.DwConvInRefIdeal.main_arg0) = m' ((c.tc : Thread Cert.DwConvInRefIdeal.nD Cert.DwConvInRefIdeal.τ).loc Cert.DwConvInRefIdeal.main_arg0)
          ∧ r.2.mem ((c.tc : Thread Cert.DwConvInRefIdeal.nD Cert.DwConvInRefIdeal.τ).loc Cert.DwConvInRefIdeal.main_arg1) = m' ((c.tc : Thread Cert.DwConvInRefIdeal.nD Cert.DwConvInRefIdeal.τ).loc Cert.DwConvInRefIdeal.main_arg1))

def preserves_DwAttnO_DwAttnOIdeal : Prop :=
  True

def algebraic_DwAttnOIdeal_DwAttnORefIdeal [hDwAttnOIdeal : Cert.DwAttnOIdeal.Facts] [hDwAttnORefIdeal : Cert.DwAttnORefIdeal.Facts] : Prop :=
  ∀ (m : (ℓ : Loc Cert.DwAttnOIdeal.nD Cert.DwAttnOIdeal.τ Cert.DwAttnOIdeal.sig) → Buf (Elt Ideal) ℓ) (g : Dev Cert.DwAttnOIdeal.nD → PrngReg)
    (m' : (ℓ : Loc Cert.DwAttnORefIdeal.nD Cert.DwAttnORefIdeal.τ Cert.DwAttnORefIdeal.sig) → Buf (Elt Ideal) ℓ) (g' : Dev Cert.DwAttnORefIdeal.nD → PrngReg), Pre_DwAttnOIdeal m →
    (∀ c : Dev Cert.DwAttnOIdeal.nD,
      m' ((c.tc : Thread Cert.DwAttnORefIdeal.nD Cert.DwAttnORefIdeal.τ).loc Cert.DwAttnORefIdeal.main_arg0) = m ((c.tc : Thread Cert.DwAttnOIdeal.nD Cert.DwAttnOIdeal.τ).loc Cert.DwAttnOIdeal.main_arg0)
      ∧ m' ((c.tc : Thread Cert.DwAttnORefIdeal.nD Cert.DwAttnORefIdeal.τ).loc Cert.DwAttnORefIdeal.main_arg1) = m ((c.tc : Thread Cert.DwAttnOIdeal.nD Cert.DwAttnOIdeal.τ).loc Cert.DwAttnOIdeal.main_arg1)) →
    ∃ (v0 : (c : Dev Cert.DwAttnOIdeal.nD) → Buf (Elt Ideal) ((c.tc : Thread Cert.DwAttnOIdeal.nD Cert.DwAttnOIdeal.τ).loc Cert.DwAttnOIdeal.main_v0)),
      θ_run (Cert.DwAttnOIdeal.defs (F := Ideal)) (onTc (τ := Cert.DwAttnOIdeal.τ) (Cert.DwAttnOIdeal.main (F := Ideal))) ⟨m, fun _ => 0, g⟩ (fun r => ∀ c : Dev Cert.DwAttnOIdeal.nD,
          r.2.mem ((c.tc : Thread Cert.DwAttnOIdeal.nD Cert.DwAttnOIdeal.τ).loc Cert.DwAttnOIdeal.main_v0) = v0 c
          ∧ r.2.mem ((c.tc : Thread Cert.DwAttnOIdeal.nD Cert.DwAttnOIdeal.τ).loc Cert.DwAttnOIdeal.main_arg0) = m ((c.tc : Thread Cert.DwAttnOIdeal.nD Cert.DwAttnOIdeal.τ).loc Cert.DwAttnOIdeal.main_arg0)
          ∧ r.2.mem ((c.tc : Thread Cert.DwAttnOIdeal.nD Cert.DwAttnOIdeal.τ).loc Cert.DwAttnOIdeal.main_arg1) = m ((c.tc : Thread Cert.DwAttnOIdeal.nD Cert.DwAttnOIdeal.τ).loc Cert.DwAttnOIdeal.main_arg1))
      ∧ θ_run (Cert.DwAttnORefIdeal.defs (F := Ideal)) (onTc (τ := Cert.DwAttnORefIdeal.τ) (Cert.DwAttnORefIdeal.main (F := Ideal))) ⟨m', fun _ => 0, g'⟩ (fun r => ∀ c : Dev Cert.DwAttnORefIdeal.nD,
          r.2.mem ((c.tc : Thread Cert.DwAttnORefIdeal.nD Cert.DwAttnORefIdeal.τ).loc Cert.DwAttnORefIdeal.main_v8) = v0 c
          ∧ r.2.mem ((c.tc : Thread Cert.DwAttnORefIdeal.nD Cert.DwAttnORefIdeal.τ).loc Cert.DwAttnORefIdeal.main_arg0) = m' ((c.tc : Thread Cert.DwAttnORefIdeal.nD Cert.DwAttnORefIdeal.τ).loc Cert.DwAttnORefIdeal.main_arg0)
          ∧ r.2.mem ((c.tc : Thread Cert.DwAttnORefIdeal.nD Cert.DwAttnORefIdeal.τ).loc Cert.DwAttnORefIdeal.main_arg1) = m' ((c.tc : Thread Cert.DwAttnORefIdeal.nD Cert.DwAttnORefIdeal.τ).loc Cert.DwAttnORefIdeal.main_arg1))

def preserves_DwAttnQ_DwAttnQIdeal : Prop :=
  True

def algebraic_DwAttnQIdeal_DwAttnQRefIdeal [hDwAttnQIdeal : Cert.DwAttnQIdeal.Facts] [hDwAttnQRefIdeal : Cert.DwAttnQRefIdeal.Facts] : Prop :=
  ∀ (m : (ℓ : Loc Cert.DwAttnQIdeal.nD Cert.DwAttnQIdeal.τ Cert.DwAttnQIdeal.sig) → Buf (Elt Ideal) ℓ) (g : Dev Cert.DwAttnQIdeal.nD → PrngReg)
    (m' : (ℓ : Loc Cert.DwAttnQRefIdeal.nD Cert.DwAttnQRefIdeal.τ Cert.DwAttnQRefIdeal.sig) → Buf (Elt Ideal) ℓ) (g' : Dev Cert.DwAttnQRefIdeal.nD → PrngReg), Pre_DwAttnQIdeal m →
    (∀ c : Dev Cert.DwAttnQIdeal.nD,
      m' ((c.tc : Thread Cert.DwAttnQRefIdeal.nD Cert.DwAttnQRefIdeal.τ).loc Cert.DwAttnQRefIdeal.main_arg0) = m ((c.tc : Thread Cert.DwAttnQIdeal.nD Cert.DwAttnQIdeal.τ).loc Cert.DwAttnQIdeal.main_arg0)
      ∧ m' ((c.tc : Thread Cert.DwAttnQRefIdeal.nD Cert.DwAttnQRefIdeal.τ).loc Cert.DwAttnQRefIdeal.main_arg1) = m ((c.tc : Thread Cert.DwAttnQIdeal.nD Cert.DwAttnQIdeal.τ).loc Cert.DwAttnQIdeal.main_arg1)) →
    ∃ (v0 : (c : Dev Cert.DwAttnQIdeal.nD) → Buf (Elt Ideal) ((c.tc : Thread Cert.DwAttnQIdeal.nD Cert.DwAttnQIdeal.τ).loc Cert.DwAttnQIdeal.main_v0)),
      θ_run (Cert.DwAttnQIdeal.defs (F := Ideal)) (onTc (τ := Cert.DwAttnQIdeal.τ) (Cert.DwAttnQIdeal.main (F := Ideal))) ⟨m, fun _ => 0, g⟩ (fun r => ∀ c : Dev Cert.DwAttnQIdeal.nD,
          r.2.mem ((c.tc : Thread Cert.DwAttnQIdeal.nD Cert.DwAttnQIdeal.τ).loc Cert.DwAttnQIdeal.main_v0) = v0 c
          ∧ r.2.mem ((c.tc : Thread Cert.DwAttnQIdeal.nD Cert.DwAttnQIdeal.τ).loc Cert.DwAttnQIdeal.main_arg0) = m ((c.tc : Thread Cert.DwAttnQIdeal.nD Cert.DwAttnQIdeal.τ).loc Cert.DwAttnQIdeal.main_arg0)
          ∧ r.2.mem ((c.tc : Thread Cert.DwAttnQIdeal.nD Cert.DwAttnQIdeal.τ).loc Cert.DwAttnQIdeal.main_arg1) = m ((c.tc : Thread Cert.DwAttnQIdeal.nD Cert.DwAttnQIdeal.τ).loc Cert.DwAttnQIdeal.main_arg1))
      ∧ θ_run (Cert.DwAttnQRefIdeal.defs (F := Ideal)) (onTc (τ := Cert.DwAttnQRefIdeal.τ) (Cert.DwAttnQRefIdeal.main (F := Ideal))) ⟨m', fun _ => 0, g'⟩ (fun r => ∀ c : Dev Cert.DwAttnQRefIdeal.nD,
          r.2.mem ((c.tc : Thread Cert.DwAttnQRefIdeal.nD Cert.DwAttnQRefIdeal.τ).loc Cert.DwAttnQRefIdeal.main_v7) = v0 c
          ∧ r.2.mem ((c.tc : Thread Cert.DwAttnQRefIdeal.nD Cert.DwAttnQRefIdeal.τ).loc Cert.DwAttnQRefIdeal.main_arg0) = m' ((c.tc : Thread Cert.DwAttnQRefIdeal.nD Cert.DwAttnQRefIdeal.τ).loc Cert.DwAttnQRefIdeal.main_arg0)
          ∧ r.2.mem ((c.tc : Thread Cert.DwAttnQRefIdeal.nD Cert.DwAttnQRefIdeal.τ).loc Cert.DwAttnQRefIdeal.main_arg1) = m' ((c.tc : Thread Cert.DwAttnQRefIdeal.nD Cert.DwAttnQRefIdeal.τ).loc Cert.DwAttnQRefIdeal.main_arg1))

def preserves_DwKv_DwKvIdeal : Prop :=
  True

def algebraic_DwKvIdeal_DwKvRefIdeal [hDwKvIdeal : Cert.DwKvIdeal.Facts] [hDwKvRefIdeal : Cert.DwKvRefIdeal.Facts] : Prop :=
  ∀ (m : (ℓ : Loc Cert.DwKvIdeal.nD Cert.DwKvIdeal.τ Cert.DwKvIdeal.sig) → Buf (Elt Ideal) ℓ) (g : Dev Cert.DwKvIdeal.nD → PrngReg)
    (m' : (ℓ : Loc Cert.DwKvRefIdeal.nD Cert.DwKvRefIdeal.τ Cert.DwKvRefIdeal.sig) → Buf (Elt Ideal) ℓ) (g' : Dev Cert.DwKvRefIdeal.nD → PrngReg), Pre_DwKvIdeal m →
    (∀ c : Dev Cert.DwKvIdeal.nD,
      m' ((c.tc : Thread Cert.DwKvRefIdeal.nD Cert.DwKvRefIdeal.τ).loc Cert.DwKvRefIdeal.main_arg0) = m ((c.tc : Thread Cert.DwKvIdeal.nD Cert.DwKvIdeal.τ).loc Cert.DwKvIdeal.main_arg0)
      ∧ m' ((c.tc : Thread Cert.DwKvRefIdeal.nD Cert.DwKvRefIdeal.τ).loc Cert.DwKvRefIdeal.main_arg1) = m ((c.tc : Thread Cert.DwKvIdeal.nD Cert.DwKvIdeal.τ).loc Cert.DwKvIdeal.main_arg1)) →
    ∃ (v0 : (c : Dev Cert.DwKvIdeal.nD) → Buf (Elt Ideal) ((c.tc : Thread Cert.DwKvIdeal.nD Cert.DwKvIdeal.τ).loc Cert.DwKvIdeal.main_v0)),
      θ_run (Cert.DwKvIdeal.defs (F := Ideal)) (onTc (τ := Cert.DwKvIdeal.τ) (Cert.DwKvIdeal.main (F := Ideal))) ⟨m, fun _ => 0, g⟩ (fun r => ∀ c : Dev Cert.DwKvIdeal.nD,
          r.2.mem ((c.tc : Thread Cert.DwKvIdeal.nD Cert.DwKvIdeal.τ).loc Cert.DwKvIdeal.main_v0) = v0 c
          ∧ r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
          ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ θ_run (Cert.DwKvRefIdeal.defs (F := Ideal)) (onTc (τ := Cert.DwKvRefIdeal.τ) (Cert.DwKvRefIdeal.main (F := Ideal))) ⟨m', fun _ => 0, g'⟩ (fun r => ∀ c : Dev Cert.DwKvRefIdeal.nD,
          r.2.mem ((c.tc : Thread Cert.DwKvRefIdeal.nD Cert.DwKvRefIdeal.τ).loc Cert.DwKvRefIdeal.main_v8) = v0 c
          ∧ r.2.mem ((c.tc : Thread Cert.DwKvRefIdeal.nD Cert.DwKvRefIdeal.τ).loc Cert.DwKvRefIdeal.main_arg0) = m' ((c.tc : Thread Cert.DwKvRefIdeal.nD Cert.DwKvRefIdeal.τ).loc Cert.DwKvRefIdeal.main_arg0)
          ∧ r.2.mem ((c.tc : Thread Cert.DwKvRefIdeal.nD Cert.DwKvRefIdeal.τ).loc Cert.DwKvRefIdeal.main_arg1) = m' ((c.tc : Thread Cert.DwKvRefIdeal.nD Cert.DwKvRefIdeal.τ).loc Cert.DwKvRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)
      ∧ m' ((c.tc : Thread Cert.ConvFwdRefIdeal.nD Cert.ConvFwdRefIdeal.τ).loc Cert.ConvFwdRefIdeal.main_arg5) = m ((c.tc : Thread Cert.ConvFwdIdeal.nD Cert.ConvFwdIdeal.τ).loc Cert.ConvFwdIdeal.main_arg5)
      ∧ m' ((c.tc : Thread Cert.ConvFwdRefIdeal.nD Cert.ConvFwdRefIdeal.τ).loc Cert.ConvFwdRefIdeal.main_arg6) = m ((c.tc : Thread Cert.ConvFwdIdeal.nD Cert.ConvFwdIdeal.τ).loc Cert.ConvFwdIdeal.main_arg6)
      ∧ m' ((c.tc : Thread Cert.ConvFwdRefIdeal.nD Cert.ConvFwdRefIdeal.τ).loc Cert.ConvFwdRefIdeal.main_arg7) = m ((c.tc : Thread Cert.ConvFwdIdeal.nD Cert.ConvFwdIdeal.τ).loc Cert.ConvFwdIdeal.main_arg7)) →
    ∃ (v0 : (c : Dev Cert.ConvFwdIdeal.nD) → Buf (Elt Ideal) ((c.tc : Thread Cert.ConvFwdIdeal.nD Cert.ConvFwdIdeal.τ).loc Cert.ConvFwdIdeal.main_v19_0)) (v1 : (c : Dev Cert.ConvFwdIdeal.nD) → Buf (Elt Ideal) ((c.tc : Thread Cert.ConvFwdIdeal.nD Cert.ConvFwdIdeal.τ).loc Cert.ConvFwdIdeal.main_v19_1)) (v2 : (c : Dev Cert.ConvFwdIdeal.nD) → Buf (Elt Ideal) ((c.tc : Thread Cert.ConvFwdIdeal.nD Cert.ConvFwdIdeal.τ).loc Cert.ConvFwdIdeal.main_v19_2)) (v3 : (c : Dev Cert.ConvFwdIdeal.nD) → Buf (Elt Ideal) ((c.tc : Thread Cert.ConvFwdIdeal.nD Cert.ConvFwdIdeal.τ).loc Cert.ConvFwdIdeal.main_v19_3)) (v4 : (c : Dev Cert.ConvFwdIdeal.nD) → Buf (Elt Ideal) ((c.tc : Thread Cert.ConvFwdIdeal.nD Cert.ConvFwdIdeal.τ).loc Cert.ConvFwdIdeal.main_v19_4)) (v5 : (c : Dev Cert.ConvFwdIdeal.nD) → Buf (Elt Ideal) ((c.tc : Thread Cert.ConvFwdIdeal.nD Cert.ConvFwdIdeal.τ).loc Cert.ConvFwdIdeal.main_v19_5)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v19_0) = v0 c
          ∧ r.2.mem ((c.tc : Thread Cert.ConvFwdIdeal.nD Cert.ConvFwdIdeal.τ).loc Cert.ConvFwdIdeal.main_v19_1) = v1 c
          ∧ r.2.mem ((c.tc : Thread Cert.ConvFwdIdeal.nD Cert.ConvFwdIdeal.τ).loc Cert.ConvFwdIdeal.main_v19_2) = v2 c
          ∧ r.2.mem ((c.tc : Thread Cert.ConvFwdIdeal.nD Cert.ConvFwdIdeal.τ).loc Cert.ConvFwdIdeal.main_v19_3) = v3 c
          ∧ r.2.mem ((c.tc : Thread Cert.ConvFwdIdeal.nD Cert.ConvFwdIdeal.τ).loc Cert.ConvFwdIdeal.main_v19_4) = v4 c
          ∧ r.2.mem ((c.tc : Thread Cert.ConvFwdIdeal.nD Cert.ConvFwdIdeal.τ).loc Cert.ConvFwdIdeal.main_v19_5) = v5 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
          ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5)
          ∧ r.2.mem ((c.tc : Thread Cert.ConvFwdIdeal.nD Cert.ConvFwdIdeal.τ).loc Cert.ConvFwdIdeal.main_arg6) = m ((c.tc : Thread Cert.ConvFwdIdeal.nD Cert.ConvFwdIdeal.τ).loc Cert.ConvFwdIdeal.main_arg6)
          ∧ r.2.mem ((c.tc : Thread Cert.ConvFwdIdeal.nD Cert.ConvFwdIdeal.τ).loc Cert.ConvFwdIdeal.main_arg7) = m ((c.tc : Thread Cert.ConvFwdIdeal.nD Cert.ConvFwdIdeal.τ).loc Cert.ConvFwdIdeal.main_arg7))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v55) = v0 c
          ∧ r.2.mem ((c.tc : Thread Cert.ConvFwdRefIdeal.nD Cert.ConvFwdRefIdeal.τ).loc Cert.ConvFwdRefIdeal.main_v56) = v1 c
          ∧ r.2.mem ((c.tc : Thread Cert.ConvFwdRefIdeal.nD Cert.ConvFwdRefIdeal.τ).loc Cert.ConvFwdRefIdeal.main_v57) = v2 c
          ∧ r.2.mem ((c.tc : Thread Cert.ConvFwdRefIdeal.nD Cert.ConvFwdRefIdeal.τ).loc Cert.ConvFwdRefIdeal.main_v58) = v3 c
          ∧ r.2.mem ((c.tc : Thread Cert.ConvFwdRefIdeal.nD Cert.ConvFwdRefIdeal.τ).loc Cert.ConvFwdRefIdeal.main_v59) = v4 c
          ∧ r.2.mem ((c.tc : Thread Cert.ConvFwdRefIdeal.nD Cert.ConvFwdRefIdeal.τ).loc Cert.ConvFwdRefIdeal.main_v60) = v5 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4)
          ∧ r.2.mem ((c.tc : Thread Cert.ConvFwdRefIdeal.nD Cert.ConvFwdRefIdeal.τ).loc Cert.ConvFwdRefIdeal.main_arg5) = m' ((c.tc : Thread Cert.ConvFwdRefIdeal.nD Cert.ConvFwdRefIdeal.τ).loc Cert.ConvFwdRefIdeal.main_arg5)
          ∧ r.2.mem ((c.tc : Thread Cert.ConvFwdRefIdeal.nD Cert.ConvFwdRefIdeal.τ).loc Cert.ConvFwdRefIdeal.main_arg6) = m' ((c.tc : Thread Cert.ConvFwdRefIdeal.nD Cert.ConvFwdRefIdeal.τ).loc Cert.ConvFwdRefIdeal.main_arg6)
          ∧ r.2.mem ((c.tc : Thread Cert.ConvFwdRefIdeal.nD Cert.ConvFwdRefIdeal.τ).loc Cert.ConvFwdRefIdeal.main_arg7) = m' ((c.tc : Thread Cert.ConvFwdRefIdeal.nD Cert.ConvFwdRefIdeal.τ).loc Cert.ConvFwdRefIdeal.main_arg7))

def preserves_AdamNormG_AdamNormGIdeal : Prop :=
  True

def algebraic_AdamNormGIdeal_AdamNormGRefIdeal [hAdamNormGIdeal : Cert.AdamNormGIdeal.Facts] [hAdamNormGRefIdeal : Cert.AdamNormGRefIdeal.Facts] : Prop :=
  ∀ (m : (ℓ : Loc Cert.AdamNormGIdeal.nD Cert.AdamNormGIdeal.τ Cert.AdamNormGIdeal.sig) → Buf (Elt Ideal) ℓ) (g : Dev Cert.AdamNormGIdeal.nD → PrngReg)
    (m' : (ℓ : Loc Cert.AdamNormGRefIdeal.nD Cert.AdamNormGRefIdeal.τ Cert.AdamNormGRefIdeal.sig) → Buf (Elt Ideal) ℓ) (g' : Dev Cert.AdamNormGRefIdeal.nD → PrngReg), Pre_AdamNormGIdeal m →
    (∀ c : Dev Cert.AdamNormGIdeal.nD,
      m' ((c.tc : Thread Cert.AdamNormGRefIdeal.nD Cert.AdamNormGRefIdeal.τ).loc Cert.AdamNormGRefIdeal.main_arg0) = m ((c.tc : Thread Cert.AdamNormGIdeal.nD Cert.AdamNormGIdeal.τ).loc Cert.AdamNormGIdeal.main_arg0)
      ∧ m' ((c.tc : Thread Cert.AdamNormGRefIdeal.nD Cert.AdamNormGRefIdeal.τ).loc Cert.AdamNormGRefIdeal.main_arg1) = m ((c.tc : Thread Cert.AdamNormGIdeal.nD Cert.AdamNormGIdeal.τ).loc Cert.AdamNormGIdeal.main_arg1)
      ∧ m' ((c.tc : Thread Cert.AdamNormGRefIdeal.nD Cert.AdamNormGRefIdeal.τ).loc Cert.AdamNormGRefIdeal.main_arg2) = m ((c.tc : Thread Cert.AdamNormGIdeal.nD Cert.AdamNormGIdeal.τ).loc Cert.AdamNormGIdeal.main_arg2)
      ∧ m' ((c.tc : Thread Cert.AdamNormGRefIdeal.nD Cert.AdamNormGRefIdeal.τ).loc Cert.AdamNormGRefIdeal.main_arg3) = m ((c.tc : Thread Cert.AdamNormGIdeal.nD Cert.AdamNormGIdeal.τ).loc Cert.AdamNormGIdeal.main_arg3)) →
    ∃ (v0 : (c : Dev Cert.AdamNormGIdeal.nD) → Buf (Elt Ideal) ((c.tc : Thread Cert.AdamNormGIdeal.nD Cert.AdamNormGIdeal.τ).loc Cert.AdamNormGIdeal.main_v0_0)) (v1 : (c : Dev Cert.AdamNormGIdeal.nD) → Buf (Elt Ideal) ((c.tc : Thread Cert.AdamNormGIdeal.nD Cert.AdamNormGIdeal.τ).loc Cert.AdamNormGIdeal.main_v0_1)) (v2 : (c : Dev Cert.AdamNormGIdeal.nD) → Buf (Elt Ideal) ((c.tc : Thread Cert.AdamNormGIdeal.nD Cert.AdamNormGIdeal.τ).loc Cert.AdamNormGIdeal.main_v0_2)) (v3 : (c : Dev Cert.AdamNormGIdeal.nD) → Buf (Elt Ideal) ((c.tc : Thread Cert.AdamNormGIdeal.nD Cert.AdamNormGIdeal.τ).loc Cert.AdamNormGIdeal.main_v0_3)),
      θ_run (Cert.AdamNormGIdeal.defs (F := Ideal)) (onTc (τ := Cert.AdamNormGIdeal.τ) (Cert.AdamNormGIdeal.main (F := Ideal))) ⟨m, fun _ => 0, g⟩ (fun r => ∀ c : Dev Cert.AdamNormGIdeal.nD,
          r.2.mem ((c.tc : Thread Cert.AdamNormGIdeal.nD Cert.AdamNormGIdeal.τ).loc Cert.AdamNormGIdeal.main_v0_0) = v0 c
          ∧ r.2.mem ((c.tc : Thread Cert.AdamNormGIdeal.nD Cert.AdamNormGIdeal.τ).loc Cert.AdamNormGIdeal.main_v0_1) = v1 c
          ∧ r.2.mem ((c.tc : Thread Cert.AdamNormGIdeal.nD Cert.AdamNormGIdeal.τ).loc Cert.AdamNormGIdeal.main_v0_2) = v2 c
          ∧ r.2.mem ((c.tc : Thread Cert.AdamNormGIdeal.nD Cert.AdamNormGIdeal.τ).loc Cert.AdamNormGIdeal.main_v0_3) = v3 c
          ∧ r.2.mem ((c.tc : Thread Cert.AdamNormGIdeal.nD Cert.AdamNormGIdeal.τ).loc Cert.AdamNormGIdeal.main_arg0) = m ((c.tc : Thread Cert.AdamNormGIdeal.nD Cert.AdamNormGIdeal.τ).loc Cert.AdamNormGIdeal.main_arg0)
          ∧ r.2.mem ((c.tc : Thread Cert.AdamNormGIdeal.nD Cert.AdamNormGIdeal.τ).loc Cert.AdamNormGIdeal.main_arg1) = m ((c.tc : Thread Cert.AdamNormGIdeal.nD Cert.AdamNormGIdeal.τ).loc Cert.AdamNormGIdeal.main_arg1)
          ∧ r.2.mem ((c.tc : Thread Cert.AdamNormGIdeal.nD Cert.AdamNormGIdeal.τ).loc Cert.AdamNormGIdeal.main_arg2) = m ((c.tc : Thread Cert.AdamNormGIdeal.nD Cert.AdamNormGIdeal.τ).loc Cert.AdamNormGIdeal.main_arg2)
          ∧ r.2.mem ((c.tc : Thread Cert.AdamNormGIdeal.nD Cert.AdamNormGIdeal.τ).loc Cert.AdamNormGIdeal.main_arg3) = m ((c.tc : Thread Cert.AdamNormGIdeal.nD Cert.AdamNormGIdeal.τ).loc Cert.AdamNormGIdeal.main_arg3))
      ∧ θ_run (Cert.AdamNormGRefIdeal.defs (F := Ideal)) (onTc (τ := Cert.AdamNormGRefIdeal.τ) (Cert.AdamNormGRefIdeal.main (F := Ideal))) ⟨m', fun _ => 0, g'⟩ (fun r => ∀ c : Dev Cert.AdamNormGRefIdeal.nD,
          r.2.mem ((c.tc : Thread Cert.AdamNormGRefIdeal.nD Cert.AdamNormGRefIdeal.τ).loc Cert.AdamNormGRefIdeal.main_v0) = v0 c
          ∧ r.2.mem ((c.tc : Thread Cert.AdamNormGRefIdeal.nD Cert.AdamNormGRefIdeal.τ).loc Cert.AdamNormGRefIdeal.main_v24) = v1 c
          ∧ r.2.mem ((c.tc : Thread Cert.AdamNormGRefIdeal.nD Cert.AdamNormGRefIdeal.τ).loc Cert.AdamNormGRefIdeal.main_v5) = v2 c
          ∧ r.2.mem ((c.tc : Thread Cert.AdamNormGRefIdeal.nD Cert.AdamNormGRefIdeal.τ).loc Cert.AdamNormGRefIdeal.main_v11) = v3 c
          ∧ r.2.mem ((c.tc : Thread Cert.AdamNormGRefIdeal.nD Cert.AdamNormGRefIdeal.τ).loc Cert.AdamNormGRefIdeal.main_arg0) = m' ((c.tc : Thread Cert.AdamNormGRefIdeal.nD Cert.AdamNormGRefIdeal.τ).loc Cert.AdamNormGRefIdeal.main_arg0)
          ∧ r.2.mem ((c.tc : Thread Cert.AdamNormGRefIdeal.nD Cert.AdamNormGRefIdeal.τ).loc Cert.AdamNormGRefIdeal.main_arg1) = m' ((c.tc : Thread Cert.AdamNormGRefIdeal.nD Cert.AdamNormGRefIdeal.τ).loc Cert.AdamNormGRefIdeal.main_arg1)
          ∧ r.2.mem ((c.tc : Thread Cert.AdamNormGRefIdeal.nD Cert.AdamNormGRefIdeal.τ).loc Cert.AdamNormGRefIdeal.main_arg2) = m' ((c.tc : Thread Cert.AdamNormGRefIdeal.nD Cert.AdamNormGRefIdeal.τ).loc Cert.AdamNormGRefIdeal.main_arg2)
          ∧ r.2.mem ((c.tc : Thread Cert.AdamNormGRefIdeal.nD Cert.AdamNormGRefIdeal.τ).loc Cert.AdamNormGRefIdeal.main_arg3) = m' ((c.tc : Thread Cert.AdamNormGRefIdeal.nD Cert.AdamNormGRefIdeal.τ).loc Cert.AdamNormGRefIdeal.main_arg3))

def preserves_AdamConvW_AdamConvWIdeal : Prop :=
  True

def algebraic_AdamConvWIdeal_AdamConvWRefIdeal [hAdamConvWIdeal : Cert.AdamConvWIdeal.Facts] [hAdamConvWRefIdeal : Cert.AdamConvWRefIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg)
    (m' : (ℓ : Loc Cert.AdamConvWRefIdeal.nD Cert.AdamConvWRefIdeal.τ Cert.AdamConvWRefIdeal.sig) → Buf (Elt Ideal) ℓ) (g' : Dev Cert.AdamConvWRefIdeal.nD → PrngReg), Pre_AdamConvWIdeal m →
    (∀ c : Dev Cert.AdamConvWIdeal.nD,
      m' ((c.tc : Thread Cert.AdamConvWRefIdeal.nD Cert.AdamConvWRefIdeal.τ).loc Cert.AdamConvWRefIdeal.main_arg0) = m ((c.tc : Thread Cert.AdamConvWIdeal.nD Cert.AdamConvWIdeal.τ).loc Cert.AdamConvWIdeal.main_arg0)
      ∧ m' ((c.tc : Thread Cert.AdamConvWRefIdeal.nD Cert.AdamConvWRefIdeal.τ).loc Cert.AdamConvWRefIdeal.main_arg1) = m ((c.tc : Thread Cert.AdamConvWIdeal.nD Cert.AdamConvWIdeal.τ).loc Cert.AdamConvWIdeal.main_arg1)
      ∧ m' ((c.tc : Thread Cert.AdamConvWRefIdeal.nD Cert.AdamConvWRefIdeal.τ).loc Cert.AdamConvWRefIdeal.main_arg2) = m ((c.tc : Thread Cert.AdamConvWIdeal.nD Cert.AdamConvWIdeal.τ).loc Cert.AdamConvWIdeal.main_arg2)
      ∧ m' ((c.tc : Thread Cert.AdamConvWRefIdeal.nD Cert.AdamConvWRefIdeal.τ).loc Cert.AdamConvWRefIdeal.main_arg3) = m ((c.tc : Thread Cert.AdamConvWIdeal.nD Cert.AdamConvWIdeal.τ).loc Cert.AdamConvWIdeal.main_arg3)) →
    ∃ (v0 : (c : Dev Cert.AdamConvWIdeal.nD) → Buf (Elt Ideal) ((c.tc : Thread Cert.AdamConvWIdeal.nD Cert.AdamConvWIdeal.τ).loc Cert.AdamConvWIdeal.main_v0_0)) (v1 : (c : Dev Cert.AdamConvWIdeal.nD) → Buf (Elt Ideal) ((c.tc : Thread Cert.AdamConvWIdeal.nD Cert.AdamConvWIdeal.τ).loc Cert.AdamConvWIdeal.main_v0_1)) (v2 : (c : Dev Cert.AdamConvWIdeal.nD) → Buf (Elt Ideal) ((c.tc : Thread Cert.AdamConvWIdeal.nD Cert.AdamConvWIdeal.τ).loc Cert.AdamConvWIdeal.main_v0_2)) (v3 : (c : Dev Cert.AdamConvWIdeal.nD) → Buf (Elt Ideal) ((c.tc : Thread Cert.AdamConvWIdeal.nD Cert.AdamConvWIdeal.τ).loc Cert.AdamConvWIdeal.main_v0_3)),
      θ_run (Cert.AdamConvWIdeal.defs (F := Ideal)) (onTc (τ := Cert.AdamConvWIdeal.τ) (Cert.AdamConvWIdeal.main (F := Ideal))) ⟨m, fun _ => 0, g⟩ (fun r => ∀ c : Dev Cert.AdamConvWIdeal.nD,
          r.2.mem ((c.tc : Thread Cert.AdamConvWIdeal.nD Cert.AdamConvWIdeal.τ).loc Cert.AdamConvWIdeal.main_v0_0) = v0 c
          ∧ r.2.mem ((c.tc : Thread Cert.AdamConvWIdeal.nD Cert.AdamConvWIdeal.τ).loc Cert.AdamConvWIdeal.main_v0_1) = v1 c
          ∧ r.2.mem ((c.tc : Thread Cert.AdamConvWIdeal.nD Cert.AdamConvWIdeal.τ).loc Cert.AdamConvWIdeal.main_v0_2) = v2 c
          ∧ r.2.mem ((c.tc : Thread Cert.AdamConvWIdeal.nD Cert.AdamConvWIdeal.τ).loc Cert.AdamConvWIdeal.main_v0_3) = v3 c
          ∧ r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
          ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
          ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
          ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ θ_run (Cert.AdamConvWRefIdeal.defs (F := Ideal)) (onTc (τ := Cert.AdamConvWRefIdeal.τ) (Cert.AdamConvWRefIdeal.main (F := Ideal))) ⟨m', fun _ => 0, g'⟩ (fun r => ∀ c : Dev Cert.AdamConvWRefIdeal.nD,
          r.2.mem ((c.tc : Thread Cert.AdamConvWRefIdeal.nD Cert.AdamConvWRefIdeal.τ).loc Cert.AdamConvWRefIdeal.main_v0) = v0 c
          ∧ r.2.mem ((c.tc : Thread Cert.AdamConvWRefIdeal.nD Cert.AdamConvWRefIdeal.τ).loc Cert.AdamConvWRefIdeal.main_v24) = v1 c
          ∧ r.2.mem ((c.tc : Thread Cert.AdamConvWRefIdeal.nD Cert.AdamConvWRefIdeal.τ).loc Cert.AdamConvWRefIdeal.main_v5) = v2 c
          ∧ r.2.mem ((c.tc : Thread Cert.AdamConvWRefIdeal.nD Cert.AdamConvWRefIdeal.τ).loc Cert.AdamConvWRefIdeal.main_v11) = v3 c
          ∧ r.2.mem ((c.tc : Thread Cert.AdamConvWRefIdeal.nD Cert.AdamConvWRefIdeal.τ).loc Cert.AdamConvWRefIdeal.main_arg0) = m' ((c.tc : Thread Cert.AdamConvWRefIdeal.nD Cert.AdamConvWRefIdeal.τ).loc Cert.AdamConvWRefIdeal.main_arg0)
          ∧ r.2.mem ((c.tc : Thread Cert.AdamConvWRefIdeal.nD Cert.AdamConvWRefIdeal.τ).loc Cert.AdamConvWRefIdeal.main_arg1) = m' ((c.tc : Thread Cert.AdamConvWRefIdeal.nD Cert.AdamConvWRefIdeal.τ).loc Cert.AdamConvWRefIdeal.main_arg1)
          ∧ r.2.mem ((c.tc : Thread Cert.AdamConvWRefIdeal.nD Cert.AdamConvWRefIdeal.τ).loc Cert.AdamConvWRefIdeal.main_arg2) = m' ((c.tc : Thread Cert.AdamConvWRefIdeal.nD Cert.AdamConvWRefIdeal.τ).loc Cert.AdamConvWRefIdeal.main_arg2)
          ∧ r.2.mem ((c.tc : Thread Cert.AdamConvWRefIdeal.nD Cert.AdamConvWRefIdeal.τ).loc Cert.AdamConvWRefIdeal.main_arg3) = m' ((c.tc : Thread Cert.AdamConvWRefIdeal.nD Cert.AdamConvWRefIdeal.τ).loc Cert.AdamConvWRefIdeal.main_arg3))

def preserves_AdamGain_AdamGainIdeal : Prop :=
  True

def algebraic_AdamGainIdeal_AdamGainRefIdeal [hAdamGainIdeal : Cert.AdamGainIdeal.Facts] [hAdamGainRefIdeal : Cert.AdamGainRefIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainRefIdeal.nD Cert.AdamGainRefIdeal.τ Cert.AdamGainRefIdeal.sig) → Buf (Elt Ideal) ℓ) (g' : Dev Cert.AdamGainRefIdeal.nD → PrngReg), Pre_AdamGainIdeal m →
    (∀ c : Dev Cert.AdamGainIdeal.nD,
      m' ((c.tc : Thread Cert.AdamGainRefIdeal.nD Cert.AdamGainRefIdeal.τ).loc Cert.AdamGainRefIdeal.main_arg0) = m ((c.tc : Thread Cert.AdamGainIdeal.nD Cert.AdamGainIdeal.τ).loc Cert.AdamGainIdeal.main_arg0)
      ∧ m' ((c.tc : Thread Cert.AdamGainRefIdeal.nD Cert.AdamGainRefIdeal.τ).loc Cert.AdamGainRefIdeal.main_arg1) = m ((c.tc : Thread Cert.AdamGainIdeal.nD Cert.AdamGainIdeal.τ).loc Cert.AdamGainIdeal.main_arg1)
      ∧ m' ((c.tc : Thread Cert.AdamGainRefIdeal.nD Cert.AdamGainRefIdeal.τ).loc Cert.AdamGainRefIdeal.main_arg2) = m ((c.tc : Thread Cert.AdamGainIdeal.nD Cert.AdamGainIdeal.τ).loc Cert.AdamGainIdeal.main_arg2)
      ∧ m' ((c.tc : Thread Cert.AdamGainRefIdeal.nD Cert.AdamGainRefIdeal.τ).loc Cert.AdamGainRefIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)) (v3 : (c : Dev Cert.AdamGainIdeal.nD) → Buf (Elt Ideal) ((c.tc : Thread Cert.AdamGainIdeal.nD Cert.AdamGainIdeal.τ).loc Cert.AdamGainIdeal.main_v0_3)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_v0_3) = v3 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainRefIdeal.defs (F := Ideal)) (onTc (τ := Cert.AdamGainRefIdeal.τ) (Cert.AdamGainRefIdeal.main (F := Ideal))) ⟨m', fun _ => 0, g'⟩ (fun r => ∀ c : Dev Cert.AdamGainRefIdeal.nD,
          r.2.mem ((c.tc : Thread Cert.AdamGainRefIdeal.nD Cert.AdamGainRefIdeal.τ).loc Cert.AdamGainRefIdeal.main_v0) = v0 c
          ∧ r.2.mem ((c.tc : Thread Cert.AdamGainRefIdeal.nD Cert.AdamGainRefIdeal.τ).loc Cert.AdamGainRefIdeal.main_v24) = v1 c
          ∧ r.2.mem ((c.tc : Thread Cert.AdamGainRefIdeal.nD Cert.AdamGainRefIdeal.τ).loc Cert.AdamGainRefIdeal.main_v5) = v2 c
          ∧ r.2.mem ((c.tc : Thread Cert.AdamGainRefIdeal.nD Cert.AdamGainRefIdeal.τ).loc Cert.AdamGainRefIdeal.main_v11) = v3 c
          ∧ r.2.mem ((c.tc : Thread Cert.AdamGainRefIdeal.nD Cert.AdamGainRefIdeal.τ).loc Cert.AdamGainRefIdeal.main_arg0) = m' ((c.tc : Thread Cert.AdamGainRefIdeal.nD Cert.AdamGainRefIdeal.τ).loc Cert.AdamGainRefIdeal.main_arg0)
          ∧ r.2.mem ((c.tc : Thread Cert.AdamGainRefIdeal.nD Cert.AdamGainRefIdeal.τ).loc Cert.AdamGainRefIdeal.main_arg1) = m' ((c.tc : Thread Cert.AdamGainRefIdeal.nD Cert.AdamGainRefIdeal.τ).loc Cert.AdamGainRefIdeal.main_arg1)
          ∧ r.2.mem ((c.tc : Thread Cert.AdamGainRefIdeal.nD Cert.AdamGainRefIdeal.τ).loc Cert.AdamGainRefIdeal.main_arg2) = m' ((c.tc : Thread Cert.AdamGainRefIdeal.nD Cert.AdamGainRefIdeal.τ).loc Cert.AdamGainRefIdeal.main_arg2)
          ∧ r.2.mem ((c.tc : Thread Cert.AdamGainRefIdeal.nD Cert.AdamGainRefIdeal.τ).loc Cert.AdamGainRefIdeal.main_arg3) = m' ((c.tc : Thread Cert.AdamGainRefIdeal.nD Cert.AdamGainRefIdeal.τ).loc Cert.AdamGainRefIdeal.main_arg3))

def preserves_AdamAdaB_AdamAdaBIdeal : Prop :=
  True

def algebraic_AdamAdaBIdeal_AdamAdaBRefIdeal [hAdamAdaBIdeal : Cert.AdamAdaBIdeal.Facts] [hAdamAdaBRefIdeal : Cert.AdamAdaBRefIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg)
    (m' : (ℓ : Loc Cert.AdamAdaBRefIdeal.nD Cert.AdamAdaBRefIdeal.τ Cert.AdamAdaBRefIdeal.sig) → Buf (Elt Ideal) ℓ) (g' : Dev Cert.AdamAdaBRefIdeal.nD → PrngReg), Pre_AdamAdaBIdeal m →
    (∀ c : Dev Cert.AdamAdaBIdeal.nD,
      m' ((c.tc : Thread Cert.AdamAdaBRefIdeal.nD Cert.AdamAdaBRefIdeal.τ).loc Cert.AdamAdaBRefIdeal.main_arg0) = m ((c.tc : Thread Cert.AdamAdaBIdeal.nD Cert.AdamAdaBIdeal.τ).loc Cert.AdamAdaBIdeal.main_arg0)
      ∧ m' ((c.tc : Thread Cert.AdamAdaBRefIdeal.nD Cert.AdamAdaBRefIdeal.τ).loc Cert.AdamAdaBRefIdeal.main_arg1) = m ((c.tc : Thread Cert.AdamAdaBIdeal.nD Cert.AdamAdaBIdeal.τ).loc Cert.AdamAdaBIdeal.main_arg1)
      ∧ m' ((c.tc : Thread Cert.AdamAdaBRefIdeal.nD Cert.AdamAdaBRefIdeal.τ).loc Cert.AdamAdaBRefIdeal.main_arg2) = m ((c.tc : Thread Cert.AdamAdaBIdeal.nD Cert.AdamAdaBIdeal.τ).loc Cert.AdamAdaBIdeal.main_arg2)
      ∧ m' ((c.tc : Thread Cert.AdamAdaBRefIdeal.nD Cert.AdamAdaBRefIdeal.τ).loc Cert.AdamAdaBRefIdeal.main_arg3) = m ((c.tc : Thread Cert.AdamAdaBIdeal.nD Cert.AdamAdaBIdeal.τ).loc Cert.AdamAdaBIdeal.main_arg3)) →
    ∃ (v0 : (c : Dev Cert.AdamAdaBIdeal.nD) → Buf (Elt Ideal) ((c.tc : Thread Cert.AdamAdaBIdeal.nD Cert.AdamAdaBIdeal.τ).loc Cert.AdamAdaBIdeal.main_v0_0)) (v1 : (c : Dev Cert.AdamAdaBIdeal.nD) → Buf (Elt Ideal) ((c.tc : Thread Cert.AdamAdaBIdeal.nD Cert.AdamAdaBIdeal.τ).loc Cert.AdamAdaBIdeal.main_v0_1)) (v2 : (c : Dev Cert.AdamAdaBIdeal.nD) → Buf (Elt Ideal) ((c.tc : Thread Cert.AdamAdaBIdeal.nD Cert.AdamAdaBIdeal.τ).loc Cert.AdamAdaBIdeal.main_v0_2)) (v3 : (c : Dev Cert.AdamAdaBIdeal.nD) → Buf (Elt Ideal) ((c.tc : Thread Cert.AdamAdaBIdeal.nD Cert.AdamAdaBIdeal.τ).loc Cert.AdamAdaBIdeal.main_v0_3)),
      θ_run (Cert.AdamAdaBIdeal.defs (F := Ideal)) (onTc (τ := Cert.AdamAdaBIdeal.τ) (Cert.AdamAdaBIdeal.main (F := Ideal))) ⟨m, fun _ => 0, g⟩ (fun r => ∀ c : Dev Cert.AdamAdaBIdeal.nD,
          r.2.mem ((c.tc : Thread Cert.AdamAdaBIdeal.nD Cert.AdamAdaBIdeal.τ).loc Cert.AdamAdaBIdeal.main_v0_0) = v0 c
          ∧ r.2.mem ((c.tc : Thread Cert.AdamAdaBIdeal.nD Cert.AdamAdaBIdeal.τ).loc Cert.AdamAdaBIdeal.main_v0_1) = v1 c
          ∧ r.2.mem ((c.tc : Thread Cert.AdamAdaBIdeal.nD Cert.AdamAdaBIdeal.τ).loc Cert.AdamAdaBIdeal.main_v0_2) = v2 c
          ∧ r.2.mem ((c.tc : Thread Cert.AdamAdaBIdeal.nD Cert.AdamAdaBIdeal.τ).loc Cert.AdamAdaBIdeal.main_v0_3) = v3 c
          ∧ r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
          ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
          ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
          ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ θ_run (Cert.AdamAdaBRefIdeal.defs (F := Ideal)) (onTc (τ := Cert.AdamAdaBRefIdeal.τ) (Cert.AdamAdaBRefIdeal.main (F := Ideal))) ⟨m', fun _ => 0, g'⟩ (fun r => ∀ c : Dev Cert.AdamAdaBRefIdeal.nD,
          r.2.mem ((c.tc : Thread Cert.AdamAdaBRefIdeal.nD Cert.AdamAdaBRefIdeal.τ).loc Cert.AdamAdaBRefIdeal.main_v0) = v0 c
          ∧ r.2.mem ((c.tc : Thread Cert.AdamAdaBRefIdeal.nD Cert.AdamAdaBRefIdeal.τ).loc Cert.AdamAdaBRefIdeal.main_v24) = v1 c
          ∧ r.2.mem ((c.tc : Thread Cert.AdamAdaBRefIdeal.nD Cert.AdamAdaBRefIdeal.τ).loc Cert.AdamAdaBRefIdeal.main_v5) = v2 c
          ∧ r.2.mem ((c.tc : Thread Cert.AdamAdaBRefIdeal.nD Cert.AdamAdaBRefIdeal.τ).loc Cert.AdamAdaBRefIdeal.main_v11) = v3 c
          ∧ r.2.mem ((c.tc : Thread Cert.AdamAdaBRefIdeal.nD Cert.AdamAdaBRefIdeal.τ).loc Cert.AdamAdaBRefIdeal.main_arg0) = m' ((c.tc : Thread Cert.AdamAdaBRefIdeal.nD Cert.AdamAdaBRefIdeal.τ).loc Cert.AdamAdaBRefIdeal.main_arg0)
          ∧ r.2.mem ((c.tc : Thread Cert.AdamAdaBRefIdeal.nD Cert.AdamAdaBRefIdeal.τ).loc Cert.AdamAdaBRefIdeal.main_arg1) = m' ((c.tc : Thread Cert.AdamAdaBRefIdeal.nD Cert.AdamAdaBRefIdeal.τ).loc Cert.AdamAdaBRefIdeal.main_arg1)
          ∧ r.2.mem ((c.tc : Thread Cert.AdamAdaBRefIdeal.nD Cert.AdamAdaBRefIdeal.τ).loc Cert.AdamAdaBRefIdeal.main_arg2) = m' ((c.tc : Thread Cert.AdamAdaBRefIdeal.nD Cert.AdamAdaBRefIdeal.τ).loc Cert.AdamAdaBRefIdeal.main_arg2)
          ∧ r.2.mem ((c.tc : Thread Cert.AdamAdaBRefIdeal.nD Cert.AdamAdaBRefIdeal.τ).loc Cert.AdamAdaBRefIdeal.main_arg3) = m' ((c.tc : Thread Cert.AdamAdaBRefIdeal.nD Cert.AdamAdaBRefIdeal.τ).loc Cert.AdamAdaBRefIdeal.main_arg3))

def preserves_AdamKvAdaB_AdamKvAdaBIdeal : Prop :=
  True

def algebraic_AdamKvAdaBIdeal_AdamKvAdaBRefIdeal [hAdamKvAdaBIdeal : Cert.AdamKvAdaBIdeal.Facts] [hAdamKvAdaBRefIdeal : Cert.AdamKvAdaBRefIdeal.Facts] : Prop :=
  ∀ (m : (ℓ : Loc Cert.AdamKvAdaBIdeal.nD Cert.AdamKvAdaBIdeal.τ Cert.AdamKvAdaBIdeal.sig) → Buf (Elt Ideal) ℓ) (g : Dev Cert.AdamKvAdaBIdeal.nD → PrngReg)
    (m' : (ℓ : Loc Cert.AdamKvAdaBRefIdeal.nD Cert.AdamKvAdaBRefIdeal.τ Cert.AdamKvAdaBRefIdeal.sig) → Buf (Elt Ideal) ℓ) (g' : Dev Cert.AdamKvAdaBRefIdeal.nD → PrngReg), Pre_AdamKvAdaBIdeal m →
    (∀ c : Dev Cert.AdamKvAdaBIdeal.nD,
      m' ((c.tc : Thread Cert.AdamKvAdaBRefIdeal.nD Cert.AdamKvAdaBRefIdeal.τ).loc Cert.AdamKvAdaBRefIdeal.main_arg0) = m ((c.tc : Thread Cert.AdamKvAdaBIdeal.nD Cert.AdamKvAdaBIdeal.τ).loc Cert.AdamKvAdaBIdeal.main_arg0)
      ∧ m' ((c.tc : Thread Cert.AdamKvAdaBRefIdeal.nD Cert.AdamKvAdaBRefIdeal.τ).loc Cert.AdamKvAdaBRefIdeal.main_arg1) = m ((c.tc : Thread Cert.AdamKvAdaBIdeal.nD Cert.AdamKvAdaBIdeal.τ).loc Cert.AdamKvAdaBIdeal.main_arg1)
      ∧ m' ((c.tc : Thread Cert.AdamKvAdaBRefIdeal.nD Cert.AdamKvAdaBRefIdeal.τ).loc Cert.AdamKvAdaBRefIdeal.main_arg2) = m ((c.tc : Thread Cert.AdamKvAdaBIdeal.nD Cert.AdamKvAdaBIdeal.τ).loc Cert.AdamKvAdaBIdeal.main_arg2)
      ∧ m' ((c.tc : Thread Cert.AdamKvAdaBRefIdeal.nD Cert.AdamKvAdaBRefIdeal.τ).loc Cert.AdamKvAdaBRefIdeal.main_arg3) = m ((c.tc : Thread Cert.AdamKvAdaBIdeal.nD Cert.AdamKvAdaBIdeal.τ).loc Cert.AdamKvAdaBIdeal.main_arg3)) →
    ∃ (v0 : (c : Dev Cert.AdamKvAdaBIdeal.nD) → Buf (Elt Ideal) ((c.tc : Thread Cert.AdamKvAdaBIdeal.nD Cert.AdamKvAdaBIdeal.τ).loc Cert.AdamKvAdaBIdeal.main_v0_0)) (v1 : (c : Dev Cert.AdamKvAdaBIdeal.nD) → Buf (Elt Ideal) ((c.tc : Thread Cert.AdamKvAdaBIdeal.nD Cert.AdamKvAdaBIdeal.τ).loc Cert.AdamKvAdaBIdeal.main_v0_1)) (v2 : (c : Dev Cert.AdamKvAdaBIdeal.nD) → Buf (Elt Ideal) ((c.tc : Thread Cert.AdamKvAdaBIdeal.nD Cert.AdamKvAdaBIdeal.τ).loc Cert.AdamKvAdaBIdeal.main_v0_2)) (v3 : (c : Dev Cert.AdamKvAdaBIdeal.nD) → Buf (Elt Ideal) ((c.tc : Thread Cert.AdamKvAdaBIdeal.nD Cert.AdamKvAdaBIdeal.τ).loc Cert.AdamKvAdaBIdeal.main_v0_3)),
      θ_run (Cert.AdamKvAdaBIdeal.defs (F := Ideal)) (onTc (τ := Cert.AdamKvAdaBIdeal.τ) (Cert.AdamKvAdaBIdeal.main (F := Ideal))) ⟨m, fun _ => 0, g⟩ (fun r => ∀ c : Dev Cert.AdamKvAdaBIdeal.nD,
          r.2.mem ((c.tc : Thread Cert.AdamKvAdaBIdeal.nD Cert.AdamKvAdaBIdeal.τ).loc Cert.AdamKvAdaBIdeal.main_v0_0) = v0 c
          ∧ r.2.mem ((c.tc : Thread Cert.AdamKvAdaBIdeal.nD Cert.AdamKvAdaBIdeal.τ).loc Cert.AdamKvAdaBIdeal.main_v0_1) = v1 c
          ∧ r.2.mem ((c.tc : Thread Cert.AdamKvAdaBIdeal.nD Cert.AdamKvAdaBIdeal.τ).loc Cert.AdamKvAdaBIdeal.main_v0_2) = v2 c
          ∧ r.2.mem ((c.tc : Thread Cert.AdamKvAdaBIdeal.nD Cert.AdamKvAdaBIdeal.τ).loc Cert.AdamKvAdaBIdeal.main_v0_3) = v3 c
          ∧ r.2.mem ((c.tc : Thread Cert.AdamKvAdaBIdeal.nD Cert.AdamKvAdaBIdeal.τ).loc Cert.AdamKvAdaBIdeal.main_arg0) = m ((c.tc : Thread Cert.AdamKvAdaBIdeal.nD Cert.AdamKvAdaBIdeal.τ).loc Cert.AdamKvAdaBIdeal.main_arg0)
          ∧ r.2.mem ((c.tc : Thread Cert.AdamKvAdaBIdeal.nD Cert.AdamKvAdaBIdeal.τ).loc Cert.AdamKvAdaBIdeal.main_arg1) = m ((c.tc : Thread Cert.AdamKvAdaBIdeal.nD Cert.AdamKvAdaBIdeal.τ).loc Cert.AdamKvAdaBIdeal.main_arg1)
          ∧ r.2.mem ((c.tc : Thread Cert.AdamKvAdaBIdeal.nD Cert.AdamKvAdaBIdeal.τ).loc Cert.AdamKvAdaBIdeal.main_arg2) = m ((c.tc : Thread Cert.AdamKvAdaBIdeal.nD Cert.AdamKvAdaBIdeal.τ).loc Cert.AdamKvAdaBIdeal.main_arg2)
          ∧ r.2.mem ((c.tc : Thread Cert.AdamKvAdaBIdeal.nD Cert.AdamKvAdaBIdeal.τ).loc Cert.AdamKvAdaBIdeal.main_arg3) = m ((c.tc : Thread Cert.AdamKvAdaBIdeal.nD Cert.AdamKvAdaBIdeal.τ).loc Cert.AdamKvAdaBIdeal.main_arg3))
      ∧ θ_run (Cert.AdamKvAdaBRefIdeal.defs (F := Ideal)) (onTc (τ := Cert.AdamKvAdaBRefIdeal.τ) (Cert.AdamKvAdaBRefIdeal.main (F := Ideal))) ⟨m', fun _ => 0, g'⟩ (fun r => ∀ c : Dev Cert.AdamKvAdaBRefIdeal.nD,
          r.2.mem ((c.tc : Thread Cert.AdamKvAdaBRefIdeal.nD Cert.AdamKvAdaBRefIdeal.τ).loc Cert.AdamKvAdaBRefIdeal.main_v0) = v0 c
          ∧ r.2.mem ((c.tc : Thread Cert.AdamKvAdaBRefIdeal.nD Cert.AdamKvAdaBRefIdeal.τ).loc Cert.AdamKvAdaBRefIdeal.main_v24) = v1 c
          ∧ r.2.mem ((c.tc : Thread Cert.AdamKvAdaBRefIdeal.nD Cert.AdamKvAdaBRefIdeal.τ).loc Cert.AdamKvAdaBRefIdeal.main_v5) = v2 c
          ∧ r.2.mem ((c.tc : Thread Cert.AdamKvAdaBRefIdeal.nD Cert.AdamKvAdaBRefIdeal.τ).loc Cert.AdamKvAdaBRefIdeal.main_v11) = v3 c
          ∧ r.2.mem ((c.tc : Thread Cert.AdamKvAdaBRefIdeal.nD Cert.AdamKvAdaBRefIdeal.τ).loc Cert.AdamKvAdaBRefIdeal.main_arg0) = m' ((c.tc : Thread Cert.AdamKvAdaBRefIdeal.nD Cert.AdamKvAdaBRefIdeal.τ).loc Cert.AdamKvAdaBRefIdeal.main_arg0)
          ∧ r.2.mem ((c.tc : Thread Cert.AdamKvAdaBRefIdeal.nD Cert.AdamKvAdaBRefIdeal.τ).loc Cert.AdamKvAdaBRefIdeal.main_arg1) = m' ((c.tc : Thread Cert.AdamKvAdaBRefIdeal.nD Cert.AdamKvAdaBRefIdeal.τ).loc Cert.AdamKvAdaBRefIdeal.main_arg1)
          ∧ r.2.mem ((c.tc : Thread Cert.AdamKvAdaBRefIdeal.nD Cert.AdamKvAdaBRefIdeal.τ).loc Cert.AdamKvAdaBRefIdeal.main_arg2) = m' ((c.tc : Thread Cert.AdamKvAdaBRefIdeal.nD Cert.AdamKvAdaBRefIdeal.τ).loc Cert.AdamKvAdaBRefIdeal.main_arg2)
          ∧ r.2.mem ((c.tc : Thread Cert.AdamKvAdaBRefIdeal.nD Cert.AdamKvAdaBRefIdeal.τ).loc Cert.AdamKvAdaBRefIdeal.main_arg3) = m' ((c.tc : Thread Cert.AdamKvAdaBRefIdeal.nD Cert.AdamKvAdaBRefIdeal.τ).loc Cert.AdamKvAdaBRefIdeal.main_arg3))

def preserves_AdamAdaW_AdamAdaWIdeal : Prop :=
  True

def algebraic_AdamAdaWIdeal_AdamAdaWRefIdeal [hAdamAdaWIdeal : Cert.AdamAdaWIdeal.Facts] [hAdamAdaWRefIdeal : Cert.AdamAdaWRefIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg)
    (m' : (ℓ : Loc Cert.AdamAdaWRefIdeal.nD Cert.AdamAdaWRefIdeal.τ Cert.AdamAdaWRefIdeal.sig) → Buf (Elt Ideal) ℓ) (g' : Dev Cert.AdamAdaWRefIdeal.nD → PrngReg), Pre_AdamAdaWIdeal m →
    (∀ c : Dev Cert.AdamAdaWIdeal.nD,
      m' ((c.tc : Thread Cert.AdamAdaWRefIdeal.nD Cert.AdamAdaWRefIdeal.τ).loc Cert.AdamAdaWRefIdeal.main_arg0) = m ((c.tc : Thread Cert.AdamAdaWIdeal.nD Cert.AdamAdaWIdeal.τ).loc Cert.AdamAdaWIdeal.main_arg0)
      ∧ m' ((c.tc : Thread Cert.AdamAdaWRefIdeal.nD Cert.AdamAdaWRefIdeal.τ).loc Cert.AdamAdaWRefIdeal.main_arg1) = m ((c.tc : Thread Cert.AdamAdaWIdeal.nD Cert.AdamAdaWIdeal.τ).loc Cert.AdamAdaWIdeal.main_arg1)
      ∧ m' ((c.tc : Thread Cert.AdamAdaWRefIdeal.nD Cert.AdamAdaWRefIdeal.τ).loc Cert.AdamAdaWRefIdeal.main_arg2) = m ((c.tc : Thread Cert.AdamAdaWIdeal.nD Cert.AdamAdaWIdeal.τ).loc Cert.AdamAdaWIdeal.main_arg2)
      ∧ m' ((c.tc : Thread Cert.AdamAdaWRefIdeal.nD Cert.AdamAdaWRefIdeal.τ).loc Cert.AdamAdaWRefIdeal.main_arg3) = m ((c.tc : Thread Cert.AdamAdaWIdeal.nD Cert.AdamAdaWIdeal.τ).loc Cert.AdamAdaWIdeal.main_arg3)) →
    ∃ (v0 : (c : Dev Cert.AdamAdaWIdeal.nD) → Buf (Elt Ideal) ((c.tc : Thread Cert.AdamAdaWIdeal.nD Cert.AdamAdaWIdeal.τ).loc Cert.AdamAdaWIdeal.main_v0_0)) (v1 : (c : Dev Cert.AdamAdaWIdeal.nD) → Buf (Elt Ideal) ((c.tc : Thread Cert.AdamAdaWIdeal.nD Cert.AdamAdaWIdeal.τ).loc Cert.AdamAdaWIdeal.main_v0_1)) (v2 : (c : Dev Cert.AdamAdaWIdeal.nD) → Buf (Elt Ideal) ((c.tc : Thread Cert.AdamAdaWIdeal.nD Cert.AdamAdaWIdeal.τ).loc Cert.AdamAdaWIdeal.main_v0_2)) (v3 : (c : Dev Cert.AdamAdaWIdeal.nD) → Buf (Elt Ideal) ((c.tc : Thread Cert.AdamAdaWIdeal.nD Cert.AdamAdaWIdeal.τ).loc Cert.AdamAdaWIdeal.main_v0_3)),
      θ_run (Cert.AdamAdaWIdeal.defs (F := Ideal)) (onTc (τ := Cert.AdamAdaWIdeal.τ) (Cert.AdamAdaWIdeal.main (F := Ideal))) ⟨m, fun _ => 0, g⟩ (fun r => ∀ c : Dev Cert.AdamAdaWIdeal.nD,
          r.2.mem ((c.tc : Thread Cert.AdamAdaWIdeal.nD Cert.AdamAdaWIdeal.τ).loc Cert.AdamAdaWIdeal.main_v0_0) = v0 c
          ∧ r.2.mem ((c.tc : Thread Cert.AdamAdaWIdeal.nD Cert.AdamAdaWIdeal.τ).loc Cert.AdamAdaWIdeal.main_v0_1) = v1 c
          ∧ r.2.mem ((c.tc : Thread Cert.AdamAdaWIdeal.nD Cert.AdamAdaWIdeal.τ).loc Cert.AdamAdaWIdeal.main_v0_2) = v2 c
          ∧ r.2.mem ((c.tc : Thread Cert.AdamAdaWIdeal.nD Cert.AdamAdaWIdeal.τ).loc Cert.AdamAdaWIdeal.main_v0_3) = v3 c
          ∧ r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
          ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
          ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
          ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ θ_run (Cert.AdamAdaWRefIdeal.defs (F := Ideal)) (onTc (τ := Cert.AdamAdaWRefIdeal.τ) (Cert.AdamAdaWRefIdeal.main (F := Ideal))) ⟨m', fun _ => 0, g'⟩ (fun r => ∀ c : Dev Cert.AdamAdaWRefIdeal.nD,
          r.2.mem ((c.tc : Thread Cert.AdamAdaWRefIdeal.nD Cert.AdamAdaWRefIdeal.τ).loc Cert.AdamAdaWRefIdeal.main_arg0) = v0 c
          ∧ r.2.mem ((c.tc : Thread Cert.AdamAdaWRefIdeal.nD Cert.AdamAdaWRefIdeal.τ).loc Cert.AdamAdaWRefIdeal.main_v23) = v1 c
          ∧ r.2.mem ((c.tc : Thread Cert.AdamAdaWRefIdeal.nD Cert.AdamAdaWRefIdeal.τ).loc Cert.AdamAdaWRefIdeal.main_v4) = v2 c
          ∧ r.2.mem ((c.tc : Thread Cert.AdamAdaWRefIdeal.nD Cert.AdamAdaWRefIdeal.τ).loc Cert.AdamAdaWRefIdeal.main_v10) = v3 c
          ∧ r.2.mem ((c.tc : Thread Cert.AdamAdaWRefIdeal.nD Cert.AdamAdaWRefIdeal.τ).loc Cert.AdamAdaWRefIdeal.main_arg0) = m' ((c.tc : Thread Cert.AdamAdaWRefIdeal.nD Cert.AdamAdaWRefIdeal.τ).loc Cert.AdamAdaWRefIdeal.main_arg0)
          ∧ r.2.mem ((c.tc : Thread Cert.AdamAdaWRefIdeal.nD Cert.AdamAdaWRefIdeal.τ).loc Cert.AdamAdaWRefIdeal.main_arg1) = m' ((c.tc : Thread Cert.AdamAdaWRefIdeal.nD Cert.AdamAdaWRefIdeal.τ).loc Cert.AdamAdaWRefIdeal.main_arg1)
          ∧ r.2.mem ((c.tc : Thread Cert.AdamAdaWRefIdeal.nD Cert.AdamAdaWRefIdeal.τ).loc Cert.AdamAdaWRefIdeal.main_arg2) = m' ((c.tc : Thread Cert.AdamAdaWRefIdeal.nD Cert.AdamAdaWRefIdeal.τ).loc Cert.AdamAdaWRefIdeal.main_arg2)
          ∧ r.2.mem ((c.tc : Thread Cert.AdamAdaWRefIdeal.nD Cert.AdamAdaWRefIdeal.τ).loc Cert.AdamAdaWRefIdeal.main_arg3) = m' ((c.tc : Thread Cert.AdamAdaWRefIdeal.nD Cert.AdamAdaWRefIdeal.τ).loc Cert.AdamAdaWRefIdeal.main_arg3))

def preserves_AdamKvAdaW_AdamKvAdaWIdeal : Prop :=
  True

def algebraic_AdamKvAdaWIdeal_AdamKvAdaWRefIdeal [hAdamKvAdaWIdeal : Cert.AdamKvAdaWIdeal.Facts] [hAdamKvAdaWRefIdeal : Cert.AdamKvAdaWRefIdeal.Facts] : Prop :=
  ∀ (m : (ℓ : Loc Cert.AdamKvAdaWIdeal.nD Cert.AdamKvAdaWIdeal.τ Cert.AdamKvAdaWIdeal.sig) → Buf (Elt Ideal) ℓ) (g : Dev Cert.AdamKvAdaWIdeal.nD → PrngReg)
    (m' : (ℓ : Loc Cert.AdamKvAdaWRefIdeal.nD Cert.AdamKvAdaWRefIdeal.τ Cert.AdamKvAdaWRefIdeal.sig) → Buf (Elt Ideal) ℓ) (g' : Dev Cert.AdamKvAdaWRefIdeal.nD → PrngReg), Pre_AdamKvAdaWIdeal m →
    (∀ c : Dev Cert.AdamKvAdaWIdeal.nD,
      m' ((c.tc : Thread Cert.AdamKvAdaWRefIdeal.nD Cert.AdamKvAdaWRefIdeal.τ).loc Cert.AdamKvAdaWRefIdeal.main_arg0) = m ((c.tc : Thread Cert.AdamKvAdaWIdeal.nD Cert.AdamKvAdaWIdeal.τ).loc Cert.AdamKvAdaWIdeal.main_arg0)
      ∧ m' ((c.tc : Thread Cert.AdamKvAdaWRefIdeal.nD Cert.AdamKvAdaWRefIdeal.τ).loc Cert.AdamKvAdaWRefIdeal.main_arg1) = m ((c.tc : Thread Cert.AdamKvAdaWIdeal.nD Cert.AdamKvAdaWIdeal.τ).loc Cert.AdamKvAdaWIdeal.main_arg1)
      ∧ m' ((c.tc : Thread Cert.AdamKvAdaWRefIdeal.nD Cert.AdamKvAdaWRefIdeal.τ).loc Cert.AdamKvAdaWRefIdeal.main_arg2) = m ((c.tc : Thread Cert.AdamKvAdaWIdeal.nD Cert.AdamKvAdaWIdeal.τ).loc Cert.AdamKvAdaWIdeal.main_arg2)
      ∧ m' ((c.tc : Thread Cert.AdamKvAdaWRefIdeal.nD Cert.AdamKvAdaWRefIdeal.τ).loc Cert.AdamKvAdaWRefIdeal.main_arg3) = m ((c.tc : Thread Cert.AdamKvAdaWIdeal.nD Cert.AdamKvAdaWIdeal.τ).loc Cert.AdamKvAdaWIdeal.main_arg3)) →
    ∃ (v0 : (c : Dev Cert.AdamKvAdaWIdeal.nD) → Buf (Elt Ideal) ((c.tc : Thread Cert.AdamKvAdaWIdeal.nD Cert.AdamKvAdaWIdeal.τ).loc Cert.AdamKvAdaWIdeal.main_v0_0)) (v1 : (c : Dev Cert.AdamKvAdaWIdeal.nD) → Buf (Elt Ideal) ((c.tc : Thread Cert.AdamKvAdaWIdeal.nD Cert.AdamKvAdaWIdeal.τ).loc Cert.AdamKvAdaWIdeal.main_v0_1)) (v2 : (c : Dev Cert.AdamKvAdaWIdeal.nD) → Buf (Elt Ideal) ((c.tc : Thread Cert.AdamKvAdaWIdeal.nD Cert.AdamKvAdaWIdeal.τ).loc Cert.AdamKvAdaWIdeal.main_v0_2)) (v3 : (c : Dev Cert.AdamKvAdaWIdeal.nD) → Buf (Elt Ideal) ((c.tc : Thread Cert.AdamKvAdaWIdeal.nD Cert.AdamKvAdaWIdeal.τ).loc Cert.AdamKvAdaWIdeal.main_v0_3)),
      θ_run (Cert.AdamKvAdaWIdeal.defs (F := Ideal)) (onTc (τ := Cert.AdamKvAdaWIdeal.τ) (Cert.AdamKvAdaWIdeal.main (F := Ideal))) ⟨m, fun _ => 0, g⟩ (fun r => ∀ c : Dev Cert.AdamKvAdaWIdeal.nD,
          r.2.mem ((c.tc : Thread Cert.AdamKvAdaWIdeal.nD Cert.AdamKvAdaWIdeal.τ).loc Cert.AdamKvAdaWIdeal.main_v0_0) = v0 c
          ∧ r.2.mem ((c.tc : Thread Cert.AdamKvAdaWIdeal.nD Cert.AdamKvAdaWIdeal.τ).loc Cert.AdamKvAdaWIdeal.main_v0_1) = v1 c
          ∧ r.2.mem ((c.tc : Thread Cert.AdamKvAdaWIdeal.nD Cert.AdamKvAdaWIdeal.τ).loc Cert.AdamKvAdaWIdeal.main_v0_2) = v2 c
          ∧ r.2.mem ((c.tc : Thread Cert.AdamKvAdaWIdeal.nD Cert.AdamKvAdaWIdeal.τ).loc Cert.AdamKvAdaWIdeal.main_v0_3) = v3 c
          ∧ r.2.mem ((c.tc : Thread Cert.AdamKvAdaWIdeal.nD Cert.AdamKvAdaWIdeal.τ).loc Cert.AdamKvAdaWIdeal.main_arg0) = m ((c.tc : Thread Cert.AdamKvAdaWIdeal.nD Cert.AdamKvAdaWIdeal.τ).loc Cert.AdamKvAdaWIdeal.main_arg0)
          ∧ r.2.mem ((c.tc : Thread Cert.AdamKvAdaWIdeal.nD Cert.AdamKvAdaWIdeal.τ).loc Cert.AdamKvAdaWIdeal.main_arg1) = m ((c.tc : Thread Cert.AdamKvAdaWIdeal.nD Cert.AdamKvAdaWIdeal.τ).loc Cert.AdamKvAdaWIdeal.main_arg1)
          ∧ r.2.mem ((c.tc : Thread Cert.AdamKvAdaWIdeal.nD Cert.AdamKvAdaWIdeal.τ).loc Cert.AdamKvAdaWIdeal.main_arg2) = m ((c.tc : Thread Cert.AdamKvAdaWIdeal.nD Cert.AdamKvAdaWIdeal.τ).loc Cert.AdamKvAdaWIdeal.main_arg2)
          ∧ r.2.mem ((c.tc : Thread Cert.AdamKvAdaWIdeal.nD Cert.AdamKvAdaWIdeal.τ).loc Cert.AdamKvAdaWIdeal.main_arg3) = m ((c.tc : Thread Cert.AdamKvAdaWIdeal.nD Cert.AdamKvAdaWIdeal.τ).loc Cert.AdamKvAdaWIdeal.main_arg3))
      ∧ θ_run (Cert.AdamKvAdaWRefIdeal.defs (F := Ideal)) (onTc (τ := Cert.AdamKvAdaWRefIdeal.τ) (Cert.AdamKvAdaWRefIdeal.main (F := Ideal))) ⟨m', fun _ => 0, g'⟩ (fun r => ∀ c : Dev Cert.AdamKvAdaWRefIdeal.nD,
          r.2.mem ((c.tc : Thread Cert.AdamKvAdaWRefIdeal.nD Cert.AdamKvAdaWRefIdeal.τ).loc Cert.AdamKvAdaWRefIdeal.main_arg0) = v0 c
          ∧ r.2.mem ((c.tc : Thread Cert.AdamKvAdaWRefIdeal.nD Cert.AdamKvAdaWRefIdeal.τ).loc Cert.AdamKvAdaWRefIdeal.main_v23) = v1 c
          ∧ r.2.mem ((c.tc : Thread Cert.AdamKvAdaWRefIdeal.nD Cert.AdamKvAdaWRefIdeal.τ).loc Cert.AdamKvAdaWRefIdeal.main_v4) = v2 c
          ∧ r.2.mem ((c.tc : Thread Cert.AdamKvAdaWRefIdeal.nD Cert.AdamKvAdaWRefIdeal.τ).loc Cert.AdamKvAdaWRefIdeal.main_v10) = v3 c
          ∧ r.2.mem ((c.tc : Thread Cert.AdamKvAdaWRefIdeal.nD Cert.AdamKvAdaWRefIdeal.τ).loc Cert.AdamKvAdaWRefIdeal.main_arg0) = m' ((c.tc : Thread Cert.AdamKvAdaWRefIdeal.nD Cert.AdamKvAdaWRefIdeal.τ).loc Cert.AdamKvAdaWRefIdeal.main_arg0)
          ∧ r.2.mem ((c.tc : Thread Cert.AdamKvAdaWRefIdeal.nD Cert.AdamKvAdaWRefIdeal.τ).loc Cert.AdamKvAdaWRefIdeal.main_arg1) = m' ((c.tc : Thread Cert.AdamKvAdaWRefIdeal.nD Cert.AdamKvAdaWRefIdeal.τ).loc Cert.AdamKvAdaWRefIdeal.main_arg1)
          ∧ r.2.mem ((c.tc : Thread Cert.AdamKvAdaWRefIdeal.nD Cert.AdamKvAdaWRefIdeal.τ).loc Cert.AdamKvAdaWRefIdeal.main_arg2) = m' ((c.tc : Thread Cert.AdamKvAdaWRefIdeal.nD Cert.AdamKvAdaWRefIdeal.τ).loc Cert.AdamKvAdaWRefIdeal.main_arg2)
          ∧ r.2.mem ((c.tc : Thread Cert.AdamKvAdaWRefIdeal.nD Cert.AdamKvAdaWRefIdeal.τ).loc Cert.AdamKvAdaWRefIdeal.main_arg3) = m' ((c.tc : Thread Cert.AdamKvAdaWRefIdeal.nD Cert.AdamKvAdaWRefIdeal.τ).loc Cert.AdamKvAdaWRefIdeal.main_arg3))

def preserves_AdamWKv_AdamWKvIdeal : Prop :=
  True

def algebraic_AdamWKvIdeal_AdamWKvRefIdeal [hAdamWKvIdeal : Cert.AdamWKvIdeal.Facts] [hAdamWKvRefIdeal : Cert.AdamWKvRefIdeal.Facts] : Prop :=
  ∀ (m : (ℓ : Loc Cert.AdamWKvIdeal.nD Cert.AdamWKvIdeal.τ Cert.AdamWKvIdeal.sig) → Buf (Elt Ideal) ℓ) (g : Dev Cert.AdamWKvIdeal.nD → PrngReg)
    (m' : (ℓ : Loc Cert.AdamWKvRefIdeal.nD Cert.AdamWKvRefIdeal.τ Cert.AdamWKvRefIdeal.sig) → Buf (Elt Ideal) ℓ) (g' : Dev Cert.AdamWKvRefIdeal.nD → PrngReg), Pre_AdamWKvIdeal m →
    (∀ c : Dev Cert.AdamWKvIdeal.nD,
      m' ((c.tc : Thread Cert.AdamWKvRefIdeal.nD Cert.AdamWKvRefIdeal.τ).loc Cert.AdamWKvRefIdeal.main_arg0) = m ((c.tc : Thread Cert.AdamWKvIdeal.nD Cert.AdamWKvIdeal.τ).loc Cert.AdamWKvIdeal.main_arg0)
      ∧ m' ((c.tc : Thread Cert.AdamWKvRefIdeal.nD Cert.AdamWKvRefIdeal.τ).loc Cert.AdamWKvRefIdeal.main_arg1) = m ((c.tc : Thread Cert.AdamWKvIdeal.nD Cert.AdamWKvIdeal.τ).loc Cert.AdamWKvIdeal.main_arg1)
      ∧ m' ((c.tc : Thread Cert.AdamWKvRefIdeal.nD Cert.AdamWKvRefIdeal.τ).loc Cert.AdamWKvRefIdeal.main_arg2) = m ((c.tc : Thread Cert.AdamWKvIdeal.nD Cert.AdamWKvIdeal.τ).loc Cert.AdamWKvIdeal.main_arg2)
      ∧ m' ((c.tc : Thread Cert.AdamWKvRefIdeal.nD Cert.AdamWKvRefIdeal.τ).loc Cert.AdamWKvRefIdeal.main_arg3) = m ((c.tc : Thread Cert.AdamWKvIdeal.nD Cert.AdamWKvIdeal.τ).loc Cert.AdamWKvIdeal.main_arg3)
      ∧ m' ((c.tc : Thread Cert.AdamWKvRefIdeal.nD Cert.AdamWKvRefIdeal.τ).loc Cert.AdamWKvRefIdeal.main_arg4) = m ((c.tc : Thread Cert.AdamWKvIdeal.nD Cert.AdamWKvIdeal.τ).loc Cert.AdamWKvIdeal.main_arg4)) →
    ∃ (v0 : (c : Dev Cert.AdamWKvIdeal.nD) → Buf (Elt Ideal) ((c.tc : Thread Cert.AdamWKvIdeal.nD Cert.AdamWKvIdeal.τ).loc Cert.AdamWKvIdeal.main_v0_0)) (v1 : (c : Dev Cert.AdamWKvIdeal.nD) → Buf (Elt Ideal) ((c.tc : Thread Cert.AdamWKvIdeal.nD Cert.AdamWKvIdeal.τ).loc Cert.AdamWKvIdeal.main_v0_1)) (v2 : (c : Dev Cert.AdamWKvIdeal.nD) → Buf (Elt Ideal) ((c.tc : Thread Cert.AdamWKvIdeal.nD Cert.AdamWKvIdeal.τ).loc Cert.AdamWKvIdeal.main_v0_2)) (v3 : (c : Dev Cert.AdamWKvIdeal.nD) → Buf (Elt Ideal) ((c.tc : Thread Cert.AdamWKvIdeal.nD Cert.AdamWKvIdeal.τ).loc Cert.AdamWKvIdeal.main_v0_3)),
      θ_run (Cert.AdamWKvIdeal.defs (F := Ideal)) (onTc (τ := Cert.AdamWKvIdeal.τ) (Cert.AdamWKvIdeal.main (F := Ideal))) ⟨m, fun _ => 0, g⟩ (fun r => ∀ c : Dev Cert.AdamWKvIdeal.nD,
          r.2.mem ((c.tc : Thread Cert.AdamWKvIdeal.nD Cert.AdamWKvIdeal.τ).loc Cert.AdamWKvIdeal.main_v0_0) = v0 c
          ∧ r.2.mem ((c.tc : Thread Cert.AdamWKvIdeal.nD Cert.AdamWKvIdeal.τ).loc Cert.AdamWKvIdeal.main_v0_1) = v1 c
          ∧ r.2.mem ((c.tc : Thread Cert.AdamWKvIdeal.nD Cert.AdamWKvIdeal.τ).loc Cert.AdamWKvIdeal.main_v0_2) = v2 c
          ∧ r.2.mem ((c.tc : Thread Cert.AdamWKvIdeal.nD Cert.AdamWKvIdeal.τ).loc Cert.AdamWKvIdeal.main_v0_3) = v3 c
          ∧ r.2.mem ((c.tc : Thread Cert.AdamWKvIdeal.nD Cert.AdamWKvIdeal.τ).loc Cert.AdamWKvIdeal.main_arg0) = m ((c.tc : Thread Cert.AdamWKvIdeal.nD Cert.AdamWKvIdeal.τ).loc Cert.AdamWKvIdeal.main_arg0)
          ∧ r.2.mem ((c.tc : Thread Cert.AdamWKvIdeal.nD Cert.AdamWKvIdeal.τ).loc Cert.AdamWKvIdeal.main_arg1) = m ((c.tc : Thread Cert.AdamWKvIdeal.nD Cert.AdamWKvIdeal.τ).loc Cert.AdamWKvIdeal.main_arg1)
          ∧ r.2.mem ((c.tc : Thread Cert.AdamWKvIdeal.nD Cert.AdamWKvIdeal.τ).loc Cert.AdamWKvIdeal.main_arg2) = m ((c.tc : Thread Cert.AdamWKvIdeal.nD Cert.AdamWKvIdeal.τ).loc Cert.AdamWKvIdeal.main_arg2)
          ∧ r.2.mem ((c.tc : Thread Cert.AdamWKvIdeal.nD Cert.AdamWKvIdeal.τ).loc Cert.AdamWKvIdeal.main_arg3) = m ((c.tc : Thread Cert.AdamWKvIdeal.nD Cert.AdamWKvIdeal.τ).loc Cert.AdamWKvIdeal.main_arg3)
          ∧ r.2.mem ((c.tc : Thread Cert.AdamWKvIdeal.nD Cert.AdamWKvIdeal.τ).loc Cert.AdamWKvIdeal.main_arg4) = m ((c.tc : Thread Cert.AdamWKvIdeal.nD Cert.AdamWKvIdeal.τ).loc Cert.AdamWKvIdeal.main_arg4))
      ∧ θ_run (Cert.AdamWKvRefIdeal.defs (F := Ideal)) (onTc (τ := Cert.AdamWKvRefIdeal.τ) (Cert.AdamWKvRefIdeal.main (F := Ideal))) ⟨m', fun _ => 0, g'⟩ (fun r => ∀ c : Dev Cert.AdamWKvRefIdeal.nD,
          r.2.mem ((c.tc : Thread Cert.AdamWKvRefIdeal.nD Cert.AdamWKvRefIdeal.τ).loc Cert.AdamWKvRefIdeal.main_v2) = v0 c
          ∧ r.2.mem ((c.tc : Thread Cert.AdamWKvRefIdeal.nD Cert.AdamWKvRefIdeal.τ).loc Cert.AdamWKvRefIdeal.main_v26) = v1 c
          ∧ r.2.mem ((c.tc : Thread Cert.AdamWKvRefIdeal.nD Cert.AdamWKvRefIdeal.τ).loc Cert.AdamWKvRefIdeal.main_v7) = v2 c
          ∧ r.2.mem ((c.tc : Thread Cert.AdamWKvRefIdeal.nD Cert.AdamWKvRefIdeal.τ).loc Cert.AdamWKvRefIdeal.main_v13) = v3 c
          ∧ r.2.mem ((c.tc : Thread Cert.AdamWKvRefIdeal.nD Cert.AdamWKvRefIdeal.τ).loc Cert.AdamWKvRefIdeal.main_arg0) = m' ((c.tc : Thread Cert.AdamWKvRefIdeal.nD Cert.AdamWKvRefIdeal.τ).loc Cert.AdamWKvRefIdeal.main_arg0)
          ∧ r.2.mem ((c.tc : Thread Cert.AdamWKvRefIdeal.nD Cert.AdamWKvRefIdeal.τ).loc Cert.AdamWKvRefIdeal.main_arg1) = m' ((c.tc : Thread Cert.AdamWKvRefIdeal.nD Cert.AdamWKvRefIdeal.τ).loc Cert.AdamWKvRefIdeal.main_arg1)
          ∧ r.2.mem ((c.tc : Thread Cert.AdamWKvRefIdeal.nD Cert.AdamWKvRefIdeal.τ).loc Cert.AdamWKvRefIdeal.main_arg2) = m' ((c.tc : Thread Cert.AdamWKvRefIdeal.nD Cert.AdamWKvRefIdeal.τ).loc Cert.AdamWKvRefIdeal.main_arg2)
          ∧ r.2.mem ((c.tc : Thread Cert.AdamWKvRefIdeal.nD Cert.AdamWKvRefIdeal.τ).loc Cert.AdamWKvRefIdeal.main_arg3) = m' ((c.tc : Thread Cert.AdamWKvRefIdeal.nD Cert.AdamWKvRefIdeal.τ).loc Cert.AdamWKvRefIdeal.main_arg3)
          ∧ r.2.mem ((c.tc : Thread Cert.AdamWKvRefIdeal.nD Cert.AdamWKvRefIdeal.τ).loc Cert.AdamWKvRefIdeal.main_arg4) = m' ((c.tc : Thread Cert.AdamWKvRefIdeal.nD Cert.AdamWKvRefIdeal.τ).loc Cert.AdamWKvRefIdeal.main_arg4))

def preserves_ModsDw_ModsDwIdeal : Prop :=
  True

def algebraic_ModsDwIdeal_ModsDwRefIdeal [hModsDwIdeal : Cert.ModsDwIdeal.Facts] [hModsDwRefIdeal : Cert.ModsDwRefIdeal.Facts] : Prop :=
  ∀ (m : (ℓ : Loc Cert.ModsDwIdeal.nD Cert.ModsDwIdeal.τ Cert.ModsDwIdeal.sig) → Buf (Elt Ideal) ℓ) (g : Dev Cert.ModsDwIdeal.nD → PrngReg)
    (m' : (ℓ : Loc Cert.ModsDwRefIdeal.nD Cert.ModsDwRefIdeal.τ Cert.ModsDwRefIdeal.sig) → Buf (Elt Ideal) ℓ) (g' : Dev Cert.ModsDwRefIdeal.nD → PrngReg), Pre_ModsDwIdeal m →
    (∀ c : Dev Cert.ModsDwIdeal.nD,
      m' ((c.tc : Thread Cert.ModsDwRefIdeal.nD Cert.ModsDwRefIdeal.τ).loc Cert.ModsDwRefIdeal.main_arg0) = m ((c.tc : Thread Cert.ModsDwIdeal.nD Cert.ModsDwIdeal.τ).loc Cert.ModsDwIdeal.main_arg0)
      ∧ m' ((c.tc : Thread Cert.ModsDwRefIdeal.nD Cert.ModsDwRefIdeal.τ).loc Cert.ModsDwRefIdeal.main_arg1) = m ((c.tc : Thread Cert.ModsDwIdeal.nD Cert.ModsDwIdeal.τ).loc Cert.ModsDwIdeal.main_arg1)) →
    ∃ (v0 : (c : Dev Cert.ModsDwIdeal.nD) → Buf (Elt Ideal) ((c.tc : Thread Cert.ModsDwIdeal.nD Cert.ModsDwIdeal.τ).loc Cert.ModsDwIdeal.main_v0)),
      θ_run (Cert.ModsDwIdeal.defs (F := Ideal)) (onTc (τ := Cert.ModsDwIdeal.τ) (Cert.ModsDwIdeal.main (F := Ideal))) ⟨m, fun _ => 0, g⟩ (fun r => ∀ c : Dev Cert.ModsDwIdeal.nD,
          r.2.mem ((c.tc : Thread Cert.ModsDwIdeal.nD Cert.ModsDwIdeal.τ).loc Cert.ModsDwIdeal.main_v0) = v0 c
          ∧ r.2.mem ((c.tc : Thread Cert.ModsDwIdeal.nD Cert.ModsDwIdeal.τ).loc Cert.ModsDwIdeal.main_arg0) = m ((c.tc : Thread Cert.ModsDwIdeal.nD Cert.ModsDwIdeal.τ).loc Cert.ModsDwIdeal.main_arg0)
          ∧ r.2.mem ((c.tc : Thread Cert.ModsDwIdeal.nD Cert.ModsDwIdeal.τ).loc Cert.ModsDwIdeal.main_arg1) = m ((c.tc : Thread Cert.ModsDwIdeal.nD Cert.ModsDwIdeal.τ).loc Cert.ModsDwIdeal.main_arg1))
      ∧ θ_run (Cert.ModsDwRefIdeal.defs (F := Ideal)) (onTc (τ := Cert.ModsDwRefIdeal.τ) (Cert.ModsDwRefIdeal.main (F := Ideal))) ⟨m', fun _ => 0, g'⟩ (fun r => ∀ c : Dev Cert.ModsDwRefIdeal.nD,
          r.2.mem ((c.tc : Thread Cert.ModsDwRefIdeal.nD Cert.ModsDwRefIdeal.τ).loc Cert.ModsDwRefIdeal.main_v12) = v0 c
          ∧ r.2.mem ((c.tc : Thread Cert.ModsDwRefIdeal.nD Cert.ModsDwRefIdeal.τ).loc Cert.ModsDwRefIdeal.main_arg0) = m' ((c.tc : Thread Cert.ModsDwRefIdeal.nD Cert.ModsDwRefIdeal.τ).loc Cert.ModsDwRefIdeal.main_arg0)
          ∧ r.2.mem ((c.tc : Thread Cert.ModsDwRefIdeal.nD Cert.ModsDwRefIdeal.τ).loc Cert.ModsDwRefIdeal.main_arg1) = m' ((c.tc : Thread Cert.ModsDwRefIdeal.nD Cert.ModsDwRefIdeal.τ).loc Cert.ModsDwRefIdeal.main_arg1))

def preserves_KvModsDw_KvModsDwIdeal : Prop :=
  True

def algebraic_KvModsDwIdeal_KvModsDwRefIdeal [hKvModsDwIdeal : Cert.KvModsDwIdeal.Facts] [hKvModsDwRefIdeal : Cert.KvModsDwRefIdeal.Facts] : Prop :=
  ∀ (m : (ℓ : Loc Cert.KvModsDwIdeal.nD Cert.KvModsDwIdeal.τ Cert.KvModsDwIdeal.sig) → Buf (Elt Ideal) ℓ) (g : Dev Cert.KvModsDwIdeal.nD → PrngReg)
    (m' : (ℓ : Loc Cert.KvModsDwRefIdeal.nD Cert.KvModsDwRefIdeal.τ Cert.KvModsDwRefIdeal.sig) → Buf (Elt Ideal) ℓ) (g' : Dev Cert.KvModsDwRefIdeal.nD → PrngReg), Pre_KvModsDwIdeal m →
    (∀ c : Dev Cert.KvModsDwIdeal.nD,
      m' ((c.tc : Thread Cert.KvModsDwRefIdeal.nD Cert.KvModsDwRefIdeal.τ).loc Cert.KvModsDwRefIdeal.main_arg0) = m ((c.tc : Thread Cert.KvModsDwIdeal.nD Cert.KvModsDwIdeal.τ).loc Cert.KvModsDwIdeal.main_arg0)
      ∧ m' ((c.tc : Thread Cert.KvModsDwRefIdeal.nD Cert.KvModsDwRefIdeal.τ).loc Cert.KvModsDwRefIdeal.main_arg1) = m ((c.tc : Thread Cert.KvModsDwIdeal.nD Cert.KvModsDwIdeal.τ).loc Cert.KvModsDwIdeal.main_arg1)) →
    ∃ (v0 : (c : Dev Cert.KvModsDwIdeal.nD) → Buf (Elt Ideal) ((c.tc : Thread Cert.KvModsDwIdeal.nD Cert.KvModsDwIdeal.τ).loc Cert.KvModsDwIdeal.main_v0)),
      θ_run (Cert.KvModsDwIdeal.defs (F := Ideal)) (onTc (τ := Cert.KvModsDwIdeal.τ) (Cert.KvModsDwIdeal.main (F := Ideal))) ⟨m, fun _ => 0, g⟩ (fun r => ∀ c : Dev Cert.KvModsDwIdeal.nD,
          r.2.mem ((c.tc : Thread Cert.KvModsDwIdeal.nD Cert.KvModsDwIdeal.τ).loc Cert.KvModsDwIdeal.main_v0) = v0 c
          ∧ r.2.mem ((c.tc : Thread Cert.KvModsDwIdeal.nD Cert.KvModsDwIdeal.τ).loc Cert.KvModsDwIdeal.main_arg0) = m ((c.tc : Thread Cert.KvModsDwIdeal.nD Cert.KvModsDwIdeal.τ).loc Cert.KvModsDwIdeal.main_arg0)
          ∧ r.2.mem ((c.tc : Thread Cert.KvModsDwIdeal.nD Cert.KvModsDwIdeal.τ).loc Cert.KvModsDwIdeal.main_arg1) = m ((c.tc : Thread Cert.KvModsDwIdeal.nD Cert.KvModsDwIdeal.τ).loc Cert.KvModsDwIdeal.main_arg1))
      ∧ θ_run (Cert.KvModsDwRefIdeal.defs (F := Ideal)) (onTc (τ := Cert.KvModsDwRefIdeal.τ) (Cert.KvModsDwRefIdeal.main (F := Ideal))) ⟨m', fun _ => 0, g'⟩ (fun r => ∀ c : Dev Cert.KvModsDwRefIdeal.nD,
          r.2.mem ((c.tc : Thread Cert.KvModsDwRefIdeal.nD Cert.KvModsDwRefIdeal.τ).loc Cert.KvModsDwRefIdeal.main_v12) = v0 c
          ∧ r.2.mem ((c.tc : Thread Cert.KvModsDwRefIdeal.nD Cert.KvModsDwRefIdeal.τ).loc Cert.KvModsDwRefIdeal.main_arg0) = m' ((c.tc : Thread Cert.KvModsDwRefIdeal.nD Cert.KvModsDwRefIdeal.τ).loc Cert.KvModsDwRefIdeal.main_arg0)
          ∧ r.2.mem ((c.tc : Thread Cert.KvModsDwRefIdeal.nD Cert.KvModsDwRefIdeal.τ).loc Cert.KvModsDwRefIdeal.main_arg1) = m' ((c.tc : Thread Cert.KvModsDwRefIdeal.nD Cert.KvModsDwRefIdeal.τ).loc Cert.KvModsDwRefIdeal.main_arg1))

def preserves_Mods_ModsIdeal : Prop :=
  True

def algebraic_ModsIdeal_ModsRefIdeal [hModsIdeal : Cert.ModsIdeal.Facts] [hModsRefIdeal : Cert.ModsRefIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsRefIdeal.nD Cert.ModsRefIdeal.τ Cert.ModsRefIdeal.sig) → Buf (Elt Ideal) ℓ) (g' : Dev Cert.ModsRefIdeal.nD → PrngReg), Pre_ModsIdeal m →
    (∀ c : Dev Cert.ModsIdeal.nD,
      m' ((c.tc : Thread Cert.ModsRefIdeal.nD Cert.ModsRefIdeal.τ).loc Cert.ModsRefIdeal.main_arg0) = m ((c.tc : Thread Cert.ModsIdeal.nD Cert.ModsIdeal.τ).loc Cert.ModsIdeal.main_arg0)
      ∧ m' ((c.tc : Thread Cert.ModsRefIdeal.nD Cert.ModsRefIdeal.τ).loc Cert.ModsRefIdeal.main_arg1) = m ((c.tc : Thread Cert.ModsIdeal.nD Cert.ModsIdeal.τ).loc Cert.ModsIdeal.main_arg1)
      ∧ m' ((c.tc : Thread Cert.ModsRefIdeal.nD Cert.ModsRefIdeal.τ).loc Cert.ModsRefIdeal.main_arg2) = m ((c.tc : Thread Cert.ModsIdeal.nD Cert.ModsIdeal.τ).loc Cert.ModsIdeal.main_arg2)) →
    ∃ (v0 : (c : Dev Cert.ModsIdeal.nD) → Buf (Elt Ideal) ((c.tc : Thread Cert.ModsIdeal.nD Cert.ModsIdeal.τ).loc Cert.ModsIdeal.main_v0)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v0) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ θ_run (Cert.ModsRefIdeal.defs (F := Ideal)) (onTc (τ := Cert.ModsRefIdeal.τ) (Cert.ModsRefIdeal.main (F := Ideal))) ⟨m', fun _ => 0, g'⟩ (fun r => ∀ c : Dev Cert.ModsRefIdeal.nD,
          r.2.mem ((c.tc : Thread Cert.ModsRefIdeal.nD Cert.ModsRefIdeal.τ).loc Cert.ModsRefIdeal.main_v10) = v0 c
          ∧ r.2.mem ((c.tc : Thread Cert.ModsRefIdeal.nD Cert.ModsRefIdeal.τ).loc Cert.ModsRefIdeal.main_arg0) = m' ((c.tc : Thread Cert.ModsRefIdeal.nD Cert.ModsRefIdeal.τ).loc Cert.ModsRefIdeal.main_arg0)
          ∧ r.2.mem ((c.tc : Thread Cert.ModsRefIdeal.nD Cert.ModsRefIdeal.τ).loc Cert.ModsRefIdeal.main_arg1) = m' ((c.tc : Thread Cert.ModsRefIdeal.nD Cert.ModsRefIdeal.τ).loc Cert.ModsRefIdeal.main_arg1)
          ∧ r.2.mem ((c.tc : Thread Cert.ModsRefIdeal.nD Cert.ModsRefIdeal.τ).loc Cert.ModsRefIdeal.main_arg2) = m' ((c.tc : Thread Cert.ModsRefIdeal.nD Cert.ModsRefIdeal.τ).loc Cert.ModsRefIdeal.main_arg2))

def preserves_KvMods_KvModsIdeal : Prop :=
  True

def algebraic_KvModsIdeal_KvModsRefIdeal [hKvModsIdeal : Cert.KvModsIdeal.Facts] [hKvModsRefIdeal : Cert.KvModsRefIdeal.Facts] : Prop :=
  ∀ (m : (ℓ : Loc Cert.KvModsIdeal.nD Cert.KvModsIdeal.τ Cert.KvModsIdeal.sig) → Buf (Elt Ideal) ℓ) (g : Dev Cert.KvModsIdeal.nD → PrngReg)
    (m' : (ℓ : Loc Cert.KvModsRefIdeal.nD Cert.KvModsRefIdeal.τ Cert.KvModsRefIdeal.sig) → Buf (Elt Ideal) ℓ) (g' : Dev Cert.KvModsRefIdeal.nD → PrngReg), Pre_KvModsIdeal m →
    (∀ c : Dev Cert.KvModsIdeal.nD,
      m' ((c.tc : Thread Cert.KvModsRefIdeal.nD Cert.KvModsRefIdeal.τ).loc Cert.KvModsRefIdeal.main_arg0) = m ((c.tc : Thread Cert.KvModsIdeal.nD Cert.KvModsIdeal.τ).loc Cert.KvModsIdeal.main_arg0)
      ∧ m' ((c.tc : Thread Cert.KvModsRefIdeal.nD Cert.KvModsRefIdeal.τ).loc Cert.KvModsRefIdeal.main_arg1) = m ((c.tc : Thread Cert.KvModsIdeal.nD Cert.KvModsIdeal.τ).loc Cert.KvModsIdeal.main_arg1)
      ∧ m' ((c.tc : Thread Cert.KvModsRefIdeal.nD Cert.KvModsRefIdeal.τ).loc Cert.KvModsRefIdeal.main_arg2) = m ((c.tc : Thread Cert.KvModsIdeal.nD Cert.KvModsIdeal.τ).loc Cert.KvModsIdeal.main_arg2)) →
    ∃ (v0 : (c : Dev Cert.KvModsIdeal.nD) → Buf (Elt Ideal) ((c.tc : Thread Cert.KvModsIdeal.nD Cert.KvModsIdeal.τ).loc Cert.KvModsIdeal.main_v0)),
      θ_run (Cert.KvModsIdeal.defs (F := Ideal)) (onTc (τ := Cert.KvModsIdeal.τ) (Cert.KvModsIdeal.main (F := Ideal))) ⟨m, fun _ => 0, g⟩ (fun r => ∀ c : Dev Cert.KvModsIdeal.nD,
          r.2.mem ((c.tc : Thread Cert.KvModsIdeal.nD Cert.KvModsIdeal.τ).loc Cert.KvModsIdeal.main_v0) = v0 c
          ∧ r.2.mem ((c.tc : Thread Cert.KvModsIdeal.nD Cert.KvModsIdeal.τ).loc Cert.KvModsIdeal.main_arg0) = m ((c.tc : Thread Cert.KvModsIdeal.nD Cert.KvModsIdeal.τ).loc Cert.KvModsIdeal.main_arg0)
          ∧ r.2.mem ((c.tc : Thread Cert.KvModsIdeal.nD Cert.KvModsIdeal.τ).loc Cert.KvModsIdeal.main_arg1) = m ((c.tc : Thread Cert.KvModsIdeal.nD Cert.KvModsIdeal.τ).loc Cert.KvModsIdeal.main_arg1)
          ∧ r.2.mem ((c.tc : Thread Cert.KvModsIdeal.nD Cert.KvModsIdeal.τ).loc Cert.KvModsIdeal.main_arg2) = m ((c.tc : Thread Cert.KvModsIdeal.nD Cert.KvModsIdeal.τ).loc Cert.KvModsIdeal.main_arg2))
      ∧ θ_run (Cert.KvModsRefIdeal.defs (F := Ideal)) (onTc (τ := Cert.KvModsRefIdeal.τ) (Cert.KvModsRefIdeal.main (F := Ideal))) ⟨m', fun _ => 0, g'⟩ (fun r => ∀ c : Dev Cert.KvModsRefIdeal.nD,
          r.2.mem ((c.tc : Thread Cert.KvModsRefIdeal.nD Cert.KvModsRefIdeal.τ).loc Cert.KvModsRefIdeal.main_v10) = v0 c
          ∧ r.2.mem ((c.tc : Thread Cert.KvModsRefIdeal.nD Cert.KvModsRefIdeal.τ).loc Cert.KvModsRefIdeal.main_arg0) = m' ((c.tc : Thread Cert.KvModsRefIdeal.nD Cert.KvModsRefIdeal.τ).loc Cert.KvModsRefIdeal.main_arg0)
          ∧ r.2.mem ((c.tc : Thread Cert.KvModsRefIdeal.nD Cert.KvModsRefIdeal.τ).loc Cert.KvModsRefIdeal.main_arg1) = m' ((c.tc : Thread Cert.KvModsRefIdeal.nD Cert.KvModsRefIdeal.τ).loc Cert.KvModsRefIdeal.main_arg1)
          ∧ r.2.mem ((c.tc : Thread Cert.KvModsRefIdeal.nD Cert.KvModsRefIdeal.τ).loc Cert.KvModsRefIdeal.main_arg2) = m' ((c.tc : Thread Cert.KvModsRefIdeal.nD Cert.KvModsRefIdeal.τ).loc Cert.KvModsRefIdeal.main_arg2))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)) →
    ∃ (v0 : (c : Dev Cert.FinalLossIdeal.nD) → Buf (Elt Ideal) ((c.tc : Thread Cert.FinalLossIdeal.nD Cert.FinalLossIdeal.τ).loc Cert.FinalLossIdeal.main_v3_0)) (v1 : (c : Dev Cert.FinalLossIdeal.nD) → Buf (Elt Ideal) ((c.tc : Thread Cert.FinalLossIdeal.nD Cert.FinalLossIdeal.τ).loc Cert.FinalLossIdeal.main_v3_1)) (v2 : (c : Dev Cert.FinalLossIdeal.nD) → Buf (Elt Ideal) ((c.tc : Thread Cert.FinalLossIdeal.nD Cert.FinalLossIdeal.τ).loc Cert.FinalLossIdeal.main_v3_2)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v3_0) = v0 c
          ∧ r.2.mem ((c.tc : Thread Cert.FinalLossIdeal.nD Cert.FinalLossIdeal.τ).loc Cert.FinalLossIdeal.main_v3_1) = v1 c
          ∧ r.2.mem ((c.tc : Thread Cert.FinalLossIdeal.nD Cert.FinalLossIdeal.τ).loc Cert.FinalLossIdeal.main_v3_2) = v2 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v50) = v0 c
          ∧ r.2.mem ((c.tc : Thread Cert.FinalLossRefIdeal.nD Cert.FinalLossRefIdeal.τ).loc Cert.FinalLossRefIdeal.main_v53) = v1 c
          ∧ r.2.mem ((c.tc : Thread Cert.FinalLossRefIdeal.nD Cert.FinalLossRefIdeal.τ).loc Cert.FinalLossRefIdeal.main_v54) = v2 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2))

def Claim : Prop :=
  ∃ (hConvBwd : Cert.ConvBwd.Facts) (hConvBwdIdeal : Cert.ConvBwdIdeal.Facts) (hConvRefIdeal : Cert.ConvRefIdeal.Facts) (hFfnBwd : Cert.FfnBwd.Facts) (hFfnBwdIdeal : Cert.FfnBwdIdeal.Facts) (hFfnRefIdeal : Cert.FfnRefIdeal.Facts) (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hFfnFwd : Cert.FfnFwd.Facts) (hFfnFwdIdeal : Cert.FfnFwdIdeal.Facts) (hFfnFwdRefIdeal : Cert.FfnFwdRefIdeal.Facts) (hDwConvOut : Cert.DwConvOut.Facts) (hDwConvOutIdeal : Cert.DwConvOutIdeal.Facts) (hDwConvOutRefIdeal : Cert.DwConvOutRefIdeal.Facts) (hDwConvIn : Cert.DwConvIn.Facts) (hDwConvInIdeal : Cert.DwConvInIdeal.Facts) (hDwConvInRefIdeal : Cert.DwConvInRefIdeal.Facts) (hDwAttnO : Cert.DwAttnO.Facts) (hDwAttnOIdeal : Cert.DwAttnOIdeal.Facts) (hDwAttnORefIdeal : Cert.DwAttnORefIdeal.Facts) (hDwAttnQ : Cert.DwAttnQ.Facts) (hDwAttnQIdeal : Cert.DwAttnQIdeal.Facts) (hDwAttnQRefIdeal : Cert.DwAttnQRefIdeal.Facts) (hDwKv : Cert.DwKv.Facts) (hDwKvIdeal : Cert.DwKvIdeal.Facts) (hDwKvRefIdeal : Cert.DwKvRefIdeal.Facts) (hConvFwd : Cert.ConvFwd.Facts) (hConvFwdIdeal : Cert.ConvFwdIdeal.Facts) (hConvFwdRefIdeal : Cert.ConvFwdRefIdeal.Facts) (hAdamNormG : Cert.AdamNormG.Facts) (hAdamNormGIdeal : Cert.AdamNormGIdeal.Facts) (hAdamNormGRefIdeal : Cert.AdamNormGRefIdeal.Facts) (hAdamConvW : Cert.AdamConvW.Facts) (hAdamConvWIdeal : Cert.AdamConvWIdeal.Facts) (hAdamConvWRefIdeal : Cert.AdamConvWRefIdeal.Facts) (hAdamGain : Cert.AdamGain.Facts) (hAdamGainIdeal : Cert.AdamGainIdeal.Facts) (hAdamGainRefIdeal : Cert.AdamGainRefIdeal.Facts) (hAdamAdaB : Cert.AdamAdaB.Facts) (hAdamAdaBIdeal : Cert.AdamAdaBIdeal.Facts) (hAdamAdaBRefIdeal : Cert.AdamAdaBRefIdeal.Facts) (hAdamKvAdaB : Cert.AdamKvAdaB.Facts) (hAdamKvAdaBIdeal : Cert.AdamKvAdaBIdeal.Facts) (hAdamKvAdaBRefIdeal : Cert.AdamKvAdaBRefIdeal.Facts) (hAdamAdaW : Cert.AdamAdaW.Facts) (hAdamAdaWIdeal : Cert.AdamAdaWIdeal.Facts) (hAdamAdaWRefIdeal : Cert.AdamAdaWRefIdeal.Facts) (hAdamKvAdaW : Cert.AdamKvAdaW.Facts) (hAdamKvAdaWIdeal : Cert.AdamKvAdaWIdeal.Facts) (hAdamKvAdaWRefIdeal : Cert.AdamKvAdaWRefIdeal.Facts) (hAdamWKv : Cert.AdamWKv.Facts) (hAdamWKvIdeal : Cert.AdamWKvIdeal.Facts) (hAdamWKvRefIdeal : Cert.AdamWKvRefIdeal.Facts) (hModsDw : Cert.ModsDw.Facts) (hModsDwIdeal : Cert.ModsDwIdeal.Facts) (hModsDwRefIdeal : Cert.ModsDwRefIdeal.Facts) (hKvModsDw : Cert.KvModsDw.Facts) (hKvModsDwIdeal : Cert.KvModsDwIdeal.Facts) (hKvModsDwRefIdeal : Cert.KvModsDwRefIdeal.Facts) (hMods : Cert.Mods.Facts) (hModsIdeal : Cert.ModsIdeal.Facts) (hModsRefIdeal : Cert.ModsRefIdeal.Facts) (hKvMods : Cert.KvMods.Facts) (hKvModsIdeal : Cert.KvModsIdeal.Facts) (hKvModsRefIdeal : Cert.KvModsRefIdeal.Facts) (hFinalLoss : Cert.FinalLoss.Facts) (hFinalLossIdeal : Cert.FinalLossIdeal.Facts) (hFinalLossRefIdeal : Cert.FinalLossRefIdeal.Facts) (hPre_ffn_finite : Cert.Pre_ffn_finite.Facts) (hPre_ffn_fwd_finite : Cert.Pre_ffn_fwd_finite.Facts),
    quiescent_ConvBwd (hConvBwd := hConvBwd)
    ∧ quiescent_ConvBwdIdeal (hConvBwdIdeal := hConvBwdIdeal)
    ∧ quiescent_ConvRefIdeal (hConvRefIdeal := hConvRefIdeal)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_FfnFwd (hFfnFwd := hFfnFwd)
    ∧ quiescent_FfnFwdIdeal (hFfnFwdIdeal := hFfnFwdIdeal)
    ∧ quiescent_FfnFwdIdeal_pre_ffn_fwd_finite (hFfnFwdIdeal := hFfnFwdIdeal) (hPre_ffn_fwd_finite := hPre_ffn_fwd_finite)
    ∧ quiescent_FfnFwdRefIdeal (hFfnFwdRefIdeal := hFfnFwdRefIdeal)
    ∧ quiescent_FfnFwdRefIdeal_pre_ffn_fwd_finite (hFfnFwdRefIdeal := hFfnFwdRefIdeal) (hPre_ffn_fwd_finite := hPre_ffn_fwd_finite)
    ∧ quiescent_DwConvOut (hDwConvOut := hDwConvOut)
    ∧ quiescent_DwConvOutIdeal (hDwConvOutIdeal := hDwConvOutIdeal)
    ∧ quiescent_DwConvOutRefIdeal (hDwConvOutRefIdeal := hDwConvOutRefIdeal)
    ∧ quiescent_DwConvIn (hDwConvIn := hDwConvIn)
    ∧ quiescent_DwConvInIdeal (hDwConvInIdeal := hDwConvInIdeal)
    ∧ quiescent_DwConvInRefIdeal (hDwConvInRefIdeal := hDwConvInRefIdeal)
    ∧ quiescent_DwAttnO (hDwAttnO := hDwAttnO)
    ∧ quiescent_DwAttnOIdeal (hDwAttnOIdeal := hDwAttnOIdeal)
    ∧ quiescent_DwAttnORefIdeal (hDwAttnORefIdeal := hDwAttnORefIdeal)
    ∧ quiescent_DwAttnQ (hDwAttnQ := hDwAttnQ)
    ∧ quiescent_DwAttnQIdeal (hDwAttnQIdeal := hDwAttnQIdeal)
    ∧ quiescent_DwAttnQRefIdeal (hDwAttnQRefIdeal := hDwAttnQRefIdeal)
    ∧ quiescent_DwKv (hDwKv := hDwKv)
    ∧ quiescent_DwKvIdeal (hDwKvIdeal := hDwKvIdeal)
    ∧ quiescent_DwKvRefIdeal (hDwKvRefIdeal := hDwKvRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_AdamNormG (hAdamNormG := hAdamNormG)
    ∧ quiescent_AdamNormGIdeal (hAdamNormGIdeal := hAdamNormGIdeal)
    ∧ quiescent_AdamNormGRefIdeal (hAdamNormGRefIdeal := hAdamNormGRefIdeal)
    ∧ quiescent_AdamConvW (hAdamConvW := hAdamConvW)
    ∧ quiescent_AdamConvWIdeal (hAdamConvWIdeal := hAdamConvWIdeal)
    ∧ quiescent_AdamConvWRefIdeal (hAdamConvWRefIdeal := hAdamConvWRefIdeal)
    ∧ quiescent_AdamGain (hAdamGain := hAdamGain)
    ∧ quiescent_AdamGainIdeal (hAdamGainIdeal := hAdamGainIdeal)
    ∧ quiescent_AdamGainRefIdeal (hAdamGainRefIdeal := hAdamGainRefIdeal)
    ∧ quiescent_AdamAdaB (hAdamAdaB := hAdamAdaB)
    ∧ quiescent_AdamAdaBIdeal (hAdamAdaBIdeal := hAdamAdaBIdeal)
    ∧ quiescent_AdamAdaBRefIdeal (hAdamAdaBRefIdeal := hAdamAdaBRefIdeal)
    ∧ quiescent_AdamKvAdaB (hAdamKvAdaB := hAdamKvAdaB)
    ∧ quiescent_AdamKvAdaBIdeal (hAdamKvAdaBIdeal := hAdamKvAdaBIdeal)
    ∧ quiescent_AdamKvAdaBRefIdeal (hAdamKvAdaBRefIdeal := hAdamKvAdaBRefIdeal)
    ∧ quiescent_AdamAdaW (hAdamAdaW := hAdamAdaW)
    ∧ quiescent_AdamAdaWIdeal (hAdamAdaWIdeal := hAdamAdaWIdeal)
    ∧ quiescent_AdamAdaWRefIdeal (hAdamAdaWRefIdeal := hAdamAdaWRefIdeal)
    ∧ quiescent_AdamKvAdaW (hAdamKvAdaW := hAdamKvAdaW)
    ∧ quiescent_AdamKvAdaWIdeal (hAdamKvAdaWIdeal := hAdamKvAdaWIdeal)
    ∧ quiescent_AdamKvAdaWRefIdeal (hAdamKvAdaWRefIdeal := hAdamKvAdaWRefIdeal)
    ∧ quiescent_AdamWKv (hAdamWKv := hAdamWKv)
    ∧ quiescent_AdamWKvIdeal (hAdamWKvIdeal := hAdamWKvIdeal)
    ∧ quiescent_AdamWKvRefIdeal (hAdamWKvRefIdeal := hAdamWKvRefIdeal)
    ∧ quiescent_ModsDw (hModsDw := hModsDw)
    ∧ quiescent_ModsDwIdeal (hModsDwIdeal := hModsDwIdeal)
    ∧ quiescent_ModsDwRefIdeal (hModsDwRefIdeal := hModsDwRefIdeal)
    ∧ quiescent_KvModsDw (hKvModsDw := hKvModsDw)
    ∧ quiescent_KvModsDwIdeal (hKvModsDwIdeal := hKvModsDwIdeal)
    ∧ quiescent_KvModsDwRefIdeal (hKvModsDwRefIdeal := hKvModsDwRefIdeal)
    ∧ quiescent_Mods (hMods := hMods)
    ∧ quiescent_ModsIdeal (hModsIdeal := hModsIdeal)
    ∧ quiescent_ModsRefIdeal (hModsRefIdeal := hModsRefIdeal)
    ∧ quiescent_KvMods (hKvMods := hKvMods)
    ∧ quiescent_KvModsIdeal (hKvModsIdeal := hKvModsIdeal)
    ∧ quiescent_KvModsRefIdeal (hKvModsRefIdeal := hKvModsRefIdeal)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ preserves_ConvBwd_ConvBwdIdeal
    ∧ algebraic_ConvBwdIdeal_ConvRefIdeal (hConvBwdIdeal := hConvBwdIdeal) (hConvRefIdeal := hConvRefIdeal)
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal (hDwInIdeal := hDwInIdeal) (hDwInRefIdeal := hDwInRefIdeal)
    ∧ preserves_FfnFwd_FfnFwdIdeal
    ∧ algebraic_FfnFwdIdeal_FfnFwdRefIdeal_pre_ffn_fwd_finite (hFfnFwdIdeal := hFfnFwdIdeal) (hFfnFwdRefIdeal := hFfnFwdRefIdeal) (hPre_ffn_fwd_finite := hPre_ffn_fwd_finite)
    ∧ preserves_DwConvOut_DwConvOutIdeal
    ∧ algebraic_DwConvOutIdeal_DwConvOutRefIdeal (hDwConvOutIdeal := hDwConvOutIdeal) (hDwConvOutRefIdeal := hDwConvOutRefIdeal)
    ∧ preserves_DwConvIn_DwConvInIdeal
    ∧ algebraic_DwConvInIdeal_DwConvInRefIdeal (hDwConvInIdeal := hDwConvInIdeal) (hDwConvInRefIdeal := hDwConvInRefIdeal)
    ∧ preserves_DwAttnO_DwAttnOIdeal
    ∧ algebraic_DwAttnOIdeal_DwAttnORefIdeal (hDwAttnOIdeal := hDwAttnOIdeal) (hDwAttnORefIdeal := hDwAttnORefIdeal)
    ∧ preserves_DwAttnQ_DwAttnQIdeal
    ∧ algebraic_DwAttnQIdeal_DwAttnQRefIdeal (hDwAttnQIdeal := hDwAttnQIdeal) (hDwAttnQRefIdeal := hDwAttnQRefIdeal)
    ∧ preserves_DwKv_DwKvIdeal
    ∧ algebraic_DwKvIdeal_DwKvRefIdeal (hDwKvIdeal := hDwKvIdeal) (hDwKvRefIdeal := hDwKvRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_AdamNormG_AdamNormGIdeal
    ∧ algebraic_AdamNormGIdeal_AdamNormGRefIdeal (hAdamNormGIdeal := hAdamNormGIdeal) (hAdamNormGRefIdeal := hAdamNormGRefIdeal)
    ∧ preserves_AdamConvW_AdamConvWIdeal
    ∧ algebraic_AdamConvWIdeal_AdamConvWRefIdeal (hAdamConvWIdeal := hAdamConvWIdeal) (hAdamConvWRefIdeal := hAdamConvWRefIdeal)
    ∧ preserves_AdamGain_AdamGainIdeal
    ∧ algebraic_AdamGainIdeal_AdamGainRefIdeal (hAdamGainIdeal := hAdamGainIdeal) (hAdamGainRefIdeal := hAdamGainRefIdeal)
    ∧ preserves_AdamAdaB_AdamAdaBIdeal
    ∧ algebraic_AdamAdaBIdeal_AdamAdaBRefIdeal (hAdamAdaBIdeal := hAdamAdaBIdeal) (hAdamAdaBRefIdeal := hAdamAdaBRefIdeal)
    ∧ preserves_AdamKvAdaB_AdamKvAdaBIdeal
    ∧ algebraic_AdamKvAdaBIdeal_AdamKvAdaBRefIdeal (hAdamKvAdaBIdeal := hAdamKvAdaBIdeal) (hAdamKvAdaBRefIdeal := hAdamKvAdaBRefIdeal)
    ∧ preserves_AdamAdaW_AdamAdaWIdeal
    ∧ algebraic_AdamAdaWIdeal_AdamAdaWRefIdeal (hAdamAdaWIdeal := hAdamAdaWIdeal) (hAdamAdaWRefIdeal := hAdamAdaWRefIdeal)
    ∧ preserves_AdamKvAdaW_AdamKvAdaWIdeal
    ∧ algebraic_AdamKvAdaWIdeal_AdamKvAdaWRefIdeal (hAdamKvAdaWIdeal := hAdamKvAdaWIdeal) (hAdamKvAdaWRefIdeal := hAdamKvAdaWRefIdeal)
    ∧ preserves_AdamWKv_AdamWKvIdeal
    ∧ algebraic_AdamWKvIdeal_AdamWKvRefIdeal (hAdamWKvIdeal := hAdamWKvIdeal) (hAdamWKvRefIdeal := hAdamWKvRefIdeal)
    ∧ preserves_ModsDw_ModsDwIdeal
    ∧ algebraic_ModsDwIdeal_ModsDwRefIdeal (hModsDwIdeal := hModsDwIdeal) (hModsDwRefIdeal := hModsDwRefIdeal)
    ∧ preserves_KvModsDw_KvModsDwIdeal
    ∧ algebraic_KvModsDwIdeal_KvModsDwRefIdeal (hKvModsDwIdeal := hKvModsDwIdeal) (hKvModsDwRefIdeal := hKvModsDwRefIdeal)
    ∧ preserves_Mods_ModsIdeal
    ∧ algebraic_ModsIdeal_ModsRefIdeal (hModsIdeal := hModsIdeal) (hModsRefIdeal := hModsRefIdeal)
    ∧ preserves_KvMods_KvModsIdeal
    ∧ algebraic_KvModsIdeal_KvModsRefIdeal (hKvModsIdeal := hKvModsIdeal) (hKvModsRefIdeal := hKvModsRefIdeal)
    ∧ preserves_FinalLoss_FinalLossIdeal
    ∧ algebraic_FinalLossIdeal_FinalLossRefIdeal (hFinalLossIdeal := hFinalLossIdeal) (hFinalLossRefIdeal := hFinalLossRefIdeal)
-- ==== Pre_ffn_finite.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S1024 .f32) (main_arg5 : FVec F S1024x5632 .f32) (main_arg6 : FVec F S2816x1024 .f32) (main_arg7 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x5632 .f32 := Host.absf main_arg5
  let main_cst_8 : FVec F S_ .f32 := constant S_ .f32 0x7F800000#32
  let main_v25 : FVec F S1024x5632 .f32 := broadcastInDim S1024x5632 ![] bcast_S_S1024x5632 main_cst_8
  let main_v26 : IVec S1024x5632 1 := cmpf .olt main_v24 main_v25
  let main_c_9 : IVec S_ 1 := constantI S_ 1 1#1
  let main_v27 : IVec S_ 1 := (fun x v => Host.reduce IntOp.andi x v reducesTo_S1024x5632_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S1024 .f32) (main_arg2 : FVec F S1024 .f32) (main_arg3 : FVec F S1024 .f32) (main_arg4 : FVec F S1024 .f32) (main_arg5 : FVec F S1024x5632 .f32) (main_arg6 : FVec F S2816x1024 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Pre_ffn_fwd_finite.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024 .f32) (main_arg5 : FVec F S1024x5632 .f32) (main_arg6 : FVec F S2816x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x5632 .f32 := Host.absf main_arg5
  let main_cst_8 : FVec F S_ .f32 := constant S_ .f32 0x7F800000#32
  let main_v25 : FVec F S1024x5632 .f32 := broadcastInDim S1024x5632 ![] bcast_S_S1024x5632 main_cst_8
  let main_v26 : IVec S1024x5632 1 := cmpf .olt main_v24 main_v25
  let main_c_9 : IVec S_ 1 := constantI S_ 1 1#1
  let main_v27 : IVec S_ 1 := (fun x v => Host.reduce IntOp.andi x v reducesTo_S1024x5632_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  main_v33

def fn {F : FTy → Type} [FloatOps F] (main_arg0 : FVec F S8192x1024 .f32) (main_arg1 : FVec F S1024 .f32) (main_arg2 : FVec F S1024 .f32) (main_arg3 : FVec F S1024 .f32) (main_arg4 : FVec F S1024 .f32) (main_arg5 : FVec F S1024x5632 .f32) (main_arg6 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== ConvBwd.lean ====
abbrev S8192x1024 : Shape := ⟨2, ![8192, 1024]⟩
abbrev S1024 : Shape := ⟨1, ![1024]⟩
abbrev S3x1024 : Shape := ⟨2, ![3, 1024]⟩
abbrev S1024x3072 : Shape := ⟨2, ![1024, 3072]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S2x1024 : Shape := ⟨2, ![2, 1024]⟩
abbrev S8194x1024 : Shape := ⟨2, ![8194, 1024]⟩
abbrev S4x1024 : Shape := ⟨2, ![4, 1024]⟩
abbrev S8x1024 : Shape := ⟨2, ![8, 1024]⟩
abbrev S5x1024 : Shape := ⟨2, ![5, 1024]⟩
abbrev S512x1024 : Shape := ⟨2, ![512, 1024]⟩
abbrev S512x3072 : Shape := ⟨2, ![512, 3072]⟩
abbrev S520x1024 : Shape := ⟨2, ![520, 1024]⟩
abbrev S512 : Shape := ⟨1, ![512]⟩
abbrev S512x1 : Shape := ⟨2, ![512, 1]⟩

abbrev nBuf : Space → Nat
  | .hbm => 93
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S3x1024, .f32⟩
  | .hbm, ⟨6, _⟩ => ⟨S1024x3072, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x3072, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S2x1024, .f32⟩
  | .hbm, ⟨41, _⟩ => ⟨S8194x1024, .f32⟩
  | .hbm, ⟨42, _⟩ => ⟨S1x1024, .f32⟩
  | .hbm, ⟨43, _⟩ => ⟨S1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S1024, .f32⟩
  | .hbm, ⟨57, _⟩ => ⟨S8192x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S4x1024, .f32⟩
  | .hbm, ⟨70, _⟩ => ⟨S8x1024, .f32⟩
  | .hbm, ⟨71, _⟩ => ⟨S1x1024, .f32⟩
  | .hbm, ⟨72, _⟩ => ⟨S1024, .f32⟩
  | .hbm, ⟨73, _⟩ => ⟨S1x1024, .f32⟩
  | .hbm, ⟨74, _⟩ => ⟨S1024, .f32⟩
  | .hbm, ⟨75, _⟩ => ⟨S1x1024, .f32⟩
  | .hbm, ⟨76, _⟩ => ⟨S1024, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S5x1024, .f32⟩
  | .hbm, ⟨82, _⟩ => ⟨S8x1024, .f32⟩
  | .hbm, ⟨83, _⟩ => ⟨S8192x1024, .bf16⟩
  | .hbm, ⟨84, _⟩ => ⟨S8192x3072, .bf16⟩
  | .hbm, ⟨85, _⟩ => ⟨S8192x1024, .bf16⟩
  | .hbm, ⟨86, _⟩ => ⟨S1024x3072, .bf16⟩
  | .hbm, ⟨87, _⟩ => ⟨S1024x1024, .bf16⟩
  | .hbm, ⟨88, _⟩ => ⟨S8192x1024, .f32⟩
  | .hbm, ⟨89, _⟩ => ⟨S8192x1024, .bf16⟩
  | .hbm, ⟨90, _⟩ => ⟨S8192x3072, .bf16⟩
  | .hbm, ⟨91, _⟩ => ⟨S8x1024, .f32⟩
  | .hbm, ⟨92, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | .local _ .vmem, ⟨11, _⟩ => ⟨S8x1024, .f32⟩
  | .local _ .vmem, ⟨12, _⟩ => ⟨S1024x3072, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x3072, .bf16⟩
  | .local _ .vmem, ⟨19, _⟩ => ⟨S512x3072, .bf16⟩
  | .local _ .vmem, ⟨20, _⟩ => ⟨S8x1024, .f32⟩
  | .local _ .vmem, ⟨21, _⟩ => ⟨S8x1024, .f32⟩
  | .local _ .vmem, ⟨22, _⟩ => ⟨S520x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_4 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_5 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72_0 : Ref sig .tc := ⟨.hbm, 88, rfl⟩
abbrev main_v72_1 : Ref sig .tc := ⟨.hbm, 89, rfl⟩
abbrev main_v72_2 : Ref sig .tc := ⟨.hbm, 90, rfl⟩
abbrev main_v72_3 : Ref sig .tc := ⟨.hbm, 91, rfl⟩
abbrev main_v72_4 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v124 : BitVec 32 := Scalar.extui v0
  let c0_i32_54 : BitVec 32 := 0#32
  let v125 : BitVec 1 := Scalar.cmpi .ne v124 c0_i32_54
  v125

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v126 : BitVec 1 := Scalar.xori v0 v_true
  let v127 : BitVec 32 := Scalar.extui v126
  let c0_i32_55 : BitVec 32 := 0#32
  let v128 : BitVec 1 := Scalar.cmpi .ne v127 c0_i32_55
  v128

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v129 : BitVec 32 := Scalar.extui v0
  let c0_i32_56 : BitVec 32 := 0#32
  let v130 : BitVec 1 := Scalar.cmpi .ne v129 c0_i32_56
  v130

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_57 : BitVec 1 := 1#1
  let v131 : BitVec 1 := Scalar.xori v0 true_57
  let v132 : BitVec 32 := Scalar.extui v131
  let c0_i32_58 : BitVec 32 := 0#32
  let v133 : BitVec 1 := Scalar.cmpi .ne v132 c0_i32_58
  v133

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ConvRefIdeal.lean ====
abbrev S8192x1024 : Shape := ⟨2, ![8192, 1024]⟩
abbrev S1024 : Shape := ⟨1, ![1024]⟩
abbrev S3x1024 : Shape := ⟨2, ![3, 1024]⟩
abbrev S1024x3072 : Shape := ⟨2, ![1024, 3072]⟩
abbrev S1024x1024 : Shape := ⟨2, ![1024, 1024]⟩
abbrev S_ : Shape := ⟨0, ![]⟩
abbrev S8192x3072 : Shape := ⟨2, ![8192, 3072]⟩
abbrev S8192 : Shape := ⟨1, ![8192]⟩
abbrev S8192x1 : Shape := ⟨2, ![8192, 1]⟩
abbrev S1x1024 : Shape := ⟨2, ![1, 1024]⟩
abbrev S2x1024 : Shape := ⟨2, ![2, 1024]⟩
abbrev S8194x1024 : Shape := ⟨2, ![8194, 1024]⟩
abbrev S3072x1024 : Shape := ⟨2, ![3072, 1024]⟩
abbrev S4x1024 : Shape := ⟨2, ![4, 1024]⟩
abbrev S8x1024 : Shape := ⟨2, ![8, 1024]⟩
abbrev S5x1024 : Shape := ⟨2, ![5, 1024]⟩

abbrev nBuf : Space → Nat
  | .hbm => 199
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024, .f32⟩
  | 5 => ⟨S3x1024, .f32⟩
  | 6 => ⟨S1024x3072, .f32⟩
  | 7 => ⟨S1024x1024, .f32⟩
  | 8 => ⟨S8192x1024, .f32⟩
  | 9 => ⟨S_, .f32⟩
  | 10 => ⟨S8192x3072, .f32⟩
  | 11 => ⟨S_, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S1x1024, .f32⟩
  | 34 => ⟨S_, .f32⟩
  | 35 => ⟨S1x1024, .f32⟩
  | 36 => ⟨S1x1024, .f32⟩
  | 37 => ⟨S8192x1024, .f32⟩
  | 38 => ⟨S8192x1024, .f32⟩
  | 39 => ⟨S1x1024, .f32⟩
  | 40 => ⟨S8192x1024, .f32⟩
  | 41 => ⟨S8192x1024, .f32⟩
  | 42 => ⟨S8192x3072, .f32⟩
  | 43 => ⟨S8192x3072, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S2x1024, .f32⟩
  | 50 => ⟨S8194x1024, .f32⟩
  | 51 => ⟨S_, .f32⟩
  | 52 => ⟨S2x1024, .f32⟩
  | 53 => ⟨S1x1024, .f32⟩
  | 54 => ⟨S1024, .f32⟩
  | 55 => ⟨S8192x1024, .f32⟩
  | 56 => ⟨S1x1024, .f32⟩
  | 57 => ⟨S8192x1024, .f32⟩
  | 58 => ⟨S8192x1024, .f32⟩
  | 59 => ⟨S1x1024, .f32⟩
  | 60 => ⟨S1024, .f32⟩
  | 61 => ⟨S8192x1024, .f32⟩
  | 62 => ⟨S1x1024, .f32⟩
  | 63 => ⟨S8192x1024, .f32⟩
  | 64 => ⟨S8192x1024, .f32⟩
  | 65 => ⟨S8192x1024, .f32⟩
  | 66 => ⟨S1x1024, .f32⟩
  | 67 => ⟨S1024, .f32⟩
  | 68 => ⟨S8192x1024, .f32⟩
  | 69 => ⟨S1x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S_, .f32⟩
  | 77 => ⟨S1024, .f32⟩
  | 78 => ⟨S1024, .f32⟩
  | 79 => ⟨S1x1024, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S_, .f32⟩
  | 88 => ⟨S1024, .f32⟩
  | 89 => ⟨S1x1024, .f32⟩
  | 90 => ⟨S_, .f32⟩
  | 91 => ⟨S1024, .f32⟩
  | 92 => ⟨S1024x1024, .f32⟩
  | 93 => ⟨S1024x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S_, .f32⟩
  | 101 => ⟨S1024, .f32⟩
  | 102 => ⟨S1x1024, .f32⟩
  | 103 => ⟨S_, .f32⟩
  | 104 => ⟨S1024, .f32⟩
  | 105 => ⟨S_, .f32⟩
  | 106 => ⟨S8194x1024, .f32⟩
  | 107 => ⟨S1x1024, .f32⟩
  | 108 => ⟨S_, .f32⟩
  | 109 => ⟨S3x1024, .f32⟩
  | 110 => ⟨S8192x1024, .f32⟩
  | 111 => ⟨S8192x1024, .f32⟩
  | 112 => ⟨S8192x1024, .f32⟩
  | 113 => ⟨S_, .f32⟩
  | 114 => ⟨S1024, .f32⟩
  | 115 => ⟨S1x1024, .f32⟩
  | 116 => ⟨S_, .f32⟩
  | 117 => ⟨S1024, .f32⟩
  | 118 => ⟨S_, .f32⟩
  | 119 => ⟨S8194x1024, .f32⟩
  | 120 => ⟨S8194x1024, .f32⟩
  | 121 => ⟨S1x1024, .f32⟩
  | 122 => ⟨S_, .f32⟩
  | 123 => ⟨S3x1024, .f32⟩
  | 124 => ⟨S3x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S1024, .f32⟩
  | 2 => ⟨S1x1024, .f32⟩
  | 3 => ⟨S_, .f32⟩
  | 4 => ⟨S1024, .f32⟩
  | 5 => ⟨S_, .f32⟩
  | 6 => ⟨S8194x1024, .f32⟩
  | 7 => ⟨S8194x1024, .f32⟩
  | 8 => ⟨S1x1024, .f32⟩
  | 9 => ⟨S_, .f32⟩
  | 10 => ⟨S3x1024, .f32⟩
  | 11 => ⟨S3x1024, .f32⟩
  | 12 => ⟨S2x1024, .f32⟩
  | 13 => ⟨S8192x1024, .f32⟩
  | 14 => ⟨S8192x1024, .f32⟩
  | 15 => ⟨S8192x1024, .f32⟩
  | 16 => ⟨S8192x3072, .f32⟩
  | 17 => ⟨S3072x1024, .f32⟩
  | 18 => ⟨S1024x3072, .f32⟩
  | 19 => ⟨S8192x1024, .f32⟩
  | 20 => ⟨S_, .f32⟩
  | 21 => ⟨S1024, .f32⟩
  | 22 => ⟨S1x1024, .f32⟩
  | 23 => ⟨S_, .f32⟩
  | 24 => ⟨S1024, .f32⟩
  | 25 => ⟨S8192x1024, .f32⟩
  | 26 => ⟨S_, .f32⟩
  | 27 => ⟨S1024, .f32⟩
  | 28 => ⟨S1x1024, .f32⟩
  | 29 => ⟨S8192x1024, .f32⟩
  | 30 => ⟨S8192x1024, .f32⟩
  | 31 => ⟨S_, .f32⟩
  | 32 => ⟨S1024, .f32⟩
  | 33 => ⟨S8192x1024, .f32⟩
  | 34 => ⟨S_, .f32⟩
  | 35 => ⟨S1024, .f32⟩
  | 36 => ⟨S1x1024, .f32⟩
  | 37 => ⟨S8192x1024, .f32⟩
  | 38 => ⟨S8192x1024, .f32⟩
  | 39 => ⟨S_, .f32⟩
  | 40 => ⟨S1024, .f32⟩
  | 41 => ⟨S8192x1024, .f32⟩
  | 42 => ⟨S_, .f32⟩
  | 43 => ⟨S8192, .f32⟩
  | 44 => ⟨S8192x1, .f32⟩
  | 45 => ⟨S8192x1024, .f32⟩
  | 46 => ⟨S8192x1024, .f32⟩
  | 47 => ⟨S8192x1024, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S1x1024, .f32⟩
  | 60 => ⟨S1x1024, .f32⟩
  | 61 => ⟨S1x1024, .f32⟩
  | 62 => ⟨S1x1024, .f32⟩
  | 63 => ⟨S_, .f32⟩
  | 64 => ⟨S4x1024, .f32⟩
  | 65 => ⟨S8x1024, .f32⟩
  | 66 => ⟨S_, .f32⟩
  | 67 => ⟨S5x1024, .f32⟩
  | 68 => ⟨S8x1024, .f32⟩
  | 69 => ⟨S8192x1024, .bf16⟩
  | 70 => ⟨S8192x3072, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_v68 : Ref sig .tc := ⟨.hbm, 88, rfl⟩
abbrev main_v69 : Ref sig .tc := ⟨.hbm, 89, rfl⟩
abbrev main_cst_10 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_11 : Ref sig .tc := ⟨.hbm, 100, rfl⟩
abbrev main_v79 : Ref sig .tc := ⟨.hbm, 101, rfl⟩
abbrev main_v80 : Ref sig .tc := ⟨.hbm, 102, rfl⟩
abbrev main_cst_12 : Ref sig .tc := ⟨.hbm, 103, rfl⟩
abbrev main_v81 : Ref sig .tc := ⟨.hbm, 104, rfl⟩
abbrev main_cst_13 : Ref sig .tc := ⟨.hbm, 105, rfl⟩
abbrev main_v82 : Ref sig .tc := ⟨.hbm, 106, rfl⟩
abbrev main_v83 : Ref sig .tc := ⟨.hbm, 107, rfl⟩
abbrev main_cst_14 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_15 : Ref sig .tc := ⟨.hbm, 113, rfl⟩
abbrev main_v88 : Ref sig .tc := ⟨.hbm, 114, rfl⟩
abbrev main_v89 : Ref sig .tc := ⟨.hbm, 115, rfl⟩
abbrev main_cst_16 : Ref sig .tc := ⟨.hbm, 116, rfl⟩
abbrev main_v90 : Ref sig .tc := ⟨.hbm, 117, rfl⟩
abbrev main_cst_17 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_18 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_19 : Ref sig .tc := ⟨.hbm, 128, rfl⟩
abbrev main_v99 : Ref sig .tc := ⟨.hbm, 129, rfl⟩
abbrev main_v100 : Ref sig .tc := ⟨.hbm, 130, rfl⟩
abbrev main_cst_20 : Ref sig .tc := ⟨.hbm, 131, rfl⟩
abbrev main_v101 : Ref sig .tc := ⟨.hbm, 132, rfl⟩
abbrev main_cst_21 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_22 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_23 : Ref sig .tc := ⟨.hbm, 148, rfl⟩
abbrev main_v115 : Ref sig .tc := ⟨.hbm, 149, rfl⟩
abbrev main_v116 : Ref sig .tc := ⟨.hbm, 150, rfl⟩
abbrev main_cst_24 : Ref sig .tc := ⟨.hbm, 151, rfl⟩
abbrev main_v117 : Ref sig .tc := ⟨.hbm, 152, rfl⟩
abbrev main_v118 : Ref sig .tc := ⟨.hbm, 153, rfl⟩
abbrev main_cst_25 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_26 : Ref sig .tc := ⟨.hbm, 159, rfl⟩
abbrev main_v123 : Ref sig .tc := ⟨.hbm, 160, rfl⟩
abbrev main_v124 : Ref sig .tc := ⟨.hbm, 161, rfl⟩
abbrev main_cst_27 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_28 : Ref sig .tc := ⟨.hbm, 167, rfl⟩
abbrev main_v129 : Ref sig .tc := ⟨.hbm, 168, rfl⟩
abbrev main_v130 : Ref sig .tc := ⟨.hbm, 169, rfl⟩
abbrev main_cst_29 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_30 : Ref sig .tc := ⟨.hbm, 177, rfl⟩
abbrev main_v137 : Ref sig .tc := ⟨.hbm, 178, rfl⟩
abbrev main_v138 : Ref sig .tc := ⟨.hbm, 179, rfl⟩
abbrev main_cst_31 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_32 : Ref sig .tc := ⟨.hbm, 191, rfl⟩
abbrev main_v149 : Ref sig .tc := ⟨.hbm, 192, rfl⟩
abbrev main_v150 : Ref sig .tc := ⟨.hbm, 193, rfl⟩
abbrev main_cst_33 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩

abbrev nD : Nat := 1
abbrev τ : Topo := Topo.v7x

variable {F : FTy → Type} [FloatOps F]
-- ==== FfnBwd.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S4x1024 : Shape := ⟨2, ![4, 1024]⟩
abbrev S8x1024 : Shape := ⟨2, ![8, 1024]⟩
abbrev S5632x1024 : Shape := ⟨2, ![5632, 1024]⟩
abbrev S256x1024 : Shape := ⟨2, ![256, 1024]⟩
abbrev S256x2816 : Shape := ⟨2, ![256, 2816]⟩
abbrev S256x5632 : Shape := ⟨2, ![256, 5632]⟩
abbrev S256x256 : Shape := ⟨2, ![256, 256]⟩
abbrev S256 : Shape := ⟨1, ![256]⟩
abbrev S256x1 : Shape := ⟨2, ![256, 1]⟩

abbrev nBuf : Space → Nat
  | .hbm => 79
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x5632, .f32⟩
  | .hbm, ⟨34, _⟩ => ⟨S_, .f32⟩
  | .hbm, ⟨35, _⟩ => ⟨S8192x5632, .f32⟩
  | .hbm, ⟨36, _⟩ => ⟨S8192x5632, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S_, .f32⟩
  | .hbm, ⟨67, _⟩ => ⟨S4x1024, .f32⟩
  | .hbm, ⟨68, _⟩ => ⟨S8x1024, .f32⟩
  | .hbm, ⟨69, _⟩ => ⟨S8192x1024, .bf16⟩
  | .hbm, ⟨70, _⟩ => ⟨S2816x1024, .bf16⟩
  | .hbm, ⟨71, _⟩ => ⟨S5632x1024, .f32⟩
  | .hbm, ⟨72, _⟩ => ⟨S5632x1024, .bf16⟩
  | .hbm, ⟨73, _⟩ => ⟨S8192x2816, .bf16⟩
  | .hbm, ⟨74, _⟩ => ⟨S8192x2816, .bf16⟩
  | .hbm, ⟨75, _⟩ => ⟨S8192x1024, .bf16⟩
  | .hbm, ⟨76, _⟩ => ⟨S8192x5632, .bf16⟩
  | .hbm, ⟨77, _⟩ => ⟨S8192x1024, .f32⟩
  | .hbm, ⟨78, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S8x1024, .f32⟩
  | .local _ .vmem, ⟨5, _⟩ => ⟨S2816x1024, .bf16⟩
  | .local _ .vmem, ⟨6, _⟩ => ⟨S5632x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x5632, .bf16⟩
  | .local _ .vmem, ⟨16, _⟩ => ⟨S256x5632, .bf16⟩
  | .local _ .vmem, ⟨17, _⟩ => ⟨S256x1024, .f32⟩
  | .local _ .vmem, ⟨18, _⟩ => ⟨S256x1024, .f32⟩
  | .local _ .vmem, ⟨19, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57_0 : Ref sig .tc := ⟨.hbm, 75, rfl⟩
abbrev main_v57_1 : Ref sig .tc := ⟨.hbm, 76, rfl⟩
abbrev main_v57_2 : Ref sig .tc := ⟨.hbm, 77, rfl⟩
abbrev main_v57_3 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v242 : BitVec 1 := Scalar.cmpi .eq arg0 c0_i32
  let v243 : BitVec 32 := Scalar.extui v242
  let c0_i32_133 : BitVec 32 := 0#32
  let v244 : BitVec 1 := Scalar.cmpi .ne v243 c0_i32_133
  v244

def k0_cond2 (i : grid0.Coords) : BitVec 1 :=
  let arg0 : BitVec 32 := BitVec.ofNat 32 (i 0).val
  let c0_i32 : BitVec 32 := 0#32
  let v242 : BitVec 1 := Scalar.cmpi .eq arg0 c0_i32
  let v_true : BitVec 1 := 1#1
  let v245 : BitVec 1 := Scalar.xori v242 v_true
  let v246 : BitVec 32 := Scalar.extui v245
  let c0_i32_134 : BitVec 32 := 0#32
  let v247 : BitVec 1 := Scalar.cmpi .ne v246 c0_i32_134
  v247

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1024x2816 : Shape := ⟨2, ![1024, 2816]⟩
abbrev S5632x1024 : Shape := ⟨2, ![5632, 1024]⟩
abbrev S4x1024 : Shape := ⟨2, ![4, 1024]⟩
abbrev S8x1024 : Shape := ⟨2, ![8, 1024]⟩

abbrev nBuf : Space → Nat
  | .hbm => 144
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024, .f32⟩
  | 5 => ⟨S1024x5632, .f32⟩
  | 6 => ⟨S2816x1024, .f32⟩
  | 7 => ⟨S8192x1024, .f32⟩
  | 8 => ⟨S_, .f32⟩
  | 9 => ⟨S8192x5632, .f32⟩
  | 10 => ⟨S_, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S1x1024, .f32⟩
  | 30 => ⟨S8192x1024, .f32⟩
  | 31 => ⟨S8192x1024, .f32⟩
  | 32 => ⟨S1x1024, .f32⟩
  | 33 => ⟨S_, .f32⟩
  | 34 => ⟨S1x1024, .f32⟩
  | 35 => ⟨S1x1024, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S8192x5632, .f32⟩
  | 42 => ⟨S8192x5632, .f32⟩
  | 43 => ⟨S8192x2816, .f32⟩
  | 44 => ⟨S8192x2816, .f32⟩
  | 45 => ⟨S8192x2816, .f32⟩
  | 46 => ⟨S8192x2816, .f32⟩
  | 47 => ⟨S_, .f32⟩
  | 48 => ⟨S8192x2816, .f32⟩
  | 49 => ⟨S8192x2816, .f32⟩
  | 50 => ⟨S_, .f32⟩
  | 51 => ⟨S8192x2816, .f32⟩
  | 52 => ⟨S8192x2816, .f32⟩
  | 53 => ⟨S_, .f32⟩
  | 54 => ⟨S8192x2816, .f32⟩
  | 55 => ⟨S8192x2816, .f32⟩
  | 56 => ⟨S8192x2816, .f32⟩
  | 57 => ⟨S8192x2816, .f32⟩
  | 58 => ⟨S8192x2816, .f32⟩
  | 59 => ⟨S8192x1024, .f32⟩
  | 60 => ⟨S8192x1024, .f32⟩
  | 61 => ⟨S_, .f32⟩
  | 62 => ⟨S1024, .f32⟩
  | 63 => ⟨S1024, .f32⟩
  | 64 => ⟨S1x1024, .f32⟩
  | 65 => ⟨S_, .f32⟩
  | 66 => ⟨S1x1024, .f32⟩
  | 67 => ⟨S1x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S1024, .f32⟩
  | 77 => ⟨S1x1024, .f32⟩
  | 78 => ⟨S_, .f32⟩
  | 79 => ⟨S1x1024, .f32⟩
  | 80 => ⟨S1x1024, .f32⟩
  | 81 => ⟨S_, .f32⟩
  | 82 => ⟨S1024, .f32⟩
  | 83 => ⟨S1024x2816, .f32⟩
  | 84 => ⟨S2816x1024, .f32⟩
  | 85 => ⟨S8192x2816, .f32⟩
  | 86 => ⟨S8192x2816, .f32⟩
  | 87 => ⟨S8192x2816, .f32⟩
  | 88 => ⟨S8192x2816, .f32⟩
  | 89 => ⟨S8192x2816, .f32⟩
  | 90 => ⟨S8192x2816, .f32⟩
  | 91 => ⟨S8192x2816, .f32⟩
  | 92 => ⟨S8192x5632, .f32⟩
  | 93 => ⟨S5632x1024, .f32⟩
  | 94 => ⟨S1024x5632, .f32⟩
  | 95 => ⟨S8192x1024, .f32⟩
  | 96 => ⟨S_, .f32⟩
  | 97 => ⟨S1024, .f32⟩
  | 98 => ⟨S1x1024, .f32⟩
  | 99 => ⟨S_, .f32⟩
  | 100 => ⟨S1024, .f32⟩
  | 101 => ⟨S8192x1024, .f32⟩
  | 102 => ⟨S_, .f32⟩
  | 103 => ⟨S1024, .f32⟩
  | 104 => ⟨S1x1024, .f32⟩
  | 105 => ⟨S8192x1024, .f32⟩
  | 106 => ⟨S8192x1024, .f32⟩
  | 107 => ⟨S_, .f32⟩
  | 108 => ⟨S1024, .f32⟩
  | 109 => ⟨S8192x1024, .f32⟩
  | 110 => ⟨S_, .f32⟩
  | 111 => ⟨S1024, .f32⟩
  | 112 => ⟨S1x1024, .f32⟩
  | 113 => ⟨S8192x1024, .f32⟩
  | 114 => ⟨S8192x1024, .f32⟩
  | 115 => ⟨S_, .f32⟩
  | 116 => ⟨S1024, .f32⟩
  | 117 => ⟨S8192x1024, .f32⟩
  | 118 => ⟨S_, .f32⟩
  | 119 => ⟨S8192, .f32⟩
  | 120 => ⟨S8192x1, .f32⟩
  | 121 => ⟨S8192x1024, .f32⟩
  | 122 => ⟨S8192x1024, .f32⟩
  | 123 => ⟨S8192x1024, .f32⟩
  | 124 => ⟨S8192x1, .f32⟩
  | 125 => ⟨S_, .f32⟩
  | 126 => ⟨S8192x1, .f32⟩
  | 127 => ⟨S8192x1, .f32⟩
  | _ => ⟨S8192x1024, .f32⟩

abbrev hbmTy0_1 (i : Nat) : BufTy := match i % 128 with
  | 0 => ⟨S_, .f32⟩
  | 1 => ⟨S8192, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S1x1024, .f32⟩
  | 8 => ⟨S1x1024, .f32⟩
  | 9 => ⟨S1x1024, .f32⟩
  | 10 => ⟨S1x1024, .f32⟩
  | 11 => ⟨S_, .f32⟩
  | 12 => ⟨S4x1024, .f32⟩
  | 13 => ⟨S8x1024, .f32⟩
  | 14 => ⟨S8192x1024, .bf16⟩
  | 15 => ⟨S8192x5632, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_v74 : Ref sig .tc := ⟨.hbm, 98, rfl⟩
abbrev main_cst_15 : Ref sig .tc := ⟨.hbm, 99, rfl⟩
abbrev main_v75 : Ref sig .tc := ⟨.hbm, 100, rfl⟩
abbrev main_v76 : Ref sig .tc := ⟨.hbm, 101, rfl⟩
abbrev main_cst_16 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_17 : Ref sig .tc := ⟨.hbm, 107, rfl⟩
abbrev main_v81 : Ref sig .tc := ⟨.hbm, 108, rfl⟩
abbrev main_v82 : Ref sig .tc := ⟨.hbm, 109, rfl⟩
abbrev main_cst_18 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_19 : Ref sig .tc := ⟨.hbm, 115, rfl⟩
abbrev main_v87 : Ref sig .tc := ⟨.hbm, 116, rfl⟩
abbrev main_v88 : Ref sig .tc := ⟨.hbm, 117, rfl⟩
abbrev main_cst_20 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_21 : Ref sig .tc := ⟨.hbm, 125, rfl⟩
abbrev main_v95 : Ref sig .tc := ⟨.hbm, 126, rfl⟩
abbrev main_v96 : Ref sig .tc := ⟨.hbm, 127, rfl⟩
abbrev main_cst_22 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_23 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩

abbrev nD : Nat := 1
abbrev τ : Topo := Topo.v7x

variable {F : FTy → Type} [FloatOps F]
-- ==== DwOut.lean ====
abbrev S8192x2816 : Shape := ⟨2, ![8192, 2816]⟩
abbrev S8192x1024 : Shape := ⟨2, ![8192, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwIn.lean ====
abbrev S8192x1024 : Shape := ⟨2, ![8192, 1024]⟩
abbrev S8192x5632 : Shape := ⟨2, ![8192, 5632]⟩
abbrev S5632x1024 : Shape := ⟨2, ![5632, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S5632x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S5632x1024 : Shape := ⟨2, ![5632, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 23
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S4x1024, .f32⟩
  | .hbm, ⟨13, _⟩ => ⟨S8x1024, .f32⟩
  | .hbm, ⟨14, _⟩ => ⟨S5632x1024, .f32⟩
  | .hbm, ⟨15, _⟩ => ⟨S5632x1024, .bf16⟩
  | .hbm, ⟨16, _⟩ => ⟨S2816x1024, .bf16⟩
  | .hbm, ⟨17, _⟩ => ⟨S8192x1024, .f32⟩
  | .hbm, ⟨18, _⟩ => ⟨S8192x1024, .bf16⟩
  | .hbm, ⟨19, _⟩ => ⟨S8192x2816, .bf16⟩
  | .hbm, ⟨20, _⟩ => ⟨S8192x2816, .bf16⟩
  | .hbm, ⟨21, _⟩ => ⟨S8192x2816, .bf16⟩
  | .hbm, ⟨22, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S5632x1024, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x1024, .bf16⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnFwdRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S_, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | .hbm, ⟨69, _⟩ => ⟨S8192x2816, .bf16⟩
  | .hbm, ⟨70, _⟩ => ⟨S8192x2816, .bf16⟩
  | .hbm, ⟨71, _⟩ => ⟨S8192x2816, .bf16⟩
  | .hbm, ⟨72, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== DwConvOut.lean ====
abbrev S8192x1024 : Shape := ⟨2, ![8192, 1024]⟩
abbrev S1024x1024 : Shape := ⟨2, ![1024, 1024]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwConvOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwConvIn.lean ====
abbrev S8192x1024 : Shape := ⟨2, ![8192, 1024]⟩
abbrev S8192x3072 : Shape := ⟨2, ![8192, 3072]⟩
abbrev S8x1024x384 : Shape := ⟨3, ![8, 1024, 384]⟩
abbrev S4096x1024 : Shape := ⟨2, ![4096, 1024]⟩
abbrev S4096x768 : Shape := ⟨2, ![4096, 768]⟩
abbrev S2x1024x384 : Shape := ⟨3, ![2, 1024, 384]⟩
abbrev S1024x768 : Shape := ⟨2, ![1024, 768]⟩
abbrev S1024x384 : Shape := ⟨2, ![1024, 384]⟩
abbrev S1x1024x384 : Shape := ⟨3, ![1, 1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8x1024x384, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S2x1024x384, .bf16⟩
  | .local _ .vmem, ⟨5, _⟩ => ⟨S2x1024x384, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwConvInRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x8x384, .f32⟩
  | .hbm, ⟨10, _⟩ => ⟨S8x1024x384, .f32⟩
  | .hbm, ⟨11, _⟩ => ⟨S8x1024x384, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwAttnO.lean ====
abbrev S8192x512 : Shape := ⟨2, ![8192, 512]⟩
abbrev S8192x1024 : Shape := ⟨2, ![8192, 1024]⟩
abbrev S8x512x128 : Shape := ⟨3, ![8, 512, 128]⟩
abbrev S4096x512 : Shape := ⟨2, ![4096, 512]⟩
abbrev S4x512x128 : Shape := ⟨3, ![4, 512, 128]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8x512x128, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4x512x128, .bf16⟩
  | .local _ .vmem, ⟨5, _⟩ => ⟨S4x512x128, .bf16⟩
  | .local _ .vmem, ⟨6, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwAttnORefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x8x128, .f32⟩
  | .hbm, ⟨10, _⟩ => ⟨S8x512x128, .f32⟩
  | .hbm, ⟨11, _⟩ => ⟨S8x512x128, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwAttnQ.lean ====
abbrev S8192x1024 : Shape := ⟨2, ![8192, 1024]⟩
abbrev S8192x1536 : Shape := ⟨2, ![8192, 1536]⟩
abbrev S1536x1024 : Shape := ⟨2, ![1536, 1024]⟩
abbrev S4096x768 : Shape := ⟨2, ![4096, 768]⟩
abbrev S4096x512 : Shape := ⟨2, ![4096, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1536x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x512, .bf16⟩
  | .local _ .vmem, ⟨3, _⟩ => ⟨S4096x512, .bf16⟩
  | .local _ .vmem, ⟨4, _⟩ => ⟨S768x512, .bf16⟩
  | .local _ .vmem, ⟨5, _⟩ => ⟨S768x512, .bf16⟩
  | .local _ .vmem, ⟨6, _⟩ => ⟨S768x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwAttnQRefIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1536x1024, .f32⟩
  | .hbm, ⟨10, _⟩ => ⟨S1536x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwKv.lean ====
abbrev S8192x1024 : Shape := ⟨2, ![8192, 1024]⟩
abbrev S8192x3072 : Shape := ⟨2, ![8192, 3072]⟩
abbrev S8x1024x384 : Shape := ⟨3, ![8, 1024, 384]⟩
abbrev S4096x1024 : Shape := ⟨2, ![4096, 1024]⟩
abbrev S4096x768 : Shape := ⟨2, ![4096, 768]⟩
abbrev S2x1024x384 : Shape := ⟨3, ![2, 1024, 384]⟩
abbrev S1024x768 : Shape := ⟨2, ![1024, 768]⟩
abbrev S1024x384 : Shape := ⟨2, ![1024, 384]⟩
abbrev S1x1024x384 : Shape := ⟨3, ![1, 1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8x1024x384, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S2x1024x384, .bf16⟩
  | .local _ .vmem, ⟨5, _⟩ => ⟨S2x1024x384, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwKvRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x8x384, .f32⟩
  | .hbm, ⟨10, _⟩ => ⟨S8x1024x384, .f32⟩
  | .hbm, ⟨11, _⟩ => ⟨S8x1024x384, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ConvFwd.lean ====
abbrev S8192x1024 : Shape := ⟨2, ![8192, 1024]⟩
abbrev S1024 : Shape := ⟨1, ![1024]⟩
abbrev S3x1024 : Shape := ⟨2, ![3, 1024]⟩
abbrev S1024x3072 : Shape := ⟨2, ![1024, 3072]⟩
abbrev S1024x1024 : Shape := ⟨2, ![1024, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S5x1024 : Shape := ⟨2, ![5, 1024]⟩
abbrev S8192x3072 : Shape := ⟨2, ![8192, 3072]⟩
abbrev S512x1024 : Shape := ⟨2, ![512, 1024]⟩
abbrev S512x3072 : Shape := ⟨2, ![512, 3072]⟩
abbrev S520x1024 : Shape := ⟨2, ![520, 1024]⟩
abbrev S512 : Shape := ⟨1, ![512]⟩
abbrev S512x1 : Shape := ⟨2, ![512, 1]⟩

abbrev nBuf : Space → Nat
  | .hbm => 35
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S3x1024, .f32⟩
  | .hbm, ⟨6, _⟩ => ⟨S1024x3072, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S4x1024, .f32⟩
  | .hbm, ⟨14, _⟩ => ⟨S8x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S5x1024, .f32⟩
  | .hbm, ⟨26, _⟩ => ⟨S8x1024, .f32⟩
  | .hbm, ⟨27, _⟩ => ⟨S1024x3072, .bf16⟩
  | .hbm, ⟨28, _⟩ => ⟨S1024x1024, .bf16⟩
  | .hbm, ⟨29, _⟩ => ⟨S8192x1024, .f32⟩
  | .hbm, ⟨30, _⟩ => ⟨S8192x1024, .bf16⟩
  | .hbm, ⟨31, _⟩ => ⟨S8192x3072, .bf16⟩
  | .hbm, ⟨32, _⟩ => ⟨S8192x1024, .bf16⟩
  | .hbm, ⟨33, _⟩ => ⟨S8192x1024, .bf16⟩
  | .hbm, ⟨34, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1024x3072, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x3072, .bf16⟩
  | .local _ .vmem, ⟨11, _⟩ => ⟨S512x3072, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S520x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev main_v19_4 : Ref sig .tc := ⟨.hbm, 33, rfl⟩
abbrev main_v19_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvFwdRefIdeal.lean ====
abbrev S8192x1024 : Shape := ⟨2, ![8192, 1024]⟩
abbrev S1024 : Shape := ⟨1, ![1024]⟩
abbrev S3x1024 : Shape := ⟨2, ![3, 1024]⟩
abbrev S1024x3072 : Shape := ⟨2, ![1024, 3072]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S2x1024 : Shape := ⟨2, ![2, 1024]⟩
abbrev S8194x1024 : Shape := ⟨2, ![8194, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S3x1024, .f32⟩
  | .hbm, ⟨6, _⟩ => ⟨S1024x3072, .f32⟩
  | .hbm, ⟨7, _⟩ => ⟨S1024x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x3072, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S2x1024, .f32⟩
  | .hbm, ⟨40, _⟩ => ⟨S8194x1024, .f32⟩
  | .hbm, ⟨41, _⟩ => ⟨S1x1024, .f32⟩
  | .hbm, ⟨42, _⟩ => ⟨S1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | .hbm, ⟨71, _⟩ => ⟨S8192x3072, .bf16⟩
  | .hbm, ⟨72, _⟩ => ⟨S8192x1024, .bf16⟩
  | .hbm, ⟨73, _⟩ => ⟨S8192x1024, .bf16⟩
  | .hbm, ⟨74, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== AdamNormG.lean ====
abbrev S8x12x128 : Shape := ⟨3, ![8, 12, 128]⟩
abbrev S12x128 : Shape := ⟨2, ![12, 128]⟩
abbrev S1x12x128 : Shape := ⟨3, ![1, 12, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x12x128, .f32⟩
  | .hbm, ⟨1, _⟩ => ⟨S12x128, .f32⟩
  | .hbm, ⟨2, _⟩ => ⟨S12x128, .f32⟩
  | .hbm, ⟨3, _⟩ => ⟨S12x128, .f32⟩
  | .hbm, ⟨4, _⟩ => ⟨S12x128, .f32⟩
  | .hbm, ⟨5, _⟩ => ⟨S12x128, .f32⟩
  | .hbm, ⟨6, _⟩ => ⟨S12x128, .f32⟩
  | .hbm, ⟨7, _⟩ => ⟨S12x128, .f32⟩
  | .local _ .vmem, ⟨0, _⟩ => ⟨S8x12x128, .f32⟩
  | .local _ .vmem, ⟨1, _⟩ => ⟨S12x128, .f32⟩
  | .local _ .vmem, ⟨2, _⟩ => ⟨S12x128, .f32⟩
  | .local _ .vmem, ⟨3, _⟩ => ⟨S12x128, .f32⟩
  | .local _ .vmem, ⟨4, _⟩ => ⟨S12x128, .f32⟩
  | .local _ .vmem, ⟨5, _⟩ => ⟨S12x128, .f32⟩
  | .local _ .vmem, ⟨6, _⟩ => ⟨S12x128, .f32⟩
  | .local _ .vmem, ⟨7, _⟩ => ⟨S12x128, .f32⟩
  | _, _ => ⟨S8x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S12x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormGRefIdeal.lean ====
abbrev S8x12x128 : Shape := ⟨3, ![8, 12, 128]⟩
abbrev S12x128 : Shape := ⟨2, ![12, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x12x128, .f32⟩
  | .hbm, ⟨1, _⟩ => ⟨S12x128, .f32⟩
  | .hbm, ⟨2, _⟩ => ⟨S12x128, .f32⟩
  | .hbm, ⟨3, _⟩ => ⟨S12x128, .f32⟩
  | .hbm, ⟨4, _⟩ => ⟨S_, .f32⟩
  | .hbm, ⟨5, _⟩ => ⟨S12x128, .f32⟩
  | .hbm, ⟨6, _⟩ => ⟨S_, .f32⟩
  | .hbm, ⟨7, _⟩ => ⟨S12x128, .f32⟩
  | .hbm, ⟨8, _⟩ => ⟨S12x128, .f32⟩
  | .hbm, ⟨9, _⟩ => ⟨S_, .f32⟩
  | .hbm, ⟨10, _⟩ => ⟨S12x128, .f32⟩
  | .hbm, ⟨11, _⟩ => ⟨S12x128, .f32⟩
  | .hbm, ⟨12, _⟩ => ⟨S12x128, .f32⟩
  | .hbm, ⟨13, _⟩ => ⟨S_, .f32⟩
  | .hbm, ⟨14, _⟩ => ⟨S12x128, .f32⟩
  | .hbm, ⟨15, _⟩ => ⟨S12x128, .f32⟩
  | .hbm, ⟨16, _⟩ => ⟨S12x128, .f32⟩
  | .hbm, ⟨17, _⟩ => ⟨S_, .f32⟩
  | .hbm, ⟨18, _⟩ => ⟨S12x128, .f32⟩
  | .hbm, ⟨19, _⟩ => ⟨S12x128, .f32⟩
  | .hbm, ⟨20, _⟩ => ⟨S12x128, .f32⟩
  | .hbm, ⟨21, _⟩ => ⟨S_, .f32⟩
  | .hbm, ⟨22, _⟩ => ⟨S12x128, .f32⟩
  | .hbm, ⟨23, _⟩ => ⟨S12x128, .f32⟩
  | .hbm, ⟨24, _⟩ => ⟨S_, .f32⟩
  | .hbm, ⟨25, _⟩ => ⟨S12x128, .f32⟩
  | .hbm, ⟨26, _⟩ => ⟨S12x128, .f32⟩
  | .hbm, ⟨27, _⟩ => ⟨S12x128, .f32⟩
  | .hbm, ⟨28, _⟩ => ⟨S_, .f32⟩
  | .hbm, ⟨29, _⟩ => ⟨S12x128, .f32⟩
  | .hbm, ⟨30, _⟩ => ⟨S12x128, .f32⟩
  | .hbm, ⟨31, _⟩ => ⟨S12x128, .f32⟩
  | .hbm, ⟨32, _⟩ => ⟨S_, .f32⟩
  | .hbm, ⟨33, _⟩ => ⟨S12x128, .f32⟩
  | .hbm, ⟨34, _⟩ => ⟨S12x128, .f32⟩
  | .hbm, ⟨35, _⟩ => ⟨S12x128, .f32⟩
  | .hbm, ⟨36, _⟩ => ⟨S_, .f32⟩
  | .hbm, ⟨37, _⟩ => ⟨S12x128, .f32⟩
  | .hbm, ⟨38, _⟩ => ⟨S12x128, .f32⟩
  | _, _ => ⟨S8x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConvW.lean ====
abbrev S8x6x128 : Shape := ⟨3, ![8, 6, 128]⟩
abbrev S6x128 : Shape := ⟨2, ![6, 128]⟩
abbrev S1x6x128 : Shape := ⟨3, ![1, 6, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x6x128, .f32⟩
  | .hbm, ⟨1, _⟩ => ⟨S6x128, .f32⟩
  | .hbm, ⟨2, _⟩ => ⟨S6x128, .f32⟩
  | .hbm, ⟨3, _⟩ => ⟨S6x128, .f32⟩
  | .hbm, ⟨4, _⟩ => ⟨S6x128, .f32⟩
  | .hbm, ⟨5, _⟩ => ⟨S6x128, .f32⟩
  | .hbm, ⟨6, _⟩ => ⟨S6x128, .f32⟩
  | .hbm, ⟨7, _⟩ => ⟨S6x128, .f32⟩
  | .local _ .vmem, ⟨0, _⟩ => ⟨S8x6x128, .f32⟩
  | .local _ .vmem, ⟨1, _⟩ => ⟨S6x128, .f32⟩
  | .local _ .vmem, ⟨2, _⟩ => ⟨S6x128, .f32⟩
  | .local _ .vmem, ⟨3, _⟩ => ⟨S6x128, .f32⟩
  | .local _ .vmem, ⟨4, _⟩ => ⟨S6x128, .f32⟩
  | .local _ .vmem, ⟨5, _⟩ => ⟨S6x128, .f32⟩
  | .local _ .vmem, ⟨6, _⟩ => ⟨S6x128, .f32⟩
  | .local _ .vmem, ⟨7, _⟩ => ⟨S6x128, .f32⟩
  | _, _ => ⟨S8x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x6x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S6x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvWRefIdeal.lean ====
abbrev S8x6x128 : Shape := ⟨3, ![8, 6, 128]⟩
abbrev S6x128 : Shape := ⟨2, ![6, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x6x128, .f32⟩
  | .hbm, ⟨1, _⟩ => ⟨S6x128, .f32⟩
  | .hbm, ⟨2, _⟩ => ⟨S6x128, .f32⟩
  | .hbm, ⟨3, _⟩ => ⟨S6x128, .f32⟩
  | .hbm, ⟨4, _⟩ => ⟨S_, .f32⟩
  | .hbm, ⟨5, _⟩ => ⟨S6x128, .f32⟩
  | .hbm, ⟨6, _⟩ => ⟨S_, .f32⟩
  | .hbm, ⟨7, _⟩ => ⟨S6x128, .f32⟩
  | .hbm, ⟨8, _⟩ => ⟨S6x128, .f32⟩
  | .hbm, ⟨9, _⟩ => ⟨S_, .f32⟩
  | .hbm, ⟨10, _⟩ => ⟨S6x128, .f32⟩
  | .hbm, ⟨11, _⟩ => ⟨S6x128, .f32⟩
  | .hbm, ⟨12, _⟩ => ⟨S6x128, .f32⟩
  | .hbm, ⟨13, _⟩ => ⟨S_, .f32⟩
  | .hbm, ⟨14, _⟩ => ⟨S6x128, .f32⟩
  | .hbm, ⟨15, _⟩ => ⟨S6x128, .f32⟩
  | .hbm, ⟨16, _⟩ => ⟨S6x128, .f32⟩
  | .hbm, ⟨17, _⟩ => ⟨S_, .f32⟩
  | .hbm, ⟨18, _⟩ => ⟨S6x128, .f32⟩
  | .hbm, ⟨19, _⟩ => ⟨S6x128, .f32⟩
  | .hbm, ⟨20, _⟩ => ⟨S6x128, .f32⟩
  | .hbm, ⟨21, _⟩ => ⟨S_, .f32⟩
  | .hbm, ⟨22, _⟩ => ⟨S6x128, .f32⟩
  | .hbm, ⟨23, _⟩ => ⟨S6x128, .f32⟩
  | .hbm, ⟨24, _⟩ => ⟨S_, .f32⟩
  | .hbm, ⟨25, _⟩ => ⟨S6x128, .f32⟩
  | .hbm, ⟨26, _⟩ => ⟨S6x128, .f32⟩
  | .hbm, ⟨27, _⟩ => ⟨S6x128, .f32⟩
  | .hbm, ⟨28, _⟩ => ⟨S_, .f32⟩
  | .hbm, ⟨29, _⟩ => ⟨S6x128, .f32⟩
  | .hbm, ⟨30, _⟩ => ⟨S6x128, .f32⟩
  | .hbm, ⟨31, _⟩ => ⟨S6x128, .f32⟩
  | .hbm, ⟨32, _⟩ => ⟨S_, .f32⟩
  | .hbm, ⟨33, _⟩ => ⟨S6x128, .f32⟩
  | .hbm, ⟨34, _⟩ => ⟨S6x128, .f32⟩
  | .hbm, ⟨35, _⟩ => ⟨S6x128, .f32⟩
  | .hbm, ⟨36, _⟩ => ⟨S_, .f32⟩
  | .hbm, ⟨37, _⟩ => ⟨S6x128, .f32⟩
  | .hbm, ⟨38, _⟩ => ⟨S6x128, .f32⟩
  | _, _ => ⟨S8x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamGain.lean ====
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S8x1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGainRefIdeal.lean ====
abbrev S8x1x1024 : Shape := ⟨3, ![8, 1, 1024]⟩
abbrev S1x1024 : Shape := ⟨2, ![1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamAdaB.lean ====
abbrev S8x4x9216 : Shape := ⟨3, ![8, 4, 9216]⟩
abbrev S4x9216 : Shape := ⟨2, ![4, 9216]⟩
abbrev S1x4x9216 : Shape := ⟨3, ![1, 4, 9216]⟩

abbrev nBuf : Space → Nat
  | .hbm => 8
  | .vmem => 8
  | .smem => 0
  | _ => 0

abbrev bufTy : (tb : Table) → Fin (tcTables nBuf tb) → BufTy
  | .hbm, ⟨0, _⟩ => ⟨S8x4x9216, .f32⟩
  | .hbm, ⟨1, _⟩ => ⟨S4x9216, .f32⟩
  | .hbm, ⟨2, _⟩ => ⟨S4x9216, .f32⟩
  | .hbm, ⟨3, _⟩ => ⟨S4x9216, .f32⟩
  | .hbm, ⟨4, _⟩ => ⟨S4x9216, .f32⟩
  | .hbm, ⟨5, _⟩ => ⟨S4x9216, .f32⟩
  | .hbm, ⟨6, _⟩ => ⟨S4x9216, .f32⟩
  | .hbm, ⟨7, _⟩ => ⟨S4x9216, .f32⟩
  | .local _ .vmem, ⟨0, _⟩ => ⟨S8x4x9216, .f32⟩
  | .local _ .vmem, ⟨1, _⟩ => ⟨S4x9216, .f32⟩
  | .local _ .vmem, ⟨2, _⟩ => ⟨S4x9216, .f32⟩
  | .local _ .vmem, ⟨3, _⟩ => ⟨S4x9216, .f32⟩
  | .local _ .vmem, ⟨4, _⟩ => ⟨S4x9216, .f32⟩
  | .local _ .vmem, ⟨5, _⟩ => ⟨S4x9216, .f32⟩
  | .local _ .vmem, ⟨6, _⟩ => ⟨S4x9216, .f32⟩
  | .local _ .vmem, ⟨7, _⟩ => ⟨S4x9216, .f32⟩
  | _, _ => ⟨S8x4x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x9216 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamAdaBRefIdeal.lean ====
abbrev S8x4x9216 : Shape := ⟨3, ![8, 4, 9216]⟩
abbrev S4x9216 : Shape := ⟨2, ![4, 9216]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x9216, .f32⟩
  | .hbm, ⟨1, _⟩ => ⟨S4x9216, .f32⟩
  | .hbm, ⟨2, _⟩ => ⟨S4x9216, .f32⟩
  | .hbm, ⟨3, _⟩ => ⟨S4x9216, .f32⟩
  | .hbm, ⟨4, _⟩ => ⟨S_, .f32⟩
  | .hbm, ⟨5, _⟩ => ⟨S4x9216, .f32⟩
  | .hbm, ⟨6, _⟩ => ⟨S_, .f32⟩
  | .hbm, ⟨7, _⟩ => ⟨S4x9216, .f32⟩
  | .hbm, ⟨8, _⟩ => ⟨S4x9216, .f32⟩
  | .hbm, ⟨9, _⟩ => ⟨S_, .f32⟩
  | .hbm, ⟨10, _⟩ => ⟨S4x9216, .f32⟩
  | .hbm, ⟨11, _⟩ => ⟨S4x9216, .f32⟩
  | .hbm, ⟨12, _⟩ => ⟨S4x9216, .f32⟩
  | .hbm, ⟨13, _⟩ => ⟨S_, .f32⟩
  | .hbm, ⟨14, _⟩ => ⟨S4x9216, .f32⟩
  | .hbm, ⟨15, _⟩ => ⟨S4x9216, .f32⟩
  | .hbm, ⟨16, _⟩ => ⟨S4x9216, .f32⟩
  | .hbm, ⟨17, _⟩ => ⟨S_, .f32⟩
  | .hbm, ⟨18, _⟩ => ⟨S4x9216, .f32⟩
  | .hbm, ⟨19, _⟩ => ⟨S4x9216, .f32⟩
  | .hbm, ⟨20, _⟩ => ⟨S4x9216, .f32⟩
  | .hbm, ⟨21, _⟩ => ⟨S_, .f32⟩
  | .hbm, ⟨22, _⟩ => ⟨S4x9216, .f32⟩
  | .hbm, ⟨23, _⟩ => ⟨S4x9216, .f32⟩
  | .hbm, ⟨24, _⟩ => ⟨S_, .f32⟩
  | .hbm, ⟨25, _⟩ => ⟨S4x9216, .f32⟩
  | .hbm, ⟨26, _⟩ => ⟨S4x9216, .f32⟩
  | .hbm, ⟨27, _⟩ => ⟨S4x9216, .f32⟩
  | .hbm, ⟨28, _⟩ => ⟨S_, .f32⟩
  | .hbm, ⟨29, _⟩ => ⟨S4x9216, .f32⟩
  | .hbm, ⟨30, _⟩ => ⟨S4x9216, .f32⟩
  | .hbm, ⟨31, _⟩ => ⟨S4x9216, .f32⟩
  | .hbm, ⟨32, _⟩ => ⟨S_, .f32⟩
  | .hbm, ⟨33, _⟩ => ⟨S4x9216, .f32⟩
  | .hbm, ⟨34, _⟩ => ⟨S4x9216, .f32⟩
  | .hbm, ⟨35, _⟩ => ⟨S4x9216, .f32⟩
  | .hbm, ⟨36, _⟩ => ⟨S_, .f32⟩
  | .hbm, ⟨37, _⟩ => ⟨S4x9216, .f32⟩
  | .hbm, ⟨38, _⟩ => ⟨S4x9216, .f32⟩
  | _, _ => ⟨S8x4x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamKvAdaB.lean ====
abbrev S8x1x2048 : Shape := ⟨3, ![8, 1, 2048]⟩
abbrev S1x2048 : Shape := ⟨2, ![1, 2048]⟩
abbrev S1x1x2048 : Shape := ⟨3, ![1, 1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S8x1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamKvAdaBRefIdeal.lean ====
abbrev S8x1x2048 : Shape := ⟨3, ![8, 1, 2048]⟩
abbrev S1x2048 : Shape := ⟨2, ![1, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S_, .f32⟩
  | .hbm, ⟨37, _⟩ => ⟨S1x2048, .f32⟩
  | .hbm, ⟨38, _⟩ => ⟨S1x2048, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamAdaW.lean ====
abbrev S4096x1152 : Shape := ⟨2, ![4096, 1152]⟩
abbrev S256x1152 : Shape := ⟨2, ![256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S4096x1152, .f32⟩
  | .hbm, ⟨1, _⟩ => ⟨S4096x1152, .f32⟩
  | .hbm, ⟨2, _⟩ => ⟨S4096x1152, .f32⟩
  | .hbm, ⟨3, _⟩ => ⟨S4096x1152, .f32⟩
  | .hbm, ⟨4, _⟩ => ⟨S4096x1152, .f32⟩
  | .hbm, ⟨5, _⟩ => ⟨S4096x1152, .f32⟩
  | .hbm, ⟨6, _⟩ => ⟨S4096x1152, .f32⟩
  | .hbm, ⟨7, _⟩ => ⟨S4096x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S4096x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaWRefIdeal.lean ====
abbrev S4096x1152 : Shape := ⟨2, ![4096, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1152, .f32⟩
  | .hbm, ⟨1, _⟩ => ⟨S4096x1152, .f32⟩
  | .hbm, ⟨2, _⟩ => ⟨S4096x1152, .f32⟩
  | .hbm, ⟨3, _⟩ => ⟨S4096x1152, .f32⟩
  | .hbm, ⟨4, _⟩ => ⟨S_, .f32⟩
  | .hbm, ⟨5, _⟩ => ⟨S4096x1152, .f32⟩
  | .hbm, ⟨6, _⟩ => ⟨S4096x1152, .f32⟩
  | .hbm, ⟨7, _⟩ => ⟨S_, .f32⟩
  | .hbm, ⟨8, _⟩ => ⟨S4096x1152, .f32⟩
  | .hbm, ⟨9, _⟩ => ⟨S4096x1152, .f32⟩
  | .hbm, ⟨10, _⟩ => ⟨S4096x1152, .f32⟩
  | .hbm, ⟨11, _⟩ => ⟨S_, .f32⟩
  | .hbm, ⟨12, _⟩ => ⟨S4096x1152, .f32⟩
  | .hbm, ⟨13, _⟩ => ⟨S4096x1152, .f32⟩
  | .hbm, ⟨14, _⟩ => ⟨S4096x1152, .f32⟩
  | .hbm, ⟨15, _⟩ => ⟨S_, .f32⟩
  | .hbm, ⟨16, _⟩ => ⟨S4096x1152, .f32⟩
  | .hbm, ⟨17, _⟩ => ⟨S4096x1152, .f32⟩
  | .hbm, ⟨18, _⟩ => ⟨S4096x1152, .f32⟩
  | .hbm, ⟨19, _⟩ => ⟨S_, .f32⟩
  | .hbm, ⟨20, _⟩ => ⟨S4096x1152, .f32⟩
  | .hbm, ⟨21, _⟩ => ⟨S4096x1152, .f32⟩
  | .hbm, ⟨22, _⟩ => ⟨S_, .f32⟩
  | .hbm, ⟨23, _⟩ => ⟨S4096x1152, .f32⟩
  | .hbm, ⟨24, _⟩ => ⟨S4096x1152, .f32⟩
  | .hbm, ⟨25, _⟩ => ⟨S4096x1152, .f32⟩
  | .hbm, ⟨26, _⟩ => ⟨S_, .f32⟩
  | .hbm, ⟨27, _⟩ => ⟨S4096x1152, .f32⟩
  | .hbm, ⟨28, _⟩ => ⟨S4096x1152, .f32⟩
  | .hbm, ⟨29, _⟩ => ⟨S4096x1152, .f32⟩
  | .hbm, ⟨30, _⟩ => ⟨S_, .f32⟩
  | .hbm, ⟨31, _⟩ => ⟨S4096x1152, .f32⟩
  | .hbm, ⟨32, _⟩ => ⟨S4096x1152, .f32⟩
  | .hbm, ⟨33, _⟩ => ⟨S4096x1152, .f32⟩
  | .hbm, ⟨34, _⟩ => ⟨S_, .f32⟩
  | .hbm, ⟨35, _⟩ => ⟨S4096x1152, .f32⟩
  | .hbm, ⟨36, _⟩ => ⟨S4096x1152, .f32⟩
  | _, _ => ⟨S4096x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKvAdaW.lean ====
abbrev S1024x256 : Shape := ⟨2, ![1024, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvAdaWRefIdeal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWKv.lean ====
abbrev S8x1024x384 : Shape := ⟨3, ![8, 1024, 384]⟩
abbrev S1x1024x384 : Shape := ⟨3, ![1, 1024, 384]⟩
abbrev S8192x1024 : Shape := ⟨2, ![8192, 1024]⟩
abbrev S8x256x384 : Shape := ⟨3, ![8, 256, 384]⟩
abbrev S1x256x384 : Shape := ⟨3, ![1, 256, 384]⟩
abbrev S256x384 : Shape := ⟨2, ![256, 384]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x384, .bf16⟩
  | .hbm, ⟨1, _⟩ => ⟨S1x1024x384, .f32⟩
  | .hbm, ⟨2, _⟩ => ⟨S1x1024x384, .f32⟩
  | .hbm, ⟨3, _⟩ => ⟨S1x1024x384, .f32⟩
  | .hbm, ⟨4, _⟩ => ⟨S8192x1024, .f32⟩
  | .hbm, ⟨5, _⟩ => ⟨S1x1024x384, .f32⟩
  | .hbm, ⟨6, _⟩ => ⟨S1x1024x384, .f32⟩
  | .hbm, ⟨7, _⟩ => ⟨S1x1024x384, .f32⟩
  | .hbm, ⟨8, _⟩ => ⟨S1x1024x384, .f32⟩
  | .local _ .vmem, ⟨0, _⟩ => ⟨S8x256x384, .bf16⟩
  | .local _ .vmem, ⟨1, _⟩ => ⟨S8x256x384, .bf16⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWKvRefIdeal.lean ====
abbrev S8x1024x384 : Shape := ⟨3, ![8, 1024, 384]⟩
abbrev S1x1024x384 : Shape := ⟨3, ![1, 1024, 384]⟩
abbrev S8192x1024 : Shape := ⟨2, ![8192, 1024]⟩
abbrev S_ : Shape := ⟨0, ![]⟩
abbrev S1024x384 : Shape := ⟨2, ![1024, 384]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S1x1024x384, .f32⟩
  | .hbm, ⟨2, _⟩ => ⟨S1x1024x384, .f32⟩
  | .hbm, ⟨3, _⟩ => ⟨S1x1024x384, .f32⟩
  | .hbm, ⟨4, _⟩ => ⟨S8192x1024, .f32⟩
  | .hbm, ⟨5, _⟩ => ⟨S8x1024x384, .f32⟩
  | .hbm, ⟨6, _⟩ => ⟨S_, .f32⟩
  | .hbm, ⟨7, _⟩ => ⟨S1024x384, .f32⟩
  | .hbm, ⟨8, _⟩ => ⟨S1x1024x384, .f32⟩
  | .hbm, ⟨9, _⟩ => ⟨S_, .f32⟩
  | .hbm, ⟨10, _⟩ => ⟨S1x1024x384, .f32⟩
  | .hbm, ⟨11, _⟩ => ⟨S1x1024x384, .f32⟩
  | .hbm, ⟨12, _⟩ => ⟨S_, .f32⟩
  | .hbm, ⟨13, _⟩ => ⟨S1x1024x384, .f32⟩
  | .hbm, ⟨14, _⟩ => ⟨S1x1024x384, .f32⟩
  | .hbm, ⟨15, _⟩ => ⟨S1x1024x384, .f32⟩
  | .hbm, ⟨16, _⟩ => ⟨S_, .f32⟩
  | .hbm, ⟨17, _⟩ => ⟨S1x1024x384, .f32⟩
  | .hbm, ⟨18, _⟩ => ⟨S1x1024x384, .f32⟩
  | .hbm, ⟨19, _⟩ => ⟨S1x1024x384, .f32⟩
  | .hbm, ⟨20, _⟩ => ⟨S_, .f32⟩
  | .hbm, ⟨21, _⟩ => ⟨S1x1024x384, .f32⟩
  | .hbm, ⟨22, _⟩ => ⟨S1x1024x384, .f32⟩
  | .hbm, ⟨23, _⟩ => ⟨S1x1024x384, .f32⟩
  | .hbm, ⟨24, _⟩ => ⟨S_, .f32⟩
  | .hbm, ⟨25, _⟩ => ⟨S1x1024x384, .f32⟩
  | .hbm, ⟨26, _⟩ => ⟨S1x1024x384, .f32⟩
  | .hbm, ⟨27, _⟩ => ⟨S_, .f32⟩
  | .hbm, ⟨28, _⟩ => ⟨S1x1024x384, .f32⟩
  | .hbm, ⟨29, _⟩ => ⟨S1x1024x384, .f32⟩
  | .hbm, ⟨30, _⟩ => ⟨S1x1024x384, .f32⟩
  | .hbm, ⟨31, _⟩ => ⟨S_, .f32⟩
  | .hbm, ⟨32, _⟩ => ⟨S1x1024x384, .f32⟩
  | .hbm, ⟨33, _⟩ => ⟨S1x1024x384, .f32⟩
  | .hbm, ⟨34, _⟩ => ⟨S1x1024x384, .f32⟩
  | .hbm, ⟨35, _⟩ => ⟨S_, .f32⟩
  | .hbm, ⟨36, _⟩ => ⟨S1x1024x384, .f32⟩
  | .hbm, ⟨37, _⟩ => ⟨S1x1024x384, .f32⟩
  | .hbm, ⟨38, _⟩ => ⟨S1x1024x384, .f32⟩
  | .hbm, ⟨39, _⟩ => ⟨S_, .f32⟩
  | .hbm, ⟨40, _⟩ => ⟨S1x1024x384, .f32⟩
  | .hbm, ⟨41, _⟩ => ⟨S1x1024x384, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== ModsDw.lean ====
abbrev S8x1024 : Shape := ⟨2, ![8, 1024]⟩
abbrev S4x8x1152 : Shape := ⟨3, ![4, 8, 1152]⟩
abbrev S4x1024x1152 : Shape := ⟨3, ![4, 1024, 1152]⟩
abbrev S1x8x1152 : Shape := ⟨3, ![1, 8, 1152]⟩
abbrev S1x1024x1152 : Shape := ⟨3, ![1, 1024, 1152]⟩
abbrev S8x1152 : Shape := ⟨2, ![8, 1152]⟩
abbrev S1024x1152 : Shape := ⟨2, ![1024, 1152]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x1152, .f32⟩
  | .hbm, ⟨2, _⟩ => ⟨S4x1024x1152, .f32⟩
  | .local _ .vmem, ⟨0, _⟩ => ⟨S8x1024, .f32⟩
  | .local _ .vmem, ⟨1, _⟩ => ⟨S1x8x1152, .f32⟩
  | .local _ .vmem, ⟨2, _⟩ => ⟨S1x8x1152, .f32⟩
  | .local _ .vmem, ⟨3, _⟩ => ⟨S1x1024x1152, .f32⟩
  | .local _ .vmem, ⟨4, _⟩ => ⟨S1x1024x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ModsDwIdeal.lean ====
abbrev S8x1024 : Shape := ⟨2, ![8, 1024]⟩
abbrev S4x8x1152 : Shape := ⟨3, ![4, 8, 1152]⟩
abbrev S4x1024x1152 : Shape := ⟨3, ![4, 1024, 1152]⟩
abbrev S1x8x1152 : Shape := ⟨3, ![1, 8, 1152]⟩
abbrev S1x1024x1152 : Shape := ⟨3, ![1, 1024, 1152]⟩
abbrev S8x1152 : Shape := ⟨2, ![8, 1152]⟩
abbrev S1024x1152 : Shape := ⟨2, ![1024, 1152]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x1152, .f32⟩
  | .hbm, ⟨2, _⟩ => ⟨S4x1024x1152, .f32⟩
  | .local _ .vmem, ⟨0, _⟩ => ⟨S8x1024, .f32⟩
  | .local _ .vmem, ⟨1, _⟩ => ⟨S1x8x1152, .f32⟩
  | .local _ .vmem, ⟨2, _⟩ => ⟨S1x8x1152, .f32⟩
  | .local _ .vmem, ⟨3, _⟩ => ⟨S1x1024x1152, .f32⟩
  | .local _ .vmem, ⟨4, _⟩ => ⟨S1x1024x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ModsDwRefIdeal.lean ====
abbrev S8x1024 : Shape := ⟨2, ![8, 1024]⟩
abbrev S4x8x1152 : Shape := ⟨3, ![4, 8, 1152]⟩
abbrev S_ : Shape := ⟨0, ![]⟩
abbrev S4x1024x1152 : Shape := ⟨3, ![4, 1024, 1152]⟩
abbrev S4x1152x8 : Shape := ⟨3, ![4, 1152, 8]⟩
abbrev S4x1152x1024 : Shape := ⟨3, ![4, 1152, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x1152, .f32⟩
  | .hbm, ⟨2, _⟩ => ⟨S_, .f32⟩
  | .hbm, ⟨3, _⟩ => ⟨S4x1024x1152, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S4x1152x8, .f32⟩
  | .hbm, ⟨14, _⟩ => ⟨S4x8x1152, .f32⟩
  | .hbm, ⟨15, _⟩ => ⟨S4x1152x8, .f32⟩
  | .hbm, ⟨16, _⟩ => ⟨S4x1152x1024, .f32⟩
  | .hbm, ⟨17, _⟩ => ⟨S4x1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KvModsDw.lean ====
abbrev S8x1024 : Shape := ⟨2, ![8, 1024]⟩
abbrev S1x8x256 : Shape := ⟨3, ![1, 8, 256]⟩
abbrev S1x1024x256 : Shape := ⟨3, ![1, 1024, 256]⟩
abbrev S8x256 : Shape := ⟨2, ![8, 256]⟩
abbrev S1024x256 : Shape := ⟨2, ![1024, 256]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1x8x256, .f32⟩
  | .hbm, ⟨2, _⟩ => ⟨S1x1024x256, .f32⟩
  | .local _ .vmem, ⟨0, _⟩ => ⟨S8x1024, .f32⟩
  | .local _ .vmem, ⟨1, _⟩ => ⟨S1x8x256, .f32⟩
  | .local _ .vmem, ⟨2, _⟩ => ⟨S1x1024x256, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== KvModsDwRefIdeal.lean ====
abbrev S8x1024 : Shape := ⟨2, ![8, 1024]⟩
abbrev S1x8x256 : Shape := ⟨3, ![1, 8, 256]⟩
abbrev S_ : Shape := ⟨0, ![]⟩
abbrev S1x1024x256 : Shape := ⟨3, ![1, 1024, 256]⟩
abbrev S1x256x8 : Shape := ⟨3, ![1, 256, 8]⟩
abbrev S1x256x1024 : Shape := ⟨3, ![1, 256, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x8x256, .f32⟩
  | .hbm, ⟨2, _⟩ => ⟨S_, .f32⟩
  | .hbm, ⟨3, _⟩ => ⟨S1x1024x256, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1x256x8, .f32⟩
  | .hbm, ⟨14, _⟩ => ⟨S1x8x256, .f32⟩
  | .hbm, ⟨15, _⟩ => ⟨S1x256x8, .f32⟩
  | .hbm, ⟨16, _⟩ => ⟨S1x256x1024, .f32⟩
  | .hbm, ⟨17, _⟩ => ⟨S1x1024x256, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Mods.lean ====
abbrev S8x1024 : Shape := ⟨2, ![8, 1024]⟩
abbrev S4x1024x1152 : Shape := ⟨3, ![4, 1024, 1152]⟩
abbrev S4x1x1152 : Shape := ⟨3, ![4, 1, 1152]⟩
abbrev S4x8x1152 : Shape := ⟨3, ![4, 8, 1152]⟩
abbrev S1x1024x1152 : Shape := ⟨3, ![1, 1024, 1152]⟩
abbrev S1x1x1152 : Shape := ⟨3, ![1, 1, 1152]⟩
abbrev S1x8x1152 : Shape := ⟨3, ![1, 8, 1152]⟩
abbrev S1024x1152 : Shape := ⟨2, ![1024, 1152]⟩
abbrev S8x1152 : Shape := ⟨2, ![8, 1152]⟩
abbrev S1x1152 : Shape := ⟨2, ![1, 1152]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x1152, .f32⟩
  | .hbm, ⟨2, _⟩ => ⟨S4x1x1152, .f32⟩
  | .hbm, ⟨3, _⟩ => ⟨S4x8x1152, .f32⟩
  | .local _ .vmem, ⟨0, _⟩ => ⟨S8x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x8x1152, .f32⟩
  | .local _ .vmem, ⟨6, _⟩ => ⟨S1x8x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModsIdeal.lean ====
abbrev S8x1024 : Shape := ⟨2, ![8, 1024]⟩
abbrev S4x1024x1152 : Shape := ⟨3, ![4, 1024, 1152]⟩
abbrev S4x1x1152 : Shape := ⟨3, ![4, 1, 1152]⟩
abbrev S4x8x1152 : Shape := ⟨3, ![4, 8, 1152]⟩
abbrev S1x1024x1152 : Shape := ⟨3, ![1, 1024, 1152]⟩
abbrev S1x1x1152 : Shape := ⟨3, ![1, 1, 1152]⟩
abbrev S1x8x1152 : Shape := ⟨3, ![1, 8, 1152]⟩
abbrev S1024x1152 : Shape := ⟨2, ![1024, 1152]⟩
abbrev S8x1152 : Shape := ⟨2, ![8, 1152]⟩
abbrev S1x1152 : Shape := ⟨2, ![1, 1152]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x1152, .f32⟩
  | .hbm, ⟨2, _⟩ => ⟨S4x1x1152, .f32⟩
  | .hbm, ⟨3, _⟩ => ⟨S4x8x1152, .f32⟩
  | .local _ .vmem, ⟨0, _⟩ => ⟨S8x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x8x1152, .f32⟩
  | .local _ .vmem, ⟨6, _⟩ => ⟨S1x8x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModsRefIdeal.lean ====
abbrev S8x1024 : Shape := ⟨2, ![8, 1024]⟩
abbrev S4x1024x1152 : Shape := ⟨3, ![4, 1024, 1152]⟩
abbrev S4x1x1152 : Shape := ⟨3, ![4, 1, 1152]⟩
abbrev S_ : Shape := ⟨0, ![]⟩
abbrev S4x1152x8 : Shape := ⟨3, ![4, 1152, 8]⟩
abbrev S4x8x1152 : Shape := ⟨3, ![4, 8, 1152]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x1152, .f32⟩
  | .hbm, ⟨2, _⟩ => ⟨S4x1x1152, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x1152x8, .f32⟩
  | .hbm, ⟨13, _⟩ => ⟨S4x8x1152, .f32⟩
  | .hbm, ⟨14, _⟩ => ⟨S4x8x1152, .f32⟩
  | .hbm, ⟨15, _⟩ => ⟨S4x8x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== KvMods.lean ====
abbrev S8x1024 : Shape := ⟨2, ![8, 1024]⟩
abbrev S1x1024x256 : Shape := ⟨3, ![1, 1024, 256]⟩
abbrev S1x1x256 : Shape := ⟨3, ![1, 1, 256]⟩
abbrev S1x8x256 : Shape := ⟨3, ![1, 8, 256]⟩
abbrev S1024x256 : Shape := ⟨2, ![1024, 256]⟩
abbrev S8x256 : Shape := ⟨2, ![8, 256]⟩
abbrev S1x256 : Shape := ⟨2, ![1, 256]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1x1024x256, .f32⟩
  | .hbm, ⟨2, _⟩ => ⟨S1x1x256, .f32⟩
  | .hbm, ⟨3, _⟩ => ⟨S1x8x256, .f32⟩
  | .local _ .vmem, ⟨0, _⟩ => ⟨S8x1024, .f32⟩
  | .local _ .vmem, ⟨1, _⟩ => ⟨S1x1024x256, .f32⟩
  | .local _ .vmem, ⟨2, _⟩ => ⟨S1x1x256, .f32⟩
  | .local _ .vmem, ⟨3, _⟩ => ⟨S1x8x256, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== KvModsRefIdeal.lean ====
abbrev S8x1024 : Shape := ⟨2, ![8, 1024]⟩
abbrev S1x1024x256 : Shape := ⟨3, ![1, 1024, 256]⟩
abbrev S1x1x256 : Shape := ⟨3, ![1, 1, 256]⟩
abbrev S_ : Shape := ⟨0, ![]⟩
abbrev S1x256x8 : Shape := ⟨3, ![1, 256, 8]⟩
abbrev S1x8x256 : Shape := ⟨3, ![1, 8, 256]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x256, .f32⟩
  | .hbm, ⟨2, _⟩ => ⟨S1x1x256, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x256x8, .f32⟩
  | .hbm, ⟨13, _⟩ => ⟨S1x8x256, .f32⟩
  | .hbm, ⟨14, _⟩ => ⟨S1x8x256, .f32⟩
  | .hbm, ⟨15, _⟩ => ⟨S1x8x256, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== FinalLoss.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S7x1024 : Shape := ⟨2, ![7, 1024]⟩
abbrev S8x1024 : Shape := ⟨2, ![8, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S7x1024, .f32⟩
  | .hbm, ⟨6, _⟩ => ⟨S8x1024, .f32⟩
  | .hbm, ⟨7, _⟩ => ⟨S8192x1024, .f32⟩
  | .hbm, ⟨8, _⟩ => ⟨S8x1024, .f32⟩
  | .hbm, ⟨9, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v46 : BitVec 32 := Scalar.extui v0
  let c0_i32_16 : BitVec 32 := 0#32
  let v47 : BitVec 1 := Scalar.cmpi .ne v46 c0_i32_16
  v47

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v48 : BitVec 1 := Scalar.xori v0 v_true
  let v49 : BitVec 32 := Scalar.extui v48
  let c0_i32_17 : BitVec 32 := 0#32
  let v50 : BitVec 1 := Scalar.cmpi .ne v49 c0_i32_17
  v50

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v62 : BitVec 32 := Scalar.extui v0
  let c0_i32_22 : BitVec 32 := 0#32
  let v63 : BitVec 1 := Scalar.cmpi .ne v62 c0_i32_22
  v63

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_23 : BitVec 1 := 1#1
  let v64 : BitVec 1 := Scalar.xori v0 true_23
  let v65 : BitVec 32 := Scalar.extui v64
  let c0_i32_24 : BitVec 32 := 0#32
  let v66 : BitVec 1 := Scalar.cmpi .ne v65 c0_i32_24
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FinalLossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7x1024 : Shape := ⟨2, ![7, 1024]⟩
abbrev S8x1024 : Shape := ⟨2, ![8, 1024]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S_, .f32⟩
  | .hbm, ⟨73, _⟩ => ⟨S7x1024, .f32⟩
  | .hbm, ⟨74, _⟩ => ⟨S8x1024, .f32⟩
  | .hbm, ⟨75, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Proof.ConvPoint.lean ====
/-
  What one grid point of the convolution layer's backward call leaves in each of its output blocks and in the carried
  scratch, as one term of the blocks it reads and of the eight rows carried over from the point before.
-/
module

public import proofs.«01_k».proof.Proof.Gen.ConvBwdIdeal.Value
public import Idealize.ShloMosaic.Lib.Pointwise
public import Idealize.ShloMosaic.Lib.WritesUnit
public import Idealize.ShloMosaic.Lib.Pipeline.Value

@[expose] public section

set_option maxRecDepth 16384

noncomputable section

namespace Cert.ConvBwdIdeal.Gen

open Idealize.ShloMosaic Idealize.ShloMosaic.TcCoe Idealize.ShloMosaic.Tactic
open Idealize.SL Idealize.SL.Sem
open Idealize.ShloMosaic.Pipeline (Dat Cfg Window cellOf)

variable {F : FTy → Type} [FloatOps F]

/-- The scratch of 520 rows: 512 rows of the tile, then the eight carried rows. -/
def ext (a : Vec F S512x1024 .f32) (b : Vec F S8x1024 .f32) : Vec F S520x1024 .f32 := fun i =>
  if h : (i 0).val < 512 then a (ix2 ⟨(i 0).val, h⟩ ⟨(i 1).val, (i 1).isLt⟩)
  else b (ix2 ⟨(i 0).val - 512, by have : (i 0).val < 520 := (i 0).isLt; omega⟩ ⟨(i 1).val, (i 1).isLt⟩)

/-- The last eight rows of the scratch. -/
def tail8 (s : Vec F S520x1024 .f32) : Vec F S8x1024 .f32 :=
  View.ld s (Rect.unit (s := S520x1024) ![512, 0] S8x1024.size inb_S520x1024_S8x1024_512_0)

/-- The first eight rows of a tile. -/
def head8 (a : Vec F S512x1024 .f32) : Vec F S8x1024 .f32 := fun i =>
  a (ix2 ⟨(i 0).val, by have : (i 0).val < 8 := (i 0).isLt; omega⟩ ⟨(i 1).val, (i 1).isLt⟩)

/-- Row `k` of an eight-row block. -/
def row0 (x : Vec F S8x1024 .f32) : Vec F S1x1024 .f32 := View.ld x (Rect.unit (s := S8x1024) ![0, 0] S1x1024.size inb_S8x1024_S1x1024_0_0)
def row1 (x : Vec F S8x1024 .f32) : Vec F S1x1024 .f32 := View.ld x (Rect.unit (s := S8x1024) ![1, 0] S1x1024.size inb_S8x1024_S1x1024_1_0)
def row2 (x : Vec F S8x1024 .f32) : Vec F S1x1024 .f32 := View.ld x (Rect.unit (s := S8x1024) ![2, 0] S1x1024.size inb_S8x1024_S1x1024_2_0)
def row3 (x : Vec F S8x1024 .f32) : Vec F S1x1024 .f32 := View.ld x (Rect.unit (s := S8x1024) ![3, 0] S1x1024.size inb_S8x1024_S1x1024_3_0)

/-- The rows of the scratch shifted by one and by two. -/
def sh1 (s : Vec F S520x1024 .f32) : Vec F S512x1024 .f32 :=
  View.ld s (Rect.unit (s := S520x1024) ![1, 0] S512x1024.size inb_S520x1024_S512x1024_1_0)
def sh2 (s : Vec F S520x1024 .f32) : Vec F S512x1024 .f32 :=
  View.ld s (Rect.unit (s := S520x1024) ![2, 0] S512x1024.size inb_S520x1024_S512x1024_2_0)

section Point
variable (x0 x1 : Vec F S512x1024 .f32) (x2 : Vec F S512x1024 .bf16) (x3 : Vec F S512x3072 .bf16) (x4 : Vec F S512x1024 .bf16)
  (x5 x6 : Vec F S8x1024 .f32) (x7 : Vec F S1024x3072 .bf16) (x8 : Vec F S1024x1024 .bf16) (tl : Vec F S8x1024 .f32)

/-- The gradient of the convolution's output, this tile's rows. -/
def ptDC : Vec F S512x1024 .f32 := k0_pay13 x0 (row3 x5) x8 x3
/-- The scratch once that gradient is stored. -/
def ptE : Vec F S520x1024 .f32 := ext (ptDC x0 x3 x5 x8) tl
/-- The gradient of the three projected parts. -/
def ptDB : FVec F S512x3072 .bf16 :=
  k0_pay17 (k0_pay11 x3) (k0_pay12 x3) (ptDC x0 x3 x5 x8) (k0_pay14 x0 (row3 x5) x8 x4)
    (sh1 (ptE x0 x3 x5 x8 tl)) (sh2 (ptE x0 x3 x5 x8 tl)) (row2 x6) (row1 x6) (row0 x6)
/-- The gradient of the normalized input. -/
def ptDH : FVec F S512x1024 .f32 :=
  k0_pay18 (k0_pay11 x3) (k0_pay12 x3) (ptDC x0 x3 x5 x8) (k0_pay14 x0 (row3 x5) x8 x4)
    (sh1 (ptE x0 x3 x5 x8 tl)) (sh2 (ptE x0 x3 x5 x8 tl)) (row2 x6) (row1 x6) (row0 x6) x7
/-- The gradient of the layer's input. -/
def pt9 : FVec F S512x1024 .f32 :=
  k0_pay1 x0 x1 (k0_pay28 (ptDH x0 x3 x4 x5 x6 x7 x8 tl) x1 (row0 x5) (row2 x5))
    (k0_pay29 (ptDH x0 x3 x4 x5 x6 x7 x8 tl) x1 (row0 x5) (row2 x5))
/-- This tile's part of the column sums for the scale, the shift, the modulation and the gate. -/
def pt12 : FVec F S8x1024 .f32 :=
  k0_pay2 (k0_pay8 x0 x2) (k0_pay23 (ptDH x0 x3 x4 x5 x6 x7 x8 tl)) (k0_pay24 (ptDH x0 x3 x4 x5 x6 x7 x8 tl) x1 (row0 x5))
    (k0_pay26 (ptDH x0 x3 x4 x5 x6 x7 x8 tl) x1 (row2 x5))
/-- This tile's part of the filter's gradient. -/
def pt13 : FVec F S8x1024 .f32 :=
  k0_pay16 (k0_pay11 x3) (k0_pay12 x3) (ptDC x0 x3 x5 x8) (sh1 (ptE x0 x3 x5 x8 tl)) (sh2 (ptE x0 x3 x5 x8 tl))
/-- The scratch after the point. -/
def ptS : Vec F S520x1024 .f32 := ext (ptDC x0 x3 x5 x8) (head8 (ptDC x0 x3 x5 x8))
end Point

theorem read_ext {κ : Kind} {sp : Space} (v : View sig κ sp S520x1024 .f32) (f : v.ty.Contents (Elt F))
    (a : Vec F S512x1024 .f32) (b : Vec F S8x1024 .f32) (L : List (View.Piece (Elt F) S520x1024 .f32)) :
    View.read (Elt F) v (v.writes (Elt F) f
      (⟨Rect.unit ![0, 0] ![512, 1024] inb_S520x1024_S512x1024_0_0, a⟩ :: ⟨Rect.unit ![512, 0] ![8, 1024] inb_S520x1024_S8x1024_512_0, b⟩ :: L))
      = ext a b := by
  funext i
  have h1 : (i 0).val < 520 := (i 0).isLt
  unfold ext
  split
  · rename_i h
    exact View.read_writes_cons_rows_of_mem v f _ a _ i _ rfl (by simp) rfl
  · rename_i h
    refine (View.read_writes_cons_rows_of_not_mem v f (o := 0) (W := 512) _ a _ i rfl rfl (by omega)).trans ?_
    exact View.read_writes_cons_rows_of_mem v f _ b _ i _ rfl (by simp; omega) rfl

theorem read_ext' {κ : Kind} {sp : Space} (v : View sig κ sp S520x1024 .f32) (f : v.ty.Contents (Elt F))
    (a : Vec F S512x1024 .f32) (b : Vec F S8x1024 .f32) (L : List (View.Piece (Elt F) S520x1024 .f32)) :
    View.read (Elt F) v (v.writes (Elt F) f
      (⟨Rect.unit ![512, 0] ![8, 1024] inb_S520x1024_S8x1024_512_0, b⟩ :: ⟨Rect.unit ![0, 0] ![512, 1024] inb_S520x1024_S512x1024_0_0, a⟩ :: L))
      = ext a b := by
  funext i
  have h1 : (i 0).val < 520 := (i 0).isLt
  unfold ext
  split
  · rename_i h
    refine (View.read_writes_cons_rows_of_not_mem v f (o := 512) (W := 8) _ b _ i rfl rfl (by omega)).trans ?_
    exact View.read_writes_cons_rows_of_mem v f _ a _ i _ rfl (by simp) rfl
  · rename_i h
    exact View.read_writes_cons_rows_of_mem v f _ b _ i _ rfl (by simp; omega) rfl

theorem read_ext_one {κ : Kind} {sp : Space} (v : View sig κ sp S520x1024 .f32) (f : v.ty.Contents (Elt F)) (a : Vec F S512x1024 .f32) :
    View.read (Elt F) v (v.writes (Elt F) f [⟨Rect.unit ![0, 0] ![512, 1024] inb_S520x1024_S512x1024_0_0, a⟩])
      = ext a (tail8 (View.read (Elt F) v f)) := by
  funext i
  have h1 : (i 0).val < 520 := (i 0).isLt
  unfold ext
  split
  · rename_i h
    exact View.read_writes_cons_rows_of_mem v f _ a _ i _ rfl (by simp) rfl
  · rename_i h
    refine (View.read_writes_cons_rows_of_not_mem v f (o := 0) (W := 512) _ a _ i rfl rfl (by omega)).trans ?_
    unfold tail8 View.ld
    refine congrArg (View.read (Elt F) v f) ?_
    funext a
    fin_cases a
    · apply Fin.ext; simp [LoadRect.idx]; omega
    · apply Fin.ext; simp [LoadRect.idx]

theorem readCov_ext {κ : Kind} {sp : Space} (v : View sig κ sp S520x1024 .f32) (r : Rect S520x1024)
    (a : Vec F S512x1024 .f32) (b : Vec F S8x1024 .f32) (L : List (View.Piece (Elt F) S520x1024 .f32)) :
    v.readCov (⟨Rect.unit ![0, 0] ![512, 1024] inb_S520x1024_S512x1024_0_0, a⟩ :: ⟨Rect.unit ![512, 0] ![8, 1024] inb_S520x1024_S8x1024_512_0, b⟩ :: L) r.toLoadRect
      = View.ld (ext a b) r := by
  unfold View.readCov
  rw [View.readAt_eq_ld, read_ext]

theorem ld_head (a : Vec F S512x1024 .f32) (b : Vec F S8x1024 .f32) :
    View.ld (ext a b) (Rect.unit ![0, 0] ![8, 1024] inb_S520x1024_S8x1024_0_0) = head8 a := by
  funext i
  have h1 : (i 0).val < 8 := (i 0).isLt
  unfold View.ld ext head8
  rw [dif_pos (by simp [LoadRect.idx]; omega)]
  refine congrArg a ?_
  funext q
  fin_cases q
  · apply Fin.ext; simp [LoadRect.idx]
  · apply Fin.ext; simp [LoadRect.idx]

theorem readCov_head {κ : Kind} {sp : Space} (v : View sig κ sp S520x1024 .f32) (a : Vec F S512x1024 .f32) :
    v.readCov [⟨Rect.unit ![0, 0] ![512, 1024] inb_S520x1024_S512x1024_0_0, a⟩] (Rect.unit ![0, 0] ![8, 1024] inb_S520x1024_S8x1024_0_0).toLoadRect
      = head8 a := by
  unfold View.readCov
  rw [View.readAt_eq_ld, read_ext_one, ld_head]

theorem pay5_eq (v : Vec F S8x1024 .f32) : k0_pay5 v = v := shapeCast_self _ _

theorem pay3_eq (a b c d : FVec F S1x1024 .f32) (v : Vec F S8x1024 .f32) : k0_pay3 a b c d v = addf v (k0_pay2 a b c d) := by
  unfold k0_pay3; simp only [shapeCast_self]

theorem pay4_eq (a : FVec F S8x1024 .f32) (v : Vec F S8x1024 .f32) : k0_pay4 a v = addf v a := by
  unfold k0_pay4; simp only [shapeCast_self]

theorem ld_S512x1024 {e : EltTy} (X : S512x1024.Idx → Elt F e) : View.ld X (Rect.unit (s := S512x1024) ![0, 0] ![512, 1024] inb_S512x1024_S512x1024_0_0) = X :=
  View.ld_unit_zero (S := S512x1024) (funext fun a => by fin_cases a <;> rfl) _ X

theorem canon_S512x1024 {e : EltTy} (w : S512x1024.Idx → Elt F e) (L : List (View.Piece (Elt F) S512x1024 e)) : View.canon (⟨Rect.unit (s := S512x1024) ![0, 0] ![512, 1024] inb_S512x1024_S512x1024_0_0, w⟩ :: L) = w :=
  View.canon_cons_unit_zero (S := S512x1024) (funext fun a => by fin_cases a <;> rfl) _ w L

theorem ld_S512x3072 {e : EltTy} (X : S512x3072.Idx → Elt F e) : View.ld X (Rect.unit (s := S512x3072) ![0, 0] ![512, 3072] inb_S512x3072_S512x3072_0_0) = X :=
  View.ld_unit_zero (S := S512x3072) (funext fun a => by fin_cases a <;> rfl) _ X

theorem canon_S512x3072 {e : EltTy} (w : S512x3072.Idx → Elt F e) (L : List (View.Piece (Elt F) S512x3072 e)) : View.canon (⟨Rect.unit (s := S512x3072) ![0, 0] ![512, 3072] inb_S512x3072_S512x3072_0_0, w⟩ :: L) = w :=
  View.canon_cons_unit_zero (S := S512x3072) (funext fun a => by fin_cases a <;> rfl) _ w L

theorem ld_S1024x3072 {e : EltTy} (X : S1024x3072.Idx → Elt F e) : View.ld X (Rect.unit (s := S1024x3072) ![0, 0] ![1024, 3072] inb_S1024x3072_S1024x3072_0_0) = X :=
  View.ld_unit_zero (S := S1024x3072) (funext fun a => by fin_cases a <;> rfl) _ X

theorem ld_S1024x1024 {e : EltTy} (X : S1024x1024.Idx → Elt F e) : View.ld X (Rect.unit (s := S1024x1024) ![0, 0] ![1024, 1024] inb_S1024x1024_S1024x1024_0_0) = X :=
  View.ld_unit_zero (S := S1024x1024) (funext fun a => by fin_cases a <;> rfl) _ X

theorem ld_S8x1024 {e : EltTy} (X : S8x1024.Idx → Elt F e) : View.ld X (Rect.unit (s := S8x1024) ![0, 0] ![8, 1024] inb_S8x1024_S8x1024_0_0) = X :=
  View.ld_unit_zero (S := S8x1024) (funext fun a => by fin_cases a <;> rfl) _ X

theorem canon_S8x1024 {e : EltTy} (w : S8x1024.Idx → Elt F e) (L : List (View.Piece (Elt F) S8x1024 e)) : View.canon (⟨Rect.unit (s := S8x1024) ![0, 0] ![8, 1024] inb_S8x1024_S8x1024_0_0, w⟩ :: L) = w :=
  View.canon_cons_unit_zero (S := S8x1024) (funext fun a => by fin_cases a <;> rfl) _ w L

theorem pay15_eq (v3 : Vec F S512x1024 .f32) (v4 : Vec F S1x1024 .f32) (v18 : Vec F S1024x1024 .bf16) (v21 : Vec F S512x3072 .bf16) :
    k0_pay15 v3 v4 v18 v21 = k0_pay13 v3 v4 v18 v21 := shapeCast_self _ _

set_option maxHeartbeats 1000000 in
theorem out0_A_9_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x3072 .bf16) (harg4 : arg4.IsWhole) (arg5 : Memref sig .tc .vmem S512x1024 .bf16) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024x3072 .bf16) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x3072 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S520x1024 .f32) (harg15 : arg15.IsWhole) (hc0 : cond0_0 i) (hc1 : cond0_1 i) (hc2 : ¬cond0_2 i) (hc3 : cond0_3 i) (hc4 : ¬cond0_4 i)
    (x0 : Vec F S512x1024 .f32) (x1 : Vec F S512x1024 .f32) (x2 : Vec F S512x1024 .bf16) (x3 : Vec F S512x3072 .bf16) (x4 : Vec F S512x1024 .bf16) (x5 : Vec F S8x1024 .f32) (x6 : Vec F S8x1024 .f32) (x7 : Vec F S1024x3072 .bf16) (x8 : Vec F S1024x1024 .bf16):
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 = pt9 x0 x1 x3 x4 x5 x6 x7 x8 (k0_pay6 (F := F)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ext, read_ext, read_ext', read_ext_one, readCov_head, ld_head, pay15_eq, pay3_eq, pay4_eq, pay5_eq, ld_S512x1024, canon_S512x1024, ld_S512x3072, canon_S512x3072, ld_S1024x3072, ld_S1024x1024, ld_S8x1024, canon_S8x1024]
  rfl

set_option maxHeartbeats 1000000 in
theorem out0_A_10_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x3072 .bf16) (harg4 : arg4.IsWhole) (arg5 : Memref sig .tc .vmem S512x1024 .bf16) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024x3072 .bf16) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x3072 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S520x1024 .f32) (harg15 : arg15.IsWhole) (hc0 : cond0_0 i) (hc1 : cond0_1 i) (hc2 : ¬cond0_2 i) (hc3 : cond0_3 i) (hc4 : ¬cond0_4 i)
    (x0 : Vec F S512x1024 .f32) (x1 : Vec F S512x1024 .f32) (x2 : Vec F S512x1024 .bf16) (x3 : Vec F S512x3072 .bf16) (x4 : Vec F S512x1024 .bf16) (x5 : Vec F S8x1024 .f32) (x6 : Vec F S8x1024 .f32) (x7 : Vec F S1024x3072 .bf16) (x8 : Vec F S1024x1024 .bf16):
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 = k0_pay7 x0 (row3 x5) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ext, read_ext, read_ext', read_ext_one, readCov_head, ld_head, pay15_eq, pay3_eq, pay4_eq, pay5_eq, ld_S512x1024, canon_S512x1024, ld_S512x3072, canon_S512x3072, ld_S1024x3072, ld_S1024x1024, ld_S8x1024, canon_S8x1024]
  rfl

set_option maxHeartbeats 1000000 in
theorem out0_A_11_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x3072 .bf16) (harg4 : arg4.IsWhole) (arg5 : Memref sig .tc .vmem S512x1024 .bf16) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024x3072 .bf16) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x3072 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S520x1024 .f32) (harg15 : arg15.IsWhole) (hc0 : cond0_0 i) (hc1 : cond0_1 i) (hc2 : ¬cond0_2 i) (hc3 : cond0_3 i) (hc4 : ¬cond0_4 i)
    (x0 : Vec F S512x1024 .f32) (x1 : Vec F S512x1024 .f32) (x2 : Vec F S512x1024 .bf16) (x3 : Vec F S512x3072 .bf16) (x4 : Vec F S512x1024 .bf16) (x5 : Vec F S8x1024 .f32) (x6 : Vec F S8x1024 .f32) (x7 : Vec F S1024x3072 .bf16) (x8 : Vec F S1024x1024 .bf16):
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 = ptDB x0 x3 x4 x5 x6 x8 (k0_pay6 (F := F)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ext, read_ext, read_ext', read_ext_one, readCov_head, ld_head, pay15_eq, pay3_eq, pay4_eq, pay5_eq, ld_S512x1024, canon_S512x1024, ld_S512x3072, canon_S512x3072, ld_S1024x3072, ld_S1024x1024, ld_S8x1024, canon_S8x1024]
  rfl

set_option maxHeartbeats 1000000 in
theorem out0_A_12_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x3072 .bf16) (harg4 : arg4.IsWhole) (arg5 : Memref sig .tc .vmem S512x1024 .bf16) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024x3072 .bf16) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x3072 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S520x1024 .f32) (harg15 : arg15.IsWhole) (hc0 : cond0_0 i) (hc1 : cond0_1 i) (hc2 : ¬cond0_2 i) (hc3 : cond0_3 i) (hc4 : ¬cond0_4 i)
    (x0 : Vec F S512x1024 .f32) (x1 : Vec F S512x1024 .f32) (x2 : Vec F S512x1024 .bf16) (x3 : Vec F S512x3072 .bf16) (x4 : Vec F S512x1024 .bf16) (x5 : Vec F S8x1024 .f32) (x6 : Vec F S8x1024 .f32) (x7 : Vec F S1024x3072 .bf16) (x8 : Vec F S1024x1024 .bf16):
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 = pt12 x0 x1 x2 x3 x4 x5 x6 x7 x8 (k0_pay6 (F := F)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ext, read_ext, read_ext', read_ext_one, readCov_head, ld_head, pay15_eq, pay3_eq, pay4_eq, pay5_eq, ld_S512x1024, canon_S512x1024, ld_S512x3072, canon_S512x3072, ld_S1024x3072, ld_S1024x1024, ld_S8x1024, canon_S8x1024]
  rfl

set_option maxHeartbeats 1000000 in
theorem out0_A_13_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x3072 .bf16) (harg4 : arg4.IsWhole) (arg5 : Memref sig .tc .vmem S512x1024 .bf16) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024x3072 .bf16) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x3072 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S520x1024 .f32) (harg15 : arg15.IsWhole) (hc0 : cond0_0 i) (hc1 : cond0_1 i) (hc2 : ¬cond0_2 i) (hc3 : cond0_3 i) (hc4 : ¬cond0_4 i)
    (x0 : Vec F S512x1024 .f32) (x1 : Vec F S512x1024 .f32) (x2 : Vec F S512x1024 .bf16) (x3 : Vec F S512x3072 .bf16) (x4 : Vec F S512x1024 .bf16) (x5 : Vec F S8x1024 .f32) (x6 : Vec F S8x1024 .f32) (x7 : Vec F S1024x3072 .bf16) (x8 : Vec F S1024x1024 .bf16):
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 = pt13 x0 x3 x5 x8 (k0_pay6 (F := F)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ext, read_ext, read_ext', read_ext_one, readCov_head, ld_head, pay15_eq, pay3_eq, pay4_eq, pay5_eq, ld_S512x1024, canon_S512x1024, ld_S512x3072, canon_S512x3072, ld_S1024x3072, ld_S1024x1024, ld_S8x1024, canon_S8x1024]
  rfl

set_option maxHeartbeats 1000000 in
theorem sout0_A_0_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x3072 .bf16) (harg4 : arg4.IsWhole) (arg5 : Memref sig .tc .vmem S512x1024 .bf16) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024x3072 .bf16) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x3072 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S520x1024 .f32) (harg15 : arg15.IsWhole) (hc0 : cond0_0 i) (hc1 : cond0_1 i) (hc2 : ¬cond0_2 i) (hc3 : cond0_3 i) (hc4 : ¬cond0_4 i)
    (x0 : Vec F S512x1024 .f32) (x1 : Vec F S512x1024 .f32) (x2 : Vec F S512x1024 .bf16) (x3 : Vec F S512x3072 .bf16) (x4 : Vec F S512x1024 .bf16) (x5 : Vec F S8x1024 .f32) (x6 : Vec F S8x1024 .f32) (x7 : Vec F S1024x3072 .bf16) (x8 : Vec F S1024x1024 .bf16):
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 = ptS x0 x3 x5 x8 := by
  unfold sout0_A_0
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ext, read_ext, read_ext', read_ext_one, readCov_head, ld_head, pay15_eq, pay3_eq, pay4_eq, pay5_eq, ld_S512x1024, canon_S512x1024, ld_S512x3072, canon_S512x3072, ld_S1024x3072, ld_S1024x1024, ld_S8x1024, canon_S8x1024]
  rfl

set_option maxHeartbeats 1000000 in
theorem out0_B_9_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x3072 .bf16) (harg4 : arg4.IsWhole) (arg5 : Memref sig .tc .vmem S512x1024 .bf16) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024x3072 .bf16) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x3072 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S520x1024 .f32) (harg15 : arg15.IsWhole) (hc0 : ¬cond0_0 i) (hc1 : ¬cond0_1 i) (hc2 : cond0_2 i) (hc3 : ¬cond0_3 i) (hc4 : cond0_4 i)
    (x0 : Vec F S512x1024 .f32) (x1 : Vec F S512x1024 .f32) (x2 : Vec F S512x1024 .bf16) (x3 : Vec F S512x3072 .bf16) (x4 : Vec F S512x1024 .bf16) (x5 : Vec F S8x1024 .f32) (x6 : Vec F S8x1024 .f32) (x7 : Vec F S1024x3072 .bf16) (x8 : Vec F S1024x1024 .bf16) (xo12 : Vec F S8x1024 .f32) (xo13 : Vec F S8x1024 .f32) (xs0 : Vec F S520x1024 .f32):
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo12 xo13 xs0 = pt9 x0 x1 x3 x4 x5 x6 x7 x8 (tail8 xs0) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo12 xo13 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ext, read_ext, read_ext', read_ext_one, readCov_head, ld_head, pay15_eq, pay3_eq, pay4_eq, pay5_eq, ld_S512x1024, canon_S512x1024, ld_S512x3072, canon_S512x3072, ld_S1024x3072, ld_S1024x1024, ld_S8x1024, canon_S8x1024]
  rfl

set_option maxHeartbeats 1000000 in
theorem out0_B_10_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x3072 .bf16) (harg4 : arg4.IsWhole) (arg5 : Memref sig .tc .vmem S512x1024 .bf16) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024x3072 .bf16) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x3072 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S520x1024 .f32) (harg15 : arg15.IsWhole) (hc0 : ¬cond0_0 i) (hc1 : ¬cond0_1 i) (hc2 : cond0_2 i) (hc3 : ¬cond0_3 i) (hc4 : cond0_4 i)
    (x0 : Vec F S512x1024 .f32) (x1 : Vec F S512x1024 .f32) (x2 : Vec F S512x1024 .bf16) (x3 : Vec F S512x3072 .bf16) (x4 : Vec F S512x1024 .bf16) (x5 : Vec F S8x1024 .f32) (x6 : Vec F S8x1024 .f32) (x7 : Vec F S1024x3072 .bf16) (x8 : Vec F S1024x1024 .bf16) (xo12 : Vec F S8x1024 .f32) (xo13 : Vec F S8x1024 .f32) (xs0 : Vec F S520x1024 .f32):
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo12 xo13 xs0 = k0_pay7 x0 (row3 x5) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo12 xo13 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ext, read_ext, read_ext', read_ext_one, readCov_head, ld_head, pay15_eq, pay3_eq, pay4_eq, pay5_eq, ld_S512x1024, canon_S512x1024, ld_S512x3072, canon_S512x3072, ld_S1024x3072, ld_S1024x1024, ld_S8x1024, canon_S8x1024]
  rfl

set_option maxHeartbeats 1000000 in
theorem out0_B_11_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x3072 .bf16) (harg4 : arg4.IsWhole) (arg5 : Memref sig .tc .vmem S512x1024 .bf16) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024x3072 .bf16) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x3072 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S520x1024 .f32) (harg15 : arg15.IsWhole) (hc0 : ¬cond0_0 i) (hc1 : ¬cond0_1 i) (hc2 : cond0_2 i) (hc3 : ¬cond0_3 i) (hc4 : cond0_4 i)
    (x0 : Vec F S512x1024 .f32) (x1 : Vec F S512x1024 .f32) (x2 : Vec F S512x1024 .bf16) (x3 : Vec F S512x3072 .bf16) (x4 : Vec F S512x1024 .bf16) (x5 : Vec F S8x1024 .f32) (x6 : Vec F S8x1024 .f32) (x7 : Vec F S1024x3072 .bf16) (x8 : Vec F S1024x1024 .bf16) (xo12 : Vec F S8x1024 .f32) (xo13 : Vec F S8x1024 .f32) (xs0 : Vec F S520x1024 .f32):
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo12 xo13 xs0 = ptDB x0 x3 x4 x5 x6 x8 (tail8 xs0) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo12 xo13 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ext, read_ext, read_ext', read_ext_one, readCov_head, ld_head, pay15_eq, pay3_eq, pay4_eq, pay5_eq, ld_S512x1024, canon_S512x1024, ld_S512x3072, canon_S512x3072, ld_S1024x3072, ld_S1024x1024, ld_S8x1024, canon_S8x1024]
  rfl

set_option maxHeartbeats 1000000 in
theorem out0_B_12_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x3072 .bf16) (harg4 : arg4.IsWhole) (arg5 : Memref sig .tc .vmem S512x1024 .bf16) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024x3072 .bf16) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x3072 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S520x1024 .f32) (harg15 : arg15.IsWhole) (hc0 : ¬cond0_0 i) (hc1 : ¬cond0_1 i) (hc2 : cond0_2 i) (hc3 : ¬cond0_3 i) (hc4 : cond0_4 i)
    (x0 : Vec F S512x1024 .f32) (x1 : Vec F S512x1024 .f32) (x2 : Vec F S512x1024 .bf16) (x3 : Vec F S512x3072 .bf16) (x4 : Vec F S512x1024 .bf16) (x5 : Vec F S8x1024 .f32) (x6 : Vec F S8x1024 .f32) (x7 : Vec F S1024x3072 .bf16) (x8 : Vec F S1024x1024 .bf16) (xo12 : Vec F S8x1024 .f32) (xo13 : Vec F S8x1024 .f32) (xs0 : Vec F S520x1024 .f32):
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo12 xo13 xs0 = addf xo12 (pt12 x0 x1 x2 x3 x4 x5 x6 x7 x8 (tail8 xs0)) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo12 xo13 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ext, read_ext, read_ext', read_ext_one, readCov_head, ld_head, pay15_eq, pay3_eq, pay4_eq, pay5_eq, ld_S512x1024, canon_S512x1024, ld_S512x3072, canon_S512x3072, ld_S1024x3072, ld_S1024x1024, ld_S8x1024, canon_S8x1024]
  rfl

set_option maxHeartbeats 1000000 in
theorem out0_B_13_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x3072 .bf16) (harg4 : arg4.IsWhole) (arg5 : Memref sig .tc .vmem S512x1024 .bf16) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024x3072 .bf16) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x3072 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S520x1024 .f32) (harg15 : arg15.IsWhole) (hc0 : ¬cond0_0 i) (hc1 : ¬cond0_1 i) (hc2 : cond0_2 i) (hc3 : ¬cond0_3 i) (hc4 : cond0_4 i)
    (x0 : Vec F S512x1024 .f32) (x1 : Vec F S512x1024 .f32) (x2 : Vec F S512x1024 .bf16) (x3 : Vec F S512x3072 .bf16) (x4 : Vec F S512x1024 .bf16) (x5 : Vec F S8x1024 .f32) (x6 : Vec F S8x1024 .f32) (x7 : Vec F S1024x3072 .bf16) (x8 : Vec F S1024x1024 .bf16) (xo12 : Vec F S8x1024 .f32) (xo13 : Vec F S8x1024 .f32) (xs0 : Vec F S520x1024 .f32):
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo12 xo13 xs0 = addf xo13 (pt13 x0 x3 x5 x8 (tail8 xs0)) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo12 xo13 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ext, read_ext, read_ext', read_ext_one, readCov_head, ld_head, pay15_eq, pay3_eq, pay4_eq, pay5_eq, ld_S512x1024, canon_S512x1024, ld_S512x3072, canon_S512x3072, ld_S1024x3072, ld_S1024x1024, ld_S8x1024, canon_S8x1024]
  rfl

set_option maxHeartbeats 1000000 in
theorem sout0_B_0_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x3072 .bf16) (harg4 : arg4.IsWhole) (arg5 : Memref sig .tc .vmem S512x1024 .bf16) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024x3072 .bf16) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x3072 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S520x1024 .f32) (harg15 : arg15.IsWhole) (hc0 : ¬cond0_0 i) (hc1 : ¬cond0_1 i) (hc2 : cond0_2 i) (hc3 : ¬cond0_3 i) (hc4 : cond0_4 i)
    (x0 : Vec F S512x1024 .f32) (x1 : Vec F S512x1024 .f32) (x2 : Vec F S512x1024 .bf16) (x3 : Vec F S512x3072 .bf16) (x4 : Vec F S512x1024 .bf16) (x5 : Vec F S8x1024 .f32) (x6 : Vec F S8x1024 .f32) (x7 : Vec F S1024x3072 .bf16) (x8 : Vec F S1024x1024 .bf16) (xo12 : Vec F S8x1024 .f32) (xo13 : Vec F S8x1024 .f32) (xs0 : Vec F S520x1024 .f32):
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo12 xo13 xs0 = ptS x0 x3 x5 x8 := by
  unfold sout0_B_0
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ext, read_ext, read_ext', read_ext_one, readCov_head, ld_head, pay15_eq, pay3_eq, pay4_eq, pay5_eq, ld_S512x1024, canon_S512x1024, ld_S512x3072, canon_S512x3072, ld_S1024x3072, ld_S1024x1024, ld_S8x1024, canon_S8x1024]
  rfl

end Cert.ConvBwdIdeal.Gen
-- ==== Proof.ConvRows.lean ====
/-
  The convolution layer's forward lines and its gradient, row by row over extended reals: what both the kernel's and the
  reference's results are shown equal to.
-/
module

public import Idealize.ShloMosaic.Lib.Pointwise

@[expose] public section

noncomputable section

namespace Cert.Conv

open Idealize.ShloMosaic

/-- A row's length, the norm's small constant and minus one half, as the programs write them. -/
abbrev n1024 : EReal := Ideal.ofBits FTy.f32 1149239296#32
abbrev eps : EReal := Ideal.ofBits FTy.f32 925353388#32
abbrev mhalf : EReal := Ideal.ofBits FTy.f32 3204448256#32

/-- The mean of a row's squares plus the small constant, and its reciprocal square root. -/
def ms (v : Fin 1024 → EReal) : EReal := Ideal.div (∑ k, v k * v k) n1024 + eps
def rs (v : Fin 1024 → EReal) : EReal := Ideal.rsqrt (ms v)

/-- The coefficient of the row itself in the norm's gradient, half of it. -/
def cc (v u : Fin 1024 → EReal) : EReal :=
  Ideal.div ((∑ k, v k * u k) * (mhalf * Ideal.div (rs v) (ms v))) n1024

/-- The layer's arguments: the input, the output's gradient, the norm's scale, shift, modulation and gate rows, the
    filter's three rows and the two weights. -/
structure Args where
  x : Fin 8192 → Fin 1024 → EReal
  dxo : Fin 8192 → Fin 1024 → EReal
  g : Fin 1024 → EReal
  sh : Fin 1024 → EReal
  sc : Fin 1024 → EReal
  gate : Fin 1024 → EReal
  w0 : Fin 1024 → EReal
  w1 : Fin 1024 → EReal
  w2 : Fin 1024 → EReal
  win : Fin 1024 → Fin 3072 → EReal
  wo : Fin 1024 → Fin 1024 → EReal

namespace Args
variable (A : Args)

/-! ### Forward -/

def h (R : Fin 8192) (l : Fin 1024) : EReal := A.x R l * rs (A.x R) * A.g l * (1 + A.sc l) + A.sh l
def bcu (R : Fin 8192) (j : Fin 3072) : EReal := ∑ k, A.h R k * A.win k j
/-- The three parts of the projection. -/
def b (R : Fin 8192) (l : Fin 1024) : EReal := A.bcu R ⟨l.val, by omega⟩
def c (R : Fin 8192) (l : Fin 1024) : EReal := A.bcu R ⟨1024 + l.val, by omega⟩
def u (R : Fin 8192) (l : Fin 1024) : EReal := A.bcu R ⟨2048 + l.val, by omega⟩
/-- What is convolved, two rows of zeros before it. -/
def vp (n : ℕ) (l : Fin 1024) : EReal :=
  if n < 2 then 0 else if h : n - 2 < 8192 then A.c ⟨n - 2, h⟩ l * A.u ⟨n - 2, h⟩ l else 0
def cv (R : Fin 8192) (l : Fin 1024) : EReal :=
  A.w0 l * A.vp R.val l + A.w1 l * A.vp (R.val + 1) l + A.w2 l * A.vp (R.val + 2) l
def y (R : Fin 8192) (l : Fin 1024) : EReal := ∑ k, A.b R k * A.cv R k * A.wo k l

/-! ### Backward -/

def dy (R : Fin 8192) (l : Fin 1024) : EReal := A.dxo R l * (1 + A.gate l)
def dz (R : Fin 8192) (l : Fin 1024) : EReal := ∑ k, A.dy R k * A.wo l k
def dc (R : Fin 8192) (l : Fin 1024) : EReal := A.dz R l * A.b R l
/-- The gradient of the convolution's output, zero past the last row. -/
def dcn (n : ℕ) (l : Fin 1024) : EReal := if h : n < 8192 then A.dc ⟨n, h⟩ l else 0
def dv (R : Fin 8192) (l : Fin 1024) : EReal :=
  A.w2 l * A.dc R l + A.w1 l * A.dcn (R.val + 1) l + A.w0 l * A.dcn (R.val + 2) l
def dbcu (R : Fin 8192) (j : Fin 3072) : EReal :=
  if h : j.val < 1024 then A.dz R ⟨j.val, h⟩ * A.cv R ⟨j.val, h⟩
  else if h : j.val - 1024 < 1024 then A.dv R ⟨j.val - 1024, h⟩ * A.u R ⟨j.val - 1024, h⟩
  else A.dv R ⟨j.val - 1024 - 1024, by omega⟩ * A.c R ⟨j.val - 1024 - 1024, by omega⟩
def dh (R : Fin 8192) (l : Fin 1024) : EReal := ∑ j, A.dbcu R j * A.win l j
def du (R : Fin 8192) (l : Fin 1024) : EReal := A.dh R l * (1 + A.sc l) * A.g l
def dx (R : Fin 8192) (l : Fin 1024) : EReal :=
  A.dxo R l + (A.du R l * rs (A.x R) + A.x R l * cc (A.x R) (A.du R) + cc (A.x R) (A.du R) * A.x R l)

/-- One row's part of the four column sums. -/
def partRow (e : Fin 8) (R : Fin 8192) (l : Fin 1024) : EReal :=
  if e.val < 1 then A.x R l * rs (A.x R) * (A.dh R l * (1 + A.sc l))
  else if e.val - 1 < 1 then A.dh R l
  else if e.val - 1 - 1 < 1 then A.x R l * rs (A.x R) * A.g l * A.dh R l
  else if e.val - 1 - 1 - 1 < 1 then A.dxo R l * A.y R l
  else 0
def part (e : Fin 8) (l : Fin 1024) : EReal := ∑ R, A.partRow e R l

/-- One row's part of the filter's gradient. -/
def dcwRow (e : Fin 8) (R : Fin 8192) (l : Fin 1024) : EReal :=
  if e.val < 1 then A.dcn (R.val + 2) l * (A.c R l * A.u R l)
  else if e.val - 1 < 1 then A.dcn (R.val + 1) l * (A.c R l * A.u R l)
  else if e.val - 1 - 1 < 1 then A.dc R l * (A.c R l * A.u R l)
  else 0
def dcw (e : Fin 8) (l : Fin 1024) : EReal := ∑ R, A.dcwRow e R l

theorem vp_of {n i : ℕ} (l : Fin 1024) (h : ¬n < 2) (hi : i < 8192) (e : i = n - 2) : A.c ⟨i, hi⟩ l * A.u ⟨i, hi⟩ l = A.vp n l := by
  subst e
  unfold vp
  rw [if_neg h, dif_pos hi]
theorem vp_zero {n : ℕ} (l : Fin 1024) (h : n < 2) : A.vp n l = 0 := if_pos h

/-- The shifted sums: rows shifted by `s` against the convolved rows are the rows themselves against the padded ones. -/
theorem sum_shift (f : Fin 8192 → EReal) (v : Fin 8192 → EReal) (s : ℕ) (hs : s ≤ 2) :
    ∑ R : Fin 8192, (if h : R.val + s < 8192 then f ⟨R.val + s, h⟩ else 0) * v R
      = ∑ R : Fin 8192, f R * (if R.val + (2 - s) < 2 then 0 else if h : R.val + (2 - s) - 2 < 8192 then v ⟨R.val + (2 - s) - 2, h⟩ else 0) := by
  have hL : ∀ R : Fin 8192, (if h : R.val + s < 8192 then f ⟨R.val + s, h⟩ else 0) * v R
      = (fun n : ℕ => if h : n < 8192 then (if h' : n + s < 8192 then f ⟨n + s, h'⟩ else 0) * v ⟨n, h⟩ else 0) R.val := fun R => by
    simp only [R.isLt, dif_pos]
  have hR : ∀ R : Fin 8192, f R * (if R.val + (2 - s) < 2 then 0 else if h : R.val + (2 - s) - 2 < 8192 then v ⟨R.val + (2 - s) - 2, h⟩ else 0)
      = (fun n : ℕ => if h : n < 8192 then f ⟨n, h⟩ * (if h' : s ≤ n then v ⟨n - s, by omega⟩ else 0) else 0) R.val := fun R => by
    have h0 := R.isLt
    simp only [R.isLt, dif_pos]
    congr 1
    by_cases h : s ≤ R.val
    · rw [if_neg (by omega), dif_pos (by omega), dif_pos h]; congr 1; apply Fin.ext; show R.val + (2 - s) - 2 = R.val - s; omega
    · rw [if_pos (by omega), dif_neg h]
  rw [Finset.sum_congr rfl fun R _ => hL R, Finset.sum_congr rfl fun R _ => hR R]
  refine (Fin.sum_univ_eq_sum_range (fun n : ℕ => if h : n < 8192 then (if h' : n + s < 8192 then f ⟨n + s, h'⟩ else 0) * v ⟨n, h⟩ else 0) 8192).trans ?_
  refine Eq.trans ?_ (Fin.sum_univ_eq_sum_range (fun n : ℕ => if h : n < 8192 then f ⟨n, h⟩ * (if h' : s ≤ n then v ⟨n - s, by omega⟩ else 0) else 0) 8192).symm
  obtain ⟨a, ha⟩ : ∃ a, 8192 = a + s := ⟨8192 - s, by omega⟩
  have e1 : Finset.range 8192 = Finset.range (a + s) := by rw [← ha]
  have e2 : Finset.range 8192 = Finset.range (s + a) := by rw [ha, add_comm]
  conv_lhs => rw [e1, Finset.sum_range_add]
  conv_rhs => rw [e2, Finset.sum_range_add]
  rw [Finset.sum_eq_zero (s := Finset.range s) (f := fun x => dite (a + x < 8192) _ _) fun x hx => ?_,
    Finset.sum_eq_zero (s := Finset.range s) (f := fun x => dite (x < 8192) _ _) fun x hx => ?_, add_zero, zero_add]
  · refine Finset.sum_congr rfl fun n hn => ?_
    have hn' := Finset.mem_range.mp hn
    rw [dif_pos (by omega), dif_pos (by omega), dif_pos (by omega), dif_pos (by omega)]
    congr 2
    · apply Fin.ext; show n + s = s + n; omega
    · apply Fin.ext; show n = s + n - s; omega
  · have hx' := Finset.mem_range.mp hx
    rw [dif_pos (by omega), dif_neg (by omega), mul_zero]
  · have hx' := Finset.mem_range.mp hx
    rw [dif_pos (by omega), dif_neg (by omega), zero_mul]

end Args
end Cert.Conv
-- ==== Proof.ConvPointIx.lean ====
/-
  One grid point's results at an index: the row functions of `ConvRows` at the tile's rows, when the blocks it reads and
  the rows carried over hold the layer's arrays there.
-/
module

public import proofs.«01_k».proof.Proof.ConvPoint
public import proofs.«01_k».proof.Proof.ConvRows

@[expose] public section

set_option maxRecDepth 16384

noncomputable section

namespace Cert.ConvBwdIdeal.Gen

open Idealize.ShloMosaic Idealize.ShloMosaic.TcCoe Idealize.ShloMosaic.Tactic

theorem head8_ix (a : Vec Ideal S512x1024 .f32) (e : Fin 8) (l : Fin 1024) : head8 a (ix2 e l) = a (ix2 ⟨e.val, by omega⟩ l) := rfl
theorem ext_lo (a : Vec Ideal S512x1024 .f32) (b : Vec Ideal S8x1024 .f32) (n : Fin 520) (l : Fin 1024) (h : n.val < 512) :
    ext a b (ix2 n l) = a (ix2 ⟨n.val, h⟩ l) := by
  exact dif_pos h
theorem ext_hi (a : Vec Ideal S512x1024 .f32) (b : Vec Ideal S8x1024 .f32) (n : Fin 520) (l : Fin 1024) (h : ¬n.val < 512) :
    ext a b (ix2 n l) = b (ix2 ⟨n.val - 512, by omega⟩ l) := by
  exact dif_neg h
theorem tail8_ext (a : Vec Ideal S512x1024 .f32) (b : Vec Ideal S8x1024 .f32) (e : Fin 8) (l : Fin 1024) : tail8 (ext a b) (ix2 e l) = b (ix2 e l) := by
  pointwise [tail8]
  rw [ext_hi _ _ _ _ (by simp)]
  congr 2
  apply Fin.ext
  simp

/-- The blocks of tile `b`'s point hold the layer's arrays at rows `512 * b + r`, the carried rows the gradient of the
    convolution's output at the eight rows after the tile. -/
structure Holds (A : Cert.Conv.Args) (b : Fin 16) (x0 x1 : Vec Ideal S512x1024 .f32) (x2 : Vec Ideal S512x1024 .bf16) (x3 : Vec Ideal S512x3072 .bf16)
    (x4 : Vec Ideal S512x1024 .bf16) (x5 x6 : Vec Ideal S8x1024 .f32) (x7 : Vec Ideal S1024x3072 .bf16) (x8 : Vec Ideal S1024x1024 .bf16) : Prop where
  h0 : ∀ (r : Fin 512) l, x0 (ix2 r l) = A.dxo ⟨512 * b.val + r.val, by omega⟩ l
  h1 : ∀ (r : Fin 512) l, x1 (ix2 r l) = A.x ⟨512 * b.val + r.val, by omega⟩ l
  h2 : ∀ (r : Fin 512) l, x2 (ix2 r l) = A.y ⟨512 * b.val + r.val, by omega⟩ l
  h3 : ∀ (r : Fin 512) q, x3 (ix2 r q) = A.bcu ⟨512 * b.val + r.val, by omega⟩ q
  h4 : ∀ (r : Fin 512) l, x4 (ix2 r l) = A.cv ⟨512 * b.val + r.val, by omega⟩ l
  h50 : ∀ l, x5 (ix2 0 l) = A.g l
  h52 : ∀ l, x5 (ix2 2 l) = A.sc l
  h53 : ∀ l, x5 (ix2 3 l) = A.gate l
  h60 : ∀ l, x6 (ix2 0 l) = A.w0 l
  h61 : ∀ l, x6 (ix2 1 l) = A.w1 l
  h62 : ∀ l, x6 (ix2 2 l) = A.w2 l
  h7 : ∀ l q, x7 (ix2 l q) = A.win l q
  h8 : ∀ k l, x8 (ix2 k l) = A.wo k l

section
variable {A : Cert.Conv.Args} {b : Fin 16} {x0 x1 : Vec Ideal S512x1024 .f32} {x2 : Vec Ideal S512x1024 .bf16} {x3 : Vec Ideal S512x3072 .bf16}
  {x4 : Vec Ideal S512x1024 .bf16} {x5 x6 : Vec Ideal S8x1024 .f32} {x7 : Vec Ideal S1024x3072 .bf16} {x8 : Vec Ideal S1024x1024 .bf16}
  (H : Holds A b x0 x1 x2 x3 x4 x5 x6 x7 x8) (r : Fin 512) (l : Fin 1024) (q : Fin 3072) (e : Fin 8)
include H

theorem ptDC_ix : ptDC x0 x3 x5 x8 (ix2 r l) = A.dc ⟨512 * b.val + r.val, by omega⟩ l := by
  pointwise [ptDC, row3, k0_pay7, k0_pay13, k0_pay9, k0_pay10, H.h0, H.h3, H.h53, H.h8]
  rfl
theorem pt10_ix : k0_pay7 x0 (row3 x5) (ix2 r l) = A.dy ⟨512 * b.val + r.val, by omega⟩ l := by
  pointwise [row3, k0_pay7, H.h0, H.h53]
  rfl

theorem ptS_tail : tail8 (ptS x0 x3 x5 x8) (ix2 e l) = A.dcn (512 * b.val + e.val) l := by
  unfold ptS
  rw [tail8_ext, head8_ix, ptDC_ix H]
  unfold Cert.Conv.Args.dcn
  rw [dif_pos]

variable {tl : Vec Ideal S8x1024 .f32} (htl : ∀ (e : Fin 8) l, tl (ix2 e l) = A.dcn (512 * b.val + 512 + e.val) l)
include htl

theorem ptE_ix (n : Fin 520) : ptE x0 x3 x5 x8 tl (ix2 n l) = A.dcn (512 * b.val + n.val) l := by
  unfold ptE
  by_cases h : n.val < 512
  · rw [ext_lo _ _ _ _ h, ptDC_ix H]
    unfold Cert.Conv.Args.dcn
    rw [dif_pos]
  · rw [ext_hi _ _ _ _ h, htl]
    congr 1
    show 512 * b.val + 512 + (n.val - 512) = _
    omega
theorem sh1_ix : sh1 (ptE x0 x3 x5 x8 tl) (ix2 r l) = A.dcn (512 * b.val + r.val + 1) l := by
  pointwise [sh1]
  rw [ptE_ix H l htl]
  congr 1
  simp; omega
theorem sh2_ix : sh2 (ptE x0 x3 x5 x8 tl) (ix2 r l) = A.dcn (512 * b.val + r.val + 2) l := by
  pointwise [sh2]
  rw [ptE_ix H l htl]
  congr 1
  simp; omega
theorem ptDB_ix : ptDB x0 x3 x4 x5 x6 x8 tl (ix2 r q) = A.dbcu ⟨512 * b.val + r.val, by omega⟩ q := by
  pointwise [ptDB, row0, row1, row2, row3, k0_pay1, k0_pay2, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, ptDC_ix H, sh1_ix H _ _ htl, sh2_ix H _ _ htl, H.h0, H.h3, H.h4, H.h53, H.h8, H.h60, H.h61, H.h62]
  rfl
theorem ptDH_ix : ptDH x0 x3 x4 x5 x6 x7 x8 tl (ix2 r l) = A.dh ⟨512 * b.val + r.val, by omega⟩ l := by
  pointwise [ptDH, row0, row1, row2, row3, k0_pay1, k0_pay2, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, ptDC_ix H, sh1_ix H _ _ htl, sh2_ix H _ _ htl, H.h0, H.h3, H.h4, H.h53, H.h8, H.h60, H.h61, H.h62, H.h7]
  rfl
theorem pt9_ix : pt9 x0 x1 x3 x4 x5 x6 x7 x8 tl (ix2 r l) = A.dx ⟨512 * b.val + r.val, by omega⟩ l := by
  pointwise [pt9, row0, row2, k0_pay1, k0_pay2, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, ptDH_ix H _ _ htl, H.h0, H.h1, H.h50, H.h52]
  rw [Fin.sum_univ_one]
  rfl
theorem pt12_ix : pt12 x0 x1 x2 x3 x4 x5 x6 x7 x8 tl (ix2 e l) = ∑ r : Fin 512, A.partRow e ⟨512 * b.val + r.val, by omega⟩ l := by
  pointwise [pt12, row0, row2, k0_pay1, k0_pay2, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, ptDH_ix H _ _ htl, H.h0, H.h1, H.h2, H.h50, H.h52]
  unfold Cert.Conv.Args.partRow
  split
  · rfl
  split
  · rfl
  split
  · rfl
  split
  · rfl
  · exact (Finset.sum_const_zero (M := EReal)).symm
theorem pt13_ix : pt13 x0 x3 x5 x8 tl (ix2 e l) = ∑ r : Fin 512, A.dcwRow e ⟨512 * b.val + r.val, by omega⟩ l := by
  pointwise [pt13, k0_pay1, k0_pay2, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, ptDC_ix H, sh1_ix H _ _ htl, sh2_ix H _ _ htl, H.h3]
  unfold Cert.Conv.Args.dcwRow
  split
  · rfl
  split
  · rfl
  split
  · rfl
  · exact (Finset.sum_const_zero (M := EReal)).symm
end

end Cert.ConvBwdIdeal.Gen
-- ==== Proof.ConvHost.lean ====
/-
  The arrays the convolution layer's backward call starts from, at an index: the row functions of `ConvRows` of the
  program's arguments.
-/
module

public import proofs.«01_k».proof.Proof.Gen.ConvBwdIdeal.Value
public import proofs.«01_k».proof.Proof.ConvRows
public import Idealize.ShloMosaic.Lib.Pointwise
public import Idealize.ShloMosaic.Lib.Claim

@[expose] public section

set_option maxRecDepth 16384

noncomputable section

namespace Cert.ConvBwdIdeal.Gen

open Idealize.ShloMosaic Idealize.ShloMosaic.TcCoe Idealize.ShloMosaic.Tactic
open Idealize.SL Idealize.SL.Sem

variable (m : (ℓ : Loc nD τ sig) → Buf (Elt Ideal) ℓ) (c : Dev nD)

/-- The program's arguments as rows. -/
def args : Cert.Conv.Args where
  x R l := m ((c : Thread nD τ).loc main_arg0) (ix2 R l)
  dxo R l := m ((c : Thread nD τ).loc main_arg8) (ix2 R l)
  g l := m ((c : Thread nD τ).loc main_arg1) (ix1 l)
  sh l := m ((c : Thread nD τ).loc main_arg2) (ix1 l)
  sc l := m ((c : Thread nD τ).loc main_arg3) (ix1 l)
  gate l := m ((c : Thread nD τ).loc main_arg4) (ix1 l)
  w0 l := m ((c : Thread nD τ).loc main_arg5) (ix2 0 l)
  w1 l := m ((c : Thread nD τ).loc main_arg5) (ix2 1 l)
  w2 l := m ((c : Thread nD τ).loc main_arg5) (ix2 2 l)
  win k j := m ((c : Thread nD τ).loc main_arg6) (ix2 k j)
  wo k j := m ((c : Thread nD τ).loc main_arg7) (ix2 k j)

variable (R : Fin 8192) (l : Fin 1024) (q : Fin 3072) (e : Fin 8) (P : Fin 8194)

theorem V70_ix : V m c main_v70 (ix2 l q) = (args m c).win l q := by
  entry_read
  pointwise
  rfl
theorem V71_ix (k : Fin 1024) : V m c main_v71 (ix2 k l) = (args m c).wo k l := by
  entry_read
  pointwise
  rfl
/-! The host line in five stretches: up to the projection, up to the convolution, up to the first packed vector's rows,
up to the second's, and the rest. -/

def hA (σ : Valuation τ sig (Elt Ideal)) : Valuation τ sig (Elt Ideal) :=
  StableHlo.after (((hostOps0 (F := Ideal)).drop 0).take 26) σ
def hB (σ : Valuation τ sig (Elt Ideal)) : Valuation τ sig (Elt Ideal) :=
  StableHlo.after (((hostOps0 (F := Ideal)).drop 26).take 27) σ
def hC (σ : Valuation τ sig (Elt Ideal)) : Valuation τ sig (Elt Ideal) :=
  StableHlo.after (((hostOps0 (F := Ideal)).drop 53).take 8) σ
def hD (σ : Valuation τ sig (Elt Ideal)) : Valuation τ sig (Elt Ideal) :=
  StableHlo.after (((hostOps0 (F := Ideal)).drop 61).take 12) σ
def hE (σ : Valuation τ sig (Elt Ideal)) : Valuation τ sig (Elt Ideal) :=
  StableHlo.after (((hostOps0 (F := Ideal)).drop 73).take 6) σ

theorem V_split (b : Ref sig .tc) : V m c b = hE (hD (hC (hB (hA fun b => m (c, b))))) b := rfl

section
variable (σ : Valuation τ sig (Elt Ideal))

theorem hA_arg5 : hA σ main_arg5 = σ main_arg5 := by
  unfold hA
  simp only [hostOps0, List.take, List.drop]
  after_results
theorem hA_arg1 : hA σ main_arg1 = σ main_arg1 := by
  unfold hA
  simp only [hostOps0, List.take, List.drop]
  after_results
theorem hA_arg2 : hA σ main_arg2 = σ main_arg2 := by
  unfold hA
  simp only [hostOps0, List.take, List.drop]
  after_results
theorem hA_arg3 : hA σ main_arg3 = σ main_arg3 := by
  unfold hA
  simp only [hostOps0, List.take, List.drop]
  after_results
theorem hA_arg4 : hA σ main_arg4 = σ main_arg4 := by
  unfold hA
  simp only [hostOps0, List.take, List.drop]
  after_results
theorem hA_arg7 : hA σ main_arg7 = σ main_arg7 := by
  unfold hA
  simp only [hostOps0, List.take, List.drop]
  after_results
theorem hB_arg1 : hB σ main_arg1 = σ main_arg1 := by
  unfold hB
  simp only [hostOps0, List.take, List.drop]
  after_results
theorem hB_arg2 : hB σ main_arg2 = σ main_arg2 := by
  unfold hB
  simp only [hostOps0, List.take, List.drop]
  after_results
theorem hB_arg3 : hB σ main_arg3 = σ main_arg3 := by
  unfold hB
  simp only [hostOps0, List.take, List.drop]
  after_results
theorem hB_arg4 : hB σ main_arg4 = σ main_arg4 := by
  unfold hB
  simp only [hostOps0, List.take, List.drop]
  after_results
theorem hB_arg5 : hB σ main_arg5 = σ main_arg5 := by
  unfold hB
  simp only [hostOps0, List.take, List.drop]
  after_results
theorem hB_arg7 : hB σ main_arg7 = σ main_arg7 := by
  unfold hB
  simp only [hostOps0, List.take, List.drop]
  after_results
theorem hB_v21 : hB σ main_v21 = σ main_v21 := by
  unfold hB
  simp only [hostOps0, List.take, List.drop]
  after_results
theorem hC_arg5 : hC σ main_arg5 = σ main_arg5 := by
  unfold hC
  simp only [hostOps0, List.take, List.drop]
  after_results
theorem hC_v21 : hC σ main_v21 = σ main_v21 := by
  unfold hC
  simp only [hostOps0, List.take, List.drop]
  after_results
theorem hC_v47 : hC σ main_v47 = σ main_v47 := by
  unfold hC
  simp only [hostOps0, List.take, List.drop]
  after_results
theorem hD_v49 : hD σ main_v49 = σ main_v49 := by
  unfold hD
  simp only [hostOps0, List.take, List.drop]
  after_results
theorem hD_v21 : hD σ main_v21 = σ main_v21 := by
  unfold hD
  simp only [hostOps0, List.take, List.drop]
  after_results
theorem hD_v47 : hD σ main_v47 = σ main_v47 := by
  unfold hD
  simp only [hostOps0, List.take, List.drop]
  after_results
theorem hE_v67 : hE σ main_v67 (ix2 R l) = σ main_v49 (ix2 R l) := by
  unfold hE
  simp only [hostOps0, List.take, List.drop]
  after_results
  pointwise
theorem hE_v68 : hE σ main_v68 (ix2 R q) = σ main_v21 (ix2 R q) := by
  unfold hE
  simp only [hostOps0, List.take, List.drop]
  after_results
  pointwise
theorem hE_v69 : hE σ main_v69 (ix2 R l) = σ main_v47 (ix2 R l) := by
  unfold hE
  simp only [hostOps0, List.take, List.drop]
  after_results
  pointwise
theorem hE_v55 : hE σ main_v55 = σ main_v55 := by
  unfold hE
  simp only [hostOps0, List.take, List.drop]
  after_results
theorem hD_v55 : hD σ main_v55 = concatenate S8x1024 0 [⟨S1x1024, (σ main_v50 : (⟨S1x1024, .f32⟩ : BufTy).Contents (Elt Ideal))⟩, ⟨S1x1024, (σ main_v51 : (⟨S1x1024, .f32⟩ : BufTy).Contents (Elt Ideal))⟩, ⟨S1x1024, (σ main_v52 : (⟨S1x1024, .f32⟩ : BufTy).Contents (Elt Ideal))⟩, ⟨S1x1024, (σ main_v53 : (⟨S1x1024, .f32⟩ : BufTy).Contents (Elt Ideal))⟩, ⟨S4x1024, (σ main_v54 : (⟨S4x1024, .f32⟩ : BufTy).Contents (Elt Ideal))⟩] concatenates_S1x1024_S1x1024_S1x1024_S1x1024_S4x1024_S8x1024_d0 := by
  unfold hD
  simp only [hostOps0, List.take, List.drop]
  after_results
  rfl
theorem hE_v66 : hE σ main_v66 = concatenate S8x1024 0 [⟨S1x1024, (σ main_v62 : (⟨S1x1024, .f32⟩ : BufTy).Contents (Elt Ideal))⟩, ⟨S1x1024, (σ main_v63 : (⟨S1x1024, .f32⟩ : BufTy).Contents (Elt Ideal))⟩, ⟨S1x1024, (σ main_v64 : (⟨S1x1024, .f32⟩ : BufTy).Contents (Elt Ideal))⟩, ⟨S5x1024, (σ main_v65 : (⟨S5x1024, .f32⟩ : BufTy).Contents (Elt Ideal))⟩] concatenates_S1x1024_S1x1024_S1x1024_S5x1024_S8x1024_d0 := by
  unfold hE
  simp only [hostOps0, List.take, List.drop]
  after_results
  rfl
theorem hC_v50 (z : Fin 1) : hC σ main_v50 (ix2 z l) = σ main_arg1 (ix1 l) := by
  unfold hC
  simp only [hostOps0, List.take, List.drop]
  after_results
  pointwise
theorem hC_v51 (z : Fin 1) : hC σ main_v51 (ix2 z l) = σ main_arg2 (ix1 l) := by
  unfold hC
  simp only [hostOps0, List.take, List.drop]
  after_results
  pointwise
theorem hC_v52 (z : Fin 1) : hC σ main_v52 (ix2 z l) = σ main_arg3 (ix1 l) := by
  unfold hC
  simp only [hostOps0, List.take, List.drop]
  after_results
  pointwise
theorem hC_v53 (z : Fin 1) : hC σ main_v53 (ix2 z l) = σ main_arg4 (ix1 l) := by
  unfold hC
  simp only [hostOps0, List.take, List.drop]
  after_results
  pointwise
theorem hD_v62 (z : Fin 1) : hD σ main_v62 (ix2 z l) = σ main_arg5 (ix2 0 l) := by
  unfold hD
  simp only [hostOps0, List.take, List.drop]
  after_results
  pointwise
theorem hD_v63 (z : Fin 1) : hD σ main_v63 (ix2 z l) = σ main_arg5 (ix2 1 l) := by
  unfold hD
  simp only [hostOps0, List.take, List.drop]
  after_results
  pointwise
theorem hD_v64 (z : Fin 1) : hD σ main_v64 (ix2 z l) = σ main_arg5 (ix2 2 l) := by
  unfold hD
  simp only [hostOps0, List.take, List.drop]
  after_results
  pointwise

theorem hC_v49 (h22 : ∀ R l, σ main_v22 (ix2 R l) = (args m c).b R l) (h47 : ∀ R l, σ main_v47 (ix2 R l) = (args m c).cv R l)
    (h7 : ∀ k l, σ main_arg7 (ix2 k l) = (args m c).wo k l) : hC σ main_v49 (ix2 R l) = (args m c).y R l := by
  unfold hC
  simp only [hostOps0, List.take, List.drop]
  after_results
  pointwise [h22, h47, h7]
  rfl
theorem hB_v22 (h21 : ∀ R q, σ main_v21 (ix2 R q) = (args m c).bcu R q) : hB σ main_v22 (ix2 R l) = (args m c).b R l := by
  unfold hB
  simp only [hostOps0, List.take, List.drop]
  after_results
  pointwise [h21]
  rfl
theorem hB_v47 (h21 : ∀ R q, σ main_v21 (ix2 R q) = (args m c).bcu R q) (h0 : ∀ l, σ main_arg5 (ix2 0 l) = (args m c).w0 l)
    (h1 : ∀ l, σ main_arg5 (ix2 1 l) = (args m c).w1 l) (h2 : ∀ l, σ main_arg5 (ix2 2 l) = (args m c).w2 l) :
    hB σ main_v47 (ix2 R l) = (args m c).cv R l := by
  unfold hB
  simp only [hostOps0, List.take, List.drop]
  after_results
  pointwise [h21, h0, h1, h2]
  have hR := R.isLt
  unfold Cert.Conv.Args.cv
  congr 1
  · congr 1
    · by_cases h : R.val < 2
      · rw [dif_pos h, (args m c).vp_zero l h]
      · rw [dif_neg h]; exact congrArg _ ((args m c).vp_of l h _ rfl)
    · by_cases h : 1 + R.val < 2
      · rw [dif_pos h, (args m c).vp_zero l (by omega)]
      · rw [dif_neg h]; exact congrArg _ ((args m c).vp_of l (n := R.val + 1) (by omega) _ (by omega))
  · exact congrArg _ ((args m c).vp_of l (n := R.val + 2) (by omega) R.isLt (by omega))
end

theorem hA_v21 : hA (fun b => m (c, b)) main_v21 (ix2 R q) = (args m c).bcu R q := by
  unfold hA
  simp only [hostOps0, List.take, List.drop]
  after_results
  pointwise
  rfl

/-! The windows' arrays. -/

theorem V68_ix : V m c main_v68 (ix2 R q) = (args m c).bcu R q := by
  rw [V_split, hE_v68, hD_v21, hC_v21, hB_v21, hA_v21]
theorem V69_ix : V m c main_v69 (ix2 R l) = (args m c).cv R l := by
  rw [V_split, hE_v69, hD_v47, hC_v47]
  refine hB_v47 m c R l _ (fun R q => hA_v21 m c R q) ?_ ?_ ?_ <;> intro l <;> rw [hA_arg5] <;> rfl
theorem V67_ix : V m c main_v67 (ix2 R l) = (args m c).y R l := by
  rw [V_split, hE_v67, hD_v49]
  refine hC_v49 m c R l _ (fun R l => hB_v22 m c R l _ fun R q => hA_v21 m c R q) (fun R l => ?_) fun k l => ?_
  · refine hB_v47 m c R l _ (fun R q => hA_v21 m c R q) ?_ ?_ ?_ <;> intro l <;> rw [hA_arg5] <;> rfl
  · rw [hB_arg7, hA_arg7]; rfl
theorem V55_0 : V m c main_v55 (ix2 0 l) = (args m c).g l := by
  rw [V_split, hE_v55, hD_v55]
  pointwise
  rw [hC_v50, hB_arg1, hA_arg1]
  rfl
theorem V55_1 : V m c main_v55 (ix2 1 l) = (args m c).sh l := by
  rw [V_split, hE_v55, hD_v55]
  pointwise
  rw [hC_v51, hB_arg2, hA_arg2]
  rfl
theorem V55_2 : V m c main_v55 (ix2 2 l) = (args m c).sc l := by
  rw [V_split, hE_v55, hD_v55]
  pointwise
  rw [hC_v52, hB_arg3, hA_arg3]
  rfl
theorem V55_3 : V m c main_v55 (ix2 3 l) = (args m c).gate l := by
  rw [V_split, hE_v55, hD_v55]
  pointwise
  rw [hC_v53, hB_arg4, hA_arg4]
  rfl
theorem V66_0 : V m c main_v66 (ix2 0 l) = (args m c).w0 l := by
  rw [V_split, hE_v66]
  pointwise
  rw [hD_v62, hC_arg5, hB_arg5, hA_arg5]
  rfl
theorem V66_1 : V m c main_v66 (ix2 1 l) = (args m c).w1 l := by
  rw [V_split, hE_v66]
  pointwise
  rw [hD_v63, hC_arg5, hB_arg5, hA_arg5]
  rfl
theorem V66_2 : V m c main_v66 (ix2 2 l) = (args m c).w2 l := by
  rw [V_split, hE_v66]
  pointwise
  rw [hD_v64, hC_arg5, hB_arg5, hA_arg5]
  rfl

end Cert.ConvBwdIdeal.Gen
-- ==== Proof.ConvValue.lean ====
/-
  What the kernel of `ConvBwd` leaves in its five result arrays on the ideal instance, as the row functions of `ConvRows`.
-/
module

public import proofs.«01_k».proof.Proof.ConvPointIx
public import proofs.«01_k».proof.Proof.ConvHost
public import proofs.«01_k».proof.Proof.Gen.ConvBwdIdeal.Value
public import Idealize.ShloMosaic.Lib.Pipeline.ValueKit

@[expose] public section

set_option maxRecDepth 16384

noncomputable section

namespace Cert.ConvBwdIdeal.Gen

open Idealize.ShloMosaic Idealize.ShloMosaic.TcCoe Idealize.ShloMosaic.Tactic
open Idealize.SL Idealize.SL.Sem

/-- The tile of rows the point works on: the grid goes from the last rows to the first. -/
def tile (t : Fin cfg0.N) : Fin 16 := ⟨15 - t.val, by omega⟩

theorem idx : ∀ t : Fin cfg0.N, win0_0.index t = ![15 - t.val, 0] ∧
    win0_1.index t = ![15 - t.val, 0] ∧
    win0_2.index t = ![15 - t.val, 0] ∧
    win0_3.index t = ![15 - t.val, 0] ∧
    win0_4.index t = ![15 - t.val, 0] ∧
    win0_5.index t = ![0, 0] ∧
    win0_6.index t = ![0, 0] ∧
    win0_7.index t = ![0, 0] ∧
    win0_8.index t = ![0, 0] ∧
    win0_9.index t = ![15 - t.val, 0] ∧
    win0_10.index t = ![15 - t.val, 0] ∧
    win0_11.index t = ![15 - t.val, 0] :=
  (by decide +kernel : ∀ t : Fin grid0.N, _)

section
variable (m : (ℓ : Loc nD τ sig) → Buf (Elt Ideal) ℓ) (c : Dev nD) (t : Fin cfg0.N) (r : Fin 512) (l : Fin 1024) (q : Fin 3072) (e : Fin 8)

theorem blk0 : iblk m c 0 t (ix2 r l) = V m c main_arg8 (ix2 ⟨512 * (tile t).val + r.val, by omega⟩ l) := by
  blk_ext [iblk, tile, idx t]
theorem blk1 : iblk m c 1 t (ix2 r l) = V m c main_arg0 (ix2 ⟨512 * (tile t).val + r.val, by omega⟩ l) := by
  blk_ext [iblk, tile, idx t]
theorem blk2 : iblk m c 2 t (ix2 r l) = V m c main_v67 (ix2 ⟨512 * (tile t).val + r.val, by omega⟩ l) := by
  blk_ext [iblk, tile, idx t]
theorem blk3 : iblk m c 3 t (ix2 r q) = V m c main_v68 (ix2 ⟨512 * (tile t).val + r.val, by omega⟩ q) := by
  blk_ext [iblk, tile, idx t]
theorem blk4 : iblk m c 4 t (ix2 r l) = V m c main_v69 (ix2 ⟨512 * (tile t).val + r.val, by omega⟩ l) := by
  blk_ext [iblk, tile, idx t]
theorem blk5 : iblk m c 5 t (ix2 e l) = V m c main_v55 (ix2 e l) := by
  blk_ext [iblk, idx t]
theorem blk6 : iblk m c 6 t (ix2 e l) = V m c main_v66 (ix2 e l) := by
  blk_ext [iblk, idx t]
theorem blk7 : iblk m c 7 t (ix2 l q) = V m c main_v70 (ix2 l q) := by
  blk_ext [iblk, idx t]
theorem blk8 (k : Fin 1024) : iblk m c 8 t (ix2 k l) = V m c main_v71 (ix2 k l) := by
  blk_ext [iblk, idx t]

theorem holds : Holds (args m c) (tile t) (iblk m c 0 t) (iblk m c 1 t) (iblk m c 2 t) (iblk m c 3 t) (iblk m c 4 t) (iblk m c 5 t) (iblk m c 6 t)
    (iblk m c 7 t) (iblk m c 8 t) where
  h0 r l := (blk0 m c t r l).trans (congrFun (V_main_arg8 m c) _)
  h1 r l := (blk1 m c t r l).trans (congrFun (V_main_arg0 m c) _)
  h2 r l := (blk2 m c t r l).trans (V67_ix m c _ l)
  h3 r q := (blk3 m c t r q).trans (V68_ix m c _ q)
  h4 r l := (blk4 m c t r l).trans (V69_ix m c _ l)
  h50 l := (blk5 m c t l 0).trans (V55_0 m c l)
  h52 l := (blk5 m c t l 2).trans (V55_2 m c l)
  h53 l := (blk5 m c t l 3).trans (V55_3 m c l)
  h60 l := (blk6 m c t l 0).trans (V66_0 m c l)
  h61 l := (blk6 m c t l 1).trans (V66_1 m c l)
  h62 l := (blk6 m c t l 2).trans (V66_2 m c l)
  h7 l q := (blk7 m c t l q).trans (V70_ix m c l q)
  h8 k l := (blk8 m c t l k).trans (V71_ix m c l k)

theorem outs_first (h : t.val = 0) : outsAt0 m c t.val t.isLt =
    (pt9 (iblk m c 0 t) (iblk m c 1 t) (iblk m c 3 t) (iblk m c 4 t) (iblk m c 5 t) (iblk m c 6 t) (iblk m c 7 t) (iblk m c 8 t) (k0_pay6 (F := Ideal)), k0_pay7 (iblk m c 0 t) (row3 (iblk m c 5 t)), ptDB (iblk m c 0 t) (iblk m c 3 t) (iblk m c 4 t) (iblk m c 5 t) (iblk m c 6 t) (iblk m c 8 t) (k0_pay6 (F := Ideal)),
      pt12 (iblk m c 0 t) (iblk m c 1 t) (iblk m c 2 t) (iblk m c 3 t) (iblk m c 4 t) (iblk m c 5 t) (iblk m c 6 t) (iblk m c 7 t) (iblk m c 8 t) (k0_pay6 (F := Ideal)), pt13 (iblk m c 0 t) (iblk m c 3 t) (iblk m c 5 t) (iblk m c 8 t) (k0_pay6 (F := Ideal)), ptS (iblk m c 0 t) (iblk m c 3 t) (iblk m c 5 t) (iblk m c 8 t)) := by
  rw [outsAt0_A m c t (by omega) (by omega) (by omega) (by omega) (by omega)]
  rw [out0_A_9_eq, out0_A_10_eq, out0_A_11_eq, out0_A_12_eq, out0_A_13_eq, sout0_A_0_eq]

theorem outs_next (h : ¬t.val = 0) : outsAt0 m c t.val t.isLt =
    (pt9 (iblk m c 0 t) (iblk m c 1 t) (iblk m c 3 t) (iblk m c 4 t) (iblk m c 5 t) (iblk m c 6 t) (iblk m c 7 t) (iblk m c 8 t) (tail8 (outsAt0 m c (t.val - 1) (Nat.lt_of_le_of_lt (Nat.sub_le _ _) t.isLt)).2.2.2.2.2), k0_pay7 (iblk m c 0 t) (row3 (iblk m c 5 t)), ptDB (iblk m c 0 t) (iblk m c 3 t) (iblk m c 4 t) (iblk m c 5 t) (iblk m c 6 t) (iblk m c 8 t) (tail8 (outsAt0 m c (t.val - 1) (Nat.lt_of_le_of_lt (Nat.sub_le _ _) t.isLt)).2.2.2.2.2),
      addf (outsAt0 m c (t.val - 1) (Nat.lt_of_le_of_lt (Nat.sub_le _ _) t.isLt)).2.2.2.1 (pt12 (iblk m c 0 t) (iblk m c 1 t) (iblk m c 2 t) (iblk m c 3 t) (iblk m c 4 t) (iblk m c 5 t) (iblk m c 6 t) (iblk m c 7 t) (iblk m c 8 t) (tail8 (outsAt0 m c (t.val - 1) (Nat.lt_of_le_of_lt (Nat.sub_le _ _) t.isLt)).2.2.2.2.2)), addf (outsAt0 m c (t.val - 1) (Nat.lt_of_le_of_lt (Nat.sub_le _ _) t.isLt)).2.2.2.2.1 (pt13 (iblk m c 0 t) (iblk m c 3 t) (iblk m c 5 t) (iblk m c 8 t) (tail8 (outsAt0 m c (t.val - 1) (Nat.lt_of_le_of_lt (Nat.sub_le _ _) t.isLt)).2.2.2.2.2)), ptS (iblk m c 0 t) (iblk m c 3 t) (iblk m c 5 t) (iblk m c 8 t)) := by
  have hN : t.val < 16 := lt_of_lt_of_eq t.isLt N_0
  rw [outsAt0_B m c t (by omega) (by omega) (by omega) (by omega) (by omega)]
  rw [out0_B_9_eq, out0_B_10_eq, out0_B_11_eq, out0_B_12_eq, out0_B_13_eq, sout0_B_0_eq]

theorem outs_tail : tail8 (outsAt0 m c t.val t.isLt).2.2.2.2.2 (ix2 e l) = (args m c).dcn (512 * (tile t).val + e.val) l := by
  by_cases h : t.val = 0
  · rw [outs_first m c t h]
    exact ptS_tail (holds m c t) l e
  · rw [outs_next m c t h]
    exact ptS_tail (holds m c t) l e

/-- The rows carried over into a point: none at the last tile, the first rows of the tile after it elsewhere. -/
def carry (t : Fin cfg0.N) : Vec Ideal S8x1024 .f32 :=
  if t.val = 0 then k0_pay6 (F := Ideal) else tail8 (outsAt0 m c (t.val - 1) (Nat.lt_of_le_of_lt (Nat.sub_le _ _) t.isLt)).2.2.2.2.2

theorem carry_ix : carry m c t (ix2 e l) = (args m c).dcn (512 * (tile t).val + 512 + e.val) l := by
  have hN : t.val < 16 := lt_of_lt_of_eq t.isLt N_0
  unfold carry
  by_cases h : t.val = 0
  · rw [if_pos h]
    unfold Cert.Conv.Args.dcn
    rw [dif_neg (by simp only [tile]; omega)]
    pointwise [k0_pay6]
  · rw [if_neg h]
    refine (outs_tail m c ⟨t.val - 1, Nat.lt_of_le_of_lt (Nat.sub_le _ _) t.isLt⟩ l e).trans (congrArg (fun n => (args m c).dcn n l) ?_)
    simp only [tile]
    omega

theorem outs9_ix : (outsAt0 m c t.val t.isLt).1 (ix2 r l) = (args m c).dx ⟨512 * (tile t).val + r.val, by omega⟩ l := by
  refine Eq.trans ?_ (pt9_ix (holds m c t) r l (fun e l => carry_ix m c t l e))
  unfold carry
  by_cases h : t.val = 0
  · rw [outs_first m c t h, if_pos h]
  · rw [outs_next m c t h, if_neg h]

theorem outs10_ix : (outsAt0 m c t.val t.isLt).2.1 (ix2 r l) = (args m c).dy ⟨512 * (tile t).val + r.val, by omega⟩ l := by
  refine Eq.trans ?_ (pt10_ix (holds m c t) r l)
  by_cases h : t.val = 0
  · rw [outs_first m c t h]
  · rw [outs_next m c t h]

theorem outs11_ix : (outsAt0 m c t.val t.isLt).2.2.1 (ix2 r q) = (args m c).dbcu ⟨512 * (tile t).val + r.val, by omega⟩ q := by
  refine Eq.trans ?_ (ptDB_ix (holds m c t) r q (fun e l => carry_ix m c t l e))
  unfold carry
  by_cases h : t.val = 0
  · rw [outs_first m c t h, if_pos h]
  · rw [outs_next m c t h, if_neg h]

theorem outs12_first (h : t.val % 16 = 0) : (outsAt0 m c t.val t.isLt).2.2.2.1 (ix2 e l) = 0 + ∑ r : Fin 512, (args m c).partRow e ⟨512 * (tile t).val + r.val, by omega⟩ l := by
  have hN : t.val < 16 := lt_of_lt_of_eq t.isLt N_0
  have h' : t.val = 0 := by omega
  rw [zero_add (M := EReal), ← pt12_ix (holds m c t) l e (fun e l => carry_ix m c t l e), outs_first m c t h']
  unfold carry
  rw [if_pos h']
theorem outs12_next (h : ¬t.val % 16 = 0) : (outsAt0 m c t.val t.isLt).2.2.2.1 (ix2 e l) =
    (outsAt0 m c (t.val - 1) (Nat.lt_of_le_of_lt (Nat.sub_le _ _) t.isLt)).2.2.2.1 (ix2 e l) + ∑ r : Fin 512, (args m c).partRow e ⟨512 * (tile t).val + r.val, by omega⟩ l := by
  have hN : t.val < 16 := lt_of_lt_of_eq t.isLt N_0
  have h' : ¬t.val = 0 := by omega
  rw [← pt12_ix (holds m c t) l e (fun e l => carry_ix m c t l e), outs_next m c t h']
  unfold carry
  rw [if_neg h']
  rfl
theorem outs13_first (h : t.val % 16 = 0) : (outsAt0 m c t.val t.isLt).2.2.2.2.1 (ix2 e l) = 0 + ∑ r : Fin 512, (args m c).dcwRow e ⟨512 * (tile t).val + r.val, by omega⟩ l := by
  have hN : t.val < 16 := lt_of_lt_of_eq t.isLt N_0
  have h' : t.val = 0 := by omega
  rw [zero_add (M := EReal), ← pt13_ix (holds m c t) l e (fun e l => carry_ix m c t l e), outs_first m c t h']
  unfold carry
  rw [if_pos h']
theorem outs13_next (h : ¬t.val % 16 = 0) : (outsAt0 m c t.val t.isLt).2.2.2.2.1 (ix2 e l) =
    (outsAt0 m c (t.val - 1) (Nat.lt_of_le_of_lt (Nat.sub_le _ _) t.isLt)).2.2.2.2.1 (ix2 e l) + ∑ r : Fin 512, (args m c).dcwRow e ⟨512 * (tile t).val + r.val, by omega⟩ l := by
  have hN : t.val < 16 := lt_of_lt_of_eq t.isLt N_0
  have h' : ¬t.val = 0 := by omega
  rw [← pt13_ix (holds m c t) l e (fun e l => carry_ix m c t l e), outs_next m c t h']
  unfold carry
  rw [if_neg h']
  rfl

/-- The points' tiles run over all rows. -/
theorem sum_tiles (f : Fin 8192 → EReal) : ∑ t : Fin cfg0.N, ∑ r : Fin 512, f ⟨512 * (tile t).val + r.val, by omega⟩ = ∑ R : Fin 8192, f R := by
  refine Eq.trans ?_ (Fin.sum_mul_add_fin 16 512 f rfl)
  refine Eq.trans (b := ∑ t : Fin 16, ∑ r : Fin 512, f ⟨512 * (15 - t.val) + r.val, by omega⟩) rfl ?_
  rw [← Equiv.sum_comp Fin.revPerm]
  refine Finset.sum_congr rfl fun t _ => Finset.sum_congr rfl fun r _ => congrArg f (Fin.ext ?_)
  simp only [Fin.revPerm_apply, Fin.val_rev]
  omega

theorem outs12_last (h : t.val + 1 = cfg0.N) : (outsAt0 m c t.val t.isLt).2.2.2.1 (ix2 e l) = (args m c).part e l := by
  refine (Pipeline.eq_sum_fin_of_reset_step_apply_last (M := EReal) (fun n h (i : Fin 8 × Fin 1024) => (outsAt0 m c n h).2.2.2.1 (ix2 i.1 i.2)) 16 (fun _ => 0)
    (fun t i => ∑ r : Fin 512, (args m c).partRow i.1 ⟨512 * (tile t).val + r.val, by omega⟩ i.2)
    (fun t h i => outs12_first m c t i.2 i.1 h) (fun t h i => outs12_next m c t i.2 i.1 h) N_0.le t h (e, l)).trans ?_
  rw [zero_add (M := EReal)]
  exact sum_tiles fun R => (args m c).partRow e R l

theorem outs13_last (h : t.val + 1 = cfg0.N) : (outsAt0 m c t.val t.isLt).2.2.2.2.1 (ix2 e l) = (args m c).dcw e l := by
  refine (Pipeline.eq_sum_fin_of_reset_step_apply_last (M := EReal) (fun n h (i : Fin 8 × Fin 1024) => (outsAt0 m c n h).2.2.2.2.1 (ix2 i.1 i.2)) 16 (fun _ => 0)
    (fun t i => ∑ r : Fin 512, (args m c).dcwRow i.1 ⟨512 * (tile t).val + r.val, by omega⟩ i.2)
    (fun t h i => outs13_first m c t i.2 i.1 h) (fun t h i => outs13_next m c t i.2 i.1 h) N_0.le t h (e, l)).trans ?_
  rw [zero_add (M := EReal)]
  exact sum_tiles fun R => (args m c).dcwRow e R l

theorem arr9 : (dats m 0 c).arrAt 9 cfg0.N = fun i => (args m c).dx (i 0) (i 1) := by
  refine (dats m 0 c).arrAt_eq_of_covers 9 _ (by decide +kernel) fun t hf y => ?_
  blk_simp
  rw [after0_9]
  refine (congrArg _ (eq_ix2 _)).trans ((outs9_ix m c t _ _).trans ?_)
  exact congrArg (fun i : (⟨2, ![8192, 1024]⟩ : Shape).Idx => (args m c).dx (i 0) (i 1)) (a₁ := ix2 _ _) (by blk_ext [tile, idx t])
theorem arr10 : (dats m 0 c).arrAt 10 cfg0.N = fun i => (args m c).dy (i 0) (i 1) := by
  refine (dats m 0 c).arrAt_eq_of_covers 10 _ (by decide +kernel) fun t hf y => ?_
  blk_simp
  rw [after0_10]
  refine (congrArg _ (eq_ix2 _)).trans ((outs10_ix m c t _ _).trans ?_)
  exact congrArg (fun i : (⟨2, ![8192, 1024]⟩ : Shape).Idx => (args m c).dy (i 0) (i 1)) (a₁ := ix2 _ _) (by blk_ext [tile, idx t])
theorem arr11 : (dats m 0 c).arrAt 11 cfg0.N = fun i => (args m c).dbcu (i 0) (i 1) := by
  refine (dats m 0 c).arrAt_eq_of_covers 11 _ (by decide +kernel) fun t hf y => ?_
  blk_simp
  rw [after0_11]
  refine (congrArg _ (eq_ix2 _)).trans ((outs11_ix m c t _ _).trans ?_)
  exact congrArg (fun i : (⟨2, ![8192, 3072]⟩ : Shape).Idx => (args m c).dbcu (i 0) (i 1)) (a₁ := ix2 _ _) (by blk_ext [tile, idx t])

theorem arr12 : (dats m 0 c).arrAt 12 cfg0.N = fun i => (args m c).part (i 0) (i 1) := by
  refine (dats m 0 c).arrAt_eq_of_after_last 12 ⟨15, by decide⟩ (by decide +kernel) _ fun j => ?_
  refine (congrFun (after0_12 m c _) _).trans ((congrArg _ (eq_ix2 _)).trans ((outs12_last m c ⟨15, by decide⟩ _ _ rfl).trans ?_))
  blk_simp
  rfl
theorem arr13 : (dats m 0 c).arrAt 13 cfg0.N = fun i => (args m c).dcw (i 0) (i 1) := by
  refine (dats m 0 c).arrAt_eq_of_after_last 13 ⟨15, by decide⟩ (by decide +kernel) _ fun j => ?_
  refine (congrFun (after0_13 m c _) _).trans ((congrArg _ (eq_ix2 _)).trans ((outs13_last m c ⟨15, by decide⟩ _ _ rfl).trans ?_))
  blk_simp
  rfl

end
end Cert.ConvBwdIdeal.Gen
-- ==== Proof.ConvRefValue.lean ====
/-
  The convolution reference's results at an index: the row functions of `ConvRows` of its arguments.
-/
module

public import proofs.«01_k».proof.Proof.Gen.ConvRefIdeal.Run
public import proofs.«01_k».proof.Proof.ConvRows
public import Idealize.ShloMosaic.Lib.Pointwise

@[expose] public section

set_option maxRecDepth 16384

noncomputable section

namespace Cert.ConvRefIdeal.Value

open Cert.ConvRefIdeal Cert.ConvRefIdeal.Gen Idealize.ShloMosaic Idealize.ShloMosaic.TcCoe Idealize.ShloMosaic.Tactic Idealize.SL.Sem

variable (V0 : Valuation τ sig (Elt Ideal))

/-- The reference's arguments as rows. -/
def args : Cert.Conv.Args where
  x R l := V0 (Proc.devRef .tc main_arg0) (ix2 R l)
  dxo R l := V0 (Proc.devRef .tc main_arg8) (ix2 R l)
  g l := V0 (Proc.devRef .tc main_arg1) (ix1 l)
  sh l := V0 (Proc.devRef .tc main_arg2) (ix1 l)
  sc l := V0 (Proc.devRef .tc main_arg3) (ix1 l)
  gate l := V0 (Proc.devRef .tc main_arg4) (ix1 l)
  w0 l := V0 (Proc.devRef .tc main_arg5) (ix2 0 l)
  w1 l := V0 (Proc.devRef .tc main_arg5) (ix2 1 l)
  w2 l := V0 (Proc.devRef .tc main_arg5) (ix2 2 l)
  win k j := V0 (Proc.devRef .tc main_arg6) (ix2 k j)
  wo k j := V0 (Proc.devRef .tc main_arg7) (ix2 k j)

variable (R : Fin 8192) (l : Fin 1024) (q : Fin 3072) (e : Fin 8) (P : Fin 8194)

theorem v8_ix (z : Fin 1) : res_main_v8 V0 (ix2 R z) = Cert.Conv.ms ((args V0).x R) := by
  pointwise [res_main_v8]
  rfl
theorem v9_ix (z : Fin 1) : res_main_v9 V0 (ix2 R z) = Cert.Conv.rs ((args V0).x R) := by
  pointwise [res_main_v9, v8_ix]
  rfl
theorem v14_ix : res_main_v14 V0 (ix2 R l) = (args V0).x R l * Cert.Conv.rs ((args V0).x R) := by
  pointwise [res_main_v14, v9_ix]
  rfl
theorem v15_ix (z : Fin 1) : res_main_v15 V0 (ix2 z l) = (args V0).g l := by
  pointwise [res_main_v15]
  rfl
theorem v17_ix : res_main_v17 V0 (ix2 R l) = (args V0).x R l * Cert.Conv.rs ((args V0).x R) * (args V0).g l := by
  pointwise [res_main_v17, v14_ix, v15_ix]
theorem v20_ix (z : Fin 1) : res_main_v20 V0 (ix2 z l) = 1 + (args V0).sc l := by
  pointwise [res_main_v20]
  rfl
theorem v25_ix : res_main_v25 V0 (ix2 R l) = (args V0).h R l := by
  pointwise [res_main_v25, v17_ix, v20_ix]
  rfl
theorem v27_ix : res_main_v27 V0 (ix2 R q) = (args V0).bcu R q := by
  pointwise [res_main_v27, v25_ix]
  rfl
theorem v28_ix : res_main_v28 V0 (ix2 R l) = (args V0).b R l := by
  pointwise [res_main_v28, v27_ix]
  rfl
theorem v29_ix : res_main_v29 V0 (ix2 R l) = (args V0).c R l := by
  pointwise [res_main_v29, v27_ix]
  rfl
theorem v30_ix : res_main_v30 V0 (ix2 R l) = (args V0).u R l := by
  pointwise [res_main_v30, v27_ix]
  rfl
theorem v33_ix : res_main_v33 V0 (ix2 P l) = (args V0).vp P.val l := by
  pointwise [res_main_v33, v29_ix, v30_ix]
  unfold Cert.Conv.Args.vp
  split
  · rfl
  · rw [dif_pos]
theorem v37_ix : res_main_v37 V0 (ix2 R l) = (args V0).vp R.val l := by
  pointwise [res_main_v37, v33_ix]
theorem v43_ix : res_main_v43 V0 (ix2 R l) = (args V0).vp (R.val + 1) l := by
  pointwise [res_main_v43, v33_ix]
  rw [add_comm]
theorem v50_ix : res_main_v50 V0 (ix2 R l) = (args V0).vp (R.val + 2) l := by
  pointwise [res_main_v50, v33_ix]
  rw [add_comm]
theorem v38_ix (z : Fin 1) : res_main_v38 V0 (ix2 z l) = (args V0).w0 l := by
  pointwise [res_main_v38]
  rfl
theorem v44_ix (z : Fin 1) : res_main_v44 V0 (ix2 z l) = (args V0).w1 l := by
  pointwise [res_main_v44]
  rfl
theorem v51_ix (z : Fin 1) : res_main_v51 V0 (ix2 z l) = (args V0).w2 l := by
  pointwise [res_main_v51]
  rfl
theorem v54_ix : res_main_v54 V0 (ix2 R l) = (args V0).cv R l := by
  pointwise [res_main_v54, v37_ix, v43_ix, v50_ix, v38_ix, v44_ix, v51_ix]
  rfl
theorem v55_ix : res_main_v55 V0 (ix2 R l) = (args V0).b R l * (args V0).cv R l := by
  pointwise [res_main_v55, v28_ix, v54_ix]
theorem v57_ix : res_main_v57 V0 (ix2 R l) = (args V0).y R l := by
  pointwise [res_main_v57, v55_ix]
  rfl
theorem v64_ix : res_main_v64 V0 (ix2 R l) = (args V0).dxo R l := by
  pointwise [res_main_v64]
  rfl
theorem v66_ix : res_main_v66 V0 (ix2 R l) = (args V0).dy R l := by
  pointwise [res_main_v66, v64_ix, res_main_v60]
  exact mul_comm (G := EReal) _ _
theorem v73_ix : res_main_v73 V0 (ix2 R l) = (args V0).dz R l := by
  pointwise [res_main_v73, v66_ix]
  rfl
theorem v74_ix : res_main_v74 V0 (ix2 R l) = (args V0).dc R l := by
  pointwise [res_main_v74, v28_ix, v73_ix]
  exact mul_comm (G := EReal) _ _
theorem v108_ix : res_main_v108 V0 (ix2 R l) = (args V0).dv R l := by
  pointwise [res_main_v108, res_main_v103, v51_ix, v44_ix, v38_ix, v74_ix]
  unfold Cert.Conv.Args.dv Cert.Conv.Args.dcn
  congr 1
  · congr 1
    by_cases h : R.val + 1 < 8192
    · rw [dif_pos (by omega), dif_pos h]; congr 2; apply Fin.ext; show 2 + R.val - 1 = R.val + 1; omega
    · rw [dif_neg (by omega), dif_neg h, mul_zero]
  · by_cases h : R.val + 2 < 8192
    · rw [dif_pos (by omega), dif_pos h]; congr 2; apply Fin.ext; show 2 + R.val = R.val + 2; omega
    · rw [dif_neg (by omega), dif_neg h, mul_zero]
theorem v111_ix : res_main_v111 V0 (ix2 R q) = (args V0).dbcu R q := by
  pointwise [res_main_v111, v73_ix, v54_ix, v108_ix, v30_ix, v29_ix]
  unfold Cert.Conv.Args.dbcu
  refine dite_congr rfl (fun _ => rfl) fun _ => dite_congr rfl (fun _ => rfl) fun _ => mul_comm (G := EReal) _ _
theorem v114_ix : res_main_v114 V0 (ix2 R l) = (args V0).dh R l := by
  pointwise [res_main_v114, v111_ix]
  rfl
theorem v122_ix : res_main_v122 V0 (ix2 R l) = (args V0).dh R l * (1 + (args V0).sc l) := by
  pointwise [res_main_v122, v114_ix, v20_ix]
theorem v128_ix : res_main_v128 V0 (ix2 R l) = (args V0).du R l := by
  pointwise [res_main_v128, v122_ix, v15_ix]
  rfl
theorem v140_ix : res_main_v140 V0 (ix2 R l) = Cert.Conv.cc ((args V0).x R) ((args V0).du R) := by
  pointwise [res_main_v140, v128_ix, v9_ix, v8_ix]
  rw [Fin.sum_univ_one]
  rfl
theorem v144_ix : val4 V0 (Proc.devRef .tc main_v144) (ix2 R l) = (args V0).dx R l := by
  rw [val4_main_v144]
  pointwise [v128_ix, v9_ix, v140_ix]
  unfold Cert.Conv.Args.dx
  rw [add_assoc (G := EReal), add_assoc (G := EReal), add_assoc (G := EReal)]
  rfl
theorem v153_ix : val4 V0 (Proc.devRef .tc main_v153) (ix2 R l) = (args V0).dy R l := by
  rw [val4_main_v153]
  pointwise [v66_ix]
theorem v154_ix : val4 V0 (Proc.devRef .tc main_v154) (ix2 R q) = (args V0).dbcu R q := by
  rw [val4_main_v154]
  pointwise [v111_ix]
theorem v150_ix : val4 V0 (Proc.devRef .tc main_v150) (ix2 e l) = (args V0).part e l := by
  rw [val4_main_v150]
  pointwise [v14_ix, v122_ix, v114_ix, v17_ix, v64_ix, v57_ix]
  simp only [Fin.sum_univ_one]
  unfold Cert.Conv.Args.part Cert.Conv.Args.partRow
  split
  · rfl
  split
  · rfl
  split
  · rfl
  split
  · rfl
  · exact (Finset.sum_const_zero (M := EReal)).symm
theorem v152_ix : val4 V0 (Proc.devRef .tc main_v152) (ix2 e l) = (args V0).dcw e l := by
  rw [val4_main_v152]
  pointwise [v74_ix, v50_ix, v43_ix, v37_ix]
  simp only [Fin.sum_univ_one]
  unfold Cert.Conv.Args.dcw Cert.Conv.Args.dcwRow
  have hs := fun (s : ℕ) (hs : s ≤ 2) => Cert.Conv.Args.sum_shift (fun R => (args V0).dc R l) (fun R => (args V0).c R l * (args V0).u R l) s hs
  have h8 := e.isLt
  by_cases h0 : e.val < 1
  · rw [dif_pos (by omega), dif_neg (by omega), dif_neg (by omega), dif_pos h0, zero_add, zero_add]
    simp only [if_pos h0]
    exact (hs 2 (by omega)).symm
  by_cases h1 : e.val - 1 < 1
  · rw [dif_pos (by omega), dif_neg (by omega), dif_pos (by omega), dif_neg (by omega), zero_add, add_zero]
    simp only [if_neg h0, if_pos h1]
    exact (hs 1 (by omega)).symm
  by_cases h2 : e.val - 1 - 1 < 1
  · rw [dif_pos (by omega), dif_pos (by omega), dif_neg (by omega), dif_neg (by omega), add_zero, add_zero]
    simp only [if_neg h0, if_neg h1, if_pos h2]
    refine Eq.trans ?_ ((hs 0 (by omega)).symm.trans ?_)
    · rfl
    · refine Finset.sum_congr rfl fun R _ => ?_
      rw [dif_pos (by have := R.isLt; omega)]
      rfl
  · rw [dif_neg (by omega)]
    simp only [if_neg h0, if_neg h1, if_neg h2]
    exact (Finset.sum_const_zero (M := EReal)).symm

end Cert.ConvRefIdeal.Value
-- ==== Proof.ConvClaim.lean ====
/-
  The claims about the gated convolution's backward call: the reference's frame, and that kernel and reference compute the
  same five arrays over the extended reals.
-/
module

public import proofs.«01_k».proof.Defs
public import proofs.«01_k».proof.Proof.ConvValue
public import proofs.«01_k».proof.Proof.ConvRefValue
public import Idealize.ShloMosaic.Lib.Quiescent

@[expose] public section

set_option maxRecDepth 16384

noncomputable section

namespace Cert.Proof.Conv

open Idealize.ShloMosaic Idealize.SL.Sem Idealize.ShloMosaic.TcCoe
open Cert.ConvRefIdeal.Value (val4_main_v144 val4_main_v150 val4_main_v152 val4_main_v153 val4_main_v154)

local instance : Cert.ConvBwdIdeal.Facts := Cert.ConvBwdIdeal.Gen.facts
local instance : Cert.ConvRefIdeal.Facts := Cert.ConvRefIdeal.Gen.facts

/-- The reference ends with its arguments unchanged, and it has no semaphores. -/
theorem frame_ref : Cert.quiescent_ConvRefIdeal := fun m ρ _ =>
  (θ_run Cert.ConvRefIdeal.defs _ _).mono (fun r h => ⟨fun c => (h c).2.2.2.2.2, sem_eq_zero_of_no_sems (by decide) r.2⟩)
    (Cert.ConvRefIdeal.Value.run (F := Ideal) m ρ)

theorem algebraic : Cert.algebraic_ConvBwdIdeal_ConvRefIdeal := by
  intro m ρ m' ρ' _ hag
  have hA : ∀ c, Cert.ConvRefIdeal.Value.args (StableHlo.launchContents m' c) = Cert.ConvBwdIdeal.Gen.args m c := fun c => by
    obtain ⟨h0, h1, h2, h3, h4, h5, h6, h7, h8⟩ := hag c
    unfold Cert.ConvRefIdeal.Value.args Cert.ConvBwdIdeal.Gen.args
    rw [← h0, ← h1, ← h2, ← h3, ← h4, ← h5, ← h6, ← h7, ← h8]
  refine ⟨fun c => fun i => (Cert.ConvBwdIdeal.Gen.args m c).dx (i 0) (i 1), fun c => fun i => (Cert.ConvBwdIdeal.Gen.args m c).dy (i 0) (i 1),
    fun c => fun i => (Cert.ConvBwdIdeal.Gen.args m c).dbcu (i 0) (i 1), fun c => fun i => (Cert.ConvBwdIdeal.Gen.args m c).part (i 0) (i 1),
    fun c => fun i => (Cert.ConvBwdIdeal.Gen.args m c).dcw (i 0) (i 1), ?_, ?_⟩
  · refine (θ_run Cert.ConvBwdIdeal.defs _ _).mono (fun r h c => ?_) (Cert.ConvBwdIdeal.Value.run_blocks (F := Ideal) m ρ)
    obtain ⟨h9, h10, h11, h12, h13, hk⟩ := h c
    exact ⟨h9.trans (Cert.ConvBwdIdeal.Gen.arr9 m c), h10.trans (Cert.ConvBwdIdeal.Gen.arr10 m c), h11.trans (Cert.ConvBwdIdeal.Gen.arr11 m c),
      h12.trans (Cert.ConvBwdIdeal.Gen.arr12 m c), h13.trans (Cert.ConvBwdIdeal.Gen.arr13 m c), hk⟩
  · refine (θ_run Cert.ConvRefIdeal.defs _ _).mono (fun r h c => ?_) (Cert.ConvRefIdeal.Value.run (F := Ideal) m' ρ')
    obtain ⟨h0, h1, h2, h3, h4, hk⟩ := h c
    refine ⟨(h0.trans (val4_main_v144 _).symm).trans (funext fun i => ?_), (h1.trans (val4_main_v153 _).symm).trans (funext fun i => ?_),
      (h2.trans (val4_main_v154 _).symm).trans (funext fun i => ?_), (h3.trans (val4_main_v150 _).symm).trans (funext fun i => ?_),
      (h4.trans (val4_main_v152 _).symm).trans (funext fun i => ?_), hk⟩
    · exact (congrArg _ (ValueIdx.eq_ix2 i)).trans ((Cert.ConvRefIdeal.Value.v144_ix _ _ _).trans (by rw [hA]))
    · exact (congrArg _ (ValueIdx.eq_ix2 i)).trans ((Cert.ConvRefIdeal.Value.v153_ix _ _ _).trans (by rw [hA]))
    · exact (congrArg _ (ValueIdx.eq_ix2 i)).trans ((Cert.ConvRefIdeal.Value.v154_ix _ _ _).trans (by rw [hA]))
    · exact (congrArg _ (ValueIdx.eq_ix2 i)).trans ((Cert.ConvRefIdeal.Value.v150_ix _ _ _).trans (by rw [hA]))
    · exact (congrArg _ (ValueIdx.eq_ix2 i)).trans ((Cert.ConvRefIdeal.Value.v152_ix _ _ _).trans (by rw [hA]))

end Cert.Proof.Conv

end
-- ==== Proof.FfnPoint.lean ====
/-
  What one grid point of the feed-forward layer's backward call leaves in each of its output blocks, as one term of the
  blocks it reads.
-/
module

public import proofs.«01_k».proof.Proof.Gen.FfnBwdIdeal.Value
public import Idealize.ShloMosaic.Lib.Pointwise
public import Idealize.ShloMosaic.Lib.WritesUnit
public import Idealize.ShloMosaic.Lib.Pipeline.Value
public import Idealize.ShloMosaic.Lib.Pipeline.ReadBack
public import Idealize.ShloMosaic.Lib.Pipeline.ValueKit

@[expose] public section

set_option maxRecDepth 16384

noncomputable section

namespace Cert.FfnBwdIdeal.Gen

open Idealize.ShloMosaic Idealize.ShloMosaic.TcCoe Idealize.ShloMosaic.Tactic
open Idealize.SL Idealize.SL.Sem
open Idealize.ShloMosaic.Pipeline (Dat Cfg Window cellOf)

/-- Row `k` of an eight-row block. -/
def row0 (x : Vec Ideal S8x1024 .f32) : Vec Ideal S1x1024 .f32 := View.ld x (Rect.unit (s := S8x1024) ![0, 0] S1x1024.size inb_S8x1024_S1x1024_0_0)
def row2 (x : Vec Ideal S8x1024 .f32) : Vec Ideal S1x1024 .f32 := View.ld x (Rect.unit (s := S8x1024) ![2, 0] S1x1024.size inb_S8x1024_S1x1024_2_0)
def row3 (x : Vec Ideal S8x1024 .f32) : Vec Ideal S1x1024 .f32 := View.ld x (Rect.unit (s := S8x1024) ![3, 0] S1x1024.size inb_S8x1024_S1x1024_3_0)

theorem ld_S256x1024 {e : EltTy} (X : S256x1024.Idx → Elt Ideal e) : View.ld X (Rect.unit (s := S256x1024) ![0, 0] ![256, 1024] inb_S256x1024_S256x1024_0_0) = X :=
  View.ld_unit_zero (S := S256x1024) (funext fun a => by fin_cases a <;> rfl) _ X

theorem canon_S256x1024 {e : EltTy} (w : S256x1024.Idx → Elt Ideal e) (L : List (View.Piece (Elt Ideal) S256x1024 e)) : View.canon (⟨Rect.unit (s := S256x1024) ![0, 0] ![256, 1024] inb_S256x1024_S256x1024_0_0, w⟩ :: L) = w :=
  View.canon_cons_unit_zero (S := S256x1024) (funext fun a => by fin_cases a <;> rfl) _ w L

theorem ld_S256x5632 {e : EltTy} (X : S256x5632.Idx → Elt Ideal e) : View.ld X (Rect.unit (s := S256x5632) ![0, 0] ![256, 5632] inb_S256x5632_S256x5632_0_0) = X :=
  View.ld_unit_zero (S := S256x5632) (funext fun a => by fin_cases a <;> rfl) _ X

theorem ld_S5632x1024 {e : EltTy} (X : S5632x1024.Idx → Elt Ideal e) : View.ld X (Rect.unit (s := S5632x1024) ![0, 0] ![5632, 1024] inb_S5632x1024_S5632x1024_0_0) = X :=
  View.ld_unit_zero (S := S5632x1024) (funext fun a => by fin_cases a <;> rfl) _ X

theorem ld_S8x1024 {e : EltTy} (X : S8x1024.Idx → Elt Ideal e) : View.ld X (Rect.unit (s := S8x1024) ![0, 0] ![8, 1024] inb_S8x1024_S8x1024_0_0) = X :=
  View.ld_unit_zero (S := S8x1024) (funext fun a => by fin_cases a <;> rfl) _ X

theorem canon_S8x1024 {e : EltTy} (w : S8x1024.Idx → Elt Ideal e) (L : List (View.Piece (Elt Ideal) S8x1024 e)) : View.canon (⟨Rect.unit (s := S8x1024) ![0, 0] ![8, 1024] inb_S8x1024_S8x1024_0_0, w⟩ :: L) = w :=
  View.canon_cons_unit_zero (S := S8x1024) (funext fun a => by fin_cases a <;> rfl) _ w L

section Point
variable (x0 : Vec Ideal S256x1024 .f32) (x1 : Vec Ideal S256x1024 .bf16) (x2 : Vec Ideal S8x1024 .f32) (x3 : Vec Ideal S2816x1024 .bf16)
  (x4 : Vec Ideal S5632x1024 .bf16) (x5 x6 : Vec Ideal S256x2816 .bf16) (x7 : Vec Ideal S256x1024 .f32)

/-- The gradient of the two halves of the projection, column by column: the gradient of the gated product against the
    saved derivative of the half. -/
def atDAB (r : Fin 256) (f : Fin 5632) : EReal :=
  if h : f.val < 2816 then (∑ k : Fin 1024, k0_pay3 x0 (row3 x2) (ix2 r k) * x3 (ix2 ⟨f.val, h⟩ k)) * x5 (ix2 r ⟨f.val, h⟩)
  else (∑ k : Fin 1024, k0_pay3 x0 (row3 x2) (ix2 r k) * x3 (ix2 ⟨f.val - 2816, by omega⟩ k)) * x6 (ix2 r ⟨f.val - 2816, by omega⟩)
def ptDAB : Vec Ideal S256x5632 .bf16 := fun i => atDAB x0 x2 x3 x5 x6 (i 0) (i 1)
/-- The gradient of the normalized input. -/
def ptDH : FVec Ideal S256x1024 .f32 := k0_pay39 (ptDAB x0 x2 x3 x5 x6) x4
/-- The gradient of the layer's input. -/
def pt10 : FVec Ideal S256x1024 .f32 :=
  k0_pay48 x0 (ptDH x0 x2 x3 x4 x5 x6) x7 (k0_pay40 (row0 x2)) (row2 x2)
/-- This tile's part of the column sums for the scale, the shift, the modulation and the gate. -/
def pt11 : FVec Ideal S8x1024 .f32 :=
  k0_pay1 (k0_pay4 x0 x1) (k0_pay44 (ptDH x0 x2 x3 x4 x5 x6)) (k0_pay45 (ptDH x0 x2 x3 x4 x5 x6) x7 (k0_pay40 (row0 x2)))
    (k0_pay47 (ptDH x0 x2 x3 x4 x5 x6) x7 (row2 x2))
end Point

theorem ptDAB_read (x0 : Vec Ideal S256x1024 .f32) (x2 : Vec Ideal S8x1024 .f32) (x3 : Vec Ideal S2816x1024 .bf16) (x5 x6 : Vec Ideal S256x2816 .bf16) :
    (fun j => ptDAB x0 x2 x3 x5 x6 ((Rect.unit (s := S256x5632) ![0, 0] ![256, 5632] inb_S256x5632_S256x5632_0_0).idx j)) = ptDAB x0 x2 x3 x5 x6 :=
  ld_S256x5632 (e := .bf16) (ptDAB x0 x2 x3 x5 x6)

theorem pay2_eq (a b c d : FVec Ideal S1x1024 .f32) (v : Vec Ideal S8x1024 .f32) : k0_pay2 a b c d v = addf v (k0_pay1 a b c d) := by
  unfold k0_pay2; simp only [shapeCast_self]

section Chunk
variable (x0 : Vec Ideal S256x1024 .f32) (x2 : Vec Ideal S8x1024 .f32) (x3 : Vec Ideal S2816x1024 .bf16) (x5 x6 : Vec Ideal S256x2816 .bf16)

/-- A piece of the first half's columns, from `o` on. -/
theorem lo_piece (o : ℕ) (hw : ∀ a : Fin 2, (![o, 0] : Fin 2 → ℕ) a + (![256, 1024] : Fin 2 → ℕ) a ≤ S2816x1024.size a)
    (hx : ∀ a : Fin 2, (![0, o] : Fin 2 → ℕ) a + (![256, 256] : Fin 2 → ℕ) a ≤ S256x2816.size a)
    (hd : ∀ a : Fin 2, (![0, o] : Fin 2 → ℕ) a + (![256, 256] : Fin 2 → ℕ) a ≤ S256x5632.size a) (x : S256x256.Idx) :
    k0_pay9 (k0_pay3 x0 (row3 x2)) (View.ld x3 (Rect.unit (s := S2816x1024) ![o, 0] ![256, 1024] hw))
        (View.ld x5 (Rect.unit (s := S256x2816) ![0, o] ![256, 256] hx)) x
      = ptDAB x0 x2 x3 x5 x6 ((Rect.unit (s := S256x5632) ![0, o] ![256, 256] hd).emb x) := by
  obtain ⟨r, c, rfl⟩ : ∃ (r : Fin 256) (c : Fin 256), x = ix2 r c := ⟨_, _, eq_ix2 x⟩
  have ho : o + 256 ≤ 2816 := hx 1
  have e : (Rect.unit (s := S256x5632) ![0, o] ![256, 256] hd).emb (ix2 r c) = ix2 r ⟨o + c.val, by omega⟩ := by
    blk_ext
  rw [e]
  refine Eq.trans ?_ (dif_pos (show o + c.val < 2816 from by omega)).symm
  pointwise [k0_pay8, k0_pay9]

/-- A piece of the second half's columns. -/
theorem hi_piece (o p : ℕ) (hp : p = 2816 + o) (hw : ∀ a : Fin 2, (![o, 0] : Fin 2 → ℕ) a + (![256, 1024] : Fin 2 → ℕ) a ≤ S2816x1024.size a)
    (hx : ∀ a : Fin 2, (![0, o] : Fin 2 → ℕ) a + (![256, 256] : Fin 2 → ℕ) a ≤ S256x2816.size a)
    (hd : ∀ a : Fin 2, (![0, p] : Fin 2 → ℕ) a + (![256, 256] : Fin 2 → ℕ) a ≤ S256x5632.size a) (x : S256x256.Idx) :
    k0_pay9 (k0_pay3 x0 (row3 x2)) (View.ld x3 (Rect.unit (s := S2816x1024) ![o, 0] ![256, 1024] hw))
        (View.ld x6 (Rect.unit (s := S256x2816) ![0, o] ![256, 256] hx)) x
      = ptDAB x0 x2 x3 x5 x6 ((Rect.unit (s := S256x5632) ![0, p] ![256, 256] hd).emb x) := by
  obtain ⟨r, c, rfl⟩ : ∃ (r : Fin 256) (c : Fin 256), x = ix2 r c := ⟨_, _, eq_ix2 x⟩
  have ho : o + 256 ≤ 2816 := hx 1
  have e : (Rect.unit (s := S256x5632) ![0, p] ![256, 256] hd).emb (ix2 r c) = ix2 r ⟨p + c.val, by omega⟩ := by
    blk_ext
  rw [e]
  refine Eq.trans ?_ (dif_neg (show ¬(p + c.val < 2816) from by omega)).symm
  pointwise [k0_pay8, k0_pay9]
  subst hp
  have e2 : (⟨2816 + o + c.val - 2816, by omega⟩ : Fin 2816) = ⟨o + c.val, by omega⟩ := Fin.ext (by show 2816 + o + c.val - 2816 = o + c.val; omega)
  simp only [e2]
end Chunk

set_option maxHeartbeats 2000000 in
/-- The 22 pieces written of the second result. -/
theorem dab_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S8x1024 .f32) (harg3 : arg3.IsWhole) (arg4 : Memref sig .tc .vmem S2816x1024 .bf16) (harg4 : arg4.IsWhole) (arg5 : Memref sig .tc .vmem S5632x1024 .bf16) (harg5 : arg5.IsWhole) (arg6 : Memref sig .tc .vmem S256x2816 .bf16) (harg6 : arg6.IsWhole) (arg7 : Memref sig .tc .vmem S256x2816 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S8x1024 .f32) (harg12 : arg12.IsWhole) (hc0 : cond0_0 i) (hc1 : ¬cond0_1 i)
    (x0 : Vec Ideal S256x1024 .f32) (x1 : Vec Ideal S256x1024 .bf16) (x2 : Vec Ideal S8x1024 .f32) (x3 : Vec Ideal S2816x1024 .bf16) (x4 : Vec Ideal S5632x1024 .bf16) (x5 : Vec Ideal S256x2816 .bf16) (x6 : Vec Ideal S256x2816 .bf16) (x7 : Vec Ideal S256x1024 .f32):
    View.PiecesOf (ptDAB x0 x2 x3 x5 x6) (kernelRun0_A (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.1 := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_S256x1024, View.PiecesOf]
  exact ⟨hi_piece x0 x2 x3 x5 x6 2560 5376 rfl _ _ _, lo_piece x0 x2 x3 x5 x6 2560 _ _ _, hi_piece x0 x2 x3 x5 x6 2304 5120 rfl _ _ _, lo_piece x0 x2 x3 x5 x6 2304 _ _ _, hi_piece x0 x2 x3 x5 x6 2048 4864 rfl _ _ _, lo_piece x0 x2 x3 x5 x6 2048 _ _ _, hi_piece x0 x2 x3 x5 x6 1792 4608 rfl _ _ _, lo_piece x0 x2 x3 x5 x6 1792 _ _ _, hi_piece x0 x2 x3 x5 x6 1536 4352 rfl _ _ _, lo_piece x0 x2 x3 x5 x6 1536 _ _ _, hi_piece x0 x2 x3 x5 x6 1280 4096 rfl _ _ _, lo_piece x0 x2 x3 x5 x6 1280 _ _ _, hi_piece x0 x2 x3 x5 x6 1024 3840 rfl _ _ _, lo_piece x0 x2 x3 x5 x6 1024 _ _ _, hi_piece x0 x2 x3 x5 x6 768 3584 rfl _ _ _, lo_piece x0 x2 x3 x5 x6 768 _ _ _, hi_piece x0 x2 x3 x5 x6 512 3328 rfl _ _ _, lo_piece x0 x2 x3 x5 x6 512 _ _ _, hi_piece x0 x2 x3 x5 x6 256 3072 rfl _ _ _, lo_piece x0 x2 x3 x5 x6 256 _ _ _, hi_piece x0 x2 x3 x5 x6 0 2816 rfl _ _ _, lo_piece x0 x2 x3 x5 x6 0 _ _ _, trivial⟩

theorem dab_A_canon (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S8x1024 .f32) (harg3 : arg3.IsWhole) (arg4 : Memref sig .tc .vmem S2816x1024 .bf16) (harg4 : arg4.IsWhole) (arg5 : Memref sig .tc .vmem S5632x1024 .bf16) (harg5 : arg5.IsWhole) (arg6 : Memref sig .tc .vmem S256x2816 .bf16) (harg6 : arg6.IsWhole) (arg7 : Memref sig .tc .vmem S256x2816 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S8x1024 .f32) (harg12 : arg12.IsWhole) (hc0 : cond0_0 i) (hc1 : ¬cond0_1 i)
    (x0 : Vec Ideal S256x1024 .f32) (x1 : Vec Ideal S256x1024 .bf16) (x2 : Vec Ideal S8x1024 .f32) (x3 : Vec Ideal S2816x1024 .bf16) (x4 : Vec Ideal S5632x1024 .bf16) (x5 : Vec Ideal S256x2816 .bf16) (x6 : Vec Ideal S256x2816 .bf16) (x7 : Vec Ideal S256x1024 .f32):
    View.canon (kernelRun0_A (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.1 = ptDAB x0 x2 x3 x5 x6 :=
  funext fun y => View.canon_apply_of_pieces _ _ (dab_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).mem y (cover0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 y)

theorem out0_A_9_eq (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S8x1024 .f32) (harg3 : arg3.IsWhole) (arg4 : Memref sig .tc .vmem S2816x1024 .bf16) (harg4 : arg4.IsWhole) (arg5 : Memref sig .tc .vmem S5632x1024 .bf16) (harg5 : arg5.IsWhole) (arg6 : Memref sig .tc .vmem S256x2816 .bf16) (harg6 : arg6.IsWhole) (arg7 : Memref sig .tc .vmem S256x2816 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S8x1024 .f32) (harg12 : arg12.IsWhole) (hc0 : cond0_0 i) (hc1 : ¬cond0_1 i)
    (x0 : Vec Ideal S256x1024 .f32) (x1 : Vec Ideal S256x1024 .bf16) (x2 : Vec Ideal S8x1024 .f32) (x3 : Vec Ideal S2816x1024 .bf16) (x4 : Vec Ideal S5632x1024 .bf16) (x5 : Vec Ideal S256x2816 .bf16) (x6 : Vec Ideal S256x2816 .bf16) (x7 : Vec Ideal S256x1024 .f32):
    out0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 = ptDAB x0 x2 x3 x5 x6 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7)]
  exact dab_A_canon c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7

set_option maxHeartbeats 2000000 in
theorem out0_A_8_eq (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S8x1024 .f32) (harg3 : arg3.IsWhole) (arg4 : Memref sig .tc .vmem S2816x1024 .bf16) (harg4 : arg4.IsWhole) (arg5 : Memref sig .tc .vmem S5632x1024 .bf16) (harg5 : arg5.IsWhole) (arg6 : Memref sig .tc .vmem S256x2816 .bf16) (harg6 : arg6.IsWhole) (arg7 : Memref sig .tc .vmem S256x2816 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S8x1024 .f32) (harg12 : arg12.IsWhole) (hc0 : cond0_0 i) (hc1 : ¬cond0_1 i)
    (x0 : Vec Ideal S256x1024 .f32) (x1 : Vec Ideal S256x1024 .bf16) (x2 : Vec Ideal S8x1024 .f32) (x3 : Vec Ideal S2816x1024 .bf16) (x4 : Vec Ideal S5632x1024 .bf16) (x5 : Vec Ideal S256x2816 .bf16) (x6 : Vec Ideal S256x2816 .bf16) (x7 : Vec Ideal S256x1024 .f32):
    out0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay3 x0 (row3 x2) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_S256x1024, canon_S256x1024, ld_S256x5632, ld_S5632x1024, ld_S8x1024, canon_S8x1024, pay2_eq]
  rfl

set_option maxHeartbeats 2000000 in
theorem out0_A_10_eq (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S8x1024 .f32) (harg3 : arg3.IsWhole) (arg4 : Memref sig .tc .vmem S2816x1024 .bf16) (harg4 : arg4.IsWhole) (arg5 : Memref sig .tc .vmem S5632x1024 .bf16) (harg5 : arg5.IsWhole) (arg6 : Memref sig .tc .vmem S256x2816 .bf16) (harg6 : arg6.IsWhole) (arg7 : Memref sig .tc .vmem S256x2816 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S8x1024 .f32) (harg12 : arg12.IsWhole) (hc0 : cond0_0 i) (hc1 : ¬cond0_1 i)
    (x0 : Vec Ideal S256x1024 .f32) (x1 : Vec Ideal S256x1024 .bf16) (x2 : Vec Ideal S8x1024 .f32) (x3 : Vec Ideal S2816x1024 .bf16) (x4 : Vec Ideal S5632x1024 .bf16) (x5 : Vec Ideal S256x2816 .bf16) (x6 : Vec Ideal S256x2816 .bf16) (x7 : Vec Ideal S256x1024 .f32):
    out0_A_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 = pt10 x0 x2 x3 x4 x5 x6 x7 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7)]
  have hd := dab_A_canon c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7
  revert hd
  unfold kernelRun0_A
  dsimp only
  sl_unfold_words
  intro hd
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_S256x1024, canon_S256x1024, ld_S256x5632, ld_S5632x1024, ld_S8x1024, canon_S8x1024, pay2_eq] at hd
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_S256x1024, canon_S256x1024, ld_S256x5632, ld_S5632x1024, ld_S8x1024, canon_S8x1024, pay2_eq, View.readCov_eq_canon', hd, ptDAB_read]
  rfl

set_option maxHeartbeats 2000000 in
theorem out0_A_11_eq (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S8x1024 .f32) (harg3 : arg3.IsWhole) (arg4 : Memref sig .tc .vmem S2816x1024 .bf16) (harg4 : arg4.IsWhole) (arg5 : Memref sig .tc .vmem S5632x1024 .bf16) (harg5 : arg5.IsWhole) (arg6 : Memref sig .tc .vmem S256x2816 .bf16) (harg6 : arg6.IsWhole) (arg7 : Memref sig .tc .vmem S256x2816 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S8x1024 .f32) (harg12 : arg12.IsWhole) (hc0 : cond0_0 i) (hc1 : ¬cond0_1 i)
    (x0 : Vec Ideal S256x1024 .f32) (x1 : Vec Ideal S256x1024 .bf16) (x2 : Vec Ideal S8x1024 .f32) (x3 : Vec Ideal S2816x1024 .bf16) (x4 : Vec Ideal S5632x1024 .bf16) (x5 : Vec Ideal S256x2816 .bf16) (x6 : Vec Ideal S256x2816 .bf16) (x7 : Vec Ideal S256x1024 .f32):
    out0_A_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 = pt11 x0 x1 x2 x3 x4 x5 x6 x7 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7)]
  have hd := dab_A_canon c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7
  revert hd
  unfold kernelRun0_A
  dsimp only
  sl_unfold_words
  intro hd
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_S256x1024, canon_S256x1024, ld_S256x5632, ld_S5632x1024, ld_S8x1024, canon_S8x1024, pay2_eq] at hd
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_S256x1024, canon_S256x1024, ld_S256x5632, ld_S5632x1024, ld_S8x1024, canon_S8x1024, pay2_eq, View.readCov_eq_canon', hd, ptDAB_read]
  rfl

set_option maxHeartbeats 2000000 in
/-- The 22 pieces written of the second result. -/
theorem dab_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S8x1024 .f32) (harg3 : arg3.IsWhole) (arg4 : Memref sig .tc .vmem S2816x1024 .bf16) (harg4 : arg4.IsWhole) (arg5 : Memref sig .tc .vmem S5632x1024 .bf16) (harg5 : arg5.IsWhole) (arg6 : Memref sig .tc .vmem S256x2816 .bf16) (harg6 : arg6.IsWhole) (arg7 : Memref sig .tc .vmem S256x2816 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S8x1024 .f32) (harg12 : arg12.IsWhole) (hc0 : ¬cond0_0 i) (hc1 : cond0_1 i)
    (x0 : Vec Ideal S256x1024 .f32) (x1 : Vec Ideal S256x1024 .bf16) (x2 : Vec Ideal S8x1024 .f32) (x3 : Vec Ideal S2816x1024 .bf16) (x4 : Vec Ideal S5632x1024 .bf16) (x5 : Vec Ideal S256x2816 .bf16) (x6 : Vec Ideal S256x2816 .bf16) (x7 : Vec Ideal S256x1024 .f32) (xo11 : Vec Ideal S8x1024 .f32):
    View.PiecesOf (ptDAB x0 x2 x3 x5 x6) (kernelRun0_B (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo11).2.1 := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_S256x1024, View.PiecesOf]
  exact ⟨hi_piece x0 x2 x3 x5 x6 2560 5376 rfl _ _ _, lo_piece x0 x2 x3 x5 x6 2560 _ _ _, hi_piece x0 x2 x3 x5 x6 2304 5120 rfl _ _ _, lo_piece x0 x2 x3 x5 x6 2304 _ _ _, hi_piece x0 x2 x3 x5 x6 2048 4864 rfl _ _ _, lo_piece x0 x2 x3 x5 x6 2048 _ _ _, hi_piece x0 x2 x3 x5 x6 1792 4608 rfl _ _ _, lo_piece x0 x2 x3 x5 x6 1792 _ _ _, hi_piece x0 x2 x3 x5 x6 1536 4352 rfl _ _ _, lo_piece x0 x2 x3 x5 x6 1536 _ _ _, hi_piece x0 x2 x3 x5 x6 1280 4096 rfl _ _ _, lo_piece x0 x2 x3 x5 x6 1280 _ _ _, hi_piece x0 x2 x3 x5 x6 1024 3840 rfl _ _ _, lo_piece x0 x2 x3 x5 x6 1024 _ _ _, hi_piece x0 x2 x3 x5 x6 768 3584 rfl _ _ _, lo_piece x0 x2 x3 x5 x6 768 _ _ _, hi_piece x0 x2 x3 x5 x6 512 3328 rfl _ _ _, lo_piece x0 x2 x3 x5 x6 512 _ _ _, hi_piece x0 x2 x3 x5 x6 256 3072 rfl _ _ _, lo_piece x0 x2 x3 x5 x6 256 _ _ _, hi_piece x0 x2 x3 x5 x6 0 2816 rfl _ _ _, lo_piece x0 x2 x3 x5 x6 0 _ _ _, trivial⟩

theorem dab_B_canon (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S8x1024 .f32) (harg3 : arg3.IsWhole) (arg4 : Memref sig .tc .vmem S2816x1024 .bf16) (harg4 : arg4.IsWhole) (arg5 : Memref sig .tc .vmem S5632x1024 .bf16) (harg5 : arg5.IsWhole) (arg6 : Memref sig .tc .vmem S256x2816 .bf16) (harg6 : arg6.IsWhole) (arg7 : Memref sig .tc .vmem S256x2816 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S8x1024 .f32) (harg12 : arg12.IsWhole) (hc0 : ¬cond0_0 i) (hc1 : cond0_1 i)
    (x0 : Vec Ideal S256x1024 .f32) (x1 : Vec Ideal S256x1024 .bf16) (x2 : Vec Ideal S8x1024 .f32) (x3 : Vec Ideal S2816x1024 .bf16) (x4 : Vec Ideal S5632x1024 .bf16) (x5 : Vec Ideal S256x2816 .bf16) (x6 : Vec Ideal S256x2816 .bf16) (x7 : Vec Ideal S256x1024 .f32) (xo11 : Vec Ideal S8x1024 .f32):
    View.canon (kernelRun0_B (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo11).2.1 = ptDAB x0 x2 x3 x5 x6 :=
  funext fun y => View.canon_apply_of_pieces _ _ (dab_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo11).mem y (cover0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo11 y)

theorem out0_B_9_eq (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S8x1024 .f32) (harg3 : arg3.IsWhole) (arg4 : Memref sig .tc .vmem S2816x1024 .bf16) (harg4 : arg4.IsWhole) (arg5 : Memref sig .tc .vmem S5632x1024 .bf16) (harg5 : arg5.IsWhole) (arg6 : Memref sig .tc .vmem S256x2816 .bf16) (harg6 : arg6.IsWhole) (arg7 : Memref sig .tc .vmem S256x2816 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S8x1024 .f32) (harg12 : arg12.IsWhole) (hc0 : ¬cond0_0 i) (hc1 : cond0_1 i)
    (x0 : Vec Ideal S256x1024 .f32) (x1 : Vec Ideal S256x1024 .bf16) (x2 : Vec Ideal S8x1024 .f32) (x3 : Vec Ideal S2816x1024 .bf16) (x4 : Vec Ideal S5632x1024 .bf16) (x5 : Vec Ideal S256x2816 .bf16) (x6 : Vec Ideal S256x2816 .bf16) (x7 : Vec Ideal S256x1024 .f32) (xo11 : Vec Ideal S8x1024 .f32):
    out0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo11 = ptDAB x0 x2 x3 x5 x6 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo11)]
  exact dab_B_canon c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo11

set_option maxHeartbeats 2000000 in
theorem out0_B_8_eq (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S8x1024 .f32) (harg3 : arg3.IsWhole) (arg4 : Memref sig .tc .vmem S2816x1024 .bf16) (harg4 : arg4.IsWhole) (arg5 : Memref sig .tc .vmem S5632x1024 .bf16) (harg5 : arg5.IsWhole) (arg6 : Memref sig .tc .vmem S256x2816 .bf16) (harg6 : arg6.IsWhole) (arg7 : Memref sig .tc .vmem S256x2816 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S8x1024 .f32) (harg12 : arg12.IsWhole) (hc0 : ¬cond0_0 i) (hc1 : cond0_1 i)
    (x0 : Vec Ideal S256x1024 .f32) (x1 : Vec Ideal S256x1024 .bf16) (x2 : Vec Ideal S8x1024 .f32) (x3 : Vec Ideal S2816x1024 .bf16) (x4 : Vec Ideal S5632x1024 .bf16) (x5 : Vec Ideal S256x2816 .bf16) (x6 : Vec Ideal S256x2816 .bf16) (x7 : Vec Ideal S256x1024 .f32) (xo11 : Vec Ideal S8x1024 .f32):
    out0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo11 = k0_pay3 x0 (row3 x2) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo11)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_S256x1024, canon_S256x1024, ld_S256x5632, ld_S5632x1024, ld_S8x1024, canon_S8x1024, pay2_eq]
  rfl

set_option maxHeartbeats 2000000 in
theorem out0_B_10_eq (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S8x1024 .f32) (harg3 : arg3.IsWhole) (arg4 : Memref sig .tc .vmem S2816x1024 .bf16) (harg4 : arg4.IsWhole) (arg5 : Memref sig .tc .vmem S5632x1024 .bf16) (harg5 : arg5.IsWhole) (arg6 : Memref sig .tc .vmem S256x2816 .bf16) (harg6 : arg6.IsWhole) (arg7 : Memref sig .tc .vmem S256x2816 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S8x1024 .f32) (harg12 : arg12.IsWhole) (hc0 : ¬cond0_0 i) (hc1 : cond0_1 i)
    (x0 : Vec Ideal S256x1024 .f32) (x1 : Vec Ideal S256x1024 .bf16) (x2 : Vec Ideal S8x1024 .f32) (x3 : Vec Ideal S2816x1024 .bf16) (x4 : Vec Ideal S5632x1024 .bf16) (x5 : Vec Ideal S256x2816 .bf16) (x6 : Vec Ideal S256x2816 .bf16) (x7 : Vec Ideal S256x1024 .f32) (xo11 : Vec Ideal S8x1024 .f32):
    out0_B_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo11 = pt10 x0 x2 x3 x4 x5 x6 x7 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo11)]
  have hd := dab_B_canon c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo11
  revert hd
  unfold kernelRun0_B
  dsimp only
  sl_unfold_words
  intro hd
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_S256x1024, canon_S256x1024, ld_S256x5632, ld_S5632x1024, ld_S8x1024, canon_S8x1024, pay2_eq] at hd
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_S256x1024, canon_S256x1024, ld_S256x5632, ld_S5632x1024, ld_S8x1024, canon_S8x1024, pay2_eq, View.readCov_eq_canon', hd, ptDAB_read]
  rfl

set_option maxHeartbeats 2000000 in
theorem out0_B_11_eq (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S8x1024 .f32) (harg3 : arg3.IsWhole) (arg4 : Memref sig .tc .vmem S2816x1024 .bf16) (harg4 : arg4.IsWhole) (arg5 : Memref sig .tc .vmem S5632x1024 .bf16) (harg5 : arg5.IsWhole) (arg6 : Memref sig .tc .vmem S256x2816 .bf16) (harg6 : arg6.IsWhole) (arg7 : Memref sig .tc .vmem S256x2816 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S8x1024 .f32) (harg12 : arg12.IsWhole) (hc0 : ¬cond0_0 i) (hc1 : cond0_1 i)
    (x0 : Vec Ideal S256x1024 .f32) (x1 : Vec Ideal S256x1024 .bf16) (x2 : Vec Ideal S8x1024 .f32) (x3 : Vec Ideal S2816x1024 .bf16) (x4 : Vec Ideal S5632x1024 .bf16) (x5 : Vec Ideal S256x2816 .bf16) (x6 : Vec Ideal S256x2816 .bf16) (x7 : Vec Ideal S256x1024 .f32) (xo11 : Vec Ideal S8x1024 .f32):
    out0_B_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo11 = addf xo11 (pt11 x0 x1 x2 x3 x4 x5 x6 x7) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo11)]
  have hd := dab_B_canon c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo11
  revert hd
  unfold kernelRun0_B
  dsimp only
  sl_unfold_words
  intro hd
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_S256x1024, canon_S256x1024, ld_S256x5632, ld_S5632x1024, ld_S8x1024, canon_S8x1024, pay2_eq] at hd
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_S256x1024, canon_S256x1024, ld_S256x5632, ld_S5632x1024, ld_S8x1024, canon_S8x1024, pay2_eq, View.readCov_eq_canon', hd, ptDAB_read]
  rfl

end Cert.FfnBwdIdeal.Gen
-- ==== Proof.FfnRows.lean ====
/-
  The feed-forward layer's forward lines and its gradient, row by row over extended reals: what both the kernel's and the
  reference's results are shown equal to. Where the arguments are finite, the saved derivative of the gated product may be
  multiplied by the product's gradient as a whole or part by part.
-/
module

public import proofs.«01_k».proof.Proof.ConvRows
public import Idealize.ShloMosaic.Lib.Pointwise

@[expose] public section

noncomputable section

namespace Cert.Ffn

open Idealize.ShloMosaic
open Cert.Conv (ms rs cc)

/-- One half, as the programs write it. -/
abbrev half : EReal := Ideal.ofBits FTy.f32 1056964608#32

/-- The logistic function. -/
def sg (a : EReal) : EReal := Ideal.div 1 (1 + Ideal.exp (-a))

/-- The layer's arguments: the input, the output's gradient, the norm's scale, shift, modulation and gate rows and the two
    weights. -/
structure Args where
  x : Fin 8192 → Fin 1024 → EReal
  dxo : Fin 8192 → Fin 1024 → EReal
  g : Fin 1024 → EReal
  sh : Fin 1024 → EReal
  sc : Fin 1024 → EReal
  gate : Fin 1024 → EReal
  win : Fin 1024 → Fin 5632 → EReal
  wo : Fin 2816 → Fin 1024 → EReal

namespace Args
variable (A : Args)

/-! ### Forward -/

def h (R : Fin 8192) (l : Fin 1024) : EReal := A.x R l * rs (A.x R) * A.g l * (1 + A.sc l) + A.sh l
def ab (R : Fin 8192) (j : Fin 5632) : EReal := ∑ k, A.h R k * A.win k j
/-- The two halves of the projection. -/
def a (R : Fin 8192) (f : Fin 2816) : EReal := A.ab R ⟨f.val, by omega⟩
def b (R : Fin 8192) (f : Fin 2816) : EReal := A.ab R ⟨2816 + f.val, by omega⟩
def gb (R : Fin 8192) (f : Fin 2816) : EReal := A.a R f * sg (A.a R f)
/-- The derivative of the logistic function at the first half. -/
def t (R : Fin 8192) (f : Fin 2816) : EReal := sg (A.a R f) * (1 - sg (A.a R f))
def ga (R : Fin 8192) (f : Fin 2816) : EReal := A.b R f * sg (A.a R f) + A.a R f * A.b R f * A.t R f
def y (R : Fin 8192) (l : Fin 1024) : EReal := ∑ f, A.gb R f * A.b R f * A.wo f l

/-! ### Backward -/

def dy (R : Fin 8192) (l : Fin 1024) : EReal := A.dxo R l * (half * (1 + A.gate l))
def du (R : Fin 8192) (f : Fin 2816) : EReal := ∑ k, A.dy R k * A.wo f k
def dab (R : Fin 8192) (j : Fin 5632) : EReal :=
  if h : j.val < 2816 then A.du R ⟨j.val, h⟩ * A.ga R ⟨j.val, h⟩
  else A.du R ⟨j.val - 2816, by omega⟩ * A.gb R ⟨j.val - 2816, by omega⟩
def dh (R : Fin 8192) (l : Fin 1024) : EReal := ∑ j, A.dab R j * A.win l j
def dn (R : Fin 8192) (l : Fin 1024) : EReal := A.dh R l * (1 + A.sc l) * A.g l
def dx (R : Fin 8192) (l : Fin 1024) : EReal :=
  A.dxo R l + (A.dn R l * rs (A.x R) + A.x R l * cc (A.x R) (A.dn R) + cc (A.x R) (A.dn R) * A.x R l)

/-- One row's part of the four column sums. -/
def partRow (e : Fin 8) (R : Fin 8192) (l : Fin 1024) : EReal :=
  if e.val < 1 then A.x R l * rs (A.x R) * (A.dh R l * (1 + A.sc l))
  else if e.val - 1 < 1 then A.dh R l
  else if e.val - 1 - 1 < 1 then A.x R l * rs (A.x R) * A.g l * A.dh R l
  else if e.val - 1 - 1 - 1 < 1 then half * (A.dxo R l * A.y R l)
  else 0
def part (e : Fin 8) (l : Fin 1024) : EReal := ∑ R, A.partRow e R l

/-- The first half's gradient, its parts multiplied one by one or as a whole. -/
def GateEq : Prop := ∀ R f, A.du R f * A.b R f * sg (A.a R f) + A.a R f * (A.du R f * A.b R f) * A.t R f = A.du R f * A.ga R f

end Args

theorem half_eq : half = ((1 / 2 : ℝ) : EReal) := by
  simp [half, Ideal.ofBits, Ideal.ieee, -EReal.coe_mul]; norm_num

/-- One half of a sum is the sum of the halves, infinities or not. -/
theorem half_mul_sum {ι : Type} [Fintype ι] (f : ι → EReal) : half * ∑ i, f i = ∑ i, half * f i := by
  classical
  have h0 : (0 : EReal) ≤ half := by rw [half_eq]; exact_mod_cast (by norm_num : (0 : ℝ) ≤ 1 / 2)
  have ht : half ≠ ⊤ := by rw [half_eq]; exact EReal.coe_ne_top _
  refine Finset.induction_on (motive := fun s => half * ∑ i ∈ s, f i = ∑ i ∈ s, half * f i) Finset.univ ?_ fun i s hi ih => ?_
  · simp
  · rw [Finset.sum_insert hi, Finset.sum_insert hi, EReal.left_distrib_of_nonneg_of_ne_top h0 ht, ih]

end Cert.Ffn
-- ==== Proof.FfnPointIx.lean ====
/-
  One grid point's results at an index: the row functions of `FfnRows` at the tile's rows, when the blocks it reads hold
  the layer's arrays there.
-/
module

public import proofs.«01_k».proof.Proof.FfnPoint
public import proofs.«01_k».proof.Proof.FfnRows

@[expose] public section

set_option maxRecDepth 16384

noncomputable section

namespace Cert.FfnBwdIdeal.Gen

open Idealize.ShloMosaic Idealize.ShloMosaic.TcCoe Idealize.ShloMosaic.Tactic

/-- The blocks of tile `b`'s point hold the layer's arrays at rows `256 * b + r`. -/
structure Holds (A : Cert.Ffn.Args) (b : Fin 32) (x0 : Vec Ideal S256x1024 .f32) (x1 : Vec Ideal S256x1024 .bf16) (x2 : Vec Ideal S8x1024 .f32) (x3 : Vec Ideal S2816x1024 .bf16) (x4 : Vec Ideal S5632x1024 .bf16)
  (x5 x6 : Vec Ideal S256x2816 .bf16) (x7 : Vec Ideal S256x1024 .f32) : Prop where
  h0 : ∀ (r : Fin 256) l, x0 (ix2 r l) = A.dxo ⟨256 * b.val + r.val, by omega⟩ l
  h1 : ∀ (r : Fin 256) l, x1 (ix2 r l) = A.y ⟨256 * b.val + r.val, by omega⟩ l
  h20 : ∀ l, x2 (ix2 0 l) = A.g l
  h22 : ∀ l, x2 (ix2 2 l) = A.sc l
  h23 : ∀ l, x2 (ix2 3 l) = A.gate l
  h3 : ∀ f l, x3 (ix2 f l) = A.wo f l
  h4 : ∀ j l, x4 (ix2 j l) = A.win l j
  h5 : ∀ (r : Fin 256) f, x5 (ix2 r f) = A.ga ⟨256 * b.val + r.val, by omega⟩ f
  h6 : ∀ (r : Fin 256) f, x6 (ix2 r f) = A.gb ⟨256 * b.val + r.val, by omega⟩ f
  h7 : ∀ (r : Fin 256) l, x7 (ix2 r l) = A.x ⟨256 * b.val + r.val, by omega⟩ l

section
variable {A : Cert.Ffn.Args} {b : Fin 32} {x0 : Vec Ideal S256x1024 .f32} {x1 : Vec Ideal S256x1024 .bf16} {x2 : Vec Ideal S8x1024 .f32} {x3 : Vec Ideal S2816x1024 .bf16} {x4 : Vec Ideal S5632x1024 .bf16}
  {x5 x6 : Vec Ideal S256x2816 .bf16} {x7 : Vec Ideal S256x1024 .f32}
  (H : Holds A b x0 x1 x2 x3 x4 x5 x6 x7) (r : Fin 256) (l : Fin 1024) (q : Fin 5632) (e : Fin 8)
include H

theorem pt8_ix : k0_pay3 x0 (row3 x2) (ix2 r l) = A.dy ⟨256 * b.val + r.val, by omega⟩ l := by
  pointwise [row3, k0_pay1, k0_pay3, k0_pay4, k0_pay39, k0_pay40, k0_pay41, k0_pay42, k0_pay43, k0_pay44, k0_pay45, k0_pay46, k0_pay47, k0_pay48, H.h0, H.h23]
  rfl
theorem ptDAB_ix : ptDAB x0 x2 x3 x5 x6 (ix2 r q) = A.dab ⟨256 * b.val + r.val, by omega⟩ q := by
  show atDAB x0 x2 x3 x5 x6 r q = _
  unfold atDAB Cert.Ffn.Args.dab Cert.Ffn.Args.du
  simp only [pt8_ix H, H.h3, H.h5, H.h6]
theorem ptDH_ix : ptDH x0 x2 x3 x4 x5 x6 (ix2 r l) = A.dh ⟨256 * b.val + r.val, by omega⟩ l := by
  pointwise [ptDH, k0_pay39, ptDAB_ix H, H.h4]
  rfl
theorem pt10_ix : pt10 x0 x2 x3 x4 x5 x6 x7 (ix2 r l) = A.dx ⟨256 * b.val + r.val, by omega⟩ l := by
  pointwise [pt10, row0, row2, k0_pay1, k0_pay3, k0_pay4, k0_pay39, k0_pay40, k0_pay41, k0_pay42, k0_pay43, k0_pay44, k0_pay45, k0_pay46, k0_pay47, k0_pay48, ptDH_ix H, H.h0, H.h7, H.h20, H.h22]
  rw [Fin.sum_univ_one]
  rfl
theorem pt11_ix : pt11 x0 x1 x2 x3 x4 x5 x6 x7 (ix2 e l) = ∑ r : Fin 256, A.partRow e ⟨256 * b.val + r.val, by omega⟩ l := by
  pointwise [pt11, row0, row2, k0_pay1, k0_pay3, k0_pay4, k0_pay39, k0_pay40, k0_pay41, k0_pay42, k0_pay43, k0_pay44, k0_pay45, k0_pay46, k0_pay47, k0_pay48, ptDH_ix H, H.h0, H.h1, H.h7, H.h20, H.h22]
  unfold Cert.Ffn.Args.partRow
  split
  · rfl
  split
  · rfl
  split
  · rfl
  split
  · exact Cert.Ffn.half_mul_sum _
  · exact (Finset.sum_const_zero (M := EReal)).symm
end

end Cert.FfnBwdIdeal.Gen
-- ==== Proof.FfnHost.lean ====
/-
  The arrays the feed-forward layer's backward call starts from, at an index: the row functions of `FfnRows` of the
  program's arguments.
-/
module

public import proofs.«01_k».proof.Proof.Gen.FfnBwdIdeal.Value
public import proofs.«01_k».proof.Proof.FfnRows
public import Idealize.ShloMosaic.Lib.Pointwise
public import Idealize.ShloMosaic.Lib.Claim

@[expose] public section

set_option maxRecDepth 16384

noncomputable section

namespace Cert.FfnBwdIdeal.Gen

open Idealize.ShloMosaic Idealize.ShloMosaic.TcCoe Idealize.ShloMosaic.Tactic
open Idealize.SL Idealize.SL.Sem

variable (m : (ℓ : Loc nD τ sig) → Buf (Elt Ideal) ℓ) (c : Dev nD)

/-- The program's arguments as rows. -/
def args : Cert.Ffn.Args where
  x R l := m ((c : Thread nD τ).loc main_arg0) (ix2 R l)
  dxo R l := m ((c : Thread nD τ).loc main_arg7) (ix2 R l)
  g l := m ((c : Thread nD τ).loc main_arg1) (ix1 l)
  sh l := m ((c : Thread nD τ).loc main_arg2) (ix1 l)
  sc l := m ((c : Thread nD τ).loc main_arg3) (ix1 l)
  gate l := m ((c : Thread nD τ).loc main_arg4) (ix1 l)
  win k j := m ((c : Thread nD τ).loc main_arg5) (ix2 k j)
  wo k j := m ((c : Thread nD τ).loc main_arg6) (ix2 k j)

variable (R : Fin 8192) (l : Fin 1024) (q : Fin 5632) (f : Fin 2816)

/-! The host line in four stretches: up to the projection, up to the gated product's derivatives, up to the packed
vector's rows, and the rest. -/

def hA (σ : Valuation τ sig (Elt Ideal)) : Valuation τ sig (Elt Ideal) :=
  StableHlo.after (((hostOps0 (F := Ideal)).drop 0).take 29) σ
def hB (σ : Valuation τ sig (Elt Ideal)) : Valuation τ sig (Elt Ideal) :=
  StableHlo.after (((hostOps0 (F := Ideal)).drop 29).take 24) σ
def hC (σ : Valuation τ sig (Elt Ideal)) : Valuation τ sig (Elt Ideal) :=
  StableHlo.after (((hostOps0 (F := Ideal)).drop 53).take 7) σ
def hD (σ : Valuation τ sig (Elt Ideal)) : Valuation τ sig (Elt Ideal) :=
  StableHlo.after (((hostOps0 (F := Ideal)).drop 60).take 7) σ

theorem V_split (b : Ref sig .tc) : V m c b = hD (hC (hB (hA fun b => m (c, b)))) b := rfl

section
variable (σ : Valuation τ sig (Elt Ideal))

theorem hA_arg1 : hA σ main_arg1 = σ main_arg1 := by
  unfold hA
  simp only [hostOps0, List.take, List.drop]
  after_results
theorem hB_arg1 : hB σ main_arg1 = σ main_arg1 := by
  unfold hB
  simp only [hostOps0, List.take, List.drop]
  after_results
theorem hA_arg2 : hA σ main_arg2 = σ main_arg2 := by
  unfold hA
  simp only [hostOps0, List.take, List.drop]
  after_results
theorem hB_arg2 : hB σ main_arg2 = σ main_arg2 := by
  unfold hB
  simp only [hostOps0, List.take, List.drop]
  after_results
theorem hA_arg3 : hA σ main_arg3 = σ main_arg3 := by
  unfold hA
  simp only [hostOps0, List.take, List.drop]
  after_results
theorem hB_arg3 : hB σ main_arg3 = σ main_arg3 := by
  unfold hB
  simp only [hostOps0, List.take, List.drop]
  after_results
theorem hA_arg4 : hA σ main_arg4 = σ main_arg4 := by
  unfold hA
  simp only [hostOps0, List.take, List.drop]
  after_results
theorem hB_arg4 : hB σ main_arg4 = σ main_arg4 := by
  unfold hB
  simp only [hostOps0, List.take, List.drop]
  after_results
theorem hA_arg5 : hA σ main_arg5 = σ main_arg5 := by
  unfold hA
  simp only [hostOps0, List.take, List.drop]
  after_results
theorem hB_arg5 : hB σ main_arg5 = σ main_arg5 := by
  unfold hB
  simp only [hostOps0, List.take, List.drop]
  after_results
theorem hA_arg6 : hA σ main_arg6 = σ main_arg6 := by
  unfold hA
  simp only [hostOps0, List.take, List.drop]
  after_results
theorem hB_arg6 : hB σ main_arg6 = σ main_arg6 := by
  unfold hB
  simp only [hostOps0, List.take, List.drop]
  after_results
theorem hC_arg5 : hC σ main_arg5 = σ main_arg5 := by
  unfold hC
  simp only [hostOps0, List.take, List.drop]
  after_results
theorem hC_arg6 : hC σ main_arg6 = σ main_arg6 := by
  unfold hC
  simp only [hostOps0, List.take, List.drop]
  after_results
theorem hC_v43 : hC σ main_v43 = σ main_v43 := by
  unfold hC
  simp only [hostOps0, List.take, List.drop]
  after_results
theorem hC_v38 : hC σ main_v38 = σ main_v38 := by
  unfold hC
  simp only [hostOps0, List.take, List.drop]
  after_results
theorem hD_v51 : hD σ main_v51 (ix2 R l) = σ main_v44 (ix2 R l) := by
  unfold hD
  simp only [hostOps0, List.take, List.drop]
  after_results
  pointwise
theorem hD_v52 : hD σ main_v52 (ix2 f l) = σ main_arg6 (ix2 f l) := by
  unfold hD
  simp only [hostOps0, List.take, List.drop]
  after_results
  pointwise
theorem hD_v54 : hD σ main_v54 (ix2 q l) = σ main_arg5 (ix2 l q) := by
  unfold hD
  simp only [hostOps0, List.take, List.drop]
  after_results
  pointwise
theorem hD_v55 : hD σ main_v55 (ix2 R f) = σ main_v43 (ix2 R f) := by
  unfold hD
  simp only [hostOps0, List.take, List.drop]
  after_results
  pointwise
theorem hD_v56 : hD σ main_v56 (ix2 R f) = σ main_v38 (ix2 R f) := by
  unfold hD
  simp only [hostOps0, List.take, List.drop]
  after_results
  pointwise
theorem hD_v50 : hD σ main_v50 = concatenate S8x1024 0 [⟨S1x1024, (σ main_v45 : (⟨S1x1024, .f32⟩ : BufTy).Contents (Elt Ideal))⟩, ⟨S1x1024, (σ main_v46 : (⟨S1x1024, .f32⟩ : BufTy).Contents (Elt Ideal))⟩, ⟨S1x1024, (σ main_v47 : (⟨S1x1024, .f32⟩ : BufTy).Contents (Elt Ideal))⟩, ⟨S1x1024, (σ main_v48 : (⟨S1x1024, .f32⟩ : BufTy).Contents (Elt Ideal))⟩, ⟨S4x1024, (σ main_v49 : (⟨S4x1024, .f32⟩ : BufTy).Contents (Elt Ideal))⟩] concatenates_S1x1024_S1x1024_S1x1024_S1x1024_S4x1024_S8x1024_d0 := by
  unfold hD
  simp only [hostOps0, List.take, List.drop]
  after_results
  rfl
theorem hC_v45 (z : Fin 1) : hC σ main_v45 (ix2 z l) = σ main_arg1 (ix1 l) := by
  unfold hC
  simp only [hostOps0, List.take, List.drop]
  after_results
  pointwise
theorem hC_v46 (z : Fin 1) : hC σ main_v46 (ix2 z l) = σ main_arg2 (ix1 l) := by
  unfold hC
  simp only [hostOps0, List.take, List.drop]
  after_results
  pointwise
theorem hC_v47 (z : Fin 1) : hC σ main_v47 (ix2 z l) = σ main_arg3 (ix1 l) := by
  unfold hC
  simp only [hostOps0, List.take, List.drop]
  after_results
  pointwise
theorem hC_v48 (z : Fin 1) : hC σ main_v48 (ix2 z l) = σ main_arg4 (ix1 l) := by
  unfold hC
  simp only [hostOps0, List.take, List.drop]
  after_results
  pointwise

theorem hC_v44 (h36 : ∀ R f, σ main_v36 (ix2 R f) = (args m c).gb R f * (args m c).b R f)
    (h6 : ∀ k l, σ main_arg6 (ix2 k l) = (args m c).wo k l) : hC σ main_v44 (ix2 R l) = (args m c).y R l := by
  unfold hC
  simp only [hostOps0, List.take, List.drop]
  after_results
  pointwise [h36, h6]
  rfl
variable (h23 : ∀ R q, σ main_v23 (ix2 R q) = (args m c).ab R q)
include h23
theorem hB_v36 : hB σ main_v36 (ix2 R f) = (args m c).gb R f * (args m c).b R f := by
  unfold hB
  simp only [hostOps0, List.take, List.drop]
  after_results
  pointwise [h23]
  rfl
theorem hB_v38 : hB σ main_v38 (ix2 R f) = (args m c).gb R f := by
  unfold hB
  simp only [hostOps0, List.take, List.drop]
  after_results
  pointwise [h23]
  rfl
theorem hB_v43 : hB σ main_v43 (ix2 R f) = (args m c).ga R f := by
  unfold hB
  simp only [hostOps0, List.take, List.drop]
  after_results
  pointwise [h23]
  rfl
end

theorem hA_v23 : hA (fun b => m (c, b)) main_v23 (ix2 R q) = (args m c).ab R q := by
  unfold hA
  simp only [hostOps0, List.take, List.drop]
  after_results
  pointwise
  rfl

/-! The windows' arrays. -/

theorem V51_ix : V m c main_v51 (ix2 R l) = (args m c).y R l := by
  rw [V_split, hD_v51]
  refine hC_v44 m c R l _ (fun R f => hB_v36 m c R f _ fun R q => hA_v23 m c R q) fun k l => ?_
  rw [hB_arg6, hA_arg6]; rfl
theorem V52_ix : V m c main_v52 (ix2 f l) = (args m c).wo f l := by
  rw [V_split, hD_v52, hC_arg6, hB_arg6, hA_arg6]; rfl
theorem V54_ix : V m c main_v54 (ix2 q l) = (args m c).win l q := by
  rw [V_split, hD_v54, hC_arg5, hB_arg5, hA_arg5]; rfl
theorem V55_ix : V m c main_v55 (ix2 R f) = (args m c).ga R f := by
  rw [V_split, hD_v55, hC_v43]
  exact hB_v43 m c R f _ fun R q => hA_v23 m c R q
theorem V56_ix : V m c main_v56 (ix2 R f) = (args m c).gb R f := by
  rw [V_split, hD_v56, hC_v38]
  exact hB_v38 m c R f _ fun R q => hA_v23 m c R q
theorem V50_0 : V m c main_v50 (ix2 0 l) = (args m c).g l := by
  rw [V_split, hD_v50]
  pointwise
  rw [hC_v45, hB_arg1, hA_arg1]
  rfl
theorem V50_1 : V m c main_v50 (ix2 1 l) = (args m c).sh l := by
  rw [V_split, hD_v50]
  pointwise
  rw [hC_v46, hB_arg2, hA_arg2]
  rfl
theorem V50_2 : V m c main_v50 (ix2 2 l) = (args m c).sc l := by
  rw [V_split, hD_v50]
  pointwise
  rw [hC_v47, hB_arg3, hA_arg3]
  rfl
theorem V50_3 : V m c main_v50 (ix2 3 l) = (args m c).gate l := by
  rw [V_split, hD_v50]
  pointwise
  rw [hC_v48, hB_arg4, hA_arg4]
  rfl

end Cert.FfnBwdIdeal.Gen
-- ==== Proof.FfnValue.lean ====
/-
  What the kernel of `FfnBwd` leaves in its four result arrays on the ideal instance, as the row functions of `FfnRows`.
-/
module

public import proofs.«01_k».proof.Proof.FfnPointIx
public import proofs.«01_k».proof.Proof.FfnHost
public import proofs.«01_k».proof.Proof.Gen.FfnBwdIdeal.Value
public import Idealize.ShloMosaic.Lib.Pipeline.ValueKit

@[expose] public section

set_option maxRecDepth 16384

noncomputable section

namespace Cert.FfnBwdIdeal.Gen

open Idealize.ShloMosaic Idealize.ShloMosaic.TcCoe Idealize.ShloMosaic.Tactic
open Idealize.SL Idealize.SL.Sem

/-- The tile of rows the point works on. -/
def tile (t : Fin cfg0.N) : Fin 32 := ⟨t.val, lt_of_lt_of_eq t.isLt N_0⟩

theorem idx : ∀ t : Fin cfg0.N, win0_0.index t = ![t.val, 0] ∧
    win0_1.index t = ![t.val, 0] ∧
    win0_2.index t = ![0, 0] ∧
    win0_3.index t = ![0, 0] ∧
    win0_4.index t = ![0, 0] ∧
    win0_5.index t = ![t.val, 0] ∧
    win0_6.index t = ![t.val, 0] ∧
    win0_7.index t = ![t.val, 0] ∧
    win0_8.index t = ![t.val, 0] ∧
    win0_9.index t = ![t.val, 0] ∧
    win0_10.index t = ![t.val, 0] :=
  (by decide +kernel : ∀ t : Fin grid0.N, _)

section
variable (m : (ℓ : Loc nD τ sig) → Buf (Elt Ideal) ℓ) (c : Dev nD) (t : Fin cfg0.N) (r : Fin 256) (l : Fin 1024) (q : Fin 5632) (f : Fin 2816) (e : Fin 8)

theorem blk0 : iblk m c 0 t (ix2 r l) = V m c main_arg7 (ix2 ⟨256 * (tile t).val + r.val, by omega⟩ l) := by
  blk_ext [iblk, tile, idx t]
theorem blk1 : iblk m c 1 t (ix2 r l) = V m c main_v51 (ix2 ⟨256 * (tile t).val + r.val, by omega⟩ l) := by
  blk_ext [iblk, tile, idx t]
theorem blk2 : iblk m c 2 t (ix2 e l) = V m c main_v50 (ix2 e l) := by
  blk_ext [iblk, idx t]
theorem blk3 : iblk m c 3 t (ix2 f l) = V m c main_v52 (ix2 f l) := by
  blk_ext [iblk, idx t]
theorem blk4 : iblk m c 4 t (ix2 q l) = V m c main_v54 (ix2 q l) := by
  blk_ext [iblk, idx t]
theorem blk5 : iblk m c 5 t (ix2 r f) = V m c main_v55 (ix2 ⟨256 * (tile t).val + r.val, by omega⟩ f) := by
  blk_ext [iblk, tile, idx t]
theorem blk6 : iblk m c 6 t (ix2 r f) = V m c main_v56 (ix2 ⟨256 * (tile t).val + r.val, by omega⟩ f) := by
  blk_ext [iblk, tile, idx t]
theorem blk7 : iblk m c 7 t (ix2 r l) = V m c main_arg0 (ix2 ⟨256 * (tile t).val + r.val, by omega⟩ l) := by
  blk_ext [iblk, tile, idx t]

theorem holds : Holds (args m c) (tile t) (iblk m c 0 t) (iblk m c 1 t) (iblk m c 2 t) (iblk m c 3 t) (iblk m c 4 t) (iblk m c 5 t) (iblk m c 6 t) (iblk m c 7 t) where
  h0 r l := (blk0 m c t r l).trans (congrFun (V_main_arg7 m c) _)
  h1 r l := (blk1 m c t r l).trans (V51_ix m c _ l)
  h20 l := (blk2 m c t l 0).trans (V50_0 m c l)
  h22 l := (blk2 m c t l 2).trans (V50_2 m c l)
  h23 l := (blk2 m c t l 3).trans (V50_3 m c l)
  h3 f l := (blk3 m c t l f).trans (V52_ix m c l f)
  h4 q l := (blk4 m c t l q).trans (V54_ix m c l q)
  h5 r f := (blk5 m c t r f).trans (V55_ix m c _ f)
  h6 r f := (blk6 m c t r f).trans (V56_ix m c _ f)
  h7 r l := (blk7 m c t r l).trans (congrFun (V_main_arg0 m c) _)

theorem outs_first (h : t.val = 0) : outsAt0 m c t.val t.isLt =
    (k0_pay3 (iblk m c 0 t) (row3 (iblk m c 2 t)), ptDAB (iblk m c 0 t) (iblk m c 2 t) (iblk m c 3 t) (iblk m c 5 t) (iblk m c 6 t), pt10 (iblk m c 0 t) (iblk m c 2 t) (iblk m c 3 t) (iblk m c 4 t) (iblk m c 5 t) (iblk m c 6 t) (iblk m c 7 t), pt11 (iblk m c 0 t) (iblk m c 1 t) (iblk m c 2 t) (iblk m c 3 t) (iblk m c 4 t) (iblk m c 5 t) (iblk m c 6 t) (iblk m c 7 t)) := by
  rw [outsAt0_A m c t (by omega) (by omega)]
  rw [out0_A_8_eq, out0_A_9_eq, out0_A_10_eq, out0_A_11_eq]

theorem outs_next (h : ¬t.val = 0) : outsAt0 m c t.val t.isLt =
    (k0_pay3 (iblk m c 0 t) (row3 (iblk m c 2 t)), ptDAB (iblk m c 0 t) (iblk m c 2 t) (iblk m c 3 t) (iblk m c 5 t) (iblk m c 6 t), pt10 (iblk m c 0 t) (iblk m c 2 t) (iblk m c 3 t) (iblk m c 4 t) (iblk m c 5 t) (iblk m c 6 t) (iblk m c 7 t), addf (outsAt0 m c (t.val - 1) (Nat.lt_of_le_of_lt (Nat.sub_le _ _) t.isLt)).2.2.2 (pt11 (iblk m c 0 t) (iblk m c 1 t) (iblk m c 2 t) (iblk m c 3 t) (iblk m c 4 t) (iblk m c 5 t) (iblk m c 6 t) (iblk m c 7 t))) := by
  have hN : t.val < 32 := lt_of_lt_of_eq t.isLt N_0
  rw [outsAt0_B m c t (by omega) (by omega)]
  rw [out0_B_8_eq, out0_B_9_eq, out0_B_10_eq, out0_B_11_eq]

theorem outs8_ix : (outsAt0 m c t.val t.isLt).1 (ix2 r l) = (args m c).dy ⟨256 * (tile t).val + r.val, by omega⟩ l := by
  refine Eq.trans ?_ (pt8_ix (holds m c t) r l)
  by_cases h : t.val = 0
  · rw [outs_first m c t h]
  · rw [outs_next m c t h]

theorem outs9_ix : (outsAt0 m c t.val t.isLt).2.1 (ix2 r q) = (args m c).dab ⟨256 * (tile t).val + r.val, by omega⟩ q := by
  refine Eq.trans ?_ (ptDAB_ix (holds m c t) r q)
  by_cases h : t.val = 0
  · rw [outs_first m c t h]
  · rw [outs_next m c t h]

theorem outs10_ix : (outsAt0 m c t.val t.isLt).2.2.1 (ix2 r l) = (args m c).dx ⟨256 * (tile t).val + r.val, by omega⟩ l := by
  refine Eq.trans ?_ (pt10_ix (holds m c t) r l)
  by_cases h : t.val = 0
  · rw [outs_first m c t h]
  · rw [outs_next m c t h]

theorem outs11_first (h : t.val % 32 = 0) : (outsAt0 m c t.val t.isLt).2.2.2 (ix2 e l) = 0 + ∑ r : Fin 256, (args m c).partRow e ⟨256 * (tile t).val + r.val, by omega⟩ l := by
  have hN : t.val < 32 := lt_of_lt_of_eq t.isLt N_0
  rw [zero_add (M := EReal), ← pt11_ix (holds m c t) l e, outs_first m c t (by omega)]
theorem outs11_next (h : ¬t.val % 32 = 0) : (outsAt0 m c t.val t.isLt).2.2.2 (ix2 e l) =
    (outsAt0 m c (t.val - 1) (Nat.lt_of_le_of_lt (Nat.sub_le _ _) t.isLt)).2.2.2 (ix2 e l) + ∑ r : Fin 256, (args m c).partRow e ⟨256 * (tile t).val + r.val, by omega⟩ l := by
  have hN : t.val < 32 := lt_of_lt_of_eq t.isLt N_0
  rw [← pt11_ix (holds m c t) l e, outs_next m c t (by omega)]
  rfl

/-- The points' tiles run over all rows. -/
theorem sum_tiles (f : Fin 8192 → EReal) : ∑ t : Fin cfg0.N, ∑ r : Fin 256, f ⟨256 * (tile t).val + r.val, by omega⟩ = ∑ R : Fin 8192, f R := by
  refine Eq.trans ?_ (Fin.sum_mul_add_fin 32 256 f rfl)
  refine Eq.trans (b := ∑ t : Fin 32, ∑ r : Fin 256, f ⟨256 * t.val + r.val, by omega⟩) rfl ?_
  refine Finset.sum_congr rfl fun t _ => Finset.sum_congr rfl fun r _ => congrArg f (Fin.ext ?_)
  show 256 * t.val + r.val = t.val * 256 + r.val
  omega

theorem outs11_last (h : t.val + 1 = cfg0.N) : (outsAt0 m c t.val t.isLt).2.2.2 (ix2 e l) = (args m c).part e l := by
  refine (Pipeline.eq_sum_fin_of_reset_step_apply_last (M := EReal) (fun n h (i : Fin 8 × Fin 1024) => (outsAt0 m c n h).2.2.2 (ix2 i.1 i.2)) 32 (fun _ => 0)
    (fun t i => ∑ r : Fin 256, (args m c).partRow i.1 ⟨256 * (tile t).val + r.val, by omega⟩ i.2)
    (fun t h i => outs11_first m c t i.2 i.1 h) (fun t h i => outs11_next m c t i.2 i.1 h) N_0.le t h (e, l)).trans ?_
  rw [zero_add (M := EReal)]
  exact sum_tiles fun R => (args m c).partRow e R l

theorem arr8 : (dats m 0 c).arrAt 8 cfg0.N = fun i => (args m c).dy (i 0) (i 1) := by
  refine (dats m 0 c).arrAt_eq_of_covers 8 _ (by decide +kernel) fun t hf y => ?_
  blk_simp
  rw [after0_8]
  refine (congrArg _ (eq_ix2 _)).trans ((outs8_ix m c t _ _).trans ?_)
  exact congrArg (fun i : (⟨2, ![8192, 1024]⟩ : Shape).Idx => (args m c).dy (i 0) (i 1)) (a₁ := ix2 _ _) (by blk_ext [tile, idx t])
theorem arr9 : (dats m 0 c).arrAt 9 cfg0.N = fun i => (args m c).dab (i 0) (i 1) := by
  refine (dats m 0 c).arrAt_eq_of_covers 9 _ (by decide +kernel) fun t hf y => ?_
  blk_simp
  rw [after0_9]
  refine (congrArg _ (eq_ix2 _)).trans ((outs9_ix m c t _ _).trans ?_)
  exact congrArg (fun i : (⟨2, ![8192, 5632]⟩ : Shape).Idx => (args m c).dab (i 0) (i 1)) (a₁ := ix2 _ _) (by blk_ext [tile, idx t])
theorem arr10 : (dats m 0 c).arrAt 10 cfg0.N = fun i => (args m c).dx (i 0) (i 1) := by
  refine (dats m 0 c).arrAt_eq_of_covers 10 _ (by decide +kernel) fun t hf y => ?_
  blk_simp
  rw [after0_10]
  refine (congrArg _ (eq_ix2 _)).trans ((outs10_ix m c t _ _).trans ?_)
  exact congrArg (fun i : (⟨2, ![8192, 1024]⟩ : Shape).Idx => (args m c).dx (i 0) (i 1)) (a₁ := ix2 _ _) (by blk_ext [tile, idx t])
theorem arr11 : (dats m 0 c).arrAt 11 cfg0.N = fun i => (args m c).part (i 0) (i 1) := by
  refine (dats m 0 c).arrAt_eq_of_after_last 11 ⟨31, by decide⟩ (by decide +kernel) _ fun j => ?_
  refine (congrFun (after0_11 m c _) _).trans ((congrArg _ (eq_ix2 _)).trans ((outs11_last m c ⟨31, by decide⟩ _ _ rfl).trans ?_))
  blk_simp
  rfl

end
end Cert.FfnBwdIdeal.Gen
-- ==== Proof.FfnRefValue.lean ====
/-
  The feed-forward reference's results at an index: the row functions of `FfnRows` of its arguments.
-/
module

public import proofs.«01_k».proof.Proof.Gen.FfnRefIdeal.Run
public import proofs.«01_k».proof.Proof.FfnRows
public import Idealize.ShloMosaic.Lib.Pointwise

@[expose] public section

set_option maxRecDepth 16384

noncomputable section

namespace Cert.FfnRefIdeal.Value

open Cert.FfnRefIdeal Cert.FfnRefIdeal.Gen Idealize.ShloMosaic Idealize.ShloMosaic.TcCoe Idealize.ShloMosaic.Tactic Idealize.SL.Sem

variable (V0 : Valuation τ sig (Elt Ideal))

/-- The reference's arguments as rows. -/
def args : Cert.Ffn.Args where
  x R l := V0 (Proc.devRef .tc main_arg0) (ix2 R l)
  dxo R l := V0 (Proc.devRef .tc main_arg7) (ix2 R l)
  g l := V0 (Proc.devRef .tc main_arg1) (ix1 l)
  sh l := V0 (Proc.devRef .tc main_arg2) (ix1 l)
  sc l := V0 (Proc.devRef .tc main_arg3) (ix1 l)
  gate l := V0 (Proc.devRef .tc main_arg4) (ix1 l)
  win k j := V0 (Proc.devRef .tc main_arg5) (ix2 k j)
  wo k j := V0 (Proc.devRef .tc main_arg6) (ix2 k j)

/-! ### The program's values, each of the earlier ones -/

def v8 : FVec Ideal S8192x1 .f32 := addf (Host.divf (broadcastInDim S8192x1 ![0] bcast_S8192_S8192x1_0 ((fun x v => Host.reduceAdd x v reducesTo_S8192x1024_S8192_d1 h_S_) (mulf (V0 (Proc.devRef .tc main_arg0)) (V0 (Proc.devRef .tc main_arg0))) (constant S_ .f32 0x00000000#32))) (broadcastInDim S8192x1 ![] bcast_S_S8192x1 (constant S_ .f32 0x44800000#32))) (broadcastInDim S8192x1 ![] bcast_S_S8192x1 (constant S_ .f32 0x3727C5AC#32))
def v9 : FVec Ideal S8192x1 .f32 := Host.rsqrt (v8 V0)
def v14 : FVec Ideal S8192x1024 .f32 := mulf (V0 (Proc.devRef .tc main_arg0)) (broadcastInDim S8192x1024 ![0, 1] bcast_S8192x1_S8192x1024_0_1 (v9 V0))
def v15 : FVec Ideal S1x1024 .f32 := broadcastInDim S1x1024 ![1] bcast_S1024_S1x1024_1 (V0 (Proc.devRef .tc main_arg1))
def v17 : FVec Ideal S8192x1024 .f32 := mulf (v14 V0) (broadcastInDim S8192x1024 ![0, 1] bcast_S1x1024_S8192x1024_0_1 (v15 V0))
def v20 : FVec Ideal S1x1024 .f32 := addf (broadcastInDim S1x1024 ![] bcast_S_S1x1024 (constant S_ .f32 0x3F800000#32)) (broadcastInDim S1x1024 ![1] bcast_S1024_S1x1024_1 (V0 (Proc.devRef .tc main_arg3)))
def v25 : FVec Ideal S8192x1024 .f32 := addf (mulf (v17 V0) (broadcastInDim S8192x1024 ![0, 1] bcast_S1x1024_S8192x1024_0_1 (v20 V0))) (broadcastInDim S8192x1024 ![0, 1] bcast_S1x1024_S8192x1024_0_1 (broadcastInDim S1x1024 ![1] bcast_S1024_S1x1024_1 (V0 (Proc.devRef .tc main_arg2))))
def v27 : FVec Ideal S8192x5632 .f32 := addf (Host.dotGeneral (φ₁ := .f32) (φ₂ := .f32) dot_S8192x1024_S1024x5632_S8192x5632_1_0_0_1_n_n none (v25 V0) (V0 (Proc.devRef .tc main_arg5))) (broadcastInDim S8192x5632 ![] bcast_S_S8192x5632 (constant S_ .f32 0x00000000#32))
def v28 : FVec Ideal S8192x2816 .f32 := (extractStridedSlice S8192x2816 ![0, 0] (v27 V0) slices_S8192x5632_S8192x2816_0_0)
def v29 : FVec Ideal S8192x2816 .f32 := (extractStridedSlice S8192x2816 ![0, 2816] (v27 V0) slices_S8192x5632_S8192x2816_0_2816)
def v35 : FVec Ideal S8192x2816 .f32 := Host.divf (broadcastInDim S8192x2816 ![] bcast_S_S8192x2816 (constant S_ .f32 0x3F800000#32)) (addf (broadcastInDim S8192x2816 ![] bcast_S_S8192x2816 (constant S_ .f32 0x3F800000#32)) (Host.exp (Host.negf (v28 V0))))
def v38 : FVec Ideal S8192x2816 .f32 := mulf (v35 V0) (subf (broadcastInDim S8192x2816 ![] bcast_S_S8192x2816 (constant S_ .f32 0x3F800000#32)) (v35 V0))
def v39 : FVec Ideal S8192x2816 .f32 := mulf (v28 V0) (v35 V0)
def v40 : FVec Ideal S8192x2816 .f32 := mulf (v39 V0) (v29 V0)
def v42 : FVec Ideal S8192x1024 .f32 := addf (Host.dotGeneral (φ₁ := .f32) (φ₂ := .f32) dot_S8192x2816_S2816x1024_S8192x1024_1_0_0_1_n_n none (v40 V0) (V0 (Proc.devRef .tc main_arg6))) (broadcastInDim S8192x1024 ![] bcast_S_S8192x1024 (constant S_ .f32 0x00000000#32))
def v47 : FVec Ideal S1x1024 .f32 := mulf (broadcastInDim S1x1024 ![] bcast_S_S1x1024 (constant S_ .f32 0x3F000000#32)) (broadcastInDim S1x1024 ![1] bcast_S1024_S1x1024_1 (addf (broadcastInDim S1024 ![] bcast_S_S1024 (constant S_ .f32 0x3F800000#32)) (V0 (Proc.devRef .tc main_arg4))))
def v51 : FVec Ideal S8192x1024 .f32 := shapeCast S8192x1024 (V0 (Proc.devRef .tc main_arg7)) shapeCasts_S8192x1024_S8192x1024
def v53 : FVec Ideal S8192x1024 .f32 := mulf (broadcastInDim S8192x1024 ![0, 1] bcast_S1x1024_S8192x1024_0_1 (v47 V0)) (v51 V0)
def v62 : FVec Ideal S8192x2816 .f32 := Host.dotGeneral (φ₁ := .f32) (φ₂ := .f32) dot_S8192x1024_S2816x1024_S8192x2816_1_1_0_0_n_n none (v53 V0) (V0 (Proc.devRef .tc main_arg6))
def v64 : FVec Ideal S8192x2816 .f32 := mulf (v62 V0) (v29 V0)
def v68 : FVec Ideal S8192x2816 .f32 := addf (mulf (v64 V0) (v35 V0)) (mulf (mulf (v28 V0) (v64 V0)) (v38 V0))
def v69 : FVec Ideal S8192x5632 .f32 := (fun a b => concatenate S8192x5632 1 [⟨S8192x2816, a⟩, ⟨S8192x2816, b⟩] concatenates_S8192x2816_S8192x2816_S8192x5632_d1) (v68 V0) (mulf (v39 V0) (v62 V0))
def v72 : FVec Ideal S8192x1024 .f32 := Host.dotGeneral (φ₁ := .f32) (φ₂ := .f32) dot_S8192x5632_S1024x5632_S8192x1024_1_1_0_0_n_n none (v69 V0) (V0 (Proc.devRef .tc main_arg5))
def v80 : FVec Ideal S8192x1024 .f32 := mulf (v72 V0) (broadcastInDim S8192x1024 ![0, 1] bcast_S1x1024_S8192x1024_0_1 (v20 V0))
def v86 : FVec Ideal S8192x1024 .f32 := mulf (v80 V0) (broadcastInDim S8192x1024 ![0, 1] bcast_S1x1024_S8192x1024_0_1 (v15 V0))
def v96 : FVec Ideal S8192x1 .f32 := Host.divf (mulf (shapeCast S8192x1 ((fun x v => Host.reduceAdd x v reducesTo_S8192x1024_S8192_d1 h_S_) (mulf (V0 (Proc.devRef .tc main_arg0)) (v86 V0)) (constant S_ .f32 0x00000000#32)) shapeCasts_S8192_S8192x1) (mulf (broadcastInDim S8192x1 ![] bcast_S_S8192x1 (constant S_ .f32 0xBF000000#32)) (Host.divf (v9 V0) (v8 V0)))) (broadcastInDim S8192x1 ![] bcast_S_S8192x1 (constant S_ .f32 0x44800000#32))
def v98 : FVec Ideal S8192x1024 .f32 := broadcastInDim S8192x1024 ![0] bcast_S8192_S8192x1024_0 ((fun x v => Host.reduceAdd x v reducesTo_S8192x1_S8192_d1 h_S_) (v96 V0) (constant S_ .f32 0x00000000#32))
def v102 : FVec Ideal S8192x1024 .f32 := addf (addf (addf (V0 (Proc.devRef .tc main_arg7)) (mulf (v86 V0) (broadcastInDim S8192x1024 ![0, 1] bcast_S8192x1_S8192x1024_0_1 (v9 V0)))) (mulf (V0 (Proc.devRef .tc main_arg0)) (v98 V0))) (mulf (v98 V0) (V0 (Proc.devRef .tc main_arg0)))
def v108 : FVec Ideal S8x1024 .f32 := concatenate S8x1024 0 [⟨S1x1024, (broadcastInDim S1x1024 ![1] bcast_S1024_S1x1024_1 ((fun x v => Host.reduceAdd x v reducesTo_S1x1024_S1024_d0 h_S_) (shapeCast S1x1024 ((fun x v => Host.reduceAdd x v reducesTo_S8192x1024_S1024_d0 h_S_) (mulf (v14 V0) (v80 V0)) (constant S_ .f32 0x00000000#32)) shapeCasts_S1024_S1x1024) (constant S_ .f32 0x00000000#32)))⟩, ⟨S1x1024, (broadcastInDim S1x1024 ![1] bcast_S1024_S1x1024_1 ((fun x v => Host.reduceAdd x v reducesTo_S1x1024_S1024_d0 h_S_) (shapeCast S1x1024 ((fun x v => Host.reduceAdd x v reducesTo_S8192x1024_S1024_d0 h_S_) (v72 V0) (constant S_ .f32 0x00000000#32)) shapeCasts_S1024_S1x1024) (constant S_ .f32 0x00000000#32)))⟩, ⟨S1x1024, (broadcastInDim S1x1024 ![1] bcast_S1024_S1x1024_1 ((fun x v => Host.reduceAdd x v reducesTo_S1x1024_S1024_d0 h_S_) (shapeCast S1x1024 ((fun x v => Host.reduceAdd x v reducesTo_S8192x1024_S1024_d0 h_S_) (mulf (v17 V0) (v72 V0)) (constant S_ .f32 0x00000000#32)) shapeCasts_S1024_S1x1024) (constant S_ .f32 0x00000000#32)))⟩, ⟨S1x1024, (broadcastInDim S1x1024 ![1] bcast_S1024_S1x1024_1 ((fun x v => Host.reduceAdd x v reducesTo_S1x1024_S1024_d0 h_S_) (mulf (broadcastInDim S1x1024 ![] bcast_S_S1x1024 (constant S_ .f32 0x3F000000#32)) (shapeCast S1x1024 ((fun x v => Host.reduceAdd x v reducesTo_S8192x1024_S1024_d0 h_S_) (mulf (v51 V0) (v42 V0)) (constant S_ .f32 0x00000000#32)) shapeCasts_S1024_S1x1024)) (constant S_ .f32 0x00000000#32)))⟩, ⟨S4x1024, (broadcastInDim S4x1024 ![] bcast_S_S4x1024 (constant S_ .f32 0x00000000#32))⟩] concatenates_S1x1024_S1x1024_S1x1024_S1x1024_S4x1024_S8x1024_d0
def v109 : FVec Ideal S8192x1024 .bf16 := (truncf .bf16 (v53 V0) bitsLt_bf16_f32)
def v110 : FVec Ideal S8192x5632 .bf16 := (truncf .bf16 (v69 V0) bitsLt_bf16_f32)

variable (R : Fin 8192) (l : Fin 1024) (q : Fin 5632) (f : Fin 2816) (e : Fin 8)

theorem v8_ix (z : Fin 1) : v8 V0 (ix2 R z) = Cert.Conv.ms ((args V0).x R) := by
  pointwise [v8]
  rfl
theorem v9_ix (z : Fin 1) : v9 V0 (ix2 R z) = Cert.Conv.rs ((args V0).x R) := by
  pointwise [v9, v8_ix]
  rfl
theorem v14_ix : v14 V0 (ix2 R l) = (args V0).x R l * Cert.Conv.rs ((args V0).x R) := by
  pointwise [v14, v9_ix]
  rfl
theorem v15_ix (z : Fin 1) : v15 V0 (ix2 z l) = (args V0).g l := by
  pointwise [v15]
  rfl
theorem v17_ix : v17 V0 (ix2 R l) = (args V0).x R l * Cert.Conv.rs ((args V0).x R) * (args V0).g l := by
  pointwise [v17, v14_ix, v15_ix]
theorem v20_ix (z : Fin 1) : v20 V0 (ix2 z l) = 1 + (args V0).sc l := by
  pointwise [v20]
  rfl
theorem v25_ix : v25 V0 (ix2 R l) = (args V0).h R l := by
  pointwise [v25, v17_ix, v20_ix]
  rfl
theorem v27_ix : v27 V0 (ix2 R q) = (args V0).ab R q := by
  pointwise [v27, v25_ix]
  rfl
theorem v28_ix : v28 V0 (ix2 R f) = (args V0).a R f := by
  pointwise [v28, v27_ix]
  rfl
theorem v29_ix : v29 V0 (ix2 R f) = (args V0).b R f := by
  pointwise [v29, v27_ix]
  rfl
theorem v35_ix : v35 V0 (ix2 R f) = Cert.Ffn.sg ((args V0).a R f) := by
  pointwise [v35, v28_ix]
  rfl
theorem v38_ix : v38 V0 (ix2 R f) = (args V0).t R f := by
  pointwise [v38, v35_ix]
  rfl
theorem v39_ix : v39 V0 (ix2 R f) = (args V0).gb R f := by
  pointwise [v39, v28_ix, v35_ix]
  rfl
theorem v40_ix : v40 V0 (ix2 R f) = (args V0).gb R f * (args V0).b R f := by
  pointwise [v40, v39_ix, v29_ix]
theorem v42_ix : v42 V0 (ix2 R l) = (args V0).y R l := by
  pointwise [v42, v40_ix]
  rfl
theorem v47_ix (z : Fin 1) : v47 V0 (ix2 z l) = Cert.Ffn.half * (1 + (args V0).gate l) := by
  pointwise [v47]
  rfl
theorem v51_ix : v51 V0 (ix2 R l) = (args V0).dxo R l := by
  pointwise [v51]
  rfl
theorem v53_ix : v53 V0 (ix2 R l) = (args V0).dy R l := by
  pointwise [v53, v47_ix, v51_ix]
  exact mul_comm (G := EReal) _ _
theorem v62_ix : v62 V0 (ix2 R f) = (args V0).du R f := by
  pointwise [v62, v53_ix]
  rfl
theorem v64_ix : v64 V0 (ix2 R f) = (args V0).du R f * (args V0).b R f := by
  pointwise [v64, v62_ix, v29_ix]
theorem v68_ix (hg : (args V0).GateEq) : v68 V0 (ix2 R f) = (args V0).du R f * (args V0).ga R f := by
  pointwise [v68, v64_ix, v35_ix, v28_ix, v38_ix]
  exact hg R f
variable (hg : (args V0).GateEq)
include hg
theorem v69_ix : v69 V0 (ix2 R q) = (args V0).dab R q := by
  pointwise [v69, v68_ix V0 _ _ hg, v39_ix, v62_ix]
  unfold Cert.Ffn.Args.dab
  refine dite_congr rfl (fun _ => rfl) fun _ => mul_comm (G := EReal) _ _
theorem v72_ix : v72 V0 (ix2 R l) = (args V0).dh R l := by
  pointwise [v72, v69_ix V0 _ _ hg]
  rfl
theorem v80_ix : v80 V0 (ix2 R l) = (args V0).dh R l * (1 + (args V0).sc l) := by
  pointwise [v80, v72_ix V0 _ _ hg, v20_ix]
theorem v86_ix : v86 V0 (ix2 R l) = (args V0).dn R l := by
  pointwise [v86, v80_ix V0 _ _ hg, v15_ix]
  rfl
theorem v96_ix (z : Fin 1) : v96 V0 (ix2 R z) = Cert.Conv.cc ((args V0).x R) ((args V0).dn R) := by
  pointwise [v96, v86_ix V0 _ _ hg, v9_ix, v8_ix]
  rfl
theorem v98_ix : v98 V0 (ix2 R l) = Cert.Conv.cc ((args V0).x R) ((args V0).dn R) := by
  pointwise [v98, v96_ix V0 _ hg]
  rw [Fin.sum_univ_one]
theorem v102_ix : v102 V0 (ix2 R l) = (args V0).dx R l := by
  pointwise [v102, v86_ix V0 _ _ hg, v98_ix V0 _ _ hg, v9_ix]
  unfold Cert.Ffn.Args.dx
  rw [add_assoc (G := EReal), add_assoc (G := EReal), add_assoc (G := EReal)]
  rfl
theorem v110_ix : v110 V0 (ix2 R q) = (args V0).dab R q := by
  pointwise [v110, v69_ix V0 _ _ hg]
theorem v108_ix : v108 V0 (ix2 e l) = (args V0).part e l := by
  pointwise [v108, v14_ix, v17_ix, v51_ix, v42_ix, v80_ix V0 _ _ hg, v72_ix V0 _ _ hg]
  simp only [Fin.sum_univ_one]
  unfold Cert.Ffn.Args.part Cert.Ffn.Args.partRow
  split
  · rfl
  split
  · rfl
  split
  · rfl
  split
  · exact Cert.Ffn.half_mul_sum _
  · exact (Finset.sum_const_zero (M := EReal)).symm
omit hg
theorem v109_ix : v109 V0 (ix2 R l) = (args V0).dy R l := by
  pointwise [v109, v53_ix]

/-! ### The run's values are these -/

theorem run_v102 (m : (ℓ : Loc nD τ sig) → Buf (Elt Ideal) ℓ) (c : Dev nD) : res_main_v102 m c = v102 (StableHlo.launchContents m c) := rfl
theorem run_v108 (m : (ℓ : Loc nD τ sig) → Buf (Elt Ideal) ℓ) (c : Dev nD) : res_main_v108 m c = v108 (StableHlo.launchContents m c) := rfl
theorem run_v110 (m : (ℓ : Loc nD τ sig) → Buf (Elt Ideal) ℓ) (c : Dev nD) : res_main_v110 m c = v110 (StableHlo.launchContents m c) := rfl

end Cert.FfnRefIdeal.Value
-- ==== Proof.FfnFinite.lean ====
/-
  From finite arguments to a gated product's derivative that may be multiplied as a whole or part by part: sums, products
  and the norm of reals are reals, and so is the logistic function of a real.
-/
module

public import proofs.«01_k».proof.Proof.FfnRows
public import Idealize.ShloMosaic.Lib.Pointwise

@[expose] public section

noncomputable section

namespace Cert.Ffn

open Idealize.ShloMosaic

/-- Neither infinity. -/
def Re (x : EReal) : Prop := ∃ r : ℝ, x = (r : EReal)

namespace Re
theorem coe (r : ℝ) : Re (r : EReal) := ⟨r, rfl⟩
theorem one : Re 1 := ⟨1, by norm_cast⟩
theorem add {x y : EReal} : Re x → Re y → Re (x + y) := by
  rintro ⟨a, rfl⟩ ⟨b, rfl⟩
  exact ⟨a + b, (EReal.coe_add a b).symm⟩
theorem mul {x y : EReal} : Re x → Re y → Re (x * y) := by
  rintro ⟨a, rfl⟩ ⟨b, rfl⟩
  exact ⟨a * b, (EReal.coe_mul a b).symm⟩
theorem sum {ι : Type} [Fintype ι] {f : ι → EReal} (h : ∀ i, Re (f i)) : Re (∑ i, f i) := by
  choose g hg using h
  refine ⟨∑ i, g i, ?_⟩
  rw [show f = fun i => (g i : EReal) from funext hg]
  exact (map_sum (⟨⟨Real.toEReal, EReal.coe_zero⟩, EReal.coe_add⟩ : ℝ →+ EReal) g Finset.univ).symm
end Re

theorem half_re : Re half := by rw [half_eq]; exact Re.coe _

theorem eps_pos : ∃ r : ℝ, 0 < r ∧ Cert.Conv.eps = (r : EReal) := by
  refine ⟨_, ?_, by simp [Cert.Conv.eps, Ideal.ofBits, Ideal.ieee, -EReal.coe_mul]; rfl⟩
  positivity
theorem n1024_eq : Cert.Conv.n1024 = ((1024 : ℝ) : EReal) := by
  simp [Cert.Conv.n1024, Ideal.ofBits, Ideal.ieee, -EReal.coe_mul]; norm_num

theorem ms_pos {v : Fin 1024 → EReal} (h : ∀ k, Re (v k)) : ∃ r : ℝ, 0 < r ∧ Cert.Conv.ms v = (r : EReal) := by
  choose g hg using h
  obtain ⟨e, he, heq⟩ := eps_pos
  have hs : (∑ k, v k * v k) = ((∑ k, g k * g k : ℝ) : EReal) := by
    rw [show (fun k => v k * v k) = fun k => ((g k * g k : ℝ) : EReal) from funext fun k => by rw [hg k, EReal.coe_mul]]
    exact (map_sum (⟨⟨Real.toEReal, EReal.coe_zero⟩, EReal.coe_add⟩ : ℝ →+ EReal) (fun k => g k * g k) Finset.univ).symm
  refine ⟨(∑ k, g k * g k) * (1024 : ℝ)⁻¹ + e, add_pos_of_nonneg_of_pos (mul_nonneg (Finset.sum_nonneg fun k _ => mul_self_nonneg _) (by norm_num)) he, ?_⟩
  unfold Cert.Conv.ms Ideal.div
  rw [hs, heq, n1024_eq, if_neg (by norm_cast), EReal.coe_add, EReal.coe_mul, EReal.coe_inv]

theorem rs_re {v : Fin 1024 → EReal} (h : ∀ k, Re (v k)) : Re (Cert.Conv.rs v) := by
  obtain ⟨r, hr, he⟩ := ms_pos h
  unfold Cert.Conv.rs
  rw [he]
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

theorem sg_re {x : EReal} : Re x → Re (sg x) := by
  rintro ⟨a, rfl⟩
  refine ⟨(1 + Real.exp (-a))⁻¹, ?_⟩
  unfold sg Ideal.div
  have he : Ideal.exp (-(a : EReal)) = ((Real.exp (-a) : ℝ) : EReal) := by rw [← EReal.coe_neg]; rfl
  have hs : (1 : EReal) + ((Real.exp (-a) : ℝ) : EReal) = ((1 + Real.exp (-a) : ℝ) : EReal) := by rw [EReal.coe_add]; norm_cast
  rw [he, hs, if_neg (by have := Real.exp_pos (-a); norm_cast; positivity), one_mul, EReal.coe_inv]

/-- Every element of the arguments is a real. -/
structure Args.Finite (A : Args) : Prop where
  x : ∀ R l, Re (A.x R l)
  dxo : ∀ R l, Re (A.dxo R l)
  g : ∀ l, Re (A.g l)
  sh : ∀ l, Re (A.sh l)
  sc : ∀ l, Re (A.sc l)
  gate : ∀ l, Re (A.gate l)
  win : ∀ k j, Re (A.win k j)
  wo : ∀ f l, Re (A.wo f l)

namespace Args.Finite
variable {A : Args} (H : A.Finite)
include H

theorem h_re (R : Fin 8192) (l : Fin 1024) : Re (A.h R l) :=
  ((((H.x R l).mul (rs_re (H.x R))).mul (H.g l)).mul (Re.one.add (H.sc l))).add (H.sh l)
theorem ab_re (R : Fin 8192) (j : Fin 5632) : Re (A.ab R j) := Re.sum fun k => (H.h_re R k).mul (H.win k j)
theorem du_re (R : Fin 8192) (f : Fin 2816) : Re (A.du R f) :=
  Re.sum fun k => ((H.dxo R k).mul (half_re.mul (Re.one.add (H.gate k)))).mul (H.wo f k)

theorem gateEq : A.GateEq := by
  intro R f
  have ha : Re (A.a R f) := H.ab_re R _
  have hb : Re (A.b R f) := H.ab_re R _
  obtain ⟨s, hs⟩ := sg_re ha
  obtain ⟨a, ha⟩ := ha
  obtain ⟨b, hb⟩ := hb
  obtain ⟨d, hd⟩ := H.du_re R f
  unfold Args.ga Args.t
  rw [hs, ha, hb, hd]
  norm_cast
  ring
end Args.Finite

end Cert.Ffn
-- ==== Proof.FfnPre.lean ====
/-
  The precondition read: every element of the feed-forward layer's arguments is a real.
-/
module

public import proofs.«01_k».proof.Defs
public import proofs.«01_k».proof.Proof.FfnFinite
public import proofs.«01_k».proof.Proof.FfnHost
public import proofs.«01_k».proof.Proof.Gen.Pre_ffn_finite

@[expose] public section

set_option maxRecDepth 16384

noncomputable section

namespace Cert.Ffn

open Idealize.ShloMosaic Idealize.SL.Sem Idealize.ShloMosaic.TcCoe

theorem andi_one {a b : BitVec 1} : IntOp.andi a b = 1#1 → a = 1#1 ∧ b = 1#1 := by
  revert a b
  decide

theorem foldl_andi {κ : Type} (g : κ → BitVec 1) (ks : List κ) (a : BitVec 1) :
    ks.foldl (fun r n => IntOp.andi r (g n)) a = 1#1 → a = 1#1 ∧ ∀ n ∈ ks, g n = 1#1 := by
  induction ks generalizing a with
  | nil => exact fun h => ⟨h, fun n hn => absurd hn List.not_mem_nil⟩
  | cons k ks ih =>
    intro h
    obtain ⟨h1, h2⟩ := ih _ h
    obtain ⟨h3, h4⟩ := andi_one h1
    refine ⟨h3, fun n hn => ?_⟩
    rcases List.mem_cons.mp hn with rfl | hn
    · exact h4
    · exact h2 n hn

/-- A conjunction over all of an array's elements, read at one. -/
theorem reduce_andi {s : Shape} {axes : List (Fin s.rank)} (x : IVec s 1) (v : IVec ⟨0, ![]⟩ 1) (h : s.ReducesTo axes ⟨0, ![]⟩)
    (hu : 0 < (⟨0, ![]⟩ : Shape).numel) (j : (⟨0, ![]⟩ : Shape).Idx) (H : Host.reduce IntOp.andi x v h hu j = 1#1) (i : s.Idx) : x i = 1#1 := by
  have := (foldl_andi (fun n => x (s.rowMajor.symm n)) _ _ H).2 (s.rowMajor i)
    (List.mem_filter.mpr ⟨List.mem_finRange _, by simpa using funext fun k => k.elim0⟩)
  simpa using this

/-- An element whose absolute value is below the infinity is a real. -/
theorem re_of_abs {s : Shape} (a : FVec Ideal s .f32) (hb : (⟨0, ![]⟩ : Shape).BroadcastsInDim s (![] : Fin 0 → Fin s.rank)) (i : s.Idx)
    (H : cmpf .olt (Host.absf a) (broadcastInDim s ![] hb (constant (F := Ideal) ⟨0, ![]⟩ .f32 0x7F800000#32)) i = 1#1) : Re (a i) := by
  have hi : Ideal.ofBits .f32 0x7F800000#32 = ⊤ := by simp [Ideal.ofBits, Ideal.ieee]
  have H' : BitVec.ofBool (decide (max (a i) (-(a i)) < Ideal.ofBits .f32 0x7F800000#32)) = 1#1 := H
  rw [hi] at H'
  have hlt : max (a i) (-(a i)) < (⊤ : EReal) := by
    by_contra hn
    rw [decide_eq_false hn] at H'
    exact absurd H' (by decide)
  obtain ⟨h1, h2⟩ := max_lt_iff.mp hlt
  refine ⟨(a i).toReal, (EReal.coe_toReal h1.ne fun hbot => ?_).symm⟩
  rw [hbot] at h2
  exact absurd h2 (by simp)

local instance : Cert.Pre_ffn_finite.Facts := Cert.Pre_ffn_finite.Gen.facts

open Cert.FfnBwdIdeal in
theorem finite_args (m : (ℓ : Loc nD τ sig) → Buf (Elt Ideal) ℓ) (H : Cert.Pre_FfnBwdIdeal_ffn_finite m) (c : Dev nD) : (Gen.args m c).Finite := by
  have h := congrFun (H c) ix0
  unfold Cert.Pre_ffn_finite.fn Cert.Pre_ffn_finite.fn_part1 Cert.Pre_ffn_finite.fn_part2 at h
  obtain ⟨h, h7⟩ := andi_one h
  obtain ⟨h, h6⟩ := andi_one h
  obtain ⟨h, h5⟩ := andi_one h
  obtain ⟨h, h4⟩ := andi_one h
  obtain ⟨h, h3⟩ := andi_one h
  obtain ⟨h, h2⟩ := andi_one h
  obtain ⟨h0, h1⟩ := andi_one h
  exact
    { x := fun R l => re_of_abs _ _ _ (reduce_andi _ _ _ _ _ h0 _)
      g := fun l => re_of_abs _ _ _ (reduce_andi _ _ _ _ _ h1 _)
      sh := fun l => re_of_abs _ _ _ (reduce_andi _ _ _ _ _ h2 _)
      sc := fun l => re_of_abs _ _ _ (reduce_andi _ _ _ _ _ h3 _)
      gate := fun l => re_of_abs _ _ _ (reduce_andi _ _ _ _ _ h4 _)
      win := fun k j => re_of_abs _ _ _ (reduce_andi _ _ _ _ _ h5 _)
      wo := fun f l => re_of_abs _ _ _ (reduce_andi _ _ _ _ _ h6 _)
      dxo := fun R l => re_of_abs _ _ _ (reduce_andi _ _ _ _ _ h7 _) }

end Cert.Ffn
-- ==== Proof.FfnClaim.lean ====
/-
  The claims about the feed-forward layer's backward call: the reference's frame, and that kernel and reference compute the
  same four arrays over the extended reals where the arguments are finite.
-/
module

public import proofs.«01_k».proof.Defs
public import proofs.«01_k».proof.Proof.FfnValue
public import proofs.«01_k».proof.Proof.FfnRefValue
public import proofs.«01_k».proof.Proof.FfnPre
public import Idealize.ShloMosaic.Lib.Quiescent

@[expose] public section

set_option maxRecDepth 16384

noncomputable section

namespace Cert.Proof.Ffn

open Idealize.ShloMosaic Idealize.SL.Sem Idealize.ShloMosaic.TcCoe
open Cert.FfnRefIdeal.Value (run_v102 run_v108 run_v110)

local instance : Cert.FfnBwdIdeal.Facts := Cert.FfnBwdIdeal.Gen.facts
local instance : Cert.FfnRefIdeal.Facts := Cert.FfnRefIdeal.Gen.facts
local instance : Cert.Pre_ffn_finite.Facts := Cert.Pre_ffn_finite.Gen.facts

/-- The reference ends with its arguments unchanged, and it has no semaphores. -/
theorem frame_ref : Cert.quiescent_FfnRefIdeal := fun m ρ _ =>
  (θ_run Cert.FfnRefIdeal.defs _ _).mono (fun r h => ⟨fun c => (h c).2.2.2.2, sem_eq_zero_of_no_sems (by decide) r.2⟩)
    (Cert.FfnRefIdeal.Value.run (F := Ideal) m ρ)

theorem algebraic : Cert.algebraic_FfnBwdIdeal_FfnRefIdeal_pre_ffn_finite := by
  intro m ρ m' ρ' hpre hag
  have hA : ∀ c, Cert.FfnRefIdeal.Value.args (StableHlo.launchContents m' c) = Cert.FfnBwdIdeal.Gen.args m c := fun c => by
    obtain ⟨h0, h1, h2, h3, h4, h5, h6, h7⟩ := hag c
    unfold Cert.FfnRefIdeal.Value.args Cert.FfnBwdIdeal.Gen.args
    rw [← h0, ← h1, ← h2, ← h3, ← h4, ← h5, ← h6, ← h7]
  have hg : ∀ c, (Cert.FfnRefIdeal.Value.args (StableHlo.launchContents m' c)).GateEq := fun c => by
    rw [hA]
    exact (Cert.Ffn.finite_args m hpre c).gateEq
  refine ⟨fun c => fun i => (Cert.FfnBwdIdeal.Gen.args m c).dy (i 0) (i 1), fun c => fun i => (Cert.FfnBwdIdeal.Gen.args m c).dab (i 0) (i 1),
    fun c => fun i => (Cert.FfnBwdIdeal.Gen.args m c).dx (i 0) (i 1), fun c => fun i => (Cert.FfnBwdIdeal.Gen.args m c).part (i 0) (i 1), ?_, ?_⟩
  · refine (θ_run Cert.FfnBwdIdeal.defs _ _).mono (fun r h c => ?_) (Cert.FfnBwdIdeal.Value.run_blocks (F := Ideal) m ρ)
    obtain ⟨h8, h9, h10, h11, hk⟩ := h c
    exact ⟨h8.trans (Cert.FfnBwdIdeal.Gen.arr8 m c), h9.trans (Cert.FfnBwdIdeal.Gen.arr9 m c), h10.trans (Cert.FfnBwdIdeal.Gen.arr10 m c),
      h11.trans (Cert.FfnBwdIdeal.Gen.arr11 m c), hk⟩
  · refine (θ_run Cert.FfnRefIdeal.defs _ _).mono (fun r h c => ?_) (Cert.FfnRefIdeal.Value.run (F := Ideal) m' ρ')
    obtain ⟨h0, h1, h2, h3, hk⟩ := h c
    refine ⟨h0.trans (funext fun i => ?_), (h1.trans (run_v110 m' c)).trans (funext fun i => ?_),
      (h2.trans (run_v102 m' c)).trans (funext fun i => ?_), (h3.trans (run_v108 m' c)).trans (funext fun i => ?_), hk⟩
    · exact (congrArg (Cert.FfnRefIdeal.Value.v109 (StableHlo.launchContents m' c)) (ValueIdx.eq_ix2 i)).trans ((Cert.FfnRefIdeal.Value.v109_ix _ _ _).trans (by rw [hA]))
    · exact (congrArg _ (ValueIdx.eq_ix2 i)).trans ((Cert.FfnRefIdeal.Value.v110_ix _ _ _ (hg c)).trans (by rw [hA]))
    · exact (congrArg _ (ValueIdx.eq_ix2 i)).trans ((Cert.FfnRefIdeal.Value.v102_ix _ _ _ (hg c)).trans (by rw [hA]))
    · exact (congrArg _ (ValueIdx.eq_ix2 i)).trans ((Cert.FfnRefIdeal.Value.v108_ix _ _ _ (hg c)).trans (by rw [hA]))

end Cert.Proof.Ffn

end
-- ==== Proof.DwSum.lean ====
/- A sum over all rows as the sum over the first half of them and the sum over the second. -/
module

public import Idealize.ShloMosaic.Lib.Pointwise

@[expose] public section

noncomputable section

namespace Cert.Dw

theorem sum_halves (f : Fin 8192 → EReal) : ∑ R, f R =
    (∑ r : Fin 4096, f ⟨4096 * 0 + r.val, by omega⟩) + ∑ r : Fin 4096, f ⟨4096 * 1 + r.val, by omega⟩ := by
  refine (Fin.sum_univ_add (a := 4096) (b := 4096) f).trans ?_
  refine congrArg₂ (· + ·) (Finset.sum_congr rfl fun r _ => congrArg f (Fin.ext ?_)) (Finset.sum_congr rfl fun r _ => congrArg f (Fin.ext ?_))
  · show r.val = 4096 * 0 + r.val
    omega
  · show 4096 + r.val = 4096 * 1 + r.val
    omega

end Cert.Dw

end
-- ==== Proof.DwOutValue.lean ====
/-
  What the kernel of `DwOut` leaves in its result, the gradient of the feed-forward layer's second weight: each block of it
  is the product over all rows, the first half of the rows put into the accumulator and the second half added to it.
-/
module

public import proofs.«01_k».proof.Proof.DwSum
public import proofs.«01_k».proof.Proof.Gen.DwOutIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.DwOutIdeal.Gen

open Idealize.ShloMosaic Idealize.ShloMosaic.TcCoe Idealize.ShloMosaic.Tactic
open Idealize.SL Idealize.SL.Sem

theorem ld_acc {e : EltTy} (X : S1408x512.Idx → Elt Ideal e) : View.ld X (Rect.unit (s := S1408x512) ![0, 0] ![1408, 512] inb_S1408x512_S1408x512_0_0) = X :=
  View.ld_unit_zero (S := S1408x512) (funext fun a => by fin_cases a <;> rfl) _ X
theorem canon_acc {e : EltTy} (w : S1408x512.Idx → Elt Ideal e) (L : List (View.Piece (Elt Ideal) S1408x512 e)) : View.canon (⟨Rect.unit (s := S1408x512) ![0, 0] ![1408, 512] inb_S1408x512_S1408x512_0_0, w⟩ :: L) = w :=
  View.canon_cons_unit_zero (S := S1408x512) (funext fun a => by fin_cases a <;> rfl) _ w L
theorem readCov_acc {κ : Kind} {sp : Space} (v : View sig κ sp S1408x512 .f32) (w : Vec Ideal S1408x512 .f32) :
    v.readCov [⟨Rect.unit ![0, 0] ![1408, 512] inb_S1408x512_S1408x512_0_0, w⟩] (Rect.unit (s := S1408x512) ![0, 0] ![1408, 512] inb_S1408x512_S1408x512_0_0).toLoadRect = w :=
  View.readCov_unit_zero v (funext fun a => by fin_cases a <;> rfl) _ w
theorem ld_a {e : EltTy} (X : S4096x1408.Idx → Elt Ideal e) : View.ld X (Rect.unit (s := S4096x1408) ![0, 0] ![4096, 1408] inb_S4096x1408_S4096x1408_0_0) = X :=
  View.ld_unit_zero (S := S4096x1408) (funext fun a => by fin_cases a <;> rfl) _ X
theorem ld_b {e : EltTy} (X : S4096x512.Idx → Elt Ideal e) : View.ld X (Rect.unit (s := S4096x512) ![0, 0] ![4096, 512] inb_S4096x512_S4096x512_0_0) = X :=
  View.ld_unit_zero (S := S4096x512) (funext fun a => by fin_cases a <;> rfl) _ X

/-- The product of two blocks over their rows. -/
theorem pay1_ix (x0 : Vec Ideal S4096x1408 .bf16) (x1 : Vec Ideal S4096x512 .bf16) (a : Fin 1408) (b : Fin 512) :
    k0_pay1 x0 x1 (ix2 a b) = ∑ r : Fin 4096, x0 (ix2 r a) * x1 (ix2 r b) := by
  pointwise [k0_pay1]

/-- What the first half's point leaves in the accumulator. -/
theorem sout0_A_0_eq (c : Dev nD) (i : grid0.Coords) (arg3 : Memref sig .tc .vmem S4096x1408 .bf16) (harg3 : arg3.IsWhole) (arg4 : Memref sig .tc .vmem S4096x512 .bf16) (harg4 : arg4.IsWhole) (arg5 : Memref sig .tc .vmem S1408x512 .bf16) (harg5 : arg5.IsWhole) (arg6 : Memref sig .tc .vmem S1408x512 .f32) (harg6 : arg6.IsWhole) (hc0 : cond0_0 i) (hc1 : ¬cond0_1 i) (hc2 : ¬cond0_2 i)
    (x0 : Vec Ideal S4096x1408 .bf16) (x1 : Vec Ideal S4096x512 .bf16) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread, ld_a, ld_b, canon_acc, k0_pay2, shapeCast_self]

/-- What the second half's point leaves in the result's block, over what the accumulator held. -/
theorem out0_B_2_eq (c : Dev nD) (i : grid0.Coords) (arg3 : Memref sig .tc .vmem S4096x1408 .bf16) (harg3 : arg3.IsWhole) (arg4 : Memref sig .tc .vmem S4096x512 .bf16) (harg4 : arg4.IsWhole) (arg5 : Memref sig .tc .vmem S1408x512 .bf16) (harg5 : arg5.IsWhole) (arg6 : Memref sig .tc .vmem S1408x512 .f32) (harg6 : arg6.IsWhole) (hc0 : ¬cond0_0 i) (hc1 : cond0_1 i) (hc2 : cond0_2 i)
    (x0 : Vec Ideal S4096x1408 .bf16) (x1 : Vec Ideal S4096x512 .bf16) (xs : Vec Ideal S1408x512 .f32) :
    out0_B_2 c i arg3 harg3 arg4 harg4 arg5 harg5 arg6 harg6 hc0 hc1 hc2 x0 x1 xs = addf xs (k0_pay1 x0 x1) := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  simp only [View.readAt_eq_ld, harg3.read_unread, harg4.read_unread, harg6.read_unread, ld_a, ld_b, ld_acc, canon_acc, readCov_acc, k0_pay3, k0_pay4, shapeCast_self]
  rfl

/-- The rows' half a point works on, and its block of the result. -/
def half (t : Fin cfg0.N) : Fin 2 := ⟨t.val % 2, by omega⟩
def rowBlk (t : Fin cfg0.N) : Fin 2 := ⟨t.val / 4, by have h := lt_of_lt_of_eq t.isLt N_0; omega⟩
def colBlk (t : Fin cfg0.N) : Fin 2 := ⟨t.val / 2 % 2, by omega⟩

theorem idx : ∀ t : Fin cfg0.N, win0_0.index t = ![t.val % 2, t.val / 4] ∧ win0_1.index t = ![t.val % 2, t.val / 2 % 2] ∧
    win0_2.index t = ![t.val / 4, t.val / 2 % 2] :=
  (by decide +kernel : ∀ t : Fin grid0.N, _)

/-- The two factors, and their product over all rows. -/
def fA (m : (ℓ : Loc nD τ sig) → Buf (Elt Ideal) ℓ) (c : Dev nD) (R : Fin 8192) (i : Fin 2816) : EReal := m ((c : Thread nD τ).loc main_arg0) (ix2 R i)
def fB (m : (ℓ : Loc nD τ sig) → Buf (Elt Ideal) ℓ) (c : Dev nD) (R : Fin 8192) (j : Fin 1024) : EReal := m ((c : Thread nD τ).loc main_arg1) (ix2 R j)
def dw (m : (ℓ : Loc nD τ sig) → Buf (Elt Ideal) ℓ) (c : Dev nD) (i : Fin 2816) (j : Fin 1024) : EReal := ∑ R : Fin 8192, fA m c R i * fB m c R j

section
variable (m : (ℓ : Loc nD τ sig) → Buf (Elt Ideal) ℓ) (c : Dev nD) (t : Fin cfg0.N) (r : Fin 4096) (a : Fin 1408) (b : Fin 512)

theorem blk0 : iblk m c 0 t (ix2 r a) = fA m c ⟨4096 * (half t).val + r.val, by omega⟩ ⟨1408 * (rowBlk t).val + a.val, by omega⟩ := by
  refine Eq.trans (b := V m c main_arg0 (ix2 ⟨4096 * (half t).val + r.val, by omega⟩ ⟨1408 * (rowBlk t).val + a.val, by omega⟩)) ?_ (congrFun (V_main_arg0 m c) _)
  blk_ext [iblk, half, rowBlk, idx t]
theorem blk1 : iblk m c 1 t (ix2 r b) = fB m c ⟨4096 * (half t).val + r.val, by omega⟩ ⟨512 * (colBlk t).val + b.val, by omega⟩ := by
  refine Eq.trans (b := V m c main_arg1 (ix2 ⟨4096 * (half t).val + r.val, by omega⟩ ⟨512 * (colBlk t).val + b.val, by omega⟩)) ?_ (congrFun (V_main_arg1 m c) _)
  blk_ext [iblk, half, colBlk, idx t]

/-- After the first half the accumulator holds the half's product. -/
theorem scr_first (h : t.val % 2 = 0) : (outsAt0 m c t.val t.isLt).2 = k0_pay1 (iblk m c 0 t) (iblk m c 1 t) := by
  rw [outsAt0_A m c t h (by omega) (by omega)]
  dsimp only
  rw [sout0_A_0_eq]

/-- After the second half the result's block holds the accumulator with the second half's product added. -/
theorem out_last (h : t.val % 2 = 1) : (outsAt0 m c t.val t.isLt).1 =
    addf (outsAt0 m c (t.val - 1) (Nat.lt_of_le_of_lt (Nat.sub_le _ _) t.isLt)).2 (k0_pay1 (iblk m c 0 t) (iblk m c 1 t)) := by
  rw [outsAt0_B m c t (by omega) h h]
  dsimp only
  rw [out0_B_2_eq]

theorem out_ix (h : t.val % 2 = 1) : (outsAt0 m c t.val t.isLt).1 (ix2 a b) = dw m c ⟨1408 * (rowBlk t).val + a.val, by omega⟩ ⟨512 * (colBlk t).val + b.val, by omega⟩ := by
  have hN := lt_of_lt_of_eq t.isLt N_0
  have hs := scr_first m c ⟨t.val - 1, by omega⟩ (by show (t.val - 1) % 2 = 0; omega)
  rw [out_last m c t h]
  refine Eq.trans (congrArg₂ (· + ·) ((congrFun hs _).trans (pay1_ix _ _ a b)) (pay1_ix _ _ a b)) ?_
  unfold dw
  rw [Cert.Dw.sum_halves]
  simp only [blk0, blk1]
  have e0 : (half ⟨t.val - 1, by omega⟩).val = 0 := by show (t.val - 1) % 2 = 0; omega
  have e1 : (half t).val = 1 := h
  have er : (rowBlk ⟨t.val - 1, by omega⟩).val = (rowBlk t).val := by show (t.val - 1) / 4 = t.val / 4; omega
  have ec : (colBlk ⟨t.val - 1, by omega⟩).val = (colBlk t).val := by show (t.val - 1) / 2 % 2 = t.val / 2 % 2; omega
  simp only [e0, e1, er, ec]

theorem arr2 : (dats m 0 c).arrAt 2 cfg0.N = fun i => dw m c (i 0) (i 1) := by
  refine (dats m 0 c).arrAt_eq_of_covers 2 _ (by decide +kernel) fun t hf y => ?_
  have ht : t.val % 2 = 1 := (flush0_2 t).mp hf
  blk_simp
  rw [after0_2]
  refine (congrArg _ (eq_ix2 _)).trans ((out_ix m c t _ _ ht).trans ?_)
  exact congrArg (fun i : (⟨2, ![2816, 1024]⟩ : Shape).Idx => dw m c (i 0) (i 1)) (a₁ := ix2 _ _) (by blk_ext [rowBlk, colBlk, idx t])

end
end Cert.DwOutIdeal.Gen

end
-- ==== Proof.DwInValue.lean ====
/-
  What the kernel of `DwIn` leaves in its result, the gradient of the feed-forward layer's first weight: each block of it
  is the product over all rows, the first half of the rows put into the accumulator and the second half added to it.
-/
module

public import proofs.«01_k».proof.Proof.DwSum
public import proofs.«01_k».proof.Proof.Gen.DwInIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.DwInIdeal.Gen

open Idealize.ShloMosaic Idealize.ShloMosaic.TcCoe Idealize.ShloMosaic.Tactic
open Idealize.SL Idealize.SL.Sem

theorem ld_acc {e : EltTy} (X : S1408x512.Idx → Elt Ideal e) : View.ld X (Rect.unit (s := S1408x512) ![0, 0] ![1408, 512] inb_S1408x512_S1408x512_0_0) = X :=
  View.ld_unit_zero (S := S1408x512) (funext fun a => by fin_cases a <;> rfl) _ X
theorem canon_acc {e : EltTy} (w : S1408x512.Idx → Elt Ideal e) (L : List (View.Piece (Elt Ideal) S1408x512 e)) : View.canon (⟨Rect.unit (s := S1408x512) ![0, 0] ![1408, 512] inb_S1408x512_S1408x512_0_0, w⟩ :: L) = w :=
  View.canon_cons_unit_zero (S := S1408x512) (funext fun a => by fin_cases a <;> rfl) _ w L
theorem readCov_acc {κ : Kind} {sp : Space} (v : View sig κ sp S1408x512 .f32) (w : Vec Ideal S1408x512 .f32) :
    v.readCov [⟨Rect.unit ![0, 0] ![1408, 512] inb_S1408x512_S1408x512_0_0, w⟩] (Rect.unit (s := S1408x512) ![0, 0] ![1408, 512] inb_S1408x512_S1408x512_0_0).toLoadRect = w :=
  View.readCov_unit_zero v (funext fun a => by fin_cases a <;> rfl) _ w
theorem ld_a {e : EltTy} (X : S4096x1408.Idx → Elt Ideal e) : View.ld X (Rect.unit (s := S4096x1408) ![0, 0] ![4096, 1408] inb_S4096x1408_S4096x1408_0_0) = X :=
  View.ld_unit_zero (S := S4096x1408) (funext fun a => by fin_cases a <;> rfl) _ X
theorem ld_b {e : EltTy} (X : S4096x512.Idx → Elt Ideal e) : View.ld X (Rect.unit (s := S4096x512) ![0, 0] ![4096, 512] inb_S4096x512_S4096x512_0_0) = X :=
  View.ld_unit_zero (S := S4096x512) (funext fun a => by fin_cases a <;> rfl) _ X

/-- The product of two blocks over their rows. -/
theorem pay1_ix (x0 : Vec Ideal S4096x1408 .bf16) (x1 : Vec Ideal S4096x512 .bf16) (a : Fin 1408) (b : Fin 512) :
    k0_pay1 x0 x1 (ix2 a b) = ∑ r : Fin 4096, x0 (ix2 r a) * x1 (ix2 r b) := by
  pointwise [k0_pay1]

/-- What the first half's point leaves in the accumulator. -/
theorem sout0_A_0_eq (c : Dev nD) (i : grid0.Coords) (arg3 : Memref sig .tc .vmem S4096x1408 .bf16) (harg3 : arg3.IsWhole) (arg4 : Memref sig .tc .vmem S4096x512 .bf16) (harg4 : arg4.IsWhole) (arg5 : Memref sig .tc .vmem S1408x512 .bf16) (harg5 : arg5.IsWhole) (arg6 : Memref sig .tc .vmem S1408x512 .f32) (harg6 : arg6.IsWhole) (hc0 : cond0_0 i) (hc1 : ¬cond0_1 i) (hc2 : ¬cond0_2 i)
    (x0 : Vec Ideal S4096x1408 .bf16) (x1 : Vec Ideal S4096x512 .bf16) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread, ld_a, ld_b, canon_acc, k0_pay2, shapeCast_self]

/-- What the second half's point leaves in the result's block, over what the accumulator held. -/
theorem out0_B_2_eq (c : Dev nD) (i : grid0.Coords) (arg3 : Memref sig .tc .vmem S4096x1408 .bf16) (harg3 : arg3.IsWhole) (arg4 : Memref sig .tc .vmem S4096x512 .bf16) (harg4 : arg4.IsWhole) (arg5 : Memref sig .tc .vmem S1408x512 .bf16) (harg5 : arg5.IsWhole) (arg6 : Memref sig .tc .vmem S1408x512 .f32) (harg6 : arg6.IsWhole) (hc0 : ¬cond0_0 i) (hc1 : cond0_1 i) (hc2 : cond0_2 i)
    (x0 : Vec Ideal S4096x1408 .bf16) (x1 : Vec Ideal S4096x512 .bf16) (xs : Vec Ideal S1408x512 .f32) :
    out0_B_2 c i arg3 harg3 arg4 harg4 arg5 harg5 arg6 harg6 hc0 hc1 hc2 x0 x1 xs = addf xs (k0_pay1 x0 x1) := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  simp only [View.readAt_eq_ld, harg3.read_unread, harg4.read_unread, harg6.read_unread, ld_a, ld_b, ld_acc, canon_acc, readCov_acc, k0_pay3, k0_pay4, shapeCast_self]
  rfl

/-- The rows' half a point works on, and its block of the result. -/
def half (t : Fin cfg0.N) : Fin 2 := ⟨t.val % 2, by omega⟩
def rowBlk (t : Fin cfg0.N) : Fin 4 := ⟨t.val / 4, by have h := lt_of_lt_of_eq t.isLt N_0; omega⟩
def colBlk (t : Fin cfg0.N) : Fin 2 := ⟨t.val / 2 % 2, by omega⟩

theorem idx : ∀ t : Fin cfg0.N, win0_0.index t = ![t.val % 2, t.val / 4] ∧ win0_1.index t = ![t.val % 2, t.val / 2 % 2] ∧
    win0_2.index t = ![t.val / 4, t.val / 2 % 2] :=
  (by decide +kernel : ∀ t : Fin grid0.N, _)

/-- The two factors, and their product over all rows. -/
def fA (m : (ℓ : Loc nD τ sig) → Buf (Elt Ideal) ℓ) (c : Dev nD) (R : Fin 8192) (i : Fin 5632) : EReal := m ((c : Thread nD τ).loc main_arg1) (ix2 R i)
def fB (m : (ℓ : Loc nD τ sig) → Buf (Elt Ideal) ℓ) (c : Dev nD) (R : Fin 8192) (j : Fin 1024) : EReal := m ((c : Thread nD τ).loc main_arg0) (ix2 R j)
def dw (m : (ℓ : Loc nD τ sig) → Buf (Elt Ideal) ℓ) (c : Dev nD) (i : Fin 5632) (j : Fin 1024) : EReal := ∑ R : Fin 8192, fA m c R i * fB m c R j

section
variable (m : (ℓ : Loc nD τ sig) → Buf (Elt Ideal) ℓ) (c : Dev nD) (t : Fin cfg0.N) (r : Fin 4096) (a : Fin 1408) (b : Fin 512)

theorem blk0 : iblk m c 0 t (ix2 r a) = fA m c ⟨4096 * (half t).val + r.val, by omega⟩ ⟨1408 * (rowBlk t).val + a.val, by omega⟩ := by
  refine Eq.trans (b := V m c main_arg1 (ix2 ⟨4096 * (half t).val + r.val, by omega⟩ ⟨1408 * (rowBlk t).val + a.val, by omega⟩)) ?_ (congrFun (V_main_arg1 m c) _)
  blk_ext [iblk, half, rowBlk, idx t]
theorem blk1 : iblk m c 1 t (ix2 r b) = fB m c ⟨4096 * (half t).val + r.val, by omega⟩ ⟨512 * (colBlk t).val + b.val, by omega⟩ := by
  refine Eq.trans (b := V m c main_arg0 (ix2 ⟨4096 * (half t).val + r.val, by omega⟩ ⟨512 * (colBlk t).val + b.val, by omega⟩)) ?_ (congrFun (V_main_arg0 m c) _)
  blk_ext [iblk, half, colBlk, idx t]

/-- After the first half the accumulator holds the half's product. -/
theorem scr_first (h : t.val % 2 = 0) : (outsAt0 m c t.val t.isLt).2 = k0_pay1 (iblk m c 0 t) (iblk m c 1 t) := by
  rw [outsAt0_A m c t h (by omega) (by omega)]
  dsimp only
  rw [sout0_A_0_eq]

/-- After the second half the result's block holds the accumulator with the second half's product added. -/
theorem out_last (h : t.val % 2 = 1) : (outsAt0 m c t.val t.isLt).1 =
    addf (outsAt0 m c (t.val - 1) (Nat.lt_of_le_of_lt (Nat.sub_le _ _) t.isLt)).2 (k0_pay1 (iblk m c 0 t) (iblk m c 1 t)) := by
  rw [outsAt0_B m c t (by omega) h h]
  dsimp only
  rw [out0_B_2_eq]

theorem out_ix (h : t.val % 2 = 1) : (outsAt0 m c t.val t.isLt).1 (ix2 a b) = dw m c ⟨1408 * (rowBlk t).val + a.val, by omega⟩ ⟨512 * (colBlk t).val + b.val, by omega⟩ := by
  have hN := lt_of_lt_of_eq t.isLt N_0
  have hs := scr_first m c ⟨t.val - 1, by omega⟩ (by show (t.val - 1) % 2 = 0; omega)
  rw [out_last m c t h]
  refine Eq.trans (congrArg₂ (· + ·) ((congrFun hs _).trans (pay1_ix _ _ a b)) (pay1_ix _ _ a b)) ?_
  unfold dw
  rw [Cert.Dw.sum_halves]
  simp only [blk0, blk1]
  have e0 : (half ⟨t.val - 1, by omega⟩).val = 0 := by show (t.val - 1) % 2 = 0; omega
  have e1 : (half t).val = 1 := h
  have er : (rowBlk ⟨t.val - 1, by omega⟩).val = (rowBlk t).val := by show (t.val - 1) / 4 = t.val / 4; omega
  have ec : (colBlk ⟨t.val - 1, by omega⟩).val = (colBlk t).val := by show (t.val - 1) / 2 % 2 = t.val / 2 % 2; omega
  simp only [e0, e1, er, ec]

theorem arr2 : (dats m 0 c).arrAt 2 cfg0.N = fun i => dw m c (i 0) (i 1) := by
  refine (dats m 0 c).arrAt_eq_of_covers 2 _ (by decide +kernel) fun t hf y => ?_
  have ht : t.val % 2 = 1 := (flush0_2 t).mp hf
  blk_simp
  rw [after0_2]
  refine (congrArg _ (eq_ix2 _)).trans ((out_ix m c t _ _ ht).trans ?_)
  exact congrArg (fun i : (⟨2, ![5632, 1024]⟩ : Shape).Idx => dw m c (i 0) (i 1)) (a₁ := ix2 _ _) (by blk_ext [rowBlk, colBlk, idx t])

end
end Cert.DwInIdeal.Gen

end
-- ==== Proof.DwClaim.lean ====
/-
  The claims about the two weight gradients of the feed-forward layer: each reference's frame, and that kernel and
  reference compute the same array over the extended reals.
-/
module

public import proofs.«01_k».proof.Defs
public import proofs.«01_k».proof.Proof.DwOutValue
public import proofs.«01_k».proof.Proof.DwInValue
public import proofs.«01_k».proof.Proof.Gen.DwOutRefIdeal.Run
public import proofs.«01_k».proof.Proof.Gen.DwInRefIdeal.Run
public import Idealize.ShloMosaic.Lib.Quiescent

@[expose] public section

set_option maxRecDepth 16384

noncomputable section

namespace Cert.Proof.Dw

open Idealize.ShloMosaic Idealize.SL.Sem Idealize.ShloMosaic.TcCoe Idealize.ShloMosaic.Tactic

local instance : Cert.DwOutIdeal.Facts := Cert.DwOutIdeal.Gen.facts
local instance : Cert.DwOutRefIdeal.Facts := Cert.DwOutRefIdeal.Gen.facts
local instance : Cert.DwInIdeal.Facts := Cert.DwInIdeal.Gen.facts
local instance : Cert.DwInRefIdeal.Facts := Cert.DwInRefIdeal.Gen.facts

theorem frame_out_ref : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

/-- The reference's product, its transpose and its cast, at one index. -/
theorem ref_out (x : FVec Ideal Cert.DwOutRefIdeal.S8192x2816 .bf16) (y : FVec Ideal Cert.DwOutRefIdeal.S8192x1024 .bf16) (a : Fin 2816) (b : Fin 1024) :
    truncf (F := Ideal) .bf16 (transpose Cert.DwOutRefIdeal.S2816x1024 [1, 0] (Host.dotGeneral (φ₁ := .f32) (φ₂ := .f32) Cert.DwOutRefIdeal.dot_S8192x1024_S8192x2816_S1024x2816_0_0_1_1_n_n none
      (extf .f32 y Cert.DwOutRefIdeal.Gen.bitsLt_bf16_f32) (extf .f32 x Cert.DwOutRefIdeal.Gen.bitsLt_bf16_f32)) Cert.DwOutRefIdeal.Gen.transposes_S1024x2816_S2816x1024_1_0) Cert.DwOutRefIdeal.Gen.bitsLt_bf16_f32 (ValueIdx.ix2 a b)
      = ∑ R : Fin 8192, y (ValueIdx.ix2 R b) * x (ValueIdx.ix2 R a) := by
  pointwise []
  rfl

theorem algebraic_out : Cert.algebraic_DwOutIdeal_DwOutRefIdeal := by
  intro m ρ m' ρ' _ hag
  refine ⟨fun c => fun i => Cert.DwOutIdeal.Gen.dw m c (i 0) (i 1), ?_, ?_⟩
  · refine (θ_run Cert.DwOutIdeal.defs _ _).mono (fun r h c => ?_) (Cert.DwOutIdeal.Value.run_blocks (F := Ideal) m ρ)
    obtain ⟨h2, hk⟩ := h c
    exact ⟨h2.trans (Cert.DwOutIdeal.Gen.arr2 m c), hk⟩
  · refine (θ_run Cert.DwOutRefIdeal.defs _ _).mono (fun r h c => ?_) (Cert.DwOutRefIdeal.Value.run (F := Ideal) m' ρ')
    obtain ⟨h0, hk⟩ := h c
    obtain ⟨e0, e1⟩ := hag c
    refine ⟨h0.trans (funext fun i => ?_), hk⟩
    obtain ⟨a, b, rfl⟩ : ∃ (a : Fin 2816) (b : Fin 1024), i = ValueIdx.ix2 a b := ⟨_, _, ValueIdx.eq_ix2 i⟩
    exact (ref_out _ _ a b).trans (Finset.sum_congr rfl fun R _ => (mul_comm (G := EReal) _ _).trans (congrArg₂ (· * ·) (congrFun e0 _) (congrFun e1 _)))

theorem frame_in_ref : Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

/-- The reference's product, its two transposes and its cast, at one index. -/
theorem ref_in (x : FVec Ideal Cert.DwInRefIdeal.S8192x1024 .bf16) (y : FVec Ideal Cert.DwInRefIdeal.S8192x5632 .bf16) (a : Fin 5632) (b : Fin 1024) :
    truncf (F := Ideal) .bf16 (transpose Cert.DwInRefIdeal.S5632x1024 [1, 0] (transpose Cert.DwInRefIdeal.S1024x5632 [1, 0] (Host.dotGeneral (φ₁ := .f32) (φ₂ := .f32) Cert.DwInRefIdeal.dot_S8192x5632_S8192x1024_S5632x1024_0_0_1_1_n_n none
      (extf .f32 y Cert.DwInRefIdeal.Gen.bitsLt_bf16_f32) (extf .f32 x Cert.DwInRefIdeal.Gen.bitsLt_bf16_f32)) Cert.DwInRefIdeal.Gen.transposes_S5632x1024_S1024x5632_1_0) Cert.DwInRefIdeal.Gen.transposes_S1024x5632_S5632x1024_1_0) Cert.DwInRefIdeal.Gen.bitsLt_bf16_f32 (ValueIdx.ix2 a b)
      = ∑ R : Fin 8192, y (ValueIdx.ix2 R a) * x (ValueIdx.ix2 R b) := by
  pointwise []
  rfl

theorem algebraic_in : Cert.algebraic_DwInIdeal_DwInRefIdeal := by
  intro m ρ m' ρ' _ hag
  refine ⟨fun c => fun i => Cert.DwInIdeal.Gen.dw m c (i 0) (i 1), ?_, ?_⟩
  · refine (θ_run Cert.DwInIdeal.defs _ _).mono (fun r h c => ?_) (Cert.DwInIdeal.Value.run_blocks (F := Ideal) m ρ)
    obtain ⟨h2, hk⟩ := h c
    exact ⟨h2.trans (Cert.DwInIdeal.Gen.arr2 m c), hk⟩
  · refine (θ_run Cert.DwInRefIdeal.defs _ _).mono (fun r h c => ?_) (Cert.DwInRefIdeal.Value.run (F := Ideal) m' ρ')
    obtain ⟨h0, hk⟩ := h c
    obtain ⟨e0, e1⟩ := hag c
    refine ⟨h0.trans (funext fun i => ?_), hk⟩
    obtain ⟨a, b, rfl⟩ : ∃ (a : Fin 5632) (b : Fin 1024), i = ValueIdx.ix2 a b := ⟨_, _, ValueIdx.eq_ix2 i⟩
    exact (ref_in _ _ a b).trans (Finset.sum_congr rfl fun R _ => congrArg₂ (· * ·) (congrFun e1 _) (congrFun e0 _))

end Cert.Proof.Dw

end
-- ==== Proof.FfnFwdPoint.lean ====
/-
  What one grid point of the feed-forward layer's forward call leaves in each of its output blocks, as one term of the
  blocks it reads.
-/
module

public import proofs.«01_k».proof.Proof.Gen.FfnFwdIdeal.Value
public import proofs.«01_k».proof.Proof.FfnRows
public import Idealize.ShloMosaic.Lib.Pointwise
public import Idealize.ShloMosaic.Lib.WritesUnit
public import Idealize.ShloMosaic.Lib.Pipeline.Value
public import Idealize.ShloMosaic.Lib.Pipeline.ReadBack
public import Idealize.ShloMosaic.Lib.Pipeline.ValueKit

@[expose] public section

set_option maxRecDepth 16384

noncomputable section

namespace Cert.FfnFwdIdeal.Gen

open Idealize.ShloMosaic Idealize.ShloMosaic.TcCoe Idealize.ShloMosaic.Tactic
open Idealize.SL Idealize.SL.Sem
open Idealize.ShloMosaic.Pipeline (Dat Cfg Window cellOf)

/-- Row `k` of an eight-row block. -/
def row0 (x : Vec Ideal S8x1024 .f32) : Vec Ideal S1x1024 .f32 := View.ld x (Rect.unit (s := S8x1024) ![0, 0] S1x1024.size inb_S8x1024_S1x1024_0_0)
def row1 (x : Vec Ideal S8x1024 .f32) : Vec Ideal S1x1024 .f32 := View.ld x (Rect.unit (s := S8x1024) ![1, 0] S1x1024.size inb_S8x1024_S1x1024_1_0)
def row2 (x : Vec Ideal S8x1024 .f32) : Vec Ideal S1x1024 .f32 := View.ld x (Rect.unit (s := S8x1024) ![2, 0] S1x1024.size inb_S8x1024_S1x1024_2_0)
def row3 (x : Vec Ideal S8x1024 .f32) : Vec Ideal S1x1024 .f32 := View.ld x (Rect.unit (s := S8x1024) ![3, 0] S1x1024.size inb_S8x1024_S1x1024_3_0)

theorem ld_S512x1024 {e : EltTy} (X : S512x1024.Idx → Elt Ideal e) : View.ld X (Rect.unit (s := S512x1024) ![0, 0] ![512, 1024] inb_S512x1024_S512x1024_0_0) = X :=
  View.ld_unit_zero (S := S512x1024) (funext fun a => by fin_cases a <;> rfl) _ X

theorem ld_S2816x1024 {e : EltTy} (X : S2816x1024.Idx → Elt Ideal e) : View.ld X (Rect.unit (s := S2816x1024) ![0, 0] ![2816, 1024] inb_S2816x1024_S2816x1024_0_0) = X :=
  View.ld_unit_zero (S := S2816x1024) (funext fun a => by fin_cases a <;> rfl) _ X

theorem ld_S512x2816 {e : EltTy} (X : S512x2816.Idx → Elt Ideal e) : View.ld X (Rect.unit (s := S512x2816) ![0, 0] ![512, 2816] inb_S512x2816_S512x2816_0_0) = X :=
  View.ld_unit_zero (S := S512x2816) (funext fun a => by fin_cases a <;> rfl) _ X

theorem canon_S512x1024 {e : EltTy} (w : S512x1024.Idx → Elt Ideal e) (L : List (View.Piece (Elt Ideal) S512x1024 e)) : View.canon (⟨Rect.unit (s := S512x1024) ![0, 0] ![512, 1024] inb_S512x1024_S512x1024_0_0, w⟩ :: L) = w :=
  View.canon_cons_unit_zero (S := S512x1024) (funext fun a => by fin_cases a <;> rfl) _ w L

section Point
variable (x0 : Vec Ideal S512x1024 .f32) (x1 : Vec Ideal S8x1024 .f32) (x2 : Vec Ideal S5632x1024 .bf16) (x3 : Vec Ideal S2816x1024 .bf16)

/-- The normalized and modulated input. -/
def ptH : FVec Ideal S512x1024 .bf16 := k0_pay4 x0 (row0 x1) (row1 x1) (row2 x1)
/-- The two halves of the projection. -/
def atA (r : Fin 512) (f : Fin 2816) : EReal := ∑ k : Fin 1024, ptH x0 x1 (ix2 r k) * x2 (ix2 ⟨f.val, by omega⟩ k)
def atB (r : Fin 512) (f : Fin 2816) : EReal := ∑ k : Fin 1024, ptH x0 x1 (ix2 r k) * x2 (ix2 ⟨2816 + f.val, by omega⟩ k)
/-- The first half against its logistic function. -/
def atGB (r : Fin 512) (f : Fin 2816) : EReal := atA x0 x1 x2 r f * Cert.Ffn.sg (atA x0 x1 x2 r f)
/-- The derivative of the gated product in the first half. -/
def atGA (r : Fin 512) (f : Fin 2816) : EReal :=
  atB x0 x1 x2 r f * (Cert.Ffn.sg (atA x0 x1 x2 r f) + atGB x0 x1 x2 r f * (1 - Cert.Ffn.sg (atA x0 x1 x2 r f)))
def ptGA : Vec Ideal S512x2816 .bf16 := fun i => atGA x0 x1 x2 (i 0) (i 1)
def ptGB : Vec Ideal S512x2816 .bf16 := fun i => atGB x0 x1 x2 (i 0) (i 1)
/-- The gated product. -/
def ptU : Vec Ideal S512x2816 .bf16 := fun i => atGB x0 x1 x2 (i 0) (i 1) * atB x0 x1 x2 (i 0) (i 1)
end Point

theorem ptU_read (x0 : Vec Ideal S512x1024 .f32) (x1 : Vec Ideal S8x1024 .f32) (x2 : Vec Ideal S5632x1024 .bf16) :
    (fun j => ptU x0 x1 x2 ((Rect.unit (s := S512x2816) ![0, 0] ![512, 2816] inb_S512x2816_S512x2816_0_0).idx j)) = ptU x0 x1 x2 :=
  ld_S512x2816 (e := .bf16) (ptU x0 x1 x2)

section Chunk
variable (x0 : Vec Ideal S512x1024 .f32) (x1 : Vec Ideal S8x1024 .f32) (x2 : Vec Ideal S5632x1024 .bf16)
  (o p : ℕ) (hp : p = 2816 + o)
  (hw : ∀ a : Fin 2, (![o, 0] : Fin 2 → ℕ) a + (![256, 1024] : Fin 2 → ℕ) a ≤ S5632x1024.size a)
  (hv : ∀ a : Fin 2, (![p, 0] : Fin 2 → ℕ) a + (![256, 1024] : Fin 2 → ℕ) a ≤ S5632x1024.size a)
  (hd : ∀ a : Fin 2, (![0, o] : Fin 2 → ℕ) a + (![512, 256] : Fin 2 → ℕ) a ≤ S512x2816.size a)
include hp hd

/-- A column chunk of the first half, as the kernel's product of the chunk's rows. -/
theorem chunkA (r : Fin 512) (q : Fin 256) :
    k0_pay20 (ptH x0 x1) (View.ld x2 (Rect.unit (s := S5632x1024) ![o, 0] ![256, 1024] hw)) (ix2 r q)
      = atA x0 x1 x2 r ⟨o + q.val, by have := hd 1; have : o + 256 ≤ 2816 := this; omega⟩ := by
  pointwise [k0_pay20]
  rfl
theorem chunkB (r : Fin 512) (q : Fin 256) :
    k0_pay21 (ptH x0 x1) (View.ld x2 (Rect.unit (s := S5632x1024) ![p, 0] ![256, 1024] hv)) (ix2 r q)
      = atB x0 x1 x2 r ⟨o + q.val, by have := hd 1; have : o + 256 ≤ 2816 := this; omega⟩ := by
  subst hp
  pointwise [k0_pay21]
  unfold atB
  refine Finset.sum_congr rfl fun k _ => congrArg (fun i => ptH x0 x1 (ix2 r k) * x2 (ix2 i k)) (Fin.ext ?_)
  show 2816 + o + q.val = 2816 + (o + q.val)
  omega
theorem chunkS (r : Fin 512) (q : Fin 256) :
    k0_pay22 (ptH x0 x1) (View.ld x2 (Rect.unit (s := S5632x1024) ![o, 0] ![256, 1024] hw)) (ix2 r q)
      = Cert.Ffn.sg (atA x0 x1 x2 r ⟨o + q.val, by have := hd 1; have : o + 256 ≤ 2816 := this; omega⟩) := by
  pointwise [k0_pay22, chunkA x0 x1 x2 o p hp hw hd]
  rw [zero_sub (G := EReal)]
  rfl
theorem chunkGB (r : Fin 512) (q : Fin 256) :
    k0_pay23 (ptH x0 x1) (View.ld x2 (Rect.unit (s := S5632x1024) ![o, 0] ![256, 1024] hw)) (ix2 r q)
      = atGB x0 x1 x2 r ⟨o + q.val, by have := hd 1; have : o + 256 ≤ 2816 := this; omega⟩ := by
  pointwise [k0_pay23, chunkS x0 x1 x2 o p hp hw hd, chunkA x0 x1 x2 o p hp hw hd]
  rfl

theorem emb_ix (r : Fin 512) (q : Fin 256) : (Rect.unit (s := S512x2816) ![0, o] ![512, 256] hd).emb (ix2 r q) = ix2 r ⟨o + q.val, by have := hd 1; have : o + 256 ≤ 2816 := this; omega⟩ := by
  blk_ext

theorem ga_piece (x : S512x256.Idx) :
    k0_pay24 (ptH x0 x1) (View.ld x2 (Rect.unit (s := S5632x1024) ![o, 0] ![256, 1024] hw)) (View.ld x2 (Rect.unit (s := S5632x1024) ![p, 0] ![256, 1024] hv)) x
      = ptGA x0 x1 x2 ((Rect.unit (s := S512x2816) ![0, o] ![512, 256] hd).emb x) := by
  obtain ⟨r, q, rfl⟩ : ∃ (r : Fin 512) (q : Fin 256), x = ix2 r q := ⟨_, _, eq_ix2 x⟩
  rw [emb_ix o p hp hd]
  pointwise [k0_pay24, chunkA x0 x1 x2 o p hp hw hd, chunkB x0 x1 x2 o p hp hv hd, chunkS x0 x1 x2 o p hp hw hd, chunkGB x0 x1 x2 o p hp hw hd]
  rfl
theorem gb_piece (x : S512x256.Idx) :
    k0_pay25 (ptH x0 x1) (View.ld x2 (Rect.unit (s := S5632x1024) ![o, 0] ![256, 1024] hw)) x
      = ptGB x0 x1 x2 ((Rect.unit (s := S512x2816) ![0, o] ![512, 256] hd).emb x) := by
  obtain ⟨r, q, rfl⟩ : ∃ (r : Fin 512) (q : Fin 256), x = ix2 r q := ⟨_, _, eq_ix2 x⟩
  rw [emb_ix o p hp hd]
  pointwise [k0_pay25, chunkGB x0 x1 x2 o p hp hw hd]
  rfl
theorem u_piece (x : S512x256.Idx) :
    k0_pay26 (ptH x0 x1) (View.ld x2 (Rect.unit (s := S5632x1024) ![o, 0] ![256, 1024] hw)) (View.ld x2 (Rect.unit (s := S5632x1024) ![p, 0] ![256, 1024] hv)) x
      = ptU x0 x1 x2 ((Rect.unit (s := S512x2816) ![0, o] ![512, 256] hd).emb x) := by
  obtain ⟨r, q, rfl⟩ : ∃ (r : Fin 512) (q : Fin 256), x = ix2 r q := ⟨_, _, eq_ix2 x⟩
  rw [emb_ix o p hp hd]
  pointwise [k0_pay26, chunkB x0 x1 x2 o p hp hv hd, chunkGB x0 x1 x2 o p hp hw hd]
  rfl
end Chunk

set_option maxHeartbeats 4000000 in
/-- The eleven pieces written of the result. -/
theorem ga_A (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S5632x1024 .bf16) (harg3 : arg3.IsWhole) (arg4 : Memref sig .tc .vmem S2816x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole)
    (x0 : Vec Ideal S512x1024 .f32) (x1 : Vec Ideal S8x1024 .f32) (x2 : Vec Ideal S5632x1024 .bf16) (x3 : Vec Ideal S2816x1024 .bf16) :
    View.PiecesOf (ptGA x0 x1 x2) (kernelRun0_A (F := Ideal) c i arg1 harg1 arg2 harg2 arg3 harg3 arg4 harg4 arg5 harg5 arg6 harg6 arg7 harg7 arg8 harg8 arg9 harg9 arg10 harg10 x0 x1 x2 x3).2.2.1 := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, ld_S512x1024, View.PiecesOf]
  exact ⟨ga_piece x0 x1 x2 2560 5376 rfl _ _ _, ga_piece x0 x1 x2 2304 5120 rfl _ _ _, ga_piece x0 x1 x2 2048 4864 rfl _ _ _, ga_piece x0 x1 x2 1792 4608 rfl _ _ _, ga_piece x0 x1 x2 1536 4352 rfl _ _ _, ga_piece x0 x1 x2 1280 4096 rfl _ _ _, ga_piece x0 x1 x2 1024 3840 rfl _ _ _, ga_piece x0 x1 x2 768 3584 rfl _ _ _, ga_piece x0 x1 x2 512 3328 rfl _ _ _, ga_piece x0 x1 x2 256 3072 rfl _ _ _, ga_piece x0 x1 x2 0 2816 rfl _ _ _, trivial⟩

theorem ga_A_canon (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S5632x1024 .bf16) (harg3 : arg3.IsWhole) (arg4 : Memref sig .tc .vmem S2816x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole)
    (x0 : Vec Ideal S512x1024 .f32) (x1 : Vec Ideal S8x1024 .f32) (x2 : Vec Ideal S5632x1024 .bf16) (x3 : Vec Ideal S2816x1024 .bf16) :
    View.canon (kernelRun0_A (F := Ideal) c i arg1 harg1 arg2 harg2 arg3 harg3 arg4 harg4 arg5 harg5 arg6 harg6 arg7 harg7 arg8 harg8 arg9 harg9 arg10 harg10 x0 x1 x2 x3).2.2.1 = ptGA x0 x1 x2 :=
  funext fun y => View.canon_apply_of_pieces _ _ (ga_A c i arg1 harg1 arg2 harg2 arg3 harg3 arg4 harg4 arg5 harg5 arg6 harg6 arg7 harg7 arg8 harg8 arg9 harg9 arg10 harg10 x0 x1 x2 x3).mem y (cover0_A_6 c i arg1 harg1 arg2 harg2 arg3 harg3 arg4 harg4 arg5 harg5 arg6 harg6 arg7 harg7 arg8 harg8 arg9 harg9 arg10 harg10 x0 x1 x2 x3 y)

theorem out0_A_6_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S5632x1024 .bf16) (harg3 : arg3.IsWhole) (arg4 : Memref sig .tc .vmem S2816x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole)
    (x0 : Vec Ideal S512x1024 .f32) (x1 : Vec Ideal S8x1024 .f32) (x2 : Vec Ideal S5632x1024 .bf16) (x3 : Vec Ideal S2816x1024 .bf16) :
    out0_A_6 c i arg1 harg1 arg2 harg2 arg3 harg3 arg4 harg4 arg5 harg5 arg6 harg6 arg7 harg7 arg8 harg8 arg9 harg9 arg10 harg10 x0 x1 x2 x3 = ptGA x0 x1 x2 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 x0 x1 x2 x3)]
  exact ga_A_canon c i arg1 harg1 arg2 harg2 arg3 harg3 arg4 harg4 arg5 harg5 arg6 harg6 arg7 harg7 arg8 harg8 arg9 harg9 arg10 harg10 x0 x1 x2 x3

set_option maxHeartbeats 4000000 in
/-- The eleven pieces written of the result. -/
theorem gb_A (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S5632x1024 .bf16) (harg3 : arg3.IsWhole) (arg4 : Memref sig .tc .vmem S2816x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole)
    (x0 : Vec Ideal S512x1024 .f32) (x1 : Vec Ideal S8x1024 .f32) (x2 : Vec Ideal S5632x1024 .bf16) (x3 : Vec Ideal S2816x1024 .bf16) :
    View.PiecesOf (ptGB x0 x1 x2) (kernelRun0_A (F := Ideal) c i arg1 harg1 arg2 harg2 arg3 harg3 arg4 harg4 arg5 harg5 arg6 harg6 arg7 harg7 arg8 harg8 arg9 harg9 arg10 harg10 x0 x1 x2 x3).2.2.2.1 := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, ld_S512x1024, View.PiecesOf]
  exact ⟨gb_piece x0 x1 x2 2560 5376 rfl _ _, gb_piece x0 x1 x2 2304 5120 rfl _ _, gb_piece x0 x1 x2 2048 4864 rfl _ _, gb_piece x0 x1 x2 1792 4608 rfl _ _, gb_piece x0 x1 x2 1536 4352 rfl _ _, gb_piece x0 x1 x2 1280 4096 rfl _ _, gb_piece x0 x1 x2 1024 3840 rfl _ _, gb_piece x0 x1 x2 768 3584 rfl _ _, gb_piece x0 x1 x2 512 3328 rfl _ _, gb_piece x0 x1 x2 256 3072 rfl _ _, gb_piece x0 x1 x2 0 2816 rfl _ _, trivial⟩

theorem gb_A_canon (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S5632x1024 .bf16) (harg3 : arg3.IsWhole) (arg4 : Memref sig .tc .vmem S2816x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole)
    (x0 : Vec Ideal S512x1024 .f32) (x1 : Vec Ideal S8x1024 .f32) (x2 : Vec Ideal S5632x1024 .bf16) (x3 : Vec Ideal S2816x1024 .bf16) :
    View.canon (kernelRun0_A (F := Ideal) c i arg1 harg1 arg2 harg2 arg3 harg3 arg4 harg4 arg5 harg5 arg6 harg6 arg7 harg7 arg8 harg8 arg9 harg9 arg10 harg10 x0 x1 x2 x3).2.2.2.1 = ptGB x0 x1 x2 :=
  funext fun y => View.canon_apply_of_pieces _ _ (gb_A c i arg1 harg1 arg2 harg2 arg3 harg3 arg4 harg4 arg5 harg5 arg6 harg6 arg7 harg7 arg8 harg8 arg9 harg9 arg10 harg10 x0 x1 x2 x3).mem y (cover0_A_7 c i arg1 harg1 arg2 harg2 arg3 harg3 arg4 harg4 arg5 harg5 arg6 harg6 arg7 harg7 arg8 harg8 arg9 harg9 arg10 harg10 x0 x1 x2 x3 y)

theorem out0_A_7_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S5632x1024 .bf16) (harg3 : arg3.IsWhole) (arg4 : Memref sig .tc .vmem S2816x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole)
    (x0 : Vec Ideal S512x1024 .f32) (x1 : Vec Ideal S8x1024 .f32) (x2 : Vec Ideal S5632x1024 .bf16) (x3 : Vec Ideal S2816x1024 .bf16) :
    out0_A_7 c i arg1 harg1 arg2 harg2 arg3 harg3 arg4 harg4 arg5 harg5 arg6 harg6 arg7 harg7 arg8 harg8 arg9 harg9 arg10 harg10 x0 x1 x2 x3 = ptGB x0 x1 x2 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3)]
  exact gb_A_canon c i arg1 harg1 arg2 harg2 arg3 harg3 arg4 harg4 arg5 harg5 arg6 harg6 arg7 harg7 arg8 harg8 arg9 harg9 arg10 harg10 x0 x1 x2 x3

set_option maxHeartbeats 4000000 in
/-- The eleven pieces written of the result. -/
theorem u_A (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S5632x1024 .bf16) (harg3 : arg3.IsWhole) (arg4 : Memref sig .tc .vmem S2816x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole)
    (x0 : Vec Ideal S512x1024 .f32) (x1 : Vec Ideal S8x1024 .f32) (x2 : Vec Ideal S5632x1024 .bf16) (x3 : Vec Ideal S2816x1024 .bf16) :
    View.PiecesOf (ptU x0 x1 x2) (kernelRun0_A (F := Ideal) c i arg1 harg1 arg2 harg2 arg3 harg3 arg4 harg4 arg5 harg5 arg6 harg6 arg7 harg7 arg8 harg8 arg9 harg9 arg10 harg10 x0 x1 x2 x3).2.2.2.2.1 := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, ld_S512x1024, View.PiecesOf]
  exact ⟨u_piece x0 x1 x2 2560 5376 rfl _ _ _, u_piece x0 x1 x2 2304 5120 rfl _ _ _, u_piece x0 x1 x2 2048 4864 rfl _ _ _, u_piece x0 x1 x2 1792 4608 rfl _ _ _, u_piece x0 x1 x2 1536 4352 rfl _ _ _, u_piece x0 x1 x2 1280 4096 rfl _ _ _, u_piece x0 x1 x2 1024 3840 rfl _ _ _, u_piece x0 x1 x2 768 3584 rfl _ _ _, u_piece x0 x1 x2 512 3328 rfl _ _ _, u_piece x0 x1 x2 256 3072 rfl _ _ _, u_piece x0 x1 x2 0 2816 rfl _ _ _, trivial⟩

theorem u_A_canon (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S5632x1024 .bf16) (harg3 : arg3.IsWhole) (arg4 : Memref sig .tc .vmem S2816x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole)
    (x0 : Vec Ideal S512x1024 .f32) (x1 : Vec Ideal S8x1024 .f32) (x2 : Vec Ideal S5632x1024 .bf16) (x3 : Vec Ideal S2816x1024 .bf16) :
    View.canon (kernelRun0_A (F := Ideal) c i arg1 harg1 arg2 harg2 arg3 harg3 arg4 harg4 arg5 harg5 arg6 harg6 arg7 harg7 arg8 harg8 arg9 harg9 arg10 harg10 x0 x1 x2 x3).2.2.2.2.1 = ptU x0 x1 x2 :=
  funext fun y => View.canon_apply_of_pieces _ _ (u_A c i arg1 harg1 arg2 harg2 arg3 harg3 arg4 harg4 arg5 harg5 arg6 harg6 arg7 harg7 arg8 harg8 arg9 harg9 arg10 harg10 x0 x1 x2 x3).mem y (cover0_A_8 c i arg1 harg1 arg2 harg2 arg3 harg3 arg4 harg4 arg5 harg5 arg6 harg6 arg7 harg7 arg8 harg8 arg9 harg9 arg10 harg10 x0 x1 x2 x3 y)

theorem out0_A_8_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S5632x1024 .bf16) (harg3 : arg3.IsWhole) (arg4 : Memref sig .tc .vmem S2816x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole)
    (x0 : Vec Ideal S512x1024 .f32) (x1 : Vec Ideal S8x1024 .f32) (x2 : Vec Ideal S5632x1024 .bf16) (x3 : Vec Ideal S2816x1024 .bf16) :
    out0_A_8 c i arg1 harg1 arg2 harg2 arg3 harg3 arg4 harg4 arg5 harg5 arg6 harg6 arg7 harg7 arg8 harg8 arg9 harg9 arg10 harg10 x0 x1 x2 x3 = ptU x0 x1 x2 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3)]
  exact u_A_canon c i arg1 harg1 arg2 harg2 arg3 harg3 arg4 harg4 arg5 harg5 arg6 harg6 arg7 harg7 arg8 harg8 arg9 harg9 arg10 harg10 x0 x1 x2 x3

set_option maxHeartbeats 2000000 in
theorem out0_A_5_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S5632x1024 .bf16) (harg3 : arg3.IsWhole) (arg4 : Memref sig .tc .vmem S2816x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole)
    (x0 : Vec Ideal S512x1024 .f32) (x1 : Vec Ideal S8x1024 .f32) (x2 : Vec Ideal S5632x1024 .bf16) (x3 : Vec Ideal S2816x1024 .bf16) :
    out0_A_5 c i arg1 harg1 arg2 harg2 arg3 harg3 arg4 harg4 arg5 harg5 arg6 harg6 arg7 harg7 arg8 harg8 arg9 harg9 arg10 harg10 x0 x1 x2 x3 = ptH x0 x1 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, ld_S512x1024, ld_S2816x1024, canon_S512x1024]
  rfl

set_option maxHeartbeats 4000000 in
theorem out0_A_4_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S5632x1024 .bf16) (harg3 : arg3.IsWhole) (arg4 : Memref sig .tc .vmem S2816x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole)
    (x0 : Vec Ideal S512x1024 .f32) (x1 : Vec Ideal S8x1024 .f32) (x2 : Vec Ideal S5632x1024 .bf16) (x3 : Vec Ideal S2816x1024 .bf16) :
    out0_A_4 c i arg1 harg1 arg2 harg2 arg3 harg3 arg4 harg4 arg5 harg5 arg6 harg6 arg7 harg7 arg8 harg8 arg9 harg9 arg10 harg10 x0 x1 x2 x3 = k0_pay3 x0 (ptU x0 x1 x2) x3 (row3 x1) := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 x0 x1 x2 x3)]
  have hd := u_A_canon c i arg1 harg1 arg2 harg2 arg3 harg3 arg4 harg4 arg5 harg5 arg6 harg6 arg7 harg7 arg8 harg8 arg9 harg9 arg10 harg10 x0 x1 x2 x3
  revert hd
  unfold kernelRun0_A
  dsimp only
  sl_unfold_words
  intro hd
  simp only [View.readAt_eq_ld, harg1.read_unread, harg2.read_unread, harg3.read_unread, harg4.read_unread, harg5.read_unread, harg6.read_unread, harg7.read_unread, harg8.read_unread, harg9.read_unread, harg10.read_unread, ld_S512x1024, ld_S2816x1024, canon_S512x1024] at hd
  simp only [View.readAt_eq_ld, harg1.read_unread, harg2.read_unread, harg3.read_unread, harg4.read_unread, harg5.read_unread, harg6.read_unread, harg7.read_unread, harg8.read_unread, harg9.read_unread, harg10.read_unread, ld_S512x1024, ld_S2816x1024, canon_S512x1024, View.readCov_eq_canon', hd, ptU_read]
  rfl

set_option maxHeartbeats 4000000 in
theorem out0_A_9_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S5632x1024 .bf16) (harg3 : arg3.IsWhole) (arg4 : Memref sig .tc .vmem S2816x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole)
    (x0 : Vec Ideal S512x1024 .f32) (x1 : Vec Ideal S8x1024 .f32) (x2 : Vec Ideal S5632x1024 .bf16) (x3 : Vec Ideal S2816x1024 .bf16) :
    out0_A_9 c i arg1 harg1 arg2 harg2 arg3 harg3 arg4 harg4 arg5 harg5 arg6 harg6 arg7 harg7 arg8 harg8 arg9 harg9 arg10 harg10 x0 x1 x2 x3 = k0_pay2 (ptU x0 x1 x2) x3 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3)]
  have hd := u_A_canon c i arg1 harg1 arg2 harg2 arg3 harg3 arg4 harg4 arg5 harg5 arg6 harg6 arg7 harg7 arg8 harg8 arg9 harg9 arg10 harg10 x0 x1 x2 x3
  revert hd
  unfold kernelRun0_A
  dsimp only
  sl_unfold_words
  intro hd
  simp only [View.readAt_eq_ld, harg1.read_unread, harg2.read_unread, harg3.read_unread, harg4.read_unread, harg5.read_unread, harg6.read_unread, harg7.read_unread, harg8.read_unread, harg9.read_unread, harg10.read_unread, ld_S512x1024, ld_S2816x1024, canon_S512x1024] at hd
  simp only [View.readAt_eq_ld, harg1.read_unread, harg2.read_unread, harg3.read_unread, harg4.read_unread, harg5.read_unread, harg6.read_unread, harg7.read_unread, harg8.read_unread, harg9.read_unread, harg10.read_unread, ld_S512x1024, ld_S2816x1024, canon_S512x1024, View.readCov_eq_canon', hd, ptU_read]

end Cert.FfnFwdIdeal.Gen
-- ==== Proof.FfnFwdRows.lean ====
/-
  The forward call's last result, and its saved derivative multiplied part by part or as a whole.
-/
module

public import proofs.«01_k».proof.Proof.FfnFinite

@[expose] public section

set_option maxRecDepth 16384

noncomputable section

namespace Cert.Ffn

open Idealize.ShloMosaic

namespace Args
variable (A : Args)

/-- The layer's output. -/
def xn (R : Fin 8192) (l : Fin 1024) : EReal := A.x R l + half * (1 + A.gate l) * A.y R l

/-- The gated product's derivative in the first half, its parts multiplied as a whole or one by one. -/
def FwdEq : Prop := ∀ R f, A.b R f * (sg (A.a R f) + A.gb R f * (1 - sg (A.a R f))) = A.ga R f
end Args

theorem Args.Finite.fwdEq {A : Args} (H : A.Finite) : A.FwdEq := by
  intro R f
  have ha : Re (A.a R f) := H.ab_re R _
  have hb : Re (A.b R f) := H.ab_re R _
  obtain ⟨s, hs⟩ := sg_re ha
  obtain ⟨a, ha⟩ := ha
  obtain ⟨b, hb⟩ := hb
  unfold Args.ga Args.gb Args.t
  rw [hs, ha, hb]
  norm_cast
  ring

end Cert.Ffn
-- ==== Proof.FfnFwdPointIx.lean ====
/-
  The terms a grid point of the forward call leaves in its output blocks, at an index: the row functions of `FfnRows` of the
  arrays the point's blocks hold.
-/
module

public import proofs.«01_k».proof.Proof.FfnFwdPoint
public import proofs.«01_k».proof.Proof.FfnFwdRows

@[expose] public section

set_option maxRecDepth 16384

noncomputable section

namespace Cert.FfnFwdIdeal.Gen

open Idealize.ShloMosaic Idealize.ShloMosaic.TcCoe Idealize.ShloMosaic.Tactic

/-- The blocks of tile `b`'s point hold the layer's arrays at rows `512 * b + r`. -/
structure Holds (A : Cert.Ffn.Args) (b : Fin 16) (x0 : Vec Ideal S512x1024 .f32) (x1 : Vec Ideal S8x1024 .f32) (x2 : Vec Ideal S5632x1024 .bf16) (x3 : Vec Ideal S2816x1024 .bf16) : Prop where
  h0 : ∀ (r : Fin 512) l, x0 (ix2 r l) = A.x ⟨512 * b.val + r.val, by omega⟩ l
  h10 : ∀ l, x1 (ix2 0 l) = A.g l
  h11 : ∀ l, x1 (ix2 1 l) = A.sh l
  h12 : ∀ l, x1 (ix2 2 l) = A.sc l
  h13 : ∀ l, x1 (ix2 3 l) = A.gate l
  h2 : ∀ q l, x2 (ix2 q l) = A.win l q
  h3 : ∀ f l, x3 (ix2 f l) = A.wo f l

section
variable {A : Cert.Ffn.Args} {b : Fin 16} {x0 : Vec Ideal S512x1024 .f32} {x1 : Vec Ideal S8x1024 .f32} {x2 : Vec Ideal S5632x1024 .bf16} {x3 : Vec Ideal S2816x1024 .bf16}
  (H : Holds A b x0 x1 x2 x3) (r : Fin 512) (l : Fin 1024) (f : Fin 2816)
include H

theorem ptH_ix : ptH x0 x1 (ix2 r l) = A.h ⟨512 * b.val + r.val, by omega⟩ l := by
  pointwise [ptH, row0, row1, row2, k0_pay4, H.h0, H.h10, H.h11, H.h12]
  rfl
theorem atA_eq : atA x0 x1 x2 r f = A.a ⟨512 * b.val + r.val, by omega⟩ f := by
  unfold atA
  simp only [ptH_ix H, H.h2]
  rfl
theorem atB_eq : atB x0 x1 x2 r f = A.b ⟨512 * b.val + r.val, by omega⟩ f := by
  unfold atB
  simp only [ptH_ix H, H.h2]
  rfl
theorem atGB_eq : atGB x0 x1 x2 r f = A.gb ⟨512 * b.val + r.val, by omega⟩ f := by
  unfold atGB
  rw [atA_eq H]
  rfl
theorem ptGB_ix : ptGB x0 x1 x2 (ix2 r f) = A.gb ⟨512 * b.val + r.val, by omega⟩ f := atGB_eq H r f
theorem ptGA_ix (hg : A.FwdEq) : ptGA x0 x1 x2 (ix2 r f) = A.ga ⟨512 * b.val + r.val, by omega⟩ f := by
  show atGA x0 x1 x2 r f = _
  unfold atGA
  rw [atGB_eq H, atA_eq H, atB_eq H]
  exact hg _ _
theorem ptU_ix : ptU x0 x1 x2 (ix2 r f) = A.gb ⟨512 * b.val + r.val, by omega⟩ f * A.b ⟨512 * b.val + r.val, by omega⟩ f := by
  show atGB x0 x1 x2 r f * atB x0 x1 x2 r f = _
  rw [atGB_eq H, atB_eq H]
theorem pt1_ix : k0_pay1 (ptU x0 x1 x2) x3 (ix2 r l) = A.y ⟨512 * b.val + r.val, by omega⟩ l := by
  pointwise [k0_pay1, ptU_ix H, H.h3]
  rfl
theorem pt9_ix : k0_pay2 (ptU x0 x1 x2) x3 (ix2 r l) = A.y ⟨512 * b.val + r.val, by omega⟩ l := by
  pointwise [k0_pay2, pt1_ix H]
theorem pt4_ix : k0_pay3 x0 (ptU x0 x1 x2) x3 (row3 x1) (ix2 r l) = A.xn ⟨512 * b.val + r.val, by omega⟩ l := by
  pointwise [k0_pay3, row3, pt1_ix H, H.h0, H.h13]
  rfl
end

end Cert.FfnFwdIdeal.Gen
-- ==== Proof.FfnFwdHost.lean ====
/-
  The arrays the feed-forward layer's forward call starts from, at an index.
-/
module

public import proofs.«01_k».proof.Proof.Gen.FfnFwdIdeal.Value
public import proofs.«01_k».proof.Proof.FfnRows
public import Idealize.ShloMosaic.Lib.Pointwise
public import Idealize.ShloMosaic.Lib.Claim

@[expose] public section

set_option maxRecDepth 16384

noncomputable section

namespace Cert.FfnFwdIdeal.Gen

open Idealize.ShloMosaic Idealize.ShloMosaic.TcCoe Idealize.ShloMosaic.Tactic
open Idealize.SL Idealize.SL.Sem

variable (m : (ℓ : Loc nD τ sig) → Buf (Elt Ideal) ℓ) (c : Dev nD)

/-- The program's arguments as rows; the forward call has no gradient among them. -/
def args : Cert.Ffn.Args where
  x R l := m ((c : Thread nD τ).loc main_arg0) (ix2 R l)
  dxo R l := 0
  g l := m ((c : Thread nD τ).loc main_arg1) (ix1 l)
  sh l := m ((c : Thread nD τ).loc main_arg2) (ix1 l)
  sc l := m ((c : Thread nD τ).loc main_arg3) (ix1 l)
  gate l := m ((c : Thread nD τ).loc main_arg4) (ix1 l)
  win k j := m ((c : Thread nD τ).loc main_arg5) (ix2 k j)
  wo k j := m ((c : Thread nD τ).loc main_arg6) (ix2 k j)

variable (R : Fin 8192) (l : Fin 1024) (q : Fin 5632) (f : Fin 2816)

/-! The host line in two stretches: the packed vector's rows, and the rest. -/

def hA (σ : Valuation τ sig (Elt Ideal)) : Valuation τ sig (Elt Ideal) :=
  StableHlo.after (((hostOps0 (F := Ideal)).drop 0).take 6) σ
def hB (σ : Valuation τ sig (Elt Ideal)) : Valuation τ sig (Elt Ideal) :=
  StableHlo.after (((hostOps0 (F := Ideal)).drop 6).take 4) σ

theorem V_split (b : Ref sig .tc) : V m c b = hB (hA fun b => m (c, b)) b := rfl

section
variable (σ : Valuation τ sig (Elt Ideal))

theorem hA_v0 : hA σ main_v0 (ix2 0 l) = σ main_arg1 (ix1 l) := by
  unfold hA
  simp only [hostOps0, List.take, List.drop]
  after_results
  pointwise
theorem hA_v1 : hA σ main_v1 (ix2 0 l) = σ main_arg2 (ix1 l) := by
  unfold hA
  simp only [hostOps0, List.take, List.drop]
  after_results
  pointwise
theorem hA_v2 : hA σ main_v2 (ix2 0 l) = σ main_arg3 (ix1 l) := by
  unfold hA
  simp only [hostOps0, List.take, List.drop]
  after_results
  pointwise
theorem hA_v3 : hA σ main_v3 (ix2 0 l) = σ main_arg4 (ix1 l) := by
  unfold hA
  simp only [hostOps0, List.take, List.drop]
  after_results
  pointwise
theorem hA_arg5 : hA σ main_arg5 = σ main_arg5 := by
  unfold hA
  simp only [hostOps0, List.take, List.drop]
  after_results
theorem hA_arg6 : hA σ main_arg6 = σ main_arg6 := by
  unfold hA
  simp only [hostOps0, List.take, List.drop]
  after_results
theorem hB_v7 : hB σ main_v7 (ix2 q l) = σ main_arg5 (ix2 l q) := by
  unfold hB
  simp only [hostOps0, List.take, List.drop]
  after_results
  pointwise
theorem hB_v8 : hB σ main_v8 (ix2 f l) = σ main_arg6 (ix2 f l) := by
  unfold hB
  simp only [hostOps0, List.take, List.drop]
  after_results
  pointwise
theorem hB_v5 : hB σ main_v5 = concatenate S8x1024 0 [⟨S1x1024, (σ main_v0 : (⟨S1x1024, .f32⟩ : BufTy).Contents (Elt Ideal))⟩, ⟨S1x1024, (σ main_v1 : (⟨S1x1024, .f32⟩ : BufTy).Contents (Elt Ideal))⟩, ⟨S1x1024, (σ main_v2 : (⟨S1x1024, .f32⟩ : BufTy).Contents (Elt Ideal))⟩, ⟨S1x1024, (σ main_v3 : (⟨S1x1024, .f32⟩ : BufTy).Contents (Elt Ideal))⟩, ⟨S4x1024, (σ main_v4 : (⟨S4x1024, .f32⟩ : BufTy).Contents (Elt Ideal))⟩] concatenates_S1x1024_S1x1024_S1x1024_S1x1024_S4x1024_S8x1024_d0 := by
  unfold hB
  simp only [hostOps0, List.take, List.drop]
  after_results
  rfl
end

theorem V5_0 : V m c main_v5 (ix2 0 l) = (args m c).g l := by
  rw [V_split, hB_v5]
  pointwise
  rw [hA_v0]
  rfl
theorem V5_1 : V m c main_v5 (ix2 1 l) = (args m c).sh l := by
  rw [V_split, hB_v5]
  pointwise
  rw [hA_v1]
  rfl
theorem V5_2 : V m c main_v5 (ix2 2 l) = (args m c).sc l := by
  rw [V_split, hB_v5]
  pointwise
  rw [hA_v2]
  rfl
theorem V5_3 : V m c main_v5 (ix2 3 l) = (args m c).gate l := by
  rw [V_split, hB_v5]
  pointwise
  rw [hA_v3]
  rfl
theorem V7_ix : V m c main_v7 (ix2 q l) = (args m c).win l q := by
  rw [V_split, hB_v7, hA_arg5]
  rfl
theorem V8_ix : V m c main_v8 (ix2 f l) = (args m c).wo f l := by
  rw [V_split, hB_v8, hA_arg6]
  rfl

end Cert.FfnFwdIdeal.Gen
-- ==== Proof.FfnFwdValue.lean ====
/-
  What the kernel of `FfnFwd` leaves in its six result arrays on the ideal instance, as the row functions of `FfnRows`.
-/
module

public import proofs.«01_k».proof.Proof.FfnFwdPointIx
public import proofs.«01_k».proof.Proof.FfnFwdHost
public import Idealize.ShloMosaic.Lib.Pipeline.ValueKit

@[expose] public section

set_option maxRecDepth 16384

noncomputable section

namespace Cert.FfnFwdIdeal.Gen

open Idealize.ShloMosaic Idealize.ShloMosaic.TcCoe Idealize.ShloMosaic.Tactic
open Idealize.SL Idealize.SL.Sem

/-- The tile of rows the point works on. -/
def tile (t : Fin cfg0.N) : Fin 16 := ⟨t.val, lt_of_lt_of_eq t.isLt N_0⟩

theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

section
variable (m : (ℓ : Loc nD τ sig) → Buf (Elt Ideal) ℓ) (c : Dev nD) (t : Fin cfg0.N) (r : Fin 512) (l : Fin 1024) (q : Fin 5632) (f : Fin 2816) (e : Fin 8)

theorem blk0 : iblk m c 0 t (ix2 r l) = V m c main_arg0 (ix2 ⟨512 * (tile t).val + r.val, by omega⟩ l) := by
  blk_ext [iblk, tile, idx t]
theorem blk1 : iblk m c 1 t (ix2 e l) = V m c main_v5 (ix2 e l) := by
  blk_ext [iblk, idx t]
theorem blk2 : iblk m c 2 t (ix2 q l) = V m c main_v7 (ix2 q l) := by
  blk_ext [iblk, idx t]
theorem blk3 : iblk m c 3 t (ix2 f l) = V m c main_v8 (ix2 f l) := by
  blk_ext [iblk, idx t]

theorem holds : Holds (args m c) (tile t) (iblk m c 0 t) (iblk m c 1 t) (iblk m c 2 t) (iblk m c 3 t) where
  h0 r l := (blk0 m c t r l).trans (congrFun (V_main_arg0 m c) _)
  h10 l := (blk1 m c t l 0).trans (V5_0 m c l)
  h11 l := (blk1 m c t l 1).trans (V5_1 m c l)
  h12 l := (blk1 m c t l 2).trans (V5_2 m c l)
  h13 l := (blk1 m c t l 3).trans (V5_3 m c l)
  h2 q l := (blk2 m c t l q).trans (V7_ix m c l q)
  h3 f l := (blk3 m c t l f).trans (V8_ix m c l f)

theorem outs4_ix : (outsAt0 m c t).1 (ix2 r l) = (args m c).xn ⟨512 * (tile t).val + r.val, by omega⟩ l := by
  refine Eq.trans ?_ (pt4_ix (holds m c t) r l)
  simp only [outsAt0]
  rw [out0_A_4_eq]
theorem outs5_ix : (outsAt0 m c t).2.1 (ix2 r l) = (args m c).h ⟨512 * (tile t).val + r.val, by omega⟩ l := by
  refine Eq.trans ?_ (ptH_ix (holds m c t) r l)
  simp only [outsAt0]
  rw [out0_A_5_eq]
theorem outs6_ix (hg : (args m c).FwdEq) : (outsAt0 m c t).2.2.1 (ix2 r f) = (args m c).ga ⟨512 * (tile t).val + r.val, by omega⟩ f := by
  refine Eq.trans ?_ (ptGA_ix (holds m c t) r f hg)
  simp only [outsAt0]
  rw [out0_A_6_eq]
theorem outs7_ix : (outsAt0 m c t).2.2.2.1 (ix2 r f) = (args m c).gb ⟨512 * (tile t).val + r.val, by omega⟩ f := by
  refine Eq.trans ?_ (ptGB_ix (holds m c t) r f)
  simp only [outsAt0]
  rw [out0_A_7_eq]
theorem outs8_ix : (outsAt0 m c t).2.2.2.2.1 (ix2 r f) = (args m c).gb ⟨512 * (tile t).val + r.val, by omega⟩ f * (args m c).b ⟨512 * (tile t).val + r.val, by omega⟩ f := by
  refine Eq.trans ?_ (ptU_ix (holds m c t) r f)
  simp only [outsAt0]
  rw [out0_A_8_eq]
theorem outs9_ix : (outsAt0 m c t).2.2.2.2.2 (ix2 r l) = (args m c).y ⟨512 * (tile t).val + r.val, by omega⟩ l := by
  refine Eq.trans ?_ (pt9_ix (holds m c t) r l)
  simp only [outsAt0]
  rw [out0_A_9_eq]
theorem arr4 : (dats m 0 c).arrAt 4 cfg0.N = fun i => (args m c).xn (i 0) (i 1) := by
  refine (dats m 0 c).arrAt_eq_of_covers 4 _ (by decide +kernel) fun t hf y => ?_
  blk_simp
  rw [after0_4]
  refine (congrArg _ (eq_ix2 _)).trans ((outs4_ix m c t _ _).trans ?_)
  exact congrArg (fun i : (⟨2, ![8192, 1024]⟩ : Shape).Idx => (args m c).xn (i 0) (i 1)) (a₁ := ix2 _ _) (by blk_ext [tile, idx t])
theorem arr5 : (dats m 0 c).arrAt 5 cfg0.N = fun i => (args m c).h (i 0) (i 1) := by
  refine (dats m 0 c).arrAt_eq_of_covers 5 _ (by decide +kernel) fun t hf y => ?_
  blk_simp
  rw [after0_5]
  refine (congrArg _ (eq_ix2 _)).trans ((outs5_ix m c t _ _).trans ?_)
  exact congrArg (fun i : (⟨2, ![8192, 1024]⟩ : Shape).Idx => (args m c).h (i 0) (i 1)) (a₁ := ix2 _ _) (by blk_ext [tile, idx t])
theorem arr6 (hg : (args m c).FwdEq) : (dats m 0 c).arrAt 6 cfg0.N = fun i => (args m c).ga (i 0) (i 1) := by
  refine (dats m 0 c).arrAt_eq_of_covers 6 _ (by decide +kernel) fun t hf y => ?_
  blk_simp
  rw [after0_6]
  refine (congrArg _ (eq_ix2 _)).trans ((outs6_ix m c t _ _ hg).trans ?_)
  exact congrArg (fun i : (⟨2, ![8192, 2816]⟩ : Shape).Idx => (args m c).ga (i 0) (i 1)) (a₁ := ix2 _ _) (by blk_ext [tile, idx t])
theorem arr7 : (dats m 0 c).arrAt 7 cfg0.N = fun i => (args m c).gb (i 0) (i 1) := by
  refine (dats m 0 c).arrAt_eq_of_covers 7 _ (by decide +kernel) fun t hf y => ?_
  blk_simp
  rw [after0_7]
  refine (congrArg _ (eq_ix2 _)).trans ((outs7_ix m c t _ _).trans ?_)
  exact congrArg (fun i : (⟨2, ![8192, 2816]⟩ : Shape).Idx => (args m c).gb (i 0) (i 1)) (a₁ := ix2 _ _) (by blk_ext [tile, idx t])
theorem arr8 : (dats m 0 c).arrAt 8 cfg0.N = fun i => (args m c).gb (i 0) (i 1) * (args m c).b (i 0) (i 1) := by
  refine (dats m 0 c).arrAt_eq_of_covers 8 _ (by decide +kernel) fun t hf y => ?_
  blk_simp
  rw [after0_8]
  refine (congrArg _ (eq_ix2 _)).trans ((outs8_ix m c t _ _).trans ?_)
  exact congrArg (fun i : (⟨2, ![8192, 2816]⟩ : Shape).Idx => (args m c).gb (i 0) (i 1) * (args m c).b (i 0) (i 1)) (a₁ := ix2 _ _) (by blk_ext [tile, idx t])
theorem arr9 : (dats m 0 c).arrAt 9 cfg0.N = fun i => (args m c).y (i 0) (i 1) := by
  refine (dats m 0 c).arrAt_eq_of_covers 9 _ (by decide +kernel) fun t hf y => ?_
  blk_simp
  rw [after0_9]
  refine (congrArg _ (eq_ix2 _)).trans ((outs9_ix m c t _ _).trans ?_)
  exact congrArg (fun i : (⟨2, ![8192, 1024]⟩ : Shape).Idx => (args m c).y (i 0) (i 1)) (a₁ := ix2 _ _) (by blk_ext [tile, idx t])

end

end Cert.FfnFwdIdeal.Gen
-- ==== Proof.FfnFwdRefValue.lean ====
/-
  The feed-forward layer's forward reference's results at an index: the row functions of `FfnRows` of its arguments.
-/
module

public import proofs.«01_k».proof.Proof.Gen.FfnFwdRefIdeal.Run
public import proofs.«01_k».proof.Proof.FfnFwdRows
public import Idealize.ShloMosaic.Lib.Pointwise

@[expose] public section

set_option maxRecDepth 16384

noncomputable section

namespace Cert.FfnFwdRefIdeal.Value

open Cert.FfnFwdRefIdeal Cert.FfnFwdRefIdeal.Gen Idealize.ShloMosaic Idealize.ShloMosaic.TcCoe Idealize.ShloMosaic.Tactic Idealize.SL.Sem

variable (V0 : Valuation τ sig (Elt Ideal))

/-- The reference's arguments as rows; the forward call has no gradient among them. -/
def args : Cert.Ffn.Args where
  x R l := V0 (Proc.devRef .tc main_arg0) (ix2 R l)
  dxo R l := 0
  g l := V0 (Proc.devRef .tc main_arg1) (ix1 l)
  sh l := V0 (Proc.devRef .tc main_arg2) (ix1 l)
  sc l := V0 (Proc.devRef .tc main_arg3) (ix1 l)
  gate l := V0 (Proc.devRef .tc main_arg4) (ix1 l)
  win k j := V0 (Proc.devRef .tc main_arg5) (ix2 k j)
  wo k j := V0 (Proc.devRef .tc main_arg6) (ix2 k j)

/-! ### The program's values, each of the earlier ones -/

def v6 : FVec Ideal S8192x1 .f32 := addf (Host.divf (broadcastInDim S8192x1 ![0] bcast_S8192_S8192x1_0 ((fun x v => Host.reduceAdd x v reducesTo_S8192x1024_S8192_d1 h_S_) (mulf (V0 (Proc.devRef .tc main_arg0)) (V0 (Proc.devRef .tc main_arg0))) (constant S_ .f32 0x00000000#32))) (broadcastInDim S8192x1 ![] bcast_S_S8192x1 (constant S_ .f32 0x44800000#32))) (broadcastInDim S8192x1 ![] bcast_S_S8192x1 (constant S_ .f32 0x3727C5AC#32))
def v7 : FVec Ideal S8192x1 .f32 := Host.rsqrt (v6 V0)
def v9 : FVec Ideal S8192x1024 .f32 := mulf (V0 (Proc.devRef .tc main_arg0)) (broadcastInDim S8192x1024 ![0, 1] bcast_S8192x1_S8192x1024_0_1 (v7 V0))
def v12 : FVec Ideal S8192x1024 .f32 := mulf (v9 V0) (broadcastInDim S8192x1024 ![0, 1] bcast_S1x1024_S8192x1024_0_1 (broadcastInDim S1x1024 ![1] bcast_S1024_S1x1024_1 (V0 (Proc.devRef .tc main_arg1))))
def v15 : FVec Ideal S1x1024 .f32 := addf (broadcastInDim S1x1024 ![] bcast_S_S1x1024 (constant S_ .f32 0x3F800000#32)) (broadcastInDim S1x1024 ![1] bcast_S1024_S1x1024_1 (V0 (Proc.devRef .tc main_arg3)))
def v20 : FVec Ideal S8192x1024 .f32 := addf (mulf (v12 V0) (broadcastInDim S8192x1024 ![0, 1] bcast_S1x1024_S8192x1024_0_1 (v15 V0))) (broadcastInDim S8192x1024 ![0, 1] bcast_S1x1024_S8192x1024_0_1 (broadcastInDim S1x1024 ![1] bcast_S1024_S1x1024_1 (V0 (Proc.devRef .tc main_arg2))))
def v21 : FVec Ideal S8192x5632 .f32 := Host.dotGeneral (φ₁ := .f32) (φ₂ := .f32) dot_S8192x1024_S1024x5632_S8192x5632_1_0_0_1_n_n none (v20 V0) (V0 (Proc.devRef .tc main_arg5))
def v22 : FVec Ideal S8192x2816 .f32 := (extractStridedSlice S8192x2816 ![0, 0] (v21 V0) slices_S8192x5632_S8192x2816_0_0)
def v23 : FVec Ideal S8192x2816 .f32 := (extractStridedSlice S8192x2816 ![0, 2816] (v21 V0) slices_S8192x5632_S8192x2816_0_2816)
def v29 : FVec Ideal S8192x2816 .f32 := Host.divf (broadcastInDim S8192x2816 ![] bcast_S_S8192x2816 (constant S_ .f32 0x3F800000#32)) (addf (broadcastInDim S8192x2816 ![] bcast_S_S8192x2816 (constant S_ .f32 0x3F800000#32)) (Host.exp (Host.negf (v22 V0))))
def v32 : FVec Ideal S8192x2816 .f32 := mulf (v29 V0) (subf (broadcastInDim S8192x2816 ![] bcast_S_S8192x2816 (constant S_ .f32 0x3F800000#32)) (v29 V0))
def v33 : FVec Ideal S8192x2816 .f32 := mulf (v22 V0) (v29 V0)
def v34 : FVec Ideal S8192x2816 .f32 := mulf (v33 V0) (v23 V0)
def v36 : FVec Ideal S8192x2816 .f32 := mulf (v33 V0) (broadcastInDim S8192x2816 ![] bcast_S_S8192x2816 (constant S_ .f32 0x3F800000#32))
def v37 : FVec Ideal S8192x2816 .f32 := mulf (broadcastInDim S8192x2816 ![] bcast_S_S8192x2816 (constant S_ .f32 0x3F800000#32)) (v23 V0)
def v41 : FVec Ideal S8192x2816 .f32 := addf (mulf (v37 V0) (v29 V0)) (mulf (mulf (v22 V0) (v37 V0)) (v32 V0))
def v42 : FVec Ideal S8192x1024 .f32 := Host.dotGeneral (φ₁ := .f32) (φ₂ := .f32) dot_S8192x2816_S2816x1024_S8192x1024_1_0_0_1_n_n none (v34 V0) (V0 (Proc.devRef .tc main_arg6))
def v47 : FVec Ideal S1x1024 .f32 := mulf (broadcastInDim S1x1024 ![] bcast_S_S1x1024 (constant S_ .f32 0x3F000000#32)) (broadcastInDim S1x1024 ![1] bcast_S1024_S1x1024_1 (addf (broadcastInDim S1024 ![] bcast_S_S1024 (constant S_ .f32 0x3F800000#32)) (V0 (Proc.devRef .tc main_arg4))))
def v50 : FVec Ideal S8192x1024 .f32 := addf (V0 (Proc.devRef .tc main_arg0)) (mulf (broadcastInDim S8192x1024 ![0, 1] bcast_S1x1024_S8192x1024_0_1 (v47 V0)) (v42 V0))
def v51 : FVec Ideal S8192x1024 .bf16 := (truncf .bf16 (v20 V0) bitsLt_bf16_f32)
def v52 : FVec Ideal S8192x2816 .bf16 := (truncf .bf16 (v41 V0) bitsLt_bf16_f32)
def v53 : FVec Ideal S8192x2816 .bf16 := (truncf .bf16 (v36 V0) bitsLt_bf16_f32)
def v54 : FVec Ideal S8192x2816 .bf16 := (truncf .bf16 (v34 V0) bitsLt_bf16_f32)
def v55 : FVec Ideal S8192x1024 .bf16 := (truncf .bf16 (v42 V0) bitsLt_bf16_f32)

variable (R : Fin 8192) (l : Fin 1024) (q : Fin 5632) (f : Fin 2816)

theorem v6_ix (z : Fin 1) : v6 V0 (ix2 R z) = Cert.Conv.ms ((args V0).x R) := by
  pointwise [v6]
  rfl
theorem v7_ix (z : Fin 1) : v7 V0 (ix2 R z) = Cert.Conv.rs ((args V0).x R) := by
  pointwise [v7, v6_ix]
  rfl
theorem v9_ix : v9 V0 (ix2 R l) = (args V0).x R l * Cert.Conv.rs ((args V0).x R) := by
  pointwise [v9, v7_ix]
  rfl
theorem v12_ix : v12 V0 (ix2 R l) = (args V0).x R l * Cert.Conv.rs ((args V0).x R) * (args V0).g l := by
  pointwise [v12, v9_ix]
  rfl
theorem v15_ix (z : Fin 1) : v15 V0 (ix2 z l) = 1 + (args V0).sc l := by
  pointwise [v15]
  rfl
theorem v20_ix : v20 V0 (ix2 R l) = (args V0).h R l := by
  pointwise [v20, v12_ix, v15_ix]
  rfl
theorem v21_ix : v21 V0 (ix2 R q) = (args V0).ab R q := by
  pointwise [v21, v20_ix]
  rfl
theorem v22_ix : v22 V0 (ix2 R f) = (args V0).a R f := by
  pointwise [v22, v21_ix]
  rfl
theorem v23_ix : v23 V0 (ix2 R f) = (args V0).b R f := by
  pointwise [v23, v21_ix]
  rfl
theorem v29_ix : v29 V0 (ix2 R f) = Cert.Ffn.sg ((args V0).a R f) := by
  pointwise [v29, v22_ix]
  rfl
theorem v32_ix : v32 V0 (ix2 R f) = (args V0).t R f := by
  pointwise [v32, v29_ix]
  rfl
theorem v33_ix : v33 V0 (ix2 R f) = (args V0).gb R f := by
  pointwise [v33, v22_ix, v29_ix]
  rfl
theorem v34_ix : v34 V0 (ix2 R f) = (args V0).gb R f * (args V0).b R f := by
  pointwise [v34, v33_ix, v23_ix]
theorem v36_ix : v36 V0 (ix2 R f) = (args V0).gb R f := by
  pointwise [v36, v33_ix]
theorem v37_ix : v37 V0 (ix2 R f) = (args V0).b R f := by
  pointwise [v37, v23_ix]
theorem v41_ix : v41 V0 (ix2 R f) = (args V0).ga R f := by
  pointwise [v41, v37_ix, v29_ix, v22_ix, v32_ix]
  rfl
theorem v42_ix : v42 V0 (ix2 R l) = (args V0).y R l := by
  pointwise [v42, v34_ix]
  rfl
theorem v47_ix (z : Fin 1) : v47 V0 (ix2 z l) = Cert.Ffn.half * (1 + (args V0).gate l) := by
  pointwise [v47]
  rfl
theorem v50_ix : v50 V0 (ix2 R l) = (args V0).xn R l := by
  pointwise [v50, v47_ix, v42_ix]
  rfl
theorem v51_ix : v51 V0 (ix2 R l) = (args V0).h R l := by
  pointwise [v51, v20_ix]
theorem v52_ix : v52 V0 (ix2 R f) = (args V0).ga R f := by
  pointwise [v52, v41_ix]
theorem v53_ix : v53 V0 (ix2 R f) = (args V0).gb R f := by
  pointwise [v53, v36_ix]
theorem v54_ix : v54 V0 (ix2 R f) = (args V0).gb R f * (args V0).b R f := by
  pointwise [v54, v34_ix]
theorem v55_ix : v55 V0 (ix2 R l) = (args V0).y R l := by
  pointwise [v55, v42_ix]

/-! ### The run's values are these -/

theorem run_v50 (m : (ℓ : Loc nD τ sig) → Buf (Elt Ideal) ℓ) (c : Dev nD) : res_main_v50 m c = v50 (StableHlo.launchContents m c) := rfl
theorem run_v52 (m : (ℓ : Loc nD τ sig) → Buf (Elt Ideal) ℓ) (c : Dev nD) : res_main_v52 m c = v52 (StableHlo.launchContents m c) := rfl
theorem run_v54 (m : (ℓ : Loc nD τ sig) → Buf (Elt Ideal) ℓ) (c : Dev nD) : res_main_v54 m c = v54 (StableHlo.launchContents m c) := rfl
theorem run_v55 (m : (ℓ : Loc nD τ sig) → Buf (Elt Ideal) ℓ) (c : Dev nD) : res_main_v55 m c = v55 (StableHlo.launchContents m c) := rfl

end Cert.FfnFwdRefIdeal.Value
-- ==== Proof.FfnFwdPre.lean ====
/-
  The forward call's precondition read: every element of the feed-forward layer's arguments is a real.
-/
module

public import proofs.«01_k».proof.Defs
public import proofs.«01_k».proof.Proof.FfnPre
public import proofs.«01_k».proof.Proof.FfnFwdHost
public import proofs.«01_k».proof.Proof.Gen.Pre_ffn_fwd_finite

@[expose] public section

set_option maxRecDepth 16384

noncomputable section

namespace Cert.Ffn

open Idealize.ShloMosaic Idealize.SL.Sem Idealize.ShloMosaic.TcCoe

local instance : Cert.Pre_ffn_fwd_finite.Facts := Cert.Pre_ffn_fwd_finite.Gen.facts

open Cert.FfnFwdIdeal in
theorem finite_fwd_args (m : (ℓ : Loc nD τ sig) → Buf (Elt Ideal) ℓ) (H : Cert.Pre_FfnFwdIdeal_ffn_fwd_finite m) (c : Dev nD) : (Gen.args m c).Finite := by
  have h := congrFun (H c) ix0
  unfold Cert.Pre_ffn_fwd_finite.fn Cert.Pre_ffn_fwd_finite.fn_part1 at h
  obtain ⟨h, h6⟩ := andi_one h
  obtain ⟨h, h5⟩ := andi_one h
  obtain ⟨h, h4⟩ := andi_one h
  obtain ⟨h, h3⟩ := andi_one h
  obtain ⟨h, h2⟩ := andi_one h
  obtain ⟨h0, h1⟩ := andi_one h
  exact
    { x := fun R l => re_of_abs _ _ _ (reduce_andi _ _ _ _ _ h0 _)
      g := fun l => re_of_abs _ _ _ (reduce_andi _ _ _ _ _ h1 _)
      sh := fun l => re_of_abs _ _ _ (reduce_andi _ _ _ _ _ h2 _)
      sc := fun l => re_of_abs _ _ _ (reduce_andi _ _ _ _ _ h3 _)
      gate := fun l => re_of_abs _ _ _ (reduce_andi _ _ _ _ _ h4 _)
      win := fun k j => re_of_abs _ _ _ (reduce_andi _ _ _ _ _ h5 _)
      wo := fun f l => re_of_abs _ _ _ (reduce_andi _ _ _ _ _ h6 _)
      dxo := fun R l => ⟨0, EReal.coe_zero.symm⟩ }

end Cert.Ffn
-- ==== Proof.FfnFwdClaim.lean ====
/-
  The claims about the feed-forward layer's forward call: the reference's frame, and that kernel and reference compute the
  same six arrays over the extended reals where the arguments are finite.
-/
module

public import proofs.«01_k».proof.Defs
public import proofs.«01_k».proof.Proof.FfnFwdValue
public import proofs.«01_k».proof.Proof.FfnFwdRefValue
public import proofs.«01_k».proof.Proof.FfnFwdPre
public import Idealize.ShloMosaic.Lib.Quiescent

@[expose] public section

set_option maxRecDepth 16384

noncomputable section

namespace Cert.Proof.FfnFwd

open Idealize.ShloMosaic Idealize.SL.Sem Idealize.ShloMosaic.TcCoe
open Cert.FfnFwdRefIdeal.Value (run_v50 run_v52 run_v54 run_v55)

local instance : Cert.FfnFwdIdeal.Facts := Cert.FfnFwdIdeal.Gen.facts
local instance : Cert.FfnFwdRefIdeal.Facts := Cert.FfnFwdRefIdeal.Gen.facts
local instance : Cert.Pre_ffn_fwd_finite.Facts := Cert.Pre_ffn_fwd_finite.Gen.facts

/-- The reference ends with its arguments unchanged, and it has no semaphores. -/
theorem frame_ref : Cert.quiescent_FfnFwdRefIdeal := fun m ρ _ =>
  (θ_run Cert.FfnFwdRefIdeal.defs _ _).mono (fun r h => ⟨fun c => (h c).2.2.2.2.2.2, sem_eq_zero_of_no_sems (by decide) r.2⟩)
    (Cert.FfnFwdRefIdeal.Value.run (F := Ideal) m ρ)

theorem algebraic : Cert.algebraic_FfnFwdIdeal_FfnFwdRefIdeal_pre_ffn_fwd_finite := by
  intro m ρ m' ρ' hpre hag
  have hA : ∀ c, Cert.FfnFwdRefIdeal.Value.args (StableHlo.launchContents m' c) = Cert.FfnFwdIdeal.Gen.args m c := fun c => by
    obtain ⟨h0, h1, h2, h3, h4, h5, h6⟩ := hag c
    unfold Cert.FfnFwdRefIdeal.Value.args Cert.FfnFwdIdeal.Gen.args
    rw [← h0, ← h1, ← h2, ← h3, ← h4, ← h5, ← h6]
  have hg : ∀ c, (Cert.FfnFwdIdeal.Gen.args m c).FwdEq := fun c => (Cert.Ffn.finite_fwd_args m hpre c).fwdEq
  refine ⟨fun c => fun i => (Cert.FfnFwdIdeal.Gen.args m c).xn (i 0) (i 1), fun c => fun i => (Cert.FfnFwdIdeal.Gen.args m c).h (i 0) (i 1),
    fun c => fun i => (Cert.FfnFwdIdeal.Gen.args m c).ga (i 0) (i 1), fun c => fun i => (Cert.FfnFwdIdeal.Gen.args m c).gb (i 0) (i 1),
    fun c => fun i => (Cert.FfnFwdIdeal.Gen.args m c).gb (i 0) (i 1) * (Cert.FfnFwdIdeal.Gen.args m c).b (i 0) (i 1),
    fun c => fun i => (Cert.FfnFwdIdeal.Gen.args m c).y (i 0) (i 1), ?_, ?_⟩
  · refine (θ_run Cert.FfnFwdIdeal.defs _ _).mono (fun r h c => ?_) (Cert.FfnFwdIdeal.Value.run_blocks (F := Ideal) m ρ)
    obtain ⟨h4, h5, h6, h7, h8, h9, hk⟩ := h c
    exact ⟨h4.trans (Cert.FfnFwdIdeal.Gen.arr4 m c), h5.trans (Cert.FfnFwdIdeal.Gen.arr5 m c), h6.trans (Cert.FfnFwdIdeal.Gen.arr6 m c (hg c)),
      h7.trans (Cert.FfnFwdIdeal.Gen.arr7 m c), h8.trans (Cert.FfnFwdIdeal.Gen.arr8 m c), h9.trans (Cert.FfnFwdIdeal.Gen.arr9 m c), hk⟩
  · refine (θ_run Cert.FfnFwdRefIdeal.defs _ _).mono (fun r h c => ?_) (Cert.FfnFwdRefIdeal.Value.run (F := Ideal) m' ρ')
    obtain ⟨h0, h1, h2, h3, h4, h5, hk⟩ := h c
    refine ⟨(h0.trans (run_v50 m' c)).trans (funext fun i => ?_), h1.trans (funext fun i => ?_), (h2.trans (run_v52 m' c)).trans (funext fun i => ?_),
      h3.trans (funext fun i => ?_), (h4.trans (run_v54 m' c)).trans (funext fun i => ?_), (h5.trans (run_v55 m' c)).trans (funext fun i => ?_), hk⟩
    · exact (congrArg _ (ValueIdx.eq_ix2 i)).trans ((Cert.FfnFwdRefIdeal.Value.v50_ix _ _ _).trans (by rw [hA]))
    · exact (congrArg (Cert.FfnFwdRefIdeal.Value.v51 (StableHlo.launchContents m' c)) (ValueIdx.eq_ix2 i)).trans ((Cert.FfnFwdRefIdeal.Value.v51_ix _ _ _).trans (by rw [hA]))
    · exact (congrArg _ (ValueIdx.eq_ix2 i)).trans ((Cert.FfnFwdRefIdeal.Value.v52_ix _ _ _).trans (by rw [hA]))
    · exact (congrArg (Cert.FfnFwdRefIdeal.Value.v53 (StableHlo.launchContents m' c)) (ValueIdx.eq_ix2 i)).trans ((Cert.FfnFwdRefIdeal.Value.v53_ix _ _ _).trans (by rw [hA]))
    · exact (congrArg _ (ValueIdx.eq_ix2 i)).trans ((Cert.FfnFwdRefIdeal.Value.v54_ix _ _ _).trans (by rw [hA]))
    · exact (congrArg _ (ValueIdx.eq_ix2 i)).trans ((Cert.FfnFwdRefIdeal.Value.v55_ix _ _ _).trans (by rw [hA]))

end Cert.Proof.FfnFwd

end
-- ==== Proof.DwConvOutValue.lean ====
/-
  What the kernel of `DwConvOut` leaves in its result, the gradient of the convolution's second weight: each block of it
  is the product over all rows, the first half of the rows put into the accumulator and the second half added to it.
-/
module

public import proofs.«01_k».proof.Proof.DwSum
public import proofs.«01_k».proof.Proof.Gen.DwConvOutIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.DwConvOutIdeal.Gen

open Idealize.ShloMosaic Idealize.ShloMosaic.TcCoe Idealize.ShloMosaic.Tactic
open Idealize.SL Idealize.SL.Sem

theorem ld_acc {e : EltTy} (X : S1024x512.Idx → Elt Ideal e) : View.ld X (Rect.unit (s := S1024x512) ![0, 0] ![1024, 512] inb_S1024x512_S1024x512_0_0) = X :=
  View.ld_unit_zero (S := S1024x512) (funext fun a => by fin_cases a <;> rfl) _ X
theorem canon_acc {e : EltTy} (w : S1024x512.Idx → Elt Ideal e) (L : List (View.Piece (Elt Ideal) S1024x512 e)) : View.canon (⟨Rect.unit (s := S1024x512) ![0, 0] ![1024, 512] inb_S1024x512_S1024x512_0_0, w⟩ :: L) = w :=
  View.canon_cons_unit_zero (S := S1024x512) (funext fun a => by fin_cases a <;> rfl) _ w L
theorem readCov_acc {κ : Kind} {sp : Space} (v : View sig κ sp S1024x512 .f32) (w : Vec Ideal S1024x512 .f32) :
    v.readCov [⟨Rect.unit ![0, 0] ![1024, 512] inb_S1024x512_S1024x512_0_0, w⟩] (Rect.unit (s := S1024x512) ![0, 0] ![1024, 512] inb_S1024x512_S1024x512_0_0).toLoadRect = w :=
  View.readCov_unit_zero v (funext fun a => by fin_cases a <;> rfl) _ w
theorem ld_a {e : EltTy} (X : S4096x1024.Idx → Elt Ideal e) : View.ld X (Rect.unit (s := S4096x1024) ![0, 0] ![4096, 1024] inb_S4096x1024_S4096x1024_0_0) = X :=
  View.ld_unit_zero (S := S4096x1024) (funext fun a => by fin_cases a <;> rfl) _ X
theorem ld_b {e : EltTy} (X : S4096x512.Idx → Elt Ideal e) : View.ld X (Rect.unit (s := S4096x512) ![0, 0] ![4096, 512] inb_S4096x512_S4096x512_0_0) = X :=
  View.ld_unit_zero (S := S4096x512) (funext fun a => by fin_cases a <;> rfl) _ X

/-- The product of two blocks over their rows. -/
theorem pay1_ix (x0 : Vec Ideal S4096x1024 .bf16) (x1 : Vec Ideal S4096x512 .bf16) (a : Fin 1024) (b : Fin 512) :
    k0_pay1 x0 x1 (ix2 a b) = ∑ r : Fin 4096, x0 (ix2 r a) * x1 (ix2 r b) := by
  pointwise [k0_pay1]

/-- What the first half's point leaves in the accumulator. -/
theorem sout0_A_0_eq (c : Dev nD) (i : grid0.Coords) (arg3 : Memref sig .tc .vmem S4096x1024 .bf16) (harg3 : arg3.IsWhole) (arg4 : Memref sig .tc .vmem S4096x512 .bf16) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i) (hc2 : ¬cond0_2 i)
    (x0 : Vec Ideal S4096x1024 .bf16) (x1 : Vec Ideal S4096x512 .bf16) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread, ld_a, ld_b, canon_acc, k0_pay2, shapeCast_self]

/-- What the second half's point leaves in the result's block, over what the accumulator held. -/
theorem out0_B_2_eq (c : Dev nD) (i : grid0.Coords) (arg3 : Memref sig .tc .vmem S4096x1024 .bf16) (harg3 : arg3.IsWhole) (arg4 : Memref sig .tc .vmem S4096x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i) (hc2 : cond0_2 i)
    (x0 : Vec Ideal S4096x1024 .bf16) (x1 : Vec Ideal S4096x512 .bf16) (xs : Vec Ideal S1024x512 .f32) :
    out0_B_2 c i arg3 harg3 arg4 harg4 arg5 harg5 arg6 harg6 hc0 hc1 hc2 x0 x1 xs = addf xs (k0_pay1 x0 x1) := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  simp only [View.readAt_eq_ld, harg3.read_unread, harg4.read_unread, harg6.read_unread, ld_a, ld_b, ld_acc, canon_acc, readCov_acc, k0_pay3, k0_pay4, shapeCast_self]
  rfl

/-- The rows' half a point works on, and its block of the columns. -/
def half (t : Fin cfg0.N) : Fin 2 := ⟨t.val % 2, by omega⟩
def colBlk (t : Fin cfg0.N) : Fin 2 := ⟨t.val / 2, by have h := lt_of_lt_of_eq t.isLt N_0; omega⟩

theorem idx : ∀ t : Fin cfg0.N, win0_0.index t = ![t.val % 2, 0] ∧ win0_1.index t = ![t.val % 2, t.val / 2] ∧
    win0_2.index t = ![0, t.val / 2] :=
  (by decide +kernel : ∀ t : Fin grid0.N, _)

/-- The two factors, and their product over all rows. -/
def fA (m : (ℓ : Loc nD τ sig) → Buf (Elt Ideal) ℓ) (c : Dev nD) (R : Fin 8192) (i : Fin 1024) : EReal := m ((c : Thread nD τ).loc main_arg0) (ix2 R i)
def fB (m : (ℓ : Loc nD τ sig) → Buf (Elt Ideal) ℓ) (c : Dev nD) (R : Fin 8192) (j : Fin 1024) : EReal := m ((c : Thread nD τ).loc main_arg1) (ix2 R j)
def dw (m : (ℓ : Loc nD τ sig) → Buf (Elt Ideal) ℓ) (c : Dev nD) (i : Fin 1024) (j : Fin 1024) : EReal := ∑ R : Fin 8192, fA m c R i * fB m c R j

section
variable (m : (ℓ : Loc nD τ sig) → Buf (Elt Ideal) ℓ) (c : Dev nD) (t : Fin cfg0.N) (r : Fin 4096) (a : Fin 1024) (b : Fin 512)

theorem blk0 : iblk m c 0 t (ix2 r a) = fA m c ⟨4096 * (half t).val + r.val, by omega⟩ a := by
  refine Eq.trans (b := V m c main_arg0 (ix2 ⟨4096 * (half t).val + r.val, by omega⟩ a)) ?_ (congrFun (V_main_arg0 m c) _)
  blk_ext [iblk, half, idx t]
theorem blk1 : iblk m c 1 t (ix2 r b) = fB m c ⟨4096 * (half t).val + r.val, by omega⟩ ⟨512 * (colBlk t).val + b.val, by omega⟩ := by
  refine Eq.trans (b := V m c main_arg1 (ix2 ⟨4096 * (half t).val + r.val, by omega⟩ ⟨512 * (colBlk t).val + b.val, by omega⟩)) ?_ (congrFun (V_main_arg1 m c) _)
  blk_ext [iblk, half, colBlk, idx t]

/-- After the first half the accumulator holds the half's product. -/
theorem scr_first (h : t.val % 2 = 0) : (outsAt0 m c t.val t.isLt).2 = k0_pay1 (iblk m c 0 t) (iblk m c 1 t) := by
  rw [outsAt0_A m c t h (by omega) (by omega)]
  dsimp only
  rw [sout0_A_0_eq]

/-- After the second half the result's block holds the accumulator with the second half's product added. -/
theorem out_last (h : t.val % 2 = 1) : (outsAt0 m c t.val t.isLt).1 =
    addf (outsAt0 m c (t.val - 1) (Nat.lt_of_le_of_lt (Nat.sub_le _ _) t.isLt)).2 (k0_pay1 (iblk m c 0 t) (iblk m c 1 t)) := by
  rw [outsAt0_B m c t (by omega) h h]
  dsimp only
  rw [out0_B_2_eq]

theorem out_ix (h : t.val % 2 = 1) : (outsAt0 m c t.val t.isLt).1 (ix2 a b) = dw m c a ⟨512 * (colBlk t).val + b.val, by omega⟩ := by
  have hN := lt_of_lt_of_eq t.isLt N_0
  have hs := scr_first m c ⟨t.val - 1, by omega⟩ (by show (t.val - 1) % 2 = 0; omega)
  rw [out_last m c t h]
  refine Eq.trans (congrArg₂ (· + ·) ((congrFun hs _).trans (pay1_ix _ _ a b)) (pay1_ix _ _ a b)) ?_
  unfold dw
  rw [Cert.Dw.sum_halves]
  simp only [blk0, blk1]
  have e0 : (half ⟨t.val - 1, by omega⟩).val = 0 := by show (t.val - 1) % 2 = 0; omega
  have e1 : (half t).val = 1 := h
  have ec : (colBlk ⟨t.val - 1, by omega⟩).val = (colBlk t).val := by show (t.val - 1) / 2 = t.val / 2; omega
  simp only [e0, e1, ec]

theorem arr2 : (dats m 0 c).arrAt 2 cfg0.N = fun i => dw m c (i 0) (i 1) := by
  refine (dats m 0 c).arrAt_eq_of_covers 2 _ (by decide +kernel) fun t hf y => ?_
  have ht : t.val % 2 = 1 := (flush0_2 t).mp hf
  blk_simp
  rw [after0_2]
  refine (congrArg _ (eq_ix2 _)).trans ((out_ix m c t _ _ ht).trans ?_)
  exact congrArg (fun i : (⟨2, ![1024, 1024]⟩ : Shape).Idx => dw m c (i 0) (i 1)) (a₁ := ix2 _ _) (by blk_ext [colBlk, idx t])

end
end Cert.DwConvOutIdeal.Gen

end
-- ==== Proof.DwConvInValue.lean ====
/-
  What the kernel of `DwConvIn` leaves in its result, the gradient of the convolution's first weight: each block of its
  columns is the product over all rows, the first half of the rows put into the accumulator and the second half added to it,
  and is written slot by slot.
-/
module

public import proofs.«01_k».proof.Proof.DwSum
public import proofs.«01_k».proof.Proof.Gen.DwConvInIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.DwConvInIdeal.Gen

open Idealize.ShloMosaic Idealize.ShloMosaic.TcCoe Idealize.ShloMosaic.Tactic
open Idealize.SL Idealize.SL.Sem

theorem ld_acc {e : EltTy} (X : S1024x768.Idx → Elt Ideal e) : View.ld X (Rect.unit (s := S1024x768) ![0, 0] ![1024, 768] inb_S1024x768_S1024x768_0_0) = X :=
  View.ld_unit_zero (S := S1024x768) (funext fun a => by fin_cases a <;> rfl) _ X
theorem canon_acc {e : EltTy} (w : S1024x768.Idx → Elt Ideal e) (L : List (View.Piece (Elt Ideal) S1024x768 e)) : View.canon (⟨Rect.unit (s := S1024x768) ![0, 0] ![1024, 768] inb_S1024x768_S1024x768_0_0, w⟩ :: L) = w :=
  View.canon_cons_unit_zero (S := S1024x768) (funext fun a => by fin_cases a <;> rfl) _ w L
theorem ld_a {e : EltTy} (X : S4096x1024.Idx → Elt Ideal e) : View.ld X (Rect.unit (s := S4096x1024) ![0, 0] ![4096, 1024] inb_S4096x1024_S4096x1024_0_0) = X :=
  View.ld_unit_zero (S := S4096x1024) (funext fun a => by fin_cases a <;> rfl) _ X
theorem ld_b {e : EltTy} (X : S4096x768.Idx → Elt Ideal e) : View.ld X (Rect.unit (s := S4096x768) ![0, 0] ![4096, 768] inb_S4096x768_S4096x768_0_0) = X :=
  View.ld_unit_zero (S := S4096x768) (funext fun a => by fin_cases a <;> rfl) _ X

/-- The product of two blocks over their rows. -/
theorem pay1_ix (x0 : Vec Ideal S4096x1024 .bf16) (x1 : Vec Ideal S4096x768 .bf16) (a : Fin 1024) (b : Fin 768) :
    k0_pay1 x0 x1 (ix2 a b) = ∑ r : Fin 4096, x0 (ix2 r a) * x1 (ix2 r b) := by
  pointwise [k0_pay1]

/-- What the first half's point leaves in the accumulator. -/
theorem sout0_A_0_eq (c : Dev nD) (i : grid0.Coords) (arg3 : Memref sig .tc .vmem S4096x1024 .bf16) (harg3 : arg3.IsWhole) (arg4 : Memref sig .tc .vmem S4096x768 .bf16) (harg4 : arg4.IsWhole) (arg5 : Memref sig .tc .vmem S2x1024x384 .bf16) (harg5 : arg5.IsWhole) (arg6 : Memref sig .tc .vmem S1024x768 .f32) (harg6 : arg6.IsWhole) (hc0 : cond0_0 i) (hc1 : ¬cond0_1 i) (hc2 : ¬cond0_2 i)
    (x0 : Vec Ideal S4096x1024 .bf16) (x1 : Vec Ideal S4096x768 .bf16) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread, ld_a, ld_b, canon_acc, k0_pay2, shapeCast_self]

/-- The columns' slots of a block. -/
def slots (X : S1024x768.Idx → EReal) : Vec Ideal S2x1024x384 .bf16 := fun i => X (ix2 (i 1) ⟨384 * (i 0).val + (i 2).val, by have h0 : (i 0).val < 2 := (i 0).isLt; have h2 : (i 2).val < 384 := (i 2).isLt; omega⟩)

theorem pay4_ix (v : Vec Ideal S1024x384 .f32) (z : Fin 1) (a : Fin 1024) (b : Fin 384) : k0_pay4 v (ix3 z a b) = v (ix2 a b) := by
  pointwise [k0_pay4]

/-- One slot's store: the block's columns from the slot's first on. -/
theorem slot_piece (X : S1024x768.Idx → EReal) (q o : ℕ) (ho : o = 384 * q)
    (hw : ∀ a : Fin 2, (![0, o] : Fin 2 → ℕ) a + (![1024, 384] : Fin 2 → ℕ) a ≤ S1024x768.size a)
    (hd : ∀ a : Fin 3, (![q, 0, 0] : Fin 3 → ℕ) a + (![1, 1024, 384] : Fin 3 → ℕ) a ≤ S2x1024x384.size a)
    (x : (Rect.unit (s := S2x1024x384) ![q, 0, 0] ![1, 1024, 384] hd).shape.Idx) :
    k0_pay4 (F := Ideal) (fun j => X ((Rect.unit (s := S1024x768) ![0, o] ![1024, 384] hw).idx j)) x = slots X ((Rect.unit (s := S2x1024x384) ![q, 0, 0] ![1, 1024, 384] hd).emb x) := by
  obtain ⟨z, a, b, rfl⟩ : ∃ (z : Fin 1) (a : Fin 1024) (b : Fin 384), x = ix3 z a b := ⟨_, _, _, eq_ix3 x⟩
  rw [pay4_ix]
  unfold slots
  subst ho
  refine congrArg X (funext fun k => Fin.ext ?_)
  have hz : z.val = 0 := by omega
  fin_cases k
  · show 0 + 1 * a.val = 0 + 1 * a.val
    rfl
  · show 384 * q + 1 * b.val = 384 * (q + 1 * z.val) + (0 + 1 * b.val)
    omega

/-- The slots' stores at the second half's point. -/
theorem out_pieces (c : Dev nD) (i : grid0.Coords) (arg3 : Memref sig .tc .vmem S4096x1024 .bf16) (harg3 : arg3.IsWhole) (arg4 : Memref sig .tc .vmem S4096x768 .bf16) (harg4 : arg4.IsWhole) (arg5 : Memref sig .tc .vmem S2x1024x384 .bf16) (harg5 : arg5.IsWhole) (arg6 : Memref sig .tc .vmem S1024x768 .f32) (harg6 : arg6.IsWhole) (hc0 : ¬cond0_0 i) (hc1 : cond0_1 i) (hc2 : cond0_2 i)
    (x0 : Vec Ideal S4096x1024 .bf16) (x1 : Vec Ideal S4096x768 .bf16) (xs : Vec Ideal S1024x768 .f32) :
    View.PiecesOf (slots (addf xs (k0_pay1 x0 x1))) (kernelRun0_B (F := Ideal) c i arg3 harg3 arg4 harg4 arg5 harg5 arg6 harg6 hc0 hc1 hc2 x0 x1 xs).1 := by
  unfold kernelRun0_B
  dsimp only
  sl_unfold_words
  simp only [View.readAt_eq_ld, harg3.read_unread, harg4.read_unread, harg6.read_unread, ld_a, ld_b, ld_acc, canon_acc, View.readCov_eq_canon', k0_pay3, shapeCast_self, View.PiecesOf]
  exact ⟨slot_piece _ 1 384 rfl _ _, slot_piece _ 0 0 rfl _ _, trivial⟩

/-- What the second half's point leaves in the result's block, over what the accumulator held. -/
theorem out0_B_2_eq (c : Dev nD) (i : grid0.Coords) (arg3 : Memref sig .tc .vmem S4096x1024 .bf16) (harg3 : arg3.IsWhole) (arg4 : Memref sig .tc .vmem S4096x768 .bf16) (harg4 : arg4.IsWhole) (arg5 : Memref sig .tc .vmem S2x1024x384 .bf16) (harg5 : arg5.IsWhole) (arg6 : Memref sig .tc .vmem S1024x768 .f32) (harg6 : arg6.IsWhole) (hc0 : ¬cond0_0 i) (hc1 : cond0_1 i) (hc2 : cond0_2 i)
    (x0 : Vec Ideal S4096x1024 .bf16) (x1 : Vec Ideal S4096x768 .bf16) (xs : Vec Ideal S1024x768 .f32) :
    out0_B_2 c i arg3 harg3 arg4 harg4 arg5 harg5 arg6 harg6 hc0 hc1 hc2 x0 x1 xs = slots (addf xs (k0_pay1 x0 x1)) := by
  unfold out0_B_2
  rw [View.read_writes_eq_canon _ _ _ (cover0_B_2 c i arg3 harg3 arg4 harg4 arg5 harg5 arg6 harg6 hc0 hc1 hc2 x0 x1 xs)]
  exact funext fun y => View.canon_apply_of_pieces _ _ (out_pieces c i arg3 harg3 arg4 harg4 arg5 harg5 arg6 harg6 hc0 hc1 hc2 x0 x1 xs).mem y (cover0_B_2 c i arg3 harg3 arg4 harg4 arg5 harg5 arg6 harg6 hc0 hc1 hc2 x0 x1 xs y)

/-- The rows' half a point works on, and its block of the columns. -/
def half (t : Fin cfg0.N) : Fin 2 := ⟨t.val % 2, by omega⟩
def colBlk (t : Fin cfg0.N) : Fin 4 := ⟨t.val / 2, by have h := lt_of_lt_of_eq t.isLt N_0; omega⟩

theorem idx : ∀ t : Fin cfg0.N, win0_0.index t = ![t.val % 2, 0] ∧ win0_1.index t = ![t.val % 2, t.val / 2] ∧
    win0_2.index t = ![t.val / 2, 0, 0] :=
  (by decide +kernel : ∀ t : Fin grid0.N, _)

/-- The two factors, and their product over all rows. -/
def fA (m : (ℓ : Loc nD τ sig) → Buf (Elt Ideal) ℓ) (c : Dev nD) (R : Fin 8192) (i : Fin 1024) : EReal := m ((c : Thread nD τ).loc main_arg0) (ix2 R i)
def fB (m : (ℓ : Loc nD τ sig) → Buf (Elt Ideal) ℓ) (c : Dev nD) (R : Fin 8192) (j : Fin 3072) : EReal := m ((c : Thread nD τ).loc main_arg1) (ix2 R j)
def dw (m : (ℓ : Loc nD τ sig) → Buf (Elt Ideal) ℓ) (c : Dev nD) (i : Fin 1024) (j : Fin 3072) : EReal := ∑ R : Fin 8192, fA m c R i * fB m c R j

section
variable (m : (ℓ : Loc nD τ sig) → Buf (Elt Ideal) ℓ) (c : Dev nD) (t : Fin cfg0.N) (r : Fin 4096) (a : Fin 1024) (b : Fin 768)

theorem blk0 : iblk m c 0 t (ix2 r a) = fA m c ⟨4096 * (half t).val + r.val, by omega⟩ a := by
  refine Eq.trans (b := V m c main_arg0 (ix2 ⟨4096 * (half t).val + r.val, by omega⟩ a)) ?_ (congrFun (V_main_arg0 m c) _)
  blk_ext [iblk, half, idx t]
theorem blk1 : iblk m c 1 t (ix2 r b) = fB m c ⟨4096 * (half t).val + r.val, by omega⟩ ⟨768 * (colBlk t).val + b.val, by omega⟩ := by
  refine Eq.trans (b := V m c main_arg1 (ix2 ⟨4096 * (half t).val + r.val, by omega⟩ ⟨768 * (colBlk t).val + b.val, by omega⟩)) ?_ (congrFun (V_main_arg1 m c) _)
  blk_ext [iblk, half, colBlk, idx t]

/-- After the first half the accumulator holds the half's product. -/
theorem scr_first (h : t.val % 2 = 0) : (outsAt0 m c t.val t.isLt).2 = k0_pay1 (iblk m c 0 t) (iblk m c 1 t) := by
  rw [outsAt0_A m c t h (by omega) (by omega)]
  dsimp only
  rw [sout0_A_0_eq]

/-- After the second half the result's block holds the accumulator with the second half's product added. -/
theorem out_last (h : t.val % 2 = 1) : (outsAt0 m c t.val t.isLt).1 =
    slots (addf (outsAt0 m c (t.val - 1) (Nat.lt_of_le_of_lt (Nat.sub_le _ _) t.isLt)).2 (k0_pay1 (iblk m c 0 t) (iblk m c 1 t))) := by
  rw [outsAt0_B m c t (by omega) h h]
  dsimp only
  rw [out0_B_2_eq]

theorem acc_ix (h : t.val % 2 = 1) : addf (F := Ideal) (outsAt0 m c (t.val - 1) (Nat.lt_of_le_of_lt (Nat.sub_le _ _) t.isLt)).2 (k0_pay1 (iblk m c 0 t) (iblk m c 1 t)) (ix2 a b) = dw m c a ⟨768 * (colBlk t).val + b.val, by omega⟩ := by
  have hN := lt_of_lt_of_eq t.isLt N_0
  have hs := scr_first m c ⟨t.val - 1, by omega⟩ (by show (t.val - 1) % 2 = 0; omega)
  refine Eq.trans (congrArg₂ (· + ·) ((congrFun hs _).trans (pay1_ix _ _ a b)) (pay1_ix _ _ a b)) ?_
  unfold dw
  rw [Cert.Dw.sum_halves]
  simp only [blk0, blk1]
  have e0 : (half ⟨t.val - 1, by omega⟩).val = 0 := by show (t.val - 1) % 2 = 0; omega
  have e1 : (half t).val = 1 := h
  have ec : (colBlk ⟨t.val - 1, by omega⟩).val = (colBlk t).val := by show (t.val - 1) / 2 = t.val / 2; omega
  simp only [e0, e1, ec]

/-- The result: slot `s` holds the columns from `384 s` on. -/
def cols (m : (ℓ : Loc nD τ sig) → Buf (Elt Ideal) ℓ) (c : Dev nD) (s : Fin 8) (i : Fin 1024) (j : Fin 384) : EReal := dw m c i ⟨384 * s.val + j.val, by omega⟩

theorem out_ix (q : Fin 2) (b : Fin 384) (h : t.val % 2 = 1) : (outsAt0 m c t.val t.isLt).1 (ix3 q a b) = cols m c ⟨2 * (colBlk t).val + q.val, by omega⟩ a b := by
  rw [out_last m c t h]
  refine (acc_ix m c t a ⟨384 * q.val + b.val, by omega⟩ h).trans ?_
  unfold cols
  exact congrArg (dw m c a) (Fin.ext (by show 768 * (colBlk t).val + (384 * q.val + b.val) = 384 * (2 * (colBlk t).val + q.val) + b.val; omega))

theorem arr2 : (dats m 0 c).arrAt 2 cfg0.N = fun i => cols m c (i 0) (i 1) (i 2) := by
  refine (dats m 0 c).arrAt_eq_of_covers 2 _ (by decide +kernel) fun t hf y => ?_
  have ht : t.val % 2 = 1 := (flush0_2 t).mp hf
  blk_simp
  rw [after0_2]
  refine (congrArg _ (eq_ix3 _)).trans ((out_ix m c t _ _ _ ht).trans ?_)
  exact congrArg (fun i : (⟨3, ![8, 1024, 384]⟩ : Shape).Idx => cols m c (i 0) (i 1) (i 2)) (a₁ := ix3 _ _ _) (by blk_ext [colBlk, idx t])

end
end Cert.DwConvInIdeal.Gen

end
-- ==== Proof.DwAttnOValue.lean ====
/-
  What the kernel of `DwAttnO` leaves in its result, the gradient of the attention's second weight: each block of its
  columns is the product over all rows, the first half of the rows put into the accumulator and the second half added to it,
  and is written slot by slot.
-/
module

public import proofs.«01_k».proof.Proof.DwSum
public import proofs.«01_k».proof.Proof.Gen.DwAttnOIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.DwAttnOIdeal.Gen

open Idealize.ShloMosaic Idealize.ShloMosaic.TcCoe Idealize.ShloMosaic.Tactic
open Idealize.SL Idealize.SL.Sem

theorem ld_acc {e : EltTy} (X : S512x512.Idx → Elt Ideal e) : View.ld X (Rect.unit (s := S512x512) ![0, 0] ![512, 512] inb_S512x512_S512x512_0_0) = X :=
  View.ld_unit_zero (S := S512x512) (funext fun a => by fin_cases a <;> rfl) _ X
theorem canon_acc {e : EltTy} (w : S512x512.Idx → Elt Ideal e) (L : List (View.Piece (Elt Ideal) S512x512 e)) : View.canon (⟨Rect.unit (s := S512x512) ![0, 0] ![512, 512] inb_S512x512_S512x512_0_0, w⟩ :: L) = w :=
  View.canon_cons_unit_zero (S := S512x512) (funext fun a => by fin_cases a <;> rfl) _ w L
theorem ld_a {e : EltTy} (X : S4096x512.Idx → Elt Ideal e) : View.ld X (Rect.unit (s := S4096x512) ![0, 0] ![4096, 512] inb_S4096x512_S4096x512_0_0) = X :=
  View.ld_unit_zero (S := S4096x512) (funext fun a => by fin_cases a <;> rfl) _ X
theorem ld_b {e : EltTy} (X : S4096x512.Idx → Elt Ideal e) : View.ld X (Rect.unit (s := S4096x512) ![0, 0] ![4096, 512] inb_S4096x512_S4096x512_0_0) = X :=
  View.ld_unit_zero (S := S4096x512) (funext fun a => by fin_cases a <;> rfl) _ X

/-- The product of two blocks over their rows. -/
theorem pay1_ix (x0 : Vec Ideal S4096x512 .bf16) (x1 : Vec Ideal S4096x512 .bf16) (a : Fin 512) (b : Fin 512) :
    k0_pay1 x0 x1 (ix2 a b) = ∑ r : Fin 4096, x0 (ix2 r a) * x1 (ix2 r b) := by
  pointwise [k0_pay1]

/-- What the first half's point leaves in the accumulator. -/
theorem sout0_A_0_eq (c : Dev nD) (i : grid0.Coords) (arg3 : Memref sig .tc .vmem S4096x512 .bf16) (harg3 : arg3.IsWhole) (arg4 : Memref sig .tc .vmem S4096x512 .bf16) (harg4 : arg4.IsWhole) (arg5 : Memref sig .tc .vmem S4x512x128 .bf16) (harg5 : arg5.IsWhole) (arg6 : Memref sig .tc .vmem S512x512 .f32) (harg6 : arg6.IsWhole) (hc0 : cond0_0 i) (hc1 : ¬cond0_1 i) (hc2 : ¬cond0_2 i)
    (x0 : Vec Ideal S4096x512 .bf16) (x1 : Vec Ideal S4096x512 .bf16) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread, ld_a, ld_b, canon_acc, k0_pay2, shapeCast_self]

/-- The columns' slots of a block. -/
def slots (X : S512x512.Idx → EReal) : Vec Ideal S4x512x128 .bf16 := fun i => X (ix2 (i 1) ⟨128 * (i 0).val + (i 2).val, by have h0 : (i 0).val < 4 := (i 0).isLt; have h2 : (i 2).val < 128 := (i 2).isLt; omega⟩)

theorem pay4_ix (v : Vec Ideal S512x128 .f32) (z : Fin 1) (a : Fin 512) (b : Fin 128) : k0_pay4 v (ix3 z a b) = v (ix2 a b) := by
  pointwise [k0_pay4]

/-- One slot's store: the block's columns from the slot's first on. -/
theorem slot_piece (X : S512x512.Idx → EReal) (q o : ℕ) (ho : o = 128 * q)
    (hw : ∀ a : Fin 2, (![0, o] : Fin 2 → ℕ) a + (![512, 128] : Fin 2 → ℕ) a ≤ S512x512.size a)
    (hd : ∀ a : Fin 3, (![q, 0, 0] : Fin 3 → ℕ) a + (![1, 512, 128] : Fin 3 → ℕ) a ≤ S4x512x128.size a)
    (x : (Rect.unit (s := S4x512x128) ![q, 0, 0] ![1, 512, 128] hd).shape.Idx) :
    k0_pay4 (F := Ideal) (fun j => X ((Rect.unit (s := S512x512) ![0, o] ![512, 128] hw).idx j)) x = slots X ((Rect.unit (s := S4x512x128) ![q, 0, 0] ![1, 512, 128] hd).emb x) := by
  obtain ⟨z, a, b, rfl⟩ : ∃ (z : Fin 1) (a : Fin 512) (b : Fin 128), x = ix3 z a b := ⟨_, _, _, eq_ix3 x⟩
  rw [pay4_ix]
  unfold slots
  subst ho
  refine congrArg X (funext fun k => Fin.ext ?_)
  have hz : z.val = 0 := by omega
  fin_cases k
  · show 0 + 1 * a.val = 0 + 1 * a.val
    rfl
  · show 128 * q + 1 * b.val = 128 * (q + 1 * z.val) + (0 + 1 * b.val)
    omega

/-- The slots' stores at the second half's point. -/
theorem out_pieces (c : Dev nD) (i : grid0.Coords) (arg3 : Memref sig .tc .vmem S4096x512 .bf16) (harg3 : arg3.IsWhole) (arg4 : Memref sig .tc .vmem S4096x512 .bf16) (harg4 : arg4.IsWhole) (arg5 : Memref sig .tc .vmem S4x512x128 .bf16) (harg5 : arg5.IsWhole) (arg6 : Memref sig .tc .vmem S512x512 .f32) (harg6 : arg6.IsWhole) (hc0 : ¬cond0_0 i) (hc1 : cond0_1 i) (hc2 : cond0_2 i)
    (x0 : Vec Ideal S4096x512 .bf16) (x1 : Vec Ideal S4096x512 .bf16) (xs : Vec Ideal S512x512 .f32) :
    View.PiecesOf (slots (addf xs (k0_pay1 x0 x1))) (kernelRun0_B (F := Ideal) c i arg3 harg3 arg4 harg4 arg5 harg5 arg6 harg6 hc0 hc1 hc2 x0 x1 xs).1 := by
  unfold kernelRun0_B
  dsimp only
  sl_unfold_words
  simp only [View.readAt_eq_ld, harg3.read_unread, harg4.read_unread, harg6.read_unread, ld_a, ld_b, ld_acc, canon_acc, View.readCov_eq_canon', k0_pay3, shapeCast_self, View.PiecesOf]
  exact ⟨slot_piece _ 3 384 rfl _ _, slot_piece _ 2 256 rfl _ _, slot_piece _ 1 128 rfl _ _, slot_piece _ 0 0 rfl _ _, trivial⟩

/-- What the second half's point leaves in the result's block, over what the accumulator held. -/
theorem out0_B_2_eq (c : Dev nD) (i : grid0.Coords) (arg3 : Memref sig .tc .vmem S4096x512 .bf16) (harg3 : arg3.IsWhole) (arg4 : Memref sig .tc .vmem S4096x512 .bf16) (harg4 : arg4.IsWhole) (arg5 : Memref sig .tc .vmem S4x512x128 .bf16) (harg5 : arg5.IsWhole) (arg6 : Memref sig .tc .vmem S512x512 .f32) (harg6 : arg6.IsWhole) (hc0 : ¬cond0_0 i) (hc1 : cond0_1 i) (hc2 : cond0_2 i)
    (x0 : Vec Ideal S4096x512 .bf16) (x1 : Vec Ideal S4096x512 .bf16) (xs : Vec Ideal S512x512 .f32) :
    out0_B_2 c i arg3 harg3 arg4 harg4 arg5 harg5 arg6 harg6 hc0 hc1 hc2 x0 x1 xs = slots (addf xs (k0_pay1 x0 x1)) := by
  unfold out0_B_2
  rw [View.read_writes_eq_canon _ _ _ (cover0_B_2 c i arg3 harg3 arg4 harg4 arg5 harg5 arg6 harg6 hc0 hc1 hc2 x0 x1 xs)]
  exact funext fun y => View.canon_apply_of_pieces _ _ (out_pieces c i arg3 harg3 arg4 harg4 arg5 harg5 arg6 harg6 hc0 hc1 hc2 x0 x1 xs).mem y (cover0_B_2 c i arg3 harg3 arg4 harg4 arg5 harg5 arg6 harg6 hc0 hc1 hc2 x0 x1 xs y)

/-- The rows' half a point works on, and its block of the columns. -/
def half (t : Fin cfg0.N) : Fin 2 := ⟨t.val % 2, by omega⟩
def colBlk (t : Fin cfg0.N) : Fin 2 := ⟨t.val / 2, by have h := lt_of_lt_of_eq t.isLt N_0; omega⟩

theorem idx : ∀ t : Fin cfg0.N, win0_0.index t = ![t.val % 2, 0] ∧ win0_1.index t = ![t.val % 2, t.val / 2] ∧
    win0_2.index t = ![t.val / 2, 0, 0] :=
  (by decide +kernel : ∀ t : Fin grid0.N, _)

/-- The two factors, and their product over all rows. -/
def fA (m : (ℓ : Loc nD τ sig) → Buf (Elt Ideal) ℓ) (c : Dev nD) (R : Fin 8192) (i : Fin 512) : EReal := m ((c : Thread nD τ).loc main_arg0) (ix2 R i)
def fB (m : (ℓ : Loc nD τ sig) → Buf (Elt Ideal) ℓ) (c : Dev nD) (R : Fin 8192) (j : Fin 1024) : EReal := m ((c : Thread nD τ).loc main_arg1) (ix2 R j)
def dw (m : (ℓ : Loc nD τ sig) → Buf (Elt Ideal) ℓ) (c : Dev nD) (i : Fin 512) (j : Fin 1024) : EReal := ∑ R : Fin 8192, fA m c R i * fB m c R j

section
variable (m : (ℓ : Loc nD τ sig) → Buf (Elt Ideal) ℓ) (c : Dev nD) (t : Fin cfg0.N) (r : Fin 4096) (a : Fin 512) (b : Fin 512)

theorem blk0 : iblk m c 0 t (ix2 r a) = fA m c ⟨4096 * (half t).val + r.val, by omega⟩ a := by
  refine Eq.trans (b := V m c main_arg0 (ix2 ⟨4096 * (half t).val + r.val, by omega⟩ a)) ?_ (congrFun (V_main_arg0 m c) _)
  blk_ext [iblk, half, idx t]
theorem blk1 : iblk m c 1 t (ix2 r b) = fB m c ⟨4096 * (half t).val + r.val, by omega⟩ ⟨512 * (colBlk t).val + b.val, by omega⟩ := by
  refine Eq.trans (b := V m c main_arg1 (ix2 ⟨4096 * (half t).val + r.val, by omega⟩ ⟨512 * (colBlk t).val + b.val, by omega⟩)) ?_ (congrFun (V_main_arg1 m c) _)
  blk_ext [iblk, half, colBlk, idx t]

/-- After the first half the accumulator holds the half's product. -/
theorem scr_first (h : t.val % 2 = 0) : (outsAt0 m c t.val t.isLt).2 = k0_pay1 (iblk m c 0 t) (iblk m c 1 t) := by
  rw [outsAt0_A m c t h (by omega) (by omega)]
  dsimp only
  rw [sout0_A_0_eq]

/-- After the second half the result's block holds the accumulator with the second half's product added. -/
theorem out_last (h : t.val % 2 = 1) : (outsAt0 m c t.val t.isLt).1 =
    slots (addf (outsAt0 m c (t.val - 1) (Nat.lt_of_le_of_lt (Nat.sub_le _ _) t.isLt)).2 (k0_pay1 (iblk m c 0 t) (iblk m c 1 t))) := by
  rw [outsAt0_B m c t (by omega) h h]
  dsimp only
  rw [out0_B_2_eq]

theorem acc_ix (h : t.val % 2 = 1) : addf (F := Ideal) (outsAt0 m c (t.val - 1) (Nat.lt_of_le_of_lt (Nat.sub_le _ _) t.isLt)).2 (k0_pay1 (iblk m c 0 t) (iblk m c 1 t)) (ix2 a b) = dw m c a ⟨512 * (colBlk t).val + b.val, by omega⟩ := by
  have hN := lt_of_lt_of_eq t.isLt N_0
  have hs := scr_first m c ⟨t.val - 1, by omega⟩ (by show (t.val - 1) % 2 = 0; omega)
  refine Eq.trans (congrArg₂ (· + ·) ((congrFun hs _).trans (pay1_ix _ _ a b)) (pay1_ix _ _ a b)) ?_
  unfold dw
  rw [Cert.Dw.sum_halves]
  simp only [blk0, blk1]
  have e0 : (half ⟨t.val - 1, by omega⟩).val = 0 := by show (t.val - 1) % 2 = 0; omega
  have e1 : (half t).val = 1 := h
  have ec : (colBlk ⟨t.val - 1, by omega⟩).val = (colBlk t).val := by show (t.val - 1) / 2 = t.val / 2; omega
  simp only [e0, e1, ec]

/-- The result: slot `s` holds the columns from `128 s` on. -/
def cols (m : (ℓ : Loc nD τ sig) → Buf (Elt Ideal) ℓ) (c : Dev nD) (s : Fin 8) (i : Fin 512) (j : Fin 128) : EReal := dw m c i ⟨128 * s.val + j.val, by omega⟩

theorem out_ix (q : Fin 4) (b : Fin 128) (h : t.val % 2 = 1) : (outsAt0 m c t.val t.isLt).1 (ix3 q a b) = cols m c ⟨4 * (colBlk t).val + q.val, by omega⟩ a b := by
  rw [out_last m c t h]
  refine (acc_ix m c t a ⟨128 * q.val + b.val, by omega⟩ h).trans ?_
  unfold cols
  exact congrArg (dw m c a) (Fin.ext (by show 512 * (colBlk t).val + (128 * q.val + b.val) = 128 * (4 * (colBlk t).val + q.val) + b.val; omega))

theorem arr2 : (dats m 0 c).arrAt 2 cfg0.N = fun i => cols m c (i 0) (i 1) (i 2) := by
  refine (dats m 0 c).arrAt_eq_of_covers 2 _ (by decide +kernel) fun t hf y => ?_
  have ht : t.val % 2 = 1 := (flush0_2 t).mp hf
  blk_simp
  rw [after0_2]
  refine (congrArg _ (eq_ix3 _)).trans ((out_ix m c t _ _ _ ht).trans ?_)
  exact congrArg (fun i : (⟨3, ![8, 512, 128]⟩ : Shape).Idx => cols m c (i 0) (i 1) (i 2)) (a₁ := ix3 _ _ _) (by blk_ext [colBlk, idx t])

end
end Cert.DwAttnOIdeal.Gen

end
-- ==== Proof.DwAttnQValue.lean ====
/-
  What the kernel of `DwAttnQ` leaves in its result, the gradient of the attention's first weight: each block of it
  is the product over all rows, the first half of the rows put into the accumulator and the second half added to it.
-/
module

public import proofs.«01_k».proof.Proof.DwSum
public import proofs.«01_k».proof.Proof.Gen.DwAttnQIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.DwAttnQIdeal.Gen

open Idealize.ShloMosaic Idealize.ShloMosaic.TcCoe Idealize.ShloMosaic.Tactic
open Idealize.SL Idealize.SL.Sem

theorem ld_acc {e : EltTy} (X : S768x512.Idx → Elt Ideal e) : View.ld X (Rect.unit (s := S768x512) ![0, 0] ![768, 512] inb_S768x512_S768x512_0_0) = X :=
  View.ld_unit_zero (S := S768x512) (funext fun a => by fin_cases a <;> rfl) _ X
theorem canon_acc {e : EltTy} (w : S768x512.Idx → Elt Ideal e) (L : List (View.Piece (Elt Ideal) S768x512 e)) : View.canon (⟨Rect.unit (s := S768x512) ![0, 0] ![768, 512] inb_S768x512_S768x512_0_0, w⟩ :: L) = w :=
  View.canon_cons_unit_zero (S := S768x512) (funext fun a => by fin_cases a <;> rfl) _ w L
theorem readCov_acc {κ : Kind} {sp : Space} (v : View sig κ sp S768x512 .f32) (w : Vec Ideal S768x512 .f32) :
    v.readCov [⟨Rect.unit ![0, 0] ![768, 512] inb_S768x512_S768x512_0_0, w⟩] (Rect.unit (s := S768x512) ![0, 0] ![768, 512] inb_S768x512_S768x512_0_0).toLoadRect = w :=
  View.readCov_unit_zero v (funext fun a => by fin_cases a <;> rfl) _ w
theorem ld_a {e : EltTy} (X : S4096x768.Idx → Elt Ideal e) : View.ld X (Rect.unit (s := S4096x768) ![0, 0] ![4096, 768] inb_S4096x768_S4096x768_0_0) = X :=
  View.ld_unit_zero (S := S4096x768) (funext fun a => by fin_cases a <;> rfl) _ X
theorem ld_b {e : EltTy} (X : S4096x512.Idx → Elt Ideal e) : View.ld X (Rect.unit (s := S4096x512) ![0, 0] ![4096, 512] inb_S4096x512_S4096x512_0_0) = X :=
  View.ld_unit_zero (S := S4096x512) (funext fun a => by fin_cases a <;> rfl) _ X

/-- The product of two blocks over their rows. -/
theorem pay1_ix (x0 : Vec Ideal S4096x768 .bf16) (x1 : Vec Ideal S4096x512 .bf16) (a : Fin 768) (b : Fin 512) :
    k0_pay1 x0 x1 (ix2 a b) = ∑ r : Fin 4096, x0 (ix2 r a) * x1 (ix2 r b) := by
  pointwise [k0_pay1]

/-- What the first half's point leaves in the accumulator. -/
theorem sout0_A_0_eq (c : Dev nD) (i : grid0.Coords) (arg3 : Memref sig .tc .vmem S4096x768 .bf16) (harg3 : arg3.IsWhole) (arg4 : Memref sig .tc .vmem S4096x512 .bf16) (harg4 : arg4.IsWhole) (arg5 : Memref sig .tc .vmem S768x512 .bf16) (harg5 : arg5.IsWhole) (arg6 : Memref sig .tc .vmem S768x512 .f32) (harg6 : arg6.IsWhole) (hc0 : cond0_0 i) (hc1 : ¬cond0_1 i) (hc2 : ¬cond0_2 i)
    (x0 : Vec Ideal S4096x768 .bf16) (x1 : Vec Ideal S4096x512 .bf16) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread, ld_a, ld_b, canon_acc, k0_pay2, shapeCast_self]

/-- What the second half's point leaves in the result's block, over what the accumulator held. -/
theorem out0_B_2_eq (c : Dev nD) (i : grid0.Coords) (arg3 : Memref sig .tc .vmem S4096x768 .bf16) (harg3 : arg3.IsWhole) (arg4 : Memref sig .tc .vmem S4096x512 .bf16) (harg4 : arg4.IsWhole) (arg5 : Memref sig .tc .vmem S768x512 .bf16) (harg5 : arg5.IsWhole) (arg6 : Memref sig .tc .vmem S768x512 .f32) (harg6 : arg6.IsWhole) (hc0 : ¬cond0_0 i) (hc1 : cond0_1 i) (hc2 : cond0_2 i)
    (x0 : Vec Ideal S4096x768 .bf16) (x1 : Vec Ideal S4096x512 .bf16) (xs : Vec Ideal S768x512 .f32) :
    out0_B_2 c i arg3 harg3 arg4 harg4 arg5 harg5 arg6 harg6 hc0 hc1 hc2 x0 x1 xs = addf xs (k0_pay1 x0 x1) := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  simp only [View.readAt_eq_ld, harg3.read_unread, harg4.read_unread, harg6.read_unread, ld_a, ld_b, ld_acc, canon_acc, readCov_acc, k0_pay3, k0_pay4, shapeCast_self]
  rfl

/-- The rows' half a point works on, and its block of the result. -/
def half (t : Fin cfg0.N) : Fin 2 := ⟨t.val % 2, by omega⟩
def rowBlk (t : Fin cfg0.N) : Fin 2 := ⟨t.val / 4, by have h := lt_of_lt_of_eq t.isLt N_0; omega⟩
def colBlk (t : Fin cfg0.N) : Fin 2 := ⟨t.val / 2 % 2, by omega⟩

theorem idx : ∀ t : Fin cfg0.N, win0_0.index t = ![t.val % 2, t.val / 4] ∧ win0_1.index t = ![t.val % 2, t.val / 2 % 2] ∧
    win0_2.index t = ![t.val / 4, t.val / 2 % 2] :=
  (by decide +kernel : ∀ t : Fin grid0.N, _)

/-- The two factors, and their product over all rows. -/
def fA (m : (ℓ : Loc nD τ sig) → Buf (Elt Ideal) ℓ) (c : Dev nD) (R : Fin 8192) (i : Fin 1536) : EReal := m ((c : Thread nD τ).loc main_arg1) (ix2 R i)
def fB (m : (ℓ : Loc nD τ sig) → Buf (Elt Ideal) ℓ) (c : Dev nD) (R : Fin 8192) (j : Fin 1024) : EReal := m ((c : Thread nD τ).loc main_arg0) (ix2 R j)
def dw (m : (ℓ : Loc nD τ sig) → Buf (Elt Ideal) ℓ) (c : Dev nD) (i : Fin 1536) (j : Fin 1024) : EReal := ∑ R : Fin 8192, fA m c R i * fB m c R j

section
variable (m : (ℓ : Loc nD τ sig) → Buf (Elt Ideal) ℓ) (c : Dev nD) (t : Fin cfg0.N) (r : Fin 4096) (a : Fin 768) (b : Fin 512)

theorem blk0 : iblk m c 0 t (ix2 r a) = fA m c ⟨4096 * (half t).val + r.val, by omega⟩ ⟨768 * (rowBlk t).val + a.val, by omega⟩ := by
  refine Eq.trans (b := V m c main_arg1 (ix2 ⟨4096 * (half t).val + r.val, by omega⟩ ⟨768 * (rowBlk t).val + a.val, by omega⟩)) ?_ (congrFun (V_main_arg1 m c) _)
  blk_ext [iblk, half, rowBlk, idx t]
theorem blk1 : iblk m c 1 t (ix2 r b) = fB m c ⟨4096 * (half t).val + r.val, by omega⟩ ⟨512 * (colBlk t).val + b.val, by omega⟩ := by
  refine Eq.trans (b := V m c main_arg0 (ix2 ⟨4096 * (half t).val + r.val, by omega⟩ ⟨512 * (colBlk t).val + b.val, by omega⟩)) ?_ (congrFun (V_main_arg0 m c) _)
  blk_ext [iblk, half, colBlk, idx t]

/-- After the first half the accumulator holds the half's product. -/
theorem scr_first (h : t.val % 2 = 0) : (outsAt0 m c t.val t.isLt).2 = k0_pay1 (iblk m c 0 t) (iblk m c 1 t) := by
  rw [outsAt0_A m c t h (by omega) (by omega)]
  dsimp only
  rw [sout0_A_0_eq]

/-- After the second half the result's block holds the accumulator with the second half's product added. -/
theorem out_last (h : t.val % 2 = 1) : (outsAt0 m c t.val t.isLt).1 =
    addf (outsAt0 m c (t.val - 1) (Nat.lt_of_le_of_lt (Nat.sub_le _ _) t.isLt)).2 (k0_pay1 (iblk m c 0 t) (iblk m c 1 t)) := by
  rw [outsAt0_B m c t (by omega) h h]
  dsimp only
  rw [out0_B_2_eq]

theorem out_ix (h : t.val % 2 = 1) : (outsAt0 m c t.val t.isLt).1 (ix2 a b) = dw m c ⟨768 * (rowBlk t).val + a.val, by omega⟩ ⟨512 * (colBlk t).val + b.val, by omega⟩ := by
  have hN := lt_of_lt_of_eq t.isLt N_0
  have hs := scr_first m c ⟨t.val - 1, by omega⟩ (by show (t.val - 1) % 2 = 0; omega)
  rw [out_last m c t h]
  refine Eq.trans (congrArg₂ (· + ·) ((congrFun hs _).trans (pay1_ix _ _ a b)) (pay1_ix _ _ a b)) ?_
  unfold dw
  rw [Cert.Dw.sum_halves]
  simp only [blk0, blk1]
  have e0 : (half ⟨t.val - 1, by omega⟩).val = 0 := by show (t.val - 1) % 2 = 0; omega
  have e1 : (half t).val = 1 := h
  have er : (rowBlk ⟨t.val - 1, by omega⟩).val = (rowBlk t).val := by show (t.val - 1) / 4 = t.val / 4; omega
  have ec : (colBlk ⟨t.val - 1, by omega⟩).val = (colBlk t).val := by show (t.val - 1) / 2 % 2 = t.val / 2 % 2; omega
  simp only [e0, e1, er, ec]

theorem arr2 : (dats m 0 c).arrAt 2 cfg0.N = fun i => dw m c (i 0) (i 1) := by
  refine (dats m 0 c).arrAt_eq_of_covers 2 _ (by decide +kernel) fun t hf y => ?_
  have ht : t.val % 2 = 1 := (flush0_2 t).mp hf
  blk_simp
  rw [after0_2]
  refine (congrArg _ (eq_ix2 _)).trans ((out_ix m c t _ _ ht).trans ?_)
  exact congrArg (fun i : (⟨2, ![1536, 1024]⟩ : Shape).Idx => dw m c (i 0) (i 1)) (a₁ := ix2 _ _) (by blk_ext [rowBlk, colBlk, idx t])

end
end Cert.DwAttnQIdeal.Gen

end
-- ==== Proof.DwKvValue.lean ====
/-
  What the kernel of `DwKv` leaves in its result, the gradient of the weight of the keys and the values: each block of its
  columns is the product over all rows, the first half of the rows put into the accumulator and the second half added to it,
  and is written slot by slot.
-/
module

public import proofs.«01_k».proof.Proof.DwSum
public import proofs.«01_k».proof.Proof.Gen.DwKvIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.DwKvIdeal.Gen

open Idealize.ShloMosaic Idealize.ShloMosaic.TcCoe Idealize.ShloMosaic.Tactic
open Idealize.SL Idealize.SL.Sem

theorem ld_acc {e : EltTy} (X : S1024x768.Idx → Elt Ideal e) : View.ld X (Rect.unit (s := S1024x768) ![0, 0] ![1024, 768] inb_S1024x768_S1024x768_0_0) = X :=
  View.ld_unit_zero (S := S1024x768) (funext fun a => by fin_cases a <;> rfl) _ X
theorem canon_acc {e : EltTy} (w : S1024x768.Idx → Elt Ideal e) (L : List (View.Piece (Elt Ideal) S1024x768 e)) : View.canon (⟨Rect.unit (s := S1024x768) ![0, 0] ![1024, 768] inb_S1024x768_S1024x768_0_0, w⟩ :: L) = w :=
  View.canon_cons_unit_zero (S := S1024x768) (funext fun a => by fin_cases a <;> rfl) _ w L
theorem ld_a {e : EltTy} (X : S4096x1024.Idx → Elt Ideal e) : View.ld X (Rect.unit (s := S4096x1024) ![0, 0] ![4096, 1024] inb_S4096x1024_S4096x1024_0_0) = X :=
  View.ld_unit_zero (S := S4096x1024) (funext fun a => by fin_cases a <;> rfl) _ X
theorem ld_b {e : EltTy} (X : S4096x768.Idx → Elt Ideal e) : View.ld X (Rect.unit (s := S4096x768) ![0, 0] ![4096, 768] inb_S4096x768_S4096x768_0_0) = X :=
  View.ld_unit_zero (S := S4096x768) (funext fun a => by fin_cases a <;> rfl) _ X

/-- The product of two blocks over their rows. -/
theorem pay1_ix (x0 : Vec Ideal S4096x1024 .bf16) (x1 : Vec Ideal S4096x768 .bf16) (a : Fin 1024) (b : Fin 768) :
    k0_pay1 x0 x1 (ix2 a b) = ∑ r : Fin 4096, x0 (ix2 r a) * x1 (ix2 r b) := by
  pointwise [k0_pay1]

/-- What the first half's point leaves in the accumulator. -/
theorem sout0_A_0_eq (c : Dev nD) (i : grid0.Coords) (arg3 : Memref sig .tc .vmem S4096x1024 .bf16) (harg3 : arg3.IsWhole) (arg4 : Memref sig .tc .vmem S4096x768 .bf16) (harg4 : arg4.IsWhole) (arg5 : Memref sig .tc .vmem S2x1024x384 .bf16) (harg5 : arg5.IsWhole) (arg6 : Memref sig .tc .vmem S1024x768 .f32) (harg6 : arg6.IsWhole) (hc0 : cond0_0 i) (hc1 : ¬cond0_1 i) (hc2 : ¬cond0_2 i)
    (x0 : Vec Ideal S4096x1024 .bf16) (x1 : Vec Ideal S4096x768 .bf16) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread, ld_a, ld_b, canon_acc, k0_pay2, shapeCast_self]

/-- The columns' slots of a block. -/
def slots (X : S1024x768.Idx → EReal) : Vec Ideal S2x1024x384 .bf16 := fun i => X (ix2 (i 1) ⟨384 * (i 0).val + (i 2).val, by have h0 : (i 0).val < 2 := (i 0).isLt; have h2 : (i 2).val < 384 := (i 2).isLt; omega⟩)

theorem pay4_ix (v : Vec Ideal S1024x384 .f32) (z : Fin 1) (a : Fin 1024) (b : Fin 384) : k0_pay4 v (ix3 z a b) = v (ix2 a b) := by
  pointwise [k0_pay4]

/-- One slot's store: the block's columns from the slot's first on. -/
theorem slot_piece (X : S1024x768.Idx → EReal) (q o : ℕ) (ho : o = 384 * q)
    (hw : ∀ a : Fin 2, (![0, o] : Fin 2 → ℕ) a + (![1024, 384] : Fin 2 → ℕ) a ≤ S1024x768.size a)
    (hd : ∀ a : Fin 3, (![q, 0, 0] : Fin 3 → ℕ) a + (![1, 1024, 384] : Fin 3 → ℕ) a ≤ S2x1024x384.size a)
    (x : (Rect.unit (s := S2x1024x384) ![q, 0, 0] ![1, 1024, 384] hd).shape.Idx) :
    k0_pay4 (F := Ideal) (fun j => X ((Rect.unit (s := S1024x768) ![0, o] ![1024, 384] hw).idx j)) x = slots X ((Rect.unit (s := S2x1024x384) ![q, 0, 0] ![1, 1024, 384] hd).emb x) := by
  obtain ⟨z, a, b, rfl⟩ : ∃ (z : Fin 1) (a : Fin 1024) (b : Fin 384), x = ix3 z a b := ⟨_, _, _, eq_ix3 x⟩
  rw [pay4_ix]
  unfold slots
  subst ho
  refine congrArg X (funext fun k => Fin.ext ?_)
  have hz : z.val = 0 := by omega
  fin_cases k
  · show 0 + 1 * a.val = 0 + 1 * a.val
    rfl
  · show 384 * q + 1 * b.val = 384 * (q + 1 * z.val) + (0 + 1 * b.val)
    omega

/-- The slots' stores at the second half's point. -/
theorem out_pieces (c : Dev nD) (i : grid0.Coords) (arg3 : Memref sig .tc .vmem S4096x1024 .bf16) (harg3 : arg3.IsWhole) (arg4 : Memref sig .tc .vmem S4096x768 .bf16) (harg4 : arg4.IsWhole) (arg5 : Memref sig .tc .vmem S2x1024x384 .bf16) (harg5 : arg5.IsWhole) (arg6 : Memref sig .tc .vmem S1024x768 .f32) (harg6 : arg6.IsWhole) (hc0 : ¬cond0_0 i) (hc1 : cond0_1 i) (hc2 : cond0_2 i)
    (x0 : Vec Ideal S4096x1024 .bf16) (x1 : Vec Ideal S4096x768 .bf16) (xs : Vec Ideal S1024x768 .f32) :
    View.PiecesOf (slots (addf xs (k0_pay1 x0 x1))) (kernelRun0_B (F := Ideal) c i arg3 harg3 arg4 harg4 arg5 harg5 arg6 harg6 hc0 hc1 hc2 x0 x1 xs).1 := by
  unfold kernelRun0_B
  dsimp only
  sl_unfold_words
  simp only [View.readAt_eq_ld, harg3.read_unread, harg4.read_unread, harg6.read_unread, ld_a, ld_b, ld_acc, canon_acc, View.readCov_eq_canon', k0_pay3, shapeCast_self, View.PiecesOf]
  exact ⟨slot_piece _ 1 384 rfl _ _, slot_piece _ 0 0 rfl _ _, trivial⟩

/-- What the second half's point leaves in the result's block, over what the accumulator held. -/
theorem out0_B_2_eq (c : Dev nD) (i : grid0.Coords) (arg3 : Memref sig .tc .vmem S4096x1024 .bf16) (harg3 : arg3.IsWhole) (arg4 : Memref sig .tc .vmem S4096x768 .bf16) (harg4 : arg4.IsWhole) (arg5 : Memref sig .tc .vmem S2x1024x384 .bf16) (harg5 : arg5.IsWhole) (arg6 : Memref sig .tc .vmem S1024x768 .f32) (harg6 : arg6.IsWhole) (hc0 : ¬cond0_0 i) (hc1 : cond0_1 i) (hc2 : cond0_2 i)
    (x0 : Vec Ideal S4096x1024 .bf16) (x1 : Vec Ideal S4096x768 .bf16) (xs : Vec Ideal S1024x768 .f32) :
    out0_B_2 c i arg3 harg3 arg4 harg4 arg5 harg5 arg6 harg6 hc0 hc1 hc2 x0 x1 xs = slots (addf xs (k0_pay1 x0 x1)) := by
  unfold out0_B_2
  rw [View.read_writes_eq_canon _ _ _ (cover0_B_2 c i arg3 harg3 arg4 harg4 arg5 harg5 arg6 harg6 hc0 hc1 hc2 x0 x1 xs)]
  exact funext fun y => View.canon_apply_of_pieces _ _ (out_pieces c i arg3 harg3 arg4 harg4 arg5 harg5 arg6 harg6 hc0 hc1 hc2 x0 x1 xs).mem y (cover0_B_2 c i arg3 harg3 arg4 harg4 arg5 harg5 arg6 harg6 hc0 hc1 hc2 x0 x1 xs y)

/-- The rows' half a point works on, and its block of the columns. -/
def half (t : Fin cfg0.N) : Fin 2 := ⟨t.val % 2, by omega⟩
def colBlk (t : Fin cfg0.N) : Fin 4 := ⟨t.val / 2, by have h := lt_of_lt_of_eq t.isLt N_0; omega⟩

theorem idx : ∀ t : Fin cfg0.N, win0_0.index t = ![t.val % 2, 0] ∧ win0_1.index t = ![t.val % 2, t.val / 2] ∧
    win0_2.index t = ![t.val / 2, 0, 0] :=
  (by decide +kernel : ∀ t : Fin grid0.N, _)

/-- The two factors, and their product over all rows. -/
def fA (m : (ℓ : Loc nD τ sig) → Buf (Elt Ideal) ℓ) (c : Dev nD) (R : Fin 8192) (i : Fin 1024) : EReal := m ((c : Thread nD τ).loc main_arg0) (ix2 R i)
def fB (m : (ℓ : Loc nD τ sig) → Buf (Elt Ideal) ℓ) (c : Dev nD) (R : Fin 8192) (j : Fin 3072) : EReal := m ((c : Thread nD τ).loc main_arg1) (ix2 R j)
def dw (m : (ℓ : Loc nD τ sig) → Buf (Elt Ideal) ℓ) (c : Dev nD) (i : Fin 1024) (j : Fin 3072) : EReal := ∑ R : Fin 8192, fA m c R i * fB m c R j

section
variable (m : (ℓ : Loc nD τ sig) → Buf (Elt Ideal) ℓ) (c : Dev nD) (t : Fin cfg0.N) (r : Fin 4096) (a : Fin 1024) (b : Fin 768)

theorem blk0 : iblk m c 0 t (ix2 r a) = fA m c ⟨4096 * (half t).val + r.val, by omega⟩ a := by
  refine Eq.trans (b := V m c main_arg0 (ix2 ⟨4096 * (half t).val + r.val, by omega⟩ a)) ?_ (congrFun (V_main_arg0 m c) _)
  blk_ext [iblk, half, idx t]
theorem blk1 : iblk m c 1 t (ix2 r b) = fB m c ⟨4096 * (half t).val + r.val, by omega⟩ ⟨768 * (colBlk t).val + b.val, by omega⟩ := by
  refine Eq.trans (b := V m c main_arg1 (ix2 ⟨4096 * (half t).val + r.val, by omega⟩ ⟨768 * (colBlk t).val + b.val, by omega⟩)) ?_ (congrFun (V_main_arg1 m c) _)
  blk_ext [iblk, half, colBlk, idx t]

/-- After the first half the accumulator holds the half's product. -/
theorem scr_first (h : t.val % 2 = 0) : (outsAt0 m c t.val t.isLt).2 = k0_pay1 (iblk m c 0 t) (iblk m c 1 t) := by
  rw [outsAt0_A m c t h (by omega) (by omega)]
  dsimp only
  rw [sout0_A_0_eq]

/-- After the second half the result's block holds the accumulator with the second half's product added. -/
theorem out_last (h : t.val % 2 = 1) : (outsAt0 m c t.val t.isLt).1 =
    slots (addf (outsAt0 m c (t.val - 1) (Nat.lt_of_le_of_lt (Nat.sub_le _ _) t.isLt)).2 (k0_pay1 (iblk m c 0 t) (iblk m c 1 t))) := by
  rw [outsAt0_B m c t (by omega) h h]
  dsimp only
  rw [out0_B_2_eq]

theorem acc_ix (h : t.val % 2 = 1) : addf (F := Ideal) (outsAt0 m c (t.val - 1) (Nat.lt_of_le_of_lt (Nat.sub_le _ _) t.isLt)).2 (k0_pay1 (iblk m c 0 t) (iblk m c 1 t)) (ix2 a b) = dw m c a ⟨768 * (colBlk t).val + b.val, by omega⟩ := by
  have hN := lt_of_lt_of_eq t.isLt N_0
  have hs := scr_first m c ⟨t.val - 1, by omega⟩ (by show (t.val - 1) % 2 = 0; omega)
  refine Eq.trans (congrArg₂ (· + ·) ((congrFun hs _).trans (pay1_ix _ _ a b)) (pay1_ix _ _ a b)) ?_
  unfold dw
  rw [Cert.Dw.sum_halves]
  simp only [blk0, blk1]
  have e0 : (half ⟨t.val - 1, by omega⟩).val = 0 := by show (t.val - 1) % 2 = 0; omega
  have e1 : (half t).val = 1 := h
  have ec : (colBlk ⟨t.val - 1, by omega⟩).val = (colBlk t).val := by show (t.val - 1) / 2 = t.val / 2; omega
  simp only [e0, e1, ec]

/-- The result: slot `s` holds the columns from `384 s` on. -/
def cols (m : (ℓ : Loc nD τ sig) → Buf (Elt Ideal) ℓ) (c : Dev nD) (s : Fin 8) (i : Fin 1024) (j : Fin 384) : EReal := dw m c i ⟨384 * s.val + j.val, by omega⟩

theorem out_ix (q : Fin 2) (b : Fin 384) (h : t.val % 2 = 1) : (outsAt0 m c t.val t.isLt).1 (ix3 q a b) = cols m c ⟨2 * (colBlk t).val + q.val, by omega⟩ a b := by
  rw [out_last m c t h]
  refine (acc_ix m c t a ⟨384 * q.val + b.val, by omega⟩ h).trans ?_
  unfold cols
  exact congrArg (dw m c a) (Fin.ext (by show 768 * (colBlk t).val + (384 * q.val + b.val) = 384 * (2 * (colBlk t).val + q.val) + b.val; omega))

theorem arr2 : (dats m 0 c).arrAt 2 cfg0.N = fun i => cols m c (i 0) (i 1) (i 2) := by
  refine (dats m 0 c).arrAt_eq_of_covers 2 _ (by decide +kernel) fun t hf y => ?_
  have ht : t.val % 2 = 1 := (flush0_2 t).mp hf
  blk_simp
  rw [after0_2]
  refine (congrArg _ (eq_ix3 _)).trans ((out_ix m c t _ _ _ ht).trans ?_)
  exact congrArg (fun i : (⟨3, ![8, 1024, 384]⟩ : Shape).Idx => cols m c (i 0) (i 1) (i 2)) (a₁ := ix3 _ _ _) (by blk_ext [colBlk, idx t])

end
end Cert.DwKvIdeal.Gen

end
-- ==== Proof.DwRestClaim.lean ====
/-
  The claims about the other weight gradients, the convolution's two and the dilated attention's three: each reference's
  frame, and that kernel and reference compute the same array over the extended reals.
-/
module

public import proofs.«01_k».proof.Defs
public import proofs.«01_k».proof.Proof.DwConvOutValue
public import proofs.«01_k».proof.Proof.Gen.DwConvOutRefIdeal.Run
public import proofs.«01_k».proof.Proof.DwConvInValue
public import proofs.«01_k».proof.Proof.Gen.DwConvInRefIdeal.Run
public import proofs.«01_k».proof.Proof.DwAttnOValue
public import proofs.«01_k».proof.Proof.Gen.DwAttnORefIdeal.Run
public import proofs.«01_k».proof.Proof.DwAttnQValue
public import proofs.«01_k».proof.Proof.Gen.DwAttnQRefIdeal.Run
public import proofs.«01_k».proof.Proof.DwKvValue
public import proofs.«01_k».proof.Proof.Gen.DwKvRefIdeal.Run
public import Idealize.ShloMosaic.Lib.Quiescent

@[expose] public section

set_option maxRecDepth 16384

noncomputable section

namespace Cert.Proof.DwRest

open Idealize.ShloMosaic Idealize.SL.Sem Idealize.ShloMosaic.TcCoe Idealize.ShloMosaic.Tactic

local instance : Cert.DwConvOutIdeal.Facts := Cert.DwConvOutIdeal.Gen.facts
local instance : Cert.DwConvOutRefIdeal.Facts := Cert.DwConvOutRefIdeal.Gen.facts
local instance : Cert.DwConvInIdeal.Facts := Cert.DwConvInIdeal.Gen.facts
local instance : Cert.DwConvInRefIdeal.Facts := Cert.DwConvInRefIdeal.Gen.facts
local instance : Cert.DwAttnOIdeal.Facts := Cert.DwAttnOIdeal.Gen.facts
local instance : Cert.DwAttnORefIdeal.Facts := Cert.DwAttnORefIdeal.Gen.facts
local instance : Cert.DwAttnQIdeal.Facts := Cert.DwAttnQIdeal.Gen.facts
local instance : Cert.DwAttnQRefIdeal.Facts := Cert.DwAttnQRefIdeal.Gen.facts
local instance : Cert.DwKvIdeal.Facts := Cert.DwKvIdeal.Gen.facts
local instance : Cert.DwKvRefIdeal.Facts := Cert.DwKvRefIdeal.Gen.facts

theorem frame_ConvOut : Cert.quiescent_DwConvOutRefIdeal := fun m ρ _ =>
  (θ_run Cert.DwConvOutRefIdeal.defs _ _).mono (fun r h => ⟨fun c => (h c).2, sem_eq_zero_of_no_sems (by decide) r.2⟩)
    (Cert.DwConvOutRefIdeal.Value.run (F := Ideal) m ρ)

/-- The reference's product, its transpose and its cast, at one index. -/
theorem ref_ConvOut (x : FVec Ideal Cert.DwConvOutRefIdeal.S8192x1024 .bf16) (y : FVec Ideal Cert.DwConvOutRefIdeal.S8192x1024 .bf16) (a : Fin 1024) (b : Fin 1024) :
    truncf (F := Ideal) .bf16 (transpose Cert.DwConvOutRefIdeal.S1024x1024 [1, 0] (Host.dotGeneral (φ₁ := .f32) (φ₂ := .f32) Cert.DwConvOutRefIdeal.dot_S8192x1024_S8192x1024_S1024x1024_0_0_1_1_n_n none
      (extf .f32 y Cert.DwConvOutRefIdeal.Gen.bitsLt_bf16_f32) (extf .f32 x Cert.DwConvOutRefIdeal.Gen.bitsLt_bf16_f32)) Cert.DwConvOutRefIdeal.Gen.transposes_S1024x1024_S1024x1024_1_0) Cert.DwConvOutRefIdeal.Gen.bitsLt_bf16_f32 (ValueIdx.ix2 a b)
      = ∑ R : Fin 8192, y (ValueIdx.ix2 R b) * x (ValueIdx.ix2 R a) := by
  pointwise []
  rfl

theorem algebraic_ConvOut : Cert.algebraic_DwConvOutIdeal_DwConvOutRefIdeal := by
  intro m ρ m' ρ' _ hag
  refine ⟨fun c => fun i => Cert.DwConvOutIdeal.Gen.dw m c (i 0) (i 1), ?_, ?_⟩
  · refine (θ_run Cert.DwConvOutIdeal.defs _ _).mono (fun r h c => ?_) (Cert.DwConvOutIdeal.Value.run_blocks (F := Ideal) m ρ)
    obtain ⟨h2, hk⟩ := h c
    exact ⟨h2.trans (Cert.DwConvOutIdeal.Gen.arr2 m c), hk⟩
  · refine (θ_run Cert.DwConvOutRefIdeal.defs _ _).mono (fun r h c => ?_) (Cert.DwConvOutRefIdeal.Value.run (F := Ideal) m' ρ')
    obtain ⟨h0, hk⟩ := h c
    obtain ⟨e0, e1⟩ := hag c
    refine ⟨h0.trans (funext fun i => ?_), hk⟩
    obtain ⟨a, b, rfl⟩ : ∃ (a : Fin 1024) (b : Fin 1024), i = ValueIdx.ix2 a b := ⟨_, _, ValueIdx.eq_ix2 i⟩
    exact (ref_ConvOut _ _ a b).trans (Finset.sum_congr rfl fun R _ => (mul_comm (G := EReal) _ _).trans (congrArg₂ (· * ·) (congrFun e0 _) (congrFun e1 _)))

theorem frame_ConvIn : Cert.quiescent_DwConvInRefIdeal := fun m ρ _ =>
  (θ_run Cert.DwConvInRefIdeal.defs _ _).mono (fun r h => ⟨fun c => (h c).2, sem_eq_zero_of_no_sems (by decide) r.2⟩)
    (Cert.DwConvInRefIdeal.Value.run (F := Ideal) m ρ)

/-- The reference's product, its transpose, its columns' slots and its cast, at one index. -/
theorem ref_ConvIn (x : FVec Ideal Cert.DwConvInRefIdeal.S8192x1024 .bf16) (y : FVec Ideal Cert.DwConvInRefIdeal.S8192x3072 .bf16) (s : Fin 8) (a : Fin 1024) (b : Fin 384) :
    truncf (F := Ideal) .bf16 (transpose Cert.DwConvInRefIdeal.S8x1024x384 [1, 0, 2] (shapeCast Cert.DwConvInRefIdeal.S1024x8x384 (transpose Cert.DwConvInRefIdeal.S1024x3072 [1, 0] (Host.dotGeneral (φ₁ := .f32) (φ₂ := .f32) Cert.DwConvInRefIdeal.dot_S8192x3072_S8192x1024_S3072x1024_0_0_1_1_n_n none
      (extf .f32 y Cert.DwConvInRefIdeal.Gen.bitsLt_bf16_f32) (extf .f32 x Cert.DwConvInRefIdeal.Gen.bitsLt_bf16_f32)) Cert.DwConvInRefIdeal.Gen.transposes_S3072x1024_S1024x3072_1_0) Cert.DwConvInRefIdeal.Gen.shapeCasts_S1024x3072_S1024x8x384) Cert.DwConvInRefIdeal.Gen.transposes_S1024x8x384_S8x1024x384_1_0_2) Cert.DwConvInRefIdeal.Gen.bitsLt_bf16_f32 (ValueIdx.ix3 s a b)
      = ∑ R : Fin 8192, y (ValueIdx.ix2 R ⟨384 * s.val + b.val, by omega⟩) * x (ValueIdx.ix2 R a) := by
  pointwise []
  refine Finset.sum_congr rfl fun R _ => congrArg₂ (· * ·) (congrArg (fun k => y (ValueIdx.ix2 R k)) (Fin.ext ?_)) rfl
  show s.val * 384 + b.val = 384 * s.val + b.val
  omega

theorem algebraic_ConvIn : Cert.algebraic_DwConvInIdeal_DwConvInRefIdeal := by
  intro m ρ m' ρ' _ hag
  refine ⟨fun c => fun i => Cert.DwConvInIdeal.Gen.cols m c (i 0) (i 1) (i 2), ?_, ?_⟩
  · refine (θ_run Cert.DwConvInIdeal.defs _ _).mono (fun r h c => ?_) (Cert.DwConvInIdeal.Value.run_blocks (F := Ideal) m ρ)
    obtain ⟨h2, hk⟩ := h c
    exact ⟨h2.trans (Cert.DwConvInIdeal.Gen.arr2 m c), hk⟩
  · refine (θ_run Cert.DwConvInRefIdeal.defs _ _).mono (fun r h c => ?_) (Cert.DwConvInRefIdeal.Value.run (F := Ideal) m' ρ')
    obtain ⟨h0, hk⟩ := h c
    obtain ⟨e0, e1⟩ := hag c
    refine ⟨h0.trans (funext fun i => ?_), hk⟩
    obtain ⟨s, a, b, rfl⟩ : ∃ (s : Fin 8) (a : Fin 1024) (b : Fin 384), i = ValueIdx.ix3 s a b := ⟨_, _, _, ValueIdx.eq_ix3 i⟩
    exact (ref_ConvIn _ _ s a b).trans (Finset.sum_congr rfl fun R _ => (mul_comm (G := EReal) _ _).trans (congrArg₂ (· * ·) (congrFun e0 _) (congrFun e1 _)))

theorem frame_AttnO : Cert.quiescent_DwAttnORefIdeal := fun m ρ _ =>
  (θ_run Cert.DwAttnORefIdeal.defs _ _).mono (fun r h => ⟨fun c => (h c).2, sem_eq_zero_of_no_sems (by decide) r.2⟩)
    (Cert.DwAttnORefIdeal.Value.run (F := Ideal) m ρ)

/-- The reference's product, its transpose, its columns' slots and its cast, at one index. -/
theorem ref_AttnO (x : FVec Ideal Cert.DwAttnORefIdeal.S8192x512 .bf16) (y : FVec Ideal Cert.DwAttnORefIdeal.S8192x1024 .bf16) (s : Fin 8) (a : Fin 512) (b : Fin 128) :
    truncf (F := Ideal) .bf16 (transpose Cert.DwAttnORefIdeal.S8x512x128 [1, 0, 2] (shapeCast Cert.DwAttnORefIdeal.S512x8x128 (transpose Cert.DwAttnORefIdeal.S512x1024 [1, 0] (Host.dotGeneral (φ₁ := .f32) (φ₂ := .f32) Cert.DwAttnORefIdeal.dot_S8192x1024_S8192x512_S1024x512_0_0_1_1_n_n none
      (extf .f32 y Cert.DwAttnORefIdeal.Gen.bitsLt_bf16_f32) (extf .f32 x Cert.DwAttnORefIdeal.Gen.bitsLt_bf16_f32)) Cert.DwAttnORefIdeal.Gen.transposes_S1024x512_S512x1024_1_0) Cert.DwAttnORefIdeal.Gen.shapeCasts_S512x1024_S512x8x128) Cert.DwAttnORefIdeal.Gen.transposes_S512x8x128_S8x512x128_1_0_2) Cert.DwAttnORefIdeal.Gen.bitsLt_bf16_f32 (ValueIdx.ix3 s a b)
      = ∑ R : Fin 8192, y (ValueIdx.ix2 R ⟨128 * s.val + b.val, by omega⟩) * x (ValueIdx.ix2 R a) := by
  pointwise []
  refine Finset.sum_congr rfl fun R _ => congrArg₂ (· * ·) (congrArg (fun k => y (ValueIdx.ix2 R k)) (Fin.ext ?_)) rfl
  show s.val * 128 + b.val = 128 * s.val + b.val
  omega

theorem algebraic_AttnO : Cert.algebraic_DwAttnOIdeal_DwAttnORefIdeal := by
  intro m ρ m' ρ' _ hag
  refine ⟨fun c => fun i => Cert.DwAttnOIdeal.Gen.cols m c (i 0) (i 1) (i 2), ?_, ?_⟩
  · refine (θ_run Cert.DwAttnOIdeal.defs _ _).mono (fun r h c => ?_) (Cert.DwAttnOIdeal.Value.run_blocks (F := Ideal) m ρ)
    obtain ⟨h2, hk⟩ := h c
    exact ⟨h2.trans (Cert.DwAttnOIdeal.Gen.arr2 m c), hk⟩
  · refine (θ_run Cert.DwAttnORefIdeal.defs _ _).mono (fun r h c => ?_) (Cert.DwAttnORefIdeal.Value.run (F := Ideal) m' ρ')
    obtain ⟨h0, hk⟩ := h c
    obtain ⟨e0, e1⟩ := hag c
    refine ⟨h0.trans (funext fun i => ?_), hk⟩
    obtain ⟨s, a, b, rfl⟩ : ∃ (s : Fin 8) (a : Fin 512) (b : Fin 128), i = ValueIdx.ix3 s a b := ⟨_, _, _, ValueIdx.eq_ix3 i⟩
    exact (ref_AttnO _ _ s a b).trans (Finset.sum_congr rfl fun R _ => (mul_comm (G := EReal) _ _).trans (congrArg₂ (· * ·) (congrFun e0 _) (congrFun e1 _)))

theorem frame_AttnQ : Cert.quiescent_DwAttnQRefIdeal := fun m ρ _ =>
  (θ_run Cert.DwAttnQRefIdeal.defs _ _).mono (fun r h => ⟨fun c => (h c).2, sem_eq_zero_of_no_sems (by decide) r.2⟩)
    (Cert.DwAttnQRefIdeal.Value.run (F := Ideal) m ρ)

/-- The reference's product, its two transposes and its cast, at one index. -/
theorem ref_AttnQ (x : FVec Ideal Cert.DwAttnQRefIdeal.S8192x1024 .bf16) (y : FVec Ideal Cert.DwAttnQRefIdeal.S8192x1536 .bf16) (a : Fin 1536) (b : Fin 1024) :
    truncf (F := Ideal) .bf16 (transpose Cert.DwAttnQRefIdeal.S1536x1024 [1, 0] (transpose Cert.DwAttnQRefIdeal.S1024x1536 [1, 0] (Host.dotGeneral (φ₁ := .f32) (φ₂ := .f32) Cert.DwAttnQRefIdeal.dot_S8192x1536_S8192x1024_S1536x1024_0_0_1_1_n_n none
      (extf .f32 y Cert.DwAttnQRefIdeal.Gen.bitsLt_bf16_f32) (extf .f32 x Cert.DwAttnQRefIdeal.Gen.bitsLt_bf16_f32)) Cert.DwAttnQRefIdeal.Gen.transposes_S1536x1024_S1024x1536_1_0) Cert.DwAttnQRefIdeal.Gen.transposes_S1024x1536_S1536x1024_1_0) Cert.DwAttnQRefIdeal.Gen.bitsLt_bf16_f32 (ValueIdx.ix2 a b)
      = ∑ R : Fin 8192, y (ValueIdx.ix2 R a) * x (ValueIdx.ix2 R b) := by
  pointwise []
  rfl

theorem algebraic_AttnQ : Cert.algebraic_DwAttnQIdeal_DwAttnQRefIdeal := by
  intro m ρ m' ρ' _ hag
  refine ⟨fun c => fun i => Cert.DwAttnQIdeal.Gen.dw m c (i 0) (i 1), ?_, ?_⟩
  · refine (θ_run Cert.DwAttnQIdeal.defs _ _).mono (fun r h c => ?_) (Cert.DwAttnQIdeal.Value.run_blocks (F := Ideal) m ρ)
    obtain ⟨h2, hk⟩ := h c
    exact ⟨h2.trans (Cert.DwAttnQIdeal.Gen.arr2 m c), hk⟩
  · refine (θ_run Cert.DwAttnQRefIdeal.defs _ _).mono (fun r h c => ?_) (Cert.DwAttnQRefIdeal.Value.run (F := Ideal) m' ρ')
    obtain ⟨h0, hk⟩ := h c
    obtain ⟨e0, e1⟩ := hag c
    refine ⟨h0.trans (funext fun i => ?_), hk⟩
    obtain ⟨a, b, rfl⟩ : ∃ (a : Fin 1536) (b : Fin 1024), i = ValueIdx.ix2 a b := ⟨_, _, ValueIdx.eq_ix2 i⟩
    exact (ref_AttnQ _ _ a b).trans (Finset.sum_congr rfl fun R _ => congrArg₂ (· * ·) (congrFun e1 _) (congrFun e0 _))

theorem frame_Kv : Cert.quiescent_DwKvRefIdeal := fun m ρ _ =>
  (θ_run Cert.DwKvRefIdeal.defs _ _).mono (fun r h => ⟨fun c => (h c).2, sem_eq_zero_of_no_sems (by decide) r.2⟩)
    (Cert.DwKvRefIdeal.Value.run (F := Ideal) m ρ)

/-- The reference's product, its transpose, its columns' slots and its cast, at one index. -/
theorem ref_Kv (x : FVec Ideal Cert.DwKvRefIdeal.S8192x1024 .bf16) (y : FVec Ideal Cert.DwKvRefIdeal.S8192x3072 .bf16) (s : Fin 8) (a : Fin 1024) (b : Fin 384) :
    truncf (F := Ideal) .bf16 (transpose Cert.DwKvRefIdeal.S8x1024x384 [1, 0, 2] (shapeCast Cert.DwKvRefIdeal.S1024x8x384 (transpose Cert.DwKvRefIdeal.S1024x3072 [1, 0] (Host.dotGeneral (φ₁ := .f32) (φ₂ := .f32) Cert.DwKvRefIdeal.dot_S8192x3072_S8192x1024_S3072x1024_0_0_1_1_n_n none
      (extf .f32 y Cert.DwKvRefIdeal.Gen.bitsLt_bf16_f32) (extf .f32 x Cert.DwKvRefIdeal.Gen.bitsLt_bf16_f32)) Cert.DwKvRefIdeal.Gen.transposes_S3072x1024_S1024x3072_1_0) Cert.DwKvRefIdeal.Gen.shapeCasts_S1024x3072_S1024x8x384) Cert.DwKvRefIdeal.Gen.transposes_S1024x8x384_S8x1024x384_1_0_2) Cert.DwKvRefIdeal.Gen.bitsLt_bf16_f32 (ValueIdx.ix3 s a b)
      = ∑ R : Fin 8192, y (ValueIdx.ix2 R ⟨384 * s.val + b.val, by omega⟩) * x (ValueIdx.ix2 R a) := by
  pointwise []
  refine Finset.sum_congr rfl fun R _ => congrArg₂ (· * ·) (congrArg (fun k => y (ValueIdx.ix2 R k)) (Fin.ext ?_)) rfl
  show s.val * 384 + b.val = 384 * s.val + b.val
  omega

theorem algebraic_Kv : Cert.algebraic_DwKvIdeal_DwKvRefIdeal := by
  intro m ρ m' ρ' _ hag
  refine ⟨fun c => fun i => Cert.DwKvIdeal.Gen.cols m c (i 0) (i 1) (i 2), ?_, ?_⟩
  · refine (θ_run Cert.DwKvIdeal.defs _ _).mono (fun r h c => ?_) (Cert.DwKvIdeal.Value.run_blocks (F := Ideal) m ρ)
    obtain ⟨h2, hk⟩ := h c
    exact ⟨h2.trans (Cert.DwKvIdeal.Gen.arr2 m c), hk⟩
  · refine (θ_run Cert.DwKvRefIdeal.defs _ _).mono (fun r h c => ?_) (Cert.DwKvRefIdeal.Value.run (F := Ideal) m' ρ')
    obtain ⟨h0, hk⟩ := h c
    obtain ⟨e0, e1⟩ := hag c
    refine ⟨h0.trans (funext fun i => ?_), hk⟩
    obtain ⟨s, a, b, rfl⟩ : ∃ (s : Fin 8) (a : Fin 1024) (b : Fin 384), i = ValueIdx.ix3 s a b := ⟨_, _, _, ValueIdx.eq_ix3 i⟩
    exact (ref_Kv _ _ s a b).trans (Finset.sum_congr rfl fun R _ => (mul_comm (G := EReal) _ _).trans (congrArg₂ (· * ·) (congrFun e0 _) (congrFun e1 _)))

end Cert.Proof.DwRest

end
-- ==== Proof.ConvFwdPoint.lean ====
/-
  What one grid point of the convolution layer's forward call leaves in each of its output blocks and in the carried
  scratch, as one term of the blocks it reads and of the eight rows carried over from the point before.
-/
module

public import proofs.«01_k».proof.Proof.Gen.ConvFwdIdeal.Value
public import Idealize.ShloMosaic.Lib.Pointwise
public import Idealize.ShloMosaic.Lib.WritesUnit
public import Idealize.ShloMosaic.Lib.Pipeline.Value

@[expose] public section

set_option maxRecDepth 16384

noncomputable section

namespace Cert.ConvFwdIdeal.Gen

open Idealize.ShloMosaic Idealize.ShloMosaic.TcCoe Idealize.ShloMosaic.Tactic
open Idealize.SL Idealize.SL.Sem
open Idealize.ShloMosaic.Pipeline (Dat Cfg Window cellOf)

variable {F : FTy → Type} [FloatOps F]

/-- The scratch of 520 rows: the eight carried rows, then the tile's 512. -/
def ext (a : Vec F S8x1024 .f32) (b : Vec F S512x1024 .f32) : Vec F S520x1024 .f32 := fun i =>
  if h : (i 0).val < 8 then a (ix2 ⟨(i 0).val, h⟩ ⟨(i 1).val, (i 1).isLt⟩)
  else b (ix2 ⟨(i 0).val - 8, by have : (i 0).val < 520 := (i 0).isLt; omega⟩ ⟨(i 1).val, (i 1).isLt⟩)

/-- The first eight rows of the scratch. -/
def head8 (s : Vec F S520x1024 .f32) : Vec F S8x1024 .f32 :=
  View.ld s (Rect.unit (s := S520x1024) ![0, 0] S8x1024.size inb_S520x1024_S8x1024_0_0)

/-- The last eight rows of a tile. -/
def tail8 (b : Vec F S512x1024 .f32) : Vec F S8x1024 .f32 := fun i =>
  b (ix2 ⟨504 + (i 0).val, by have : (i 0).val < 8 := (i 0).isLt; omega⟩ ⟨(i 1).val, (i 1).isLt⟩)

/-- Row `k` of an eight-row block. -/
def row0 (x : Vec F S8x1024 .f32) : Vec F S1x1024 .f32 := View.ld x (Rect.unit (s := S8x1024) ![0, 0] S1x1024.size inb_S8x1024_S1x1024_0_0)
def row1 (x : Vec F S8x1024 .f32) : Vec F S1x1024 .f32 := View.ld x (Rect.unit (s := S8x1024) ![1, 0] S1x1024.size inb_S8x1024_S1x1024_1_0)
def row2 (x : Vec F S8x1024 .f32) : Vec F S1x1024 .f32 := View.ld x (Rect.unit (s := S8x1024) ![2, 0] S1x1024.size inb_S8x1024_S1x1024_2_0)
def row3 (x : Vec F S8x1024 .f32) : Vec F S1x1024 .f32 := View.ld x (Rect.unit (s := S8x1024) ![3, 0] S1x1024.size inb_S8x1024_S1x1024_3_0)

/-- The scratch's rows from the sixth and from the seventh on: the tile's rows shifted by two and by one. -/
def sh6 (s : Vec F S520x1024 .f32) : Vec F S512x1024 .f32 :=
  View.ld s (Rect.unit (s := S520x1024) ![6, 0] S512x1024.size inb_S520x1024_S512x1024_6_0)
def sh7 (s : Vec F S520x1024 .f32) : Vec F S512x1024 .f32 :=
  View.ld s (Rect.unit (s := S520x1024) ![7, 0] S512x1024.size inb_S520x1024_S512x1024_7_0)

section Point
variable (x0 : Vec F S512x1024 .f32) (x1 x2 : Vec F S8x1024 .f32) (x3 : Vec F S1024x3072 .bf16) (x4 : Vec F S1024x1024 .bf16) (tl : Vec F S8x1024 .f32)

/-- The normalized and modulated input. -/
def ptH : FVec F S512x1024 .bf16 := k0_pay4 x0 (row0 x1) (row1 x1) (row2 x1)
/-- Its projection. -/
def ptP : FVec F S512x3072 .f32 := k0_pay5 x0 (row0 x1) (row1 x1) (row2 x1) x3
def ptP16 : FVec F S512x3072 .bf16 := k0_pay6 x0 (row0 x1) (row1 x1) (row2 x1) x3
/-- What is convolved. -/
def ptV : Vec F S512x1024 .f32 := k0_pay7 (ptP x0 x1 x3)
/-- The scratch once that is stored. -/
def ptE : Vec F S520x1024 .f32 := ext tl (ptV x0 x1 x3)
/-- The convolution's output. -/
def ptC : FVec F S512x1024 .bf16 := k0_pay10 (ptP x0 x1 x3) (row0 x2) (sh6 (ptE x0 x1 x3 tl)) (row1 x2) (sh7 (ptE x0 x1 x3 tl)) (row2 x2)
/-- That against the projection's first part. -/
def ptZ : FVec F S512x1024 .bf16 := k0_pay11 (ptP x0 x1 x3) (row0 x2) (sh6 (ptE x0 x1 x3 tl)) (row1 x2) (sh7 (ptE x0 x1 x3 tl)) (row2 x2)
/-- The output projection. -/
def ptY : FVec F S512x1024 .f32 := k0_pay12 (ptP x0 x1 x3) (row0 x2) (sh6 (ptE x0 x1 x3 tl)) (row1 x2) (sh7 (ptE x0 x1 x3 tl)) (row2 x2) x4
def ptY16 : FVec F S512x1024 .bf16 := k0_pay13 (ptP x0 x1 x3) (row0 x2) (sh6 (ptE x0 x1 x3 tl)) (row1 x2) (sh7 (ptE x0 x1 x3 tl)) (row2 x2) x4
/-- The layer's output. -/
def ptX : FVec F S512x1024 .f32 := k0_pay1 x0 (ptY x0 x1 x2 x3 x4 tl) (row3 x1)
/-- The scratch after the point. -/
def ptS : Vec F S520x1024 .f32 := ext (tail8 (ptV x0 x1 x3)) (ptV x0 x1 x3)
end Point

theorem read_ext {κ : Kind} {sp : Space} (v : View sig κ sp S520x1024 .f32) (f : v.ty.Contents (Elt F))
    (a : Vec F S8x1024 .f32) (b : Vec F S512x1024 .f32) (L : List (View.Piece (Elt F) S520x1024 .f32)) :
    View.read (Elt F) v (v.writes (Elt F) f
      (⟨Rect.unit ![8, 0] ![512, 1024] inb_S520x1024_S512x1024_8_0, b⟩ :: ⟨Rect.unit ![0, 0] ![8, 1024] inb_S520x1024_S8x1024_0_0, a⟩ :: L))
      = ext a b := by
  funext i
  have h1 : (i 0).val < 520 := (i 0).isLt
  unfold ext
  split
  · rename_i h
    refine (View.read_writes_cons_rows_of_not_mem v f (o := 8) (W := 512) _ b _ i rfl rfl (by omega)).trans ?_
    exact View.read_writes_cons_rows_of_mem v f _ a _ i _ rfl (by simp) rfl
  · rename_i h
    exact View.read_writes_cons_rows_of_mem v f _ b _ i _ rfl (by simp; omega) rfl

theorem read_ext' {κ : Kind} {sp : Space} (v : View sig κ sp S520x1024 .f32) (f : v.ty.Contents (Elt F))
    (a : Vec F S8x1024 .f32) (b : Vec F S512x1024 .f32) (L : List (View.Piece (Elt F) S520x1024 .f32)) :
    View.read (Elt F) v (v.writes (Elt F) f
      (⟨Rect.unit ![0, 0] ![8, 1024] inb_S520x1024_S8x1024_0_0, a⟩ :: ⟨Rect.unit ![8, 0] ![512, 1024] inb_S520x1024_S512x1024_8_0, b⟩ :: L))
      = ext a b := by
  funext i
  have h1 : (i 0).val < 520 := (i 0).isLt
  unfold ext
  split
  · rename_i h
    exact View.read_writes_cons_rows_of_mem v f _ a _ i _ rfl (by simp) rfl
  · rename_i h
    refine (View.read_writes_cons_rows_of_not_mem v f (o := 0) (W := 8) _ a _ i rfl rfl (by omega)).trans ?_
    exact View.read_writes_cons_rows_of_mem v f _ b _ i _ rfl (by simp; omega) rfl

theorem read_ext_one {κ : Kind} {sp : Space} (v : View sig κ sp S520x1024 .f32) (f : v.ty.Contents (Elt F)) (b : Vec F S512x1024 .f32) :
    View.read (Elt F) v (v.writes (Elt F) f [⟨Rect.unit ![8, 0] ![512, 1024] inb_S520x1024_S512x1024_8_0, b⟩])
      = ext (head8 (View.read (Elt F) v f)) b := by
  funext i
  have h1 : (i 0).val < 520 := (i 0).isLt
  unfold ext
  split
  · rename_i h
    refine (View.read_writes_cons_rows_of_not_mem v f (o := 8) (W := 512) _ b _ i rfl rfl (by omega)).trans ?_
    unfold head8 View.ld
    refine congrArg (View.read (Elt F) v f) ?_
    funext a
    fin_cases a
    · apply Fin.ext; simp [LoadRect.idx]
    · apply Fin.ext; simp [LoadRect.idx]
  · rename_i h
    exact View.read_writes_cons_rows_of_mem v f _ b _ i _ rfl (by simp; omega) rfl

theorem readCov_ext {κ : Kind} {sp : Space} (v : View sig κ sp S520x1024 .f32) (r : Rect S520x1024)
    (a : Vec F S8x1024 .f32) (b : Vec F S512x1024 .f32) (L : List (View.Piece (Elt F) S520x1024 .f32)) :
    v.readCov (⟨Rect.unit ![8, 0] ![512, 1024] inb_S520x1024_S512x1024_8_0, b⟩ :: ⟨Rect.unit ![0, 0] ![8, 1024] inb_S520x1024_S8x1024_0_0, a⟩ :: L) r.toLoadRect
      = View.ld (ext a b) r := by
  unfold View.readCov
  rw [View.readAt_eq_ld, read_ext]

theorem ld_tail (a : Vec F S8x1024 .f32) (b : Vec F S512x1024 .f32) :
    View.ld (ext a b) (Rect.unit ![512, 0] ![8, 1024] inb_S520x1024_S8x1024_512_0) = tail8 b := by
  funext i
  have h1 : (i 0).val < 8 := (i 0).isLt
  unfold View.ld ext tail8
  rw [dif_neg (by simp [LoadRect.idx]; omega)]
  refine congrArg b ?_
  funext q
  fin_cases q
  · apply Fin.ext; simp [LoadRect.idx]; omega
  · apply Fin.ext; simp [LoadRect.idx]

theorem readCov_tail {κ : Kind} {sp : Space} (v : View sig κ sp S520x1024 .f32) (b : Vec F S512x1024 .f32) :
    v.readCov [⟨Rect.unit ![8, 0] ![512, 1024] inb_S520x1024_S512x1024_8_0, b⟩] (Rect.unit ![512, 0] ![8, 1024] inb_S520x1024_S8x1024_512_0).toLoadRect
      = tail8 b := by
  unfold View.readCov
  rw [View.readAt_eq_ld, read_ext_one, ld_tail]

theorem pay2_eq (v : Vec F S8x1024 .f32) : k0_pay2 v = v := shapeCast_self _ _

theorem pay8_eq (v : FVec F S512x3072 .f32) : k0_pay8 v = k0_pay7 v := shapeCast_self _ _

theorem ld_S512x1024 {e : EltTy} (X : S512x1024.Idx → Elt F e) : View.ld X (Rect.unit (s := S512x1024) ![0, 0] ![512, 1024] inb_S512x1024_S512x1024_0_0) = X :=
  View.ld_unit_zero (S := S512x1024) (funext fun a => by fin_cases a <;> rfl) _ X

theorem ld_S512x3072 {e : EltTy} (X : S512x3072.Idx → Elt F e) : View.ld X (Rect.unit (s := S512x3072) ![0, 0] ![512, 3072] inb_S512x3072_S512x3072_0_0) = X :=
  View.ld_unit_zero (S := S512x3072) (funext fun a => by fin_cases a <;> rfl) _ X

theorem ld_S1024x3072 {e : EltTy} (X : S1024x3072.Idx → Elt F e) : View.ld X (Rect.unit (s := S1024x3072) ![0, 0] ![1024, 3072] inb_S1024x3072_S1024x3072_0_0) = X :=
  View.ld_unit_zero (S := S1024x3072) (funext fun a => by fin_cases a <;> rfl) _ X

theorem ld_S1024x1024 {e : EltTy} (X : S1024x1024.Idx → Elt F e) : View.ld X (Rect.unit (s := S1024x1024) ![0, 0] ![1024, 1024] inb_S1024x1024_S1024x1024_0_0) = X :=
  View.ld_unit_zero (S := S1024x1024) (funext fun a => by fin_cases a <;> rfl) _ X

theorem canon_S512x1024 {e : EltTy} (w : S512x1024.Idx → Elt F e) (L : List (View.Piece (Elt F) S512x1024 e)) : View.canon (⟨Rect.unit (s := S512x1024) ![0, 0] ![512, 1024] inb_S512x1024_S512x1024_0_0, w⟩ :: L) = w :=
  View.canon_cons_unit_zero (S := S512x1024) (funext fun a => by fin_cases a <;> rfl) _ w L

theorem canon_S512x3072 {e : EltTy} (w : S512x3072.Idx → Elt F e) (L : List (View.Piece (Elt F) S512x3072 e)) : View.canon (⟨Rect.unit (s := S512x3072) ![0, 0] ![512, 3072] inb_S512x3072_S512x3072_0_0, w⟩ :: L) = w :=
  View.canon_cons_unit_zero (S := S512x3072) (funext fun a => by fin_cases a <;> rfl) _ w L

set_option maxHeartbeats 1000000 in
theorem out0_A_5_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S520x1024 .f32) (harg12 : arg12.IsWhole) (hc0 : cond0_0 i)
    (x0 : Vec F S512x1024 .f32) (x1 : Vec F S8x1024 .f32) (x2 : Vec F S8x1024 .f32) (x3 : Vec F S1024x3072 .bf16) (x4 : Vec F S1024x1024 .bf16) :
    out0_A_5 c i arg1 harg1 arg2 harg2 arg3 harg3 arg4 harg4 arg5 harg5 arg6 harg6 arg7 harg7 arg8 harg8 arg9 harg9 arg10 harg10 arg11 harg11 arg12 harg12 hc0 x0 x1 x2 x3 x4 = ptX x0 x1 x2 x3 x4 (k0_pay3 (F := F)) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, readCov_ext, read_ext, read_ext', read_ext_one, readCov_tail, ld_tail, pay2_eq, pay8_eq, ld_S512x1024, ld_S512x3072, ld_S1024x3072, ld_S1024x1024, canon_S512x1024, canon_S512x3072]
  rfl

set_option maxHeartbeats 1000000 in
theorem out0_A_6_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S520x1024 .f32) (harg12 : arg12.IsWhole) (hc0 : cond0_0 i)
    (x0 : Vec F S512x1024 .f32) (x1 : Vec F S8x1024 .f32) (x2 : Vec F S8x1024 .f32) (x3 : Vec F S1024x3072 .bf16) (x4 : Vec F S1024x1024 .bf16) :
    out0_A_6 c i arg1 harg1 arg2 harg2 arg3 harg3 arg4 harg4 arg5 harg5 arg6 harg6 arg7 harg7 arg8 harg8 arg9 harg9 arg10 harg10 arg11 harg11 arg12 harg12 hc0 x0 x1 x2 x3 x4 = ptH x0 x1 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, readCov_ext, read_ext, read_ext', read_ext_one, readCov_tail, ld_tail, pay2_eq, pay8_eq, ld_S512x1024, ld_S512x3072, ld_S1024x3072, ld_S1024x1024, canon_S512x1024, canon_S512x3072]
  rfl

set_option maxHeartbeats 1000000 in
theorem out0_A_7_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S520x1024 .f32) (harg12 : arg12.IsWhole) (hc0 : cond0_0 i)
    (x0 : Vec F S512x1024 .f32) (x1 : Vec F S8x1024 .f32) (x2 : Vec F S8x1024 .f32) (x3 : Vec F S1024x3072 .bf16) (x4 : Vec F S1024x1024 .bf16) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 = ptP16 x0 x1 x3 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, readCov_ext, read_ext, read_ext', read_ext_one, readCov_tail, ld_tail, pay2_eq, pay8_eq, ld_S512x1024, ld_S512x3072, ld_S1024x3072, ld_S1024x1024, canon_S512x1024, canon_S512x3072]
  rfl

set_option maxHeartbeats 1000000 in
theorem out0_A_8_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S520x1024 .f32) (harg12 : arg12.IsWhole) (hc0 : cond0_0 i)
    (x0 : Vec F S512x1024 .f32) (x1 : Vec F S8x1024 .f32) (x2 : Vec F S8x1024 .f32) (x3 : Vec F S1024x3072 .bf16) (x4 : Vec F S1024x1024 .bf16) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 = ptC x0 x1 x2 x3 (k0_pay3 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, readCov_ext, read_ext, read_ext', read_ext_one, readCov_tail, ld_tail, pay2_eq, pay8_eq, ld_S512x1024, ld_S512x3072, ld_S1024x3072, ld_S1024x1024, canon_S512x1024, canon_S512x3072]
  rfl

set_option maxHeartbeats 1000000 in
theorem out0_A_9_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S520x1024 .f32) (harg12 : arg12.IsWhole) (hc0 : cond0_0 i)
    (x0 : Vec F S512x1024 .f32) (x1 : Vec F S8x1024 .f32) (x2 : Vec F S8x1024 .f32) (x3 : Vec F S1024x3072 .bf16) (x4 : Vec F S1024x1024 .bf16) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 = ptZ x0 x1 x2 x3 (k0_pay3 (F := F)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, readCov_ext, read_ext, read_ext', read_ext_one, readCov_tail, ld_tail, pay2_eq, pay8_eq, ld_S512x1024, ld_S512x3072, ld_S1024x3072, ld_S1024x1024, canon_S512x1024, canon_S512x3072]
  rfl

set_option maxHeartbeats 1000000 in
theorem out0_A_10_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S520x1024 .f32) (harg12 : arg12.IsWhole) (hc0 : cond0_0 i)
    (x0 : Vec F S512x1024 .f32) (x1 : Vec F S8x1024 .f32) (x2 : Vec F S8x1024 .f32) (x3 : Vec F S1024x3072 .bf16) (x4 : Vec F S1024x1024 .bf16) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 = ptY16 x0 x1 x2 x3 x4 (k0_pay3 (F := F)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, readCov_ext, read_ext, read_ext', read_ext_one, readCov_tail, ld_tail, pay2_eq, pay8_eq, ld_S512x1024, ld_S512x3072, ld_S1024x3072, ld_S1024x1024, canon_S512x1024, canon_S512x3072]
  rfl

set_option maxHeartbeats 1000000 in
theorem sout0_A_0_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S520x1024 .f32) (harg12 : arg12.IsWhole) (hc0 : cond0_0 i)
    (x0 : Vec F S512x1024 .f32) (x1 : Vec F S8x1024 .f32) (x2 : Vec F S8x1024 .f32) (x3 : Vec F S1024x3072 .bf16) (x4 : Vec F S1024x1024 .bf16) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 = ptS x0 x1 x3 := by
  unfold sout0_A_0
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, readCov_ext, read_ext, read_ext', read_ext_one, readCov_tail, ld_tail, pay2_eq, pay8_eq, ld_S512x1024, ld_S512x3072, ld_S1024x3072, ld_S1024x1024, canon_S512x1024, canon_S512x3072]
  rfl

set_option maxHeartbeats 1000000 in
theorem out0_B_5_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S520x1024 .f32) (harg12 : arg12.IsWhole) (hc0 : ¬cond0_0 i)
    (x0 : Vec F S512x1024 .f32) (x1 : Vec F S8x1024 .f32) (x2 : Vec F S8x1024 .f32) (x3 : Vec F S1024x3072 .bf16) (x4 : Vec F S1024x1024 .bf16) (xs0 : Vec F S520x1024 .f32) :
    out0_B_5 c i arg1 harg1 arg2 harg2 arg3 harg3 arg4 harg4 arg5 harg5 arg6 harg6 arg7 harg7 arg8 harg8 arg9 harg9 arg10 harg10 arg11 harg11 arg12 harg12 hc0 x0 x1 x2 x3 x4 xs0 = ptX x0 x1 x2 x3 x4 (head8 xs0) := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 arg12 harg12 hc0 x0 x1 x2 x3 x4 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, readCov_ext, read_ext, read_ext', read_ext_one, readCov_tail, ld_tail, pay2_eq, pay8_eq, ld_S512x1024, ld_S512x3072, ld_S1024x3072, ld_S1024x1024, canon_S512x1024, canon_S512x3072]
  rfl

set_option maxHeartbeats 1000000 in
theorem out0_B_6_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S520x1024 .f32) (harg12 : arg12.IsWhole) (hc0 : ¬cond0_0 i)
    (x0 : Vec F S512x1024 .f32) (x1 : Vec F S8x1024 .f32) (x2 : Vec F S8x1024 .f32) (x3 : Vec F S1024x3072 .bf16) (x4 : Vec F S1024x1024 .bf16) (xs0 : Vec F S520x1024 .f32) :
    out0_B_6 c i arg1 harg1 arg2 harg2 arg3 harg3 arg4 harg4 arg5 harg5 arg6 harg6 arg7 harg7 arg8 harg8 arg9 harg9 arg10 harg10 arg11 harg11 arg12 harg12 hc0 x0 x1 x2 x3 x4 xs0 = ptH x0 x1 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 hc0 x0 x1 x2 x3 x4 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, readCov_ext, read_ext, read_ext', read_ext_one, readCov_tail, ld_tail, pay2_eq, pay8_eq, ld_S512x1024, ld_S512x3072, ld_S1024x3072, ld_S1024x1024, canon_S512x1024, canon_S512x3072]
  rfl

set_option maxHeartbeats 1000000 in
theorem out0_B_7_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S520x1024 .f32) (harg12 : arg12.IsWhole) (hc0 : ¬cond0_0 i)
    (x0 : Vec F S512x1024 .f32) (x1 : Vec F S8x1024 .f32) (x2 : Vec F S8x1024 .f32) (x3 : Vec F S1024x3072 .bf16) (x4 : Vec F S1024x1024 .bf16) (xs0 : Vec F S520x1024 .f32) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 xs0 = ptP16 x0 x1 x3 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, readCov_ext, read_ext, read_ext', read_ext_one, readCov_tail, ld_tail, pay2_eq, pay8_eq, ld_S512x1024, ld_S512x3072, ld_S1024x3072, ld_S1024x1024, canon_S512x1024, canon_S512x3072]
  rfl

set_option maxHeartbeats 1000000 in
theorem out0_B_8_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S520x1024 .f32) (harg12 : arg12.IsWhole) (hc0 : ¬cond0_0 i)
    (x0 : Vec F S512x1024 .f32) (x1 : Vec F S8x1024 .f32) (x2 : Vec F S8x1024 .f32) (x3 : Vec F S1024x3072 .bf16) (x4 : Vec F S1024x1024 .bf16) (xs0 : Vec F S520x1024 .f32) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 xs0 = ptC x0 x1 x2 x3 (head8 xs0) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, readCov_ext, read_ext, read_ext', read_ext_one, readCov_tail, ld_tail, pay2_eq, pay8_eq, ld_S512x1024, ld_S512x3072, ld_S1024x3072, ld_S1024x1024, canon_S512x1024, canon_S512x3072]
  rfl

set_option maxHeartbeats 1000000 in
theorem out0_B_9_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S520x1024 .f32) (harg12 : arg12.IsWhole) (hc0 : ¬cond0_0 i)
    (x0 : Vec F S512x1024 .f32) (x1 : Vec F S8x1024 .f32) (x2 : Vec F S8x1024 .f32) (x3 : Vec F S1024x3072 .bf16) (x4 : Vec F S1024x1024 .bf16) (xs0 : Vec F S520x1024 .f32) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 xs0 = ptZ x0 x1 x2 x3 (head8 xs0) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, readCov_ext, read_ext, read_ext', read_ext_one, readCov_tail, ld_tail, pay2_eq, pay8_eq, ld_S512x1024, ld_S512x3072, ld_S1024x3072, ld_S1024x1024, canon_S512x1024, canon_S512x3072]
  rfl

set_option maxHeartbeats 1000000 in
theorem out0_B_10_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S520x1024 .f32) (harg12 : arg12.IsWhole) (hc0 : ¬cond0_0 i)
    (x0 : Vec F S512x1024 .f32) (x1 : Vec F S8x1024 .f32) (x2 : Vec F S8x1024 .f32) (x3 : Vec F S1024x3072 .bf16) (x4 : Vec F S1024x1024 .bf16) (xs0 : Vec F S520x1024 .f32) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 xs0 = ptY16 x0 x1 x2 x3 x4 (head8 xs0) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, readCov_ext, read_ext, read_ext', read_ext_one, readCov_tail, ld_tail, pay2_eq, pay8_eq, ld_S512x1024, ld_S512x3072, ld_S1024x3072, ld_S1024x1024, canon_S512x1024, canon_S512x3072]
  rfl

set_option maxHeartbeats 1000000 in
theorem sout0_B_0_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S520x1024 .f32) (harg12 : arg12.IsWhole) (hc0 : ¬cond0_0 i)
    (x0 : Vec F S512x1024 .f32) (x1 : Vec F S8x1024 .f32) (x2 : Vec F S8x1024 .f32) (x3 : Vec F S1024x3072 .bf16) (x4 : Vec F S1024x1024 .bf16) (xs0 : Vec F S520x1024 .f32) :
    sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 xs0 = ptS x0 x1 x3 := by
  unfold sout0_B_0
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, readCov_ext, read_ext, read_ext', read_ext_one, readCov_tail, ld_tail, pay2_eq, pay8_eq, ld_S512x1024, ld_S512x3072, ld_S1024x3072, ld_S1024x1024, canon_S512x1024, canon_S512x3072]
  rfl

end Cert.ConvFwdIdeal.Gen
-- ==== Proof.ConvFwdRows.lean ====
/-
  The convolution layer's forward lines after the convolution, row by row over extended reals.
-/
module

public import proofs.«01_k».proof.Proof.ConvRows

@[expose] public section

set_option maxRecDepth 16384

noncomputable section

namespace Cert.Conv.Args

variable (A : Cert.Conv.Args)

/-- The convolution against the projection's first part, and the layer's output. -/
def z (R : Fin 8192) (l : Fin 1024) : EReal := A.b R l * A.cv R l
def xn (R : Fin 8192) (l : Fin 1024) : EReal := A.x R l + (1 + A.gate l) * A.y R l

end Cert.Conv.Args
-- ==== Proof.ConvFwdPointIx.lean ====
/-
  One grid point's results at an index: the row functions of `ConvRows` and `ConvFwdRows` at the tile's rows, when the
  blocks it reads and the rows carried over hold the layer's arrays there.
-/
module

public import proofs.«01_k».proof.Proof.ConvFwdPoint
public import proofs.«01_k».proof.Proof.ConvFwdRows

@[expose] public section

set_option maxRecDepth 16384

noncomputable section

namespace Cert.ConvFwdIdeal.Gen

open Idealize.ShloMosaic Idealize.ShloMosaic.TcCoe Idealize.ShloMosaic.Tactic

theorem tail8_ix (b : Vec Ideal S512x1024 .f32) (e : Fin 8) (l : Fin 1024) : tail8 b (ix2 e l) = b (ix2 ⟨504 + e.val, by omega⟩ l) := rfl
theorem ext_lo (a : Vec Ideal S8x1024 .f32) (b : Vec Ideal S512x1024 .f32) (n : Fin 520) (l : Fin 1024) (h : n.val < 8) :
    ext a b (ix2 n l) = a (ix2 ⟨n.val, h⟩ l) := by
  exact dif_pos h
theorem ext_hi (a : Vec Ideal S8x1024 .f32) (b : Vec Ideal S512x1024 .f32) (n : Fin 520) (l : Fin 1024) (h : ¬n.val < 8) :
    ext a b (ix2 n l) = b (ix2 ⟨n.val - 8, by omega⟩ l) := by
  exact dif_neg h
theorem head8_ext (a : Vec Ideal S8x1024 .f32) (b : Vec Ideal S512x1024 .f32) (e : Fin 8) (l : Fin 1024) : head8 (ext a b) (ix2 e l) = a (ix2 e l) := by
  pointwise [head8]
  rw [ext_lo _ _ _ _ (by simp)]

/-- The blocks of tile `b`'s point hold the layer's arrays at rows `512 * b + r`. -/
structure Holds (A : Cert.Conv.Args) (b : Fin 16) (x0 : Vec Ideal S512x1024 .f32) (x1 x2 : Vec Ideal S8x1024 .f32) (x3 : Vec Ideal S1024x3072 .bf16)
    (x4 : Vec Ideal S1024x1024 .bf16) : Prop where
  h0 : ∀ (r : Fin 512) l, x0 (ix2 r l) = A.x ⟨512 * b.val + r.val, by omega⟩ l
  h10 : ∀ l, x1 (ix2 0 l) = A.g l
  h11 : ∀ l, x1 (ix2 1 l) = A.sh l
  h12 : ∀ l, x1 (ix2 2 l) = A.sc l
  h13 : ∀ l, x1 (ix2 3 l) = A.gate l
  h20 : ∀ l, x2 (ix2 0 l) = A.w0 l
  h21 : ∀ l, x2 (ix2 1 l) = A.w1 l
  h22 : ∀ l, x2 (ix2 2 l) = A.w2 l
  h3 : ∀ l q, x3 (ix2 l q) = A.win l q
  h4 : ∀ k l, x4 (ix2 k l) = A.wo k l

section
variable {A : Cert.Conv.Args} {b : Fin 16} {x0 : Vec Ideal S512x1024 .f32} {x1 x2 : Vec Ideal S8x1024 .f32} {x3 : Vec Ideal S1024x3072 .bf16}
  {x4 : Vec Ideal S1024x1024 .bf16}
  (H : Holds A b x0 x1 x2 x3 x4) (r : Fin 512) (l : Fin 1024) (q : Fin 3072) (e : Fin 8)
include H

theorem ptH_ix : ptH x0 x1 (ix2 r l) = A.h ⟨512 * b.val + r.val, by omega⟩ l := by
  pointwise [ptH, row0, row1, row2, k0_pay4, H.h0, H.h10, H.h11, H.h12]
  rfl
theorem ptP_ix : ptP x0 x1 x3 (ix2 r q) = A.bcu ⟨512 * b.val + r.val, by omega⟩ q := by
  pointwise [ptP, row0, row1, row2, k0_pay4, k0_pay5, H.h0, H.h10, H.h11, H.h12, H.h3]
  rfl
theorem ptP16_ix : ptP16 x0 x1 x3 (ix2 r q) = A.bcu ⟨512 * b.val + r.val, by omega⟩ q := ptP_ix H r q
theorem ptV_ix : ptV x0 x1 x3 (ix2 r l) = A.c ⟨512 * b.val + r.val, by omega⟩ l * A.u ⟨512 * b.val + r.val, by omega⟩ l := by
  pointwise [ptV, k0_pay7, ptP_ix H]
  rfl
theorem ptV_tail : tail8 (ptV x0 x1 x3) (ix2 e l) = A.vp (512 * (b.val + 1) + e.val - 6) l := by
  rw [tail8_ix, ptV_ix H]
  exact A.vp_of l (by omega) _ (by simp only; omega)
theorem ptS_head : head8 (ptS x0 x1 x3) (ix2 e l) = A.vp (512 * (b.val + 1) + e.val - 6) l := by
  unfold ptS
  rw [head8_ext, ptV_tail H]

variable {tl : Vec Ideal S8x1024 .f32} (htl : ∀ (e : Fin 8) l, tl (ix2 e l) = A.vp (512 * b.val + e.val - 6) l)
include htl

theorem ptE_ix (n : Fin 520) : ptE x0 x1 x3 tl (ix2 n l) = A.vp (512 * b.val + n.val - 6) l := by
  unfold ptE
  by_cases h : n.val < 8
  · rw [ext_lo _ _ _ _ h, htl]
  · rw [ext_hi _ _ _ _ h, ptV_ix H]
    exact A.vp_of l (by omega) _ (by simp only; omega)
theorem sh6_ix : sh6 (ptE x0 x1 x3 tl) (ix2 r l) = A.vp (512 * b.val + r.val) l := by
  pointwise [sh6]
  rw [ptE_ix H l htl]
  congr 1
  simp; omega
theorem sh7_ix : sh7 (ptE x0 x1 x3 tl) (ix2 r l) = A.vp (512 * b.val + r.val + 1) l := by
  pointwise [sh7]
  rw [ptE_ix H l htl]
  congr 1
  simp; omega
theorem pt9_ix : k0_pay9 (ptP x0 x1 x3) (row0 x2) (sh6 (ptE x0 x1 x3 tl)) (row1 x2) (sh7 (ptE x0 x1 x3 tl)) (row2 x2) (ix2 r l) = A.cv ⟨512 * b.val + r.val, by omega⟩ l := by
  have hv := ptV_ix H r l
  rw [A.vp_of (n := 512 * b.val + r.val + 2) l (by omega) _ (by omega)] at hv
  change k0_pay7 (ptP x0 x1 x3) (ix2 r l) = _ at hv
  pointwise [k0_pay9, row0, row1, row2, hv, sh6_ix H _ _ htl, sh7_ix H _ _ htl, H.h20, H.h21, H.h22]
  rfl
theorem ptC_ix : ptC x0 x1 x2 x3 tl (ix2 r l) = A.cv ⟨512 * b.val + r.val, by omega⟩ l := pt9_ix H r l htl
theorem ptZ_ix : ptZ x0 x1 x2 x3 tl (ix2 r l) = A.z ⟨512 * b.val + r.val, by omega⟩ l := by
  pointwise [ptZ, k0_pay11, ptP_ix H, pt9_ix H _ _ htl]
  rfl
theorem ptY_ix : ptY x0 x1 x2 x3 x4 tl (ix2 r l) = A.y ⟨512 * b.val + r.val, by omega⟩ l := by
  pointwise [ptY, k0_pay12, k0_pay11, ptP_ix H, pt9_ix H _ _ htl, H.h4]
  rfl
theorem ptY16_ix : ptY16 x0 x1 x2 x3 x4 tl (ix2 r l) = A.y ⟨512 * b.val + r.val, by omega⟩ l := ptY_ix H r l htl
theorem ptX_ix : ptX x0 x1 x2 x3 x4 tl (ix2 r l) = A.xn ⟨512 * b.val + r.val, by omega⟩ l := by
  pointwise [ptX, k0_pay1, row3, ptY_ix H _ _ htl, H.h0, H.h13]
  rfl
end

end Cert.ConvFwdIdeal.Gen
-- ==== Proof.ConvFwdHost.lean ====
/-
  The arrays the convolution layer's forward call starts from, at an index.
-/
module

public import proofs.«01_k».proof.Proof.Gen.ConvFwdIdeal.Value
public import proofs.«01_k».proof.Proof.ConvFwdRows
public import Idealize.ShloMosaic.Lib.Pointwise
public import Idealize.ShloMosaic.Lib.Claim

@[expose] public section

set_option maxRecDepth 16384

noncomputable section

namespace Cert.ConvFwdIdeal.Gen

open Idealize.ShloMosaic Idealize.ShloMosaic.TcCoe Idealize.ShloMosaic.Tactic
open Idealize.SL Idealize.SL.Sem

variable (m : (ℓ : Loc nD τ sig) → Buf (Elt Ideal) ℓ) (c : Dev nD)

/-- The program's arguments as rows; the forward call has no gradient among them. -/
def args : Cert.Conv.Args where
  x R l := m ((c : Thread nD τ).loc main_arg0) (ix2 R l)
  dxo R l := 0
  g l := m ((c : Thread nD τ).loc main_arg1) (ix1 l)
  sh l := m ((c : Thread nD τ).loc main_arg2) (ix1 l)
  sc l := m ((c : Thread nD τ).loc main_arg3) (ix1 l)
  gate l := m ((c : Thread nD τ).loc main_arg4) (ix1 l)
  w0 l := m ((c : Thread nD τ).loc main_arg5) (ix2 0 l)
  w1 l := m ((c : Thread nD τ).loc main_arg5) (ix2 1 l)
  w2 l := m ((c : Thread nD τ).loc main_arg5) (ix2 2 l)
  win k j := m ((c : Thread nD τ).loc main_arg6) (ix2 k j)
  wo k j := m ((c : Thread nD τ).loc main_arg7) (ix2 k j)

variable (R : Fin 8192) (l : Fin 1024) (q : Fin 3072) (k : Fin 1024)

/-! The host line in stretches: the packed vector's rows, their packing, the filter's rows, their packing, the weights. -/

def hA (σ : Valuation τ sig (Elt Ideal)) : Valuation τ sig (Elt Ideal) :=
  StableHlo.after (((hostOps0 (F := Ideal)).drop 0).take 6) σ
def hB (σ : Valuation τ sig (Elt Ideal)) : Valuation τ sig (Elt Ideal) :=
  StableHlo.after (((hostOps0 (F := Ideal)).drop 6).take 1) σ
def hC (σ : Valuation τ sig (Elt Ideal)) : Valuation τ sig (Elt Ideal) :=
  StableHlo.after (((hostOps0 (F := Ideal)).drop 7).take 11) σ
def hD (σ : Valuation τ sig (Elt Ideal)) : Valuation τ sig (Elt Ideal) :=
  StableHlo.after (((hostOps0 (F := Ideal)).drop 18).take 1) σ
def hE (σ : Valuation τ sig (Elt Ideal)) : Valuation τ sig (Elt Ideal) :=
  StableHlo.after (((hostOps0 (F := Ideal)).drop 19).take 2) σ

theorem V_split (b : Ref sig .tc) : V m c b = hE (hD (hC (hB (hA fun b => m (c, b))))) b := rfl

section
variable (σ : Valuation τ sig (Elt Ideal))

theorem hA_v0 : hA σ main_v0 (ix2 0 l) = σ main_arg1 (ix1 l) := by
  unfold hA
  simp only [hostOps0, List.take, List.drop]
  after_results
  pointwise
theorem hA_v1 : hA σ main_v1 (ix2 0 l) = σ main_arg2 (ix1 l) := by
  unfold hA
  simp only [hostOps0, List.take, List.drop]
  after_results
  pointwise
theorem hA_v2 : hA σ main_v2 (ix2 0 l) = σ main_arg3 (ix1 l) := by
  unfold hA
  simp only [hostOps0, List.take, List.drop]
  after_results
  pointwise
theorem hA_v3 : hA σ main_v3 (ix2 0 l) = σ main_arg4 (ix1 l) := by
  unfold hA
  simp only [hostOps0, List.take, List.drop]
  after_results
  pointwise
theorem hA_arg5 : hA σ main_arg5 = σ main_arg5 := by
  unfold hA
  simp only [hostOps0, List.take, List.drop]
  after_results
theorem hA_arg6 : hA σ main_arg6 = σ main_arg6 := by
  unfold hA
  simp only [hostOps0, List.take, List.drop]
  after_results
theorem hA_arg7 : hA σ main_arg7 = σ main_arg7 := by
  unfold hA
  simp only [hostOps0, List.take, List.drop]
  after_results
theorem hB_v5 : hB σ main_v5 = concatenate S8x1024 0 [⟨S1x1024, (σ main_v0 : (⟨S1x1024, .f32⟩ : BufTy).Contents (Elt Ideal))⟩, ⟨S1x1024, (σ main_v1 : (⟨S1x1024, .f32⟩ : BufTy).Contents (Elt Ideal))⟩, ⟨S1x1024, (σ main_v2 : (⟨S1x1024, .f32⟩ : BufTy).Contents (Elt Ideal))⟩, ⟨S1x1024, (σ main_v3 : (⟨S1x1024, .f32⟩ : BufTy).Contents (Elt Ideal))⟩, ⟨S4x1024, (σ main_v4 : (⟨S4x1024, .f32⟩ : BufTy).Contents (Elt Ideal))⟩] concatenates_S1x1024_S1x1024_S1x1024_S1x1024_S4x1024_S8x1024_d0 := by
  unfold hB
  simp only [hostOps0, List.take, List.drop]
  after_results
  rfl
theorem hB_arg5 : hB σ main_arg5 = σ main_arg5 := by
  unfold hB
  simp only [hostOps0, List.take, List.drop]
  after_results
theorem hB_arg6 : hB σ main_arg6 = σ main_arg6 := by
  unfold hB
  simp only [hostOps0, List.take, List.drop]
  after_results
theorem hB_arg7 : hB σ main_arg7 = σ main_arg7 := by
  unfold hB
  simp only [hostOps0, List.take, List.drop]
  after_results
theorem hC_v12 : hC σ main_v12 (ix2 0 l) = σ main_arg5 (ix2 0 l) := by
  unfold hC
  simp only [hostOps0, List.take, List.drop]
  after_results
  pointwise
theorem hC_v13 : hC σ main_v13 (ix2 0 l) = σ main_arg5 (ix2 1 l) := by
  unfold hC
  simp only [hostOps0, List.take, List.drop]
  after_results
  pointwise
theorem hC_v14 : hC σ main_v14 (ix2 0 l) = σ main_arg5 (ix2 2 l) := by
  unfold hC
  simp only [hostOps0, List.take, List.drop]
  after_results
  pointwise
theorem hC_arg6 : hC σ main_arg6 = σ main_arg6 := by
  unfold hC
  simp only [hostOps0, List.take, List.drop]
  after_results
theorem hC_arg7 : hC σ main_arg7 = σ main_arg7 := by
  unfold hC
  simp only [hostOps0, List.take, List.drop]
  after_results
theorem hC_v5 : hC σ main_v5 = σ main_v5 := by
  unfold hC
  simp only [hostOps0, List.take, List.drop]
  after_results
theorem hD_v16 : hD σ main_v16 = concatenate S8x1024 0 [⟨S1x1024, (σ main_v12 : (⟨S1x1024, .f32⟩ : BufTy).Contents (Elt Ideal))⟩, ⟨S1x1024, (σ main_v13 : (⟨S1x1024, .f32⟩ : BufTy).Contents (Elt Ideal))⟩, ⟨S1x1024, (σ main_v14 : (⟨S1x1024, .f32⟩ : BufTy).Contents (Elt Ideal))⟩, ⟨S5x1024, (σ main_v15 : (⟨S5x1024, .f32⟩ : BufTy).Contents (Elt Ideal))⟩] concatenates_S1x1024_S1x1024_S1x1024_S5x1024_S8x1024_d0 := by
  unfold hD
  simp only [hostOps0, List.take, List.drop]
  after_results
  rfl
theorem hD_arg6 : hD σ main_arg6 = σ main_arg6 := by
  unfold hD
  simp only [hostOps0, List.take, List.drop]
  after_results
theorem hD_arg7 : hD σ main_arg7 = σ main_arg7 := by
  unfold hD
  simp only [hostOps0, List.take, List.drop]
  after_results
theorem hD_v5 : hD σ main_v5 = σ main_v5 := by
  unfold hD
  simp only [hostOps0, List.take, List.drop]
  after_results
theorem hE_v5 : hE σ main_v5 = σ main_v5 := by
  unfold hE
  simp only [hostOps0, List.take, List.drop]
  after_results
theorem hE_v16 : hE σ main_v16 = σ main_v16 := by
  unfold hE
  simp only [hostOps0, List.take, List.drop]
  after_results
theorem hE_v17 : hE σ main_v17 (ix2 l q) = σ main_arg6 (ix2 l q) := by
  unfold hE
  simp only [hostOps0, List.take, List.drop]
  after_results
  pointwise
theorem hE_v18 : hE σ main_v18 (ix2 k l) = σ main_arg7 (ix2 k l) := by
  unfold hE
  simp only [hostOps0, List.take, List.drop]
  after_results
  pointwise
end

theorem V5_0 : V m c main_v5 (ix2 0 l) = (args m c).g l := by
  rw [V_split, hE_v5, hD_v5, hC_v5, hB_v5]
  pointwise
  rw [hA_v0]
  rfl
theorem V5_1 : V m c main_v5 (ix2 1 l) = (args m c).sh l := by
  rw [V_split, hE_v5, hD_v5, hC_v5, hB_v5]
  pointwise
  rw [hA_v1]
  rfl
theorem V5_2 : V m c main_v5 (ix2 2 l) = (args m c).sc l := by
  rw [V_split, hE_v5, hD_v5, hC_v5, hB_v5]
  pointwise
  rw [hA_v2]
  rfl
theorem V5_3 : V m c main_v5 (ix2 3 l) = (args m c).gate l := by
  rw [V_split, hE_v5, hD_v5, hC_v5, hB_v5]
  pointwise
  rw [hA_v3]
  rfl
theorem V16_0 : V m c main_v16 (ix2 0 l) = (args m c).w0 l := by
  rw [V_split, hE_v16, hD_v16]
  pointwise
  rw [hC_v12, hB_arg5, hA_arg5]
  rfl
theorem V16_1 : V m c main_v16 (ix2 1 l) = (args m c).w1 l := by
  rw [V_split, hE_v16, hD_v16]
  pointwise
  rw [hC_v13, hB_arg5, hA_arg5]
  rfl
theorem V16_2 : V m c main_v16 (ix2 2 l) = (args m c).w2 l := by
  rw [V_split, hE_v16, hD_v16]
  pointwise
  rw [hC_v14, hB_arg5, hA_arg5]
  rfl
theorem V17_ix : V m c main_v17 (ix2 l q) = (args m c).win l q := by
  rw [V_split, hE_v17, hD_arg6, hC_arg6, hB_arg6, hA_arg6]
  rfl
theorem V18_ix : V m c main_v18 (ix2 k l) = (args m c).wo k l := by
  rw [V_split, hE_v18, hD_arg7, hC_arg7, hB_arg7, hA_arg7]
  rfl

end Cert.ConvFwdIdeal.Gen
-- ==== Proof.ConvFwdValue.lean ====
/-
  What the kernel of `ConvFwd` leaves in its six result arrays on the ideal instance, as the row functions of `ConvRows`
  and `ConvFwdRows`.
-/
module

public import proofs.«01_k».proof.Proof.ConvFwdPointIx
public import proofs.«01_k».proof.Proof.ConvFwdHost
public import proofs.«01_k».proof.Proof.Gen.ConvFwdIdeal.Value
public import Idealize.ShloMosaic.Lib.Pipeline.ValueKit

@[expose] public section

set_option maxRecDepth 16384

noncomputable section

namespace Cert.ConvFwdIdeal.Gen

open Idealize.ShloMosaic Idealize.ShloMosaic.TcCoe Idealize.ShloMosaic.Tactic
open Idealize.SL Idealize.SL.Sem

/-- The tile of rows the point works on. -/
def tile (t : Fin cfg0.N) : Fin 16 := ⟨t.val, lt_of_lt_of_eq t.isLt N_0⟩

theorem idx : ∀ t : Fin cfg0.N, win0_0.index t = ![t.val, 0] ∧
    win0_1.index t = ![0, 0] ∧
    win0_2.index t = ![0, 0] ∧
    win0_3.index t = ![0, 0] ∧
    win0_4.index t = ![0, 0] ∧
    win0_5.index t = ![t.val, 0] ∧
    win0_6.index t = ![t.val, 0] ∧
    win0_7.index t = ![t.val, 0] ∧
    win0_8.index t = ![t.val, 0] ∧
    win0_9.index t = ![t.val, 0] ∧
    win0_10.index t = ![t.val, 0] :=
  (by decide +kernel : ∀ t : Fin grid0.N, _)

section
variable (m : (ℓ : Loc nD τ sig) → Buf (Elt Ideal) ℓ) (c : Dev nD) (t : Fin cfg0.N) (r : Fin 512) (l : Fin 1024) (q : Fin 3072) (e : Fin 8)

theorem blk0 : iblk m c 0 t (ix2 r l) = V m c main_arg0 (ix2 ⟨512 * (tile t).val + r.val, by omega⟩ l) := by
  blk_ext [iblk, tile, idx t]
theorem blk1 : iblk m c 1 t (ix2 e l) = V m c main_v5 (ix2 e l) := by
  blk_ext [iblk, idx t]
theorem blk2 : iblk m c 2 t (ix2 e l) = V m c main_v16 (ix2 e l) := by
  blk_ext [iblk, idx t]
theorem blk3 : iblk m c 3 t (ix2 l q) = V m c main_v17 (ix2 l q) := by
  blk_ext [iblk, idx t]
theorem blk4 (k : Fin 1024) : iblk m c 4 t (ix2 k l) = V m c main_v18 (ix2 k l) := by
  blk_ext [iblk, idx t]

theorem holds : Holds (args m c) (tile t) (iblk m c 0 t) (iblk m c 1 t) (iblk m c 2 t) (iblk m c 3 t) (iblk m c 4 t) where
  h0 r l := (blk0 m c t r l).trans (congrFun (V_main_arg0 m c) _)
  h10 l := (blk1 m c t l 0).trans (V5_0 m c l)
  h11 l := (blk1 m c t l 1).trans (V5_1 m c l)
  h12 l := (blk1 m c t l 2).trans (V5_2 m c l)
  h13 l := (blk1 m c t l 3).trans (V5_3 m c l)
  h20 l := (blk2 m c t l 0).trans (V16_0 m c l)
  h21 l := (blk2 m c t l 1).trans (V16_1 m c l)
  h22 l := (blk2 m c t l 2).trans (V16_2 m c l)
  h3 l q := (blk3 m c t l q).trans (V17_ix m c l q)
  h4 k l := (blk4 m c t l k).trans (V18_ix m c l k)

theorem outs_first (h : t.val = 0) : outsAt0 m c t.val t.isLt =
    (ptX (iblk m c 0 t) (iblk m c 1 t) (iblk m c 2 t) (iblk m c 3 t) (iblk m c 4 t) (k0_pay3 (F := Ideal)), ptH (iblk m c 0 t) (iblk m c 1 t), ptP16 (iblk m c 0 t) (iblk m c 1 t) (iblk m c 3 t), ptC (iblk m c 0 t) (iblk m c 1 t) (iblk m c 2 t) (iblk m c 3 t) (k0_pay3 (F := Ideal)), ptZ (iblk m c 0 t) (iblk m c 1 t) (iblk m c 2 t) (iblk m c 3 t) (k0_pay3 (F := Ideal)),
      ptY16 (iblk m c 0 t) (iblk m c 1 t) (iblk m c 2 t) (iblk m c 3 t) (iblk m c 4 t) (k0_pay3 (F := Ideal)), ptS (iblk m c 0 t) (iblk m c 1 t) (iblk m c 3 t)) := by
  rw [outsAt0_A m c t (by omega)]
  rw [out0_A_5_eq, out0_A_6_eq, out0_A_7_eq, out0_A_8_eq, out0_A_9_eq, out0_A_10_eq, sout0_A_0_eq]

theorem outs_next (h : ¬t.val = 0) : outsAt0 m c t.val t.isLt =
    (ptX (iblk m c 0 t) (iblk m c 1 t) (iblk m c 2 t) (iblk m c 3 t) (iblk m c 4 t) (head8 (outsAt0 m c (t.val - 1) (Nat.lt_of_le_of_lt (Nat.sub_le _ _) t.isLt)).2.2.2.2.2.2), ptH (iblk m c 0 t) (iblk m c 1 t), ptP16 (iblk m c 0 t) (iblk m c 1 t) (iblk m c 3 t), ptC (iblk m c 0 t) (iblk m c 1 t) (iblk m c 2 t) (iblk m c 3 t) (head8 (outsAt0 m c (t.val - 1) (Nat.lt_of_le_of_lt (Nat.sub_le _ _) t.isLt)).2.2.2.2.2.2), ptZ (iblk m c 0 t) (iblk m c 1 t) (iblk m c 2 t) (iblk m c 3 t) (head8 (outsAt0 m c (t.val - 1) (Nat.lt_of_le_of_lt (Nat.sub_le _ _) t.isLt)).2.2.2.2.2.2),
      ptY16 (iblk m c 0 t) (iblk m c 1 t) (iblk m c 2 t) (iblk m c 3 t) (iblk m c 4 t) (head8 (outsAt0 m c (t.val - 1) (Nat.lt_of_le_of_lt (Nat.sub_le _ _) t.isLt)).2.2.2.2.2.2), ptS (iblk m c 0 t) (iblk m c 1 t) (iblk m c 3 t)) := by
  have hN : t.val < 16 := lt_of_lt_of_eq t.isLt N_0
  rw [outsAt0_B m c t (by omega)]
  rw [out0_B_5_eq, out0_B_6_eq, out0_B_7_eq, out0_B_8_eq, out0_B_9_eq, out0_B_10_eq, sout0_B_0_eq]

theorem outs_head : head8 (outsAt0 m c t.val t.isLt).2.2.2.2.2.2 (ix2 e l) = (args m c).vp (512 * ((tile t).val + 1) + e.val - 6) l := by
  by_cases h : t.val = 0
  · rw [outs_first m c t h]
    exact ptS_head (holds m c t) l e
  · rw [outs_next m c t h]
    exact ptS_head (holds m c t) l e

/-- The rows carried over into a point: zeros at the first tile, the last rows of the tile before it elsewhere. -/
def carry (t : Fin cfg0.N) : Vec Ideal S8x1024 .f32 :=
  if t.val = 0 then k0_pay3 (F := Ideal) else head8 (outsAt0 m c (t.val - 1) (Nat.lt_of_le_of_lt (Nat.sub_le _ _) t.isLt)).2.2.2.2.2.2

theorem carry_ix : carry m c t (ix2 e l) = (args m c).vp (512 * (tile t).val + e.val - 6) l := by
  have hN : t.val < 16 := lt_of_lt_of_eq t.isLt N_0
  unfold carry
  by_cases h : t.val = 0
  · rw [if_pos h, Cert.Conv.Args.vp_zero _ _ (by simp only [tile]; omega)]
    pointwise [k0_pay3]
  · rw [if_neg h]
    refine (outs_head m c ⟨t.val - 1, Nat.lt_of_le_of_lt (Nat.sub_le _ _) t.isLt⟩ l e).trans (congrArg (fun n => (args m c).vp n l) ?_)
    simp only [tile]
    omega

theorem outs5_ix : (outsAt0 m c t.val t.isLt).1 (ix2 r l) = (args m c).xn ⟨512 * (tile t).val + r.val, by omega⟩ l := by
  refine Eq.trans ?_ (ptX_ix (holds m c t) r l (fun e l => carry_ix m c t l e))
  unfold carry
  by_cases h : t.val = 0
  · rw [outs_first m c t h, if_pos h]
  · rw [outs_next m c t h, if_neg h]

theorem outs6_ix : (outsAt0 m c t.val t.isLt).2.1 (ix2 r l) = (args m c).h ⟨512 * (tile t).val + r.val, by omega⟩ l := by
  refine Eq.trans ?_ (ptH_ix (holds m c t) r l)
  by_cases h : t.val = 0
  · rw [outs_first m c t h]
  · rw [outs_next m c t h]

theorem outs7_ix : (outsAt0 m c t.val t.isLt).2.2.1 (ix2 r q) = (args m c).bcu ⟨512 * (tile t).val + r.val, by omega⟩ q := by
  refine Eq.trans ?_ (ptP16_ix (holds m c t) r q)
  by_cases h : t.val = 0
  · rw [outs_first m c t h]
  · rw [outs_next m c t h]

theorem outs8_ix : (outsAt0 m c t.val t.isLt).2.2.2.1 (ix2 r l) = (args m c).cv ⟨512 * (tile t).val + r.val, by omega⟩ l := by
  refine Eq.trans ?_ (ptC_ix (holds m c t) r l (fun e l => carry_ix m c t l e))
  unfold carry
  by_cases h : t.val = 0
  · rw [outs_first m c t h, if_pos h]
  · rw [outs_next m c t h, if_neg h]

theorem outs9_ix : (outsAt0 m c t.val t.isLt).2.2.2.2.1 (ix2 r l) = (args m c).z ⟨512 * (tile t).val + r.val, by omega⟩ l := by
  refine Eq.trans ?_ (ptZ_ix (holds m c t) r l (fun e l => carry_ix m c t l e))
  unfold carry
  by_cases h : t.val = 0
  · rw [outs_first m c t h, if_pos h]
  · rw [outs_next m c t h, if_neg h]

theorem outs10_ix : (outsAt0 m c t.val t.isLt).2.2.2.2.2.1 (ix2 r l) = (args m c).y ⟨512 * (tile t).val + r.val, by omega⟩ l := by
  refine Eq.trans ?_ (ptY16_ix (holds m c t) r l (fun e l => carry_ix m c t l e))
  unfold carry
  by_cases h : t.val = 0
  · rw [outs_first m c t h, if_pos h]
  · rw [outs_next m c t h, if_neg h]

theorem arr5 : (dats m 0 c).arrAt 5 cfg0.N = fun i => (args m c).xn (i 0) (i 1) := by
  refine (dats m 0 c).arrAt_eq_of_covers 5 _ (by decide +kernel) fun t hf y => ?_
  blk_simp
  rw [after0_5]
  refine (congrArg _ (eq_ix2 _)).trans ((outs5_ix m c t _ _).trans ?_)
  exact congrArg (fun i : (⟨2, ![8192, 1024]⟩ : Shape).Idx => (args m c).xn (i 0) (i 1)) (a₁ := ix2 _ _) (by blk_ext [tile, idx t])
theorem arr6 : (dats m 0 c).arrAt 6 cfg0.N = fun i => (args m c).h (i 0) (i 1) := by
  refine (dats m 0 c).arrAt_eq_of_covers 6 _ (by decide +kernel) fun t hf y => ?_
  blk_simp
  rw [after0_6]
  refine (congrArg _ (eq_ix2 _)).trans ((outs6_ix m c t _ _).trans ?_)
  exact congrArg (fun i : (⟨2, ![8192, 1024]⟩ : Shape).Idx => (args m c).h (i 0) (i 1)) (a₁ := ix2 _ _) (by blk_ext [tile, idx t])
theorem arr7 : (dats m 0 c).arrAt 7 cfg0.N = fun i => (args m c).bcu (i 0) (i 1) := by
  refine (dats m 0 c).arrAt_eq_of_covers 7 _ (by decide +kernel) fun t hf y => ?_
  blk_simp
  rw [after0_7]
  refine (congrArg _ (eq_ix2 _)).trans ((outs7_ix m c t _ _).trans ?_)
  exact congrArg (fun i : (⟨2, ![8192, 3072]⟩ : Shape).Idx => (args m c).bcu (i 0) (i 1)) (a₁ := ix2 _ _) (by blk_ext [tile, idx t])
theorem arr8 : (dats m 0 c).arrAt 8 cfg0.N = fun i => (args m c).cv (i 0) (i 1) := by
  refine (dats m 0 c).arrAt_eq_of_covers 8 _ (by decide +kernel) fun t hf y => ?_
  blk_simp
  rw [after0_8]
  refine (congrArg _ (eq_ix2 _)).trans ((outs8_ix m c t _ _).trans ?_)
  exact congrArg (fun i : (⟨2, ![8192, 1024]⟩ : Shape).Idx => (args m c).cv (i 0) (i 1)) (a₁ := ix2 _ _) (by blk_ext [tile, idx t])
theorem arr9 : (dats m 0 c).arrAt 9 cfg0.N = fun i => (args m c).z (i 0) (i 1) := by
  refine (dats m 0 c).arrAt_eq_of_covers 9 _ (by decide +kernel) fun t hf y => ?_
  blk_simp
  rw [after0_9]
  refine (congrArg _ (eq_ix2 _)).trans ((outs9_ix m c t _ _).trans ?_)
  exact congrArg (fun i : (⟨2, ![8192, 1024]⟩ : Shape).Idx => (args m c).z (i 0) (i 1)) (a₁ := ix2 _ _) (by blk_ext [tile, idx t])
theorem arr10 : (dats m 0 c).arrAt 10 cfg0.N = fun i => (args m c).y (i 0) (i 1) := by
  refine (dats m 0 c).arrAt_eq_of_covers 10 _ (by decide +kernel) fun t hf y => ?_
  blk_simp
  rw [after0_10]
  refine (congrArg _ (eq_ix2 _)).trans ((outs10_ix m c t _ _).trans ?_)
  exact congrArg (fun i : (⟨2, ![8192, 1024]⟩ : Shape).Idx => (args m c).y (i 0) (i 1)) (a₁ := ix2 _ _) (by blk_ext [tile, idx t])

end
end Cert.ConvFwdIdeal.Gen
-- ==== Proof.ConvFwdRefValue.lean ====
/-
  The convolution layer's forward reference's results at an index: the row functions of `ConvRows` and `ConvFwdRows` of
  its arguments.
-/
module

public import proofs.«01_k».proof.Proof.Gen.ConvFwdRefIdeal.Run
public import proofs.«01_k».proof.Proof.ConvFwdRows
public import Idealize.ShloMosaic.Lib.Pointwise

@[expose] public section

set_option maxRecDepth 16384

noncomputable section

namespace Cert.ConvFwdRefIdeal.Value

open Cert.ConvFwdRefIdeal Cert.ConvFwdRefIdeal.Gen Idealize.ShloMosaic Idealize.ShloMosaic.TcCoe Idealize.ShloMosaic.Tactic Idealize.SL.Sem

variable (V0 : Valuation τ sig (Elt Ideal))

/-- The reference's arguments as rows; the forward call has no gradient among them. -/
def args : Cert.Conv.Args where
  x R l := V0 (Proc.devRef .tc main_arg0) (ix2 R l)
  dxo R l := 0
  g l := V0 (Proc.devRef .tc main_arg1) (ix1 l)
  sh l := V0 (Proc.devRef .tc main_arg2) (ix1 l)
  sc l := V0 (Proc.devRef .tc main_arg3) (ix1 l)
  gate l := V0 (Proc.devRef .tc main_arg4) (ix1 l)
  w0 l := V0 (Proc.devRef .tc main_arg5) (ix2 0 l)
  w1 l := V0 (Proc.devRef .tc main_arg5) (ix2 1 l)
  w2 l := V0 (Proc.devRef .tc main_arg5) (ix2 2 l)
  win k j := V0 (Proc.devRef .tc main_arg6) (ix2 k j)
  wo k j := V0 (Proc.devRef .tc main_arg7) (ix2 k j)

/-! ### The program's values, each of the earlier ones -/

def v6 : FVec Ideal S8192x1 .f32 := addf (Host.divf (broadcastInDim S8192x1 ![0] bcast_S8192_S8192x1_0 ((fun x v => Host.reduceAdd x v reducesTo_S8192x1024_S8192_d1 h_S_) (mulf (V0 (Proc.devRef .tc main_arg0)) (V0 (Proc.devRef .tc main_arg0))) (constant S_ .f32 0x00000000#32))) (broadcastInDim S8192x1 ![] bcast_S_S8192x1 (constant S_ .f32 0x44800000#32))) (broadcastInDim S8192x1 ![] bcast_S_S8192x1 (constant S_ .f32 0x3727C5AC#32))
def v7 : FVec Ideal S8192x1 .f32 := Host.rsqrt (v6 V0)
def v9 : FVec Ideal S8192x1024 .f32 := mulf (V0 (Proc.devRef .tc main_arg0)) (broadcastInDim S8192x1024 ![0, 1] bcast_S8192x1_S8192x1024_0_1 (v7 V0))
def v12 : FVec Ideal S8192x1024 .f32 := mulf (v9 V0) (broadcastInDim S8192x1024 ![0, 1] bcast_S1x1024_S8192x1024_0_1 (broadcastInDim S1x1024 ![1] bcast_S1024_S1x1024_1 (V0 (Proc.devRef .tc main_arg1))))
def v15 : FVec Ideal S1x1024 .f32 := addf (broadcastInDim S1x1024 ![] bcast_S_S1x1024 (constant S_ .f32 0x3F800000#32)) (broadcastInDim S1x1024 ![1] bcast_S1024_S1x1024_1 (V0 (Proc.devRef .tc main_arg3)))
def v20 : FVec Ideal S8192x1024 .f32 := addf (mulf (v12 V0) (broadcastInDim S8192x1024 ![0, 1] bcast_S1x1024_S8192x1024_0_1 (v15 V0))) (broadcastInDim S8192x1024 ![0, 1] bcast_S1x1024_S8192x1024_0_1 (broadcastInDim S1x1024 ![1] bcast_S1024_S1x1024_1 (V0 (Proc.devRef .tc main_arg2))))
def v21 : FVec Ideal S8192x3072 .f32 := Host.dotGeneral (φ₁ := .f32) (φ₂ := .f32) dot_S8192x1024_S1024x3072_S8192x3072_1_0_0_1_n_n none (v20 V0) (V0 (Proc.devRef .tc main_arg6))
def v22 : FVec Ideal S8192x1024 .f32 := (extractStridedSlice S8192x1024 ![0, 0] (v21 V0) slices_S8192x3072_S8192x1024_0_0)
def v23 : FVec Ideal S8192x1024 .f32 := (extractStridedSlice S8192x1024 ![0, 1024] (v21 V0) slices_S8192x3072_S8192x1024_0_1024)
def v24 : FVec Ideal S8192x1024 .f32 := (extractStridedSlice S8192x1024 ![0, 2048] (v21 V0) slices_S8192x3072_S8192x1024_0_2048)
def v25 : FVec Ideal S8192x1024 .f32 := mulf (v23 V0) (v24 V0)
def v27 : FVec Ideal S8194x1024 .f32 := (fun a b => concatenate S8194x1024 0 [⟨S2x1024, a⟩, ⟨S8192x1024, b⟩] concatenates_S2x1024_S8192x1024_S8194x1024_d0) (broadcastInDim S2x1024 ![] bcast_S_S2x1024 (constant S_ .f32 0x00000000#32)) (v25 V0)
def v29 : FVec Ideal S1024 .f32 := shapeCast S1024 ((extractStridedSlice S1x1024 ![0, 0] (V0 (Proc.devRef .tc main_arg5)) slices_S3x1024_S1x1024_0_0)) shapeCasts_S1x1024_S1024
def v30 : FVec Ideal S8192x1024 .f32 := (extractStridedSlice S8192x1024 ![0, 0] (v27 V0) slices_S8194x1024_S8192x1024_0_0)
def v35 : FVec Ideal S1024 .f32 := shapeCast S1024 ((extractStridedSlice S1x1024 ![1, 0] (V0 (Proc.devRef .tc main_arg5)) slices_S3x1024_S1x1024_1_0)) shapeCasts_S1x1024_S1024
def v36 : FVec Ideal S8192x1024 .f32 := (extractStridedSlice S8192x1024 ![1, 0] (v27 V0) slices_S8194x1024_S8192x1024_1_0)
def v42 : FVec Ideal S1024 .f32 := shapeCast S1024 ((extractStridedSlice S1x1024 ![2, 0] (V0 (Proc.devRef .tc main_arg5)) slices_S3x1024_S1x1024_2_0)) shapeCasts_S1x1024_S1024
def v43 : FVec Ideal S8192x1024 .f32 := (extractStridedSlice S8192x1024 ![2, 0] (v27 V0) slices_S8194x1024_S8192x1024_2_0)
def v47 : FVec Ideal S8192x1024 .f32 := addf (addf (mulf (broadcastInDim S8192x1024 ![0, 1] bcast_S1x1024_S8192x1024_0_1 (broadcastInDim S1x1024 ![1] bcast_S1024_S1x1024_1 (v29 V0))) (v30 V0)) (mulf (broadcastInDim S8192x1024 ![0, 1] bcast_S1x1024_S8192x1024_0_1 (broadcastInDim S1x1024 ![1] bcast_S1024_S1x1024_1 (v35 V0))) (v36 V0))) (mulf (broadcastInDim S8192x1024 ![0, 1] bcast_S1x1024_S8192x1024_0_1 (broadcastInDim S1x1024 ![1] bcast_S1024_S1x1024_1 (v42 V0))) (v43 V0))
def v48 : FVec Ideal S8192x1024 .f32 := mulf (v22 V0) (v47 V0)
def v49 : FVec Ideal S8192x1024 .f32 := Host.dotGeneral (φ₁ := .f32) (φ₂ := .f32) dot_S8192x1024_S1024x1024_S8192x1024_1_0_0_1_n_n none (v48 V0) (V0 (Proc.devRef .tc main_arg7))
def v51 : FVec Ideal S1024 .f32 := addf (broadcastInDim S1024 ![] bcast_S_S1024 (constant S_ .f32 0x3F800000#32)) (V0 (Proc.devRef .tc main_arg4))
def v55 : FVec Ideal S8192x1024 .f32 := addf (V0 (Proc.devRef .tc main_arg0)) (mulf (broadcastInDim S8192x1024 ![0, 1] bcast_S1x1024_S8192x1024_0_1 (broadcastInDim S1x1024 ![1] bcast_S1024_S1x1024_1 (v51 V0))) (v49 V0))
def v56 : FVec Ideal S8192x1024 .bf16 := (truncf .bf16 (v20 V0) bitsLt_bf16_f32)
def v57 : FVec Ideal S8192x3072 .bf16 := (truncf .bf16 (v21 V0) bitsLt_bf16_f32)
def v58 : FVec Ideal S8192x1024 .bf16 := (truncf .bf16 (v47 V0) bitsLt_bf16_f32)
def v59 : FVec Ideal S8192x1024 .bf16 := (truncf .bf16 (v48 V0) bitsLt_bf16_f32)
def v60 : FVec Ideal S8192x1024 .bf16 := (truncf .bf16 (v49 V0) bitsLt_bf16_f32)

variable (R : Fin 8192) (l : Fin 1024) (q : Fin 3072) (P : Fin 8194)

theorem v6_ix (z : Fin 1) : v6 V0 (ix2 R z) = Cert.Conv.ms ((args V0).x R) := by
  pointwise [v6]
  rfl
theorem v7_ix (z : Fin 1) : v7 V0 (ix2 R z) = Cert.Conv.rs ((args V0).x R) := by
  pointwise [v7, v6_ix]
  rfl
theorem v9_ix : v9 V0 (ix2 R l) = (args V0).x R l * Cert.Conv.rs ((args V0).x R) := by
  pointwise [v9, v7_ix]
  rfl
theorem v12_ix : v12 V0 (ix2 R l) = (args V0).x R l * Cert.Conv.rs ((args V0).x R) * (args V0).g l := by
  pointwise [v12, v9_ix]
  rfl
theorem v15_ix (z : Fin 1) : v15 V0 (ix2 z l) = 1 + (args V0).sc l := by
  pointwise [v15]
  rfl
theorem v20_ix : v20 V0 (ix2 R l) = (args V0).h R l := by
  pointwise [v20, v12_ix, v15_ix]
  rfl
theorem v21_ix : v21 V0 (ix2 R q) = (args V0).bcu R q := by
  pointwise [v21, v20_ix]
  rfl
theorem v22_ix : v22 V0 (ix2 R l) = (args V0).b R l := by
  pointwise [v22, v21_ix]
  rfl
theorem v23_ix : v23 V0 (ix2 R l) = (args V0).c R l := by
  pointwise [v23, v21_ix]
  rfl
theorem v24_ix : v24 V0 (ix2 R l) = (args V0).u R l := by
  pointwise [v24, v21_ix]
  rfl
theorem v25_ix : v25 V0 (ix2 R l) = (args V0).c R l * (args V0).u R l := by
  pointwise [v25, v23_ix, v24_ix]
theorem v27_ix : v27 V0 (ix2 P l) = (args V0).vp P.val l := by
  pointwise [v27, v25_ix]
  unfold Cert.Conv.Args.vp
  split
  · rfl
  · rw [dif_pos]
theorem v29_ix : v29 V0 (ix1 l) = (args V0).w0 l := by
  pointwise [v29]
  rfl
theorem v35_ix : v35 V0 (ix1 l) = (args V0).w1 l := by
  pointwise [v35]
  rfl
theorem v42_ix : v42 V0 (ix1 l) = (args V0).w2 l := by
  pointwise [v42]
  rfl
theorem v30_ix : v30 V0 (ix2 R l) = (args V0).vp R.val l := by
  pointwise [v30, v27_ix]
theorem v36_ix : v36 V0 (ix2 R l) = (args V0).vp (R.val + 1) l := by
  pointwise [v36, v27_ix]
  rw [add_comm]
theorem v43_ix : v43 V0 (ix2 R l) = (args V0).vp (R.val + 2) l := by
  pointwise [v43, v27_ix]
  rw [add_comm]
theorem v47_ix : v47 V0 (ix2 R l) = (args V0).cv R l := by
  pointwise [v47, v30_ix, v36_ix, v43_ix, v29_ix, v35_ix, v42_ix]
  rfl
theorem v48_ix : v48 V0 (ix2 R l) = (args V0).z R l := by
  pointwise [v48, v22_ix, v47_ix]
  rfl
theorem v49_ix : v49 V0 (ix2 R l) = (args V0).y R l := by
  pointwise [v49, v48_ix]
  rfl
theorem v51_ix : v51 V0 (ix1 l) = 1 + (args V0).gate l := by
  pointwise [v51]
  rfl
theorem v55_ix : v55 V0 (ix2 R l) = (args V0).xn R l := by
  pointwise [v55, v51_ix, v49_ix]
  rfl
theorem v56_ix : v56 V0 (ix2 R l) = (args V0).h R l := by
  pointwise [v56, v20_ix]
theorem v57_ix : v57 V0 (ix2 R q) = (args V0).bcu R q := by
  pointwise [v57, v21_ix]
theorem v58_ix : v58 V0 (ix2 R l) = (args V0).cv R l := by
  pointwise [v58, v47_ix]
theorem v59_ix : v59 V0 (ix2 R l) = (args V0).z R l := by
  pointwise [v59, v48_ix]
theorem v60_ix : v60 V0 (ix2 R l) = (args V0).y R l := by
  pointwise [v60, v49_ix]

/-! ### The run's values are these -/

theorem run_v55 (m : (ℓ : Loc nD τ sig) → Buf (Elt Ideal) ℓ) (c : Dev nD) : res_main_v55 m c = v55 (StableHlo.launchContents m c) := rfl
theorem run_v58 (m : (ℓ : Loc nD τ sig) → Buf (Elt Ideal) ℓ) (c : Dev nD) : res_main_v58 m c = v58 (StableHlo.launchContents m c) := rfl
theorem run_v59 (m : (ℓ : Loc nD τ sig) → Buf (Elt Ideal) ℓ) (c : Dev nD) : res_main_v59 m c = v59 (StableHlo.launchContents m c) := rfl
theorem run_v60 (m : (ℓ : Loc nD τ sig) → Buf (Elt Ideal) ℓ) (c : Dev nD) : res_main_v60 m c = v60 (StableHlo.launchContents m c) := rfl

end Cert.ConvFwdRefIdeal.Value
-- ==== Proof.ConvFwdClaim.lean ====
/-
  The claims about the convolution layer's forward call: the reference's frame, and that kernel and reference compute the
  same six arrays over the extended reals.
-/
module

public import proofs.«01_k».proof.Defs
public import proofs.«01_k».proof.Proof.ConvFwdValue
public import proofs.«01_k».proof.Proof.ConvFwdRefValue
public import Idealize.ShloMosaic.Lib.Quiescent

@[expose] public section

set_option maxRecDepth 16384

noncomputable section

namespace Cert.Proof.ConvFwd

open Idealize.ShloMosaic Idealize.SL.Sem Idealize.ShloMosaic.TcCoe
open Cert.ConvFwdRefIdeal.Value (run_v55 run_v58 run_v59 run_v60)

local instance : Cert.ConvFwdIdeal.Facts := Cert.ConvFwdIdeal.Gen.facts
local instance : Cert.ConvFwdRefIdeal.Facts := Cert.ConvFwdRefIdeal.Gen.facts

/-- The reference ends with its arguments unchanged, and it has no semaphores. -/
theorem frame_ref : Cert.quiescent_ConvFwdRefIdeal := fun m ρ _ =>
  (θ_run Cert.ConvFwdRefIdeal.defs _ _).mono (fun r h => ⟨fun c => (h c).2.2.2.2.2.2, sem_eq_zero_of_no_sems (by decide) r.2⟩)
    (Cert.ConvFwdRefIdeal.Value.run (F := Ideal) m ρ)

theorem algebraic : Cert.algebraic_ConvFwdIdeal_ConvFwdRefIdeal := by
  intro m ρ m' ρ' _ hag
  have hA : ∀ c, Cert.ConvFwdRefIdeal.Value.args (StableHlo.launchContents m' c) = Cert.ConvFwdIdeal.Gen.args m c := fun c => by
    obtain ⟨h0, h1, h2, h3, h4, h5, h6, h7⟩ := hag c
    unfold Cert.ConvFwdRefIdeal.Value.args Cert.ConvFwdIdeal.Gen.args
    rw [← h0, ← h1, ← h2, ← h3, ← h4, ← h5, ← h6, ← h7]
  refine ⟨fun c => fun i => (Cert.ConvFwdIdeal.Gen.args m c).xn (i 0) (i 1),
    fun c => fun i => (Cert.ConvFwdIdeal.Gen.args m c).h (i 0) (i 1),
    fun c => fun i => (Cert.ConvFwdIdeal.Gen.args m c).bcu (i 0) (i 1),
    fun c => fun i => (Cert.ConvFwdIdeal.Gen.args m c).cv (i 0) (i 1),
    fun c => fun i => (Cert.ConvFwdIdeal.Gen.args m c).z (i 0) (i 1),
    fun c => fun i => (Cert.ConvFwdIdeal.Gen.args m c).y (i 0) (i 1), ?_, ?_⟩
  · refine (θ_run Cert.ConvFwdIdeal.defs _ _).mono (fun r h c => ?_) (Cert.ConvFwdIdeal.Value.run_blocks (F := Ideal) m ρ)
    obtain ⟨h5, h6, h7, h8, h9, h10, hk⟩ := h c
    exact ⟨h5.trans (Cert.ConvFwdIdeal.Gen.arr5 m c), h6.trans (Cert.ConvFwdIdeal.Gen.arr6 m c), h7.trans (Cert.ConvFwdIdeal.Gen.arr7 m c), h8.trans (Cert.ConvFwdIdeal.Gen.arr8 m c), h9.trans (Cert.ConvFwdIdeal.Gen.arr9 m c), h10.trans (Cert.ConvFwdIdeal.Gen.arr10 m c), hk⟩
  · refine (θ_run Cert.ConvFwdRefIdeal.defs _ _).mono (fun r h c => ?_) (Cert.ConvFwdRefIdeal.Value.run (F := Ideal) m' ρ')
    obtain ⟨h0, h1, h2, h3, h4, h5, hk⟩ := h c
    refine ⟨(h0.trans (run_v55 m' c)).trans (funext fun i => ?_), h1.trans (funext fun i => ?_), h2.trans (funext fun i => ?_), (h3.trans (run_v58 m' c)).trans (funext fun i => ?_), (h4.trans (run_v59 m' c)).trans (funext fun i => ?_), (h5.trans (run_v60 m' c)).trans (funext fun i => ?_), hk⟩
    · exact (congrArg _ (ValueIdx.eq_ix2 i)).trans ((Cert.ConvFwdRefIdeal.Value.v55_ix _ _ _).trans (by rw [hA]))
    · exact (congrArg (Cert.ConvFwdRefIdeal.Value.v56 (StableHlo.launchContents m' c)) (ValueIdx.eq_ix2 i)).trans ((Cert.ConvFwdRefIdeal.Value.v56_ix _ _ _).trans (by rw [hA]))
    · exact (congrArg (Cert.ConvFwdRefIdeal.Value.v57 (StableHlo.launchContents m' c)) (ValueIdx.eq_ix2 i)).trans ((Cert.ConvFwdRefIdeal.Value.v57_ix _ _ _).trans (by rw [hA]))
    · exact (congrArg _ (ValueIdx.eq_ix2 i)).trans ((Cert.ConvFwdRefIdeal.Value.v58_ix _ _ _).trans (by rw [hA]))
    · exact (congrArg _ (ValueIdx.eq_ix2 i)).trans ((Cert.ConvFwdRefIdeal.Value.v59_ix _ _ _).trans (by rw [hA]))
    · exact (congrArg _ (ValueIdx.eq_ix2 i)).trans ((Cert.ConvFwdRefIdeal.Value.v60_ix _ _ _).trans (by rw [hA]))

end Cert.Proof.ConvFwd

end
-- ==== Proof.AdamRows.lean ====
/- The optimiser's step at one element: the new moments and the change of the weight, over extended reals. -/
module

public import Idealize.ShloMosaic.Lib.Pointwise

@[expose] public section

noncomputable section

namespace Cert.Adam

open Idealize.ShloMosaic

/-- The new first moment, from the gradient and the old one. -/
def newM (g p : EReal) : EReal := Ideal.ofBits FTy.f32 0x3F666666#32 * p + Ideal.ofBits FTy.f32 0x3DCCCCCD#32 * g
/-- The new second moment. -/
def newV (g q : EReal) : EReal := Ideal.ofBits FTy.f32 0x3F7FBE77#32 * q + Ideal.ofBits FTy.f32 0x3A83126F#32 * (g * g)
/-- The change of the weight `w`. -/
def delta (g w p q : EReal) : EReal := Ideal.ofBits FTy.f32 0xBA83126F#32 *
  (Ideal.div (Ideal.div (newM g p) (Ideal.ofBits FTy.f32 0x3F26BD02#32))
    (Ideal.sqrt (Ideal.div (newV g q) (Ideal.ofBits FTy.f32 0x3C231ACC#32)) + Ideal.ofBits FTy.f32 0x322BCC77#32)
    + Ideal.ofBits FTy.f32 0x3C23D70A#32 * w)

theorem delta_congr {g g' w w' p p' q q' : EReal} (hg : g = g') (hw : w = w') (hp : p = p') (hq : q = q') :
    delta g w p q = delta g' w' p' q' := by
  subst hg hw hp hq
  rfl

end Cert.Adam

end
-- ==== Proof.AdamNormGValue.lean ====
/-
  What the optimiser's call for `norm_g` leaves in its four results: the gradient, summed over the devices, the change of the weight and
  the new moments, element by element.
-/
module

public import proofs.«01_k».proof.Proof.AdamRows
public import proofs.«01_k».proof.Proof.Gen.AdamNormGIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.AdamNormGIdeal.Gen

open Idealize.ShloMosaic Idealize.ShloMosaic.TcCoe Idealize.ShloMosaic.Tactic
open Idealize.SL Idealize.SL.Sem

theorem ld_all (X : Vec Ideal S12x128 .f32) : View.ld X r0_8 = X :=
  View.ld_unit_zero (S := S12x128) (funext fun a => by fin_cases a <;> rfl) _ X
theorem canon_all (w : Vec Ideal S12x128 .f32) (L : List (View.Piece (Elt Ideal) S12x128 .f32)) : View.canon (⟨r0_8, w⟩ :: L) = w :=
  View.canon_cons_unit_zero (S := S12x128) (funext fun a => by fin_cases a <;> rfl) _ w L

section
variable (r : Fin 12) (l : Fin 128)

theorem newM_ix (g p : Vec Ideal S12x128 .f32) : k0_pay1 g p (ix2 r l) = Cert.Adam.newM (g (ix2 r l)) (p (ix2 r l)) := by
  pointwise [k0_pay1]
  rfl
theorem newV_ix (g q : Vec Ideal S12x128 .f32) : k0_pay2 g q (ix2 r l) = Cert.Adam.newV (g (ix2 r l)) (q (ix2 r l)) := by
  pointwise [k0_pay2]
  rfl
theorem delta_ix (g w p q : Vec Ideal S12x128 .f32) :
    k0_pay3 g w p q (ix2 r l) = Cert.Adam.delta (g (ix2 r l)) (w (ix2 r l)) (p (ix2 r l)) (q (ix2 r l)) := by
  pointwise [k0_pay3, newM_ix, newV_ix]
  rfl

variable (x0 : Vec Ideal S8x12x128 .f32) (x1 x2 x3 : Vec Ideal S12x128 .f32)

theorem sum_ix : k0_pay5 x0 x1 x2 x3 (ix2 r l) = ∑ s : Fin 8, x0 (ix3 s r l) := by
  unfold k0_pay5
  pointwise [k0_pay4]
  rw [Fin.sum_univ_eight]

theorem out4_ix : out0_4 x0 x1 x2 x3 (ix2 r l) = (∑ s : Fin 8, x0 (ix3 s r l)) :=
  (congrFun (canon_all _ _) _).trans (sum_ix r l x0 x1 x2 x3)
theorem out5_ix : out0_5 x0 x1 x2 x3 (ix2 r l) = Cert.Adam.delta (∑ s : Fin 8, x0 (ix3 s r l)) (x1 (ix2 r l)) (x2 (ix2 r l)) (x3 (ix2 r l)) :=
  (congrFun (canon_all _ _) _).trans ((delta_ix r l _ _ _ _).trans
    (Cert.Adam.delta_congr (sum_ix r l x0 x1 x2 x3) (congrFun (ld_all x1) _) (congrFun (ld_all x2) _) (congrFun (ld_all x3) _)))
theorem out6_ix : out0_6 x0 x1 x2 x3 (ix2 r l) = Cert.Adam.newM (∑ s : Fin 8, x0 (ix3 s r l)) (x2 (ix2 r l)) :=
  (congrFun (canon_all _ _) _).trans ((newM_ix r l _ _).trans (congrArg₂ Cert.Adam.newM (sum_ix r l x0 x1 x2 x3) (congrFun (ld_all x2) _)))
theorem out7_ix : out0_7 x0 x1 x2 x3 (ix2 r l) = Cert.Adam.newV (∑ s : Fin 8, x0 (ix3 s r l)) (x3 (ix2 r l)) :=
  (congrFun (canon_all _ _) _).trans ((newV_ix r l _ _).trans (congrArg₂ Cert.Adam.newV (sum_ix r l x0 x1 x2 x3) (congrFun (ld_all x3) _)))

end

/-- The rows the point works on. -/
def tile (t : Fin cfg0.N) : Fin 1 := ⟨t.val, lt_of_lt_of_eq t.isLt N_0⟩

theorem idx : ∀ t : Fin cfg0.N, win0_0.index t = ![0, t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient, the weight and the old moments at an element, and what is computed from them. -/
def G (m : (ℓ : Loc nD τ sig) → Buf (Elt Ideal) ℓ) (c : Dev nD) (R : Fin 12) (l : Fin 128) : EReal := ∑ s : Fin 8, m ((c : Thread nD τ).loc main_arg0) (ix3 s R l)
def W (m : (ℓ : Loc nD τ sig) → Buf (Elt Ideal) ℓ) (c : Dev nD) (R : Fin 12) (l : Fin 128) : EReal := m ((c : Thread nD τ).loc main_arg1) (ix2 R l)
def P (m : (ℓ : Loc nD τ sig) → Buf (Elt Ideal) ℓ) (c : Dev nD) (R : Fin 12) (l : Fin 128) : EReal := m ((c : Thread nD τ).loc main_arg2) (ix2 R l)
def Q (m : (ℓ : Loc nD τ sig) → Buf (Elt Ideal) ℓ) (c : Dev nD) (R : Fin 12) (l : Fin 128) : EReal := m ((c : Thread nD τ).loc main_arg3) (ix2 R l)
def dW (m : (ℓ : Loc nD τ sig) → Buf (Elt Ideal) ℓ) (c : Dev nD) (R : Fin 12) (l : Fin 128) : EReal := Cert.Adam.delta (G m c R l) (W m c R l) (P m c R l) (Q m c R l)
def nP (m : (ℓ : Loc nD τ sig) → Buf (Elt Ideal) ℓ) (c : Dev nD) (R : Fin 12) (l : Fin 128) : EReal := Cert.Adam.newM (G m c R l) (P m c R l)
def nQ (m : (ℓ : Loc nD τ sig) → Buf (Elt Ideal) ℓ) (c : Dev nD) (R : Fin 12) (l : Fin 128) : EReal := Cert.Adam.newV (G m c R l) (Q m c R l)

section
variable (m : (ℓ : Loc nD τ sig) → Buf (Elt Ideal) ℓ) (c : Dev nD) (t : Fin cfg0.N) (r : Fin 12) (l : Fin 128)

theorem blk0 (s : Fin 8) : iblk m c 0 t (ix3 s r l) = V m c main_arg0 (ix3 s ⟨12 * (tile t).val + r.val, by omega⟩ l) := by
  blk_ext [iblk, tile, idx t]
theorem grad_ix : (∑ s : Fin 8, iblk m c 0 t (ix3 s r l) : EReal) = G m c ⟨12 * (tile t).val + r.val, by omega⟩ l :=
  Finset.sum_congr rfl fun s _ => blk0 m c t r l s
theorem blk1 : iblk m c 1 t (ix2 r l) = W m c ⟨12 * (tile t).val + r.val, by omega⟩ l := by
  refine Eq.trans (b := V m c main_arg1 (ix2 ⟨12 * (tile t).val + r.val, by omega⟩ l)) ?_ rfl
  blk_ext [iblk, tile, idx t]
theorem blk2 : iblk m c 2 t (ix2 r l) = P m c ⟨12 * (tile t).val + r.val, by omega⟩ l := by
  refine Eq.trans (b := V m c main_arg2 (ix2 ⟨12 * (tile t).val + r.val, by omega⟩ l)) ?_ rfl
  blk_ext [iblk, tile, idx t]
theorem blk3 : iblk m c 3 t (ix2 r l) = Q m c ⟨12 * (tile t).val + r.val, by omega⟩ l := by
  refine Eq.trans (b := V m c main_arg3 (ix2 ⟨12 * (tile t).val + r.val, by omega⟩ l)) ?_ rfl
  blk_ext [iblk, tile, idx t]

theorem arr4 : (dats m 0 c).arrAt 4 cfg0.N = fun i => G m c (i 0) (i 1) := by
  refine (dats m 0 c).arrAt_eq_of_covers 4 _ (by decide +kernel) fun t hf y => ?_
  blk_simp
  rw [after0_4]
  refine (congrArg _ (eq_ix2 _)).trans ((out4_ix _ _ _ _ _ _).trans ((grad_ix m c t _ _).trans ?_))
  exact congrArg (fun i : (⟨2, ![12, 128]⟩ : Shape).Idx => G m c (i 0) (i 1)) (a₁ := ix2 _ _) (by blk_ext [tile, idx t])
theorem arr5 : (dats m 0 c).arrAt 5 cfg0.N = fun i => dW m c (i 0) (i 1) := by
  refine (dats m 0 c).arrAt_eq_of_covers 5 _ (by decide +kernel) fun t hf y => ?_
  blk_simp
  rw [after0_5]
  refine (congrArg _ (eq_ix2 _)).trans ((out5_ix _ _ _ _ _ _).trans ((Cert.Adam.delta_congr (grad_ix m c t _ _) (blk1 m c t _ _) (blk2 m c t _ _) (blk3 m c t _ _)).trans ?_))
  exact congrArg (fun i : (⟨2, ![12, 128]⟩ : Shape).Idx => dW m c (i 0) (i 1)) (a₁ := ix2 _ _) (by blk_ext [tile, idx t])
theorem arr6 : (dats m 0 c).arrAt 6 cfg0.N = fun i => nP m c (i 0) (i 1) := by
  refine (dats m 0 c).arrAt_eq_of_covers 6 _ (by decide +kernel) fun t hf y => ?_
  blk_simp
  rw [after0_6]
  refine (congrArg _ (eq_ix2 _)).trans ((out6_ix _ _ _ _ _ _).trans ((congrArg₂ Cert.Adam.newM (grad_ix m c t _ _) (blk2 m c t _ _)).trans ?_))
  exact congrArg (fun i : (⟨2, ![12, 128]⟩ : Shape).Idx => nP m c (i 0) (i 1)) (a₁ := ix2 _ _) (by blk_ext [tile, idx t])
theorem arr7 : (dats m 0 c).arrAt 7 cfg0.N = fun i => nQ m c (i 0) (i 1) := by
  refine (dats m 0 c).arrAt_eq_of_covers 7 _ (by decide +kernel) fun t hf y => ?_
  blk_simp
  rw [after0_7]
  refine (congrArg _ (eq_ix2 _)).trans ((out7_ix _ _ _ _ _ _).trans ((congrArg₂ Cert.Adam.newV (grad_ix m c t _ _) (blk3 m c t _ _)).trans ?_))
  exact congrArg (fun i : (⟨2, ![12, 128]⟩ : Shape).Idx => nQ m c (i 0) (i 1)) (a₁ := ix2 _ _) (by blk_ext [tile, idx t])

end
end Cert.AdamNormGIdeal.Gen

end
-- ==== Proof.AdamConvWValue.lean ====
/-
  What the optimiser's call for `conv_w` leaves in its four results: the gradient, summed over the devices, the change of the weight and
  the new moments, element by element.
-/
module

public import proofs.«01_k».proof.Proof.AdamRows
public import proofs.«01_k».proof.Proof.Gen.AdamConvWIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.AdamConvWIdeal.Gen

open Idealize.ShloMosaic Idealize.ShloMosaic.TcCoe Idealize.ShloMosaic.Tactic
open Idealize.SL Idealize.SL.Sem

theorem ld_all (X : Vec Ideal S6x128 .f32) : View.ld X r0_8 = X :=
  View.ld_unit_zero (S := S6x128) (funext fun a => by fin_cases a <;> rfl) _ X
theorem canon_all (w : Vec Ideal S6x128 .f32) (L : List (View.Piece (Elt Ideal) S6x128 .f32)) : View.canon (⟨r0_8, w⟩ :: L) = w :=
  View.canon_cons_unit_zero (S := S6x128) (funext fun a => by fin_cases a <;> rfl) _ w L

section
variable (r : Fin 6) (l : Fin 128)

theorem newM_ix (g p : Vec Ideal S6x128 .f32) : k0_pay1 g p (ix2 r l) = Cert.Adam.newM (g (ix2 r l)) (p (ix2 r l)) := by
  pointwise [k0_pay1]
  rfl
theorem newV_ix (g q : Vec Ideal S6x128 .f32) : k0_pay2 g q (ix2 r l) = Cert.Adam.newV (g (ix2 r l)) (q (ix2 r l)) := by
  pointwise [k0_pay2]
  rfl
theorem delta_ix (g w p q : Vec Ideal S6x128 .f32) :
    k0_pay3 g w p q (ix2 r l) = Cert.Adam.delta (g (ix2 r l)) (w (ix2 r l)) (p (ix2 r l)) (q (ix2 r l)) := by
  pointwise [k0_pay3, newM_ix, newV_ix]
  rfl

variable (x0 : Vec Ideal S8x6x128 .f32) (x1 x2 x3 : Vec Ideal S6x128 .f32)

theorem sum_ix : k0_pay5 x0 x1 x2 x3 (ix2 r l) = ∑ s : Fin 8, x0 (ix3 s r l) := by
  unfold k0_pay5
  pointwise [k0_pay4]
  rw [Fin.sum_univ_eight]

theorem out4_ix : out0_4 x0 x1 x2 x3 (ix2 r l) = (∑ s : Fin 8, x0 (ix3 s r l)) :=
  (congrFun (canon_all _ _) _).trans (sum_ix r l x0 x1 x2 x3)
theorem out5_ix : out0_5 x0 x1 x2 x3 (ix2 r l) = Cert.Adam.delta (∑ s : Fin 8, x0 (ix3 s r l)) (x1 (ix2 r l)) (x2 (ix2 r l)) (x3 (ix2 r l)) :=
  (congrFun (canon_all _ _) _).trans ((delta_ix r l _ _ _ _).trans
    (Cert.Adam.delta_congr (sum_ix r l x0 x1 x2 x3) (congrFun (ld_all x1) _) (congrFun (ld_all x2) _) (congrFun (ld_all x3) _)))
theorem out6_ix : out0_6 x0 x1 x2 x3 (ix2 r l) = Cert.Adam.newM (∑ s : Fin 8, x0 (ix3 s r l)) (x2 (ix2 r l)) :=
  (congrFun (canon_all _ _) _).trans ((newM_ix r l _ _).trans (congrArg₂ Cert.Adam.newM (sum_ix r l x0 x1 x2 x3) (congrFun (ld_all x2) _)))
theorem out7_ix : out0_7 x0 x1 x2 x3 (ix2 r l) = Cert.Adam.newV (∑ s : Fin 8, x0 (ix3 s r l)) (x3 (ix2 r l)) :=
  (congrFun (canon_all _ _) _).trans ((newV_ix r l _ _).trans (congrArg₂ Cert.Adam.newV (sum_ix r l x0 x1 x2 x3) (congrFun (ld_all x3) _)))

end

/-- The rows the point works on. -/
def tile (t : Fin cfg0.N) : Fin 1 := ⟨t.val, lt_of_lt_of_eq t.isLt N_0⟩

theorem idx : ∀ t : Fin cfg0.N, win0_0.index t = ![0, t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient, the weight and the old moments at an element, and what is computed from them. -/
def G (m : (ℓ : Loc nD τ sig) → Buf (Elt Ideal) ℓ) (c : Dev nD) (R : Fin 6) (l : Fin 128) : EReal := ∑ s : Fin 8, m ((c : Thread nD τ).loc main_arg0) (ix3 s R l)
def W (m : (ℓ : Loc nD τ sig) → Buf (Elt Ideal) ℓ) (c : Dev nD) (R : Fin 6) (l : Fin 128) : EReal := m ((c : Thread nD τ).loc main_arg1) (ix2 R l)
def P (m : (ℓ : Loc nD τ sig) → Buf (Elt Ideal) ℓ) (c : Dev nD) (R : Fin 6) (l : Fin 128) : EReal := m ((c : Thread nD τ).loc main_arg2) (ix2 R l)
def Q (m : (ℓ : Loc nD τ sig) → Buf (Elt Ideal) ℓ) (c : Dev nD) (R : Fin 6) (l : Fin 128) : EReal := m ((c : Thread nD τ).loc main_arg3) (ix2 R l)
def dW (m : (ℓ : Loc nD τ sig) → Buf (Elt Ideal) ℓ) (c : Dev nD) (R : Fin 6) (l : Fin 128) : EReal := Cert.Adam.delta (G m c R l) (W m c R l) (P m c R l) (Q m c R l)
def nP (m : (ℓ : Loc nD τ sig) → Buf (Elt Ideal) ℓ) (c : Dev nD) (R : Fin 6) (l : Fin 128) : EReal := Cert.Adam.newM (G m c R l) (P m c R l)
def nQ (m : (ℓ : Loc nD τ sig) → Buf (Elt Ideal) ℓ) (c : Dev nD) (R : Fin 6) (l : Fin 128) : EReal := Cert.Adam.newV (G m c R l) (Q m c R l)

section
variable (m : (ℓ : Loc nD τ sig) → Buf (Elt Ideal) ℓ) (c : Dev nD) (t : Fin cfg0.N) (r : Fin 6) (l : Fin 128)

theorem blk0 (s : Fin 8) : iblk m c 0 t (ix3 s r l) = V m c main_arg0 (ix3 s ⟨6 * (tile t).val + r.val, by omega⟩ l) := by
  blk_ext [iblk, tile, idx t]
theorem grad_ix : (∑ s : Fin 8, iblk m c 0 t (ix3 s r l) : EReal) = G m c ⟨6 * (tile t).val + r.val, by omega⟩ l :=
  Finset.sum_congr rfl fun s _ => blk0 m c t r l s
theorem blk1 : iblk m c 1 t (ix2 r l) = W m c ⟨6 * (tile t).val + r.val, by omega⟩ l := by
  refine Eq.trans (b := V m c main_arg1 (ix2 ⟨6 * (tile t).val + r.val, by omega⟩ l)) ?_ rfl
  blk_ext [iblk, tile, idx t]
theorem blk2 : iblk m c 2 t (ix2 r l) = P m c ⟨6 * (tile t).val + r.val, by omega⟩ l := by
  refine Eq.trans (b := V m c main_arg2 (ix2 ⟨6 * (tile t).val + r.val, by omega⟩ l)) ?_ rfl
  blk_ext [iblk, tile, idx t]
theorem blk3 : iblk m c 3 t (ix2 r l) = Q m c ⟨6 * (tile t).val + r.val, by omega⟩ l := by
  refine Eq.trans (b := V m c main_arg3 (ix2 ⟨6 * (tile t).val + r.val, by omega⟩ l)) ?_ rfl
  blk_ext [iblk, tile, idx t]

theorem arr4 : (dats m 0 c).arrAt 4 cfg0.N = fun i => G m c (i 0) (i 1) := by
  refine (dats m 0 c).arrAt_eq_of_covers 4 _ (by decide +kernel) fun t hf y => ?_
  blk_simp
  rw [after0_4]
  refine (congrArg _ (eq_ix2 _)).trans ((out4_ix _ _ _ _ _ _).trans ((grad_ix m c t _ _).trans ?_))
  exact congrArg (fun i : (⟨2, ![6, 128]⟩ : Shape).Idx => G m c (i 0) (i 1)) (a₁ := ix2 _ _) (by blk_ext [tile, idx t])
theorem arr5 : (dats m 0 c).arrAt 5 cfg0.N = fun i => dW m c (i 0) (i 1) := by
  refine (dats m 0 c).arrAt_eq_of_covers 5 _ (by decide +kernel) fun t hf y => ?_
  blk_simp
  rw [after0_5]
  refine (congrArg _ (eq_ix2 _)).trans ((out5_ix _ _ _ _ _ _).trans ((Cert.Adam.delta_congr (grad_ix m c t _ _) (blk1 m c t _ _) (blk2 m c t _ _) (blk3 m c t _ _)).trans ?_))
  exact congrArg (fun i : (⟨2, ![6, 128]⟩ : Shape).Idx => dW m c (i 0) (i 1)) (a₁ := ix2 _ _) (by blk_ext [tile, idx t])
theorem arr6 : (dats m 0 c).arrAt 6 cfg0.N = fun i => nP m c (i 0) (i 1) := by
  refine (dats m 0 c).arrAt_eq_of_covers 6 _ (by decide +kernel) fun t hf y => ?_
  blk_simp
  rw [after0_6]
  refine (congrArg _ (eq_ix2 _)).trans ((out6_ix _ _ _ _ _ _).trans ((congrArg₂ Cert.Adam.newM (grad_ix m c t _ _) (blk2 m c t _ _)).trans ?_))
  exact congrArg (fun i : (⟨2, ![6, 128]⟩ : Shape).Idx => nP m c (i 0) (i 1)) (a₁ := ix2 _ _) (by blk_ext [tile, idx t])
theorem arr7 : (dats m 0 c).arrAt 7 cfg0.N = fun i => nQ m c (i 0) (i 1) := by
  refine (dats m 0 c).arrAt_eq_of_covers 7 _ (by decide +kernel) fun t hf y => ?_
  blk_simp
  rw [after0_7]
  refine (congrArg _ (eq_ix2 _)).trans ((out7_ix _ _ _ _ _ _).trans ((congrArg₂ Cert.Adam.newV (grad_ix m c t _ _) (blk3 m c t _ _)).trans ?_))
  exact congrArg (fun i : (⟨2, ![6, 128]⟩ : Shape).Idx => nQ m c (i 0) (i 1)) (a₁ := ix2 _ _) (by blk_ext [tile, idx t])

end
end Cert.AdamConvWIdeal.Gen

end
-- ==== Proof.AdamGainValue.lean ====
/-
  What the optimiser's call for a norm's gain (`kv_norm_g` or `final_norm_g`) leaves in its four results: the gradient, summed over the devices, the change of the weight and
  the new moments, element by element.
-/
module

public import proofs.«01_k».proof.Proof.AdamRows
public import proofs.«01_k».proof.Proof.Gen.AdamGainIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.AdamGainIdeal.Gen

open Idealize.ShloMosaic Idealize.ShloMosaic.TcCoe Idealize.ShloMosaic.Tactic
open Idealize.SL Idealize.SL.Sem

theorem ld_all (X : Vec Ideal S1x1024 .f32) : View.ld X r0_8 = X :=
  View.ld_unit_zero (S := S1x1024) (funext fun a => by fin_cases a <;> rfl) _ X
theorem canon_all (w : Vec Ideal S1x1024 .f32) (L : List (View.Piece (Elt Ideal) S1x1024 .f32)) : View.canon (⟨r0_8, w⟩ :: L) = w :=
  View.canon_cons_unit_zero (S := S1x1024) (funext fun a => by fin_cases a <;> rfl) _ w L

section
variable (r : Fin 1) (l : Fin 1024)

theorem newM_ix (g p : Vec Ideal S1x1024 .f32) : k0_pay1 g p (ix2 r l) = Cert.Adam.newM (g (ix2 r l)) (p (ix2 r l)) := by
  pointwise [k0_pay1]
  rfl
theorem newV_ix (g q : Vec Ideal S1x1024 .f32) : k0_pay2 g q (ix2 r l) = Cert.Adam.newV (g (ix2 r l)) (q (ix2 r l)) := by
  pointwise [k0_pay2]
  rfl
theorem delta_ix (g w p q : Vec Ideal S1x1024 .f32) :
    k0_pay3 g w p q (ix2 r l) = Cert.Adam.delta (g (ix2 r l)) (w (ix2 r l)) (p (ix2 r l)) (q (ix2 r l)) := by
  pointwise [k0_pay3, newM_ix, newV_ix]
  rfl

variable (x0 : Vec Ideal S8x1x1024 .f32) (x1 x2 x3 : Vec Ideal S1x1024 .f32)

theorem sum_ix : k0_pay5 x0 x1 x2 x3 (ix2 r l) = ∑ s : Fin 8, x0 (ix3 s r l) := by
  unfold k0_pay5
  pointwise [k0_pay4]
  rw [Fin.sum_univ_eight, Subsingleton.elim r 0]

theorem out4_ix : out0_4 x0 x1 x2 x3 (ix2 r l) = (∑ s : Fin 8, x0 (ix3 s r l)) :=
  (congrFun (canon_all _ _) _).trans (sum_ix r l x0 x1 x2 x3)
theorem out5_ix : out0_5 x0 x1 x2 x3 (ix2 r l) = Cert.Adam.delta (∑ s : Fin 8, x0 (ix3 s r l)) (x1 (ix2 r l)) (x2 (ix2 r l)) (x3 (ix2 r l)) :=
  (congrFun (canon_all _ _) _).trans ((delta_ix r l _ _ _ _).trans
    (Cert.Adam.delta_congr (sum_ix r l x0 x1 x2 x3) (congrFun (ld_all x1) _) (congrFun (ld_all x2) _) (congrFun (ld_all x3) _)))
theorem out6_ix : out0_6 x0 x1 x2 x3 (ix2 r l) = Cert.Adam.newM (∑ s : Fin 8, x0 (ix3 s r l)) (x2 (ix2 r l)) :=
  (congrFun (canon_all _ _) _).trans ((newM_ix r l _ _).trans (congrArg₂ Cert.Adam.newM (sum_ix r l x0 x1 x2 x3) (congrFun (ld_all x2) _)))
theorem out7_ix : out0_7 x0 x1 x2 x3 (ix2 r l) = Cert.Adam.newV (∑ s : Fin 8, x0 (ix3 s r l)) (x3 (ix2 r l)) :=
  (congrFun (canon_all _ _) _).trans ((newV_ix r l _ _).trans (congrArg₂ Cert.Adam.newV (sum_ix r l x0 x1 x2 x3) (congrFun (ld_all x3) _)))

end

/-- The rows the point works on. -/
def tile (t : Fin cfg0.N) : Fin 1 := ⟨t.val, lt_of_lt_of_eq t.isLt N_0⟩

theorem idx : ∀ t : Fin cfg0.N, win0_0.index t = ![0, t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient, the weight and the old moments at an element, and what is computed from them. -/
def G (m : (ℓ : Loc nD τ sig) → Buf (Elt Ideal) ℓ) (c : Dev nD) (R : Fin 1) (l : Fin 1024) : EReal := ∑ s : Fin 8, m ((c : Thread nD τ).loc main_arg0) (ix3 s R l)
def W (m : (ℓ : Loc nD τ sig) → Buf (Elt Ideal) ℓ) (c : Dev nD) (R : Fin 1) (l : Fin 1024) : EReal := m ((c : Thread nD τ).loc main_arg1) (ix2 R l)
def P (m : (ℓ : Loc nD τ sig) → Buf (Elt Ideal) ℓ) (c : Dev nD) (R : Fin 1) (l : Fin 1024) : EReal := m ((c : Thread nD τ).loc main_arg2) (ix2 R l)
def Q (m : (ℓ : Loc nD τ sig) → Buf (Elt Ideal) ℓ) (c : Dev nD) (R : Fin 1) (l : Fin 1024) : EReal := m ((c : Thread nD τ).loc main_arg3) (ix2 R l)
def dW (m : (ℓ : Loc nD τ sig) → Buf (Elt Ideal) ℓ) (c : Dev nD) (R : Fin 1) (l : Fin 1024) : EReal := Cert.Adam.delta (G m c R l) (W m c R l) (P m c R l) (Q m c R l)
def nP (m : (ℓ : Loc nD τ sig) → Buf (Elt Ideal) ℓ) (c : Dev nD) (R : Fin 1) (l : Fin 1024) : EReal := Cert.Adam.newM (G m c R l) (P m c R l)
def nQ (m : (ℓ : Loc nD τ sig) → Buf (Elt Ideal) ℓ) (c : Dev nD) (R : Fin 1) (l : Fin 1024) : EReal := Cert.Adam.newV (G m c R l) (Q m c R l)

section
variable (m : (ℓ : Loc nD τ sig) → Buf (Elt Ideal) ℓ) (c : Dev nD) (t : Fin cfg0.N) (r : Fin 1) (l : Fin 1024)

theorem blk0 (s : Fin 8) : iblk m c 0 t (ix3 s r l) = V m c main_arg0 (ix3 s ⟨1 * (tile t).val + r.val, by omega⟩ l) := by
  blk_ext [iblk, tile, idx t]
theorem grad_ix : (∑ s : Fin 8, iblk m c 0 t (ix3 s r l) : EReal) = G m c ⟨1 * (tile t).val + r.val, by omega⟩ l :=
  Finset.sum_congr rfl fun s _ => blk0 m c t r l s
theorem blk1 : iblk m c 1 t (ix2 r l) = W m c ⟨1 * (tile t).val + r.val, by omega⟩ l := by
  refine Eq.trans (b := V m c main_arg1 (ix2 ⟨1 * (tile t).val + r.val, by omega⟩ l)) ?_ rfl
  blk_ext [iblk, tile, idx t]
theorem blk2 : iblk m c 2 t (ix2 r l) = P m c ⟨1 * (tile t).val + r.val, by omega⟩ l := by
  refine Eq.trans (b := V m c main_arg2 (ix2 ⟨1 * (tile t).val + r.val, by omega⟩ l)) ?_ rfl
  blk_ext [iblk, tile, idx t]
theorem blk3 : iblk m c 3 t (ix2 r l) = Q m c ⟨1 * (tile t).val + r.val, by omega⟩ l := by
  refine Eq.trans (b := V m c main_arg3 (ix2 ⟨1 * (tile t).val + r.val, by omega⟩ l)) ?_ rfl
  blk_ext [iblk, tile, idx t]

theorem arr4 : (dats m 0 c).arrAt 4 cfg0.N = fun i => G m c (i 0) (i 1) := by
  refine (dats m 0 c).arrAt_eq_of_covers 4 _ (by decide +kernel) fun t hf y => ?_
  blk_simp
  rw [after0_4]
  refine (congrArg _ (eq_ix2 _)).trans ((out4_ix _ _ _ _ _ _).trans ((grad_ix m c t _ _).trans ?_))
  exact congrArg (fun i : (⟨2, ![1, 1024]⟩ : Shape).Idx => G m c (i 0) (i 1)) (a₁ := ix2 _ _) (by blk_ext [tile, idx t])
theorem arr5 : (dats m 0 c).arrAt 5 cfg0.N = fun i => dW m c (i 0) (i 1) := by
  refine (dats m 0 c).arrAt_eq_of_covers 5 _ (by decide +kernel) fun t hf y => ?_
  blk_simp
  rw [after0_5]
  refine (congrArg _ (eq_ix2 _)).trans ((out5_ix _ _ _ _ _ _).trans ((Cert.Adam.delta_congr (grad_ix m c t _ _) (blk1 m c t _ _) (blk2 m c t _ _) (blk3 m c t _ _)).trans ?_))
  exact congrArg (fun i : (⟨2, ![1, 1024]⟩ : Shape).Idx => dW m c (i 0) (i 1)) (a₁ := ix2 _ _) (by blk_ext [tile, idx t])
theorem arr6 : (dats m 0 c).arrAt 6 cfg0.N = fun i => nP m c (i 0) (i 1) := by
  refine (dats m 0 c).arrAt_eq_of_covers 6 _ (by decide +kernel) fun t hf y => ?_
  blk_simp
  rw [after0_6]
  refine (congrArg _ (eq_ix2 _)).trans ((out6_ix _ _ _ _ _ _).trans ((congrArg₂ Cert.Adam.newM (grad_ix m c t _ _) (blk2 m c t _ _)).trans ?_))
  exact congrArg (fun i : (⟨2, ![1, 1024]⟩ : Shape).Idx => nP m c (i 0) (i 1)) (a₁ := ix2 _ _) (by blk_ext [tile, idx t])
theorem arr7 : (dats m 0 c).arrAt 7 cfg0.N = fun i => nQ m c (i 0) (i 1) := by
  refine (dats m 0 c).arrAt_eq_of_covers 7 _ (by decide +kernel) fun t hf y => ?_
  blk_simp
  rw [after0_7]
  refine (congrArg _ (eq_ix2 _)).trans ((out7_ix _ _ _ _ _ _).trans ((congrArg₂ Cert.Adam.newV (grad_ix m c t _ _) (blk3 m c t _ _)).trans ?_))
  exact congrArg (fun i : (⟨2, ![1, 1024]⟩ : Shape).Idx => nQ m c (i 0) (i 1)) (a₁ := ix2 _ _) (by blk_ext [tile, idx t])

end
end Cert.AdamGainIdeal.Gen

end
-- ==== Proof.AdamAdaBValue.lean ====
/-
  What the optimiser's call for `ada_b` leaves in its four results: the gradient, summed over the devices, the change of the weight and
  the new moments, element by element.
-/
module

public import proofs.«01_k».proof.Proof.AdamRows
public import proofs.«01_k».proof.Proof.Gen.AdamAdaBIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.AdamAdaBIdeal.Gen

open Idealize.ShloMosaic Idealize.ShloMosaic.TcCoe Idealize.ShloMosaic.Tactic
open Idealize.SL Idealize.SL.Sem

theorem ld_all (X : Vec Ideal S4x9216 .f32) : View.ld X r0_8 = X :=
  View.ld_unit_zero (S := S4x9216) (funext fun a => by fin_cases a <;> rfl) _ X
theorem canon_all (w : Vec Ideal S4x9216 .f32) (L : List (View.Piece (Elt Ideal) S4x9216 .f32)) : View.canon (⟨r0_8, w⟩ :: L) = w :=
  View.canon_cons_unit_zero (S := S4x9216) (funext fun a => by fin_cases a <;> rfl) _ w L

section
variable (r : Fin 4) (l : Fin 9216)

theorem newM_ix (g p : Vec Ideal S4x9216 .f32) : k0_pay1 g p (ix2 r l) = Cert.Adam.newM (g (ix2 r l)) (p (ix2 r l)) := by
  pointwise [k0_pay1]
  rfl
theorem newV_ix (g q : Vec Ideal S4x9216 .f32) : k0_pay2 g q (ix2 r l) = Cert.Adam.newV (g (ix2 r l)) (q (ix2 r l)) := by
  pointwise [k0_pay2]
  rfl
theorem delta_ix (g w p q : Vec Ideal S4x9216 .f32) :
    k0_pay3 g w p q (ix2 r l) = Cert.Adam.delta (g (ix2 r l)) (w (ix2 r l)) (p (ix2 r l)) (q (ix2 r l)) := by
  pointwise [k0_pay3, newM_ix, newV_ix]
  rfl

variable (x0 : Vec Ideal S8x4x9216 .f32) (x1 x2 x3 : Vec Ideal S4x9216 .f32)

theorem sum_ix : k0_pay5 x0 x1 x2 x3 (ix2 r l) = ∑ s : Fin 8, x0 (ix3 s r l) := by
  unfold k0_pay5
  pointwise [k0_pay4]
  rw [Fin.sum_univ_eight]

theorem out4_ix : out0_4 x0 x1 x2 x3 (ix2 r l) = (∑ s : Fin 8, x0 (ix3 s r l)) :=
  (congrFun (canon_all _ _) _).trans (sum_ix r l x0 x1 x2 x3)
theorem out5_ix : out0_5 x0 x1 x2 x3 (ix2 r l) = Cert.Adam.delta (∑ s : Fin 8, x0 (ix3 s r l)) (x1 (ix2 r l)) (x2 (ix2 r l)) (x3 (ix2 r l)) :=
  (congrFun (canon_all _ _) _).trans ((delta_ix r l _ _ _ _).trans
    (Cert.Adam.delta_congr (sum_ix r l x0 x1 x2 x3) (congrFun (ld_all x1) _) (congrFun (ld_all x2) _) (congrFun (ld_all x3) _)))
theorem out6_ix : out0_6 x0 x1 x2 x3 (ix2 r l) = Cert.Adam.newM (∑ s : Fin 8, x0 (ix3 s r l)) (x2 (ix2 r l)) :=
  (congrFun (canon_all _ _) _).trans ((newM_ix r l _ _).trans (congrArg₂ Cert.Adam.newM (sum_ix r l x0 x1 x2 x3) (congrFun (ld_all x2) _)))
theorem out7_ix : out0_7 x0 x1 x2 x3 (ix2 r l) = Cert.Adam.newV (∑ s : Fin 8, x0 (ix3 s r l)) (x3 (ix2 r l)) :=
  (congrFun (canon_all _ _) _).trans ((newV_ix r l _ _).trans (congrArg₂ Cert.Adam.newV (sum_ix r l x0 x1 x2 x3) (congrFun (ld_all x3) _)))

end

/-- The rows the point works on. -/
def tile (t : Fin cfg0.N) : Fin 1 := ⟨t.val, lt_of_lt_of_eq t.isLt N_0⟩

theorem idx : ∀ t : Fin cfg0.N, win0_0.index t = ![0, t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient, the weight and the old moments at an element, and what is computed from them. -/
def G (m : (ℓ : Loc nD τ sig) → Buf (Elt Ideal) ℓ) (c : Dev nD) (R : Fin 4) (l : Fin 9216) : EReal := ∑ s : Fin 8, m ((c : Thread nD τ).loc main_arg0) (ix3 s R l)
def W (m : (ℓ : Loc nD τ sig) → Buf (Elt Ideal) ℓ) (c : Dev nD) (R : Fin 4) (l : Fin 9216) : EReal := m ((c : Thread nD τ).loc main_arg1) (ix2 R l)
def P (m : (ℓ : Loc nD τ sig) → Buf (Elt Ideal) ℓ) (c : Dev nD) (R : Fin 4) (l : Fin 9216) : EReal := m ((c : Thread nD τ).loc main_arg2) (ix2 R l)
def Q (m : (ℓ : Loc nD τ sig) → Buf (Elt Ideal) ℓ) (c : Dev nD) (R : Fin 4) (l : Fin 9216) : EReal := m ((c : Thread nD τ).loc main_arg3) (ix2 R l)
def dW (m : (ℓ : Loc nD τ sig) → Buf (Elt Ideal) ℓ) (c : Dev nD) (R : Fin 4) (l : Fin 9216) : EReal := Cert.Adam.delta (G m c R l) (W m c R l) (P m c R l) (Q m c R l)
def nP (m : (ℓ : Loc nD τ sig) → Buf (Elt Ideal) ℓ) (c : Dev nD) (R : Fin 4) (l : Fin 9216) : EReal := Cert.Adam.newM (G m c R l) (P m c R l)
def nQ (m : (ℓ : Loc nD τ sig) → Buf (Elt Ideal) ℓ) (c : Dev nD) (R : Fin 4) (l : Fin 9216) : EReal := Cert.Adam.newV (G m c R l) (Q m c R l)

section
variable (m : (ℓ : Loc nD τ sig) → Buf (Elt Ideal) ℓ) (c : Dev nD) (t : Fin cfg0.N) (r : Fin 4) (l : Fin 9216)

theorem blk0 (s : Fin 8) : iblk m c 0 t (ix3 s r l) = V m c main_arg0 (ix3 s ⟨4 * (tile t).val + r.val, by omega⟩ l) := by
  blk_ext [iblk, tile, idx t]
theorem grad_ix : (∑ s : Fin 8, iblk m c 0 t (ix3 s r l) : EReal) = G m c ⟨4 * (tile t).val + r.val, by omega⟩ l :=
  Finset.sum_congr rfl fun s _ => blk0 m c t r l s
theorem blk1 : iblk m c 1 t (ix2 r l) = W m c ⟨4 * (tile t).val + r.val, by omega⟩ l := by
  refine Eq.trans (b := V m c main_arg1 (ix2 ⟨4 * (tile t).val + r.val, by omega⟩ l)) ?_ rfl
  blk_ext [iblk, tile, idx t]
theorem blk2 : iblk m c 2 t (ix2 r l) = P m c ⟨4 * (tile t).val + r.val, by omega⟩ l := by
  refine Eq.trans (b := V m c main_arg2 (ix2 ⟨4 * (tile t).val + r.val, by omega⟩ l)) ?_ rfl
  blk_ext [iblk, tile, idx t]
theorem blk3 : iblk m c 3 t (ix2 r l) = Q m c ⟨4 * (tile t).val + r.val, by omega⟩ l := by
  refine Eq.trans (b := V m c main_arg3 (ix2 ⟨4 * (tile t).val + r.val, by omega⟩ l)) ?_ rfl
  blk_ext [iblk, tile, idx t]

theorem arr4 : (dats m 0 c).arrAt 4 cfg0.N = fun i => G m c (i 0) (i 1) := by
  refine (dats m 0 c).arrAt_eq_of_covers 4 _ (by decide +kernel) fun t hf y => ?_
  blk_simp
  rw [after0_4]
  refine (congrArg _ (eq_ix2 _)).trans ((out4_ix _ _ _ _ _ _).trans ((grad_ix m c t _ _).trans ?_))
  exact congrArg (fun i : (⟨2, ![4, 9216]⟩ : Shape).Idx => G m c (i 0) (i 1)) (a₁ := ix2 _ _) (by blk_ext [tile, idx t])
theorem arr5 : (dats m 0 c).arrAt 5 cfg0.N = fun i => dW m c (i 0) (i 1) := by
  refine (dats m 0 c).arrAt_eq_of_covers 5 _ (by decide +kernel) fun t hf y => ?_
  blk_simp
  rw [after0_5]
  refine (congrArg _ (eq_ix2 _)).trans ((out5_ix _ _ _ _ _ _).trans ((Cert.Adam.delta_congr (grad_ix m c t _ _) (blk1 m c t _ _) (blk2 m c t _ _) (blk3 m c t _ _)).trans ?_))
  exact congrArg (fun i : (⟨2, ![4, 9216]⟩ : Shape).Idx => dW m c (i 0) (i 1)) (a₁ := ix2 _ _) (by blk_ext [tile, idx t])
theorem arr6 : (dats m 0 c).arrAt 6 cfg0.N = fun i => nP m c (i 0) (i 1) := by
  refine (dats m 0 c).arrAt_eq_of_covers 6 _ (by decide +kernel) fun t hf y => ?_
  blk_simp
  rw [after0_6]
  refine (congrArg _ (eq_ix2 _)).trans ((out6_ix _ _ _ _ _ _).trans ((congrArg₂ Cert.Adam.newM (grad_ix m c t _ _) (blk2 m c t _ _)).trans ?_))
  exact congrArg (fun i : (⟨2, ![4, 9216]⟩ : Shape).Idx => nP m c (i 0) (i 1)) (a₁ := ix2 _ _) (by blk_ext [tile, idx t])
theorem arr7 : (dats m 0 c).arrAt 7 cfg0.N = fun i => nQ m c (i 0) (i 1) := by
  refine (dats m 0 c).arrAt_eq_of_covers 7 _ (by decide +kernel) fun t hf y => ?_
  blk_simp
  rw [after0_7]
  refine (congrArg _ (eq_ix2 _)).trans ((out7_ix _ _ _ _ _ _).trans ((congrArg₂ Cert.Adam.newV (grad_ix m c t _ _) (blk3 m c t _ _)).trans ?_))
  exact congrArg (fun i : (⟨2, ![4, 9216]⟩ : Shape).Idx => nQ m c (i 0) (i 1)) (a₁ := ix2 _ _) (by blk_ext [tile, idx t])

end
end Cert.AdamAdaBIdeal.Gen

end
-- ==== Proof.AdamKvAdaBValue.lean ====
/-
  What the optimiser's call for `kv_ada_b` leaves in its four results: the gradient, summed over the devices, the change of the weight and
  the new moments, element by element.
-/
module

public import proofs.«01_k».proof.Proof.AdamRows
public import proofs.«01_k».proof.Proof.Gen.AdamKvAdaBIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.AdamKvAdaBIdeal.Gen

open Idealize.ShloMosaic Idealize.ShloMosaic.TcCoe Idealize.ShloMosaic.Tactic
open Idealize.SL Idealize.SL.Sem

theorem ld_all (X : Vec Ideal S1x2048 .f32) : View.ld X r0_8 = X :=
  View.ld_unit_zero (S := S1x2048) (funext fun a => by fin_cases a <;> rfl) _ X
theorem canon_all (w : Vec Ideal S1x2048 .f32) (L : List (View.Piece (Elt Ideal) S1x2048 .f32)) : View.canon (⟨r0_8, w⟩ :: L) = w :=
  View.canon_cons_unit_zero (S := S1x2048) (funext fun a => by fin_cases a <;> rfl) _ w L

section
variable (r : Fin 1) (l : Fin 2048)

theorem newM_ix (g p : Vec Ideal S1x2048 .f32) : k0_pay1 g p (ix2 r l) = Cert.Adam.newM (g (ix2 r l)) (p (ix2 r l)) := by
  pointwise [k0_pay1]
  rfl
theorem newV_ix (g q : Vec Ideal S1x2048 .f32) : k0_pay2 g q (ix2 r l) = Cert.Adam.newV (g (ix2 r l)) (q (ix2 r l)) := by
  pointwise [k0_pay2]
  rfl
theorem delta_ix (g w p q : Vec Ideal S1x2048 .f32) :
    k0_pay3 g w p q (ix2 r l) = Cert.Adam.delta (g (ix2 r l)) (w (ix2 r l)) (p (ix2 r l)) (q (ix2 r l)) := by
  pointwise [k0_pay3, newM_ix, newV_ix]
  rfl

variable (x0 : Vec Ideal S8x1x2048 .f32) (x1 x2 x3 : Vec Ideal S1x2048 .f32)

theorem sum_ix : k0_pay5 x0 x1 x2 x3 (ix2 r l) = ∑ s : Fin 8, x0 (ix3 s r l) := by
  unfold k0_pay5
  pointwise [k0_pay4]
  rw [Fin.sum_univ_eight, Subsingleton.elim r 0]

theorem out4_ix : out0_4 x0 x1 x2 x3 (ix2 r l) = (∑ s : Fin 8, x0 (ix3 s r l)) :=
  (congrFun (canon_all _ _) _).trans (sum_ix r l x0 x1 x2 x3)
theorem out5_ix : out0_5 x0 x1 x2 x3 (ix2 r l) = Cert.Adam.delta (∑ s : Fin 8, x0 (ix3 s r l)) (x1 (ix2 r l)) (x2 (ix2 r l)) (x3 (ix2 r l)) :=
  (congrFun (canon_all _ _) _).trans ((delta_ix r l _ _ _ _).trans
    (Cert.Adam.delta_congr (sum_ix r l x0 x1 x2 x3) (congrFun (ld_all x1) _) (congrFun (ld_all x2) _) (congrFun (ld_all x3) _)))
theorem out6_ix : out0_6 x0 x1 x2 x3 (ix2 r l) = Cert.Adam.newM (∑ s : Fin 8, x0 (ix3 s r l)) (x2 (ix2 r l)) :=
  (congrFun (canon_all _ _) _).trans ((newM_ix r l _ _).trans (congrArg₂ Cert.Adam.newM (sum_ix r l x0 x1 x2 x3) (congrFun (ld_all x2) _)))
theorem out7_ix : out0_7 x0 x1 x2 x3 (ix2 r l) = Cert.Adam.newV (∑ s : Fin 8, x0 (ix3 s r l)) (x3 (ix2 r l)) :=
  (congrFun (canon_all _ _) _).trans ((newV_ix r l _ _).trans (congrArg₂ Cert.Adam.newV (sum_ix r l x0 x1 x2 x3) (congrFun (ld_all x3) _)))

end

/-- The rows the point works on. -/
def tile (t : Fin cfg0.N) : Fin 1 := ⟨t.val, lt_of_lt_of_eq t.isLt N_0⟩

theorem idx : ∀ t : Fin cfg0.N, win0_0.index t = ![0, t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient, the weight and the old moments at an element, and what is computed from them. -/
def G (m : (ℓ : Loc nD τ sig) → Buf (Elt Ideal) ℓ) (c : Dev nD) (R : Fin 1) (l : Fin 2048) : EReal := ∑ s : Fin 8, m ((c : Thread nD τ).loc main_arg0) (ix3 s R l)
def W (m : (ℓ : Loc nD τ sig) → Buf (Elt Ideal) ℓ) (c : Dev nD) (R : Fin 1) (l : Fin 2048) : EReal := m ((c : Thread nD τ).loc main_arg1) (ix2 R l)
def P (m : (ℓ : Loc nD τ sig) → Buf (Elt Ideal) ℓ) (c : Dev nD) (R : Fin 1) (l : Fin 2048) : EReal := m ((c : Thread nD τ).loc main_arg2) (ix2 R l)
def Q (m : (ℓ : Loc nD τ sig) → Buf (Elt Ideal) ℓ) (c : Dev nD) (R : Fin 1) (l : Fin 2048) : EReal := m ((c : Thread nD τ).loc main_arg3) (ix2 R l)
def dW (m : (ℓ : Loc nD τ sig) → Buf (Elt Ideal) ℓ) (c : Dev nD) (R : Fin 1) (l : Fin 2048) : EReal := Cert.Adam.delta (G m c R l) (W m c R l) (P m c R l) (Q m c R l)
def nP (m : (ℓ : Loc nD τ sig) → Buf (Elt Ideal) ℓ) (c : Dev nD) (R : Fin 1) (l : Fin 2048) : EReal := Cert.Adam.newM (G m c R l) (P m c R l)
def nQ (m : (ℓ : Loc nD τ sig) → Buf (Elt Ideal) ℓ) (c : Dev nD) (R : Fin 1) (l : Fin 2048) : EReal := Cert.Adam.newV (G m c R l) (Q m c R l)

section
variable (m : (ℓ : Loc nD τ sig) → Buf (Elt Ideal) ℓ) (c : Dev nD) (t : Fin cfg0.N) (r : Fin 1) (l : Fin 2048)

theorem blk0 (s : Fin 8) : iblk m c 0 t (ix3 s r l) = V m c main_arg0 (ix3 s ⟨1 * (tile t).val + r.val, by omega⟩ l) := by
  blk_ext [iblk, tile, idx t]
theorem grad_ix : (∑ s : Fin 8, iblk m c 0 t (ix3 s r l) : EReal) = G m c ⟨1 * (tile t).val + r.val, by omega⟩ l :=
  Finset.sum_congr rfl fun s _ => blk0 m c t r l s
theorem blk1 : iblk m c 1 t (ix2 r l) = W m c ⟨1 * (tile t).val + r.val, by omega⟩ l := by
  refine Eq.trans (b := V m c main_arg1 (ix2 ⟨1 * (tile t).val + r.val, by omega⟩ l)) ?_ rfl
  blk_ext [iblk, tile, idx t]
theorem blk2 : iblk m c 2 t (ix2 r l) = P m c ⟨1 * (tile t).val + r.val, by omega⟩ l := by
  refine Eq.trans (b := V m c main_arg2 (ix2 ⟨1 * (tile t).val + r.val, by omega⟩ l)) ?_ rfl
  blk_ext [iblk, tile, idx t]
theorem blk3 : iblk m c 3 t (ix2 r l) = Q m c ⟨1 * (tile t).val + r.val, by omega⟩ l := by
  refine Eq.trans (b := V m c main_arg3 (ix2 ⟨1 * (tile t).val + r.val, by omega⟩ l)) ?_ rfl
  blk_ext [iblk, tile, idx t]

theorem arr4 : (dats m 0 c).arrAt 4 cfg0.N = fun i => G m c (i 0) (i 1) := by
  refine (dats m 0 c).arrAt_eq_of_covers 4 _ (by decide +kernel) fun t hf y => ?_
  blk_simp
  rw [after0_4]
  refine (congrArg _ (eq_ix2 _)).trans ((out4_ix _ _ _ _ _ _).trans ((grad_ix m c t _ _).trans ?_))
  exact congrArg (fun i : (⟨2, ![1, 2048]⟩ : Shape).Idx => G m c (i 0) (i 1)) (a₁ := ix2 _ _) (by blk_ext [tile, idx t])
theorem arr5 : (dats m 0 c).arrAt 5 cfg0.N = fun i => dW m c (i 0) (i 1) := by
  refine (dats m 0 c).arrAt_eq_of_covers 5 _ (by decide +kernel) fun t hf y => ?_
  blk_simp
  rw [after0_5]
  refine (congrArg _ (eq_ix2 _)).trans ((out5_ix _ _ _ _ _ _).trans ((Cert.Adam.delta_congr (grad_ix m c t _ _) (blk1 m c t _ _) (blk2 m c t _ _) (blk3 m c t _ _)).trans ?_))
  exact congrArg (fun i : (⟨2, ![1, 2048]⟩ : Shape).Idx => dW m c (i 0) (i 1)) (a₁ := ix2 _ _) (by blk_ext [tile, idx t])
theorem arr6 : (dats m 0 c).arrAt 6 cfg0.N = fun i => nP m c (i 0) (i 1) := by
  refine (dats m 0 c).arrAt_eq_of_covers 6 _ (by decide +kernel) fun t hf y => ?_
  blk_simp
  rw [after0_6]
  refine (congrArg _ (eq_ix2 _)).trans ((out6_ix _ _ _ _ _ _).trans ((congrArg₂ Cert.Adam.newM (grad_ix m c t _ _) (blk2 m c t _ _)).trans ?_))
  exact congrArg (fun i : (⟨2, ![1, 2048]⟩ : Shape).Idx => nP m c (i 0) (i 1)) (a₁ := ix2 _ _) (by blk_ext [tile, idx t])
theorem arr7 : (dats m 0 c).arrAt 7 cfg0.N = fun i => nQ m c (i 0) (i 1) := by
  refine (dats m 0 c).arrAt_eq_of_covers 7 _ (by decide +kernel) fun t hf y => ?_
  blk_simp
  rw [after0_7]
  refine (congrArg _ (eq_ix2 _)).trans ((out7_ix _ _ _ _ _ _).trans ((congrArg₂ Cert.Adam.newV (grad_ix m c t _ _) (blk3 m c t _ _)).trans ?_))
  exact congrArg (fun i : (⟨2, ![1, 2048]⟩ : Shape).Idx => nQ m c (i 0) (i 1)) (a₁ := ix2 _ _) (by blk_ext [tile, idx t])

end
end Cert.AdamKvAdaBIdeal.Gen

end
-- ==== Proof.AdamAdaWValue.lean ====
/-
  What the optimiser's call for `ada_w` leaves in its four results: the gradient, the change of the weight and
  the new moments, element by element.
-/
module

public import proofs.«01_k».proof.Proof.AdamRows
public import proofs.«01_k».proof.Proof.Gen.AdamAdaWIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.AdamAdaWIdeal.Gen

open Idealize.ShloMosaic Idealize.ShloMosaic.TcCoe Idealize.ShloMosaic.Tactic
open Idealize.SL Idealize.SL.Sem

theorem ld_all (X : Vec Ideal S256x1152 .f32) : View.ld X r0_0 = X :=
  View.ld_unit_zero (S := S256x1152) (funext fun a => by fin_cases a <;> rfl) _ X
theorem canon_all (w : Vec Ideal S256x1152 .f32) (L : List (View.Piece (Elt Ideal) S256x1152 .f32)) : View.canon (⟨r0_0, w⟩ :: L) = w :=
  View.canon_cons_unit_zero (S := S256x1152) (funext fun a => by fin_cases a <;> rfl) _ w L

section
variable (r : Fin 256) (l : Fin 1152)

theorem newM_ix (g p : Vec Ideal S256x1152 .f32) : k0_pay1 g p (ix2 r l) = Cert.Adam.newM (g (ix2 r l)) (p (ix2 r l)) := by
  pointwise [k0_pay1]
  rfl
theorem newV_ix (g q : Vec Ideal S256x1152 .f32) : k0_pay2 g q (ix2 r l) = Cert.Adam.newV (g (ix2 r l)) (q (ix2 r l)) := by
  pointwise [k0_pay2]
  rfl
theorem delta_ix (g w p q : Vec Ideal S256x1152 .f32) :
    k0_pay3 g w p q (ix2 r l) = Cert.Adam.delta (g (ix2 r l)) (w (ix2 r l)) (p (ix2 r l)) (q (ix2 r l)) := by
  pointwise [k0_pay3, newM_ix, newV_ix]
  rfl

variable (x0 : Vec Ideal S256x1152 .f32) (x1 x2 x3 : Vec Ideal S256x1152 .f32)

theorem out4_ix : out0_4 x0 x1 x2 x3 (ix2 r l) = (x0 (ix2 r l)) :=
  (congrFun (canon_all _ _) _).trans (congrFun (ld_all x0) _)
theorem out5_ix : out0_5 x0 x1 x2 x3 (ix2 r l) = Cert.Adam.delta (x0 (ix2 r l)) (x1 (ix2 r l)) (x2 (ix2 r l)) (x3 (ix2 r l)) :=
  (congrFun (canon_all _ _) _).trans ((delta_ix r l _ _ _ _).trans
    (Cert.Adam.delta_congr (congrFun (ld_all x0) _) (congrFun (ld_all x1) _) (congrFun (ld_all x2) _) (congrFun (ld_all x3) _)))
theorem out6_ix : out0_6 x0 x1 x2 x3 (ix2 r l) = Cert.Adam.newM (x0 (ix2 r l)) (x2 (ix2 r l)) :=
  (congrFun (canon_all _ _) _).trans ((newM_ix r l _ _).trans (congrArg₂ Cert.Adam.newM (congrFun (ld_all x0) _) (congrFun (ld_all x2) _)))
theorem out7_ix : out0_7 x0 x1 x2 x3 (ix2 r l) = Cert.Adam.newV (x0 (ix2 r l)) (x3 (ix2 r l)) :=
  (congrFun (canon_all _ _) _).trans ((newV_ix r l _ _).trans (congrArg₂ Cert.Adam.newV (congrFun (ld_all x0) _) (congrFun (ld_all x3) _)))

end

/-- The rows the point works on. -/
def tile (t : Fin cfg0.N) : Fin 16 := ⟨t.val, lt_of_lt_of_eq t.isLt N_0⟩

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient, the weight and the old moments at an element, and what is computed from them. -/
def G (m : (ℓ : Loc nD τ sig) → Buf (Elt Ideal) ℓ) (c : Dev nD) (R : Fin 4096) (l : Fin 1152) : EReal := m ((c : Thread nD τ).loc main_arg0) (ix2 R l)
def W (m : (ℓ : Loc nD τ sig) → Buf (Elt Ideal) ℓ) (c : Dev nD) (R : Fin 4096) (l : Fin 1152) : EReal := m ((c : Thread nD τ).loc main_arg1) (ix2 R l)
def P (m : (ℓ : Loc nD τ sig) → Buf (Elt Ideal) ℓ) (c : Dev nD) (R : Fin 4096) (l : Fin 1152) : EReal := m ((c : Thread nD τ).loc main_arg2) (ix2 R l)
def Q (m : (ℓ : Loc nD τ sig) → Buf (Elt Ideal) ℓ) (c : Dev nD) (R : Fin 4096) (l : Fin 1152) : EReal := m ((c : Thread nD τ).loc main_arg3) (ix2 R l)
def dW (m : (ℓ : Loc nD τ sig) → Buf (Elt Ideal) ℓ) (c : Dev nD) (R : Fin 4096) (l : Fin 1152) : EReal := Cert.Adam.delta (G m c R l) (W m c R l) (P m c R l) (Q m c R l)
def nP (m : (ℓ : Loc nD τ sig) → Buf (Elt Ideal) ℓ) (c : Dev nD) (R : Fin 4096) (l : Fin 1152) : EReal := Cert.Adam.newM (G m c R l) (P m c R l)
def nQ (m : (ℓ : Loc nD τ sig) → Buf (Elt Ideal) ℓ) (c : Dev nD) (R : Fin 4096) (l : Fin 1152) : EReal := Cert.Adam.newV (G m c R l) (Q m c R l)

section
variable (m : (ℓ : Loc nD τ sig) → Buf (Elt Ideal) ℓ) (c : Dev nD) (t : Fin cfg0.N) (r : Fin 256) (l : Fin 1152)

theorem grad_ix : iblk m c 0 t (ix2 r l) = G m c ⟨256 * (tile t).val + r.val, by omega⟩ l := by
  refine Eq.trans (b := V m c main_arg0 (ix2 ⟨256 * (tile t).val + r.val, by omega⟩ l)) ?_ rfl
  blk_ext [iblk, tile, idx t]
theorem blk1 : iblk m c 1 t (ix2 r l) = W m c ⟨256 * (tile t).val + r.val, by omega⟩ l := by
  refine Eq.trans (b := V m c main_arg1 (ix2 ⟨256 * (tile t).val + r.val, by omega⟩ l)) ?_ rfl
  blk_ext [iblk, tile, idx t]
theorem blk2 : iblk m c 2 t (ix2 r l) = P m c ⟨256 * (tile t).val + r.val, by omega⟩ l := by
  refine Eq.trans (b := V m c main_arg2 (ix2 ⟨256 * (tile t).val + r.val, by omega⟩ l)) ?_ rfl
  blk_ext [iblk, tile, idx t]
theorem blk3 : iblk m c 3 t (ix2 r l) = Q m c ⟨256 * (tile t).val + r.val, by omega⟩ l := by
  refine Eq.trans (b := V m c main_arg3 (ix2 ⟨256 * (tile t).val + r.val, by omega⟩ l)) ?_ rfl
  blk_ext [iblk, tile, idx t]

theorem arr4 : (dats m 0 c).arrAt 4 cfg0.N = fun i => G m c (i 0) (i 1) := by
  refine (dats m 0 c).arrAt_eq_of_covers 4 _ (by decide +kernel) fun t hf y => ?_
  blk_simp
  rw [after0_4]
  refine (congrArg _ (eq_ix2 _)).trans ((out4_ix _ _ _ _ _ _).trans ((grad_ix m c t _ _).trans ?_))
  exact congrArg (fun i : (⟨2, ![4096, 1152]⟩ : Shape).Idx => G m c (i 0) (i 1)) (a₁ := ix2 _ _) (by blk_ext [tile, idx t])
theorem arr5 : (dats m 0 c).arrAt 5 cfg0.N = fun i => dW m c (i 0) (i 1) := by
  refine (dats m 0 c).arrAt_eq_of_covers 5 _ (by decide +kernel) fun t hf y => ?_
  blk_simp
  rw [after0_5]
  refine (congrArg _ (eq_ix2 _)).trans ((out5_ix _ _ _ _ _ _).trans ((Cert.Adam.delta_congr (grad_ix m c t _ _) (blk1 m c t _ _) (blk2 m c t _ _) (blk3 m c t _ _)).trans ?_))
  exact congrArg (fun i : (⟨2, ![4096, 1152]⟩ : Shape).Idx => dW m c (i 0) (i 1)) (a₁ := ix2 _ _) (by blk_ext [tile, idx t])
theorem arr6 : (dats m 0 c).arrAt 6 cfg0.N = fun i => nP m c (i 0) (i 1) := by
  refine (dats m 0 c).arrAt_eq_of_covers 6 _ (by decide +kernel) fun t hf y => ?_
  blk_simp
  rw [after0_6]
  refine (congrArg _ (eq_ix2 _)).trans ((out6_ix _ _ _ _ _ _).trans ((congrArg₂ Cert.Adam.newM (grad_ix m c t _ _) (blk2 m c t _ _)).trans ?_))
  exact congrArg (fun i : (⟨2, ![4096, 1152]⟩ : Shape).Idx => nP m c (i 0) (i 1)) (a₁ := ix2 _ _) (by blk_ext [tile, idx t])
theorem arr7 : (dats m 0 c).arrAt 7 cfg0.N = fun i => nQ m c (i 0) (i 1) := by
  refine (dats m 0 c).arrAt_eq_of_covers 7 _ (by decide +kernel) fun t hf y => ?_
  blk_simp
  rw [after0_7]
  refine (congrArg _ (eq_ix2 _)).trans ((out7_ix _ _ _ _ _ _).trans ((congrArg₂ Cert.Adam.newV (grad_ix m c t _ _) (blk3 m c t _ _)).trans ?_))
  exact congrArg (fun i : (⟨2, ![4096, 1152]⟩ : Shape).Idx => nQ m c (i 0) (i 1)) (a₁ := ix2 _ _) (by blk_ext [tile, idx t])

end
end Cert.AdamAdaWIdeal.Gen

end
-- ==== Proof.AdamKvAdaWValue.lean ====
/-
  What the optimiser's call for `kv_ada_w` leaves in its four results: the gradient, the change of the weight and
  the new moments, element by element.
-/
module

public import proofs.«01_k».proof.Proof.AdamRows
public import proofs.«01_k».proof.Proof.Gen.AdamKvAdaWIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.AdamKvAdaWIdeal.Gen

open Idealize.ShloMosaic Idealize.ShloMosaic.TcCoe Idealize.ShloMosaic.Tactic
open Idealize.SL Idealize.SL.Sem

theorem ld_all (X : Vec Ideal S256x256 .f32) : View.ld X r0_0 = X :=
  View.ld_unit_zero (S := S256x256) (funext fun a => by fin_cases a <;> rfl) _ X
theorem canon_all (w : Vec Ideal S256x256 .f32) (L : List (View.Piece (Elt Ideal) S256x256 .f32)) : View.canon (⟨r0_0, w⟩ :: L) = w :=
  View.canon_cons_unit_zero (S := S256x256) (funext fun a => by fin_cases a <;> rfl) _ w L

section
variable (r : Fin 256) (l : Fin 256)

theorem newM_ix (g p : Vec Ideal S256x256 .f32) : k0_pay1 g p (ix2 r l) = Cert.Adam.newM (g (ix2 r l)) (p (ix2 r l)) := by
  pointwise [k0_pay1]
  rfl
theorem newV_ix (g q : Vec Ideal S256x256 .f32) : k0_pay2 g q (ix2 r l) = Cert.Adam.newV (g (ix2 r l)) (q (ix2 r l)) := by
  pointwise [k0_pay2]
  rfl
theorem delta_ix (g w p q : Vec Ideal S256x256 .f32) :
    k0_pay3 g w p q (ix2 r l) = Cert.Adam.delta (g (ix2 r l)) (w (ix2 r l)) (p (ix2 r l)) (q (ix2 r l)) := by
  pointwise [k0_pay3, newM_ix, newV_ix]
  rfl

variable (x0 : Vec Ideal S256x256 .f32) (x1 x2 x3 : Vec Ideal S256x256 .f32)

theorem out4_ix : out0_4 x0 x1 x2 x3 (ix2 r l) = (x0 (ix2 r l)) :=
  (congrFun (canon_all _ _) _).trans (congrFun (ld_all x0) _)
theorem out5_ix : out0_5 x0 x1 x2 x3 (ix2 r l) = Cert.Adam.delta (x0 (ix2 r l)) (x1 (ix2 r l)) (x2 (ix2 r l)) (x3 (ix2 r l)) :=
  (congrFun (canon_all _ _) _).trans ((delta_ix r l _ _ _ _).trans
    (Cert.Adam.delta_congr (congrFun (ld_all x0) _) (congrFun (ld_all x1) _) (congrFun (ld_all x2) _) (congrFun (ld_all x3) _)))
theorem out6_ix : out0_6 x0 x1 x2 x3 (ix2 r l) = Cert.Adam.newM (x0 (ix2 r l)) (x2 (ix2 r l)) :=
  (congrFun (canon_all _ _) _).trans ((newM_ix r l _ _).trans (congrArg₂ Cert.Adam.newM (congrFun (ld_all x0) _) (congrFun (ld_all x2) _)))
theorem out7_ix : out0_7 x0 x1 x2 x3 (ix2 r l) = Cert.Adam.newV (x0 (ix2 r l)) (x3 (ix2 r l)) :=
  (congrFun (canon_all _ _) _).trans ((newV_ix r l _ _).trans (congrArg₂ Cert.Adam.newV (congrFun (ld_all x0) _) (congrFun (ld_all x3) _)))

end

/-- The rows the point works on. -/
def tile (t : Fin cfg0.N) : Fin 4 := ⟨t.val, lt_of_lt_of_eq t.isLt N_0⟩

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient, the weight and the old moments at an element, and what is computed from them. -/
def G (m : (ℓ : Loc nD τ sig) → Buf (Elt Ideal) ℓ) (c : Dev nD) (R : Fin 1024) (l : Fin 256) : EReal := m ((c : Thread nD τ).loc main_arg0) (ix2 R l)
def W (m : (ℓ : Loc nD τ sig) → Buf (Elt Ideal) ℓ) (c : Dev nD) (R : Fin 1024) (l : Fin 256) : EReal := m ((c : Thread nD τ).loc main_arg1) (ix2 R l)
def P (m : (ℓ : Loc nD τ sig) → Buf (Elt Ideal) ℓ) (c : Dev nD) (R : Fin 1024) (l : Fin 256) : EReal := m ((c : Thread nD τ).loc main_arg2) (ix2 R l)
def Q (m : (ℓ : Loc nD τ sig) → Buf (Elt Ideal) ℓ) (c : Dev nD) (R : Fin 1024) (l : Fin 256) : EReal := m ((c : Thread nD τ).loc main_arg3) (ix2 R l)
def dW (m : (ℓ : Loc nD τ sig) → Buf (Elt Ideal) ℓ) (c : Dev nD) (R : Fin 1024) (l : Fin 256) : EReal := Cert.Adam.delta (G m c R l) (W m c R l) (P m c R l) (Q m c R l)
def nP (m : (ℓ : Loc nD τ sig) → Buf (Elt Ideal) ℓ) (c : Dev nD) (R : Fin 1024) (l : Fin 256) : EReal := Cert.Adam.newM (G m c R l) (P m c R l)
def nQ (m : (ℓ : Loc nD τ sig) → Buf (Elt Ideal) ℓ) (c : Dev nD) (R : Fin 1024) (l : Fin 256) : EReal := Cert.Adam.newV (G m c R l) (Q m c R l)

section
variable (m : (ℓ : Loc nD τ sig) → Buf (Elt Ideal) ℓ) (c : Dev nD) (t : Fin cfg0.N) (r : Fin 256) (l : Fin 256)

theorem grad_ix : iblk m c 0 t (ix2 r l) = G m c ⟨256 * (tile t).val + r.val, by omega⟩ l := by
  refine Eq.trans (b := V m c main_arg0 (ix2 ⟨256 * (tile t).val + r.val, by omega⟩ l)) ?_ rfl
  blk_ext [iblk, tile, idx t]
theorem blk1 : iblk m c 1 t (ix2 r l) = W m c ⟨256 * (tile t).val + r.val, by omega⟩ l := by
  refine Eq.trans (b := V m c main_arg1 (ix2 ⟨256 * (tile t).val + r.val, by omega⟩ l)) ?_ rfl
  blk_ext [iblk, tile, idx t]
theorem blk2 : iblk m c 2 t (ix2 r l) = P m c ⟨256 * (tile t).val + r.val, by omega⟩ l := by
  refine Eq.trans (b := V m c main_arg2 (ix2 ⟨256 * (tile t).val + r.val, by omega⟩ l)) ?_ rfl
  blk_ext [iblk, tile, idx t]
theorem blk3 : iblk m c 3 t (ix2 r l) = Q m c ⟨256 * (tile t).val + r.val, by omega⟩ l := by
  refine Eq.trans (b := V m c main_arg3 (ix2 ⟨256 * (tile t).val + r.val, by omega⟩ l)) ?_ rfl
  blk_ext [iblk, tile, idx t]

theorem arr4 : (dats m 0 c).arrAt 4 cfg0.N = fun i => G m c (i 0) (i 1) := by
  refine (dats m 0 c).arrAt_eq_of_covers 4 _ (by decide +kernel) fun t hf y => ?_
  blk_simp
  rw [after0_4]
  refine (congrArg _ (eq_ix2 _)).trans ((out4_ix _ _ _ _ _ _).trans ((grad_ix m c t _ _).trans ?_))
  exact congrArg (fun i : (⟨2, ![1024, 256]⟩ : Shape).Idx => G m c (i 0) (i 1)) (a₁ := ix2 _ _) (by blk_ext [tile, idx t])
theorem arr5 : (dats m 0 c).arrAt 5 cfg0.N = fun i => dW m c (i 0) (i 1) := by
  refine (dats m 0 c).arrAt_eq_of_covers 5 _ (by decide +kernel) fun t hf y => ?_
  blk_simp
  rw [after0_5]
  refine (congrArg _ (eq_ix2 _)).trans ((out5_ix _ _ _ _ _ _).trans ((Cert.Adam.delta_congr (grad_ix m c t _ _) (blk1 m c t _ _) (blk2 m c t _ _) (blk3 m c t _ _)).trans ?_))
  exact congrArg (fun i : (⟨2, ![1024, 256]⟩ : Shape).Idx => dW m c (i 0) (i 1)) (a₁ := ix2 _ _) (by blk_ext [tile, idx t])
theorem arr6 : (dats m 0 c).arrAt 6 cfg0.N = fun i => nP m c (i 0) (i 1) := by
  refine (dats m 0 c).arrAt_eq_of_covers 6 _ (by decide +kernel) fun t hf y => ?_
  blk_simp
  rw [after0_6]
  refine (congrArg _ (eq_ix2 _)).trans ((out6_ix _ _ _ _ _ _).trans ((congrArg₂ Cert.Adam.newM (grad_ix m c t _ _) (blk2 m c t _ _)).trans ?_))
  exact congrArg (fun i : (⟨2, ![1024, 256]⟩ : Shape).Idx => nP m c (i 0) (i 1)) (a₁ := ix2 _ _) (by blk_ext [tile, idx t])
theorem arr7 : (dats m 0 c).arrAt 7 cfg0.N = fun i => nQ m c (i 0) (i 1) := by
  refine (dats m 0 c).arrAt_eq_of_covers 7 _ (by decide +kernel) fun t hf y => ?_
  blk_simp
  rw [after0_7]
  refine (congrArg _ (eq_ix2 _)).trans ((out7_ix _ _ _ _ _ _).trans ((congrArg₂ Cert.Adam.newV (grad_ix m c t _ _) (blk3 m c t _ _)).trans ?_))
  exact congrArg (fun i : (⟨2, ![1024, 256]⟩ : Shape).Idx => nQ m c (i 0) (i 1)) (a₁ := ix2 _ _) (by blk_ext [tile, idx t])

end
end Cert.AdamKvAdaWIdeal.Gen

end
-- ==== Proof.AdamWKvValue.lean ====
/-
  What the optimiser's call for `w_kv` leaves in its four results: the gradient, summed over the devices, the change of
  the weight and the new moments, element by element.
-/
module

public import proofs.«01_k».proof.Proof.AdamRows
public import proofs.«01_k».proof.Proof.Gen.AdamWKvIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.AdamWKvIdeal.Gen

open Idealize.ShloMosaic Idealize.ShloMosaic.TcCoe Idealize.ShloMosaic.Tactic
open Idealize.SL Idealize.SL.Sem

theorem ld_all {e : EltTy} (X : S1x256x384.Idx → Elt Ideal e) : View.ld X (Rect.unit (s := S1x256x384) ![0, 0, 0] ![1, 256, 384] inb_S1x256x384_S1x256x384_0_0_0) = X :=
  View.ld_unit_zero (S := S1x256x384) (funext fun a => by fin_cases a <;> rfl) _ X
theorem canon_all {e : EltTy} (w : S1x256x384.Idx → Elt Ideal e) (L : List (View.Piece (Elt Ideal) S1x256x384 e)) : View.canon (⟨Rect.unit (s := S1x256x384) ![0, 0, 0] ![1, 256, 384] inb_S1x256x384_S1x256x384_0_0_0, w⟩ :: L) = w :=
  View.canon_cons_unit_zero (S := S1x256x384) (funext fun a => by fin_cases a <;> rfl) _ w L

/-- The gradient's block, its eight parts added. -/
def total (x0 : Vec Ideal S8x256x384 .bf16) : FVec Ideal S256x384 .f32 :=
  k0_pay3 (View.ld x0 (Rect.unit (s := S8x256x384) ![0, 0, 0] S1x256x384.size inb_S8x256x384_S1x256x384_0_0_0)) (View.ld x0 (Rect.unit (s := S8x256x384) ![1, 0, 0] S1x256x384.size inb_S8x256x384_S1x256x384_1_0_0)) (View.ld x0 (Rect.unit (s := S8x256x384) ![2, 0, 0] S1x256x384.size inb_S8x256x384_S1x256x384_2_0_0)) (View.ld x0 (Rect.unit (s := S8x256x384) ![3, 0, 0] S1x256x384.size inb_S8x256x384_S1x256x384_3_0_0)) (View.ld x0 (Rect.unit (s := S8x256x384) ![4, 0, 0] S1x256x384.size inb_S8x256x384_S1x256x384_4_0_0)) (View.ld x0 (Rect.unit (s := S8x256x384) ![5, 0, 0] S1x256x384.size inb_S8x256x384_S1x256x384_5_0_0)) (View.ld x0 (Rect.unit (s := S8x256x384) ![6, 0, 0] S1x256x384.size inb_S8x256x384_S1x256x384_6_0_0)) (View.ld x0 (Rect.unit (s := S8x256x384) ![7, 0, 0] S1x256x384.size inb_S8x256x384_S1x256x384_7_0_0))

section
variable (z : Fin 1) (r : Fin 256) (l : Fin 384) (x0 : Vec Ideal S8x256x384 .bf16)

theorem sum_ix : total x0 (ix2 r l) = ∑ s : Fin 8, x0 (ix3 s r l) := by
  unfold total
  pointwise [k0_pay3]
  rw [Fin.sum_univ_eight]
theorem newM_ix (g : FVec Ideal S256x384 .f32) (p : Vec Ideal S1x256x384 .f32) : k0_pay5 g p (ix2 r l) = Cert.Adam.newM (g (ix2 r l)) (p (ix3 0 r l)) := by
  pointwise [k0_pay5]
  rfl
theorem newV_ix (g : FVec Ideal S256x384 .f32) (q : Vec Ideal S1x256x384 .f32) : k0_pay6 g q (ix2 r l) = Cert.Adam.newV (g (ix2 r l)) (q (ix3 0 r l)) := by
  pointwise [k0_pay6]
  rfl
theorem delta_ix (g : FVec Ideal S256x384 .f32) (w p q : Vec Ideal S1x256x384 .f32) :
    k0_pay7 g w p q (ix3 z r l) = Cert.Adam.delta (g (ix2 r l)) (w (ix3 0 r l)) (p (ix3 0 r l)) (q (ix3 0 r l)) := by
  pointwise [k0_pay7, newM_ix, newV_ix]
  rfl
theorem lift4_ix (v : FVec Ideal S256x384 .f32) : k0_pay4 v (ix3 z r l) = v (ix2 r l) := by
  pointwise [k0_pay4]
theorem lift1_ix (v : FVec Ideal S256x384 .f32) : k0_pay1 v (ix3 z r l) = v (ix2 r l) := by
  pointwise [k0_pay1]
theorem lift2_ix (v : FVec Ideal S256x384 .f32) : k0_pay2 v (ix3 z r l) = v (ix2 r l) := by
  pointwise [k0_pay2]
end

section
variable (c : Dev nD) (i : grid0.Coords) (arg1 : Memref sig .tc .vmem S8x256x384 .bf16) (harg1 : arg1.IsWhole) (arg2 : Memref sig .tc .vmem S1x256x384 .f32) (harg2 : arg2.IsWhole) (arg3 : Memref sig .tc .vmem S1x256x384 .f32) (harg3 : arg3.IsWhole) (arg4 : Memref sig .tc .vmem S1x256x384 .f32) (harg4 : arg4.IsWhole) (arg6 : Memref sig .tc .vmem S1x256x384 .f32) (harg6 : arg6.IsWhole) (arg7 : Memref sig .tc .vmem S1x256x384 .f32) (harg7 : arg7.IsWhole) (arg8 : Memref sig .tc .vmem S1x256x384 .f32) (harg8 : arg8.IsWhole) (arg9 : Memref sig .tc .vmem S1x256x384 .f32) (harg9 : arg9.IsWhole)
    (x0 : Vec Ideal S8x256x384 .bf16) (x1 x2 x3 : Vec Ideal S1x256x384 .f32)

theorem out0_A_4_eq : out0_A_4 c i arg1 harg1 arg2 harg2 arg3 harg3 arg4 harg4 arg6 harg6 arg7 harg7 arg8 harg8 arg9 harg9 x0 x1 x2 x3 = k0_pay4 (total x0) := by
  unfold out0_A_4
  rw [View.read_writes_eq_canon _ _ _ (cover0_A_4 c i arg1 harg1 arg2 harg2 arg3 harg3 arg4 harg4 arg6 harg6 arg7 harg7 arg8 harg8 arg9 harg9 x0 x1 x2 x3)]
  unfold kernelRun0_A
  dsimp only
  sl_unfold_words
  simp only [View.readAt_eq_ld, harg1.read_unread, harg2.read_unread, harg3.read_unread, harg4.read_unread, ld_all, canon_all]
  rfl
theorem out0_A_5_eq : out0_A_5 c i arg1 harg1 arg2 harg2 arg3 harg3 arg4 harg4 arg6 harg6 arg7 harg7 arg8 harg8 arg9 harg9 x0 x1 x2 x3 = k0_pay7 (total x0) x1 x2 x3 := by
  unfold out0_A_5
  rw [View.read_writes_eq_canon _ _ _ (cover0_A_5 c i arg1 harg1 arg2 harg2 arg3 harg3 arg4 harg4 arg6 harg6 arg7 harg7 arg8 harg8 arg9 harg9 x0 x1 x2 x3)]
  unfold kernelRun0_A
  dsimp only
  sl_unfold_words
  simp only [View.readAt_eq_ld, harg1.read_unread, harg2.read_unread, harg3.read_unread, harg4.read_unread, ld_all, canon_all]
  rfl
theorem out0_A_6_eq : out0_A_6 c i arg1 harg1 arg2 harg2 arg3 harg3 arg4 harg4 arg6 harg6 arg7 harg7 arg8 harg8 arg9 harg9 x0 x1 x2 x3 = k0_pay1 (k0_pay5 (total x0) x2) := by
  unfold out0_A_6
  rw [View.read_writes_eq_canon _ _ _ (cover0_A_6 c i arg1 harg1 arg2 harg2 arg3 harg3 arg4 harg4 arg6 harg6 arg7 harg7 arg8 harg8 arg9 harg9 x0 x1 x2 x3)]
  unfold kernelRun0_A
  dsimp only
  sl_unfold_words
  simp only [View.readAt_eq_ld, harg1.read_unread, harg2.read_unread, harg3.read_unread, harg4.read_unread, ld_all, canon_all]
  rfl
theorem out0_A_7_eq : out0_A_7 c i arg1 harg1 arg2 harg2 arg3 harg3 arg4 harg4 arg6 harg6 arg7 harg7 arg8 harg8 arg9 harg9 x0 x1 x2 x3 = k0_pay2 (k0_pay6 (total x0) x3) := by
  unfold out0_A_7
  rw [View.read_writes_eq_canon _ _ _ (cover0_A_7 c i arg1 harg1 arg2 harg2 arg3 harg3 arg4 harg4 arg6 harg6 arg7 harg7 arg8 harg8 arg9 harg9 x0 x1 x2 x3)]
  unfold kernelRun0_A
  dsimp only
  sl_unfold_words
  simp only [View.readAt_eq_ld, harg1.read_unread, harg2.read_unread, harg3.read_unread, harg4.read_unread, ld_all, canon_all]
  rfl

end

/-- The rows the point works on. -/
def tile (t : Fin cfg0.N) : Fin 4 := ⟨t.val, lt_of_lt_of_eq t.isLt N_0⟩

theorem idx : ∀ t : Fin cfg0.N, win0_0.index t = ![0, t.val, 0] ∧ win0_1.index t = ![0, t.val, 0] ∧ win0_2.index t = ![0, t.val, 0] ∧
    win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The gradient, the weight and the old moments at an element, and what is computed from them. -/
def G (m : (ℓ : Loc nD τ sig) → Buf (Elt Ideal) ℓ) (c : Dev nD) (R : Fin 1024) (l : Fin 384) : EReal := ∑ s : Fin 8, m ((c : Thread nD τ).loc main_arg0) (ix3 s R l)
def W (m : (ℓ : Loc nD τ sig) → Buf (Elt Ideal) ℓ) (c : Dev nD) (R : Fin 1024) (l : Fin 384) : EReal := m ((c : Thread nD τ).loc main_arg1) (ix3 0 R l)
def P (m : (ℓ : Loc nD τ sig) → Buf (Elt Ideal) ℓ) (c : Dev nD) (R : Fin 1024) (l : Fin 384) : EReal := m ((c : Thread nD τ).loc main_arg2) (ix3 0 R l)
def Q (m : (ℓ : Loc nD τ sig) → Buf (Elt Ideal) ℓ) (c : Dev nD) (R : Fin 1024) (l : Fin 384) : EReal := m ((c : Thread nD τ).loc main_arg3) (ix3 0 R l)
def dW (m : (ℓ : Loc nD τ sig) → Buf (Elt Ideal) ℓ) (c : Dev nD) (R : Fin 1024) (l : Fin 384) : EReal := Cert.Adam.delta (G m c R l) (W m c R l) (P m c R l) (Q m c R l)
def nP (m : (ℓ : Loc nD τ sig) → Buf (Elt Ideal) ℓ) (c : Dev nD) (R : Fin 1024) (l : Fin 384) : EReal := Cert.Adam.newM (G m c R l) (P m c R l)
def nQ (m : (ℓ : Loc nD τ sig) → Buf (Elt Ideal) ℓ) (c : Dev nD) (R : Fin 1024) (l : Fin 384) : EReal := Cert.Adam.newV (G m c R l) (Q m c R l)

section
variable (m : (ℓ : Loc nD τ sig) → Buf (Elt Ideal) ℓ) (c : Dev nD) (t : Fin cfg0.N) (z : Fin 1) (r : Fin 256) (l : Fin 384)

theorem blk0 (s : Fin 8) : iblk m c 0 t (ix3 s r l) = V m c main_arg0 (ix3 s ⟨256 * (tile t).val + r.val, by omega⟩ l) := by
  blk_ext [iblk, tile, idx t]
theorem grad_ix : total (iblk m c 0 t) (ix2 r l) = G m c ⟨256 * (tile t).val + r.val, by omega⟩ l :=
  (sum_ix r l _).trans (Finset.sum_congr rfl fun s _ => blk0 m c t r l s)
theorem blk1 : iblk m c 1 t (ix3 0 r l) = W m c ⟨256 * (tile t).val + r.val, by omega⟩ l := by
  refine Eq.trans (b := V m c main_arg1 (ix3 0 ⟨256 * (tile t).val + r.val, by omega⟩ l)) ?_ rfl
  blk_ext [iblk, tile, idx t]
theorem blk2 : iblk m c 2 t (ix3 0 r l) = P m c ⟨256 * (tile t).val + r.val, by omega⟩ l := by
  refine Eq.trans (b := V m c main_arg2 (ix3 0 ⟨256 * (tile t).val + r.val, by omega⟩ l)) ?_ rfl
  blk_ext [iblk, tile, idx t]
theorem blk3 : iblk m c 3 t (ix3 0 r l) = Q m c ⟨256 * (tile t).val + r.val, by omega⟩ l := by
  refine Eq.trans (b := V m c main_arg3 (ix3 0 ⟨256 * (tile t).val + r.val, by omega⟩ l)) ?_ rfl
  blk_ext [iblk, tile, idx t]

theorem outs4_ix : (outsAt0 m c t).1 (ix3 z r l) = G m c ⟨256 * (tile t).val + r.val, by omega⟩ l := by
  unfold outsAt0
  dsimp only
  rw [out0_A_4_eq]
  exact (lift4_ix z r l _).trans (grad_ix m c t r l)
theorem arr4 : (dats m 0 c).arrAt 4 cfg0.N = fun i => G m c (i 1) (i 2) := by
  refine (dats m 0 c).arrAt_eq_of_covers 4 _ (by decide +kernel) fun t hf y => ?_
  blk_simp
  rw [after0_4]
  refine (congrArg _ (eq_ix3 _)).trans ((outs4_ix m c t _ _ _).trans ?_)
  exact congrArg (fun i : (⟨2, ![1024, 384]⟩ : Shape).Idx => G m c (i 0) (i 1)) (a₁ := ix2 _ _) (a₂ := ix2 _ _) (by blk_ext [tile, idx t])
theorem outs5_ix : (outsAt0 m c t).2.1 (ix3 z r l) = dW m c ⟨256 * (tile t).val + r.val, by omega⟩ l := by
  unfold outsAt0
  dsimp only
  rw [out0_A_5_eq]
  exact (delta_ix z r l _ _ _ _).trans (Cert.Adam.delta_congr (grad_ix m c t r l) (blk1 m c t r l) (blk2 m c t r l) (blk3 m c t r l))
theorem arr5 : (dats m 0 c).arrAt 5 cfg0.N = fun i => dW m c (i 1) (i 2) := by
  refine (dats m 0 c).arrAt_eq_of_covers 5 _ (by decide +kernel) fun t hf y => ?_
  blk_simp
  rw [after0_5]
  refine (congrArg _ (eq_ix3 _)).trans ((outs5_ix m c t _ _ _).trans ?_)
  exact congrArg (fun i : (⟨2, ![1024, 384]⟩ : Shape).Idx => dW m c (i 0) (i 1)) (a₁ := ix2 _ _) (a₂ := ix2 _ _) (by blk_ext [tile, idx t])
theorem outs6_ix : (outsAt0 m c t).2.2.1 (ix3 z r l) = nP m c ⟨256 * (tile t).val + r.val, by omega⟩ l := by
  unfold outsAt0
  dsimp only
  rw [out0_A_6_eq]
  exact (lift1_ix z r l _).trans ((newM_ix r l _ _).trans (congrArg₂ Cert.Adam.newM (grad_ix m c t r l) (blk2 m c t r l)))
theorem arr6 : (dats m 0 c).arrAt 6 cfg0.N = fun i => nP m c (i 1) (i 2) := by
  refine (dats m 0 c).arrAt_eq_of_covers 6 _ (by decide +kernel) fun t hf y => ?_
  blk_simp
  rw [after0_6]
  refine (congrArg _ (eq_ix3 _)).trans ((outs6_ix m c t _ _ _).trans ?_)
  exact congrArg (fun i : (⟨2, ![1024, 384]⟩ : Shape).Idx => nP m c (i 0) (i 1)) (a₁ := ix2 _ _) (a₂ := ix2 _ _) (by blk_ext [tile, idx t])
theorem outs7_ix : (outsAt0 m c t).2.2.2 (ix3 z r l) = nQ m c ⟨256 * (tile t).val + r.val, by omega⟩ l := by
  unfold outsAt0
  dsimp only
  rw [out0_A_7_eq]
  exact (lift2_ix z r l _).trans ((newV_ix r l _ _).trans (congrArg₂ Cert.Adam.newV (grad_ix m c t r l) (blk3 m c t r l)))
theorem arr7 : (dats m 0 c).arrAt 7 cfg0.N = fun i => nQ m c (i 1) (i 2) := by
  refine (dats m 0 c).arrAt_eq_of_covers 7 _ (by decide +kernel) fun t hf y => ?_
  blk_simp
  rw [after0_7]
  refine (congrArg _ (eq_ix3 _)).trans ((outs7_ix m c t _ _ _).trans ?_)
  exact congrArg (fun i : (⟨2, ![1024, 384]⟩ : Shape).Idx => nQ m c (i 0) (i 1)) (a₁ := ix2 _ _) (a₂ := ix2 _ _) (by blk_ext [tile, idx t])

end
end Cert.AdamWKvIdeal.Gen

end
-- ==== Proof.AdamClaim.lean ====
/-
  The claims about the optimiser's calls: each reference's frame, and that kernel and reference compute the same
  gradient, change of the weight and new moments over the extended reals.
-/
module

public import proofs.«01_k».proof.Defs
public import proofs.«01_k».proof.Proof.AdamNormGValue
public import proofs.«01_k».proof.Proof.AdamConvWValue
public import proofs.«01_k».proof.Proof.AdamGainValue
public import proofs.«01_k».proof.Proof.AdamAdaBValue
public import proofs.«01_k».proof.Proof.AdamKvAdaBValue
public import proofs.«01_k».proof.Proof.AdamAdaWValue
public import proofs.«01_k».proof.Proof.AdamKvAdaWValue
public import proofs.«01_k».proof.Proof.AdamWKvValue
public import proofs.«01_k».proof.Proof.Gen.AdamNormGRefIdeal.Run
public import proofs.«01_k».proof.Proof.Gen.AdamConvWRefIdeal.Run
public import proofs.«01_k».proof.Proof.Gen.AdamGainRefIdeal.Run
public import proofs.«01_k».proof.Proof.Gen.AdamAdaBRefIdeal.Run
public import proofs.«01_k».proof.Proof.Gen.AdamKvAdaBRefIdeal.Run
public import proofs.«01_k».proof.Proof.Gen.AdamAdaWRefIdeal.Run
public import proofs.«01_k».proof.Proof.Gen.AdamKvAdaWRefIdeal.Run
public import proofs.«01_k».proof.Proof.Gen.AdamWKvRefIdeal.Run
public import Idealize.ShloMosaic.Lib.Quiescent

@[expose] public section

set_option maxRecDepth 16384

noncomputable section

namespace Cert.Proof.Adam

open Idealize.ShloMosaic Idealize.SL.Sem Idealize.ShloMosaic.TcCoe Idealize.ShloMosaic.Tactic

/-! ### `norm_g` -/

section
local instance : Cert.AdamNormGIdeal.Facts := Cert.AdamNormGIdeal.Gen.facts
local instance : Cert.AdamNormGRefIdeal.Facts := Cert.AdamNormGRefIdeal.Gen.facts

theorem frame_NormG : Cert.quiescent_AdamNormGRefIdeal := fun m ρ _ =>
  (θ_run Cert.AdamNormGRefIdeal.defs _ _).mono (fun r h => ⟨fun c => (h c).2.2.2.2, sem_eq_zero_of_no_sems (by decide) r.2⟩)
    (Cert.AdamNormGRefIdeal.Value.run (F := Ideal) m ρ)

section
variable (g w p q : FVec Ideal Cert.AdamNormGRefIdeal.S12x128 .f32) (a : Fin 12) (b : Fin 128)
theorem ref_NormG_g (x : FVec Ideal Cert.AdamNormGRefIdeal.S8x12x128 .f32) :
    Host.reduceAdd (F := Ideal) x (constant Cert.AdamNormGRefIdeal.S_ .f32 0x00000000#32) Cert.AdamNormGRefIdeal.Gen.reducesTo_S8x12x128_S12x128_d0 Cert.AdamNormGRefIdeal.Gen.h_S_ (ValueIdx.ix2 a b) = ∑ s : Fin 8, x (ValueIdx.ix3 s a b) := by
  pointwise []
  rfl
theorem ref_NormG_p : (addf (mulf (broadcastInDim Cert.AdamNormGRefIdeal.S12x128 ![] Cert.AdamNormGRefIdeal.Gen.bcast_S_S12x128 (constant Cert.AdamNormGRefIdeal.S_ .f32 0x3F666666#32)) p) (mulf (broadcastInDim Cert.AdamNormGRefIdeal.S12x128 ![] Cert.AdamNormGRefIdeal.Gen.bcast_S_S12x128 (constant Cert.AdamNormGRefIdeal.S_ .f32 0x3DCCCCCD#32)) (g)) : FVec Ideal Cert.AdamNormGRefIdeal.S12x128 .f32) (ValueIdx.ix2 a b) = Cert.Adam.newM (g (ValueIdx.ix2 a b)) (p (ValueIdx.ix2 a b)) := by
  pointwise []
  rfl
theorem ref_NormG_q : (addf (mulf (broadcastInDim Cert.AdamNormGRefIdeal.S12x128 ![] Cert.AdamNormGRefIdeal.Gen.bcast_S_S12x128 (constant Cert.AdamNormGRefIdeal.S_ .f32 0x3F7FBE77#32)) q) (mulf (broadcastInDim Cert.AdamNormGRefIdeal.S12x128 ![] Cert.AdamNormGRefIdeal.Gen.bcast_S_S12x128 (constant Cert.AdamNormGRefIdeal.S_ .f32 0x3A83126F#32)) (mulf (g) (g))) : FVec Ideal Cert.AdamNormGRefIdeal.S12x128 .f32) (ValueIdx.ix2 a b) = Cert.Adam.newV (g (ValueIdx.ix2 a b)) (q (ValueIdx.ix2 a b)) := by
  pointwise []
  rfl
theorem ref_NormG_d : (mulf (broadcastInDim Cert.AdamNormGRefIdeal.S12x128 ![] Cert.AdamNormGRefIdeal.Gen.bcast_S_S12x128 (constant Cert.AdamNormGRefIdeal.S_ .f32 0xBA83126F#32)) (addf (Host.divf (Host.divf (addf (mulf (broadcastInDim Cert.AdamNormGRefIdeal.S12x128 ![] Cert.AdamNormGRefIdeal.Gen.bcast_S_S12x128 (constant Cert.AdamNormGRefIdeal.S_ .f32 0x3F666666#32)) p) (mulf (broadcastInDim Cert.AdamNormGRefIdeal.S12x128 ![] Cert.AdamNormGRefIdeal.Gen.bcast_S_S12x128 (constant Cert.AdamNormGRefIdeal.S_ .f32 0x3DCCCCCD#32)) (g))) (broadcastInDim Cert.AdamNormGRefIdeal.S12x128 ![] Cert.AdamNormGRefIdeal.Gen.bcast_S_S12x128 (constant Cert.AdamNormGRefIdeal.S_ .f32 0x3F26BD02#32))) (addf (Host.sqrt (Host.divf (addf (mulf (broadcastInDim Cert.AdamNormGRefIdeal.S12x128 ![] Cert.AdamNormGRefIdeal.Gen.bcast_S_S12x128 (constant Cert.AdamNormGRefIdeal.S_ .f32 0x3F7FBE77#32)) q) (mulf (broadcastInDim Cert.AdamNormGRefIdeal.S12x128 ![] Cert.AdamNormGRefIdeal.Gen.bcast_S_S12x128 (constant Cert.AdamNormGRefIdeal.S_ .f32 0x3A83126F#32)) (mulf (g) (g)))) (broadcastInDim Cert.AdamNormGRefIdeal.S12x128 ![] Cert.AdamNormGRefIdeal.Gen.bcast_S_S12x128 (constant Cert.AdamNormGRefIdeal.S_ .f32 0x3C231ACC#32)))) (broadcastInDim Cert.AdamNormGRefIdeal.S12x128 ![] Cert.AdamNormGRefIdeal.Gen.bcast_S_S12x128 (constant Cert.AdamNormGRefIdeal.S_ .f32 0x322BCC77#32)))) (mulf (broadcastInDim Cert.AdamNormGRefIdeal.S12x128 ![] Cert.AdamNormGRefIdeal.Gen.bcast_S_S12x128 (constant Cert.AdamNormGRefIdeal.S_ .f32 0x3C23D70A#32)) w)) : FVec Ideal Cert.AdamNormGRefIdeal.S12x128 .f32) (ValueIdx.ix2 a b) = Cert.Adam.delta (g (ValueIdx.ix2 a b)) (w (ValueIdx.ix2 a b)) (p (ValueIdx.ix2 a b)) (q (ValueIdx.ix2 a b)) := by
  pointwise []
  rfl
end

theorem algebraic_NormG : Cert.algebraic_AdamNormGIdeal_AdamNormGRefIdeal := by
  intro m ρ m' ρ' _ hag
  refine ⟨fun c => fun i => Cert.AdamNormGIdeal.Gen.G m c (i 0) (i 1), fun c => fun i => Cert.AdamNormGIdeal.Gen.dW m c (i 0) (i 1),
    fun c => fun i => Cert.AdamNormGIdeal.Gen.nP m c (i 0) (i 1), fun c => fun i => Cert.AdamNormGIdeal.Gen.nQ m c (i 0) (i 1), ?_, ?_⟩
  · refine (θ_run Cert.AdamNormGIdeal.defs _ _).mono (fun r h c => ?_) (Cert.AdamNormGIdeal.Value.run_blocks (F := Ideal) m ρ)
    obtain ⟨h4, h5, h6, h7, hk⟩ := h c
    exact ⟨h4.trans (Cert.AdamNormGIdeal.Gen.arr4 m c), h5.trans (Cert.AdamNormGIdeal.Gen.arr5 m c), h6.trans (Cert.AdamNormGIdeal.Gen.arr6 m c), h7.trans (Cert.AdamNormGIdeal.Gen.arr7 m c), hk⟩
  · refine (θ_run Cert.AdamNormGRefIdeal.defs _ _).mono (fun r h c => ?_) (Cert.AdamNormGRefIdeal.Value.run (F := Ideal) m' ρ')
    obtain ⟨h0, h1, h2, h3, hk⟩ := h c
    obtain ⟨e0, e1, e2, e3⟩ := hag c
    refine ⟨h0.trans (funext fun i => ?_), h1.trans (funext fun i => ?_), h2.trans (funext fun i => ?_), h3.trans (funext fun i => ?_), hk⟩
    · obtain ⟨a, b, rfl⟩ : ∃ (a : Fin 12) (b : Fin 128), i = ValueIdx.ix2 a b := ⟨_, _, ValueIdx.eq_ix2 i⟩
      exact ((ref_NormG_g _ _ _).trans (Finset.sum_congr rfl fun s _ => congrFun e0 _))
    · obtain ⟨a, b, rfl⟩ : ∃ (a : Fin 12) (b : Fin 128), i = ValueIdx.ix2 a b := ⟨_, _, ValueIdx.eq_ix2 i⟩
      exact (ref_NormG_d _ _ _ _ _ _).trans (Cert.Adam.delta_congr ((ref_NormG_g _ _ _).trans (Finset.sum_congr rfl fun s _ => congrFun e0 _)) (congrFun e1 _) (congrFun e2 _) (congrFun e3 _))
    · obtain ⟨a, b, rfl⟩ : ∃ (a : Fin 12) (b : Fin 128), i = ValueIdx.ix2 a b := ⟨_, _, ValueIdx.eq_ix2 i⟩
      exact (ref_NormG_p _ _ _ _).trans (congrArg₂ Cert.Adam.newM ((ref_NormG_g _ _ _).trans (Finset.sum_congr rfl fun s _ => congrFun e0 _)) (congrFun e2 _))
    · obtain ⟨a, b, rfl⟩ : ∃ (a : Fin 12) (b : Fin 128), i = ValueIdx.ix2 a b := ⟨_, _, ValueIdx.eq_ix2 i⟩
      exact (ref_NormG_q _ _ _ _).trans (congrArg₂ Cert.Adam.newV ((ref_NormG_g _ _ _).trans (Finset.sum_congr rfl fun s _ => congrFun e0 _)) (congrFun e3 _))

end

/-! ### `conv_w` -/

section
local instance : Cert.AdamConvWIdeal.Facts := Cert.AdamConvWIdeal.Gen.facts
local instance : Cert.AdamConvWRefIdeal.Facts := Cert.AdamConvWRefIdeal.Gen.facts

theorem frame_ConvW : Cert.quiescent_AdamConvWRefIdeal := fun m ρ _ =>
  (θ_run Cert.AdamConvWRefIdeal.defs _ _).mono (fun r h => ⟨fun c => (h c).2.2.2.2, sem_eq_zero_of_no_sems (by decide) r.2⟩)
    (Cert.AdamConvWRefIdeal.Value.run (F := Ideal) m ρ)

section
variable (g w p q : FVec Ideal Cert.AdamConvWRefIdeal.S6x128 .f32) (a : Fin 6) (b : Fin 128)
theorem ref_ConvW_g (x : FVec Ideal Cert.AdamConvWRefIdeal.S8x6x128 .f32) :
    Host.reduceAdd (F := Ideal) x (constant Cert.AdamConvWRefIdeal.S_ .f32 0x00000000#32) Cert.AdamConvWRefIdeal.Gen.reducesTo_S8x6x128_S6x128_d0 Cert.AdamConvWRefIdeal.Gen.h_S_ (ValueIdx.ix2 a b) = ∑ s : Fin 8, x (ValueIdx.ix3 s a b) := by
  pointwise []
  rfl
theorem ref_ConvW_p : (addf (mulf (broadcastInDim Cert.AdamConvWRefIdeal.S6x128 ![] Cert.AdamConvWRefIdeal.Gen.bcast_S_S6x128 (constant Cert.AdamConvWRefIdeal.S_ .f32 0x3F666666#32)) p) (mulf (broadcastInDim Cert.AdamConvWRefIdeal.S6x128 ![] Cert.AdamConvWRefIdeal.Gen.bcast_S_S6x128 (constant Cert.AdamConvWRefIdeal.S_ .f32 0x3DCCCCCD#32)) (g)) : FVec Ideal Cert.AdamConvWRefIdeal.S6x128 .f32) (ValueIdx.ix2 a b) = Cert.Adam.newM (g (ValueIdx.ix2 a b)) (p (ValueIdx.ix2 a b)) := by
  pointwise []
  rfl
theorem ref_ConvW_q : (addf (mulf (broadcastInDim Cert.AdamConvWRefIdeal.S6x128 ![] Cert.AdamConvWRefIdeal.Gen.bcast_S_S6x128 (constant Cert.AdamConvWRefIdeal.S_ .f32 0x3F7FBE77#32)) q) (mulf (broadcastInDim Cert.AdamConvWRefIdeal.S6x128 ![] Cert.AdamConvWRefIdeal.Gen.bcast_S_S6x128 (constant Cert.AdamConvWRefIdeal.S_ .f32 0x3A83126F#32)) (mulf (g) (g))) : FVec Ideal Cert.AdamConvWRefIdeal.S6x128 .f32) (ValueIdx.ix2 a b) = Cert.Adam.newV (g (ValueIdx.ix2 a b)) (q (ValueIdx.ix2 a b)) := by
  pointwise []
  rfl
theorem ref_ConvW_d : (mulf (broadcastInDim Cert.AdamConvWRefIdeal.S6x128 ![] Cert.AdamConvWRefIdeal.Gen.bcast_S_S6x128 (constant Cert.AdamConvWRefIdeal.S_ .f32 0xBA83126F#32)) (addf (Host.divf (Host.divf (addf (mulf (broadcastInDim Cert.AdamConvWRefIdeal.S6x128 ![] Cert.AdamConvWRefIdeal.Gen.bcast_S_S6x128 (constant Cert.AdamConvWRefIdeal.S_ .f32 0x3F666666#32)) p) (mulf (broadcastInDim Cert.AdamConvWRefIdeal.S6x128 ![] Cert.AdamConvWRefIdeal.Gen.bcast_S_S6x128 (constant Cert.AdamConvWRefIdeal.S_ .f32 0x3DCCCCCD#32)) (g))) (broadcastInDim Cert.AdamConvWRefIdeal.S6x128 ![] Cert.AdamConvWRefIdeal.Gen.bcast_S_S6x128 (constant Cert.AdamConvWRefIdeal.S_ .f32 0x3F26BD02#32))) (addf (Host.sqrt (Host.divf (addf (mulf (broadcastInDim Cert.AdamConvWRefIdeal.S6x128 ![] Cert.AdamConvWRefIdeal.Gen.bcast_S_S6x128 (constant Cert.AdamConvWRefIdeal.S_ .f32 0x3F7FBE77#32)) q) (mulf (broadcastInDim Cert.AdamConvWRefIdeal.S6x128 ![] Cert.AdamConvWRefIdeal.Gen.bcast_S_S6x128 (constant Cert.AdamConvWRefIdeal.S_ .f32 0x3A83126F#32)) (mulf (g) (g)))) (broadcastInDim Cert.AdamConvWRefIdeal.S6x128 ![] Cert.AdamConvWRefIdeal.Gen.bcast_S_S6x128 (constant Cert.AdamConvWRefIdeal.S_ .f32 0x3C231ACC#32)))) (broadcastInDim Cert.AdamConvWRefIdeal.S6x128 ![] Cert.AdamConvWRefIdeal.Gen.bcast_S_S6x128 (constant Cert.AdamConvWRefIdeal.S_ .f32 0x322BCC77#32)))) (mulf (broadcastInDim Cert.AdamConvWRefIdeal.S6x128 ![] Cert.AdamConvWRefIdeal.Gen.bcast_S_S6x128 (constant Cert.AdamConvWRefIdeal.S_ .f32 0x3C23D70A#32)) w)) : FVec Ideal Cert.AdamConvWRefIdeal.S6x128 .f32) (ValueIdx.ix2 a b) = Cert.Adam.delta (g (ValueIdx.ix2 a b)) (w (ValueIdx.ix2 a b)) (p (ValueIdx.ix2 a b)) (q (ValueIdx.ix2 a b)) := by
  pointwise []
  rfl
end

theorem algebraic_ConvW : Cert.algebraic_AdamConvWIdeal_AdamConvWRefIdeal := by
  intro m ρ m' ρ' _ hag
  refine ⟨fun c => fun i => Cert.AdamConvWIdeal.Gen.G m c (i 0) (i 1), fun c => fun i => Cert.AdamConvWIdeal.Gen.dW m c (i 0) (i 1),
    fun c => fun i => Cert.AdamConvWIdeal.Gen.nP m c (i 0) (i 1), fun c => fun i => Cert.AdamConvWIdeal.Gen.nQ m c (i 0) (i 1), ?_, ?_⟩
  · refine (θ_run Cert.AdamConvWIdeal.defs _ _).mono (fun r h c => ?_) (Cert.AdamConvWIdeal.Value.run_blocks (F := Ideal) m ρ)
    obtain ⟨h4, h5, h6, h7, hk⟩ := h c
    exact ⟨h4.trans (Cert.AdamConvWIdeal.Gen.arr4 m c), h5.trans (Cert.AdamConvWIdeal.Gen.arr5 m c), h6.trans (Cert.AdamConvWIdeal.Gen.arr6 m c), h7.trans (Cert.AdamConvWIdeal.Gen.arr7 m c), hk⟩
  · refine (θ_run Cert.AdamConvWRefIdeal.defs _ _).mono (fun r h c => ?_) (Cert.AdamConvWRefIdeal.Value.run (F := Ideal) m' ρ')
    obtain ⟨h0, h1, h2, h3, hk⟩ := h c
    obtain ⟨e0, e1, e2, e3⟩ := hag c
    refine ⟨h0.trans (funext fun i => ?_), h1.trans (funext fun i => ?_), h2.trans (funext fun i => ?_), h3.trans (funext fun i => ?_), hk⟩
    · obtain ⟨a, b, rfl⟩ : ∃ (a : Fin 6) (b : Fin 128), i = ValueIdx.ix2 a b := ⟨_, _, ValueIdx.eq_ix2 i⟩
      exact ((ref_ConvW_g _ _ _).trans (Finset.sum_congr rfl fun s _ => congrFun e0 _))
    · obtain ⟨a, b, rfl⟩ : ∃ (a : Fin 6) (b : Fin 128), i = ValueIdx.ix2 a b := ⟨_, _, ValueIdx.eq_ix2 i⟩
      exact (ref_ConvW_d _ _ _ _ _ _).trans (Cert.Adam.delta_congr ((ref_ConvW_g _ _ _).trans (Finset.sum_congr rfl fun s _ => congrFun e0 _)) (congrFun e1 _) (congrFun e2 _) (congrFun e3 _))
    · obtain ⟨a, b, rfl⟩ : ∃ (a : Fin 6) (b : Fin 128), i = ValueIdx.ix2 a b := ⟨_, _, ValueIdx.eq_ix2 i⟩
      exact (ref_ConvW_p _ _ _ _).trans (congrArg₂ Cert.Adam.newM ((ref_ConvW_g _ _ _).trans (Finset.sum_congr rfl fun s _ => congrFun e0 _)) (congrFun e2 _))
    · obtain ⟨a, b, rfl⟩ : ∃ (a : Fin 6) (b : Fin 128), i = ValueIdx.ix2 a b := ⟨_, _, ValueIdx.eq_ix2 i⟩
      exact (ref_ConvW_q _ _ _ _).trans (congrArg₂ Cert.Adam.newV ((ref_ConvW_g _ _ _).trans (Finset.sum_congr rfl fun s _ => congrFun e0 _)) (congrFun e3 _))

end

/-! ### `gain` -/

section
local instance : Cert.AdamGainIdeal.Facts := Cert.AdamGainIdeal.Gen.facts
local instance : Cert.AdamGainRefIdeal.Facts := Cert.AdamGainRefIdeal.Gen.facts

theorem frame_Gain : Cert.quiescent_AdamGainRefIdeal := fun m ρ _ =>
  (θ_run Cert.AdamGainRefIdeal.defs _ _).mono (fun r h => ⟨fun c => (h c).2.2.2.2, sem_eq_zero_of_no_sems (by decide) r.2⟩)
    (Cert.AdamGainRefIdeal.Value.run (F := Ideal) m ρ)

section
variable (g w p q : FVec Ideal Cert.AdamGainRefIdeal.S1x1024 .f32) (a : Fin 1) (b : Fin 1024)
theorem ref_Gain_g (x : FVec Ideal Cert.AdamGainRefIdeal.S8x1x1024 .f32) :
    Host.reduceAdd (F := Ideal) x (constant Cert.AdamGainRefIdeal.S_ .f32 0x00000000#32) Cert.AdamGainRefIdeal.Gen.reducesTo_S8x1x1024_S1x1024_d0 Cert.AdamGainRefIdeal.Gen.h_S_ (ValueIdx.ix2 a b) = ∑ s : Fin 8, x (ValueIdx.ix3 s a b) := by
  obtain rfl : a = 0 := Subsingleton.elim _ _
  pointwise []
  rfl
theorem ref_Gain_p : (addf (mulf (broadcastInDim Cert.AdamGainRefIdeal.S1x1024 ![] Cert.AdamGainRefIdeal.Gen.bcast_S_S1x1024 (constant Cert.AdamGainRefIdeal.S_ .f32 0x3F666666#32)) p) (mulf (broadcastInDim Cert.AdamGainRefIdeal.S1x1024 ![] Cert.AdamGainRefIdeal.Gen.bcast_S_S1x1024 (constant Cert.AdamGainRefIdeal.S_ .f32 0x3DCCCCCD#32)) (g)) : FVec Ideal Cert.AdamGainRefIdeal.S1x1024 .f32) (ValueIdx.ix2 a b) = Cert.Adam.newM (g (ValueIdx.ix2 a b)) (p (ValueIdx.ix2 a b)) := by
  pointwise []
  rfl
theorem ref_Gain_q : (addf (mulf (broadcastInDim Cert.AdamGainRefIdeal.S1x1024 ![] Cert.AdamGainRefIdeal.Gen.bcast_S_S1x1024 (constant Cert.AdamGainRefIdeal.S_ .f32 0x3F7FBE77#32)) q) (mulf (broadcastInDim Cert.AdamGainRefIdeal.S1x1024 ![] Cert.AdamGainRefIdeal.Gen.bcast_S_S1x1024 (constant Cert.AdamGainRefIdeal.S_ .f32 0x3A83126F#32)) (mulf (g) (g))) : FVec Ideal Cert.AdamGainRefIdeal.S1x1024 .f32) (ValueIdx.ix2 a b) = Cert.Adam.newV (g (ValueIdx.ix2 a b)) (q (ValueIdx.ix2 a b)) := by
  pointwise []
  rfl
theorem ref_Gain_d : (mulf (broadcastInDim Cert.AdamGainRefIdeal.S1x1024 ![] Cert.AdamGainRefIdeal.Gen.bcast_S_S1x1024 (constant Cert.AdamGainRefIdeal.S_ .f32 0xBA83126F#32)) (addf (Host.divf (Host.divf (addf (mulf (broadcastInDim Cert.AdamGainRefIdeal.S1x1024 ![] Cert.AdamGainRefIdeal.Gen.bcast_S_S1x1024 (constant Cert.AdamGainRefIdeal.S_ .f32 0x3F666666#32)) p) (mulf (broadcastInDim Cert.AdamGainRefIdeal.S1x1024 ![] Cert.AdamGainRefIdeal.Gen.bcast_S_S1x1024 (constant Cert.AdamGainRefIdeal.S_ .f32 0x3DCCCCCD#32)) (g))) (broadcastInDim Cert.AdamGainRefIdeal.S1x1024 ![] Cert.AdamGainRefIdeal.Gen.bcast_S_S1x1024 (constant Cert.AdamGainRefIdeal.S_ .f32 0x3F26BD02#32))) (addf (Host.sqrt (Host.divf (addf (mulf (broadcastInDim Cert.AdamGainRefIdeal.S1x1024 ![] Cert.AdamGainRefIdeal.Gen.bcast_S_S1x1024 (constant Cert.AdamGainRefIdeal.S_ .f32 0x3F7FBE77#32)) q) (mulf (broadcastInDim Cert.AdamGainRefIdeal.S1x1024 ![] Cert.AdamGainRefIdeal.Gen.bcast_S_S1x1024 (constant Cert.AdamGainRefIdeal.S_ .f32 0x3A83126F#32)) (mulf (g) (g)))) (broadcastInDim Cert.AdamGainRefIdeal.S1x1024 ![] Cert.AdamGainRefIdeal.Gen.bcast_S_S1x1024 (constant Cert.AdamGainRefIdeal.S_ .f32 0x3C231ACC#32)))) (broadcastInDim Cert.AdamGainRefIdeal.S1x1024 ![] Cert.AdamGainRefIdeal.Gen.bcast_S_S1x1024 (constant Cert.AdamGainRefIdeal.S_ .f32 0x322BCC77#32)))) (mulf (broadcastInDim Cert.AdamGainRefIdeal.S1x1024 ![] Cert.AdamGainRefIdeal.Gen.bcast_S_S1x1024 (constant Cert.AdamGainRefIdeal.S_ .f32 0x3C23D70A#32)) w)) : FVec Ideal Cert.AdamGainRefIdeal.S1x1024 .f32) (ValueIdx.ix2 a b) = Cert.Adam.delta (g (ValueIdx.ix2 a b)) (w (ValueIdx.ix2 a b)) (p (ValueIdx.ix2 a b)) (q (ValueIdx.ix2 a b)) := by
  pointwise []
  rfl
end

theorem algebraic_Gain : Cert.algebraic_AdamGainIdeal_AdamGainRefIdeal := by
  intro m ρ m' ρ' _ hag
  refine ⟨fun c => fun i => Cert.AdamGainIdeal.Gen.G m c (i 0) (i 1), fun c => fun i => Cert.AdamGainIdeal.Gen.dW m c (i 0) (i 1),
    fun c => fun i => Cert.AdamGainIdeal.Gen.nP m c (i 0) (i 1), fun c => fun i => Cert.AdamGainIdeal.Gen.nQ m c (i 0) (i 1), ?_, ?_⟩
  · refine (θ_run Cert.AdamGainIdeal.defs _ _).mono (fun r h c => ?_) (Cert.AdamGainIdeal.Value.run_blocks (F := Ideal) m ρ)
    obtain ⟨h4, h5, h6, h7, hk⟩ := h c
    exact ⟨h4.trans (Cert.AdamGainIdeal.Gen.arr4 m c), h5.trans (Cert.AdamGainIdeal.Gen.arr5 m c), h6.trans (Cert.AdamGainIdeal.Gen.arr6 m c), h7.trans (Cert.AdamGainIdeal.Gen.arr7 m c), hk⟩
  · refine (θ_run Cert.AdamGainRefIdeal.defs _ _).mono (fun r h c => ?_) (Cert.AdamGainRefIdeal.Value.run (F := Ideal) m' ρ')
    obtain ⟨h0, h1, h2, h3, hk⟩ := h c
    obtain ⟨e0, e1, e2, e3⟩ := hag c
    refine ⟨h0.trans (funext fun i => ?_), h1.trans (funext fun i => ?_), h2.trans (funext fun i => ?_), h3.trans (funext fun i => ?_), hk⟩
    · obtain ⟨a, b, rfl⟩ : ∃ (a : Fin 1) (b : Fin 1024), i = ValueIdx.ix2 a b := ⟨_, _, ValueIdx.eq_ix2 i⟩
      exact ((ref_Gain_g _ _ _).trans (Finset.sum_congr rfl fun s _ => congrFun e0 _))
    · obtain ⟨a, b, rfl⟩ : ∃ (a : Fin 1) (b : Fin 1024), i = ValueIdx.ix2 a b := ⟨_, _, ValueIdx.eq_ix2 i⟩
      exact (ref_Gain_d _ _ _ _ _ _).trans (Cert.Adam.delta_congr ((ref_Gain_g _ _ _).trans (Finset.sum_congr rfl fun s _ => congrFun e0 _)) (congrFun e1 _) (congrFun e2 _) (congrFun e3 _))
    · obtain ⟨a, b, rfl⟩ : ∃ (a : Fin 1) (b : Fin 1024), i = ValueIdx.ix2 a b := ⟨_, _, ValueIdx.eq_ix2 i⟩
      exact (ref_Gain_p _ _ _ _).trans (congrArg₂ Cert.Adam.newM ((ref_Gain_g _ _ _).trans (Finset.sum_congr rfl fun s _ => congrFun e0 _)) (congrFun e2 _))
    · obtain ⟨a, b, rfl⟩ : ∃ (a : Fin 1) (b : Fin 1024), i = ValueIdx.ix2 a b := ⟨_, _, ValueIdx.eq_ix2 i⟩
      exact (ref_Gain_q _ _ _ _).trans (congrArg₂ Cert.Adam.newV ((ref_Gain_g _ _ _).trans (Finset.sum_congr rfl fun s _ => congrFun e0 _)) (congrFun e3 _))

end

/-! ### `ada_b` -/

section
local instance : Cert.AdamAdaBIdeal.Facts := Cert.AdamAdaBIdeal.Gen.facts
local instance : Cert.AdamAdaBRefIdeal.Facts := Cert.AdamAdaBRefIdeal.Gen.facts

theorem frame_AdaB : Cert.quiescent_AdamAdaBRefIdeal := fun m ρ _ =>
  (θ_run Cert.AdamAdaBRefIdeal.defs _ _).mono (fun r h => ⟨fun c => (h c).2.2.2.2, sem_eq_zero_of_no_sems (by decide) r.2⟩)
    (Cert.AdamAdaBRefIdeal.Value.run (F := Ideal) m ρ)

section
variable (g w p q : FVec Ideal Cert.AdamAdaBRefIdeal.S4x9216 .f32) (a : Fin 4) (b : Fin 9216)
theorem ref_AdaB_g (x : FVec Ideal Cert.AdamAdaBRefIdeal.S8x4x9216 .f32) :
    Host.reduceAdd (F := Ideal) x (constant Cert.AdamAdaBRefIdeal.S_ .f32 0x00000000#32) Cert.AdamAdaBRefIdeal.Gen.reducesTo_S8x4x9216_S4x9216_d0 Cert.AdamAdaBRefIdeal.Gen.h_S_ (ValueIdx.ix2 a b) = ∑ s : Fin 8, x (ValueIdx.ix3 s a b) := by
  pointwise []
  rfl
theorem ref_AdaB_p : (addf (mulf (broadcastInDim Cert.AdamAdaBRefIdeal.S4x9216 ![] Cert.AdamAdaBRefIdeal.Gen.bcast_S_S4x9216 (constant Cert.AdamAdaBRefIdeal.S_ .f32 0x3F666666#32)) p) (mulf (broadcastInDim Cert.AdamAdaBRefIdeal.S4x9216 ![] Cert.AdamAdaBRefIdeal.Gen.bcast_S_S4x9216 (constant Cert.AdamAdaBRefIdeal.S_ .f32 0x3DCCCCCD#32)) (g)) : FVec Ideal Cert.AdamAdaBRefIdeal.S4x9216 .f32) (ValueIdx.ix2 a b) = Cert.Adam.newM (g (ValueIdx.ix2 a b)) (p (ValueIdx.ix2 a b)) := by
  pointwise []
  rfl
theorem ref_AdaB_q : (addf (mulf (broadcastInDim Cert.AdamAdaBRefIdeal.S4x9216 ![] Cert.AdamAdaBRefIdeal.Gen.bcast_S_S4x9216 (constant Cert.AdamAdaBRefIdeal.S_ .f32 0x3F7FBE77#32)) q) (mulf (broadcastInDim Cert.AdamAdaBRefIdeal.S4x9216 ![] Cert.AdamAdaBRefIdeal.Gen.bcast_S_S4x9216 (constant Cert.AdamAdaBRefIdeal.S_ .f32 0x3A83126F#32)) (mulf (g) (g))) : FVec Ideal Cert.AdamAdaBRefIdeal.S4x9216 .f32) (ValueIdx.ix2 a b) = Cert.Adam.newV (g (ValueIdx.ix2 a b)) (q (ValueIdx.ix2 a b)) := by
  pointwise []
  rfl
theorem ref_AdaB_d : (mulf (broadcastInDim Cert.AdamAdaBRefIdeal.S4x9216 ![] Cert.AdamAdaBRefIdeal.Gen.bcast_S_S4x9216 (constant Cert.AdamAdaBRefIdeal.S_ .f32 0xBA83126F#32)) (addf (Host.divf (Host.divf (addf (mulf (broadcastInDim Cert.AdamAdaBRefIdeal.S4x9216 ![] Cert.AdamAdaBRefIdeal.Gen.bcast_S_S4x9216 (constant Cert.AdamAdaBRefIdeal.S_ .f32 0x3F666666#32)) p) (mulf (broadcastInDim Cert.AdamAdaBRefIdeal.S4x9216 ![] Cert.AdamAdaBRefIdeal.Gen.bcast_S_S4x9216 (constant Cert.AdamAdaBRefIdeal.S_ .f32 0x3DCCCCCD#32)) (g))) (broadcastInDim Cert.AdamAdaBRefIdeal.S4x9216 ![] Cert.AdamAdaBRefIdeal.Gen.bcast_S_S4x9216 (constant Cert.AdamAdaBRefIdeal.S_ .f32 0x3F26BD02#32))) (addf (Host.sqrt (Host.divf (addf (mulf (broadcastInDim Cert.AdamAdaBRefIdeal.S4x9216 ![] Cert.AdamAdaBRefIdeal.Gen.bcast_S_S4x9216 (constant Cert.AdamAdaBRefIdeal.S_ .f32 0x3F7FBE77#32)) q) (mulf (broadcastInDim Cert.AdamAdaBRefIdeal.S4x9216 ![] Cert.AdamAdaBRefIdeal.Gen.bcast_S_S4x9216 (constant Cert.AdamAdaBRefIdeal.S_ .f32 0x3A83126F#32)) (mulf (g) (g)))) (broadcastInDim Cert.AdamAdaBRefIdeal.S4x9216 ![] Cert.AdamAdaBRefIdeal.Gen.bcast_S_S4x9216 (constant Cert.AdamAdaBRefIdeal.S_ .f32 0x3C231ACC#32)))) (broadcastInDim Cert.AdamAdaBRefIdeal.S4x9216 ![] Cert.AdamAdaBRefIdeal.Gen.bcast_S_S4x9216 (constant Cert.AdamAdaBRefIdeal.S_ .f32 0x322BCC77#32)))) (mulf (broadcastInDim Cert.AdamAdaBRefIdeal.S4x9216 ![] Cert.AdamAdaBRefIdeal.Gen.bcast_S_S4x9216 (constant Cert.AdamAdaBRefIdeal.S_ .f32 0x3C23D70A#32)) w)) : FVec Ideal Cert.AdamAdaBRefIdeal.S4x9216 .f32) (ValueIdx.ix2 a b) = Cert.Adam.delta (g (ValueIdx.ix2 a b)) (w (ValueIdx.ix2 a b)) (p (ValueIdx.ix2 a b)) (q (ValueIdx.ix2 a b)) := by
  pointwise []
  rfl
end

theorem algebraic_AdaB : Cert.algebraic_AdamAdaBIdeal_AdamAdaBRefIdeal := by
  intro m ρ m' ρ' _ hag
  refine ⟨fun c => fun i => Cert.AdamAdaBIdeal.Gen.G m c (i 0) (i 1), fun c => fun i => Cert.AdamAdaBIdeal.Gen.dW m c (i 0) (i 1),
    fun c => fun i => Cert.AdamAdaBIdeal.Gen.nP m c (i 0) (i 1), fun c => fun i => Cert.AdamAdaBIdeal.Gen.nQ m c (i 0) (i 1), ?_, ?_⟩
  · refine (θ_run Cert.AdamAdaBIdeal.defs _ _).mono (fun r h c => ?_) (Cert.AdamAdaBIdeal.Value.run_blocks (F := Ideal) m ρ)
    obtain ⟨h4, h5, h6, h7, hk⟩ := h c
    exact ⟨h4.trans (Cert.AdamAdaBIdeal.Gen.arr4 m c), h5.trans (Cert.AdamAdaBIdeal.Gen.arr5 m c), h6.trans (Cert.AdamAdaBIdeal.Gen.arr6 m c), h7.trans (Cert.AdamAdaBIdeal.Gen.arr7 m c), hk⟩
  · refine (θ_run Cert.AdamAdaBRefIdeal.defs _ _).mono (fun r h c => ?_) (Cert.AdamAdaBRefIdeal.Value.run (F := Ideal) m' ρ')
    obtain ⟨h0, h1, h2, h3, hk⟩ := h c
    obtain ⟨e0, e1, e2, e3⟩ := hag c
    refine ⟨h0.trans (funext fun i => ?_), h1.trans (funext fun i => ?_), h2.trans (funext fun i => ?_), h3.trans (funext fun i => ?_), hk⟩
    · obtain ⟨a, b, rfl⟩ : ∃ (a : Fin 4) (b : Fin 9216), i = ValueIdx.ix2 a b := ⟨_, _, ValueIdx.eq_ix2 i⟩
      exact ((ref_AdaB_g _ _ _).trans (Finset.sum_congr rfl fun s _ => congrFun e0 _))
    · obtain ⟨a, b, rfl⟩ : ∃ (a : Fin 4) (b : Fin 9216), i = ValueIdx.ix2 a b := ⟨_, _, ValueIdx.eq_ix2 i⟩
      exact (ref_AdaB_d _ _ _ _ _ _).trans (Cert.Adam.delta_congr ((ref_AdaB_g _ _ _).trans (Finset.sum_congr rfl fun s _ => congrFun e0 _)) (congrFun e1 _) (congrFun e2 _) (congrFun e3 _))
    · obtain ⟨a, b, rfl⟩ : ∃ (a : Fin 4) (b : Fin 9216), i = ValueIdx.ix2 a b := ⟨_, _, ValueIdx.eq_ix2 i⟩
      exact (ref_AdaB_p _ _ _ _).trans (congrArg₂ Cert.Adam.newM ((ref_AdaB_g _ _ _).trans (Finset.sum_congr rfl fun s _ => congrFun e0 _)) (congrFun e2 _))
    · obtain ⟨a, b, rfl⟩ : ∃ (a : Fin 4) (b : Fin 9216), i = ValueIdx.ix2 a b := ⟨_, _, ValueIdx.eq_ix2 i⟩
      exact (ref_AdaB_q _ _ _ _).trans (congrArg₂ Cert.Adam.newV ((ref_AdaB_g _ _ _).trans (Finset.sum_congr rfl fun s _ => congrFun e0 _)) (congrFun e3 _))

end

/-! ### `kv_ada_b` -/

section
local instance : Cert.AdamKvAdaBIdeal.Facts := Cert.AdamKvAdaBIdeal.Gen.facts
local instance : Cert.AdamKvAdaBRefIdeal.Facts := Cert.AdamKvAdaBRefIdeal.Gen.facts

theorem frame_KvAdaB : Cert.quiescent_AdamKvAdaBRefIdeal := fun m ρ _ =>
  (θ_run Cert.AdamKvAdaBRefIdeal.defs _ _).mono (fun r h => ⟨fun c => (h c).2.2.2.2, sem_eq_zero_of_no_sems (by decide) r.2⟩)
    (Cert.AdamKvAdaBRefIdeal.Value.run (F := Ideal) m ρ)

section
variable (g w p q : FVec Ideal Cert.AdamKvAdaBRefIdeal.S1x2048 .f32) (a : Fin 1) (b : Fin 2048)
theorem ref_KvAdaB_g (x : FVec Ideal Cert.AdamKvAdaBRefIdeal.S8x1x2048 .f32) :
    Host.reduceAdd (F := Ideal) x (constant Cert.AdamKvAdaBRefIdeal.S_ .f32 0x00000000#32) Cert.AdamKvAdaBRefIdeal.Gen.reducesTo_S8x1x2048_S1x2048_d0 Cert.AdamKvAdaBRefIdeal.Gen.h_S_ (ValueIdx.ix2 a b) = ∑ s : Fin 8, x (ValueIdx.ix3 s a b) := by
  obtain rfl : a = 0 := Subsingleton.elim _ _
  pointwise []
  rfl
theorem ref_KvAdaB_p : (addf (mulf (broadcastInDim Cert.AdamKvAdaBRefIdeal.S1x2048 ![] Cert.AdamKvAdaBRefIdeal.Gen.bcast_S_S1x2048 (constant Cert.AdamKvAdaBRefIdeal.S_ .f32 0x3F666666#32)) p) (mulf (broadcastInDim Cert.AdamKvAdaBRefIdeal.S1x2048 ![] Cert.AdamKvAdaBRefIdeal.Gen.bcast_S_S1x2048 (constant Cert.AdamKvAdaBRefIdeal.S_ .f32 0x3DCCCCCD#32)) (g)) : FVec Ideal Cert.AdamKvAdaBRefIdeal.S1x2048 .f32) (ValueIdx.ix2 a b) = Cert.Adam.newM (g (ValueIdx.ix2 a b)) (p (ValueIdx.ix2 a b)) := by
  pointwise []
  rfl
theorem ref_KvAdaB_q : (addf (mulf (broadcastInDim Cert.AdamKvAdaBRefIdeal.S1x2048 ![] Cert.AdamKvAdaBRefIdeal.Gen.bcast_S_S1x2048 (constant Cert.AdamKvAdaBRefIdeal.S_ .f32 0x3F7FBE77#32)) q) (mulf (broadcastInDim Cert.AdamKvAdaBRefIdeal.S1x2048 ![] Cert.AdamKvAdaBRefIdeal.Gen.bcast_S_S1x2048 (constant Cert.AdamKvAdaBRefIdeal.S_ .f32 0x3A83126F#32)) (mulf (g) (g))) : FVec Ideal Cert.AdamKvAdaBRefIdeal.S1x2048 .f32) (ValueIdx.ix2 a b) = Cert.Adam.newV (g (ValueIdx.ix2 a b)) (q (ValueIdx.ix2 a b)) := by
  pointwise []
  rfl
theorem ref_KvAdaB_d : (mulf (broadcastInDim Cert.AdamKvAdaBRefIdeal.S1x2048 ![] Cert.AdamKvAdaBRefIdeal.Gen.bcast_S_S1x2048 (constant Cert.AdamKvAdaBRefIdeal.S_ .f32 0xBA83126F#32)) (addf (Host.divf (Host.divf (addf (mulf (broadcastInDim Cert.AdamKvAdaBRefIdeal.S1x2048 ![] Cert.AdamKvAdaBRefIdeal.Gen.bcast_S_S1x2048 (constant Cert.AdamKvAdaBRefIdeal.S_ .f32 0x3F666666#32)) p) (mulf (broadcastInDim Cert.AdamKvAdaBRefIdeal.S1x2048 ![] Cert.AdamKvAdaBRefIdeal.Gen.bcast_S_S1x2048 (constant Cert.AdamKvAdaBRefIdeal.S_ .f32 0x3DCCCCCD#32)) (g))) (broadcastInDim Cert.AdamKvAdaBRefIdeal.S1x2048 ![] Cert.AdamKvAdaBRefIdeal.Gen.bcast_S_S1x2048 (constant Cert.AdamKvAdaBRefIdeal.S_ .f32 0x3F26BD02#32))) (addf (Host.sqrt (Host.divf (addf (mulf (broadcastInDim Cert.AdamKvAdaBRefIdeal.S1x2048 ![] Cert.AdamKvAdaBRefIdeal.Gen.bcast_S_S1x2048 (constant Cert.AdamKvAdaBRefIdeal.S_ .f32 0x3F7FBE77#32)) q) (mulf (broadcastInDim Cert.AdamKvAdaBRefIdeal.S1x2048 ![] Cert.AdamKvAdaBRefIdeal.Gen.bcast_S_S1x2048 (constant Cert.AdamKvAdaBRefIdeal.S_ .f32 0x3A83126F#32)) (mulf (g) (g)))) (broadcastInDim Cert.AdamKvAdaBRefIdeal.S1x2048 ![] Cert.AdamKvAdaBRefIdeal.Gen.bcast_S_S1x2048 (constant Cert.AdamKvAdaBRefIdeal.S_ .f32 0x3C231ACC#32)))) (broadcastInDim Cert.AdamKvAdaBRefIdeal.S1x2048 ![] Cert.AdamKvAdaBRefIdeal.Gen.bcast_S_S1x2048 (constant Cert.AdamKvAdaBRefIdeal.S_ .f32 0x322BCC77#32)))) (mulf (broadcastInDim Cert.AdamKvAdaBRefIdeal.S1x2048 ![] Cert.AdamKvAdaBRefIdeal.Gen.bcast_S_S1x2048 (constant Cert.AdamKvAdaBRefIdeal.S_ .f32 0x3C23D70A#32)) w)) : FVec Ideal Cert.AdamKvAdaBRefIdeal.S1x2048 .f32) (ValueIdx.ix2 a b) = Cert.Adam.delta (g (ValueIdx.ix2 a b)) (w (ValueIdx.ix2 a b)) (p (ValueIdx.ix2 a b)) (q (ValueIdx.ix2 a b)) := by
  pointwise []
  rfl
end

theorem algebraic_KvAdaB : Cert.algebraic_AdamKvAdaBIdeal_AdamKvAdaBRefIdeal := by
  intro m ρ m' ρ' _ hag
  refine ⟨fun c => fun i => Cert.AdamKvAdaBIdeal.Gen.G m c (i 0) (i 1), fun c => fun i => Cert.AdamKvAdaBIdeal.Gen.dW m c (i 0) (i 1),
    fun c => fun i => Cert.AdamKvAdaBIdeal.Gen.nP m c (i 0) (i 1), fun c => fun i => Cert.AdamKvAdaBIdeal.Gen.nQ m c (i 0) (i 1), ?_, ?_⟩
  · refine (θ_run Cert.AdamKvAdaBIdeal.defs _ _).mono (fun r h c => ?_) (Cert.AdamKvAdaBIdeal.Value.run_blocks (F := Ideal) m ρ)
    obtain ⟨h4, h5, h6, h7, hk⟩ := h c
    exact ⟨h4.trans (Cert.AdamKvAdaBIdeal.Gen.arr4 m c), h5.trans (Cert.AdamKvAdaBIdeal.Gen.arr5 m c), h6.trans (Cert.AdamKvAdaBIdeal.Gen.arr6 m c), h7.trans (Cert.AdamKvAdaBIdeal.Gen.arr7 m c), hk⟩
  · refine (θ_run Cert.AdamKvAdaBRefIdeal.defs _ _).mono (fun r h c => ?_) (Cert.AdamKvAdaBRefIdeal.Value.run (F := Ideal) m' ρ')
    obtain ⟨h0, h1, h2, h3, hk⟩ := h c
    obtain ⟨e0, e1, e2, e3⟩ := hag c
    refine ⟨h0.trans (funext fun i => ?_), h1.trans (funext fun i => ?_), h2.trans (funext fun i => ?_), h3.trans (funext fun i => ?_), hk⟩
    · obtain ⟨a, b, rfl⟩ : ∃ (a : Fin 1) (b : Fin 2048), i = ValueIdx.ix2 a b := ⟨_, _, ValueIdx.eq_ix2 i⟩
      exact ((ref_KvAdaB_g _ _ _).trans (Finset.sum_congr rfl fun s _ => congrFun e0 _))
    · obtain ⟨a, b, rfl⟩ : ∃ (a : Fin 1) (b : Fin 2048), i = ValueIdx.ix2 a b := ⟨_, _, ValueIdx.eq_ix2 i⟩
      exact (ref_KvAdaB_d _ _ _ _ _ _).trans (Cert.Adam.delta_congr ((ref_KvAdaB_g _ _ _).trans (Finset.sum_congr rfl fun s _ => congrFun e0 _)) (congrFun e1 _) (congrFun e2 _) (congrFun e3 _))
    · obtain ⟨a, b, rfl⟩ : ∃ (a : Fin 1) (b : Fin 2048), i = ValueIdx.ix2 a b := ⟨_, _, ValueIdx.eq_ix2 i⟩
      exact (ref_KvAdaB_p _ _ _ _).trans (congrArg₂ Cert.Adam.newM ((ref_KvAdaB_g _ _ _).trans (Finset.sum_congr rfl fun s _ => congrFun e0 _)) (congrFun e2 _))
    · obtain ⟨a, b, rfl⟩ : ∃ (a : Fin 1) (b : Fin 2048), i = ValueIdx.ix2 a b := ⟨_, _, ValueIdx.eq_ix2 i⟩
      exact (ref_KvAdaB_q _ _ _ _).trans (congrArg₂ Cert.Adam.newV ((ref_KvAdaB_g _ _ _).trans (Finset.sum_congr rfl fun s _ => congrFun e0 _)) (congrFun e3 _))

end

/-! ### `ada_w` -/

section
local instance : Cert.AdamAdaWIdeal.Facts := Cert.AdamAdaWIdeal.Gen.facts
local instance : Cert.AdamAdaWRefIdeal.Facts := Cert.AdamAdaWRefIdeal.Gen.facts

theorem frame_AdaW : Cert.quiescent_AdamAdaWRefIdeal := fun m ρ _ =>
  (θ_run Cert.AdamAdaWRefIdeal.defs _ _).mono (fun r h => ⟨fun c => (h c).2.2.2.2, sem_eq_zero_of_no_sems (by decide) r.2⟩)
    (Cert.AdamAdaWRefIdeal.Value.run (F := Ideal) m ρ)

section
variable (g w p q : FVec Ideal Cert.AdamAdaWRefIdeal.S4096x1152 .f32) (a : Fin 4096) (b : Fin 1152)
theorem ref_AdaW_p : (addf (mulf (broadcastInDim Cert.AdamAdaWRefIdeal.S4096x1152 ![] Cert.AdamAdaWRefIdeal.Gen.bcast_S_S4096x1152 (constant Cert.AdamAdaWRefIdeal.S_ .f32 0x3F666666#32)) p) (mulf (broadcastInDim Cert.AdamAdaWRefIdeal.S4096x1152 ![] Cert.AdamAdaWRefIdeal.Gen.bcast_S_S4096x1152 (constant Cert.AdamAdaWRefIdeal.S_ .f32 0x3DCCCCCD#32)) (g)) : FVec Ideal Cert.AdamAdaWRefIdeal.S4096x1152 .f32) (ValueIdx.ix2 a b) = Cert.Adam.newM (g (ValueIdx.ix2 a b)) (p (ValueIdx.ix2 a b)) := by
  pointwise []
  rfl
theorem ref_AdaW_q : (addf (mulf (broadcastInDim Cert.AdamAdaWRefIdeal.S4096x1152 ![] Cert.AdamAdaWRefIdeal.Gen.bcast_S_S4096x1152 (constant Cert.AdamAdaWRefIdeal.S_ .f32 0x3F7FBE77#32)) q) (mulf (broadcastInDim Cert.AdamAdaWRefIdeal.S4096x1152 ![] Cert.AdamAdaWRefIdeal.Gen.bcast_S_S4096x1152 (constant Cert.AdamAdaWRefIdeal.S_ .f32 0x3A83126F#32)) (mulf (g) (g))) : FVec Ideal Cert.AdamAdaWRefIdeal.S4096x1152 .f32) (ValueIdx.ix2 a b) = Cert.Adam.newV (g (ValueIdx.ix2 a b)) (q (ValueIdx.ix2 a b)) := by
  pointwise []
  rfl
theorem ref_AdaW_d : (mulf (broadcastInDim Cert.AdamAdaWRefIdeal.S4096x1152 ![] Cert.AdamAdaWRefIdeal.Gen.bcast_S_S4096x1152 (constant Cert.AdamAdaWRefIdeal.S_ .f32 0xBA83126F#32)) (addf (Host.divf (Host.divf (addf (mulf (broadcastInDim Cert.AdamAdaWRefIdeal.S4096x1152 ![] Cert.AdamAdaWRefIdeal.Gen.bcast_S_S4096x1152 (constant Cert.AdamAdaWRefIdeal.S_ .f32 0x3F666666#32)) p) (mulf (broadcastInDim Cert.AdamAdaWRefIdeal.S4096x1152 ![] Cert.AdamAdaWRefIdeal.Gen.bcast_S_S4096x1152 (constant Cert.AdamAdaWRefIdeal.S_ .f32 0x3DCCCCCD#32)) (g))) (broadcastInDim Cert.AdamAdaWRefIdeal.S4096x1152 ![] Cert.AdamAdaWRefIdeal.Gen.bcast_S_S4096x1152 (constant Cert.AdamAdaWRefIdeal.S_ .f32 0x3F26BD02#32))) (addf (Host.sqrt (Host.divf (addf (mulf (broadcastInDim Cert.AdamAdaWRefIdeal.S4096x1152 ![] Cert.AdamAdaWRefIdeal.Gen.bcast_S_S4096x1152 (constant Cert.AdamAdaWRefIdeal.S_ .f32 0x3F7FBE77#32)) q) (mulf (broadcastInDim Cert.AdamAdaWRefIdeal.S4096x1152 ![] Cert.AdamAdaWRefIdeal.Gen.bcast_S_S4096x1152 (constant Cert.AdamAdaWRefIdeal.S_ .f32 0x3A83126F#32)) (mulf (g) (g)))) (broadcastInDim Cert.AdamAdaWRefIdeal.S4096x1152 ![] Cert.AdamAdaWRefIdeal.Gen.bcast_S_S4096x1152 (constant Cert.AdamAdaWRefIdeal.S_ .f32 0x3C231ACC#32)))) (broadcastInDim Cert.AdamAdaWRefIdeal.S4096x1152 ![] Cert.AdamAdaWRefIdeal.Gen.bcast_S_S4096x1152 (constant Cert.AdamAdaWRefIdeal.S_ .f32 0x322BCC77#32)))) (mulf (broadcastInDim Cert.AdamAdaWRefIdeal.S4096x1152 ![] Cert.AdamAdaWRefIdeal.Gen.bcast_S_S4096x1152 (constant Cert.AdamAdaWRefIdeal.S_ .f32 0x3C23D70A#32)) w)) : FVec Ideal Cert.AdamAdaWRefIdeal.S4096x1152 .f32) (ValueIdx.ix2 a b) = Cert.Adam.delta (g (ValueIdx.ix2 a b)) (w (ValueIdx.ix2 a b)) (p (ValueIdx.ix2 a b)) (q (ValueIdx.ix2 a b)) := by
  pointwise []
  rfl
end

theorem algebraic_AdaW : Cert.algebraic_AdamAdaWIdeal_AdamAdaWRefIdeal := by
  intro m ρ m' ρ' _ hag
  refine ⟨fun c => fun i => Cert.AdamAdaWIdeal.Gen.G m c (i 0) (i 1), fun c => fun i => Cert.AdamAdaWIdeal.Gen.dW m c (i 0) (i 1),
    fun c => fun i => Cert.AdamAdaWIdeal.Gen.nP m c (i 0) (i 1), fun c => fun i => Cert.AdamAdaWIdeal.Gen.nQ m c (i 0) (i 1), ?_, ?_⟩
  · refine (θ_run Cert.AdamAdaWIdeal.defs _ _).mono (fun r h c => ?_) (Cert.AdamAdaWIdeal.Value.run_blocks (F := Ideal) m ρ)
    obtain ⟨h4, h5, h6, h7, hk⟩ := h c
    exact ⟨h4.trans (Cert.AdamAdaWIdeal.Gen.arr4 m c), h5.trans (Cert.AdamAdaWIdeal.Gen.arr5 m c), h6.trans (Cert.AdamAdaWIdeal.Gen.arr6 m c), h7.trans (Cert.AdamAdaWIdeal.Gen.arr7 m c), hk⟩
  · refine (θ_run Cert.AdamAdaWRefIdeal.defs _ _).mono (fun r h c => ?_) (Cert.AdamAdaWRefIdeal.Value.run (F := Ideal) m' ρ')
    obtain ⟨h0, h1, h2, h3, hk⟩ := h c
    obtain ⟨e0, e1, e2, e3⟩ := hag c
    refine ⟨h0.trans (funext fun i => ?_), h1.trans (funext fun i => ?_), h2.trans (funext fun i => ?_), h3.trans (funext fun i => ?_), hk⟩
    · obtain ⟨a, b, rfl⟩ : ∃ (a : Fin 4096) (b : Fin 1152), i = ValueIdx.ix2 a b := ⟨_, _, ValueIdx.eq_ix2 i⟩
      exact (congrFun e0 _)
    · obtain ⟨a, b, rfl⟩ : ∃ (a : Fin 4096) (b : Fin 1152), i = ValueIdx.ix2 a b := ⟨_, _, ValueIdx.eq_ix2 i⟩
      exact (ref_AdaW_d _ _ _ _ _ _).trans (Cert.Adam.delta_congr (congrFun e0 _) (congrFun e1 _) (congrFun e2 _) (congrFun e3 _))
    · obtain ⟨a, b, rfl⟩ : ∃ (a : Fin 4096) (b : Fin 1152), i = ValueIdx.ix2 a b := ⟨_, _, ValueIdx.eq_ix2 i⟩
      exact (ref_AdaW_p _ _ _ _).trans (congrArg₂ Cert.Adam.newM (congrFun e0 _) (congrFun e2 _))
    · obtain ⟨a, b, rfl⟩ : ∃ (a : Fin 4096) (b : Fin 1152), i = ValueIdx.ix2 a b := ⟨_, _, ValueIdx.eq_ix2 i⟩
      exact (ref_AdaW_q _ _ _ _).trans (congrArg₂ Cert.Adam.newV (congrFun e0 _) (congrFun e3 _))

end

/-! ### `kv_ada_w` -/

section
local instance : Cert.AdamKvAdaWIdeal.Facts := Cert.AdamKvAdaWIdeal.Gen.facts
local instance : Cert.AdamKvAdaWRefIdeal.Facts := Cert.AdamKvAdaWRefIdeal.Gen.facts

theorem frame_KvAdaW : Cert.quiescent_AdamKvAdaWRefIdeal := fun m ρ _ =>
  (θ_run Cert.AdamKvAdaWRefIdeal.defs _ _).mono (fun r h => ⟨fun c => (h c).2.2.2.2, sem_eq_zero_of_no_sems (by decide) r.2⟩)
    (Cert.AdamKvAdaWRefIdeal.Value.run (F := Ideal) m ρ)

section
variable (g w p q : FVec Ideal Cert.AdamKvAdaWRefIdeal.S1024x256 .f32) (a : Fin 1024) (b : Fin 256)
theorem ref_KvAdaW_p : (addf (mulf (broadcastInDim Cert.AdamKvAdaWRefIdeal.S1024x256 ![] Cert.AdamKvAdaWRefIdeal.Gen.bcast_S_S1024x256 (constant Cert.AdamKvAdaWRefIdeal.S_ .f32 0x3F666666#32)) p) (mulf (broadcastInDim Cert.AdamKvAdaWRefIdeal.S1024x256 ![] Cert.AdamKvAdaWRefIdeal.Gen.bcast_S_S1024x256 (constant Cert.AdamKvAdaWRefIdeal.S_ .f32 0x3DCCCCCD#32)) (g)) : FVec Ideal Cert.AdamKvAdaWRefIdeal.S1024x256 .f32) (ValueIdx.ix2 a b) = Cert.Adam.newM (g (ValueIdx.ix2 a b)) (p (ValueIdx.ix2 a b)) := by
  pointwise []
  rfl
theorem ref_KvAdaW_q : (addf (mulf (broadcastInDim Cert.AdamKvAdaWRefIdeal.S1024x256 ![] Cert.AdamKvAdaWRefIdeal.Gen.bcast_S_S1024x256 (constant Cert.AdamKvAdaWRefIdeal.S_ .f32 0x3F7FBE77#32)) q) (mulf (broadcastInDim Cert.AdamKvAdaWRefIdeal.S1024x256 ![] Cert.AdamKvAdaWRefIdeal.Gen.bcast_S_S1024x256 (constant Cert.AdamKvAdaWRefIdeal.S_ .f32 0x3A83126F#32)) (mulf (g) (g))) : FVec Ideal Cert.AdamKvAdaWRefIdeal.S1024x256 .f32) (ValueIdx.ix2 a b) = Cert.Adam.newV (g (ValueIdx.ix2 a b)) (q (ValueIdx.ix2 a b)) := by
  pointwise []
  rfl
theorem ref_KvAdaW_d : (mulf (broadcastInDim Cert.AdamKvAdaWRefIdeal.S1024x256 ![] Cert.AdamKvAdaWRefIdeal.Gen.bcast_S_S1024x256 (constant Cert.AdamKvAdaWRefIdeal.S_ .f32 0xBA83126F#32)) (addf (Host.divf (Host.divf (addf (mulf (broadcastInDim Cert.AdamKvAdaWRefIdeal.S1024x256 ![] Cert.AdamKvAdaWRefIdeal.Gen.bcast_S_S1024x256 (constant Cert.AdamKvAdaWRefIdeal.S_ .f32 0x3F666666#32)) p) (mulf (broadcastInDim Cert.AdamKvAdaWRefIdeal.S1024x256 ![] Cert.AdamKvAdaWRefIdeal.Gen.bcast_S_S1024x256 (constant Cert.AdamKvAdaWRefIdeal.S_ .f32 0x3DCCCCCD#32)) (g))) (broadcastInDim Cert.AdamKvAdaWRefIdeal.S1024x256 ![] Cert.AdamKvAdaWRefIdeal.Gen.bcast_S_S1024x256 (constant Cert.AdamKvAdaWRefIdeal.S_ .f32 0x3F26BD02#32))) (addf (Host.sqrt (Host.divf (addf (mulf (broadcastInDim Cert.AdamKvAdaWRefIdeal.S1024x256 ![] Cert.AdamKvAdaWRefIdeal.Gen.bcast_S_S1024x256 (constant Cert.AdamKvAdaWRefIdeal.S_ .f32 0x3F7FBE77#32)) q) (mulf (broadcastInDim Cert.AdamKvAdaWRefIdeal.S1024x256 ![] Cert.AdamKvAdaWRefIdeal.Gen.bcast_S_S1024x256 (constant Cert.AdamKvAdaWRefIdeal.S_ .f32 0x3A83126F#32)) (mulf (g) (g)))) (broadcastInDim Cert.AdamKvAdaWRefIdeal.S1024x256 ![] Cert.AdamKvAdaWRefIdeal.Gen.bcast_S_S1024x256 (constant Cert.AdamKvAdaWRefIdeal.S_ .f32 0x3C231ACC#32)))) (broadcastInDim Cert.AdamKvAdaWRefIdeal.S1024x256 ![] Cert.AdamKvAdaWRefIdeal.Gen.bcast_S_S1024x256 (constant Cert.AdamKvAdaWRefIdeal.S_ .f32 0x322BCC77#32)))) (mulf (broadcastInDim Cert.AdamKvAdaWRefIdeal.S1024x256 ![] Cert.AdamKvAdaWRefIdeal.Gen.bcast_S_S1024x256 (constant Cert.AdamKvAdaWRefIdeal.S_ .f32 0x3C23D70A#32)) w)) : FVec Ideal Cert.AdamKvAdaWRefIdeal.S1024x256 .f32) (ValueIdx.ix2 a b) = Cert.Adam.delta (g (ValueIdx.ix2 a b)) (w (ValueIdx.ix2 a b)) (p (ValueIdx.ix2 a b)) (q (ValueIdx.ix2 a b)) := by
  pointwise []
  rfl
end

theorem algebraic_KvAdaW : Cert.algebraic_AdamKvAdaWIdeal_AdamKvAdaWRefIdeal := by
  intro m ρ m' ρ' _ hag
  refine ⟨fun c => fun i => Cert.AdamKvAdaWIdeal.Gen.G m c (i 0) (i 1), fun c => fun i => Cert.AdamKvAdaWIdeal.Gen.dW m c (i 0) (i 1),
    fun c => fun i => Cert.AdamKvAdaWIdeal.Gen.nP m c (i 0) (i 1), fun c => fun i => Cert.AdamKvAdaWIdeal.Gen.nQ m c (i 0) (i 1), ?_, ?_⟩
  · refine (θ_run Cert.AdamKvAdaWIdeal.defs _ _).mono (fun r h c => ?_) (Cert.AdamKvAdaWIdeal.Value.run_blocks (F := Ideal) m ρ)
    obtain ⟨h4, h5, h6, h7, hk⟩ := h c
    exact ⟨h4.trans (Cert.AdamKvAdaWIdeal.Gen.arr4 m c), h5.trans (Cert.AdamKvAdaWIdeal.Gen.arr5 m c), h6.trans (Cert.AdamKvAdaWIdeal.Gen.arr6 m c), h7.trans (Cert.AdamKvAdaWIdeal.Gen.arr7 m c), hk⟩
  · refine (θ_run Cert.AdamKvAdaWRefIdeal.defs _ _).mono (fun r h c => ?_) (Cert.AdamKvAdaWRefIdeal.Value.run (F := Ideal) m' ρ')
    obtain ⟨h0, h1, h2, h3, hk⟩ := h c
    obtain ⟨e0, e1, e2, e3⟩ := hag c
    refine ⟨h0.trans (funext fun i => ?_), h1.trans (funext fun i => ?_), h2.trans (funext fun i => ?_), h3.trans (funext fun i => ?_), hk⟩
    · obtain ⟨a, b, rfl⟩ : ∃ (a : Fin 1024) (b : Fin 256), i = ValueIdx.ix2 a b := ⟨_, _, ValueIdx.eq_ix2 i⟩
      exact (congrFun e0 _)
    · obtain ⟨a, b, rfl⟩ : ∃ (a : Fin 1024) (b : Fin 256), i = ValueIdx.ix2 a b := ⟨_, _, ValueIdx.eq_ix2 i⟩
      exact (ref_KvAdaW_d _ _ _ _ _ _).trans (Cert.Adam.delta_congr (congrFun e0 _) (congrFun e1 _) (congrFun e2 _) (congrFun e3 _))
    · obtain ⟨a, b, rfl⟩ : ∃ (a : Fin 1024) (b : Fin 256), i = ValueIdx.ix2 a b := ⟨_, _, ValueIdx.eq_ix2 i⟩
      exact (ref_KvAdaW_p _ _ _ _).trans (congrArg₂ Cert.Adam.newM (congrFun e0 _) (congrFun e2 _))
    · obtain ⟨a, b, rfl⟩ : ∃ (a : Fin 1024) (b : Fin 256), i = ValueIdx.ix2 a b := ⟨_, _, ValueIdx.eq_ix2 i⟩
      exact (ref_KvAdaW_q _ _ _ _).trans (congrArg₂ Cert.Adam.newV (congrFun e0 _) (congrFun e3 _))

end

/-! ### `w_kv` -/

section
local instance : Cert.AdamWKvIdeal.Facts := Cert.AdamWKvIdeal.Gen.facts
local instance : Cert.AdamWKvRefIdeal.Facts := Cert.AdamWKvRefIdeal.Gen.facts

theorem frame_WKv : Cert.quiescent_AdamWKvRefIdeal := fun m ρ _ =>
  (θ_run Cert.AdamWKvRefIdeal.defs _ _).mono (fun r h => ⟨fun c => (h c).2.2.2.2, sem_eq_zero_of_no_sems (by decide) r.2⟩)
    (Cert.AdamWKvRefIdeal.Value.run (F := Ideal) m ρ)

section
variable (g w p q : FVec Ideal Cert.AdamWKvRefIdeal.S1x1024x384 .f32) (z : Fin 1) (a : Fin 1024) (b : Fin 384)
theorem ref_WKv_g (x : FVec Ideal Cert.AdamWKvRefIdeal.S8x1024x384 .bf16) :
    broadcastInDim Cert.AdamWKvRefIdeal.S1x1024x384 ![1, 2] Cert.AdamWKvRefIdeal.Gen.bcast_S1024x384_S1x1024x384_1_2 (Host.reduceAdd (F := Ideal) (extf .f32 x Cert.AdamWKvRefIdeal.Gen.bitsLt_bf16_f32) (constant Cert.AdamWKvRefIdeal.S_ .f32 0x00000000#32) Cert.AdamWKvRefIdeal.Gen.reducesTo_S8x1024x384_S1024x384_d0 Cert.AdamWKvRefIdeal.Gen.h_S_) (ValueIdx.ix3 z a b) = ∑ s : Fin 8, x (ValueIdx.ix3 s a b) := by
  pointwise []
  rfl
theorem ref_WKv_p : (addf (mulf (broadcastInDim Cert.AdamWKvRefIdeal.S1x1024x384 ![] Cert.AdamWKvRefIdeal.Gen.bcast_S_S1x1024x384 (constant Cert.AdamWKvRefIdeal.S_ .f32 0x3F666666#32)) p) (mulf (broadcastInDim Cert.AdamWKvRefIdeal.S1x1024x384 ![] Cert.AdamWKvRefIdeal.Gen.bcast_S_S1x1024x384 (constant Cert.AdamWKvRefIdeal.S_ .f32 0x3DCCCCCD#32)) (g)) : FVec Ideal Cert.AdamWKvRefIdeal.S1x1024x384 .f32) (ValueIdx.ix3 z a b) = Cert.Adam.newM (g (ValueIdx.ix3 z a b)) (p (ValueIdx.ix3 z a b)) := by
  pointwise []
  rfl
theorem ref_WKv_q : (addf (mulf (broadcastInDim Cert.AdamWKvRefIdeal.S1x1024x384 ![] Cert.AdamWKvRefIdeal.Gen.bcast_S_S1x1024x384 (constant Cert.AdamWKvRefIdeal.S_ .f32 0x3F7FBE77#32)) q) (mulf (broadcastInDim Cert.AdamWKvRefIdeal.S1x1024x384 ![] Cert.AdamWKvRefIdeal.Gen.bcast_S_S1x1024x384 (constant Cert.AdamWKvRefIdeal.S_ .f32 0x3A83126F#32)) (mulf (g) (g))) : FVec Ideal Cert.AdamWKvRefIdeal.S1x1024x384 .f32) (ValueIdx.ix3 z a b) = Cert.Adam.newV (g (ValueIdx.ix3 z a b)) (q (ValueIdx.ix3 z a b)) := by
  pointwise []
  rfl
theorem ref_WKv_d : (mulf (broadcastInDim Cert.AdamWKvRefIdeal.S1x1024x384 ![] Cert.AdamWKvRefIdeal.Gen.bcast_S_S1x1024x384 (constant Cert.AdamWKvRefIdeal.S_ .f32 0xBA83126F#32)) (addf (Host.divf (Host.divf (addf (mulf (broadcastInDim Cert.AdamWKvRefIdeal.S1x1024x384 ![] Cert.AdamWKvRefIdeal.Gen.bcast_S_S1x1024x384 (constant Cert.AdamWKvRefIdeal.S_ .f32 0x3F666666#32)) p) (mulf (broadcastInDim Cert.AdamWKvRefIdeal.S1x1024x384 ![] Cert.AdamWKvRefIdeal.Gen.bcast_S_S1x1024x384 (constant Cert.AdamWKvRefIdeal.S_ .f32 0x3DCCCCCD#32)) (g))) (broadcastInDim Cert.AdamWKvRefIdeal.S1x1024x384 ![] Cert.AdamWKvRefIdeal.Gen.bcast_S_S1x1024x384 (constant Cert.AdamWKvRefIdeal.S_ .f32 0x3F26BD02#32))) (addf (Host.sqrt (Host.divf (addf (mulf (broadcastInDim Cert.AdamWKvRefIdeal.S1x1024x384 ![] Cert.AdamWKvRefIdeal.Gen.bcast_S_S1x1024x384 (constant Cert.AdamWKvRefIdeal.S_ .f32 0x3F7FBE77#32)) q) (mulf (broadcastInDim Cert.AdamWKvRefIdeal.S1x1024x384 ![] Cert.AdamWKvRefIdeal.Gen.bcast_S_S1x1024x384 (constant Cert.AdamWKvRefIdeal.S_ .f32 0x3A83126F#32)) (mulf (g) (g)))) (broadcastInDim Cert.AdamWKvRefIdeal.S1x1024x384 ![] Cert.AdamWKvRefIdeal.Gen.bcast_S_S1x1024x384 (constant Cert.AdamWKvRefIdeal.S_ .f32 0x3C231ACC#32)))) (broadcastInDim Cert.AdamWKvRefIdeal.S1x1024x384 ![] Cert.AdamWKvRefIdeal.Gen.bcast_S_S1x1024x384 (constant Cert.AdamWKvRefIdeal.S_ .f32 0x322BCC77#32)))) (mulf (broadcastInDim Cert.AdamWKvRefIdeal.S1x1024x384 ![] Cert.AdamWKvRefIdeal.Gen.bcast_S_S1x1024x384 (constant Cert.AdamWKvRefIdeal.S_ .f32 0x3C23D70A#32)) w)) : FVec Ideal Cert.AdamWKvRefIdeal.S1x1024x384 .f32) (ValueIdx.ix3 z a b) = Cert.Adam.delta (g (ValueIdx.ix3 z a b)) (w (ValueIdx.ix3 z a b)) (p (ValueIdx.ix3 z a b)) (q (ValueIdx.ix3 z a b)) := by
  pointwise []
  rfl
end

theorem algebraic_WKv : Cert.algebraic_AdamWKvIdeal_AdamWKvRefIdeal := by
  intro m ρ m' ρ' _ hag
  refine ⟨fun c => fun i => Cert.AdamWKvIdeal.Gen.G m c (i 1) (i 2), fun c => fun i => Cert.AdamWKvIdeal.Gen.dW m c (i 1) (i 2),
    fun c => fun i => Cert.AdamWKvIdeal.Gen.nP m c (i 1) (i 2), fun c => fun i => Cert.AdamWKvIdeal.Gen.nQ m c (i 1) (i 2), ?_, ?_⟩
  · refine (θ_run Cert.AdamWKvIdeal.defs _ _).mono (fun r h c => ?_) (Cert.AdamWKvIdeal.Value.run_blocks (F := Ideal) m ρ)
    obtain ⟨h4, h5, h6, h7, hk⟩ := h c
    exact ⟨h4.trans (Cert.AdamWKvIdeal.Gen.arr4 m c), h5.trans (Cert.AdamWKvIdeal.Gen.arr5 m c), h6.trans (Cert.AdamWKvIdeal.Gen.arr6 m c), h7.trans (Cert.AdamWKvIdeal.Gen.arr7 m c), hk⟩
  · refine (θ_run Cert.AdamWKvRefIdeal.defs _ _).mono (fun r h c => ?_) (Cert.AdamWKvRefIdeal.Value.run (F := Ideal) m' ρ')
    obtain ⟨h0, h1, h2, h3, hk⟩ := h c
    obtain ⟨e0, e1, e2, e3, _⟩ := hag c
    refine ⟨h0.trans (funext fun i => ?_), h1.trans (funext fun i => ?_), h2.trans (funext fun i => ?_), h3.trans (funext fun i => ?_), hk⟩
    · obtain ⟨z, a, b, rfl⟩ : ∃ (z : Fin 1) (a : Fin 1024) (b : Fin 384), i = ValueIdx.ix3 z a b := ⟨_, _, _, ValueIdx.eq_ix3 i⟩
      obtain rfl : z = 0 := Subsingleton.elim _ _
      exact ((ref_WKv_g _ _ _ _).trans (Finset.sum_congr rfl fun s _ => congrFun e0 _))
    · obtain ⟨z, a, b, rfl⟩ : ∃ (z : Fin 1) (a : Fin 1024) (b : Fin 384), i = ValueIdx.ix3 z a b := ⟨_, _, _, ValueIdx.eq_ix3 i⟩
      obtain rfl : z = 0 := Subsingleton.elim _ _
      exact (ref_WKv_d _ _ _ _ _ _ _).trans (Cert.Adam.delta_congr ((ref_WKv_g _ _ _ _).trans (Finset.sum_congr rfl fun s _ => congrFun e0 _)) (congrFun e1 _) (congrFun e2 _) (congrFun e3 _))
    · obtain ⟨z, a, b, rfl⟩ : ∃ (z : Fin 1) (a : Fin 1024) (b : Fin 384), i = ValueIdx.ix3 z a b := ⟨_, _, _, ValueIdx.eq_ix3 i⟩
      obtain rfl : z = 0 := Subsingleton.elim _ _
      exact (ref_WKv_p _ _ _ _ _).trans (congrArg₂ Cert.Adam.newM ((ref_WKv_g _ _ _ _).trans (Finset.sum_congr rfl fun s _ => congrFun e0 _)) (congrFun e2 _))
    · obtain ⟨z, a, b, rfl⟩ : ∃ (z : Fin 1) (a : Fin 1024) (b : Fin 384), i = ValueIdx.ix3 z a b := ⟨_, _, _, ValueIdx.eq_ix3 i⟩
      obtain rfl : z = 0 := Subsingleton.elim _ _
      exact (ref_WKv_q _ _ _ _ _).trans (congrArg₂ Cert.Adam.newV ((ref_WKv_g _ _ _ _).trans (Finset.sum_congr rfl fun s _ => congrFun e0 _)) (congrFun e3 _))

end

end Cert.Proof.Adam

end
-- ==== Proof.ModsRows.lean ====
/-
  The condition vector's rows, `silu` of them, as the calls of the modulation's weights and the reference compute it.
-/
module

public import Idealize.ShloMosaic.Lib.Pointwise

@[expose] public section

noncomputable section

namespace Cert.Mods

open Idealize.ShloMosaic

/-- An element against its logistic function. -/
def silu (a : EReal) : EReal := a * Ideal.div 1 (1 + Ideal.exp (-a))

end Cert.Mods

end
-- ==== Proof.ModsDwValue.lean ====
/-
  What the call of `ModsDw` leaves in its result, the gradients of the layers' modulation weights: the product of `silu` of the
  condition's rows with the gradients of the modulation's rows, over the rows.
-/
module

public import proofs.«01_k».proof.Proof.ModsRows
public import proofs.«01_k».proof.Proof.Gen.ModsDwIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.ModsDwIdeal.Gen

open Idealize.ShloMosaic Idealize.ShloMosaic.TcCoe Idealize.ShloMosaic.Tactic
open Idealize.SL Idealize.SL.Sem

theorem ld0 (X : Vec Ideal S8x1024 .f32) : View.ld X r0_0 = X :=
  View.ld_unit_zero (S := S8x1024) (funext fun a => by fin_cases a <;> rfl) _ X
theorem ld1 (X : Vec Ideal S1x8x1152 .f32) : View.ld X r0_1 = X :=
  View.ld_unit_zero (S := S1x8x1152) (funext fun a => by fin_cases a <;> rfl) _ X
theorem canon2 (w : Vec Ideal S1x1024x1152 .f32) (L : List (View.Piece (Elt Ideal) S1x1024x1152 .f32)) : View.canon (⟨r0_2, w⟩ :: L) = w :=
  View.canon_cons_unit_zero (S := S1x1024x1152) (funext fun a => by fin_cases a <;> rfl) _ w L

section
variable (z : Fin 1) (a : Fin 1024) (b : Fin 1152) (x0 : Vec Ideal S8x1024 .f32) (x1 : Vec Ideal S1x8x1152 .f32)

theorem pay_ix : k0_pay1 x0 x1 (ix3 z a b) = ∑ r : Fin 8, Cert.Mods.silu (x0 (ix2 r a)) * x1 (ix3 0 r b) := by
  pointwise [k0_pay1]
  simp only [Cert.Mods.silu, zero_sub]
theorem out_ix : out0_2 x0 x1 (ix3 z a b) = ∑ r : Fin 8, Cert.Mods.silu (x0 (ix2 r a)) * x1 (ix3 0 r b) := by
  refine (congrFun (canon2 _ _) _).trans ((pay_ix z a b _ _).trans ?_)
  rw [ld0, ld1]

end

/-- The layer the point works on. -/
def lay (t : Fin cfg0.N) : Fin 4 := ⟨t.val, lt_of_lt_of_eq t.isLt N_0⟩

theorem idx : ∀ t : Fin cfg0.N, win0_0.index t = ![0, 0] ∧ win0_1.index t = ![t.val, 0, 0] ∧ win0_2.index t = ![t.val, 0, 0] :=
  (by decide +kernel : ∀ t : Fin grid0.N, _)

/-- The condition's rows, the gradients of the modulation's rows, and the gradient of the weight. -/
def C (m : (ℓ : Loc nD τ sig) → Buf (Elt Ideal) ℓ) (c : Dev nD) (r : Fin 8) (a : Fin 1024) : EReal := m ((c : Thread nD τ).loc main_arg0) (ix2 r a)
def dM (m : (ℓ : Loc nD τ sig) → Buf (Elt Ideal) ℓ) (c : Dev nD) (l : Fin 4) (r : Fin 8) (b : Fin 1152) : EReal := m ((c : Thread nD τ).loc main_arg1) (ix3 l r b)
def val (m : (ℓ : Loc nD τ sig) → Buf (Elt Ideal) ℓ) (c : Dev nD) (l : Fin 4) (a : Fin 1024) (b : Fin 1152) : EReal := ∑ r : Fin 8, Cert.Mods.silu (C m c r a) * dM m c l r b

section
variable (m : (ℓ : Loc nD τ sig) → Buf (Elt Ideal) ℓ) (c : Dev nD) (t : Fin cfg0.N) (r : Fin 8) (a : Fin 1024) (b : Fin 1152)

theorem blk0 : iblk m c 0 t (ix2 r a) = C m c r a := by
  refine Eq.trans (b := V m c main_arg0 (ix2 r a)) ?_ rfl
  blk_ext [iblk, idx t]
theorem blk1 : iblk m c 1 t (ix3 0 r b) = dM m c (lay t) r b := by
  refine Eq.trans (b := V m c main_arg1 (ix3 (lay t) r b)) ?_ rfl
  blk_ext [iblk, lay, idx t]
theorem val_ix : (∑ r : Fin 8, Cert.Mods.silu (iblk m c 0 t (ix2 r a)) * iblk m c 1 t (ix3 0 r b)) = val m c (lay t) a b :=
  Finset.sum_congr rfl fun r _ => congrArg₂ (· * ·) (congrArg Cert.Mods.silu (blk0 m c t r a)) (blk1 m c t r b)

theorem arr2 : (dats m 0 c).arrAt 2 cfg0.N = fun i => val m c (i 0) (i 1) (i 2) := by
  refine (dats m 0 c).arrAt_eq_of_covers 2 _ (by decide +kernel) fun t hf y => ?_
  blk_simp
  rw [after0_2]
  refine (congrArg _ (eq_ix3 _)).trans ((out_ix _ _ _ _ _).trans ((val_ix m c t _ _).trans ?_))
  exact congrArg (fun i : (⟨3, ![4, 1024, 1152]⟩ : Shape).Idx => val m c (i 0) (i 1) (i 2)) (a₁ := ix3 _ _ _) (by blk_ext [lay, idx t])

end
end Cert.ModsDwIdeal.Gen

end
-- ==== Proof.KvModsDwValue.lean ====
/-
  What the call of `KvModsDw` leaves in its result, the gradient of the modulation weight of the keys and the values: the product of `silu` of the
  condition's rows with the gradients of the modulation's rows, over the rows.
-/
module

public import proofs.«01_k».proof.Proof.ModsRows
public import proofs.«01_k».proof.Proof.Gen.KvModsDwIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.KvModsDwIdeal.Gen

open Idealize.ShloMosaic Idealize.ShloMosaic.TcCoe Idealize.ShloMosaic.Tactic
open Idealize.SL Idealize.SL.Sem

theorem ld0 (X : Vec Ideal S8x1024 .f32) : View.ld X r0_0 = X :=
  View.ld_unit_zero (S := S8x1024) (funext fun a => by fin_cases a <;> rfl) _ X
theorem ld1 (X : Vec Ideal S1x8x256 .f32) : View.ld X r0_1 = X :=
  View.ld_unit_zero (S := S1x8x256) (funext fun a => by fin_cases a <;> rfl) _ X
theorem canon2 (w : Vec Ideal S1x1024x256 .f32) (L : List (View.Piece (Elt Ideal) S1x1024x256 .f32)) : View.canon (⟨r0_2, w⟩ :: L) = w :=
  View.canon_cons_unit_zero (S := S1x1024x256) (funext fun a => by fin_cases a <;> rfl) _ w L

section
variable (z : Fin 1) (a : Fin 1024) (b : Fin 256) (x0 : Vec Ideal S8x1024 .f32) (x1 : Vec Ideal S1x8x256 .f32)

theorem pay_ix : k0_pay1 x0 x1 (ix3 z a b) = ∑ r : Fin 8, Cert.Mods.silu (x0 (ix2 r a)) * x1 (ix3 0 r b) := by
  pointwise [k0_pay1]
  simp only [Cert.Mods.silu, zero_sub]
theorem out_ix : out0_2 x0 x1 (ix3 z a b) = ∑ r : Fin 8, Cert.Mods.silu (x0 (ix2 r a)) * x1 (ix3 0 r b) := by
  refine (congrFun (canon2 _ _) _).trans ((pay_ix z a b _ _).trans ?_)
  rw [ld0, ld1]

end

/-- The layer the point works on. -/
def lay (t : Fin cfg0.N) : Fin 1 := ⟨t.val, lt_of_lt_of_eq t.isLt N_0⟩

theorem idx : ∀ t : Fin cfg0.N, win0_0.index t = ![0, 0] ∧ win0_1.index t = ![t.val, 0, 0] ∧ win0_2.index t = ![t.val, 0, 0] :=
  (by decide +kernel : ∀ t : Fin grid0.N, _)

/-- The condition's rows, the gradients of the modulation's rows, and the gradient of the weight. -/
def C (m : (ℓ : Loc nD τ sig) → Buf (Elt Ideal) ℓ) (c : Dev nD) (r : Fin 8) (a : Fin 1024) : EReal := m ((c : Thread nD τ).loc main_arg0) (ix2 r a)
def dM (m : (ℓ : Loc nD τ sig) → Buf (Elt Ideal) ℓ) (c : Dev nD) (l : Fin 1) (r : Fin 8) (b : Fin 256) : EReal := m ((c : Thread nD τ).loc main_arg1) (ix3 l r b)
def val (m : (ℓ : Loc nD τ sig) → Buf (Elt Ideal) ℓ) (c : Dev nD) (l : Fin 1) (a : Fin 1024) (b : Fin 256) : EReal := ∑ r : Fin 8, Cert.Mods.silu (C m c r a) * dM m c l r b

section
variable (m : (ℓ : Loc nD τ sig) → Buf (Elt Ideal) ℓ) (c : Dev nD) (t : Fin cfg0.N) (r : Fin 8) (a : Fin 1024) (b : Fin 256)

theorem blk0 : iblk m c 0 t (ix2 r a) = C m c r a := by
  refine Eq.trans (b := V m c main_arg0 (ix2 r a)) ?_ rfl
  blk_ext [iblk, idx t]
theorem blk1 : iblk m c 1 t (ix3 0 r b) = dM m c (lay t) r b := by
  refine Eq.trans (b := V m c main_arg1 (ix3 (lay t) r b)) ?_ rfl
  blk_ext [iblk, lay, idx t]
theorem val_ix : (∑ r : Fin 8, Cert.Mods.silu (iblk m c 0 t (ix2 r a)) * iblk m c 1 t (ix3 0 r b)) = val m c (lay t) a b :=
  Finset.sum_congr rfl fun r _ => congrArg₂ (· * ·) (congrArg Cert.Mods.silu (blk0 m c t r a)) (blk1 m c t r b)

theorem arr2 : (dats m 0 c).arrAt 2 cfg0.N = fun i => val m c (i 0) (i 1) (i 2) := by
  refine (dats m 0 c).arrAt_eq_of_covers 2 _ (by decide +kernel) fun t hf y => ?_
  blk_simp
  rw [after0_2]
  refine (congrArg _ (eq_ix3 _)).trans ((out_ix _ _ _ _ _).trans ((val_ix m c t _ _).trans ?_))
  exact congrArg (fun i : (⟨3, ![1, 1024, 256]⟩ : Shape).Idx => val m c (i 0) (i 1) (i 2)) (a₁ := ix3 _ _ _) (by blk_ext [lay, idx t])

end
end Cert.KvModsDwIdeal.Gen

end
-- ==== Proof.ModsValue.lean ====
/-
  What the call of `Mods` leaves in its result, the layers' modulation rows: `silu` of the condition's rows times the
  weight, with the offset added.
-/
module

public import proofs.«01_k».proof.Proof.ModsRows
public import proofs.«01_k».proof.Proof.Gen.ModsIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.ModsIdeal.Gen

open Idealize.ShloMosaic Idealize.ShloMosaic.TcCoe Idealize.ShloMosaic.Tactic
open Idealize.SL Idealize.SL.Sem

theorem ld0 (X : Vec Ideal S8x1024 .f32) : View.ld X r0_0 = X :=
  View.ld_unit_zero (S := S8x1024) (funext fun a => by fin_cases a <;> rfl) _ X
theorem ld1 (X : Vec Ideal S1x1024x1152 .f32) : View.ld X r0_1 = X :=
  View.ld_unit_zero (S := S1x1024x1152) (funext fun a => by fin_cases a <;> rfl) _ X
theorem ld2 (X : Vec Ideal S1x1x1152 .f32) : View.ld X r0_2 = X :=
  View.ld_unit_zero (S := S1x1x1152) (funext fun a => by fin_cases a <;> rfl) _ X
theorem canon3 (w : Vec Ideal S1x8x1152 .f32) (L : List (View.Piece (Elt Ideal) S1x8x1152 .f32)) : View.canon (⟨r0_3, w⟩ :: L) = w :=
  View.canon_cons_unit_zero (S := S1x8x1152) (funext fun a => by fin_cases a <;> rfl) _ w L

section
variable (z : Fin 1) (a : Fin 8) (b : Fin 1152) (x0 : Vec Ideal S8x1024 .f32) (x1 : Vec Ideal S1x1024x1152 .f32) (x2 : Vec Ideal S1x1x1152 .f32)

theorem pay_ix : k0_pay1 x0 x1 x2 (ix3 z a b) = (∑ k : Fin 1024, Cert.Mods.silu (x0 (ix2 a k)) * x1 (ix3 0 k b)) + x2 (ix3 0 0 b) := by
  pointwise [k0_pay1]
  simp only [Cert.Mods.silu, zero_sub]
theorem out_ix : out0_3 x0 x1 x2 (ix3 z a b) = (∑ k : Fin 1024, Cert.Mods.silu (x0 (ix2 a k)) * x1 (ix3 0 k b)) + x2 (ix3 0 0 b) := by
  refine (congrFun (canon3 _ _) _).trans ((pay_ix z a b _ _ _).trans ?_)
  rw [ld0, ld1, ld2]

end

/-- The layer the point works on. -/
def lay (t : Fin cfg0.N) : Fin 4 := ⟨t.val, lt_of_lt_of_eq t.isLt N_0⟩

theorem idx : ∀ t : Fin cfg0.N, win0_0.index t = ![0, 0] ∧ win0_1.index t = ![t.val, 0, 0] ∧ win0_2.index t = ![t.val, 0, 0] ∧ win0_3.index t = ![t.val, 0, 0] :=
  (by decide +kernel : ∀ t : Fin grid0.N, _)

/-- The condition's rows, the weight, the offset, and the modulation's rows. -/
def C (m : (ℓ : Loc nD τ sig) → Buf (Elt Ideal) ℓ) (c : Dev nD) (r : Fin 8) (a : Fin 1024) : EReal := m ((c : Thread nD τ).loc main_arg0) (ix2 r a)
def W (m : (ℓ : Loc nD τ sig) → Buf (Elt Ideal) ℓ) (c : Dev nD) (l : Fin 4) (k : Fin 1024) (b : Fin 1152) : EReal := m ((c : Thread nD τ).loc main_arg1) (ix3 l k b)
def O (m : (ℓ : Loc nD τ sig) → Buf (Elt Ideal) ℓ) (c : Dev nD) (l : Fin 4) (b : Fin 1152) : EReal := m ((c : Thread nD τ).loc main_arg2) (ix3 l 0 b)
def val (m : (ℓ : Loc nD τ sig) → Buf (Elt Ideal) ℓ) (c : Dev nD) (l : Fin 4) (a : Fin 8) (b : Fin 1152) : EReal := (∑ k : Fin 1024, Cert.Mods.silu (C m c a k) * W m c l k b) + O m c l b

section
variable (m : (ℓ : Loc nD τ sig) → Buf (Elt Ideal) ℓ) (c : Dev nD) (t : Fin cfg0.N) (a : Fin 8) (k : Fin 1024) (b : Fin 1152)

theorem blk0 : iblk m c 0 t (ix2 a k) = C m c a k := by
  refine Eq.trans (b := V m c main_arg0 (ix2 a k)) ?_ rfl
  blk_ext [iblk, idx t]
theorem blk1 : iblk m c 1 t (ix3 0 k b) = W m c (lay t) k b := by
  refine Eq.trans (b := V m c main_arg1 (ix3 (lay t) k b)) ?_ rfl
  blk_ext [iblk, lay, idx t]
theorem blk2 : iblk m c 2 t (ix3 0 0 b) = O m c (lay t) b := by
  refine Eq.trans (b := V m c main_arg2 (ix3 (lay t) 0 b)) ?_ rfl
  blk_ext [iblk, lay, idx t]
theorem val_ix : (∑ k : Fin 1024, Cert.Mods.silu (iblk m c 0 t (ix2 a k)) * iblk m c 1 t (ix3 0 k b)) + iblk m c 2 t (ix3 0 0 b) = val m c (lay t) a b :=
  congrArg₂ (· + ·) (Finset.sum_congr rfl fun k _ => congrArg₂ (· * ·) (congrArg Cert.Mods.silu (blk0 m c t a k)) (blk1 m c t k b)) (blk2 m c t b)

theorem arr3 : (dats m 0 c).arrAt 3 cfg0.N = fun i => val m c (i 0) (i 1) (i 2) := by
  refine (dats m 0 c).arrAt_eq_of_covers 3 _ (by decide +kernel) fun t hf y => ?_
  blk_simp
  rw [after0_3]
  refine (congrArg _ (eq_ix3 _)).trans ((out_ix _ _ _ _ _ _).trans ((val_ix m c t _ _).trans ?_))
  exact congrArg (fun i : (⟨3, ![4, 8, 1152]⟩ : Shape).Idx => val m c (i 0) (i 1) (i 2)) (a₁ := ix3 _ _ _) (by blk_ext [lay, idx t])

end
end Cert.ModsIdeal.Gen

end
-- ==== Proof.KvModsValue.lean ====
/-
  What the call of `KvMods` leaves in its result, the modulation rows of the keys and the values: `silu` of the condition's rows times the
  weight, with the offset added.
-/
module

public import proofs.«01_k».proof.Proof.ModsRows
public import proofs.«01_k».proof.Proof.Gen.KvModsIdeal.Value
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.KvModsIdeal.Gen

open Idealize.ShloMosaic Idealize.ShloMosaic.TcCoe Idealize.ShloMosaic.Tactic
open Idealize.SL Idealize.SL.Sem

theorem ld0 (X : Vec Ideal S8x1024 .f32) : View.ld X r0_0 = X :=
  View.ld_unit_zero (S := S8x1024) (funext fun a => by fin_cases a <;> rfl) _ X
theorem ld1 (X : Vec Ideal S1x1024x256 .f32) : View.ld X r0_1 = X :=
  View.ld_unit_zero (S := S1x1024x256) (funext fun a => by fin_cases a <;> rfl) _ X
theorem ld2 (X : Vec Ideal S1x1x256 .f32) : View.ld X r0_2 = X :=
  View.ld_unit_zero (S := S1x1x256) (funext fun a => by fin_cases a <;> rfl) _ X
theorem canon3 (w : Vec Ideal S1x8x256 .f32) (L : List (View.Piece (Elt Ideal) S1x8x256 .f32)) : View.canon (⟨r0_3, w⟩ :: L) = w :=
  View.canon_cons_unit_zero (S := S1x8x256) (funext fun a => by fin_cases a <;> rfl) _ w L

section
variable (z : Fin 1) (a : Fin 8) (b : Fin 256) (x0 : Vec Ideal S8x1024 .f32) (x1 : Vec Ideal S1x1024x256 .f32) (x2 : Vec Ideal S1x1x256 .f32)

theorem pay_ix : k0_pay1 x0 x1 x2 (ix3 z a b) = (∑ k : Fin 1024, Cert.Mods.silu (x0 (ix2 a k)) * x1 (ix3 0 k b)) + x2 (ix3 0 0 b) := by
  pointwise [k0_pay1]
  simp only [Cert.Mods.silu, zero_sub]
theorem out_ix : out0_3 x0 x1 x2 (ix3 z a b) = (∑ k : Fin 1024, Cert.Mods.silu (x0 (ix2 a k)) * x1 (ix3 0 k b)) + x2 (ix3 0 0 b) := by
  refine (congrFun (canon3 _ _) _).trans ((pay_ix z a b _ _ _).trans ?_)
  rw [ld0, ld1, ld2]

end

/-- The layer the point works on. -/
def lay (t : Fin cfg0.N) : Fin 1 := ⟨t.val, lt_of_lt_of_eq t.isLt N_0⟩

theorem idx : ∀ t : Fin cfg0.N, win0_0.index t = ![0, 0] ∧ win0_1.index t = ![t.val, 0, 0] ∧ win0_2.index t = ![t.val, 0, 0] ∧ win0_3.index t = ![t.val, 0, 0] :=
  (by decide +kernel : ∀ t : Fin grid0.N, _)

/-- The condition's rows, the weight, the offset, and the modulation's rows. -/
def C (m : (ℓ : Loc nD τ sig) → Buf (Elt Ideal) ℓ) (c : Dev nD) (r : Fin 8) (a : Fin 1024) : EReal := m ((c : Thread nD τ).loc main_arg0) (ix2 r a)
def W (m : (ℓ : Loc nD τ sig) → Buf (Elt Ideal) ℓ) (c : Dev nD) (l : Fin 1) (k : Fin 1024) (b : Fin 256) : EReal := m ((c : Thread nD τ).loc main_arg1) (ix3 l k b)
def O (m : (ℓ : Loc nD τ sig) → Buf (Elt Ideal) ℓ) (c : Dev nD) (l : Fin 1) (b : Fin 256) : EReal := m ((c : Thread nD τ).loc main_arg2) (ix3 l 0 b)
def val (m : (ℓ : Loc nD τ sig) → Buf (Elt Ideal) ℓ) (c : Dev nD) (l : Fin 1) (a : Fin 8) (b : Fin 256) : EReal := (∑ k : Fin 1024, Cert.Mods.silu (C m c a k) * W m c l k b) + O m c l b

section
variable (m : (ℓ : Loc nD τ sig) → Buf (Elt Ideal) ℓ) (c : Dev nD) (t : Fin cfg0.N) (a : Fin 8) (k : Fin 1024) (b : Fin 256)

theorem blk0 : iblk m c 0 t (ix2 a k) = C m c a k := by
  refine Eq.trans (b := V m c main_arg0 (ix2 a k)) ?_ rfl
  blk_ext [iblk, idx t]
theorem blk1 : iblk m c 1 t (ix3 0 k b) = W m c (lay t) k b := by
  refine Eq.trans (b := V m c main_arg1 (ix3 (lay t) k b)) ?_ rfl
  blk_ext [iblk, lay, idx t]
theorem blk2 : iblk m c 2 t (ix3 0 0 b) = O m c (lay t) b := by
  refine Eq.trans (b := V m c main_arg2 (ix3 (lay t) 0 b)) ?_ rfl
  blk_ext [iblk, lay, idx t]
theorem val_ix : (∑ k : Fin 1024, Cert.Mods.silu (iblk m c 0 t (ix2 a k)) * iblk m c 1 t (ix3 0 k b)) + iblk m c 2 t (ix3 0 0 b) = val m c (lay t) a b :=
  congrArg₂ (· + ·) (Finset.sum_congr rfl fun k _ => congrArg₂ (· * ·) (congrArg Cert.Mods.silu (blk0 m c t a k)) (blk1 m c t k b)) (blk2 m c t b)

theorem arr3 : (dats m 0 c).arrAt 3 cfg0.N = fun i => val m c (i 0) (i 1) (i 2) := by
  refine (dats m 0 c).arrAt_eq_of_covers 3 _ (by decide +kernel) fun t hf y => ?_
  blk_simp
  rw [after0_3]
  refine (congrArg _ (eq_ix3 _)).trans ((out_ix _ _ _ _ _ _).trans ((val_ix m c t _ _).trans ?_))
  exact congrArg (fun i : (⟨3, ![1, 8, 256]⟩ : Shape).Idx => val m c (i 0) (i 1) (i 2)) (a₁ := ix3 _ _ _) (by blk_ext [lay, idx t])

end
end Cert.KvModsIdeal.Gen

end
-- ==== Proof.ModsClaim.lean ====
/-
  The claims about the calls of the modulation's weights: each reference's frame, and that kernel and reference compute
  the same array over the extended reals.
-/
module

public import proofs.«01_k».proof.Defs
public import proofs.«01_k».proof.Proof.ModsDwValue
public import proofs.«01_k».proof.Proof.KvModsDwValue
public import proofs.«01_k».proof.Proof.ModsValue
public import proofs.«01_k».proof.Proof.KvModsValue
public import proofs.«01_k».proof.Proof.Gen.ModsDwRefIdeal.Run
public import proofs.«01_k».proof.Proof.Gen.KvModsDwRefIdeal.Run
public import proofs.«01_k».proof.Proof.Gen.ModsRefIdeal.Run
public import proofs.«01_k».proof.Proof.Gen.KvModsRefIdeal.Run
public import Idealize.ShloMosaic.Lib.Quiescent

@[expose] public section

set_option maxRecDepth 16384

noncomputable section

namespace Cert.Proof.Mods

open Idealize.ShloMosaic Idealize.SL.Sem Idealize.ShloMosaic.TcCoe Idealize.ShloMosaic.Tactic

local instance : Cert.ModsDwIdeal.Facts := Cert.ModsDwIdeal.Gen.facts
local instance : Cert.ModsDwRefIdeal.Facts := Cert.ModsDwRefIdeal.Gen.facts
local instance : Cert.KvModsDwIdeal.Facts := Cert.KvModsDwIdeal.Gen.facts
local instance : Cert.KvModsDwRefIdeal.Facts := Cert.KvModsDwRefIdeal.Gen.facts
local instance : Cert.ModsIdeal.Facts := Cert.ModsIdeal.Gen.facts
local instance : Cert.ModsRefIdeal.Facts := Cert.ModsRefIdeal.Gen.facts
local instance : Cert.KvModsIdeal.Facts := Cert.KvModsIdeal.Gen.facts
local instance : Cert.KvModsRefIdeal.Facts := Cert.KvModsRefIdeal.Gen.facts

theorem frame_ModsDw : Cert.quiescent_ModsDwRefIdeal := fun m ρ _ =>
  (θ_run Cert.ModsDwRefIdeal.defs _ _).mono (fun r h => ⟨fun c => (h c).2, sem_eq_zero_of_no_sems (by decide) r.2⟩)
    (Cert.ModsDwRefIdeal.Value.run (F := Ideal) m ρ)

theorem ref_ModsDw (x : FVec Ideal Cert.ModsDwRefIdeal.S8x1024 .f32) (y : FVec Ideal Cert.ModsDwRefIdeal.S4x8x1152 .f32) (l : Fin 4) (a : Fin 1024) (b : Fin 1152) :
    transpose Cert.ModsDwRefIdeal.S4x1024x1152 [0, 2, 1] (Host.dotGeneral (F := Ideal) (φ₁ := .f32) (φ₂ := .f32) Cert.ModsDwRefIdeal.dot_S4x1152x8_S8x1024_S4x1152x1024_2_0_01_1_n_n none (transpose Cert.ModsDwRefIdeal.S4x1152x8 [0, 2, 1] y Cert.ModsDwRefIdeal.Gen.transposes_S4x8x1152_S4x1152x8_0_2_1)
      (mulf x (Host.divf (broadcastInDim Cert.ModsDwRefIdeal.S8x1024 ![] Cert.ModsDwRefIdeal.Gen.bcast_S_S8x1024 (constant Cert.ModsDwRefIdeal.S_ .f32 0x3F800000#32)) (addf (broadcastInDim Cert.ModsDwRefIdeal.S8x1024 ![] Cert.ModsDwRefIdeal.Gen.bcast_S_S8x1024 (constant Cert.ModsDwRefIdeal.S_ .f32 0x3F800000#32)) (Host.exp (Host.negf x)))))) Cert.ModsDwRefIdeal.Gen.transposes_S4x1152x1024_S4x1024x1152_0_2_1 (ValueIdx.ix3 l a b)
      = ∑ r : Fin 8, y (ValueIdx.ix3 l r b) * Cert.Mods.silu (x (ValueIdx.ix2 r a)) := by
  pointwise []
  rfl

theorem algebraic_ModsDw : Cert.algebraic_ModsDwIdeal_ModsDwRefIdeal := by
  intro m ρ m' ρ' _ hag
  refine ⟨fun c => fun i => Cert.ModsDwIdeal.Gen.val m c (i 0) (i 1) (i 2), ?_, ?_⟩
  · refine (θ_run Cert.ModsDwIdeal.defs _ _).mono (fun r h c => ?_) (Cert.ModsDwIdeal.Value.run_blocks (F := Ideal) m ρ)
    obtain ⟨h1, hk⟩ := h c
    exact ⟨h1.trans (Cert.ModsDwIdeal.Gen.arr2 m c), hk⟩
  · refine (θ_run Cert.ModsDwRefIdeal.defs _ _).mono (fun r h c => ?_) (Cert.ModsDwRefIdeal.Value.run (F := Ideal) m' ρ')
    obtain ⟨h0, hk⟩ := h c
    obtain ⟨e0, e1⟩ := hag c
    refine ⟨h0.trans (funext fun i => ?_), hk⟩
    obtain ⟨l, a, b, rfl⟩ : ∃ (l : Fin 4) (a : Fin 1024) (b : Fin 1152), i = ValueIdx.ix3 l a b := ⟨_, _, _, ValueIdx.eq_ix3 i⟩
    exact (ref_ModsDw _ _ l a b).trans (Finset.sum_congr rfl fun r _ => (mul_comm (G := EReal) _ _).trans (congrArg₂ (· * ·) (congrArg Cert.Mods.silu (congrFun e0 _)) (congrFun e1 _)))

theorem frame_KvModsDw : Cert.quiescent_KvModsDwRefIdeal := fun m ρ _ =>
  (θ_run Cert.KvModsDwRefIdeal.defs _ _).mono (fun r h => ⟨fun c => (h c).2, sem_eq_zero_of_no_sems (by decide) r.2⟩)
    (Cert.KvModsDwRefIdeal.Value.run (F := Ideal) m ρ)

theorem ref_KvModsDw (x : FVec Ideal Cert.KvModsDwRefIdeal.S8x1024 .f32) (y : FVec Ideal Cert.KvModsDwRefIdeal.S1x8x256 .f32) (l : Fin 1) (a : Fin 1024) (b : Fin 256) :
    transpose Cert.KvModsDwRefIdeal.S1x1024x256 [0, 2, 1] (Host.dotGeneral (F := Ideal) (φ₁ := .f32) (φ₂ := .f32) Cert.KvModsDwRefIdeal.dot_S1x256x8_S8x1024_S1x256x1024_2_0_01_1_n_n none (transpose Cert.KvModsDwRefIdeal.S1x256x8 [0, 2, 1] y Cert.KvModsDwRefIdeal.Gen.transposes_S1x8x256_S1x256x8_0_2_1)
      (mulf x (Host.divf (broadcastInDim Cert.KvModsDwRefIdeal.S8x1024 ![] Cert.KvModsDwRefIdeal.Gen.bcast_S_S8x1024 (constant Cert.KvModsDwRefIdeal.S_ .f32 0x3F800000#32)) (addf (broadcastInDim Cert.KvModsDwRefIdeal.S8x1024 ![] Cert.KvModsDwRefIdeal.Gen.bcast_S_S8x1024 (constant Cert.KvModsDwRefIdeal.S_ .f32 0x3F800000#32)) (Host.exp (Host.negf x)))))) Cert.KvModsDwRefIdeal.Gen.transposes_S1x256x1024_S1x1024x256_0_2_1 (ValueIdx.ix3 l a b)
      = ∑ r : Fin 8, y (ValueIdx.ix3 l r b) * Cert.Mods.silu (x (ValueIdx.ix2 r a)) := by
  obtain rfl : l = 0 := Subsingleton.elim _ _
  pointwise []
  rfl

theorem algebraic_KvModsDw : Cert.algebraic_KvModsDwIdeal_KvModsDwRefIdeal := by
  intro m ρ m' ρ' _ hag
  refine ⟨fun c => fun i => Cert.KvModsDwIdeal.Gen.val m c (i 0) (i 1) (i 2), ?_, ?_⟩
  · refine (θ_run Cert.KvModsDwIdeal.defs _ _).mono (fun r h c => ?_) (Cert.KvModsDwIdeal.Value.run_blocks (F := Ideal) m ρ)
    obtain ⟨h1, hk⟩ := h c
    exact ⟨h1.trans (Cert.KvModsDwIdeal.Gen.arr2 m c), hk⟩
  · refine (θ_run Cert.KvModsDwRefIdeal.defs _ _).mono (fun r h c => ?_) (Cert.KvModsDwRefIdeal.Value.run (F := Ideal) m' ρ')
    obtain ⟨h0, hk⟩ := h c
    obtain ⟨e0, e1⟩ := hag c
    refine ⟨h0.trans (funext fun i => ?_), hk⟩
    obtain ⟨l, a, b, rfl⟩ : ∃ (l : Fin 1) (a : Fin 1024) (b : Fin 256), i = ValueIdx.ix3 l a b := ⟨_, _, _, ValueIdx.eq_ix3 i⟩
    exact (ref_KvModsDw _ _ l a b).trans (Finset.sum_congr rfl fun r _ => (mul_comm (G := EReal) _ _).trans (congrArg₂ (· * ·) (congrArg Cert.Mods.silu (congrFun e0 _)) (congrFun e1 _)))

theorem frame_Mods : Cert.quiescent_ModsRefIdeal := fun m ρ _ =>
  (θ_run Cert.ModsRefIdeal.defs _ _).mono (fun r h => ⟨fun c => (h c).2, sem_eq_zero_of_no_sems (by decide) r.2⟩)
    (Cert.ModsRefIdeal.Value.run (F := Ideal) m ρ)

theorem ref_Mods (x : FVec Ideal Cert.ModsRefIdeal.S8x1024 .f32) (w : FVec Ideal Cert.ModsRefIdeal.S4x1024x1152 .f32) (o : FVec Ideal Cert.ModsRefIdeal.S4x1x1152 .f32) (l : Fin 4) (a : Fin 8) (b : Fin 1152) :
    addf (transpose Cert.ModsRefIdeal.S4x8x1152 [0, 2, 1] (Host.dotGeneral (F := Ideal) (φ₁ := .f32) (φ₂ := .f32) Cert.ModsRefIdeal.dot_S4x1024x1152_S8x1024_S4x1152x8_1_1_02_0_n_n none w
      (mulf x (Host.divf (broadcastInDim Cert.ModsRefIdeal.S8x1024 ![] Cert.ModsRefIdeal.Gen.bcast_S_S8x1024 (constant Cert.ModsRefIdeal.S_ .f32 0x3F800000#32)) (addf (broadcastInDim Cert.ModsRefIdeal.S8x1024 ![] Cert.ModsRefIdeal.Gen.bcast_S_S8x1024 (constant Cert.ModsRefIdeal.S_ .f32 0x3F800000#32)) (Host.exp (Host.negf x)))))) Cert.ModsRefIdeal.Gen.transposes_S4x1152x8_S4x8x1152_0_2_1) (broadcastInDim Cert.ModsRefIdeal.S4x8x1152 ![0, 1, 2] Cert.ModsRefIdeal.Gen.bcast_S4x1x1152_S4x8x1152_0_1_2 o) (ValueIdx.ix3 l a b)
      = (∑ k : Fin 1024, w (ValueIdx.ix3 l k b) * Cert.Mods.silu (x (ValueIdx.ix2 a k))) + o (ValueIdx.ix3 l 0 b) := by
  pointwise []
  rfl

theorem algebraic_Mods : Cert.algebraic_ModsIdeal_ModsRefIdeal := by
  intro m ρ m' ρ' _ hag
  refine ⟨fun c => fun i => Cert.ModsIdeal.Gen.val m c (i 0) (i 1) (i 2), ?_, ?_⟩
  · refine (θ_run Cert.ModsIdeal.defs _ _).mono (fun r h c => ?_) (Cert.ModsIdeal.Value.run_blocks (F := Ideal) m ρ)
    obtain ⟨h1, hk⟩ := h c
    exact ⟨h1.trans (Cert.ModsIdeal.Gen.arr3 m c), hk⟩
  · refine (θ_run Cert.ModsRefIdeal.defs _ _).mono (fun r h c => ?_) (Cert.ModsRefIdeal.Value.run (F := Ideal) m' ρ')
    obtain ⟨h0, hk⟩ := h c
    obtain ⟨e0, e1, e2⟩ := hag c
    refine ⟨h0.trans (funext fun i => ?_), hk⟩
    obtain ⟨l, a, b, rfl⟩ : ∃ (l : Fin 4) (a : Fin 8) (b : Fin 1152), i = ValueIdx.ix3 l a b := ⟨_, _, _, ValueIdx.eq_ix3 i⟩
    exact (ref_Mods _ _ _ l a b).trans (congrArg₂ (· + ·) (Finset.sum_congr rfl fun k _ => (mul_comm (G := EReal) _ _).trans (congrArg₂ (· * ·) (congrArg Cert.Mods.silu (congrFun e0 _)) (congrFun e1 _))) (congrFun e2 _))

theorem frame_KvMods : Cert.quiescent_KvModsRefIdeal := fun m ρ _ =>
  (θ_run Cert.KvModsRefIdeal.defs _ _).mono (fun r h => ⟨fun c => (h c).2, sem_eq_zero_of_no_sems (by decide) r.2⟩)
    (Cert.KvModsRefIdeal.Value.run (F := Ideal) m ρ)

theorem ref_KvMods (x : FVec Ideal Cert.KvModsRefIdeal.S8x1024 .f32) (w : FVec Ideal Cert.KvModsRefIdeal.S1x1024x256 .f32) (o : FVec Ideal Cert.KvModsRefIdeal.S1x1x256 .f32) (l : Fin 1) (a : Fin 8) (b : Fin 256) :
    addf (transpose Cert.KvModsRefIdeal.S1x8x256 [0, 2, 1] (Host.dotGeneral (F := Ideal) (φ₁ := .f32) (φ₂ := .f32) Cert.KvModsRefIdeal.dot_S1x1024x256_S8x1024_S1x256x8_1_1_02_0_n_n none w
      (mulf x (Host.divf (broadcastInDim Cert.KvModsRefIdeal.S8x1024 ![] Cert.KvModsRefIdeal.Gen.bcast_S_S8x1024 (constant Cert.KvModsRefIdeal.S_ .f32 0x3F800000#32)) (addf (broadcastInDim Cert.KvModsRefIdeal.S8x1024 ![] Cert.KvModsRefIdeal.Gen.bcast_S_S8x1024 (constant Cert.KvModsRefIdeal.S_ .f32 0x3F800000#32)) (Host.exp (Host.negf x)))))) Cert.KvModsRefIdeal.Gen.transposes_S1x256x8_S1x8x256_0_2_1) (broadcastInDim Cert.KvModsRefIdeal.S1x8x256 ![0, 1, 2] Cert.KvModsRefIdeal.Gen.bcast_S1x1x256_S1x8x256_0_1_2 o) (ValueIdx.ix3 l a b)
      = (∑ k : Fin 1024, w (ValueIdx.ix3 l k b) * Cert.Mods.silu (x (ValueIdx.ix2 a k))) + o (ValueIdx.ix3 l 0 b) := by
  obtain rfl : l = 0 := Subsingleton.elim _ _
  pointwise []
  rfl

theorem algebraic_KvMods : Cert.algebraic_KvModsIdeal_KvModsRefIdeal := by
  intro m ρ m' ρ' _ hag
  refine ⟨fun c => fun i => Cert.KvModsIdeal.Gen.val m c (i 0) (i 1) (i 2), ?_, ?_⟩
  · refine (θ_run Cert.KvModsIdeal.defs _ _).mono (fun r h c => ?_) (Cert.KvModsIdeal.Value.run_blocks (F := Ideal) m ρ)
    obtain ⟨h1, hk⟩ := h c
    exact ⟨h1.trans (Cert.KvModsIdeal.Gen.arr3 m c), hk⟩
  · refine (θ_run Cert.KvModsRefIdeal.defs _ _).mono (fun r h c => ?_) (Cert.KvModsRefIdeal.Value.run (F := Ideal) m' ρ')
    obtain ⟨h0, hk⟩ := h c
    obtain ⟨e0, e1, e2⟩ := hag c
    refine ⟨h0.trans (funext fun i => ?_), hk⟩
    obtain ⟨l, a, b, rfl⟩ : ∃ (l : Fin 1) (a : Fin 8) (b : Fin 256), i = ValueIdx.ix3 l a b := ⟨_, _, _, ValueIdx.eq_ix3 i⟩
    exact (ref_KvMods _ _ _ l a b).trans (congrArg₂ (· + ·) (Finset.sum_congr rfl fun k _ => (mul_comm (G := EReal) _ _).trans (congrArg₂ (· * ·) (congrArg Cert.Mods.silu (congrFun e0 _)) (congrFun e1 _))) (congrFun e2 _))

end Cert.Proof.Mods

end
-- ==== Proof.LossRows.lean ====
/-
  The loss and its gradient, row by row over extended reals: what both the kernel's and the reference's results are shown
  equal to.
-/
module

public import proofs.«01_k».proof.Proof.FfnRows

@[expose] public section

noncomputable section

namespace Cert.Loss

open Idealize.ShloMosaic
open Cert.Conv (ms rs cc n1024)
open Cert.Ffn (half)

/-- One over a row's length and two, as the programs write them. -/
abbrev inv : EReal := Ideal.ofBits FTy.f32 981467136#32
abbrev two : EReal := Ideal.ofBits FTy.f32 1073741824#32

theorem inv_eq : inv = ((1 / 1024 : ℝ) : EReal) := by
  simp [inv, Ideal.ofBits, Ideal.ieee, -EReal.coe_mul]; norm_num
theorem two_eq : two = ((2 : ℝ) : EReal) := by
  simp [two, Ideal.ofBits, Ideal.ieee, -EReal.coe_mul]; norm_num
theorem n1024_eq : n1024 = ((1024 : ℝ) : EReal) := by
  simp [n1024, Ideal.ofBits, Ideal.ieee, -EReal.coe_mul]; norm_num

/-- Dividing by a row's length is multiplying by one over it. -/
theorem div_n1024 (x : EReal) : Ideal.div x n1024 = x * inv := by
  have h : n1024 ≠ 0 := by rw [n1024_eq]; exact_mod_cast (by norm_num : (1024 : ℝ) ≠ 0)
  unfold Ideal.div
  rw [if_neg h, n1024_eq, inv_eq, ← EReal.coe_inv]
  norm_num

/-- The square's derivative, scaled by half of one over a row's length. -/
theorem scale (e : EReal) : Ideal.div half n1024 * (two * e) = e * inv := by
  rw [div_n1024, ← mul_assoc, mul_comm]
  congr 1
  rw [Cert.Ffn.half_eq, two_eq, inv_eq, ← EReal.coe_mul, ← EReal.coe_mul]
  norm_num

/-- The arguments: the input, the norm's scale and what the output is compared with. -/
structure Args where
  x : Fin 8192 → Fin 1024 → EReal
  g : Fin 1024 → EReal
  t : Fin 8192 → Fin 1024 → EReal

namespace Args
variable (A : Args)

def err (R : Fin 8192) (l : Fin 1024) : EReal := A.x R l * rs (A.x R) * A.g l - A.t R l
/-- The gradient of the norm's result. -/
def d (R : Fin 8192) (l : Fin 1024) : EReal := A.err R l * inv
def u (R : Fin 8192) (l : Fin 1024) : EReal := A.d R l * A.g l
def dx (R : Fin 8192) (l : Fin 1024) : EReal :=
  A.u R l * rs (A.x R) + A.x R l * cc (A.x R) (A.u R) + cc (A.x R) (A.u R) * A.x R l
/-- One row's part of the scale's gradient, in the first of eight rows. -/
def partRow (e : Fin 8) (R : Fin 8192) (l : Fin 1024) : EReal :=
  if e.val < 1 then A.x R l * rs (A.x R) * A.d R l else 0
def part (e : Fin 8) (l : Fin 1024) : EReal := ∑ R, A.partRow e R l
/-- One row's part of the loss. -/
def lossRow (R : Fin 8192) : EReal := half * ((∑ k, A.err R k * A.err R k) * inv)
def loss : EReal := ∑ R, A.lossRow R

end Args
end Cert.Loss
-- ==== Proof.FinalLossValue.lean ====
/-
  What the kernel of the loss leaves in its three result arrays on the ideal instance, as the row functions of `LossRows`.
-/
module

public import proofs.«01_k».proof.Proof.LossRows
public import proofs.«01_k».proof.Proof.Gen.FinalLossIdeal.Value
public import Idealize.ShloMosaic.Lib.Pointwise
public import Idealize.ShloMosaic.Lib.Claim
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.FinalLossIdeal.Gen

open Idealize.ShloMosaic Idealize.ShloMosaic.TcCoe Idealize.ShloMosaic.Tactic
open Idealize.SL Idealize.SL.Sem

theorem ld_S512x1024 {e : EltTy} (X : S512x1024.Idx → Elt Ideal e) : View.ld X (Rect.unit (s := S512x1024) ![0, 0] ![512, 1024] inb_S512x1024_S512x1024_0_0) = X :=
  View.ld_unit_zero (S := S512x1024) (funext fun a => by fin_cases a <;> rfl) _ X
theorem canon_S512x1024 {e : EltTy} (w : S512x1024.Idx → Elt Ideal e) (L : List (View.Piece (Elt Ideal) S512x1024 e)) : View.canon (⟨(Rect.unit (s := S512x1024) ![0, 0] ![512, 1024] inb_S512x1024_S512x1024_0_0), w⟩ :: L) = w :=
  View.canon_cons_unit_zero (S := S512x1024) (funext fun a => by fin_cases a <;> rfl) _ w L
theorem ld_S8x1024 {e : EltTy} (X : S8x1024.Idx → Elt Ideal e) : View.ld X (Rect.unit (s := S8x1024) ![0, 0] ![8, 1024] inb_S8x1024_S8x1024_0_0) = X :=
  View.ld_unit_zero (S := S8x1024) (funext fun a => by fin_cases a <;> rfl) _ X
theorem canon_S8x1024 {e : EltTy} (w : S8x1024.Idx → Elt Ideal e) (L : List (View.Piece (Elt Ideal) S8x1024 e)) : View.canon (⟨(Rect.unit (s := S8x1024) ![0, 0] ![8, 1024] inb_S8x1024_S8x1024_0_0), w⟩ :: L) = w :=
  View.canon_cons_unit_zero (S := S8x1024) (funext fun a => by fin_cases a <;> rfl) _ w L
theorem ld_S8x128 {e : EltTy} (X : S8x128.Idx → Elt Ideal e) : View.ld X (Rect.unit (s := S8x128) ![0, 0] ![8, 128] inb_S8x128_S8x128_0_0) = X :=
  View.ld_unit_zero (S := S8x128) (funext fun a => by fin_cases a <;> rfl) _ X
theorem canon_S8x128 {e : EltTy} (w : S8x128.Idx → Elt Ideal e) (L : List (View.Piece (Elt Ideal) S8x128 e)) : View.canon (⟨(Rect.unit (s := S8x128) ![0, 0] ![8, 128] inb_S8x128_S8x128_0_0), w⟩ :: L) = w :=
  View.canon_cons_unit_zero (S := S8x128) (funext fun a => by fin_cases a <;> rfl) _ w L

/-- The packed block's first row. -/
def row0 (x : Vec Ideal S8x1024 .f32) : Vec Ideal S1x1024 .f32 := View.ld x (Rect.unit (s := S8x1024) ![0, 0] S1x1024.size inb_S8x1024_S1x1024_0_0)

/-! ### One point's results -/

def pt3 (x0 : Vec Ideal S512x1024 .f32) (x1 : Vec Ideal S8x1024 .f32) (x2 : Vec Ideal S512x1024 .f32) : FVec Ideal S512x1024 .f32 := k0_pay12 x0 (row0 x1) x2
def pt4 (x0 : Vec Ideal S512x1024 .f32) (x1 : Vec Ideal S8x1024 .f32) (x2 : Vec Ideal S512x1024 .f32) : FVec Ideal S8x1024 .f32 := k0_pay1 (k0_pay11 x0 (row0 x1) x2)
def pt5 (x0 : Vec Ideal S512x1024 .f32) (x1 : Vec Ideal S8x1024 .f32) (x2 : Vec Ideal S512x1024 .f32) : FVec Ideal S8x128 .f32 := k0_pay3 (k0_pay9 x0 (row0 x1) x2)

theorem pay2_eq (v : FVec Ideal S1x1024 .f32) (w : Vec Ideal S8x1024 .f32) : k0_pay2 v w = addf w (k0_pay1 v) := by
  unfold k0_pay2
  dsimp only
  rw [shapeCast_self]
theorem pay4_eq (v : FVec Ideal S512x1024 .f32) (w : Vec Ideal S8x128 .f32) : k0_pay4 v w = addf w (k0_pay3 v) := by
  unfold k0_pay4
  dsimp only
  rw [shapeCast_self]

section
variable (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x128 .f32) (harg6 : arg6.IsWhole)
    (x0 : Vec Ideal S512x1024 .f32) (x1 : Vec Ideal S8x1024 .f32) (x2 : Vec Ideal S512x1024 .f32) (xo4 : Vec Ideal S8x1024 .f32) (xo5 : Vec Ideal S8x128 .f32)

theorem out0_A_3_eq (hc0 : cond0_0 i) (hc1 : ¬cond0_1 i) (hc2 : cond0_2 i) (hc3 : ¬cond0_3 i) : out0_A_3 c i arg1 harg1 arg2 harg2 arg3 harg3 arg4 harg4 arg5 harg5 arg6 harg6 hc0 hc1 hc2 hc3 x0 x1 x2 = pt3 x0 x1 x2 := by
  unfold out0_A_3
  rw [View.read_writes_eq_canon _ _ _ (cover0_A_3 c i arg1 harg1 arg2 harg2 arg3 harg3 arg4 harg4 arg5 harg5 arg6 harg6 hc0 hc1 hc2 hc3 x0 x1 x2)]
  unfold kernelRun0_A
  dsimp only
  sl_unfold_words
  simp only [View.readAt_eq_ld, harg1.read_unread, harg2.read_unread, harg3.read_unread, harg4.read_unread, harg5.read_unread, harg6.read_unread, ld_S512x1024, ld_S8x1024, ld_S8x128, canon_S512x1024, canon_S8x1024, canon_S8x128, pay2_eq, pay4_eq]
  rfl
theorem out0_A_4_eq (hc0 : cond0_0 i) (hc1 : ¬cond0_1 i) (hc2 : cond0_2 i) (hc3 : ¬cond0_3 i) : out0_A_4 c i arg1 harg1 arg2 harg2 arg3 harg3 arg4 harg4 arg5 harg5 arg6 harg6 hc0 hc1 hc2 hc3 x0 x1 x2 = pt4 x0 x1 x2 := by
  unfold out0_A_4
  rw [View.read_writes_eq_canon _ _ _ (cover0_A_4 c i arg1 harg1 arg2 harg2 arg3 harg3 arg4 harg4 arg5 harg5 arg6 harg6 hc0 hc1 hc2 hc3 x0 x1 x2)]
  unfold kernelRun0_A
  dsimp only
  sl_unfold_words
  simp only [View.readAt_eq_ld, harg1.read_unread, harg2.read_unread, harg3.read_unread, harg4.read_unread, harg5.read_unread, harg6.read_unread, ld_S512x1024, ld_S8x1024, ld_S8x128, canon_S512x1024, canon_S8x1024, canon_S8x128, pay2_eq, pay4_eq]
  rfl
theorem out0_A_5_eq (hc0 : cond0_0 i) (hc1 : ¬cond0_1 i) (hc2 : cond0_2 i) (hc3 : ¬cond0_3 i) : out0_A_5 c i arg1 harg1 arg2 harg2 arg3 harg3 arg4 harg4 arg5 harg5 arg6 harg6 hc0 hc1 hc2 hc3 x0 x1 x2 = pt5 x0 x1 x2 := by
  unfold out0_A_5
  rw [View.read_writes_eq_canon _ _ _ (cover0_A_5 c i arg1 harg1 arg2 harg2 arg3 harg3 arg4 harg4 arg5 harg5 arg6 harg6 hc0 hc1 hc2 hc3 x0 x1 x2)]
  unfold kernelRun0_A
  dsimp only
  sl_unfold_words
  simp only [View.readAt_eq_ld, harg1.read_unread, harg2.read_unread, harg3.read_unread, harg4.read_unread, harg5.read_unread, harg6.read_unread, ld_S512x1024, ld_S8x1024, ld_S8x128, canon_S512x1024, canon_S8x1024, canon_S8x128, pay2_eq, pay4_eq]
  rfl
theorem out0_B_3_eq (hc0 : ¬cond0_0 i) (hc1 : cond0_1 i) (hc2 : ¬cond0_2 i) (hc3 : cond0_3 i) : out0_B_3 c i arg1 harg1 arg2 harg2 arg3 harg3 arg4 harg4 arg5 harg5 arg6 harg6 hc0 hc1 hc2 hc3 x0 x1 x2 xo4 xo5 = pt3 x0 x1 x2 := by
  unfold out0_B_3
  rw [View.read_writes_eq_canon _ _ _ (cover0_B_3 c i arg1 harg1 arg2 harg2 arg3 harg3 arg4 harg4 arg5 harg5 arg6 harg6 hc0 hc1 hc2 hc3 x0 x1 x2 xo4 xo5)]
  unfold kernelRun0_B
  dsimp only
  sl_unfold_words
  simp only [View.readAt_eq_ld, harg1.read_unread, harg2.read_unread, harg3.read_unread, harg4.read_unread, harg5.read_unread, harg6.read_unread, ld_S512x1024, ld_S8x1024, ld_S8x128, canon_S512x1024, canon_S8x1024, canon_S8x128, pay2_eq, pay4_eq]
  rfl
theorem out0_B_4_eq (hc0 : ¬cond0_0 i) (hc1 : cond0_1 i) (hc2 : ¬cond0_2 i) (hc3 : cond0_3 i) : out0_B_4 c i arg1 harg1 arg2 harg2 arg3 harg3 arg4 harg4 arg5 harg5 arg6 harg6 hc0 hc1 hc2 hc3 x0 x1 x2 xo4 xo5 = addf xo4 (pt4 x0 x1 x2) := by
  unfold out0_B_4
  rw [View.read_writes_eq_canon _ _ _ (cover0_B_4 c i arg1 harg1 arg2 harg2 arg3 harg3 arg4 harg4 arg5 harg5 arg6 harg6 hc0 hc1 hc2 hc3 x0 x1 x2 xo4 xo5)]
  unfold kernelRun0_B
  dsimp only
  sl_unfold_words
  simp only [View.readAt_eq_ld, harg1.read_unread, harg2.read_unread, harg3.read_unread, harg4.read_unread, harg5.read_unread, harg6.read_unread, ld_S512x1024, ld_S8x1024, ld_S8x128, canon_S512x1024, canon_S8x1024, canon_S8x128, pay2_eq, pay4_eq]
  rfl
theorem out0_B_5_eq (hc0 : ¬cond0_0 i) (hc1 : cond0_1 i) (hc2 : ¬cond0_2 i) (hc3 : cond0_3 i) : out0_B_5 c i arg1 harg1 arg2 harg2 arg3 harg3 arg4 harg4 arg5 harg5 arg6 harg6 hc0 hc1 hc2 hc3 x0 x1 x2 xo4 xo5 = addf xo5 (pt5 x0 x1 x2) := by
  unfold out0_B_5
  rw [View.read_writes_eq_canon _ _ _ (cover0_B_5 c i arg1 harg1 arg2 harg2 arg3 harg3 arg4 harg4 arg5 harg5 arg6 harg6 hc0 hc1 hc2 hc3 x0 x1 x2 xo4 xo5)]
  unfold kernelRun0_B
  dsimp only
  sl_unfold_words
  simp only [View.readAt_eq_ld, harg1.read_unread, harg2.read_unread, harg3.read_unread, harg4.read_unread, harg5.read_unread, harg6.read_unread, ld_S512x1024, ld_S8x1024, ld_S8x128, canon_S512x1024, canon_S8x1024, canon_S8x128, pay2_eq, pay4_eq]
  rfl

end

/-! ### At an index -/

/-- The blocks of tile `b`'s point hold the arguments at rows `512 * b + r`. -/
structure Holds (A : Cert.Loss.Args) (b : Fin 16) (x0 : Vec Ideal S512x1024 .f32) (x1 : Vec Ideal S8x1024 .f32) (x2 : Vec Ideal S512x1024 .f32) : Prop where
  h0 : ∀ (r : Fin 512) l, x0 (ix2 r l) = A.x ⟨512 * b.val + r.val, by omega⟩ l
  h1 : ∀ l, x1 (ix2 0 l) = A.g l
  h2 : ∀ (r : Fin 512) l, x2 (ix2 r l) = A.t ⟨512 * b.val + r.val, by omega⟩ l

section
variable {A : Cert.Loss.Args} {b : Fin 16} {x0 : Vec Ideal S512x1024 .f32} {x1 : Vec Ideal S8x1024 .f32} {x2 : Vec Ideal S512x1024 .f32}
  (H : Holds A b x0 x1 x2) (r : Fin 512) (l : Fin 1024) (e : Fin 8) (w : Fin 128)
include H

theorem row0_ix (z : Fin 1) : row0 x1 (ix2 z l) = A.g l := by
  pointwise [row0, H.h1]
theorem err_ix : k0_pay9 x0 (row0 x1) x2 (ix2 r l) = A.err ⟨512 * b.val + r.val, by omega⟩ l := by
  pointwise [row0_ix H, k0_pay5, k0_pay6, k0_pay7, k0_pay8, k0_pay9, H.h0, H.h2]
  rfl
theorem d_ix : k0_pay10 x0 (row0 x1) x2 (ix2 r l) = A.d ⟨512 * b.val + r.val, by omega⟩ l := by
  pointwise [k0_pay10, err_ix H]
  rfl
theorem pt3_ix : pt3 x0 x1 x2 (ix2 r l) = A.dx ⟨512 * b.val + r.val, by omega⟩ l := by
  pointwise [pt3, row0_ix H, k0_pay5, k0_pay6, k0_pay7, k0_pay12, d_ix H, H.h0]
  rw [Fin.sum_univ_one]
  rfl
theorem pt4_ix : pt4 x0 x1 x2 (ix2 e l) = ∑ r : Fin 512, A.partRow e ⟨512 * b.val + r.val, by omega⟩ l := by
  pointwise [pt4, k0_pay1, k0_pay11, k0_pay6, k0_pay7, k0_pay8, d_ix H, H.h0]
  unfold Cert.Loss.Args.partRow
  split
  · rfl
  · exact (Finset.sum_const_zero (M := EReal)).symm
theorem pt5_ix : pt5 x0 x1 x2 (ix2 e w) = ∑ r : Fin 512, A.lossRow ⟨512 * b.val + r.val, by omega⟩ := by
  pointwise [pt5, k0_pay3, err_ix H]
  exact Cert.Ffn.half_mul_sum _
end

/-! ### The arrays -/

section
variable (m : (ℓ : Loc nD τ sig) → Buf (Elt Ideal) ℓ) (c : Dev nD)

/-- The program's arguments as rows. -/
def args : Cert.Loss.Args where
  x R l := m ((c : Thread nD τ).loc main_arg0) (ix2 R l)
  g l := m ((c : Thread nD τ).loc main_arg1) (ix1 l)
  t R l := m ((c : Thread nD τ).loc main_arg2) (ix2 R l)

theorem V2_0 (l : Fin 1024) : V m c main_v2 (ix2 0 l) = (args m c).g l := by
  show StableHlo.after (hostOps0 (F := Ideal)) (fun b => m (c, b)) main_v2 (ix2 0 l) = _
  simp only [hostOps0]
  after_results
  pointwise
  rfl
end

/-- The tile of rows the point works on. -/
def tile (t : Fin cfg0.N) : Fin 16 := ⟨t.val, lt_of_lt_of_eq t.isLt N_0⟩

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

section
variable (m : (ℓ : Loc nD τ sig) → Buf (Elt Ideal) ℓ) (c : Dev nD) (t : Fin cfg0.N) (r : Fin 512) (l : Fin 1024) (e : Fin 8) (w : Fin 128)

theorem blk0 : iblk m c 0 t (ix2 r l) = V m c main_arg0 (ix2 ⟨512 * (tile t).val + r.val, by omega⟩ l) := by
  blk_ext [iblk, tile, idx t]
theorem blk1 : iblk m c 1 t (ix2 e l) = V m c main_v2 (ix2 e l) := by
  blk_ext [iblk, idx t]
theorem blk2 : iblk m c 2 t (ix2 r l) = V m c main_arg2 (ix2 ⟨512 * (tile t).val + r.val, by omega⟩ l) := by
  blk_ext [iblk, tile, idx t]

theorem holds : Holds (args m c) (tile t) (iblk m c 0 t) (iblk m c 1 t) (iblk m c 2 t) where
  h0 r l := (blk0 m c t r l).trans (congrFun (V_main_arg0 m c) _)
  h1 l := (blk1 m c t l 0).trans (V2_0 m c l)
  h2 r l := (blk2 m c t r l).trans (congrFun (V_main_arg2 m c) _)

theorem outs_first (h : t.val = 0) : outsAt0 m c t.val t.isLt =
    (pt3 (iblk m c 0 t) (iblk m c 1 t) (iblk m c 2 t), pt4 (iblk m c 0 t) (iblk m c 1 t) (iblk m c 2 t), pt5 (iblk m c 0 t) (iblk m c 1 t) (iblk m c 2 t)) := by
  rw [outsAt0_A m c t (by omega) (by omega) (by omega) (by omega)]
  rw [out0_A_3_eq, out0_A_4_eq, out0_A_5_eq]

theorem outs_next (h : ¬t.val = 0) : outsAt0 m c t.val t.isLt =
    (pt3 (iblk m c 0 t) (iblk m c 1 t) (iblk m c 2 t), addf (outsAt0 m c (t.val - 1) (Nat.lt_of_le_of_lt (Nat.sub_le _ _) t.isLt)).2.1 (pt4 (iblk m c 0 t) (iblk m c 1 t) (iblk m c 2 t)),
      addf (outsAt0 m c (t.val - 1) (Nat.lt_of_le_of_lt (Nat.sub_le _ _) t.isLt)).2.2 (pt5 (iblk m c 0 t) (iblk m c 1 t) (iblk m c 2 t))) := by
  have hN : t.val < 16 := lt_of_lt_of_eq t.isLt N_0
  rw [outsAt0_B m c t (by omega) (by omega) (by omega) (by omega)]
  rw [out0_B_3_eq, out0_B_4_eq, out0_B_5_eq]

theorem outs3_ix : (outsAt0 m c t.val t.isLt).1 (ix2 r l) = (args m c).dx ⟨512 * (tile t).val + r.val, by omega⟩ l := by
  refine Eq.trans ?_ (pt3_ix (holds m c t) r l)
  by_cases h : t.val = 0
  · rw [outs_first m c t h]
  · rw [outs_next m c t h]

/-- The points' tiles run over all rows. -/
theorem sum_tiles (f : Fin 8192 → EReal) : ∑ t : Fin cfg0.N, ∑ r : Fin 512, f ⟨512 * (tile t).val + r.val, by omega⟩ = ∑ R : Fin 8192, f R := by
  refine Eq.trans ?_ (Fin.sum_mul_add_fin 16 512 f rfl)
  refine Eq.trans (b := ∑ t : Fin 16, ∑ r : Fin 512, f ⟨512 * t.val + r.val, by omega⟩) rfl ?_
  refine Finset.sum_congr rfl fun t _ => Finset.sum_congr rfl fun r _ => congrArg f (Fin.ext ?_)
  show 512 * t.val + r.val = t.val * 512 + r.val
  omega

theorem outs4_first (h : t.val % 16 = 0) : (outsAt0 m c t.val t.isLt).2.1 (ix2 e l) = 0 + ∑ r : Fin 512, (args m c).partRow e ⟨512 * (tile t).val + r.val, by omega⟩ l := by
  have hN : t.val < 16 := lt_of_lt_of_eq t.isLt N_0
  rw [zero_add (M := EReal), ← pt4_ix (holds m c t) l e, outs_first m c t (by omega)]
theorem outs4_next (h : ¬t.val % 16 = 0) : (outsAt0 m c t.val t.isLt).2.1 (ix2 e l) =
    (outsAt0 m c (t.val - 1) (Nat.lt_of_le_of_lt (Nat.sub_le _ _) t.isLt)).2.1 (ix2 e l) + ∑ r : Fin 512, (args m c).partRow e ⟨512 * (tile t).val + r.val, by omega⟩ l := by
  have hN : t.val < 16 := lt_of_lt_of_eq t.isLt N_0
  rw [← pt4_ix (holds m c t) l e, outs_next m c t (by omega)]
  rfl
theorem outs4_last (h : t.val + 1 = cfg0.N) : (outsAt0 m c t.val t.isLt).2.1 (ix2 e l) = (args m c).part e l := by
  refine (Pipeline.eq_sum_fin_of_reset_step_apply_last (M := EReal) (fun n h (i : Fin 8 × Fin 1024) => (outsAt0 m c n h).2.1 (ix2 i.1 i.2)) 16 (fun _ => 0)
    (fun t i => ∑ r : Fin 512, (args m c).partRow i.1 ⟨512 * (tile t).val + r.val, by omega⟩ i.2)
    (fun t h i => outs4_first m c t i.2 i.1 h) (fun t h i => outs4_next m c t i.2 i.1 h) N_0.le t h (e, l)).trans ?_
  rw [zero_add (M := EReal)]
  exact sum_tiles (fun R => (args m c).partRow e R l)

theorem outs5_first (h : t.val % 16 = 0) : (outsAt0 m c t.val t.isLt).2.2 (ix2 e w) = 0 + ∑ r : Fin 512, (args m c).lossRow ⟨512 * (tile t).val + r.val, by omega⟩ := by
  have hN : t.val < 16 := lt_of_lt_of_eq t.isLt N_0
  rw [zero_add (M := EReal), ← pt5_ix (holds m c t) e w, outs_first m c t (by omega)]
theorem outs5_next (h : ¬t.val % 16 = 0) : (outsAt0 m c t.val t.isLt).2.2 (ix2 e w) =
    (outsAt0 m c (t.val - 1) (Nat.lt_of_le_of_lt (Nat.sub_le _ _) t.isLt)).2.2 (ix2 e w) + ∑ r : Fin 512, (args m c).lossRow ⟨512 * (tile t).val + r.val, by omega⟩ := by
  have hN : t.val < 16 := lt_of_lt_of_eq t.isLt N_0
  rw [← pt5_ix (holds m c t) e w, outs_next m c t (by omega)]
  rfl
theorem outs5_last (h : t.val + 1 = cfg0.N) : (outsAt0 m c t.val t.isLt).2.2 (ix2 e w) = (args m c).loss := by
  refine (Pipeline.eq_sum_fin_of_reset_step_apply_last (M := EReal) (fun n h (i : Fin 8 × Fin 128) => (outsAt0 m c n h).2.2 (ix2 i.1 i.2)) 16 (fun _ => 0)
    (fun t i => ∑ r : Fin 512, (args m c).lossRow ⟨512 * (tile t).val + r.val, by omega⟩)
    (fun t h i => outs5_first m c t i.1 i.2 h) (fun t h i => outs5_next m c t i.1 i.2 h) N_0.le t h (e, w)).trans ?_
  rw [zero_add (M := EReal)]
  exact sum_tiles ((args m c).lossRow)

theorem arr3 : (dats m 0 c).arrAt 3 cfg0.N = fun i => (args m c).dx (i 0) (i 1) := by
  refine (dats m 0 c).arrAt_eq_of_covers 3 _ (by decide +kernel) fun t hf y => ?_
  blk_simp
  rw [after0_3]
  refine (congrArg _ (eq_ix2 _)).trans ((outs3_ix m c t _ _).trans ?_)
  exact congrArg (fun i : (⟨2, ![8192, 1024]⟩ : Shape).Idx => (args m c).dx (i 0) (i 1)) (a₁ := ix2 _ _) (by blk_ext [tile, idx t])
theorem arr4 : (dats m 0 c).arrAt 4 cfg0.N = fun i => (args m c).part (i 0) (i 1) := by
  refine (dats m 0 c).arrAt_eq_of_after_last 4 ⟨15, by decide⟩ (by decide +kernel) _ fun j => ?_
  refine (congrFun (after0_4 m c _) _).trans ((congrArg _ (eq_ix2 _)).trans ((outs4_last m c ⟨15, by decide⟩ _ _ rfl).trans ?_))
  blk_simp
  rfl
theorem arr5 : (dats m 0 c).arrAt 5 cfg0.N = fun _ => (args m c).loss := by
  refine (dats m 0 c).arrAt_eq_of_after_last 5 ⟨15, by decide⟩ (by decide +kernel) _ fun j => ?_
  exact (congrFun (after0_5 m c _) _).trans ((congrArg _ (eq_ix2 _)).trans (outs5_last m c ⟨15, by decide⟩ _ _ rfl))

end
end Cert.FinalLossIdeal.Gen

end
-- ==== Proof.FinalLossRefValue.lean ====
/-
  The loss's reference at an index: the row functions of `LossRows` of its arguments.
-/
module

public import proofs.«01_k».proof.Proof.Gen.FinalLossRefIdeal.Run
public import proofs.«01_k».proof.Proof.LossRows
public import Idealize.ShloMosaic.Lib.Pointwise

@[expose] public section

set_option maxRecDepth 16384

noncomputable section

namespace Cert.FinalLossRefIdeal.Value

open Cert.FinalLossRefIdeal Cert.FinalLossRefIdeal.Gen Idealize.ShloMosaic Idealize.ShloMosaic.TcCoe Idealize.ShloMosaic.Tactic Idealize.SL.Sem

variable (m : (ℓ : Loc nD τ sig) → Buf (Elt Ideal) ℓ) (c : Dev nD)

/-- The reference's arguments as rows. -/
def args : Cert.Loss.Args where
  x R l := m ((c.tc : Thread nD τ).loc main_arg0) (ix2 R l)
  g l := m ((c.tc : Thread nD τ).loc main_arg1) (ix1 l)
  t R l := m ((c.tc : Thread nD τ).loc main_arg2) (ix2 R l)

/-! ### The program's values, each of the earlier ones -/

def vx : FVec Ideal S8192x1024 .f32 := m ((c.tc : Thread nD τ).loc main_arg0)
def vms : FVec Ideal S8192x1 .f32 := addf (Host.divf (broadcastInDim S8192x1 ![0] bcast_S8192_S8192x1_0 (Host.reduceAdd (mulf (vx m c) (vx m c)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32))
def vrs : FVec Ideal S8192x1 .f32 := Host.rsqrt (vms m c)
def vn : FVec Ideal S8192x1024 .f32 := mulf (vx m c) (broadcastInDim S8192x1024 ![0, 1] bcast_S8192x1_S8192x1024_0_1 (vrs m c))
def vg : FVec Ideal S8192x1024 .f32 := broadcastInDim S8192x1024 ![0, 1] bcast_S1x1024_S8192x1024_0_1 (broadcastInDim S1x1024 ![1] bcast_S1024_S1x1024_1 (m ((c.tc : Thread nD τ).loc main_arg1)))
def verr : FVec Ideal S8192x1024 .f32 := subf (mulf (vn m c) (vg m c)) (m ((c.tc : Thread nD τ).loc main_arg2))
def vd : FVec Ideal S8192x1024 .f32 := mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (verr m c))
def vu : FVec Ideal S8192x1024 .f32 := mulf (vd m c) (vg m c)
def vcc : FVec Ideal S8192x1024 .f32 := broadcastInDim S8192x1024 ![0] bcast_S8192_S8192x1024_0 (Host.reduceAdd (Host.divf (mulf (shapeCast _ (Host.reduceAdd (mulf (vx m c) (vu m c)) (constant S_ .f32 0x00000000#32) reducesTo_S8192x1024_S8192_d1 h_S_) shapeCasts_S8192_S8192x1) (mulf (broadcastInDim S8192x1 ![] bcast_S_S8192x1 (constant S_ .f32 0xBF000000#32)) (Host.divf (vrs m c) (vms m c)))) (broadcastInDim S8192x1 ![] bcast_S_S8192x1 (constant S_ .f32 0x44800000#32))) (constant S_ .f32 0x00000000#32) reducesTo_S8192x1_S8192_d1 h_S_)
def vdx : FVec Ideal S8192x1024 .f32 := addf (addf (mulf (vu m c) (broadcastInDim S8192x1024 ![0, 1] bcast_S8192x1_S8192x1024_0_1 (vrs m c))) (mulf (vx m c) (vcc m c))) (mulf (vcc m c) (vx m c))
def vpart : FVec Ideal S8x1024 .f32 := concatenate S8x1024 0 [⟨S1x1024, (broadcastInDim S1x1024 ![1] bcast_S1024_S1x1024_1 (Host.reduceAdd (shapeCast _ (Host.reduceAdd (mulf (vn m c) (vd m c)) (constant S_ .f32 0x00000000#32) reducesTo_S8192x1024_S1024_d0 h_S_) shapeCasts_S1024_S1x1024) (constant S_ .f32 0x00000000#32) reducesTo_S1x1024_S1024_d0 h_S_))⟩, ⟨S7x1024, (broadcastInDim S7x1024 ![] bcast_S_S7x1024 (constant S_ .f32 0x00000000#32))⟩] concatenates_S1x1024_S7x1024_S8x1024_d0
def vloss : FVec Ideal S8x128 .f32 := broadcastInDim S8x128 ![] bcast_S_S8x128 (mulf (constant S_ .f32 0x3F000000#32) (Host.reduceAdd (Host.divf (Host.reduceAdd (mulf (verr m c) (verr m c)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))

section
variable (R : Fin 8192) (l : Fin 1024) (e : Fin 8) (w : Fin 128)

theorem vms_ix (z : Fin 1) : vms m c (ix2 R z) = Cert.Conv.ms ((args m c).x R) := by
  pointwise [vms]
  rfl
theorem vrs_ix (z : Fin 1) : vrs m c (ix2 R z) = Cert.Conv.rs ((args m c).x R) := by
  pointwise [vrs, vms_ix]
  rfl
theorem vn_ix : vn m c (ix2 R l) = (args m c).x R l * Cert.Conv.rs ((args m c).x R) := by
  pointwise [vn, vrs_ix]
  rfl
theorem vg_ix : vg m c (ix2 R l) = (args m c).g l := by
  pointwise [vg]
  rfl
theorem verr_ix : verr m c (ix2 R l) = (args m c).err R l := by
  pointwise [verr, vn_ix, vg_ix]
  rfl
theorem vd_ix : vd m c (ix2 R l) = (args m c).d R l := by
  pointwise [vd, verr_ix]
  exact Cert.Loss.scale _
theorem vu_ix : vu m c (ix2 R l) = (args m c).u R l := by
  pointwise [vu, vd_ix, vg_ix]
  rfl
theorem vcc_ix : vcc m c (ix2 R l) = Cert.Conv.cc ((args m c).x R) ((args m c).u R) := by
  pointwise [vcc, vu_ix, vrs_ix, vms_ix]
  rw [Fin.sum_univ_one]
  rfl
theorem vdx_ix : vdx m c (ix2 R l) = (args m c).dx R l := by
  pointwise [vdx, vu_ix, vrs_ix, vcc_ix]
  rfl
theorem vpart_ix : vpart m c (ix2 e l) = (args m c).part e l := by
  pointwise [vpart, vn_ix, vd_ix]
  simp only [Fin.sum_univ_one]
  unfold Cert.Loss.Args.part Cert.Loss.Args.partRow
  split
  · rfl
  · exact (Finset.sum_const_zero (M := EReal)).symm
theorem vloss_ix : vloss m c (ix2 e w) = (args m c).loss := by
  pointwise [vloss, verr_ix]
  refine (congrArg _ (Finset.sum_congr rfl fun R _ => Cert.Loss.div_n1024 _)).trans ?_
  exact Cert.Ffn.half_mul_sum _
end

theorem run_dx : res_main_v50 m c = vdx m c := rfl

end Cert.FinalLossRefIdeal.Value

end
-- ==== Proof.FinalLossClaim.lean ====
/-
  The claims about the loss and its gradient: the reference's frame, and that kernel and reference compute the same
  gradient of the input, the same gradient of the norm's scale and the same loss over the extended reals.
-/
module

public import proofs.«01_k».proof.Defs
public import proofs.«01_k».proof.Proof.FinalLossValue
public import proofs.«01_k».proof.Proof.FinalLossRefValue
public import Idealize.ShloMosaic.Lib.Quiescent

@[expose] public section

set_option maxRecDepth 16384

noncomputable section

namespace Cert.Proof.Loss

open Idealize.ShloMosaic Idealize.SL.Sem Idealize.ShloMosaic.TcCoe

local instance : Cert.FinalLossIdeal.Facts := Cert.FinalLossIdeal.Gen.facts
local instance : Cert.FinalLossRefIdeal.Facts := Cert.FinalLossRefIdeal.Gen.facts

theorem frame_ref : Cert.quiescent_FinalLossRefIdeal := fun m ρ _ =>
  (θ_run Cert.FinalLossRefIdeal.defs _ _).mono (fun r h => ⟨fun c => (h c).2.2.2, sem_eq_zero_of_no_sems (by decide) r.2⟩)
    (Cert.FinalLossRefIdeal.Value.run (F := Ideal) m ρ)

theorem algebraic : Cert.algebraic_FinalLossIdeal_FinalLossRefIdeal := by
  intro m ρ m' ρ' _ hag
  have hA : ∀ c, Cert.FinalLossRefIdeal.Value.args m' c = Cert.FinalLossIdeal.Gen.args m c := fun c => by
    obtain ⟨h0, h1, h2⟩ := hag c
    unfold Cert.FinalLossRefIdeal.Value.args Cert.FinalLossIdeal.Gen.args
    rw [← h0, ← h1, ← h2]
  refine ⟨fun c => fun i => (Cert.FinalLossIdeal.Gen.args m c).dx (i 0) (i 1), fun c => fun i => (Cert.FinalLossIdeal.Gen.args m c).part (i 0) (i 1),
    fun c => fun _ => (Cert.FinalLossIdeal.Gen.args m c).loss, ?_, ?_⟩
  · refine (θ_run Cert.FinalLossIdeal.defs _ _).mono (fun r h c => ?_) (Cert.FinalLossIdeal.Value.run_blocks (F := Ideal) m ρ)
    obtain ⟨h3, h4, h5, hk⟩ := h c
    exact ⟨h3.trans (Cert.FinalLossIdeal.Gen.arr3 m c), h4.trans (Cert.FinalLossIdeal.Gen.arr4 m c), h5.trans (Cert.FinalLossIdeal.Gen.arr5 m c), hk⟩
  · refine (θ_run Cert.FinalLossRefIdeal.defs _ _).mono (fun r h c => ?_) (Cert.FinalLossRefIdeal.Value.run (F := Ideal) m' ρ')
    obtain ⟨h0, h1, h2, hk⟩ := h c
    refine ⟨(h0.trans (Cert.FinalLossRefIdeal.Value.run_dx m' c)).trans (funext fun i => ?_), h1.trans (funext fun i => ?_), h2.trans (funext fun i => ?_), hk⟩
    · exact (congrArg _ (ValueIdx.eq_ix2 i)).trans ((Cert.FinalLossRefIdeal.Value.vdx_ix _ _ _ _).trans (by rw [hA]))
    · exact (congrArg (Cert.FinalLossRefIdeal.Value.vpart m' c) (ValueIdx.eq_ix2 i)).trans ((Cert.FinalLossRefIdeal.Value.vpart_ix _ _ _ _).trans (by rw [hA]))
    · exact (congrArg (Cert.FinalLossRefIdeal.Value.vloss m' c) (ValueIdx.eq_ix2 i)).trans ((Cert.FinalLossRefIdeal.Value.vloss_ix _ _ _ _).trans (by rw [hA]))

end Cert.Proof.Loss

end
-- ==== Proof.lean ====
/- Assembles the proof of `Cert.Claim`: the frames, the ledgers and the value claims, each from its own module. -/
module

public import proofs.«01_k».proof.Defs
public import proofs.«01_k».proof.Proof.Gen.ConvBwd
public import proofs.«01_k».proof.Proof.Gen.ConvBwd.Frame
public import proofs.«01_k».proof.Proof.Gen.ConvBwdIdeal
public import proofs.«01_k».proof.Proof.Gen.ConvBwdIdeal.Frame
public import proofs.«01_k».proof.Proof.Gen.ConvBwdIdeal.Value
public import proofs.«01_k».proof.Proof.Gen.FfnBwd
public import proofs.«01_k».proof.Proof.Gen.FfnBwd.Frame
public import proofs.«01_k».proof.Proof.Gen.FfnBwdIdeal
public import proofs.«01_k».proof.Proof.Gen.FfnBwdIdeal.Frame
public import proofs.«01_k».proof.Proof.Gen.FfnBwdIdeal.Value
public import proofs.«01_k».proof.Proof.Gen.FfnRefIdeal
public import proofs.«01_k».proof.Proof.Gen.FfnRefIdeal.Run
public import proofs.«01_k».proof.Proof.Gen.Pre_ffn_finite
public import proofs.«01_k».proof.Proof.Gen.ConvRefIdeal
public import proofs.«01_k».proof.Proof.Gen.ConvRefIdeal.Run
public import proofs.«01_k».proof.Proof.ConvClaim
public import proofs.«01_k».proof.Proof.FfnClaim
public import proofs.«01_k».proof.Proof.Gen.DwOut
public import proofs.«01_k».proof.Proof.Gen.DwOut.Frame
public import proofs.«01_k».proof.Proof.Gen.DwOutIdeal
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.DwClaim
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.Pre_ffn_fwd_finite
public import proofs.«01_k».proof.Proof.FfnFwdClaim
public import proofs.«01_k».proof.Proof.Gen.DwConvOut
public import proofs.«01_k».proof.Proof.Gen.DwConvOut.Frame
public import proofs.«01_k».proof.Proof.Gen.DwConvOutIdeal
public import proofs.«01_k».proof.Proof.Gen.DwConvOutIdeal.Frame
public import proofs.«01_k».proof.Proof.Gen.DwConvOutIdeal.Value
public import proofs.«01_k».proof.Proof.Gen.DwConvOutRefIdeal
public import proofs.«01_k».proof.Proof.Gen.DwConvOutRefIdeal.Run
public import proofs.«01_k».proof.Proof.Gen.DwConvIn
public import proofs.«01_k».proof.Proof.Gen.DwConvIn.Frame
public import proofs.«01_k».proof.Proof.Gen.DwConvInIdeal
public import proofs.«01_k».proof.Proof.Gen.DwConvInIdeal.Frame
public import proofs.«01_k».proof.Proof.Gen.DwConvInIdeal.Value
public import proofs.«01_k».proof.Proof.Gen.DwConvInRefIdeal
public import proofs.«01_k».proof.Proof.Gen.DwConvInRefIdeal.Run
public import proofs.«01_k».proof.Proof.Gen.DwAttnO
public import proofs.«01_k».proof.Proof.Gen.DwAttnO.Frame
public import proofs.«01_k».proof.Proof.Gen.DwAttnOIdeal
public import proofs.«01_k».proof.Proof.Gen.DwAttnOIdeal.Frame
public import proofs.«01_k».proof.Proof.Gen.DwAttnOIdeal.Value
public import proofs.«01_k».proof.Proof.Gen.DwAttnORefIdeal
public import proofs.«01_k».proof.Proof.Gen.DwAttnORefIdeal.Run
public import proofs.«01_k».proof.Proof.Gen.DwAttnQ
public import proofs.«01_k».proof.Proof.Gen.DwAttnQ.Frame
public import proofs.«01_k».proof.Proof.Gen.DwAttnQIdeal
public import proofs.«01_k».proof.Proof.Gen.DwAttnQIdeal.Frame
public import proofs.«01_k».proof.Proof.Gen.DwAttnQIdeal.Value
public import proofs.«01_k».proof.Proof.Gen.DwAttnQRefIdeal
public import proofs.«01_k».proof.Proof.Gen.DwAttnQRefIdeal.Run
public import proofs.«01_k».proof.Proof.Gen.DwKv
public import proofs.«01_k».proof.Proof.Gen.DwKv.Frame
public import proofs.«01_k».proof.Proof.Gen.DwKvIdeal
public import proofs.«01_k».proof.Proof.Gen.DwKvIdeal.Frame
public import proofs.«01_k».proof.Proof.Gen.DwKvIdeal.Value
public import proofs.«01_k».proof.Proof.Gen.DwKvRefIdeal
public import proofs.«01_k».proof.Proof.Gen.DwKvRefIdeal.Run
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.DwRestClaim
public import proofs.«01_k».proof.Proof.ConvFwdClaim
public import proofs.«01_k».proof.Proof.AdamClaim
public import proofs.«01_k».proof.Proof.ModsClaim
public import proofs.«01_k».proof.Proof.FinalLossClaim
public import proofs.«01_k».proof.Proof.Gen.AdamNormG
public import proofs.«01_k».proof.Proof.Gen.AdamNormG.Frame
public import proofs.«01_k».proof.Proof.Gen.AdamNormGIdeal
public import proofs.«01_k».proof.Proof.Gen.AdamNormGIdeal.Frame
public import proofs.«01_k».proof.Proof.Gen.AdamNormGIdeal.Value
public import proofs.«01_k».proof.Proof.Gen.AdamNormGRefIdeal
public import proofs.«01_k».proof.Proof.Gen.AdamNormGRefIdeal.Run
public import proofs.«01_k».proof.Proof.Gen.AdamConvW
public import proofs.«01_k».proof.Proof.Gen.AdamConvW.Frame
public import proofs.«01_k».proof.Proof.Gen.AdamConvWIdeal
public import proofs.«01_k».proof.Proof.Gen.AdamConvWIdeal.Frame
public import proofs.«01_k».proof.Proof.Gen.AdamConvWIdeal.Value
public import proofs.«01_k».proof.Proof.Gen.AdamConvWRefIdeal
public import proofs.«01_k».proof.Proof.Gen.AdamConvWRefIdeal.Run
public import proofs.«01_k».proof.Proof.Gen.AdamGain
public import proofs.«01_k».proof.Proof.Gen.AdamGain.Frame
public import proofs.«01_k».proof.Proof.Gen.AdamGainIdeal
public import proofs.«01_k».proof.Proof.Gen.AdamGainIdeal.Frame
public import proofs.«01_k».proof.Proof.Gen.AdamGainIdeal.Value
public import proofs.«01_k».proof.Proof.Gen.AdamGainRefIdeal
public import proofs.«01_k».proof.Proof.Gen.AdamGainRefIdeal.Run
public import proofs.«01_k».proof.Proof.Gen.AdamAdaB
public import proofs.«01_k».proof.Proof.Gen.AdamAdaB.Frame
public import proofs.«01_k».proof.Proof.Gen.AdamAdaBIdeal
public import proofs.«01_k».proof.Proof.Gen.AdamAdaBIdeal.Frame
public import proofs.«01_k».proof.Proof.Gen.AdamAdaBIdeal.Value
public import proofs.«01_k».proof.Proof.Gen.AdamAdaBRefIdeal
public import proofs.«01_k».proof.Proof.Gen.AdamAdaBRefIdeal.Run
public import proofs.«01_k».proof.Proof.Gen.AdamKvAdaB
public import proofs.«01_k».proof.Proof.Gen.AdamKvAdaB.Frame
public import proofs.«01_k».proof.Proof.Gen.AdamKvAdaBIdeal
public import proofs.«01_k».proof.Proof.Gen.AdamKvAdaBIdeal.Frame
public import proofs.«01_k».proof.Proof.Gen.AdamKvAdaBIdeal.Value
public import proofs.«01_k».proof.Proof.Gen.AdamKvAdaBRefIdeal
public import proofs.«01_k».proof.Proof.Gen.AdamKvAdaBRefIdeal.Run
public import proofs.«01_k».proof.Proof.Gen.AdamAdaW
public import proofs.«01_k».proof.Proof.Gen.AdamAdaW.Frame
public import proofs.«01_k».proof.Proof.Gen.AdamAdaWIdeal
public import proofs.«01_k».proof.Proof.Gen.AdamAdaWIdeal.Frame
public import proofs.«01_k».proof.Proof.Gen.AdamAdaWIdeal.Value
public import proofs.«01_k».proof.Proof.Gen.AdamAdaWRefIdeal
public import proofs.«01_k».proof.Proof.Gen.AdamAdaWRefIdeal.Run
public import proofs.«01_k».proof.Proof.Gen.AdamKvAdaW
public import proofs.«01_k».proof.Proof.Gen.AdamKvAdaW.Frame
public import proofs.«01_k».proof.Proof.Gen.AdamKvAdaWIdeal
public import proofs.«01_k».proof.Proof.Gen.AdamKvAdaWIdeal.Frame
public import proofs.«01_k».proof.Proof.Gen.AdamKvAdaWIdeal.Value
public import proofs.«01_k».proof.Proof.Gen.AdamKvAdaWRefIdeal
public import proofs.«01_k».proof.Proof.Gen.AdamKvAdaWRefIdeal.Run
public import proofs.«01_k».proof.Proof.Gen.AdamWKv
public import proofs.«01_k».proof.Proof.Gen.AdamWKv.Frame
public import proofs.«01_k».proof.Proof.Gen.AdamWKvIdeal
public import proofs.«01_k».proof.Proof.Gen.AdamWKvIdeal.Frame
public import proofs.«01_k».proof.Proof.Gen.AdamWKvIdeal.Value
public import proofs.«01_k».proof.Proof.Gen.AdamWKvRefIdeal
public import proofs.«01_k».proof.Proof.Gen.AdamWKvRefIdeal.Run
public import proofs.«01_k».proof.Proof.Gen.ModsDw
public import proofs.«01_k».proof.Proof.Gen.ModsDw.Frame
public import proofs.«01_k».proof.Proof.Gen.ModsDwIdeal
public import proofs.«01_k».proof.Proof.Gen.ModsDwIdeal.Frame
public import proofs.«01_k».proof.Proof.Gen.ModsDwIdeal.Value
public import proofs.«01_k».proof.Proof.Gen.ModsDwRefIdeal
public import proofs.«01_k».proof.Proof.Gen.ModsDwRefIdeal.Run
public import proofs.«01_k».proof.Proof.Gen.KvModsDw
public import proofs.«01_k».proof.Proof.Gen.KvModsDw.Frame
public import proofs.«01_k».proof.Proof.Gen.KvModsDwIdeal
public import proofs.«01_k».proof.Proof.Gen.KvModsDwIdeal.Frame
public import proofs.«01_k».proof.Proof.Gen.KvModsDwIdeal.Value
public import proofs.«01_k».proof.Proof.Gen.KvModsDwRefIdeal
public import proofs.«01_k».proof.Proof.Gen.KvModsDwRefIdeal.Run
public import proofs.«01_k».proof.Proof.Gen.Mods
public import proofs.«01_k».proof.Proof.Gen.Mods.Frame
public import proofs.«01_k».proof.Proof.Gen.ModsIdeal
public import proofs.«01_k».proof.Proof.Gen.ModsIdeal.Frame
public import proofs.«01_k».proof.Proof.Gen.ModsIdeal.Value
public import proofs.«01_k».proof.Proof.Gen.ModsRefIdeal
public import proofs.«01_k».proof.Proof.Gen.ModsRefIdeal.Run
public import proofs.«01_k».proof.Proof.Gen.KvMods
public import proofs.«01_k».proof.Proof.Gen.KvMods.Frame
public import proofs.«01_k».proof.Proof.Gen.KvModsIdeal
public import proofs.«01_k».proof.Proof.Gen.KvModsIdeal.Frame
public import proofs.«01_k».proof.Proof.Gen.KvModsIdeal.Value
public import proofs.«01_k».proof.Proof.Gen.KvModsRefIdeal
public import proofs.«01_k».proof.Proof.Gen.KvModsRefIdeal.Run
public import proofs.«01_k».proof.Proof.Gen.FinalLoss
public import proofs.«01_k».proof.Proof.Gen.FinalLoss.Frame
public import proofs.«01_k».proof.Proof.Gen.FinalLossIdeal
public import proofs.«01_k».proof.Proof.Gen.FinalLossIdeal.Frame
public import proofs.«01_k».proof.Proof.Gen.FinalLossIdeal.Value
public import proofs.«01_k».proof.Proof.Gen.FinalLossRefIdeal
public import proofs.«01_k».proof.Proof.Gen.FinalLossRefIdeal.Run
public import Idealize.ShloMosaic.Adequacy
public import Idealize.ShloMosaic.Init

@[expose] public section

noncomputable section

namespace Cert.Proof

open Idealize.ShloMosaic Idealize.SL.Sem

theorem claim : Cert.Claim :=
  ⟨Cert.ConvBwd.Gen.facts, Cert.ConvBwdIdeal.Gen.facts, Cert.ConvRefIdeal.Gen.facts, Cert.FfnBwd.Gen.facts, Cert.FfnBwdIdeal.Gen.facts,
    Cert.FfnRefIdeal.Gen.facts, Cert.DwOut.Gen.facts, Cert.DwOutIdeal.Gen.facts, Cert.DwOutRefIdeal.Gen.facts, Cert.DwIn.Gen.facts, Cert.DwInIdeal.Gen.facts,
    Cert.DwInRefIdeal.Gen.facts, Cert.FfnFwd.Gen.facts, Cert.FfnFwdIdeal.Gen.facts, Cert.FfnFwdRefIdeal.Gen.facts, Cert.DwConvOut.Gen.facts, Cert.DwConvOutIdeal.Gen.facts, Cert.DwConvOutRefIdeal.Gen.facts, Cert.DwConvIn.Gen.facts, Cert.DwConvInIdeal.Gen.facts, Cert.DwConvInRefIdeal.Gen.facts, Cert.DwAttnO.Gen.facts, Cert.DwAttnOIdeal.Gen.facts, Cert.DwAttnORefIdeal.Gen.facts, Cert.DwAttnQ.Gen.facts, Cert.DwAttnQIdeal.Gen.facts, Cert.DwAttnQRefIdeal.Gen.facts, Cert.DwKv.Gen.facts, Cert.DwKvIdeal.Gen.facts, Cert.DwKvRefIdeal.Gen.facts, Cert.ConvFwd.Gen.facts, Cert.ConvFwdIdeal.Gen.facts, Cert.ConvFwdRefIdeal.Gen.facts,
    Cert.AdamNormG.Gen.facts, Cert.AdamNormGIdeal.Gen.facts, Cert.AdamNormGRefIdeal.Gen.facts,
    Cert.AdamConvW.Gen.facts, Cert.AdamConvWIdeal.Gen.facts, Cert.AdamConvWRefIdeal.Gen.facts,
    Cert.AdamGain.Gen.facts, Cert.AdamGainIdeal.Gen.facts, Cert.AdamGainRefIdeal.Gen.facts,
    Cert.AdamAdaB.Gen.facts, Cert.AdamAdaBIdeal.Gen.facts, Cert.AdamAdaBRefIdeal.Gen.facts,
    Cert.AdamKvAdaB.Gen.facts, Cert.AdamKvAdaBIdeal.Gen.facts, Cert.AdamKvAdaBRefIdeal.Gen.facts,
    Cert.AdamAdaW.Gen.facts, Cert.AdamAdaWIdeal.Gen.facts, Cert.AdamAdaWRefIdeal.Gen.facts,
    Cert.AdamKvAdaW.Gen.facts, Cert.AdamKvAdaWIdeal.Gen.facts, Cert.AdamKvAdaWRefIdeal.Gen.facts,
    Cert.AdamWKv.Gen.facts, Cert.AdamWKvIdeal.Gen.facts, Cert.AdamWKvRefIdeal.Gen.facts,
    Cert.ModsDw.Gen.facts, Cert.ModsDwIdeal.Gen.facts, Cert.ModsDwRefIdeal.Gen.facts,
    Cert.KvModsDw.Gen.facts, Cert.KvModsDwIdeal.Gen.facts, Cert.KvModsDwRefIdeal.Gen.facts,
    Cert.Mods.Gen.facts, Cert.ModsIdeal.Gen.facts, Cert.ModsRefIdeal.Gen.facts,
    Cert.KvMods.Gen.facts, Cert.KvModsIdeal.Gen.facts, Cert.KvModsRefIdeal.Gen.facts,
    Cert.FinalLoss.Gen.facts, Cert.FinalLossIdeal.Gen.facts, Cert.FinalLossRefIdeal.Gen.facts, Cert.Pre_ffn_finite.Gen.facts, Cert.Pre_ffn_fwd_finite.Gen.facts,
    fun m ρ _ => Cert.ConvBwd.Gen.frame m ρ, fun m ρ _ => Cert.ConvBwdIdeal.Gen.frame m ρ, Cert.Proof.Conv.frame_ref,
    fun m ρ _ => Cert.FfnBwd.Gen.frame m ρ, fun m ρ _ => Cert.FfnBwdIdeal.Gen.frame m ρ, fun m ρ _ => Cert.FfnBwdIdeal.Gen.frame m ρ,
    Cert.Proof.Ffn.frame_ref, fun m ρ _ => Cert.Proof.Ffn.frame_ref m ρ trivial,
    fun m ρ _ => Cert.DwOut.Gen.frame m ρ, fun m ρ _ => Cert.DwOutIdeal.Gen.frame m ρ, Cert.Proof.Dw.frame_out_ref,
    fun m ρ _ => Cert.DwIn.Gen.frame m ρ, fun m ρ _ => Cert.DwInIdeal.Gen.frame m ρ, Cert.Proof.Dw.frame_in_ref,
    fun m ρ _ => Cert.FfnFwd.Gen.frame m ρ, fun m ρ _ => Cert.FfnFwdIdeal.Gen.frame m ρ, fun m ρ _ => Cert.FfnFwdIdeal.Gen.frame m ρ,
    Cert.Proof.FfnFwd.frame_ref, fun m ρ _ => Cert.Proof.FfnFwd.frame_ref m ρ trivial,
    fun m ρ _ => Cert.DwConvOut.Gen.frame m ρ, fun m ρ _ => Cert.DwConvOutIdeal.Gen.frame m ρ, Cert.Proof.DwRest.frame_ConvOut,
    fun m ρ _ => Cert.DwConvIn.Gen.frame m ρ, fun m ρ _ => Cert.DwConvInIdeal.Gen.frame m ρ, Cert.Proof.DwRest.frame_ConvIn,
    fun m ρ _ => Cert.DwAttnO.Gen.frame m ρ, fun m ρ _ => Cert.DwAttnOIdeal.Gen.frame m ρ, Cert.Proof.DwRest.frame_AttnO,
    fun m ρ _ => Cert.DwAttnQ.Gen.frame m ρ, fun m ρ _ => Cert.DwAttnQIdeal.Gen.frame m ρ, Cert.Proof.DwRest.frame_AttnQ,
    fun m ρ _ => Cert.DwKv.Gen.frame m ρ, fun m ρ _ => Cert.DwKvIdeal.Gen.frame m ρ, Cert.Proof.DwRest.frame_Kv,
    fun m ρ _ => Cert.ConvFwd.Gen.frame m ρ, fun m ρ _ => Cert.ConvFwdIdeal.Gen.frame m ρ, Cert.Proof.ConvFwd.frame_ref,
    fun m ρ _ => Cert.AdamNormG.Gen.frame m ρ, fun m ρ _ => Cert.AdamNormGIdeal.Gen.frame m ρ, Cert.Proof.Adam.frame_NormG,
    fun m ρ _ => Cert.AdamConvW.Gen.frame m ρ, fun m ρ _ => Cert.AdamConvWIdeal.Gen.frame m ρ, Cert.Proof.Adam.frame_ConvW,
    fun m ρ _ => Cert.AdamGain.Gen.frame m ρ, fun m ρ _ => Cert.AdamGainIdeal.Gen.frame m ρ, Cert.Proof.Adam.frame_Gain,
    fun m ρ _ => Cert.AdamAdaB.Gen.frame m ρ, fun m ρ _ => Cert.AdamAdaBIdeal.Gen.frame m ρ, Cert.Proof.Adam.frame_AdaB,
    fun m ρ _ => Cert.AdamKvAdaB.Gen.frame m ρ, fun m ρ _ => Cert.AdamKvAdaBIdeal.Gen.frame m ρ, Cert.Proof.Adam.frame_KvAdaB,
    fun m ρ _ => Cert.AdamAdaW.Gen.frame m ρ, fun m ρ _ => Cert.AdamAdaWIdeal.Gen.frame m ρ, Cert.Proof.Adam.frame_AdaW,
    fun m ρ _ => Cert.AdamKvAdaW.Gen.frame m ρ, fun m ρ _ => Cert.AdamKvAdaWIdeal.Gen.frame m ρ, Cert.Proof.Adam.frame_KvAdaW,
    fun m ρ _ => Cert.AdamWKv.Gen.frame m ρ, fun m ρ _ => Cert.AdamWKvIdeal.Gen.frame m ρ, Cert.Proof.Adam.frame_WKv,
    fun m ρ _ => Cert.ModsDw.Gen.frame m ρ, fun m ρ _ => Cert.ModsDwIdeal.Gen.frame m ρ, Cert.Proof.Mods.frame_ModsDw,
    fun m ρ _ => Cert.KvModsDw.Gen.frame m ρ, fun m ρ _ => Cert.KvModsDwIdeal.Gen.frame m ρ, Cert.Proof.Mods.frame_KvModsDw,
    fun m ρ _ => Cert.Mods.Gen.frame m ρ, fun m ρ _ => Cert.ModsIdeal.Gen.frame m ρ, Cert.Proof.Mods.frame_Mods,
    fun m ρ _ => Cert.KvMods.Gen.frame m ρ, fun m ρ _ => Cert.KvModsIdeal.Gen.frame m ρ, Cert.Proof.Mods.frame_KvMods,
    fun m ρ _ => Cert.FinalLoss.Gen.frame m ρ, fun m ρ _ => Cert.FinalLossIdeal.Gen.frame m ρ, Cert.Proof.Loss.frame_ref,
    trivial, Cert.Proof.Conv.algebraic, trivial, Cert.Proof.Ffn.algebraic, trivial, Cert.Proof.Dw.algebraic_out, trivial, Cert.Proof.Dw.algebraic_in,
    trivial, Cert.Proof.FfnFwd.algebraic,
    trivial, Cert.Proof.DwRest.algebraic_ConvOut, trivial, Cert.Proof.DwRest.algebraic_ConvIn, trivial, Cert.Proof.DwRest.algebraic_AttnO, trivial, Cert.Proof.DwRest.algebraic_AttnQ, trivial, Cert.Proof.DwRest.algebraic_Kv, trivial, Cert.Proof.ConvFwd.algebraic,
    trivial, Cert.Proof.Adam.algebraic_NormG,
    trivial, Cert.Proof.Adam.algebraic_ConvW,
    trivial, Cert.Proof.Adam.algebraic_Gain,
    trivial, Cert.Proof.Adam.algebraic_AdaB,
    trivial, Cert.Proof.Adam.algebraic_KvAdaB,
    trivial, Cert.Proof.Adam.algebraic_AdaW,
    trivial, Cert.Proof.Adam.algebraic_KvAdaW,
    trivial, Cert.Proof.Adam.algebraic_WKv,
    trivial, Cert.Proof.Mods.algebraic_ModsDw,
    trivial, Cert.Proof.Mods.algebraic_KvModsDw,
    trivial, Cert.Proof.Mods.algebraic_Mods,
    trivial, Cert.Proof.Mods.algebraic_KvMods,
    trivial, Cert.Proof.Loss.algebraic⟩

end Cert.Proof

end
